-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ConvIn0 (m : (ℓ : Loc Cert.ConvIn0.nD Cert.ConvIn0.τ Cert.ConvIn0.sig) → Buf (Elt Bits) ℓ) : Prop :=
  True

def Pre_ConvIn0Ideal (m : (ℓ : Loc Cert.ConvIn0Ideal.nD Cert.ConvIn0Ideal.τ Cert.ConvIn0Ideal.sig) → Buf (Elt Ideal) ℓ) : Prop :=
  True

def Pre_ConvIn0RefIdeal (m : (ℓ : Loc Cert.ConvIn0RefIdeal.nD Cert.ConvIn0RefIdeal.τ Cert.ConvIn0RefIdeal.sig) → Buf (Elt Ideal) ℓ) : Prop :=
  True

def Pre_ConvIn0Bx (m : (ℓ : Loc Cert.ConvIn0Bx.nD Cert.ConvIn0Bx.τ Cert.ConvIn0Bx.sig) → Buf (Elt Bits) ℓ) : Prop :=
  True

def Pre_ConvIn0BxIdeal (m : (ℓ : Loc Cert.ConvIn0BxIdeal.nD Cert.ConvIn0BxIdeal.τ Cert.ConvIn0BxIdeal.sig) → Buf (Elt Ideal) ℓ) : Prop :=
  True

def Pre_ConvIn0BxRefIdeal (m : (ℓ : Loc Cert.ConvIn0BxRefIdeal.nD Cert.ConvIn0BxRefIdeal.τ Cert.ConvIn0BxRefIdeal.sig) → Buf (Elt Ideal) ℓ) : Prop :=
  True

def Pre_ConvIn0Bw (m : (ℓ : Loc Cert.ConvIn0Bw.nD Cert.ConvIn0Bw.τ Cert.ConvIn0Bw.sig) → Buf (Elt Bits) ℓ) : Prop :=
  True

def Pre_ConvIn0BwIdeal (m : (ℓ : Loc Cert.ConvIn0BwIdeal.nD Cert.ConvIn0BwIdeal.τ Cert.ConvIn0BwIdeal.sig) → Buf (Elt Ideal) ℓ) : Prop :=
  True

def Pre_ConvIn0BwRefIdeal (m : (ℓ : Loc Cert.ConvIn0BwRefIdeal.nD Cert.ConvIn0BwRefIdeal.τ Cert.ConvIn0BwRefIdeal.sig) → Buf (Elt Ideal) ℓ) : Prop :=
  True

def Pre_ConvIn3 (m : (ℓ : Loc Cert.ConvIn3.nD Cert.ConvIn3.τ Cert.ConvIn3.sig) → Buf (Elt Bits) ℓ) : Prop :=
  True

def Pre_ConvIn3Ideal (m : (ℓ : Loc Cert.ConvIn3Ideal.nD Cert.ConvIn3Ideal.τ Cert.ConvIn3Ideal.sig) → Buf (Elt Ideal) ℓ) : Prop :=
  True

def Pre_ConvIn3RefIdeal (m : (ℓ : Loc Cert.ConvIn3RefIdeal.nD Cert.ConvIn3RefIdeal.τ Cert.ConvIn3RefIdeal.sig) → Buf (Elt Ideal) ℓ) : Prop :=
  True

def Pre_ConvIn3Bx (m : (ℓ : Loc Cert.ConvIn3Bx.nD Cert.ConvIn3Bx.τ Cert.ConvIn3Bx.sig) → Buf (Elt Bits) ℓ) : Prop :=
  True

def Pre_ConvIn3BxIdeal (m : (ℓ : Loc Cert.ConvIn3BxIdeal.nD Cert.ConvIn3BxIdeal.τ Cert.ConvIn3BxIdeal.sig) → Buf (Elt Ideal) ℓ) : Prop :=
  True

def Pre_ConvIn3BxRefIdeal (m : (ℓ : Loc Cert.ConvIn3BxRefIdeal.nD Cert.ConvIn3BxRefIdeal.τ Cert.ConvIn3BxRefIdeal.sig) → Buf (Elt Ideal) ℓ) : Prop :=
  True

def Pre_ConvIn3Bw (m : (ℓ : Loc Cert.ConvIn3Bw.nD Cert.ConvIn3Bw.τ Cert.ConvIn3Bw.sig) → Buf (Elt Bits) ℓ) : Prop :=
  True

def Pre_ConvIn3BwIdeal (m : (ℓ : Loc Cert.ConvIn3BwIdeal.nD Cert.ConvIn3BwIdeal.τ Cert.ConvIn3BwIdeal.sig) → Buf (Elt Ideal) ℓ) : Prop :=
  True

def Pre_ConvIn3BwRefIdeal (m : (ℓ : Loc Cert.ConvIn3BwRefIdeal.nD Cert.ConvIn3BwRefIdeal.τ Cert.ConvIn3BwRefIdeal.sig) → Buf (Elt Ideal) ℓ) : Prop :=
  True

def Pre_ConvOut0 (m : (ℓ : Loc Cert.ConvOut0.nD Cert.ConvOut0.τ Cert.ConvOut0.sig) → Buf (Elt Bits) ℓ) : Prop :=
  True

def Pre_ConvOut0Ideal (m : (ℓ : Loc Cert.ConvOut0Ideal.nD Cert.ConvOut0Ideal.τ Cert.ConvOut0Ideal.sig) → Buf (Elt Ideal) ℓ) : Prop :=
  True

def Pre_ConvOut0RefIdeal (m : (ℓ : Loc Cert.ConvOut0RefIdeal.nD Cert.ConvOut0RefIdeal.τ Cert.ConvOut0RefIdeal.sig) → Buf (Elt Ideal) ℓ) : Prop :=
  True

def Pre_ConvOut0Bx (m : (ℓ : Loc Cert.ConvOut0Bx.nD Cert.ConvOut0Bx.τ Cert.ConvOut0Bx.sig) → Buf (Elt Bits) ℓ) : Prop :=
  True

def Pre_ConvOut0BxIdeal (m : (ℓ : Loc Cert.ConvOut0BxIdeal.nD Cert.ConvOut0BxIdeal.τ Cert.ConvOut0BxIdeal.sig) → Buf (Elt Ideal) ℓ) : Prop :=
  True

def Pre_ConvOut0BxRefIdeal (m : (ℓ : Loc Cert.ConvOut0BxRefIdeal.nD Cert.ConvOut0BxRefIdeal.τ Cert.ConvOut0BxRefIdeal.sig) → Buf (Elt Ideal) ℓ) : Prop :=
  True

def Pre_ConvOut0Bw (m : (ℓ : Loc Cert.ConvOut0Bw.nD Cert.ConvOut0Bw.τ Cert.ConvOut0Bw.sig) → Buf (Elt Bits) ℓ) : Prop :=
  True

def Pre_ConvOut0BwIdeal (m : (ℓ : Loc Cert.ConvOut0BwIdeal.nD Cert.ConvOut0BwIdeal.τ Cert.ConvOut0BwIdeal.sig) → Buf (Elt Ideal) ℓ) : Prop :=
  True

def Pre_ConvOut0BwRefIdeal (m : (ℓ : Loc Cert.ConvOut0BwRefIdeal.nD Cert.ConvOut0BwRefIdeal.τ Cert.ConvOut0BwRefIdeal.sig) → Buf (Elt Ideal) ℓ) : Prop :=
  True

def Pre_ConvOut3 (m : (ℓ : Loc Cert.ConvOut3.nD Cert.ConvOut3.τ Cert.ConvOut3.sig) → Buf (Elt Bits) ℓ) : Prop :=
  True

def Pre_ConvOut3Ideal (m : (ℓ : Loc Cert.ConvOut3Ideal.nD Cert.ConvOut3Ideal.τ Cert.ConvOut3Ideal.sig) → Buf (Elt Ideal) ℓ) : Prop :=
  True

def Pre_ConvOut3RefIdeal (m : (ℓ : Loc Cert.ConvOut3RefIdeal.nD Cert.ConvOut3RefIdeal.τ Cert.ConvOut3RefIdeal.sig) → Buf (Elt Ideal) ℓ) : Prop :=
  True

def Pre_ConvOut3Bx (m : (ℓ : Loc Cert.ConvOut3Bx.nD Cert.ConvOut3Bx.τ Cert.ConvOut3Bx.sig) → Buf (Elt Bits) ℓ) : Prop :=
  True

def Pre_ConvOut3BxIdeal (m : (ℓ : Loc Cert.ConvOut3BxIdeal.nD Cert.ConvOut3BxIdeal.τ Cert.ConvOut3BxIdeal.sig) → Buf (Elt Ideal) ℓ) : Prop :=
  True

def Pre_ConvOut3BxRefIdeal (m : (ℓ : Loc Cert.ConvOut3BxRefIdeal.nD Cert.ConvOut3BxRefIdeal.τ Cert.ConvOut3BxRefIdeal.sig) → Buf (Elt Ideal) ℓ) : Prop :=
  True

def Pre_ConvOut3Bw (m : (ℓ : Loc Cert.ConvOut3Bw.nD Cert.ConvOut3Bw.τ Cert.ConvOut3Bw.sig) → Buf (Elt Bits) ℓ) : Prop :=
  True

def Pre_ConvOut3BwIdeal (m : (ℓ : Loc Cert.ConvOut3BwIdeal.nD Cert.ConvOut3BwIdeal.τ Cert.ConvOut3BwIdeal.sig) → Buf (Elt Ideal) ℓ) : Prop :=
  True

def Pre_ConvOut3BwRefIdeal (m : (ℓ : Loc Cert.ConvOut3BwRefIdeal.nD Cert.ConvOut3BwRefIdeal.τ Cert.ConvOut3BwRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_QkvBx (m : (ℓ : Loc Cert.QkvBx.nD Cert.QkvBx.τ Cert.QkvBx.sig) → Buf (Elt Bits) ℓ) : Prop :=
  True

def Pre_QkvBxIdeal (m : (ℓ : Loc Cert.QkvBxIdeal.nD Cert.QkvBxIdeal.τ Cert.QkvBxIdeal.sig) → Buf (Elt Ideal) ℓ) : Prop :=
  True

def Pre_QkvBxRefIdeal (m : (ℓ : Loc Cert.QkvBxRefIdeal.nD Cert.QkvBxRefIdeal.τ Cert.QkvBxRefIdeal.sig) → Buf (Elt Ideal) ℓ) : Prop :=
  True

def Pre_QkvBw (m : (ℓ : Loc Cert.QkvBw.nD Cert.QkvBw.τ Cert.QkvBw.sig) → Buf (Elt Bits) ℓ) : Prop :=
  True

def Pre_QkvBwIdeal (m : (ℓ : Loc Cert.QkvBwIdeal.nD Cert.QkvBwIdeal.τ Cert.QkvBwIdeal.sig) → Buf (Elt Ideal) ℓ) : Prop :=
  True

def Pre_QkvBwRefIdeal (m : (ℓ : Loc Cert.QkvBwRefIdeal.nD Cert.QkvBwRefIdeal.τ Cert.QkvBwRefIdeal.sig) → Buf (Elt Ideal) ℓ) : Prop :=
  True

def Pre_GateIn (m : (ℓ : Loc Cert.GateIn.nD Cert.GateIn.τ Cert.GateIn.sig) → Buf (Elt Bits) ℓ) : Prop :=
  True

def Pre_GateInIdeal (m : (ℓ : Loc Cert.GateInIdeal.nD Cert.GateInIdeal.τ Cert.GateInIdeal.sig) → Buf (Elt Ideal) ℓ) : Prop :=
  True

def Pre_GateInRefIdeal (m : (ℓ : Loc Cert.GateInRefIdeal.nD Cert.GateInRefIdeal.τ Cert.GateInRefIdeal.sig) → Buf (Elt Ideal) ℓ) : Prop :=
  True

def Pre_GateInBx (m : (ℓ : Loc Cert.GateInBx.nD Cert.GateInBx.τ Cert.GateInBx.sig) → Buf (Elt Bits) ℓ) : Prop :=
  True

def Pre_GateInBxIdeal (m : (ℓ : Loc Cert.GateInBxIdeal.nD Cert.GateInBxIdeal.τ Cert.GateInBxIdeal.sig) → Buf (Elt Ideal) ℓ) : Prop :=
  True

def Pre_GateInBxRefIdeal (m : (ℓ : Loc Cert.GateInBxRefIdeal.nD Cert.GateInBxRefIdeal.τ Cert.GateInBxRefIdeal.sig) → Buf (Elt Ideal) ℓ) : Prop :=
  True

def Pre_GateInBw (m : (ℓ : Loc Cert.GateInBw.nD Cert.GateInBw.τ Cert.GateInBw.sig) → Buf (Elt Bits) ℓ) : Prop :=
  True

def Pre_GateInBwIdeal (m : (ℓ : Loc Cert.GateInBwIdeal.nD Cert.GateInBwIdeal.τ Cert.GateInBwIdeal.sig) → Buf (Elt Ideal) ℓ) : Prop :=
  True

def Pre_GateInBwRefIdeal (m : (ℓ : Loc Cert.GateInBwRefIdeal.nD Cert.GateInBwRefIdeal.τ Cert.GateInBwRefIdeal.sig) → Buf (Elt Ideal) ℓ) : Prop :=
  True

def Pre_GateOut (m : (ℓ : Loc Cert.GateOut.nD Cert.GateOut.τ Cert.GateOut.sig) → Buf (Elt Bits) ℓ) : Prop :=
  True

def Pre_GateOutIdeal (m : (ℓ : Loc Cert.GateOutIdeal.nD Cert.GateOutIdeal.τ Cert.GateOutIdeal.sig) → Buf (Elt Ideal) ℓ) : Prop :=
  True

def Pre_GateOutRefIdeal (m : (ℓ : Loc Cert.GateOutRefIdeal.nD Cert.GateOutRefIdeal.τ Cert.GateOutRefIdeal.sig) → Buf (Elt Ideal) ℓ) : Prop :=
  True

def Pre_GateOutBx (m : (ℓ : Loc Cert.GateOutBx.nD Cert.GateOutBx.τ Cert.GateOutBx.sig) → Buf (Elt Bits) ℓ) : Prop :=
  True

def Pre_GateOutBxIdeal (m : (ℓ : Loc Cert.GateOutBxIdeal.nD Cert.GateOutBxIdeal.τ Cert.GateOutBxIdeal.sig) → Buf (Elt Ideal) ℓ) : Prop :=
  True

def Pre_GateOutBxRefIdeal (m : (ℓ : Loc Cert.GateOutBxRefIdeal.nD Cert.GateOutBxRefIdeal.τ Cert.GateOutBxRefIdeal.sig) → Buf (Elt Ideal) ℓ) : Prop :=
  True

def Pre_GateOutBw (m : (ℓ : Loc Cert.GateOutBw.nD Cert.GateOutBw.τ Cert.GateOutBw.sig) → Buf (Elt Bits) ℓ) : Prop :=
  True

def Pre_GateOutBwIdeal (m : (ℓ : Loc Cert.GateOutBwIdeal.nD Cert.GateOutBwIdeal.τ Cert.GateOutBwIdeal.sig) → Buf (Elt Ideal) ℓ) : Prop :=
  True

def Pre_GateOutBwRefIdeal (m : (ℓ : Loc Cert.GateOutBwRefIdeal.nD Cert.GateOutBwRefIdeal.τ Cert.GateOutBwRefIdeal.sig) → Buf (Elt Ideal) ℓ) : Prop :=
  True

def Pre_FfnUp0Bx (m : (ℓ : Loc Cert.FfnUp0Bx.nD Cert.FfnUp0Bx.τ Cert.FfnUp0Bx.sig) → Buf (Elt Bits) ℓ) : Prop :=
  True

def Pre_FfnUp0BxIdeal (m : (ℓ : Loc Cert.FfnUp0BxIdeal.nD Cert.FfnUp0BxIdeal.τ Cert.FfnUp0BxIdeal.sig) → Buf (Elt Ideal) ℓ) : Prop :=
  True

def Pre_FfnUp0BxRefIdeal (m : (ℓ : Loc Cert.FfnUp0BxRefIdeal.nD Cert.FfnUp0BxRefIdeal.τ Cert.FfnUp0BxRefIdeal.sig) → Buf (Elt Ideal) ℓ) : Prop :=
  True

def Pre_FfnUp0Bw (m : (ℓ : Loc Cert.FfnUp0Bw.nD Cert.FfnUp0Bw.τ Cert.FfnUp0Bw.sig) → Buf (Elt Bits) ℓ) : Prop :=
  True

def Pre_FfnUp0BwIdeal (m : (ℓ : Loc Cert.FfnUp0BwIdeal.nD Cert.FfnUp0BwIdeal.τ Cert.FfnUp0BwIdeal.sig) → Buf (Elt Ideal) ℓ) : Prop :=
  True

def Pre_FfnUp0BwRefIdeal (m : (ℓ : Loc Cert.FfnUp0BwRefIdeal.nD Cert.FfnUp0BwRefIdeal.τ Cert.FfnUp0BwRefIdeal.sig) → Buf (Elt Ideal) ℓ) : Prop :=
  True

def Pre_FfnUpBx (m : (ℓ : Loc Cert.FfnUpBx.nD Cert.FfnUpBx.τ Cert.FfnUpBx.sig) → Buf (Elt Bits) ℓ) : Prop :=
  True

def Pre_FfnUpBxIdeal (m : (ℓ : Loc Cert.FfnUpBxIdeal.nD Cert.FfnUpBxIdeal.τ Cert.FfnUpBxIdeal.sig) → Buf (Elt Ideal) ℓ) : Prop :=
  True

def Pre_FfnUpBxRefIdeal (m : (ℓ : Loc Cert.FfnUpBxRefIdeal.nD Cert.FfnUpBxRefIdeal.τ Cert.FfnUpBxRefIdeal.sig) → Buf (Elt Ideal) ℓ) : Prop :=
  True

def Pre_FfnUpBw (m : (ℓ : Loc Cert.FfnUpBw.nD Cert.FfnUpBw.τ Cert.FfnUpBw.sig) → Buf (Elt Bits) ℓ) : Prop :=
  True

def Pre_FfnUpBwIdeal (m : (ℓ : Loc Cert.FfnUpBwIdeal.nD Cert.FfnUpBwIdeal.τ Cert.FfnUpBwIdeal.sig) → Buf (Elt Ideal) ℓ) : Prop :=
  True

def Pre_FfnUpBwRefIdeal (m : (ℓ : Loc Cert.FfnUpBwRefIdeal.nD Cert.FfnUpBwRefIdeal.τ Cert.FfnUpBwRefIdeal.sig) → Buf (Elt Ideal) ℓ) : Prop :=
  True

def Pre_AdamwSmall (m : (ℓ : Loc Cert.AdamwSmall.nD Cert.AdamwSmall.τ Cert.AdamwSmall.sig) → Buf (Elt Bits) ℓ) : Prop :=
  True

def Pre_AdamwSmallIdeal (m : (ℓ : Loc Cert.AdamwSmallIdeal.nD Cert.AdamwSmallIdeal.τ Cert.AdamwSmallIdeal.sig) → Buf (Elt Ideal) ℓ) : Prop :=
  True

def Pre_AdamwSmallRefIdeal (m : (ℓ : Loc Cert.AdamwSmallRefIdeal.nD Cert.AdamwSmallRefIdeal.τ Cert.AdamwSmallRefIdeal.sig) → Buf (Elt Ideal) ℓ) : Prop :=
  True

def Pre_AdamwRepl (m : (ℓ : Loc Cert.AdamwRepl.nD Cert.AdamwRepl.τ Cert.AdamwRepl.sig) → Buf (Elt Bits) ℓ) : Prop :=
  True

def Pre_AdamwReplIdeal (m : (ℓ : Loc Cert.AdamwReplIdeal.nD Cert.AdamwReplIdeal.τ Cert.AdamwReplIdeal.sig) → Buf (Elt Ideal) ℓ) : Prop :=
  True

def Pre_AdamwReplRefIdeal (m : (ℓ : Loc Cert.AdamwReplRefIdeal.nD Cert.AdamwReplRefIdeal.τ Cert.AdamwReplRefIdeal.sig) → Buf (Elt Ideal) ℓ) : Prop :=
  True

def Pre_AdamwAdaW (m : (ℓ : Loc Cert.AdamwAdaW.nD Cert.AdamwAdaW.τ Cert.AdamwAdaW.sig) → Buf (Elt Bits) ℓ) : Prop :=
  True

def Pre_AdamwAdaWIdeal (m : (ℓ : Loc Cert.AdamwAdaWIdeal.nD Cert.AdamwAdaWIdeal.τ Cert.AdamwAdaWIdeal.sig) → Buf (Elt Ideal) ℓ) : Prop :=
  True

def Pre_AdamwAdaWRefIdeal (m : (ℓ : Loc Cert.AdamwAdaWRefIdeal.nD Cert.AdamwAdaWRefIdeal.τ Cert.AdamwAdaWRefIdeal.sig) → Buf (Elt Ideal) ℓ) : Prop :=
  True

def Pre_AdamwAdaB (m : (ℓ : Loc Cert.AdamwAdaB.nD Cert.AdamwAdaB.τ Cert.AdamwAdaB.sig) → Buf (Elt Bits) ℓ) : Prop :=
  True

def Pre_AdamwAdaBIdeal (m : (ℓ : Loc Cert.AdamwAdaBIdeal.nD Cert.AdamwAdaBIdeal.τ Cert.AdamwAdaBIdeal.sig) → Buf (Elt Ideal) ℓ) : Prop :=
  True

def Pre_AdamwAdaBRefIdeal (m : (ℓ : Loc Cert.AdamwAdaBRefIdeal.nD Cert.AdamwAdaBRefIdeal.τ Cert.AdamwAdaBRefIdeal.sig) → Buf (Elt Ideal) ℓ) : Prop :=
  True

def Pre_AdamwFfnUp (m : (ℓ : Loc Cert.AdamwFfnUp.nD Cert.AdamwFfnUp.τ Cert.AdamwFfnUp.sig) → Buf (Elt Bits) ℓ) : Prop :=
  True

def Pre_AdamwFfnUpIdeal (m : (ℓ : Loc Cert.AdamwFfnUpIdeal.nD Cert.AdamwFfnUpIdeal.τ Cert.AdamwFfnUpIdeal.sig) → Buf (Elt Ideal) ℓ) : Prop :=
  True

def Pre_AdamwFfnUpRefIdeal (m : (ℓ : Loc Cert.AdamwFfnUpRefIdeal.nD Cert.AdamwFfnUpRefIdeal.τ Cert.AdamwFfnUpRefIdeal.sig) → Buf (Elt Ideal) ℓ) : Prop :=
  True

def Pre_AdamwFfnDown (m : (ℓ : Loc Cert.AdamwFfnDown.nD Cert.AdamwFfnDown.τ Cert.AdamwFfnDown.sig) → Buf (Elt Bits) ℓ) : Prop :=
  True

def Pre_AdamwFfnDownIdeal (m : (ℓ : Loc Cert.AdamwFfnDownIdeal.nD Cert.AdamwFfnDownIdeal.τ Cert.AdamwFfnDownIdeal.sig) → Buf (Elt Ideal) ℓ) : Prop :=
  True

def Pre_AdamwFfnDownRefIdeal (m : (ℓ : Loc Cert.AdamwFfnDownRefIdeal.nD Cert.AdamwFfnDownRefIdeal.τ Cert.AdamwFfnDownRefIdeal.sig) → Buf (Elt Ideal) ℓ) : Prop :=
  True

def Pre_AdamwConvIn (m : (ℓ : Loc Cert.AdamwConvIn.nD Cert.AdamwConvIn.τ Cert.AdamwConvIn.sig) → Buf (Elt Bits) ℓ) : Prop :=
  True

def Pre_AdamwConvInIdeal (m : (ℓ : Loc Cert.AdamwConvInIdeal.nD Cert.AdamwConvInIdeal.τ Cert.AdamwConvInIdeal.sig) → Buf (Elt Ideal) ℓ) : Prop :=
  True

def Pre_AdamwConvInRefIdeal (m : (ℓ : Loc Cert.AdamwConvInRefIdeal.nD Cert.AdamwConvInRefIdeal.τ Cert.AdamwConvInRefIdeal.sig) → Buf (Elt Ideal) ℓ) : Prop :=
  True

def Pre_AdamwConvOut (m : (ℓ : Loc Cert.AdamwConvOut.nD Cert.AdamwConvOut.τ Cert.AdamwConvOut.sig) → Buf (Elt Bits) ℓ) : Prop :=
  True

def Pre_AdamwConvOutIdeal (m : (ℓ : Loc Cert.AdamwConvOutIdeal.nD Cert.AdamwConvOutIdeal.τ Cert.AdamwConvOutIdeal.sig) → Buf (Elt Ideal) ℓ) : Prop :=
  True

def Pre_AdamwConvOutRefIdeal (m : (ℓ : Loc Cert.AdamwConvOutRefIdeal.nD Cert.AdamwConvOutRefIdeal.τ Cert.AdamwConvOutRefIdeal.sig) → Buf (Elt Ideal) ℓ) : Prop :=
  True

def Pre_AdamwQkv (m : (ℓ : Loc Cert.AdamwQkv.nD Cert.AdamwQkv.τ Cert.AdamwQkv.sig) → Buf (Elt Bits) ℓ) : Prop :=
  True

def Pre_AdamwQkvIdeal (m : (ℓ : Loc Cert.AdamwQkvIdeal.nD Cert.AdamwQkvIdeal.τ Cert.AdamwQkvIdeal.sig) → Buf (Elt Ideal) ℓ) : Prop :=
  True

def Pre_AdamwQkvRefIdeal (m : (ℓ : Loc Cert.AdamwQkvRefIdeal.nD Cert.AdamwQkvRefIdeal.τ Cert.AdamwQkvRefIdeal.sig) → Buf (Elt Ideal) ℓ) : Prop :=
  True

def Pre_AdamwAttnOut (m : (ℓ : Loc Cert.AdamwAttnOut.nD Cert.AdamwAttnOut.τ Cert.AdamwAttnOut.sig) → Buf (Elt Bits) ℓ) : Prop :=
  True

def Pre_AdamwAttnOutIdeal (m : (ℓ : Loc Cert.AdamwAttnOutIdeal.nD Cert.AdamwAttnOutIdeal.τ Cert.AdamwAttnOutIdeal.sig) → Buf (Elt Ideal) ℓ) : Prop :=
  True

def Pre_AdamwAttnOutRefIdeal (m : (ℓ : Loc Cert.AdamwAttnOutRefIdeal.nD Cert.AdamwAttnOutRefIdeal.τ Cert.AdamwAttnOutRefIdeal.sig) → Buf (Elt Ideal) ℓ) : Prop :=
  True

def Pre_AdamwGateIn (m : (ℓ : Loc Cert.AdamwGateIn.nD Cert.AdamwGateIn.τ Cert.AdamwGateIn.sig) → Buf (Elt Bits) ℓ) : Prop :=
  True

def Pre_AdamwGateInIdeal (m : (ℓ : Loc Cert.AdamwGateInIdeal.nD Cert.AdamwGateInIdeal.τ Cert.AdamwGateInIdeal.sig) → Buf (Elt Ideal) ℓ) : Prop :=
  True

def Pre_AdamwGateInRefIdeal (m : (ℓ : Loc Cert.AdamwGateInRefIdeal.nD Cert.AdamwGateInRefIdeal.τ Cert.AdamwGateInRefIdeal.sig) → Buf (Elt Ideal) ℓ) : Prop :=
  True

def Pre_AdamwGateOut (m : (ℓ : Loc Cert.AdamwGateOut.nD Cert.AdamwGateOut.τ Cert.AdamwGateOut.sig) → Buf (Elt Bits) ℓ) : Prop :=
  True

def Pre_AdamwGateOutIdeal (m : (ℓ : Loc Cert.AdamwGateOutIdeal.nD Cert.AdamwGateOutIdeal.τ Cert.AdamwGateOutIdeal.sig) → Buf (Elt Ideal) ℓ) : Prop :=
  True

def Pre_AdamwGateOutRefIdeal (m : (ℓ : Loc Cert.AdamwGateOutRefIdeal.nD Cert.AdamwGateOutRefIdeal.τ Cert.AdamwGateOutRefIdeal.sig) → Buf (Elt Ideal) ℓ) : Prop :=
  True

def Pre_NormB (m : (ℓ : Loc Cert.NormB.nD Cert.NormB.τ Cert.NormB.sig) → Buf (Elt Bits) ℓ) : Prop :=
  True

def Pre_NormBIdeal (m : (ℓ : Loc Cert.NormBIdeal.nD Cert.NormBIdeal.τ Cert.NormBIdeal.sig) → Buf (Elt Ideal) ℓ) : Prop :=
  True

def Pre_NormBRefIdeal (m : (ℓ : Loc Cert.NormBRefIdeal.nD Cert.NormBRefIdeal.τ Cert.NormBRefIdeal.sig) → Buf (Elt Ideal) ℓ) : Prop :=
  True

def Pre_ResB (m : (ℓ : Loc Cert.ResB.nD Cert.ResB.τ Cert.ResB.sig) → Buf (Elt Bits) ℓ) : Prop :=
  True

def Pre_ResBIdeal (m : (ℓ : Loc Cert.ResBIdeal.nD Cert.ResBIdeal.τ Cert.ResBIdeal.sig) → Buf (Elt Ideal) ℓ) : Prop :=
  True

def Pre_ResBRefIdeal (m : (ℓ : Loc Cert.ResBRefIdeal.nD Cert.ResBRefIdeal.τ Cert.ResBRefIdeal.sig) → Buf (Elt Ideal) ℓ) : Prop :=
  True

def Pre_ResBiasB (m : (ℓ : Loc Cert.ResBiasB.nD Cert.ResBiasB.τ Cert.ResBiasB.sig) → Buf (Elt Bits) ℓ) : Prop :=
  True

def Pre_ResBiasBIdeal (m : (ℓ : Loc Cert.ResBiasBIdeal.nD Cert.ResBiasBIdeal.τ Cert.ResBiasBIdeal.sig) → Buf (Elt Ideal) ℓ) : Prop :=
  True

def Pre_ResBiasBRefIdeal (m : (ℓ : Loc Cert.ResBiasBRefIdeal.nD Cert.ResBiasBRefIdeal.τ Cert.ResBiasBRefIdeal.sig) → Buf (Elt Ideal) ℓ) : Prop :=
  True

def Pre_GluB (m : (ℓ : Loc Cert.GluB.nD Cert.GluB.τ Cert.GluB.sig) → Buf (Elt Bits) ℓ) : Prop :=
  True

def Pre_GluBIdeal (m : (ℓ : Loc Cert.GluBIdeal.nD Cert.GluBIdeal.τ Cert.GluBIdeal.sig) → Buf (Elt Ideal) ℓ) : Prop :=
  True

def Pre_GluBRefIdeal (m : (ℓ : Loc Cert.GluBRefIdeal.nD Cert.GluBRefIdeal.τ Cert.GluBRefIdeal.sig) → Buf (Elt Ideal) ℓ) : Prop :=
  True

def Pre_LnB (m : (ℓ : Loc Cert.LnB.nD Cert.LnB.τ Cert.LnB.sig) → Buf (Elt Bits) ℓ) : Prop :=
  True

def Pre_LnBIdeal (m : (ℓ : Loc Cert.LnBIdeal.nD Cert.LnBIdeal.τ Cert.LnBIdeal.sig) → Buf (Elt Ideal) ℓ) : Prop :=
  True

def Pre_LnBRefIdeal (m : (ℓ : Loc Cert.LnBRefIdeal.nD Cert.LnBRefIdeal.τ Cert.LnBRefIdeal.sig) → Buf (Elt Ideal) ℓ) : Prop :=
  True

def Pre_SpatialFwd (m : (ℓ : Loc Cert.SpatialFwd.nD Cert.SpatialFwd.τ Cert.SpatialFwd.sig) → Buf (Elt Bits) ℓ) : Prop :=
  True

def Pre_SpatialFwdIdeal (m : (ℓ : Loc Cert.SpatialFwdIdeal.nD Cert.SpatialFwdIdeal.τ Cert.SpatialFwdIdeal.sig) → Buf (Elt Ideal) ℓ) : Prop :=
  True

def Pre_SpatialFwdRefIdeal (m : (ℓ : Loc Cert.SpatialFwdRefIdeal.nD Cert.SpatialFwdRefIdeal.τ Cert.SpatialFwdRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ConvIn0 [hConvIn0 : Cert.ConvIn0.Facts] : Prop :=
  ∀ (m : (ℓ : Loc Cert.ConvIn0.nD Cert.ConvIn0.τ Cert.ConvIn0.sig) → Buf (Elt Bits) ℓ) (g : Dev Cert.ConvIn0.nD → PrngReg), Pre_ConvIn0 m →
    θ_run (Cert.ConvIn0.defs (F := Bits)) (onTc (τ := Cert.ConvIn0.τ) (Cert.ConvIn0.main (F := Bits))) ⟨m, fun _ => 0, g⟩ (fun r => (∀ c : Dev Cert.ConvIn0.nD,
      r.2.mem ((c.tc : Thread Cert.ConvIn0.nD Cert.ConvIn0.τ).loc Cert.ConvIn0.main_arg0) = m ((c.tc : Thread Cert.ConvIn0.nD Cert.ConvIn0.τ).loc Cert.ConvIn0.main_arg0)
      ∧ r.2.mem ((c.tc : Thread Cert.ConvIn0.nD Cert.ConvIn0.τ).loc Cert.ConvIn0.main_arg1) = m ((c.tc : Thread Cert.ConvIn0.nD Cert.ConvIn0.τ).loc Cert.ConvIn0.main_arg1))
      ∧ r.2.sem = fun _ => 0)

def quiescent_ConvIn0Ideal [hConvIn0Ideal : Cert.ConvIn0Ideal.Facts] : Prop :=
  ∀ (m : (ℓ : Loc Cert.ConvIn0Ideal.nD Cert.ConvIn0Ideal.τ Cert.ConvIn0Ideal.sig) → Buf (Elt Ideal) ℓ) (g : Dev Cert.ConvIn0Ideal.nD → PrngReg), Pre_ConvIn0Ideal m →
    θ_run (Cert.ConvIn0Ideal.defs (F := Ideal)) (onTc (τ := Cert.ConvIn0Ideal.τ) (Cert.ConvIn0Ideal.main (F := Ideal))) ⟨m, fun _ => 0, g⟩ (fun r => (∀ c : Dev Cert.ConvIn0Ideal.nD,
      r.2.mem ((c.tc : Thread Cert.ConvIn0Ideal.nD Cert.ConvIn0Ideal.τ).loc Cert.ConvIn0Ideal.main_arg0) = m ((c.tc : Thread Cert.ConvIn0Ideal.nD Cert.ConvIn0Ideal.τ).loc Cert.ConvIn0Ideal.main_arg0)
      ∧ r.2.mem ((c.tc : Thread Cert.ConvIn0Ideal.nD Cert.ConvIn0Ideal.τ).loc Cert.ConvIn0Ideal.main_arg1) = m ((c.tc : Thread Cert.ConvIn0Ideal.nD Cert.ConvIn0Ideal.τ).loc Cert.ConvIn0Ideal.main_arg1))
      ∧ r.2.sem = fun _ => 0)

def quiescent_ConvIn0RefIdeal [hConvIn0RefIdeal : Cert.ConvIn0RefIdeal.Facts] : Prop :=
  ∀ (m : (ℓ : Loc Cert.ConvIn0RefIdeal.nD Cert.ConvIn0RefIdeal.τ Cert.ConvIn0RefIdeal.sig) → Buf (Elt Ideal) ℓ) (g : Dev Cert.ConvIn0RefIdeal.nD → PrngReg), Pre_ConvIn0RefIdeal m →
    θ_run (Cert.ConvIn0RefIdeal.defs (F := Ideal)) (onTc (τ := Cert.ConvIn0RefIdeal.τ) (Cert.ConvIn0RefIdeal.main (F := Ideal))) ⟨m, fun _ => 0, g⟩ (fun r => (∀ c : Dev Cert.ConvIn0RefIdeal.nD,
      r.2.mem ((c.tc : Thread Cert.ConvIn0RefIdeal.nD Cert.ConvIn0RefIdeal.τ).loc Cert.ConvIn0RefIdeal.main_arg0) = m ((c.tc : Thread Cert.ConvIn0RefIdeal.nD Cert.ConvIn0RefIdeal.τ).loc Cert.ConvIn0RefIdeal.main_arg0)
      ∧ r.2.mem ((c.tc : Thread Cert.ConvIn0RefIdeal.nD Cert.ConvIn0RefIdeal.τ).loc Cert.ConvIn0RefIdeal.main_arg1) = m ((c.tc : Thread Cert.ConvIn0RefIdeal.nD Cert.ConvIn0RefIdeal.τ).loc Cert.ConvIn0RefIdeal.main_arg1))
      ∧ r.2.sem = fun _ => 0)

def quiescent_ConvIn0Bx [hConvIn0Bx : Cert.ConvIn0Bx.Facts] : Prop :=
  ∀ (m : (ℓ : Loc Cert.ConvIn0Bx.nD Cert.ConvIn0Bx.τ Cert.ConvIn0Bx.sig) → Buf (Elt Bits) ℓ) (g : Dev Cert.ConvIn0Bx.nD → PrngReg), Pre_ConvIn0Bx m →
    θ_run (Cert.ConvIn0Bx.defs (F := Bits)) (onTc (τ := Cert.ConvIn0Bx.τ) (Cert.ConvIn0Bx.main (F := Bits))) ⟨m, fun _ => 0, g⟩ (fun r => (∀ c : Dev Cert.ConvIn0Bx.nD,
      r.2.mem ((c.tc : Thread Cert.ConvIn0Bx.nD Cert.ConvIn0Bx.τ).loc Cert.ConvIn0Bx.main_arg0) = m ((c.tc : Thread Cert.ConvIn0Bx.nD Cert.ConvIn0Bx.τ).loc Cert.ConvIn0Bx.main_arg0)
      ∧ r.2.mem ((c.tc : Thread Cert.ConvIn0Bx.nD Cert.ConvIn0Bx.τ).loc Cert.ConvIn0Bx.main_arg1) = m ((c.tc : Thread Cert.ConvIn0Bx.nD Cert.ConvIn0Bx.τ).loc Cert.ConvIn0Bx.main_arg1))
      ∧ r.2.sem = fun _ => 0)

def quiescent_ConvIn0BxIdeal [hConvIn0BxIdeal : Cert.ConvIn0BxIdeal.Facts] : Prop :=
  ∀ (m : (ℓ : Loc Cert.ConvIn0BxIdeal.nD Cert.ConvIn0BxIdeal.τ Cert.ConvIn0BxIdeal.sig) → Buf (Elt Ideal) ℓ) (g : Dev Cert.ConvIn0BxIdeal.nD → PrngReg), Pre_ConvIn0BxIdeal m →
    θ_run (Cert.ConvIn0BxIdeal.defs (F := Ideal)) (onTc (τ := Cert.ConvIn0BxIdeal.τ) (Cert.ConvIn0BxIdeal.main (F := Ideal))) ⟨m, fun _ => 0, g⟩ (fun r => (∀ c : Dev Cert.ConvIn0BxIdeal.nD,
      r.2.mem ((c.tc : Thread Cert.ConvIn0BxIdeal.nD Cert.ConvIn0BxIdeal.τ).loc Cert.ConvIn0BxIdeal.main_arg0) = m ((c.tc : Thread Cert.ConvIn0BxIdeal.nD Cert.ConvIn0BxIdeal.τ).loc Cert.ConvIn0BxIdeal.main_arg0)
      ∧ r.2.mem ((c.tc : Thread Cert.ConvIn0BxIdeal.nD Cert.ConvIn0BxIdeal.τ).loc Cert.ConvIn0BxIdeal.main_arg1) = m ((c.tc : Thread Cert.ConvIn0BxIdeal.nD Cert.ConvIn0BxIdeal.τ).loc Cert.ConvIn0BxIdeal.main_arg1))
      ∧ r.2.sem = fun _ => 0)

def quiescent_ConvIn0BxRefIdeal [hConvIn0BxRefIdeal : Cert.ConvIn0BxRefIdeal.Facts] : Prop :=
  ∀ (m : (ℓ : Loc Cert.ConvIn0BxRefIdeal.nD Cert.ConvIn0BxRefIdeal.τ Cert.ConvIn0BxRefIdeal.sig) → Buf (Elt Ideal) ℓ) (g : Dev Cert.ConvIn0BxRefIdeal.nD → PrngReg), Pre_ConvIn0BxRefIdeal m →
    θ_run (Cert.ConvIn0BxRefIdeal.defs (F := Ideal)) (onTc (τ := Cert.ConvIn0BxRefIdeal.τ) (Cert.ConvIn0BxRefIdeal.main (F := Ideal))) ⟨m, fun _ => 0, g⟩ (fun r => (∀ c : Dev Cert.ConvIn0BxRefIdeal.nD,
      r.2.mem ((c.tc : Thread Cert.ConvIn0BxRefIdeal.nD Cert.ConvIn0BxRefIdeal.τ).loc Cert.ConvIn0BxRefIdeal.main_arg0) = m ((c.tc : Thread Cert.ConvIn0BxRefIdeal.nD Cert.ConvIn0BxRefIdeal.τ).loc Cert.ConvIn0BxRefIdeal.main_arg0)
      ∧ r.2.mem ((c.tc : Thread Cert.ConvIn0BxRefIdeal.nD Cert.ConvIn0BxRefIdeal.τ).loc Cert.ConvIn0BxRefIdeal.main_arg1) = m ((c.tc : Thread Cert.ConvIn0BxRefIdeal.nD Cert.ConvIn0BxRefIdeal.τ).loc Cert.ConvIn0BxRefIdeal.main_arg1))
      ∧ r.2.sem = fun _ => 0)

def quiescent_ConvIn0Bw [hConvIn0Bw : Cert.ConvIn0Bw.Facts] : Prop :=
  ∀ (m : (ℓ : Loc Cert.ConvIn0Bw.nD Cert.ConvIn0Bw.τ Cert.ConvIn0Bw.sig) → Buf (Elt Bits) ℓ) (g : Dev Cert.ConvIn0Bw.nD → PrngReg), Pre_ConvIn0Bw m →
    θ_run (Cert.ConvIn0Bw.defs (F := Bits)) (onTc (τ := Cert.ConvIn0Bw.τ) (Cert.ConvIn0Bw.main (F := Bits))) ⟨m, fun _ => 0, g⟩ (fun r => (∀ c : Dev Cert.ConvIn0Bw.nD,
      r.2.mem ((c.tc : Thread Cert.ConvIn0Bw.nD Cert.ConvIn0Bw.τ).loc Cert.ConvIn0Bw.main_arg0) = m ((c.tc : Thread Cert.ConvIn0Bw.nD Cert.ConvIn0Bw.τ).loc Cert.ConvIn0Bw.main_arg0)
      ∧ r.2.mem ((c.tc : Thread Cert.ConvIn0Bw.nD Cert.ConvIn0Bw.τ).loc Cert.ConvIn0Bw.main_arg1) = m ((c.tc : Thread Cert.ConvIn0Bw.nD Cert.ConvIn0Bw.τ).loc Cert.ConvIn0Bw.main_arg1))
      ∧ r.2.sem = fun _ => 0)

def quiescent_ConvIn0BwIdeal [hConvIn0BwIdeal : Cert.ConvIn0BwIdeal.Facts] : Prop :=
  ∀ (m : (ℓ : Loc Cert.ConvIn0BwIdeal.nD Cert.ConvIn0BwIdeal.τ Cert.ConvIn0BwIdeal.sig) → Buf (Elt Ideal) ℓ) (g : Dev Cert.ConvIn0BwIdeal.nD → PrngReg), Pre_ConvIn0BwIdeal m →
    θ_run (Cert.ConvIn0BwIdeal.defs (F := Ideal)) (onTc (τ := Cert.ConvIn0BwIdeal.τ) (Cert.ConvIn0BwIdeal.main (F := Ideal))) ⟨m, fun _ => 0, g⟩ (fun r => (∀ c : Dev Cert.ConvIn0BwIdeal.nD,
      r.2.mem ((c.tc : Thread Cert.ConvIn0BwIdeal.nD Cert.ConvIn0BwIdeal.τ).loc Cert.ConvIn0BwIdeal.main_arg0) = m ((c.tc : Thread Cert.ConvIn0BwIdeal.nD Cert.ConvIn0BwIdeal.τ).loc Cert.ConvIn0BwIdeal.main_arg0)
      ∧ r.2.mem ((c.tc : Thread Cert.ConvIn0BwIdeal.nD Cert.ConvIn0BwIdeal.τ).loc Cert.ConvIn0BwIdeal.main_arg1) = m ((c.tc : Thread Cert.ConvIn0BwIdeal.nD Cert.ConvIn0BwIdeal.τ).loc Cert.ConvIn0BwIdeal.main_arg1))
      ∧ r.2.sem = fun _ => 0)

def quiescent_ConvIn0BwRefIdeal [hConvIn0BwRefIdeal : Cert.ConvIn0BwRefIdeal.Facts] : Prop :=
  ∀ (m : (ℓ : Loc Cert.ConvIn0BwRefIdeal.nD Cert.ConvIn0BwRefIdeal.τ Cert.ConvIn0BwRefIdeal.sig) → Buf (Elt Ideal) ℓ) (g : Dev Cert.ConvIn0BwRefIdeal.nD → PrngReg), Pre_ConvIn0BwRefIdeal m →
    θ_run (Cert.ConvIn0BwRefIdeal.defs (F := Ideal)) (onTc (τ := Cert.ConvIn0BwRefIdeal.τ) (Cert.ConvIn0BwRefIdeal.main (F := Ideal))) ⟨m, fun _ => 0, g⟩ (fun r => (∀ c : Dev Cert.ConvIn0BwRefIdeal.nD,
      r.2.mem ((c.tc : Thread Cert.ConvIn0BwRefIdeal.nD Cert.ConvIn0BwRefIdeal.τ).loc Cert.ConvIn0BwRefIdeal.main_arg0) = m ((c.tc : Thread Cert.ConvIn0BwRefIdeal.nD Cert.ConvIn0BwRefIdeal.τ).loc Cert.ConvIn0BwRefIdeal.main_arg0)
      ∧ r.2.mem ((c.tc : Thread Cert.ConvIn0BwRefIdeal.nD Cert.ConvIn0BwRefIdeal.τ).loc Cert.ConvIn0BwRefIdeal.main_arg1) = m ((c.tc : Thread Cert.ConvIn0BwRefIdeal.nD Cert.ConvIn0BwRefIdeal.τ).loc Cert.ConvIn0BwRefIdeal.main_arg1))
      ∧ r.2.sem = fun _ => 0)

def quiescent_ConvIn3 [hConvIn3 : Cert.ConvIn3.Facts] : Prop :=
  ∀ (m : (ℓ : Loc Cert.ConvIn3.nD Cert.ConvIn3.τ Cert.ConvIn3.sig) → Buf (Elt Bits) ℓ) (g : Dev Cert.ConvIn3.nD → PrngReg), Pre_ConvIn3 m →
    θ_run (Cert.ConvIn3.defs (F := Bits)) (onTc (τ := Cert.ConvIn3.τ) (Cert.ConvIn3.main (F := Bits))) ⟨m, fun _ => 0, g⟩ (fun r => (∀ c : Dev Cert.ConvIn3.nD,
      r.2.mem ((c.tc : Thread Cert.ConvIn3.nD Cert.ConvIn3.τ).loc Cert.ConvIn3.main_arg0) = m ((c.tc : Thread Cert.ConvIn3.nD Cert.ConvIn3.τ).loc Cert.ConvIn3.main_arg0)
      ∧ r.2.mem ((c.tc : Thread Cert.ConvIn3.nD Cert.ConvIn3.τ).loc Cert.ConvIn3.main_arg1) = m ((c.tc : Thread Cert.ConvIn3.nD Cert.ConvIn3.τ).loc Cert.ConvIn3.main_arg1))
      ∧ r.2.sem = fun _ => 0)

def quiescent_ConvIn3Ideal [hConvIn3Ideal : Cert.ConvIn3Ideal.Facts] : Prop :=
  ∀ (m : (ℓ : Loc Cert.ConvIn3Ideal.nD Cert.ConvIn3Ideal.τ Cert.ConvIn3Ideal.sig) → Buf (Elt Ideal) ℓ) (g : Dev Cert.ConvIn3Ideal.nD → PrngReg), Pre_ConvIn3Ideal m →
    θ_run (Cert.ConvIn3Ideal.defs (F := Ideal)) (onTc (τ := Cert.ConvIn3Ideal.τ) (Cert.ConvIn3Ideal.main (F := Ideal))) ⟨m, fun _ => 0, g⟩ (fun r => (∀ c : Dev Cert.ConvIn3Ideal.nD,
      r.2.mem ((c.tc : Thread Cert.ConvIn3Ideal.nD Cert.ConvIn3Ideal.τ).loc Cert.ConvIn3Ideal.main_arg0) = m ((c.tc : Thread Cert.ConvIn3Ideal.nD Cert.ConvIn3Ideal.τ).loc Cert.ConvIn3Ideal.main_arg0)
      ∧ r.2.mem ((c.tc : Thread Cert.ConvIn3Ideal.nD Cert.ConvIn3Ideal.τ).loc Cert.ConvIn3Ideal.main_arg1) = m ((c.tc : Thread Cert.ConvIn3Ideal.nD Cert.ConvIn3Ideal.τ).loc Cert.ConvIn3Ideal.main_arg1))
      ∧ r.2.sem = fun _ => 0)

def quiescent_ConvIn3RefIdeal [hConvIn3RefIdeal : Cert.ConvIn3RefIdeal.Facts] : Prop :=
  ∀ (m : (ℓ : Loc Cert.ConvIn3RefIdeal.nD Cert.ConvIn3RefIdeal.τ Cert.ConvIn3RefIdeal.sig) → Buf (Elt Ideal) ℓ) (g : Dev Cert.ConvIn3RefIdeal.nD → PrngReg), Pre_ConvIn3RefIdeal m →
    θ_run (Cert.ConvIn3RefIdeal.defs (F := Ideal)) (onTc (τ := Cert.ConvIn3RefIdeal.τ) (Cert.ConvIn3RefIdeal.main (F := Ideal))) ⟨m, fun _ => 0, g⟩ (fun r => (∀ c : Dev Cert.ConvIn3RefIdeal.nD,
      r.2.mem ((c.tc : Thread Cert.ConvIn3RefIdeal.nD Cert.ConvIn3RefIdeal.τ).loc Cert.ConvIn3RefIdeal.main_arg0) = m ((c.tc : Thread Cert.ConvIn3RefIdeal.nD Cert.ConvIn3RefIdeal.τ).loc Cert.ConvIn3RefIdeal.main_arg0)
      ∧ r.2.mem ((c.tc : Thread Cert.ConvIn3RefIdeal.nD Cert.ConvIn3RefIdeal.τ).loc Cert.ConvIn3RefIdeal.main_arg1) = m ((c.tc : Thread Cert.ConvIn3RefIdeal.nD Cert.ConvIn3RefIdeal.τ).loc Cert.ConvIn3RefIdeal.main_arg1))
      ∧ r.2.sem = fun _ => 0)

def quiescent_ConvIn3Bx [hConvIn3Bx : Cert.ConvIn3Bx.Facts] : Prop :=
  ∀ (m : (ℓ : Loc Cert.ConvIn3Bx.nD Cert.ConvIn3Bx.τ Cert.ConvIn3Bx.sig) → Buf (Elt Bits) ℓ) (g : Dev Cert.ConvIn3Bx.nD → PrngReg), Pre_ConvIn3Bx m →
    θ_run (Cert.ConvIn3Bx.defs (F := Bits)) (onTc (τ := Cert.ConvIn3Bx.τ) (Cert.ConvIn3Bx.main (F := Bits))) ⟨m, fun _ => 0, g⟩ (fun r => (∀ c : Dev Cert.ConvIn3Bx.nD,
      r.2.mem ((c.tc : Thread Cert.ConvIn3Bx.nD Cert.ConvIn3Bx.τ).loc Cert.ConvIn3Bx.main_arg0) = m ((c.tc : Thread Cert.ConvIn3Bx.nD Cert.ConvIn3Bx.τ).loc Cert.ConvIn3Bx.main_arg0)
      ∧ r.2.mem ((c.tc : Thread Cert.ConvIn3Bx.nD Cert.ConvIn3Bx.τ).loc Cert.ConvIn3Bx.main_arg1) = m ((c.tc : Thread Cert.ConvIn3Bx.nD Cert.ConvIn3Bx.τ).loc Cert.ConvIn3Bx.main_arg1))
      ∧ r.2.sem = fun _ => 0)

def quiescent_ConvIn3BxIdeal [hConvIn3BxIdeal : Cert.ConvIn3BxIdeal.Facts] : Prop :=
  ∀ (m : (ℓ : Loc Cert.ConvIn3BxIdeal.nD Cert.ConvIn3BxIdeal.τ Cert.ConvIn3BxIdeal.sig) → Buf (Elt Ideal) ℓ) (g : Dev Cert.ConvIn3BxIdeal.nD → PrngReg), Pre_ConvIn3BxIdeal m →
    θ_run (Cert.ConvIn3BxIdeal.defs (F := Ideal)) (onTc (τ := Cert.ConvIn3BxIdeal.τ) (Cert.ConvIn3BxIdeal.main (F := Ideal))) ⟨m, fun _ => 0, g⟩ (fun r => (∀ c : Dev Cert.ConvIn3BxIdeal.nD,
      r.2.mem ((c.tc : Thread Cert.ConvIn3BxIdeal.nD Cert.ConvIn3BxIdeal.τ).loc Cert.ConvIn3BxIdeal.main_arg0) = m ((c.tc : Thread Cert.ConvIn3BxIdeal.nD Cert.ConvIn3BxIdeal.τ).loc Cert.ConvIn3BxIdeal.main_arg0)
      ∧ r.2.mem ((c.tc : Thread Cert.ConvIn3BxIdeal.nD Cert.ConvIn3BxIdeal.τ).loc Cert.ConvIn3BxIdeal.main_arg1) = m ((c.tc : Thread Cert.ConvIn3BxIdeal.nD Cert.ConvIn3BxIdeal.τ).loc Cert.ConvIn3BxIdeal.main_arg1))
      ∧ r.2.sem = fun _ => 0)

def quiescent_ConvIn3BxRefIdeal [hConvIn3BxRefIdeal : Cert.ConvIn3BxRefIdeal.Facts] : Prop :=
  ∀ (m : (ℓ : Loc Cert.ConvIn3BxRefIdeal.nD Cert.ConvIn3BxRefIdeal.τ Cert.ConvIn3BxRefIdeal.sig) → Buf (Elt Ideal) ℓ) (g : Dev Cert.ConvIn3BxRefIdeal.nD → PrngReg), Pre_ConvIn3BxRefIdeal m →
    θ_run (Cert.ConvIn3BxRefIdeal.defs (F := Ideal)) (onTc (τ := Cert.ConvIn3BxRefIdeal.τ) (Cert.ConvIn3BxRefIdeal.main (F := Ideal))) ⟨m, fun _ => 0, g⟩ (fun r => (∀ c : Dev Cert.ConvIn3BxRefIdeal.nD,
      r.2.mem ((c.tc : Thread Cert.ConvIn3BxRefIdeal.nD Cert.ConvIn3BxRefIdeal.τ).loc Cert.ConvIn3BxRefIdeal.main_arg0) = m ((c.tc : Thread Cert.ConvIn3BxRefIdeal.nD Cert.ConvIn3BxRefIdeal.τ).loc Cert.ConvIn3BxRefIdeal.main_arg0)
      ∧ r.2.mem ((c.tc : Thread Cert.ConvIn3BxRefIdeal.nD Cert.ConvIn3BxRefIdeal.τ).loc Cert.ConvIn3BxRefIdeal.main_arg1) = m ((c.tc : Thread Cert.ConvIn3BxRefIdeal.nD Cert.ConvIn3BxRefIdeal.τ).loc Cert.ConvIn3BxRefIdeal.main_arg1))
      ∧ r.2.sem = fun _ => 0)

def quiescent_ConvIn3Bw [hConvIn3Bw : Cert.ConvIn3Bw.Facts] : Prop :=
  ∀ (m : (ℓ : Loc Cert.ConvIn3Bw.nD Cert.ConvIn3Bw.τ Cert.ConvIn3Bw.sig) → Buf (Elt Bits) ℓ) (g : Dev Cert.ConvIn3Bw.nD → PrngReg), Pre_ConvIn3Bw m →
    θ_run (Cert.ConvIn3Bw.defs (F := Bits)) (onTc (τ := Cert.ConvIn3Bw.τ) (Cert.ConvIn3Bw.main (F := Bits))) ⟨m, fun _ => 0, g⟩ (fun r => (∀ c : Dev Cert.ConvIn3Bw.nD,
      r.2.mem ((c.tc : Thread Cert.ConvIn3Bw.nD Cert.ConvIn3Bw.τ).loc Cert.ConvIn3Bw.main_arg0) = m ((c.tc : Thread Cert.ConvIn3Bw.nD Cert.ConvIn3Bw.τ).loc Cert.ConvIn3Bw.main_arg0)
      ∧ r.2.mem ((c.tc : Thread Cert.ConvIn3Bw.nD Cert.ConvIn3Bw.τ).loc Cert.ConvIn3Bw.main_arg1) = m ((c.tc : Thread Cert.ConvIn3Bw.nD Cert.ConvIn3Bw.τ).loc Cert.ConvIn3Bw.main_arg1))
      ∧ r.2.sem = fun _ => 0)

def quiescent_ConvIn3BwIdeal [hConvIn3BwIdeal : Cert.ConvIn3BwIdeal.Facts] : Prop :=
  ∀ (m : (ℓ : Loc Cert.ConvIn3BwIdeal.nD Cert.ConvIn3BwIdeal.τ Cert.ConvIn3BwIdeal.sig) → Buf (Elt Ideal) ℓ) (g : Dev Cert.ConvIn3BwIdeal.nD → PrngReg), Pre_ConvIn3BwIdeal m →
    θ_run (Cert.ConvIn3BwIdeal.defs (F := Ideal)) (onTc (τ := Cert.ConvIn3BwIdeal.τ) (Cert.ConvIn3BwIdeal.main (F := Ideal))) ⟨m, fun _ => 0, g⟩ (fun r => (∀ c : Dev Cert.ConvIn3BwIdeal.nD,
      r.2.mem ((c.tc : Thread Cert.ConvIn3BwIdeal.nD Cert.ConvIn3BwIdeal.τ).loc Cert.ConvIn3BwIdeal.main_arg0) = m ((c.tc : Thread Cert.ConvIn3BwIdeal.nD Cert.ConvIn3BwIdeal.τ).loc Cert.ConvIn3BwIdeal.main_arg0)
      ∧ r.2.mem ((c.tc : Thread Cert.ConvIn3BwIdeal.nD Cert.ConvIn3BwIdeal.τ).loc Cert.ConvIn3BwIdeal.main_arg1) = m ((c.tc : Thread Cert.ConvIn3BwIdeal.nD Cert.ConvIn3BwIdeal.τ).loc Cert.ConvIn3BwIdeal.main_arg1))
      ∧ r.2.sem = fun _ => 0)

def quiescent_ConvIn3BwRefIdeal [hConvIn3BwRefIdeal : Cert.ConvIn3BwRefIdeal.Facts] : Prop :=
  ∀ (m : (ℓ : Loc Cert.ConvIn3BwRefIdeal.nD Cert.ConvIn3BwRefIdeal.τ Cert.ConvIn3BwRefIdeal.sig) → Buf (Elt Ideal) ℓ) (g : Dev Cert.ConvIn3BwRefIdeal.nD → PrngReg), Pre_ConvIn3BwRefIdeal m →
    θ_run (Cert.ConvIn3BwRefIdeal.defs (F := Ideal)) (onTc (τ := Cert.ConvIn3BwRefIdeal.τ) (Cert.ConvIn3BwRefIdeal.main (F := Ideal))) ⟨m, fun _ => 0, g⟩ (fun r => (∀ c : Dev Cert.ConvIn3BwRefIdeal.nD,
      r.2.mem ((c.tc : Thread Cert.ConvIn3BwRefIdeal.nD Cert.ConvIn3BwRefIdeal.τ).loc Cert.ConvIn3BwRefIdeal.main_arg0) = m ((c.tc : Thread Cert.ConvIn3BwRefIdeal.nD Cert.ConvIn3BwRefIdeal.τ).loc Cert.ConvIn3BwRefIdeal.main_arg0)
      ∧ r.2.mem ((c.tc : Thread Cert.ConvIn3BwRefIdeal.nD Cert.ConvIn3BwRefIdeal.τ).loc Cert.ConvIn3BwRefIdeal.main_arg1) = m ((c.tc : Thread Cert.ConvIn3BwRefIdeal.nD Cert.ConvIn3BwRefIdeal.τ).loc Cert.ConvIn3BwRefIdeal.main_arg1))
      ∧ r.2.sem = fun _ => 0)

def quiescent_ConvOut0 [hConvOut0 : Cert.ConvOut0.Facts] : Prop :=
  ∀ (m : (ℓ : Loc Cert.ConvOut0.nD Cert.ConvOut0.τ Cert.ConvOut0.sig) → Buf (Elt Bits) ℓ) (g : Dev Cert.ConvOut0.nD → PrngReg), Pre_ConvOut0 m →
    θ_run (Cert.ConvOut0.defs (F := Bits)) (onTc (τ := Cert.ConvOut0.τ) (Cert.ConvOut0.main (F := Bits))) ⟨m, fun _ => 0, g⟩ (fun r => (∀ c : Dev Cert.ConvOut0.nD,
      r.2.mem ((c.tc : Thread Cert.ConvOut0.nD Cert.ConvOut0.τ).loc Cert.ConvOut0.main_arg0) = m ((c.tc : Thread Cert.ConvOut0.nD Cert.ConvOut0.τ).loc Cert.ConvOut0.main_arg0)
      ∧ r.2.mem ((c.tc : Thread Cert.ConvOut0.nD Cert.ConvOut0.τ).loc Cert.ConvOut0.main_arg1) = m ((c.tc : Thread Cert.ConvOut0.nD Cert.ConvOut0.τ).loc Cert.ConvOut0.main_arg1))
      ∧ r.2.sem = fun _ => 0)

def quiescent_ConvOut0Ideal [hConvOut0Ideal : Cert.ConvOut0Ideal.Facts] : Prop :=
  ∀ (m : (ℓ : Loc Cert.ConvOut0Ideal.nD Cert.ConvOut0Ideal.τ Cert.ConvOut0Ideal.sig) → Buf (Elt Ideal) ℓ) (g : Dev Cert.ConvOut0Ideal.nD → PrngReg), Pre_ConvOut0Ideal m →
    θ_run (Cert.ConvOut0Ideal.defs (F := Ideal)) (onTc (τ := Cert.ConvOut0Ideal.τ) (Cert.ConvOut0Ideal.main (F := Ideal))) ⟨m, fun _ => 0, g⟩ (fun r => (∀ c : Dev Cert.ConvOut0Ideal.nD,
      r.2.mem ((c.tc : Thread Cert.ConvOut0Ideal.nD Cert.ConvOut0Ideal.τ).loc Cert.ConvOut0Ideal.main_arg0) = m ((c.tc : Thread Cert.ConvOut0Ideal.nD Cert.ConvOut0Ideal.τ).loc Cert.ConvOut0Ideal.main_arg0)
      ∧ r.2.mem ((c.tc : Thread Cert.ConvOut0Ideal.nD Cert.ConvOut0Ideal.τ).loc Cert.ConvOut0Ideal.main_arg1) = m ((c.tc : Thread Cert.ConvOut0Ideal.nD Cert.ConvOut0Ideal.τ).loc Cert.ConvOut0Ideal.main_arg1))
      ∧ r.2.sem = fun _ => 0)

def quiescent_ConvOut0RefIdeal [hConvOut0RefIdeal : Cert.ConvOut0RefIdeal.Facts] : Prop :=
  ∀ (m : (ℓ : Loc Cert.ConvOut0RefIdeal.nD Cert.ConvOut0RefIdeal.τ Cert.ConvOut0RefIdeal.sig) → Buf (Elt Ideal) ℓ) (g : Dev Cert.ConvOut0RefIdeal.nD → PrngReg), Pre_ConvOut0RefIdeal m →
    θ_run (Cert.ConvOut0RefIdeal.defs (F := Ideal)) (onTc (τ := Cert.ConvOut0RefIdeal.τ) (Cert.ConvOut0RefIdeal.main (F := Ideal))) ⟨m, fun _ => 0, g⟩ (fun r => (∀ c : Dev Cert.ConvOut0RefIdeal.nD,
      r.2.mem ((c.tc : Thread Cert.ConvOut0RefIdeal.nD Cert.ConvOut0RefIdeal.τ).loc Cert.ConvOut0RefIdeal.main_arg0) = m ((c.tc : Thread Cert.ConvOut0RefIdeal.nD Cert.ConvOut0RefIdeal.τ).loc Cert.ConvOut0RefIdeal.main_arg0)
      ∧ r.2.mem ((c.tc : Thread Cert.ConvOut0RefIdeal.nD Cert.ConvOut0RefIdeal.τ).loc Cert.ConvOut0RefIdeal.main_arg1) = m ((c.tc : Thread Cert.ConvOut0RefIdeal.nD Cert.ConvOut0RefIdeal.τ).loc Cert.ConvOut0RefIdeal.main_arg1))
      ∧ r.2.sem = fun _ => 0)

def quiescent_ConvOut0Bx [hConvOut0Bx : Cert.ConvOut0Bx.Facts] : Prop :=
  ∀ (m : (ℓ : Loc Cert.ConvOut0Bx.nD Cert.ConvOut0Bx.τ Cert.ConvOut0Bx.sig) → Buf (Elt Bits) ℓ) (g : Dev Cert.ConvOut0Bx.nD → PrngReg), Pre_ConvOut0Bx m →
    θ_run (Cert.ConvOut0Bx.defs (F := Bits)) (onTc (τ := Cert.ConvOut0Bx.τ) (Cert.ConvOut0Bx.main (F := Bits))) ⟨m, fun _ => 0, g⟩ (fun r => (∀ c : Dev Cert.ConvOut0Bx.nD,
      r.2.mem ((c.tc : Thread Cert.ConvOut0Bx.nD Cert.ConvOut0Bx.τ).loc Cert.ConvOut0Bx.main_arg0) = m ((c.tc : Thread Cert.ConvOut0Bx.nD Cert.ConvOut0Bx.τ).loc Cert.ConvOut0Bx.main_arg0)
      ∧ r.2.mem ((c.tc : Thread Cert.ConvOut0Bx.nD Cert.ConvOut0Bx.τ).loc Cert.ConvOut0Bx.main_arg1) = m ((c.tc : Thread Cert.ConvOut0Bx.nD Cert.ConvOut0Bx.τ).loc Cert.ConvOut0Bx.main_arg1))
      ∧ r.2.sem = fun _ => 0)

def quiescent_ConvOut0BxIdeal [hConvOut0BxIdeal : Cert.ConvOut0BxIdeal.Facts] : Prop :=
  ∀ (m : (ℓ : Loc Cert.ConvOut0BxIdeal.nD Cert.ConvOut0BxIdeal.τ Cert.ConvOut0BxIdeal.sig) → Buf (Elt Ideal) ℓ) (g : Dev Cert.ConvOut0BxIdeal.nD → PrngReg), Pre_ConvOut0BxIdeal m →
    θ_run (Cert.ConvOut0BxIdeal.defs (F := Ideal)) (onTc (τ := Cert.ConvOut0BxIdeal.τ) (Cert.ConvOut0BxIdeal.main (F := Ideal))) ⟨m, fun _ => 0, g⟩ (fun r => (∀ c : Dev Cert.ConvOut0BxIdeal.nD,
      r.2.mem ((c.tc : Thread Cert.ConvOut0BxIdeal.nD Cert.ConvOut0BxIdeal.τ).loc Cert.ConvOut0BxIdeal.main_arg0) = m ((c.tc : Thread Cert.ConvOut0BxIdeal.nD Cert.ConvOut0BxIdeal.τ).loc Cert.ConvOut0BxIdeal.main_arg0)
      ∧ r.2.mem ((c.tc : Thread Cert.ConvOut0BxIdeal.nD Cert.ConvOut0BxIdeal.τ).loc Cert.ConvOut0BxIdeal.main_arg1) = m ((c.tc : Thread Cert.ConvOut0BxIdeal.nD Cert.ConvOut0BxIdeal.τ).loc Cert.ConvOut0BxIdeal.main_arg1))
      ∧ r.2.sem = fun _ => 0)

def quiescent_ConvOut0BxRefIdeal [hConvOut0BxRefIdeal : Cert.ConvOut0BxRefIdeal.Facts] : Prop :=
  ∀ (m : (ℓ : Loc Cert.ConvOut0BxRefIdeal.nD Cert.ConvOut0BxRefIdeal.τ Cert.ConvOut0BxRefIdeal.sig) → Buf (Elt Ideal) ℓ) (g : Dev Cert.ConvOut0BxRefIdeal.nD → PrngReg), Pre_ConvOut0BxRefIdeal m →
    θ_run (Cert.ConvOut0BxRefIdeal.defs (F := Ideal)) (onTc (τ := Cert.ConvOut0BxRefIdeal.τ) (Cert.ConvOut0BxRefIdeal.main (F := Ideal))) ⟨m, fun _ => 0, g⟩ (fun r => (∀ c : Dev Cert.ConvOut0BxRefIdeal.nD,
      r.2.mem ((c.tc : Thread Cert.ConvOut0BxRefIdeal.nD Cert.ConvOut0BxRefIdeal.τ).loc Cert.ConvOut0BxRefIdeal.main_arg0) = m ((c.tc : Thread Cert.ConvOut0BxRefIdeal.nD Cert.ConvOut0BxRefIdeal.τ).loc Cert.ConvOut0BxRefIdeal.main_arg0)
      ∧ r.2.mem ((c.tc : Thread Cert.ConvOut0BxRefIdeal.nD Cert.ConvOut0BxRefIdeal.τ).loc Cert.ConvOut0BxRefIdeal.main_arg1) = m ((c.tc : Thread Cert.ConvOut0BxRefIdeal.nD Cert.ConvOut0BxRefIdeal.τ).loc Cert.ConvOut0BxRefIdeal.main_arg1))
      ∧ r.2.sem = fun _ => 0)

def quiescent_ConvOut0Bw [hConvOut0Bw : Cert.ConvOut0Bw.Facts] : Prop :=
  ∀ (m : (ℓ : Loc Cert.ConvOut0Bw.nD Cert.ConvOut0Bw.τ Cert.ConvOut0Bw.sig) → Buf (Elt Bits) ℓ) (g : Dev Cert.ConvOut0Bw.nD → PrngReg), Pre_ConvOut0Bw m →
    θ_run (Cert.ConvOut0Bw.defs (F := Bits)) (onTc (τ := Cert.ConvOut0Bw.τ) (Cert.ConvOut0Bw.main (F := Bits))) ⟨m, fun _ => 0, g⟩ (fun r => (∀ c : Dev Cert.ConvOut0Bw.nD,
      r.2.mem ((c.tc : Thread Cert.ConvOut0Bw.nD Cert.ConvOut0Bw.τ).loc Cert.ConvOut0Bw.main_arg0) = m ((c.tc : Thread Cert.ConvOut0Bw.nD Cert.ConvOut0Bw.τ).loc Cert.ConvOut0Bw.main_arg0)
      ∧ r.2.mem ((c.tc : Thread Cert.ConvOut0Bw.nD Cert.ConvOut0Bw.τ).loc Cert.ConvOut0Bw.main_arg1) = m ((c.tc : Thread Cert.ConvOut0Bw.nD Cert.ConvOut0Bw.τ).loc Cert.ConvOut0Bw.main_arg1))
      ∧ r.2.sem = fun _ => 0)

def quiescent_ConvOut0BwIdeal [hConvOut0BwIdeal : Cert.ConvOut0BwIdeal.Facts] : Prop :=
  ∀ (m : (ℓ : Loc Cert.ConvOut0BwIdeal.nD Cert.ConvOut0BwIdeal.τ Cert.ConvOut0BwIdeal.sig) → Buf (Elt Ideal) ℓ) (g : Dev Cert.ConvOut0BwIdeal.nD → PrngReg), Pre_ConvOut0BwIdeal m →
    θ_run (Cert.ConvOut0BwIdeal.defs (F := Ideal)) (onTc (τ := Cert.ConvOut0BwIdeal.τ) (Cert.ConvOut0BwIdeal.main (F := Ideal))) ⟨m, fun _ => 0, g⟩ (fun r => (∀ c : Dev Cert.ConvOut0BwIdeal.nD,
      r.2.mem ((c.tc : Thread Cert.ConvOut0BwIdeal.nD Cert.ConvOut0BwIdeal.τ).loc Cert.ConvOut0BwIdeal.main_arg0) = m ((c.tc : Thread Cert.ConvOut0BwIdeal.nD Cert.ConvOut0BwIdeal.τ).loc Cert.ConvOut0BwIdeal.main_arg0)
      ∧ r.2.mem ((c.tc : Thread Cert.ConvOut0BwIdeal.nD Cert.ConvOut0BwIdeal.τ).loc Cert.ConvOut0BwIdeal.main_arg1) = m ((c.tc : Thread Cert.ConvOut0BwIdeal.nD Cert.ConvOut0BwIdeal.τ).loc Cert.ConvOut0BwIdeal.main_arg1))
      ∧ r.2.sem = fun _ => 0)

def quiescent_ConvOut0BwRefIdeal [hConvOut0BwRefIdeal : Cert.ConvOut0BwRefIdeal.Facts] : Prop :=
  ∀ (m : (ℓ : Loc Cert.ConvOut0BwRefIdeal.nD Cert.ConvOut0BwRefIdeal.τ Cert.ConvOut0BwRefIdeal.sig) → Buf (Elt Ideal) ℓ) (g : Dev Cert.ConvOut0BwRefIdeal.nD → PrngReg), Pre_ConvOut0BwRefIdeal m →
    θ_run (Cert.ConvOut0BwRefIdeal.defs (F := Ideal)) (onTc (τ := Cert.ConvOut0BwRefIdeal.τ) (Cert.ConvOut0BwRefIdeal.main (F := Ideal))) ⟨m, fun _ => 0, g⟩ (fun r => (∀ c : Dev Cert.ConvOut0BwRefIdeal.nD,
      r.2.mem ((c.tc : Thread Cert.ConvOut0BwRefIdeal.nD Cert.ConvOut0BwRefIdeal.τ).loc Cert.ConvOut0BwRefIdeal.main_arg0) = m ((c.tc : Thread Cert.ConvOut0BwRefIdeal.nD Cert.ConvOut0BwRefIdeal.τ).loc Cert.ConvOut0BwRefIdeal.main_arg0)
      ∧ r.2.mem ((c.tc : Thread Cert.ConvOut0BwRefIdeal.nD Cert.ConvOut0BwRefIdeal.τ).loc Cert.ConvOut0BwRefIdeal.main_arg1) = m ((c.tc : Thread Cert.ConvOut0BwRefIdeal.nD Cert.ConvOut0BwRefIdeal.τ).loc Cert.ConvOut0BwRefIdeal.main_arg1))
      ∧ r.2.sem = fun _ => 0)

def quiescent_ConvOut3 [hConvOut3 : Cert.ConvOut3.Facts] : Prop :=
  ∀ (m : (ℓ : Loc Cert.ConvOut3.nD Cert.ConvOut3.τ Cert.ConvOut3.sig) → Buf (Elt Bits) ℓ) (g : Dev Cert.ConvOut3.nD → PrngReg), Pre_ConvOut3 m →
    θ_run (Cert.ConvOut3.defs (F := Bits)) (onTc (τ := Cert.ConvOut3.τ) (Cert.ConvOut3.main (F := Bits))) ⟨m, fun _ => 0, g⟩ (fun r => (∀ c : Dev Cert.ConvOut3.nD,
      r.2.mem ((c.tc : Thread Cert.ConvOut3.nD Cert.ConvOut3.τ).loc Cert.ConvOut3.main_arg0) = m ((c.tc : Thread Cert.ConvOut3.nD Cert.ConvOut3.τ).loc Cert.ConvOut3.main_arg0)
      ∧ r.2.mem ((c.tc : Thread Cert.ConvOut3.nD Cert.ConvOut3.τ).loc Cert.ConvOut3.main_arg1) = m ((c.tc : Thread Cert.ConvOut3.nD Cert.ConvOut3.τ).loc Cert.ConvOut3.main_arg1))
      ∧ r.2.sem = fun _ => 0)

def quiescent_ConvOut3Ideal [hConvOut3Ideal : Cert.ConvOut3Ideal.Facts] : Prop :=
  ∀ (m : (ℓ : Loc Cert.ConvOut3Ideal.nD Cert.ConvOut3Ideal.τ Cert.ConvOut3Ideal.sig) → Buf (Elt Ideal) ℓ) (g : Dev Cert.ConvOut3Ideal.nD → PrngReg), Pre_ConvOut3Ideal m →
    θ_run (Cert.ConvOut3Ideal.defs (F := Ideal)) (onTc (τ := Cert.ConvOut3Ideal.τ) (Cert.ConvOut3Ideal.main (F := Ideal))) ⟨m, fun _ => 0, g⟩ (fun r => (∀ c : Dev Cert.ConvOut3Ideal.nD,
      r.2.mem ((c.tc : Thread Cert.ConvOut3Ideal.nD Cert.ConvOut3Ideal.τ).loc Cert.ConvOut3Ideal.main_arg0) = m ((c.tc : Thread Cert.ConvOut3Ideal.nD Cert.ConvOut3Ideal.τ).loc Cert.ConvOut3Ideal.main_arg0)
      ∧ r.2.mem ((c.tc : Thread Cert.ConvOut3Ideal.nD Cert.ConvOut3Ideal.τ).loc Cert.ConvOut3Ideal.main_arg1) = m ((c.tc : Thread Cert.ConvOut3Ideal.nD Cert.ConvOut3Ideal.τ).loc Cert.ConvOut3Ideal.main_arg1))
      ∧ r.2.sem = fun _ => 0)

def quiescent_ConvOut3RefIdeal [hConvOut3RefIdeal : Cert.ConvOut3RefIdeal.Facts] : Prop :=
  ∀ (m : (ℓ : Loc Cert.ConvOut3RefIdeal.nD Cert.ConvOut3RefIdeal.τ Cert.ConvOut3RefIdeal.sig) → Buf (Elt Ideal) ℓ) (g : Dev Cert.ConvOut3RefIdeal.nD → PrngReg), Pre_ConvOut3RefIdeal m →
    θ_run (Cert.ConvOut3RefIdeal.defs (F := Ideal)) (onTc (τ := Cert.ConvOut3RefIdeal.τ) (Cert.ConvOut3RefIdeal.main (F := Ideal))) ⟨m, fun _ => 0, g⟩ (fun r => (∀ c : Dev Cert.ConvOut3RefIdeal.nD,
      r.2.mem ((c.tc : Thread Cert.ConvOut3RefIdeal.nD Cert.ConvOut3RefIdeal.τ).loc Cert.ConvOut3RefIdeal.main_arg0) = m ((c.tc : Thread Cert.ConvOut3RefIdeal.nD Cert.ConvOut3RefIdeal.τ).loc Cert.ConvOut3RefIdeal.main_arg0)
      ∧ r.2.mem ((c.tc : Thread Cert.ConvOut3RefIdeal.nD Cert.ConvOut3RefIdeal.τ).loc Cert.ConvOut3RefIdeal.main_arg1) = m ((c.tc : Thread Cert.ConvOut3RefIdeal.nD Cert.ConvOut3RefIdeal.τ).loc Cert.ConvOut3RefIdeal.main_arg1))
      ∧ r.2.sem = fun _ => 0)

def quiescent_ConvOut3Bx [hConvOut3Bx : Cert.ConvOut3Bx.Facts] : Prop :=
  ∀ (m : (ℓ : Loc Cert.ConvOut3Bx.nD Cert.ConvOut3Bx.τ Cert.ConvOut3Bx.sig) → Buf (Elt Bits) ℓ) (g : Dev Cert.ConvOut3Bx.nD → PrngReg), Pre_ConvOut3Bx m →
    θ_run (Cert.ConvOut3Bx.defs (F := Bits)) (onTc (τ := Cert.ConvOut3Bx.τ) (Cert.ConvOut3Bx.main (F := Bits))) ⟨m, fun _ => 0, g⟩ (fun r => (∀ c : Dev Cert.ConvOut3Bx.nD,
      r.2.mem ((c.tc : Thread Cert.ConvOut3Bx.nD Cert.ConvOut3Bx.τ).loc Cert.ConvOut3Bx.main_arg0) = m ((c.tc : Thread Cert.ConvOut3Bx.nD Cert.ConvOut3Bx.τ).loc Cert.ConvOut3Bx.main_arg0)
      ∧ r.2.mem ((c.tc : Thread Cert.ConvOut3Bx.nD Cert.ConvOut3Bx.τ).loc Cert.ConvOut3Bx.main_arg1) = m ((c.tc : Thread Cert.ConvOut3Bx.nD Cert.ConvOut3Bx.τ).loc Cert.ConvOut3Bx.main_arg1))
      ∧ r.2.sem = fun _ => 0)

def quiescent_ConvOut3BxIdeal [hConvOut3BxIdeal : Cert.ConvOut3BxIdeal.Facts] : Prop :=
  ∀ (m : (ℓ : Loc Cert.ConvOut3BxIdeal.nD Cert.ConvOut3BxIdeal.τ Cert.ConvOut3BxIdeal.sig) → Buf (Elt Ideal) ℓ) (g : Dev Cert.ConvOut3BxIdeal.nD → PrngReg), Pre_ConvOut3BxIdeal m →
    θ_run (Cert.ConvOut3BxIdeal.defs (F := Ideal)) (onTc (τ := Cert.ConvOut3BxIdeal.τ) (Cert.ConvOut3BxIdeal.main (F := Ideal))) ⟨m, fun _ => 0, g⟩ (fun r => (∀ c : Dev Cert.ConvOut3BxIdeal.nD,
      r.2.mem ((c.tc : Thread Cert.ConvOut3BxIdeal.nD Cert.ConvOut3BxIdeal.τ).loc Cert.ConvOut3BxIdeal.main_arg0) = m ((c.tc : Thread Cert.ConvOut3BxIdeal.nD Cert.ConvOut3BxIdeal.τ).loc Cert.ConvOut3BxIdeal.main_arg0)
      ∧ r.2.mem ((c.tc : Thread Cert.ConvOut3BxIdeal.nD Cert.ConvOut3BxIdeal.τ).loc Cert.ConvOut3BxIdeal.main_arg1) = m ((c.tc : Thread Cert.ConvOut3BxIdeal.nD Cert.ConvOut3BxIdeal.τ).loc Cert.ConvOut3BxIdeal.main_arg1))
      ∧ r.2.sem = fun _ => 0)

def quiescent_ConvOut3BxRefIdeal [hConvOut3BxRefIdeal : Cert.ConvOut3BxRefIdeal.Facts] : Prop :=
  ∀ (m : (ℓ : Loc Cert.ConvOut3BxRefIdeal.nD Cert.ConvOut3BxRefIdeal.τ Cert.ConvOut3BxRefIdeal.sig) → Buf (Elt Ideal) ℓ) (g : Dev Cert.ConvOut3BxRefIdeal.nD → PrngReg), Pre_ConvOut3BxRefIdeal m →
    θ_run (Cert.ConvOut3BxRefIdeal.defs (F := Ideal)) (onTc (τ := Cert.ConvOut3BxRefIdeal.τ) (Cert.ConvOut3BxRefIdeal.main (F := Ideal))) ⟨m, fun _ => 0, g⟩ (fun r => (∀ c : Dev Cert.ConvOut3BxRefIdeal.nD,
      r.2.mem ((c.tc : Thread Cert.ConvOut3BxRefIdeal.nD Cert.ConvOut3BxRefIdeal.τ).loc Cert.ConvOut3BxRefIdeal.main_arg0) = m ((c.tc : Thread Cert.ConvOut3BxRefIdeal.nD Cert.ConvOut3BxRefIdeal.τ).loc Cert.ConvOut3BxRefIdeal.main_arg0)
      ∧ r.2.mem ((c.tc : Thread Cert.ConvOut3BxRefIdeal.nD Cert.ConvOut3BxRefIdeal.τ).loc Cert.ConvOut3BxRefIdeal.main_arg1) = m ((c.tc : Thread Cert.ConvOut3BxRefIdeal.nD Cert.ConvOut3BxRefIdeal.τ).loc Cert.ConvOut3BxRefIdeal.main_arg1))
      ∧ r.2.sem = fun _ => 0)

def quiescent_ConvOut3Bw [hConvOut3Bw : Cert.ConvOut3Bw.Facts] : Prop :=
  ∀ (m : (ℓ : Loc Cert.ConvOut3Bw.nD Cert.ConvOut3Bw.τ Cert.ConvOut3Bw.sig) → Buf (Elt Bits) ℓ) (g : Dev Cert.ConvOut3Bw.nD → PrngReg), Pre_ConvOut3Bw m →
    θ_run (Cert.ConvOut3Bw.defs (F := Bits)) (onTc (τ := Cert.ConvOut3Bw.τ) (Cert.ConvOut3Bw.main (F := Bits))) ⟨m, fun _ => 0, g⟩ (fun r => (∀ c : Dev Cert.ConvOut3Bw.nD,
      r.2.mem ((c.tc : Thread Cert.ConvOut3Bw.nD Cert.ConvOut3Bw.τ).loc Cert.ConvOut3Bw.main_arg0) = m ((c.tc : Thread Cert.ConvOut3Bw.nD Cert.ConvOut3Bw.τ).loc Cert.ConvOut3Bw.main_arg0)
      ∧ r.2.mem ((c.tc : Thread Cert.ConvOut3Bw.nD Cert.ConvOut3Bw.τ).loc Cert.ConvOut3Bw.main_arg1) = m ((c.tc : Thread Cert.ConvOut3Bw.nD Cert.ConvOut3Bw.τ).loc Cert.ConvOut3Bw.main_arg1))
      ∧ r.2.sem = fun _ => 0)

def quiescent_ConvOut3BwIdeal [hConvOut3BwIdeal : Cert.ConvOut3BwIdeal.Facts] : Prop :=
  ∀ (m : (ℓ : Loc Cert.ConvOut3BwIdeal.nD Cert.ConvOut3BwIdeal.τ Cert.ConvOut3BwIdeal.sig) → Buf (Elt Ideal) ℓ) (g : Dev Cert.ConvOut3BwIdeal.nD → PrngReg), Pre_ConvOut3BwIdeal m →
    θ_run (Cert.ConvOut3BwIdeal.defs (F := Ideal)) (onTc (τ := Cert.ConvOut3BwIdeal.τ) (Cert.ConvOut3BwIdeal.main (F := Ideal))) ⟨m, fun _ => 0, g⟩ (fun r => (∀ c : Dev Cert.ConvOut3BwIdeal.nD,
      r.2.mem ((c.tc : Thread Cert.ConvOut3BwIdeal.nD Cert.ConvOut3BwIdeal.τ).loc Cert.ConvOut3BwIdeal.main_arg0) = m ((c.tc : Thread Cert.ConvOut3BwIdeal.nD Cert.ConvOut3BwIdeal.τ).loc Cert.ConvOut3BwIdeal.main_arg0)
      ∧ r.2.mem ((c.tc : Thread Cert.ConvOut3BwIdeal.nD Cert.ConvOut3BwIdeal.τ).loc Cert.ConvOut3BwIdeal.main_arg1) = m ((c.tc : Thread Cert.ConvOut3BwIdeal.nD Cert.ConvOut3BwIdeal.τ).loc Cert.ConvOut3BwIdeal.main_arg1))
      ∧ r.2.sem = fun _ => 0)

def quiescent_ConvOut3BwRefIdeal [hConvOut3BwRefIdeal : Cert.ConvOut3BwRefIdeal.Facts] : Prop :=
  ∀ (m : (ℓ : Loc Cert.ConvOut3BwRefIdeal.nD Cert.ConvOut3BwRefIdeal.τ Cert.ConvOut3BwRefIdeal.sig) → Buf (Elt Ideal) ℓ) (g : Dev Cert.ConvOut3BwRefIdeal.nD → PrngReg), Pre_ConvOut3BwRefIdeal m →
    θ_run (Cert.ConvOut3BwRefIdeal.defs (F := Ideal)) (onTc (τ := Cert.ConvOut3BwRefIdeal.τ) (Cert.ConvOut3BwRefIdeal.main (F := Ideal))) ⟨m, fun _ => 0, g⟩ (fun r => (∀ c : Dev Cert.ConvOut3BwRefIdeal.nD,
      r.2.mem ((c.tc : Thread Cert.ConvOut3BwRefIdeal.nD Cert.ConvOut3BwRefIdeal.τ).loc Cert.ConvOut3BwRefIdeal.main_arg0) = m ((c.tc : Thread Cert.ConvOut3BwRefIdeal.nD Cert.ConvOut3BwRefIdeal.τ).loc Cert.ConvOut3BwRefIdeal.main_arg0)
      ∧ r.2.mem ((c.tc : Thread Cert.ConvOut3BwRefIdeal.nD Cert.ConvOut3BwRefIdeal.τ).loc Cert.ConvOut3BwRefIdeal.main_arg1) = m ((c.tc : Thread Cert.ConvOut3BwRefIdeal.nD Cert.ConvOut3BwRefIdeal.τ).loc Cert.ConvOut3BwRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_QkvBx [hQkvBx : Cert.QkvBx.Facts] : Prop :=
  ∀ (m : (ℓ : Loc Cert.QkvBx.nD Cert.QkvBx.τ Cert.QkvBx.sig) → Buf (Elt Bits) ℓ) (g : Dev Cert.QkvBx.nD → PrngReg), Pre_QkvBx m →
    θ_run (Cert.QkvBx.defs (F := Bits)) (onTc (τ := Cert.QkvBx.τ) (Cert.QkvBx.main (F := Bits))) ⟨m, fun _ => 0, g⟩ (fun r => (∀ c : Dev Cert.QkvBx.nD,
      r.2.mem ((c.tc : Thread Cert.QkvBx.nD Cert.QkvBx.τ).loc Cert.QkvBx.main_arg0) = m ((c.tc : Thread Cert.QkvBx.nD Cert.QkvBx.τ).loc Cert.QkvBx.main_arg0)
      ∧ r.2.mem ((c.tc : Thread Cert.QkvBx.nD Cert.QkvBx.τ).loc Cert.QkvBx.main_arg1) = m ((c.tc : Thread Cert.QkvBx.nD Cert.QkvBx.τ).loc Cert.QkvBx.main_arg1))
      ∧ r.2.sem = fun _ => 0)

def quiescent_QkvBxIdeal [hQkvBxIdeal : Cert.QkvBxIdeal.Facts] : Prop :=
  ∀ (m : (ℓ : Loc Cert.QkvBxIdeal.nD Cert.QkvBxIdeal.τ Cert.QkvBxIdeal.sig) → Buf (Elt Ideal) ℓ) (g : Dev Cert.QkvBxIdeal.nD → PrngReg), Pre_QkvBxIdeal m →
    θ_run (Cert.QkvBxIdeal.defs (F := Ideal)) (onTc (τ := Cert.QkvBxIdeal.τ) (Cert.QkvBxIdeal.main (F := Ideal))) ⟨m, fun _ => 0, g⟩ (fun r => (∀ c : Dev Cert.QkvBxIdeal.nD,
      r.2.mem ((c.tc : Thread Cert.QkvBxIdeal.nD Cert.QkvBxIdeal.τ).loc Cert.QkvBxIdeal.main_arg0) = m ((c.tc : Thread Cert.QkvBxIdeal.nD Cert.QkvBxIdeal.τ).loc Cert.QkvBxIdeal.main_arg0)
      ∧ r.2.mem ((c.tc : Thread Cert.QkvBxIdeal.nD Cert.QkvBxIdeal.τ).loc Cert.QkvBxIdeal.main_arg1) = m ((c.tc : Thread Cert.QkvBxIdeal.nD Cert.QkvBxIdeal.τ).loc Cert.QkvBxIdeal.main_arg1))
      ∧ r.2.sem = fun _ => 0)

def quiescent_QkvBxRefIdeal [hQkvBxRefIdeal : Cert.QkvBxRefIdeal.Facts] : Prop :=
  ∀ (m : (ℓ : Loc Cert.QkvBxRefIdeal.nD Cert.QkvBxRefIdeal.τ Cert.QkvBxRefIdeal.sig) → Buf (Elt Ideal) ℓ) (g : Dev Cert.QkvBxRefIdeal.nD → PrngReg), Pre_QkvBxRefIdeal m →
    θ_run (Cert.QkvBxRefIdeal.defs (F := Ideal)) (onTc (τ := Cert.QkvBxRefIdeal.τ) (Cert.QkvBxRefIdeal.main (F := Ideal))) ⟨m, fun _ => 0, g⟩ (fun r => (∀ c : Dev Cert.QkvBxRefIdeal.nD,
      r.2.mem ((c.tc : Thread Cert.QkvBxRefIdeal.nD Cert.QkvBxRefIdeal.τ).loc Cert.QkvBxRefIdeal.main_arg0) = m ((c.tc : Thread Cert.QkvBxRefIdeal.nD Cert.QkvBxRefIdeal.τ).loc Cert.QkvBxRefIdeal.main_arg0)
      ∧ r.2.mem ((c.tc : Thread Cert.QkvBxRefIdeal.nD Cert.QkvBxRefIdeal.τ).loc Cert.QkvBxRefIdeal.main_arg1) = m ((c.tc : Thread Cert.QkvBxRefIdeal.nD Cert.QkvBxRefIdeal.τ).loc Cert.QkvBxRefIdeal.main_arg1))
      ∧ r.2.sem = fun _ => 0)

def quiescent_QkvBw [hQkvBw : Cert.QkvBw.Facts] : Prop :=
  ∀ (m : (ℓ : Loc Cert.QkvBw.nD Cert.QkvBw.τ Cert.QkvBw.sig) → Buf (Elt Bits) ℓ) (g : Dev Cert.QkvBw.nD → PrngReg), Pre_QkvBw m →
    θ_run (Cert.QkvBw.defs (F := Bits)) (onTc (τ := Cert.QkvBw.τ) (Cert.QkvBw.main (F := Bits))) ⟨m, fun _ => 0, g⟩ (fun r => (∀ c : Dev Cert.QkvBw.nD,
      r.2.mem ((c.tc : Thread Cert.QkvBw.nD Cert.QkvBw.τ).loc Cert.QkvBw.main_arg0) = m ((c.tc : Thread Cert.QkvBw.nD Cert.QkvBw.τ).loc Cert.QkvBw.main_arg0)
      ∧ r.2.mem ((c.tc : Thread Cert.QkvBw.nD Cert.QkvBw.τ).loc Cert.QkvBw.main_arg1) = m ((c.tc : Thread Cert.QkvBw.nD Cert.QkvBw.τ).loc Cert.QkvBw.main_arg1))
      ∧ r.2.sem = fun _ => 0)

def quiescent_QkvBwIdeal [hQkvBwIdeal : Cert.QkvBwIdeal.Facts] : Prop :=
  ∀ (m : (ℓ : Loc Cert.QkvBwIdeal.nD Cert.QkvBwIdeal.τ Cert.QkvBwIdeal.sig) → Buf (Elt Ideal) ℓ) (g : Dev Cert.QkvBwIdeal.nD → PrngReg), Pre_QkvBwIdeal m →
    θ_run (Cert.QkvBwIdeal.defs (F := Ideal)) (onTc (τ := Cert.QkvBwIdeal.τ) (Cert.QkvBwIdeal.main (F := Ideal))) ⟨m, fun _ => 0, g⟩ (fun r => (∀ c : Dev Cert.QkvBwIdeal.nD,
      r.2.mem ((c.tc : Thread Cert.QkvBwIdeal.nD Cert.QkvBwIdeal.τ).loc Cert.QkvBwIdeal.main_arg0) = m ((c.tc : Thread Cert.QkvBwIdeal.nD Cert.QkvBwIdeal.τ).loc Cert.QkvBwIdeal.main_arg0)
      ∧ r.2.mem ((c.tc : Thread Cert.QkvBwIdeal.nD Cert.QkvBwIdeal.τ).loc Cert.QkvBwIdeal.main_arg1) = m ((c.tc : Thread Cert.QkvBwIdeal.nD Cert.QkvBwIdeal.τ).loc Cert.QkvBwIdeal.main_arg1))
      ∧ r.2.sem = fun _ => 0)

def quiescent_QkvBwRefIdeal [hQkvBwRefIdeal : Cert.QkvBwRefIdeal.Facts] : Prop :=
  ∀ (m : (ℓ : Loc Cert.QkvBwRefIdeal.nD Cert.QkvBwRefIdeal.τ Cert.QkvBwRefIdeal.sig) → Buf (Elt Ideal) ℓ) (g : Dev Cert.QkvBwRefIdeal.nD → PrngReg), Pre_QkvBwRefIdeal m →
    θ_run (Cert.QkvBwRefIdeal.defs (F := Ideal)) (onTc (τ := Cert.QkvBwRefIdeal.τ) (Cert.QkvBwRefIdeal.main (F := Ideal))) ⟨m, fun _ => 0, g⟩ (fun r => (∀ c : Dev Cert.QkvBwRefIdeal.nD,
      r.2.mem ((c.tc : Thread Cert.QkvBwRefIdeal.nD Cert.QkvBwRefIdeal.τ).loc Cert.QkvBwRefIdeal.main_arg0) = m ((c.tc : Thread Cert.QkvBwRefIdeal.nD Cert.QkvBwRefIdeal.τ).loc Cert.QkvBwRefIdeal.main_arg0)
      ∧ r.2.mem ((c.tc : Thread Cert.QkvBwRefIdeal.nD Cert.QkvBwRefIdeal.τ).loc Cert.QkvBwRefIdeal.main_arg1) = m ((c.tc : Thread Cert.QkvBwRefIdeal.nD Cert.QkvBwRefIdeal.τ).loc Cert.QkvBwRefIdeal.main_arg1))
      ∧ r.2.sem = fun _ => 0)

def quiescent_GateIn [hGateIn : Cert.GateIn.Facts] : Prop :=
  ∀ (m : (ℓ : Loc Cert.GateIn.nD Cert.GateIn.τ Cert.GateIn.sig) → Buf (Elt Bits) ℓ) (g : Dev Cert.GateIn.nD → PrngReg), Pre_GateIn m →
    θ_run (Cert.GateIn.defs (F := Bits)) (onTc (τ := Cert.GateIn.τ) (Cert.GateIn.main (F := Bits))) ⟨m, fun _ => 0, g⟩ (fun r => (∀ c : Dev Cert.GateIn.nD,
      r.2.mem ((c.tc : Thread Cert.GateIn.nD Cert.GateIn.τ).loc Cert.GateIn.main_arg0) = m ((c.tc : Thread Cert.GateIn.nD Cert.GateIn.τ).loc Cert.GateIn.main_arg0)
      ∧ r.2.mem ((c.tc : Thread Cert.GateIn.nD Cert.GateIn.τ).loc Cert.GateIn.main_arg1) = m ((c.tc : Thread Cert.GateIn.nD Cert.GateIn.τ).loc Cert.GateIn.main_arg1))
      ∧ r.2.sem = fun _ => 0)

def quiescent_GateInIdeal [hGateInIdeal : Cert.GateInIdeal.Facts] : Prop :=
  ∀ (m : (ℓ : Loc Cert.GateInIdeal.nD Cert.GateInIdeal.τ Cert.GateInIdeal.sig) → Buf (Elt Ideal) ℓ) (g : Dev Cert.GateInIdeal.nD → PrngReg), Pre_GateInIdeal m →
    θ_run (Cert.GateInIdeal.defs (F := Ideal)) (onTc (τ := Cert.GateInIdeal.τ) (Cert.GateInIdeal.main (F := Ideal))) ⟨m, fun _ => 0, g⟩ (fun r => (∀ c : Dev Cert.GateInIdeal.nD,
      r.2.mem ((c.tc : Thread Cert.GateInIdeal.nD Cert.GateInIdeal.τ).loc Cert.GateInIdeal.main_arg0) = m ((c.tc : Thread Cert.GateInIdeal.nD Cert.GateInIdeal.τ).loc Cert.GateInIdeal.main_arg0)
      ∧ r.2.mem ((c.tc : Thread Cert.GateInIdeal.nD Cert.GateInIdeal.τ).loc Cert.GateInIdeal.main_arg1) = m ((c.tc : Thread Cert.GateInIdeal.nD Cert.GateInIdeal.τ).loc Cert.GateInIdeal.main_arg1))
      ∧ r.2.sem = fun _ => 0)

def quiescent_GateInRefIdeal [hGateInRefIdeal : Cert.GateInRefIdeal.Facts] : Prop :=
  ∀ (m : (ℓ : Loc Cert.GateInRefIdeal.nD Cert.GateInRefIdeal.τ Cert.GateInRefIdeal.sig) → Buf (Elt Ideal) ℓ) (g : Dev Cert.GateInRefIdeal.nD → PrngReg), Pre_GateInRefIdeal m →
    θ_run (Cert.GateInRefIdeal.defs (F := Ideal)) (onTc (τ := Cert.GateInRefIdeal.τ) (Cert.GateInRefIdeal.main (F := Ideal))) ⟨m, fun _ => 0, g⟩ (fun r => (∀ c : Dev Cert.GateInRefIdeal.nD,
      r.2.mem ((c.tc : Thread Cert.GateInRefIdeal.nD Cert.GateInRefIdeal.τ).loc Cert.GateInRefIdeal.main_arg0) = m ((c.tc : Thread Cert.GateInRefIdeal.nD Cert.GateInRefIdeal.τ).loc Cert.GateInRefIdeal.main_arg0)
      ∧ r.2.mem ((c.tc : Thread Cert.GateInRefIdeal.nD Cert.GateInRefIdeal.τ).loc Cert.GateInRefIdeal.main_arg1) = m ((c.tc : Thread Cert.GateInRefIdeal.nD Cert.GateInRefIdeal.τ).loc Cert.GateInRefIdeal.main_arg1))
      ∧ r.2.sem = fun _ => 0)

def quiescent_GateInBx [hGateInBx : Cert.GateInBx.Facts] : Prop :=
  ∀ (m : (ℓ : Loc Cert.GateInBx.nD Cert.GateInBx.τ Cert.GateInBx.sig) → Buf (Elt Bits) ℓ) (g : Dev Cert.GateInBx.nD → PrngReg), Pre_GateInBx m →
    θ_run (Cert.GateInBx.defs (F := Bits)) (onTc (τ := Cert.GateInBx.τ) (Cert.GateInBx.main (F := Bits))) ⟨m, fun _ => 0, g⟩ (fun r => (∀ c : Dev Cert.GateInBx.nD,
      r.2.mem ((c.tc : Thread Cert.GateInBx.nD Cert.GateInBx.τ).loc Cert.GateInBx.main_arg0) = m ((c.tc : Thread Cert.GateInBx.nD Cert.GateInBx.τ).loc Cert.GateInBx.main_arg0)
      ∧ r.2.mem ((c.tc : Thread Cert.GateInBx.nD Cert.GateInBx.τ).loc Cert.GateInBx.main_arg1) = m ((c.tc : Thread Cert.GateInBx.nD Cert.GateInBx.τ).loc Cert.GateInBx.main_arg1))
      ∧ r.2.sem = fun _ => 0)

def quiescent_GateInBxIdeal [hGateInBxIdeal : Cert.GateInBxIdeal.Facts] : Prop :=
  ∀ (m : (ℓ : Loc Cert.GateInBxIdeal.nD Cert.GateInBxIdeal.τ Cert.GateInBxIdeal.sig) → Buf (Elt Ideal) ℓ) (g : Dev Cert.GateInBxIdeal.nD → PrngReg), Pre_GateInBxIdeal m →
    θ_run (Cert.GateInBxIdeal.defs (F := Ideal)) (onTc (τ := Cert.GateInBxIdeal.τ) (Cert.GateInBxIdeal.main (F := Ideal))) ⟨m, fun _ => 0, g⟩ (fun r => (∀ c : Dev Cert.GateInBxIdeal.nD,
      r.2.mem ((c.tc : Thread Cert.GateInBxIdeal.nD Cert.GateInBxIdeal.τ).loc Cert.GateInBxIdeal.main_arg0) = m ((c.tc : Thread Cert.GateInBxIdeal.nD Cert.GateInBxIdeal.τ).loc Cert.GateInBxIdeal.main_arg0)
      ∧ r.2.mem ((c.tc : Thread Cert.GateInBxIdeal.nD Cert.GateInBxIdeal.τ).loc Cert.GateInBxIdeal.main_arg1) = m ((c.tc : Thread Cert.GateInBxIdeal.nD Cert.GateInBxIdeal.τ).loc Cert.GateInBxIdeal.main_arg1))
      ∧ r.2.sem = fun _ => 0)

def quiescent_GateInBxRefIdeal [hGateInBxRefIdeal : Cert.GateInBxRefIdeal.Facts] : Prop :=
  ∀ (m : (ℓ : Loc Cert.GateInBxRefIdeal.nD Cert.GateInBxRefIdeal.τ Cert.GateInBxRefIdeal.sig) → Buf (Elt Ideal) ℓ) (g : Dev Cert.GateInBxRefIdeal.nD → PrngReg), Pre_GateInBxRefIdeal m →
    θ_run (Cert.GateInBxRefIdeal.defs (F := Ideal)) (onTc (τ := Cert.GateInBxRefIdeal.τ) (Cert.GateInBxRefIdeal.main (F := Ideal))) ⟨m, fun _ => 0, g⟩ (fun r => (∀ c : Dev Cert.GateInBxRefIdeal.nD,
      r.2.mem ((c.tc : Thread Cert.GateInBxRefIdeal.nD Cert.GateInBxRefIdeal.τ).loc Cert.GateInBxRefIdeal.main_arg0) = m ((c.tc : Thread Cert.GateInBxRefIdeal.nD Cert.GateInBxRefIdeal.τ).loc Cert.GateInBxRefIdeal.main_arg0)
      ∧ r.2.mem ((c.tc : Thread Cert.GateInBxRefIdeal.nD Cert.GateInBxRefIdeal.τ).loc Cert.GateInBxRefIdeal.main_arg1) = m ((c.tc : Thread Cert.GateInBxRefIdeal.nD Cert.GateInBxRefIdeal.τ).loc Cert.GateInBxRefIdeal.main_arg1))
      ∧ r.2.sem = fun _ => 0)

def quiescent_GateInBw [hGateInBw : Cert.GateInBw.Facts] : Prop :=
  ∀ (m : (ℓ : Loc Cert.GateInBw.nD Cert.GateInBw.τ Cert.GateInBw.sig) → Buf (Elt Bits) ℓ) (g : Dev Cert.GateInBw.nD → PrngReg), Pre_GateInBw m →
    θ_run (Cert.GateInBw.defs (F := Bits)) (onTc (τ := Cert.GateInBw.τ) (Cert.GateInBw.main (F := Bits))) ⟨m, fun _ => 0, g⟩ (fun r => (∀ c : Dev Cert.GateInBw.nD,
      r.2.mem ((c.tc : Thread Cert.GateInBw.nD Cert.GateInBw.τ).loc Cert.GateInBw.main_arg0) = m ((c.tc : Thread Cert.GateInBw.nD Cert.GateInBw.τ).loc Cert.GateInBw.main_arg0)
      ∧ r.2.mem ((c.tc : Thread Cert.GateInBw.nD Cert.GateInBw.τ).loc Cert.GateInBw.main_arg1) = m ((c.tc : Thread Cert.GateInBw.nD Cert.GateInBw.τ).loc Cert.GateInBw.main_arg1))
      ∧ r.2.sem = fun _ => 0)

def quiescent_GateInBwIdeal [hGateInBwIdeal : Cert.GateInBwIdeal.Facts] : Prop :=
  ∀ (m : (ℓ : Loc Cert.GateInBwIdeal.nD Cert.GateInBwIdeal.τ Cert.GateInBwIdeal.sig) → Buf (Elt Ideal) ℓ) (g : Dev Cert.GateInBwIdeal.nD → PrngReg), Pre_GateInBwIdeal m →
    θ_run (Cert.GateInBwIdeal.defs (F := Ideal)) (onTc (τ := Cert.GateInBwIdeal.τ) (Cert.GateInBwIdeal.main (F := Ideal))) ⟨m, fun _ => 0, g⟩ (fun r => (∀ c : Dev Cert.GateInBwIdeal.nD,
      r.2.mem ((c.tc : Thread Cert.GateInBwIdeal.nD Cert.GateInBwIdeal.τ).loc Cert.GateInBwIdeal.main_arg0) = m ((c.tc : Thread Cert.GateInBwIdeal.nD Cert.GateInBwIdeal.τ).loc Cert.GateInBwIdeal.main_arg0)
      ∧ r.2.mem ((c.tc : Thread Cert.GateInBwIdeal.nD Cert.GateInBwIdeal.τ).loc Cert.GateInBwIdeal.main_arg1) = m ((c.tc : Thread Cert.GateInBwIdeal.nD Cert.GateInBwIdeal.τ).loc Cert.GateInBwIdeal.main_arg1))
      ∧ r.2.sem = fun _ => 0)

def quiescent_GateInBwRefIdeal [hGateInBwRefIdeal : Cert.GateInBwRefIdeal.Facts] : Prop :=
  ∀ (m : (ℓ : Loc Cert.GateInBwRefIdeal.nD Cert.GateInBwRefIdeal.τ Cert.GateInBwRefIdeal.sig) → Buf (Elt Ideal) ℓ) (g : Dev Cert.GateInBwRefIdeal.nD → PrngReg), Pre_GateInBwRefIdeal m →
    θ_run (Cert.GateInBwRefIdeal.defs (F := Ideal)) (onTc (τ := Cert.GateInBwRefIdeal.τ) (Cert.GateInBwRefIdeal.main (F := Ideal))) ⟨m, fun _ => 0, g⟩ (fun r => (∀ c : Dev Cert.GateInBwRefIdeal.nD,
      r.2.mem ((c.tc : Thread Cert.GateInBwRefIdeal.nD Cert.GateInBwRefIdeal.τ).loc Cert.GateInBwRefIdeal.main_arg0) = m ((c.tc : Thread Cert.GateInBwRefIdeal.nD Cert.GateInBwRefIdeal.τ).loc Cert.GateInBwRefIdeal.main_arg0)
      ∧ r.2.mem ((c.tc : Thread Cert.GateInBwRefIdeal.nD Cert.GateInBwRefIdeal.τ).loc Cert.GateInBwRefIdeal.main_arg1) = m ((c.tc : Thread Cert.GateInBwRefIdeal.nD Cert.GateInBwRefIdeal.τ).loc Cert.GateInBwRefIdeal.main_arg1))
      ∧ r.2.sem = fun _ => 0)

def quiescent_GateOut [hGateOut : Cert.GateOut.Facts] : Prop :=
  ∀ (m : (ℓ : Loc Cert.GateOut.nD Cert.GateOut.τ Cert.GateOut.sig) → Buf (Elt Bits) ℓ) (g : Dev Cert.GateOut.nD → PrngReg), Pre_GateOut m →
    θ_run (Cert.GateOut.defs (F := Bits)) (onTc (τ := Cert.GateOut.τ) (Cert.GateOut.main (F := Bits))) ⟨m, fun _ => 0, g⟩ (fun r => (∀ c : Dev Cert.GateOut.nD,
      r.2.mem ((c.tc : Thread Cert.GateOut.nD Cert.GateOut.τ).loc Cert.GateOut.main_arg0) = m ((c.tc : Thread Cert.GateOut.nD Cert.GateOut.τ).loc Cert.GateOut.main_arg0)
      ∧ r.2.mem ((c.tc : Thread Cert.GateOut.nD Cert.GateOut.τ).loc Cert.GateOut.main_arg1) = m ((c.tc : Thread Cert.GateOut.nD Cert.GateOut.τ).loc Cert.GateOut.main_arg1))
      ∧ r.2.sem = fun _ => 0)

def quiescent_GateOutIdeal [hGateOutIdeal : Cert.GateOutIdeal.Facts] : Prop :=
  ∀ (m : (ℓ : Loc Cert.GateOutIdeal.nD Cert.GateOutIdeal.τ Cert.GateOutIdeal.sig) → Buf (Elt Ideal) ℓ) (g : Dev Cert.GateOutIdeal.nD → PrngReg), Pre_GateOutIdeal m →
    θ_run (Cert.GateOutIdeal.defs (F := Ideal)) (onTc (τ := Cert.GateOutIdeal.τ) (Cert.GateOutIdeal.main (F := Ideal))) ⟨m, fun _ => 0, g⟩ (fun r => (∀ c : Dev Cert.GateOutIdeal.nD,
      r.2.mem ((c.tc : Thread Cert.GateOutIdeal.nD Cert.GateOutIdeal.τ).loc Cert.GateOutIdeal.main_arg0) = m ((c.tc : Thread Cert.GateOutIdeal.nD Cert.GateOutIdeal.τ).loc Cert.GateOutIdeal.main_arg0)
      ∧ r.2.mem ((c.tc : Thread Cert.GateOutIdeal.nD Cert.GateOutIdeal.τ).loc Cert.GateOutIdeal.main_arg1) = m ((c.tc : Thread Cert.GateOutIdeal.nD Cert.GateOutIdeal.τ).loc Cert.GateOutIdeal.main_arg1))
      ∧ r.2.sem = fun _ => 0)

def quiescent_GateOutRefIdeal [hGateOutRefIdeal : Cert.GateOutRefIdeal.Facts] : Prop :=
  ∀ (m : (ℓ : Loc Cert.GateOutRefIdeal.nD Cert.GateOutRefIdeal.τ Cert.GateOutRefIdeal.sig) → Buf (Elt Ideal) ℓ) (g : Dev Cert.GateOutRefIdeal.nD → PrngReg), Pre_GateOutRefIdeal m →
    θ_run (Cert.GateOutRefIdeal.defs (F := Ideal)) (onTc (τ := Cert.GateOutRefIdeal.τ) (Cert.GateOutRefIdeal.main (F := Ideal))) ⟨m, fun _ => 0, g⟩ (fun r => (∀ c : Dev Cert.GateOutRefIdeal.nD,
      r.2.mem ((c.tc : Thread Cert.GateOutRefIdeal.nD Cert.GateOutRefIdeal.τ).loc Cert.GateOutRefIdeal.main_arg0) = m ((c.tc : Thread Cert.GateOutRefIdeal.nD Cert.GateOutRefIdeal.τ).loc Cert.GateOutRefIdeal.main_arg0)
      ∧ r.2.mem ((c.tc : Thread Cert.GateOutRefIdeal.nD Cert.GateOutRefIdeal.τ).loc Cert.GateOutRefIdeal.main_arg1) = m ((c.tc : Thread Cert.GateOutRefIdeal.nD Cert.GateOutRefIdeal.τ).loc Cert.GateOutRefIdeal.main_arg1))
      ∧ r.2.sem = fun _ => 0)

def quiescent_GateOutBx [hGateOutBx : Cert.GateOutBx.Facts] : Prop :=
  ∀ (m : (ℓ : Loc Cert.GateOutBx.nD Cert.GateOutBx.τ Cert.GateOutBx.sig) → Buf (Elt Bits) ℓ) (g : Dev Cert.GateOutBx.nD → PrngReg), Pre_GateOutBx m →
    θ_run (Cert.GateOutBx.defs (F := Bits)) (onTc (τ := Cert.GateOutBx.τ) (Cert.GateOutBx.main (F := Bits))) ⟨m, fun _ => 0, g⟩ (fun r => (∀ c : Dev Cert.GateOutBx.nD,
      r.2.mem ((c.tc : Thread Cert.GateOutBx.nD Cert.GateOutBx.τ).loc Cert.GateOutBx.main_arg0) = m ((c.tc : Thread Cert.GateOutBx.nD Cert.GateOutBx.τ).loc Cert.GateOutBx.main_arg0)
      ∧ r.2.mem ((c.tc : Thread Cert.GateOutBx.nD Cert.GateOutBx.τ).loc Cert.GateOutBx.main_arg1) = m ((c.tc : Thread Cert.GateOutBx.nD Cert.GateOutBx.τ).loc Cert.GateOutBx.main_arg1))
      ∧ r.2.sem = fun _ => 0)

def quiescent_GateOutBxIdeal [hGateOutBxIdeal : Cert.GateOutBxIdeal.Facts] : Prop :=
  ∀ (m : (ℓ : Loc Cert.GateOutBxIdeal.nD Cert.GateOutBxIdeal.τ Cert.GateOutBxIdeal.sig) → Buf (Elt Ideal) ℓ) (g : Dev Cert.GateOutBxIdeal.nD → PrngReg), Pre_GateOutBxIdeal m →
    θ_run (Cert.GateOutBxIdeal.defs (F := Ideal)) (onTc (τ := Cert.GateOutBxIdeal.τ) (Cert.GateOutBxIdeal.main (F := Ideal))) ⟨m, fun _ => 0, g⟩ (fun r => (∀ c : Dev Cert.GateOutBxIdeal.nD,
      r.2.mem ((c.tc : Thread Cert.GateOutBxIdeal.nD Cert.GateOutBxIdeal.τ).loc Cert.GateOutBxIdeal.main_arg0) = m ((c.tc : Thread Cert.GateOutBxIdeal.nD Cert.GateOutBxIdeal.τ).loc Cert.GateOutBxIdeal.main_arg0)
      ∧ r.2.mem ((c.tc : Thread Cert.GateOutBxIdeal.nD Cert.GateOutBxIdeal.τ).loc Cert.GateOutBxIdeal.main_arg1) = m ((c.tc : Thread Cert.GateOutBxIdeal.nD Cert.GateOutBxIdeal.τ).loc Cert.GateOutBxIdeal.main_arg1))
      ∧ r.2.sem = fun _ => 0)

def quiescent_GateOutBxRefIdeal [hGateOutBxRefIdeal : Cert.GateOutBxRefIdeal.Facts] : Prop :=
  ∀ (m : (ℓ : Loc Cert.GateOutBxRefIdeal.nD Cert.GateOutBxRefIdeal.τ Cert.GateOutBxRefIdeal.sig) → Buf (Elt Ideal) ℓ) (g : Dev Cert.GateOutBxRefIdeal.nD → PrngReg), Pre_GateOutBxRefIdeal m →
    θ_run (Cert.GateOutBxRefIdeal.defs (F := Ideal)) (onTc (τ := Cert.GateOutBxRefIdeal.τ) (Cert.GateOutBxRefIdeal.main (F := Ideal))) ⟨m, fun _ => 0, g⟩ (fun r => (∀ c : Dev Cert.GateOutBxRefIdeal.nD,
      r.2.mem ((c.tc : Thread Cert.GateOutBxRefIdeal.nD Cert.GateOutBxRefIdeal.τ).loc Cert.GateOutBxRefIdeal.main_arg0) = m ((c.tc : Thread Cert.GateOutBxRefIdeal.nD Cert.GateOutBxRefIdeal.τ).loc Cert.GateOutBxRefIdeal.main_arg0)
      ∧ r.2.mem ((c.tc : Thread Cert.GateOutBxRefIdeal.nD Cert.GateOutBxRefIdeal.τ).loc Cert.GateOutBxRefIdeal.main_arg1) = m ((c.tc : Thread Cert.GateOutBxRefIdeal.nD Cert.GateOutBxRefIdeal.τ).loc Cert.GateOutBxRefIdeal.main_arg1))
      ∧ r.2.sem = fun _ => 0)

def quiescent_GateOutBw [hGateOutBw : Cert.GateOutBw.Facts] : Prop :=
  ∀ (m : (ℓ : Loc Cert.GateOutBw.nD Cert.GateOutBw.τ Cert.GateOutBw.sig) → Buf (Elt Bits) ℓ) (g : Dev Cert.GateOutBw.nD → PrngReg), Pre_GateOutBw m →
    θ_run (Cert.GateOutBw.defs (F := Bits)) (onTc (τ := Cert.GateOutBw.τ) (Cert.GateOutBw.main (F := Bits))) ⟨m, fun _ => 0, g⟩ (fun r => (∀ c : Dev Cert.GateOutBw.nD,
      r.2.mem ((c.tc : Thread Cert.GateOutBw.nD Cert.GateOutBw.τ).loc Cert.GateOutBw.main_arg0) = m ((c.tc : Thread Cert.GateOutBw.nD Cert.GateOutBw.τ).loc Cert.GateOutBw.main_arg0)
      ∧ r.2.mem ((c.tc : Thread Cert.GateOutBw.nD Cert.GateOutBw.τ).loc Cert.GateOutBw.main_arg1) = m ((c.tc : Thread Cert.GateOutBw.nD Cert.GateOutBw.τ).loc Cert.GateOutBw.main_arg1))
      ∧ r.2.sem = fun _ => 0)

def quiescent_GateOutBwIdeal [hGateOutBwIdeal : Cert.GateOutBwIdeal.Facts] : Prop :=
  ∀ (m : (ℓ : Loc Cert.GateOutBwIdeal.nD Cert.GateOutBwIdeal.τ Cert.GateOutBwIdeal.sig) → Buf (Elt Ideal) ℓ) (g : Dev Cert.GateOutBwIdeal.nD → PrngReg), Pre_GateOutBwIdeal m →
    θ_run (Cert.GateOutBwIdeal.defs (F := Ideal)) (onTc (τ := Cert.GateOutBwIdeal.τ) (Cert.GateOutBwIdeal.main (F := Ideal))) ⟨m, fun _ => 0, g⟩ (fun r => (∀ c : Dev Cert.GateOutBwIdeal.nD,
      r.2.mem ((c.tc : Thread Cert.GateOutBwIdeal.nD Cert.GateOutBwIdeal.τ).loc Cert.GateOutBwIdeal.main_arg0) = m ((c.tc : Thread Cert.GateOutBwIdeal.nD Cert.GateOutBwIdeal.τ).loc Cert.GateOutBwIdeal.main_arg0)
      ∧ r.2.mem ((c.tc : Thread Cert.GateOutBwIdeal.nD Cert.GateOutBwIdeal.τ).loc Cert.GateOutBwIdeal.main_arg1) = m ((c.tc : Thread Cert.GateOutBwIdeal.nD Cert.GateOutBwIdeal.τ).loc Cert.GateOutBwIdeal.main_arg1))
      ∧ r.2.sem = fun _ => 0)

def quiescent_GateOutBwRefIdeal [hGateOutBwRefIdeal : Cert.GateOutBwRefIdeal.Facts] : Prop :=
  ∀ (m : (ℓ : Loc Cert.GateOutBwRefIdeal.nD Cert.GateOutBwRefIdeal.τ Cert.GateOutBwRefIdeal.sig) → Buf (Elt Ideal) ℓ) (g : Dev Cert.GateOutBwRefIdeal.nD → PrngReg), Pre_GateOutBwRefIdeal m →
    θ_run (Cert.GateOutBwRefIdeal.defs (F := Ideal)) (onTc (τ := Cert.GateOutBwRefIdeal.τ) (Cert.GateOutBwRefIdeal.main (F := Ideal))) ⟨m, fun _ => 0, g⟩ (fun r => (∀ c : Dev Cert.GateOutBwRefIdeal.nD,
      r.2.mem ((c.tc : Thread Cert.GateOutBwRefIdeal.nD Cert.GateOutBwRefIdeal.τ).loc Cert.GateOutBwRefIdeal.main_arg0) = m ((c.tc : Thread Cert.GateOutBwRefIdeal.nD Cert.GateOutBwRefIdeal.τ).loc Cert.GateOutBwRefIdeal.main_arg0)
      ∧ r.2.mem ((c.tc : Thread Cert.GateOutBwRefIdeal.nD Cert.GateOutBwRefIdeal.τ).loc Cert.GateOutBwRefIdeal.main_arg1) = m ((c.tc : Thread Cert.GateOutBwRefIdeal.nD Cert.GateOutBwRefIdeal.τ).loc Cert.GateOutBwRefIdeal.main_arg1))
      ∧ r.2.sem = fun _ => 0)

def quiescent_FfnUp0Bx [hFfnUp0Bx : Cert.FfnUp0Bx.Facts] : Prop :=
  ∀ (m : (ℓ : Loc Cert.FfnUp0Bx.nD Cert.FfnUp0Bx.τ Cert.FfnUp0Bx.sig) → Buf (Elt Bits) ℓ) (g : Dev Cert.FfnUp0Bx.nD → PrngReg), Pre_FfnUp0Bx m →
    θ_run (Cert.FfnUp0Bx.defs (F := Bits)) (onTc (τ := Cert.FfnUp0Bx.τ) (Cert.FfnUp0Bx.main (F := Bits))) ⟨m, fun _ => 0, g⟩ (fun r => (∀ c : Dev Cert.FfnUp0Bx.nD,
      r.2.mem ((c.tc : Thread Cert.FfnUp0Bx.nD Cert.FfnUp0Bx.τ).loc Cert.FfnUp0Bx.main_arg0) = m ((c.tc : Thread Cert.FfnUp0Bx.nD Cert.FfnUp0Bx.τ).loc Cert.FfnUp0Bx.main_arg0)
      ∧ r.2.mem ((c.tc : Thread Cert.FfnUp0Bx.nD Cert.FfnUp0Bx.τ).loc Cert.FfnUp0Bx.main_arg1) = m ((c.tc : Thread Cert.FfnUp0Bx.nD Cert.FfnUp0Bx.τ).loc Cert.FfnUp0Bx.main_arg1))
      ∧ r.2.sem = fun _ => 0)

def quiescent_FfnUp0BxIdeal [hFfnUp0BxIdeal : Cert.FfnUp0BxIdeal.Facts] : Prop :=
  ∀ (m : (ℓ : Loc Cert.FfnUp0BxIdeal.nD Cert.FfnUp0BxIdeal.τ Cert.FfnUp0BxIdeal.sig) → Buf (Elt Ideal) ℓ) (g : Dev Cert.FfnUp0BxIdeal.nD → PrngReg), Pre_FfnUp0BxIdeal m →
    θ_run (Cert.FfnUp0BxIdeal.defs (F := Ideal)) (onTc (τ := Cert.FfnUp0BxIdeal.τ) (Cert.FfnUp0BxIdeal.main (F := Ideal))) ⟨m, fun _ => 0, g⟩ (fun r => (∀ c : Dev Cert.FfnUp0BxIdeal.nD,
      r.2.mem ((c.tc : Thread Cert.FfnUp0BxIdeal.nD Cert.FfnUp0BxIdeal.τ).loc Cert.FfnUp0BxIdeal.main_arg0) = m ((c.tc : Thread Cert.FfnUp0BxIdeal.nD Cert.FfnUp0BxIdeal.τ).loc Cert.FfnUp0BxIdeal.main_arg0)
      ∧ r.2.mem ((c.tc : Thread Cert.FfnUp0BxIdeal.nD Cert.FfnUp0BxIdeal.τ).loc Cert.FfnUp0BxIdeal.main_arg1) = m ((c.tc : Thread Cert.FfnUp0BxIdeal.nD Cert.FfnUp0BxIdeal.τ).loc Cert.FfnUp0BxIdeal.main_arg1))
      ∧ r.2.sem = fun _ => 0)

def quiescent_FfnUp0BxRefIdeal [hFfnUp0BxRefIdeal : Cert.FfnUp0BxRefIdeal.Facts] : Prop :=
  ∀ (m : (ℓ : Loc Cert.FfnUp0BxRefIdeal.nD Cert.FfnUp0BxRefIdeal.τ Cert.FfnUp0BxRefIdeal.sig) → Buf (Elt Ideal) ℓ) (g : Dev Cert.FfnUp0BxRefIdeal.nD → PrngReg), Pre_FfnUp0BxRefIdeal m →
    θ_run (Cert.FfnUp0BxRefIdeal.defs (F := Ideal)) (onTc (τ := Cert.FfnUp0BxRefIdeal.τ) (Cert.FfnUp0BxRefIdeal.main (F := Ideal))) ⟨m, fun _ => 0, g⟩ (fun r => (∀ c : Dev Cert.FfnUp0BxRefIdeal.nD,
      r.2.mem ((c.tc : Thread Cert.FfnUp0BxRefIdeal.nD Cert.FfnUp0BxRefIdeal.τ).loc Cert.FfnUp0BxRefIdeal.main_arg0) = m ((c.tc : Thread Cert.FfnUp0BxRefIdeal.nD Cert.FfnUp0BxRefIdeal.τ).loc Cert.FfnUp0BxRefIdeal.main_arg0)
      ∧ r.2.mem ((c.tc : Thread Cert.FfnUp0BxRefIdeal.nD Cert.FfnUp0BxRefIdeal.τ).loc Cert.FfnUp0BxRefIdeal.main_arg1) = m ((c.tc : Thread Cert.FfnUp0BxRefIdeal.nD Cert.FfnUp0BxRefIdeal.τ).loc Cert.FfnUp0BxRefIdeal.main_arg1))
      ∧ r.2.sem = fun _ => 0)

def quiescent_FfnUp0Bw [hFfnUp0Bw : Cert.FfnUp0Bw.Facts] : Prop :=
  ∀ (m : (ℓ : Loc Cert.FfnUp0Bw.nD Cert.FfnUp0Bw.τ Cert.FfnUp0Bw.sig) → Buf (Elt Bits) ℓ) (g : Dev Cert.FfnUp0Bw.nD → PrngReg), Pre_FfnUp0Bw m →
    θ_run (Cert.FfnUp0Bw.defs (F := Bits)) (onTc (τ := Cert.FfnUp0Bw.τ) (Cert.FfnUp0Bw.main (F := Bits))) ⟨m, fun _ => 0, g⟩ (fun r => (∀ c : Dev Cert.FfnUp0Bw.nD,
      r.2.mem ((c.tc : Thread Cert.FfnUp0Bw.nD Cert.FfnUp0Bw.τ).loc Cert.FfnUp0Bw.main_arg0) = m ((c.tc : Thread Cert.FfnUp0Bw.nD Cert.FfnUp0Bw.τ).loc Cert.FfnUp0Bw.main_arg0)
      ∧ r.2.mem ((c.tc : Thread Cert.FfnUp0Bw.nD Cert.FfnUp0Bw.τ).loc Cert.FfnUp0Bw.main_arg1) = m ((c.tc : Thread Cert.FfnUp0Bw.nD Cert.FfnUp0Bw.τ).loc Cert.FfnUp0Bw.main_arg1))
      ∧ r.2.sem = fun _ => 0)

def quiescent_FfnUp0BwIdeal [hFfnUp0BwIdeal : Cert.FfnUp0BwIdeal.Facts] : Prop :=
  ∀ (m : (ℓ : Loc Cert.FfnUp0BwIdeal.nD Cert.FfnUp0BwIdeal.τ Cert.FfnUp0BwIdeal.sig) → Buf (Elt Ideal) ℓ) (g : Dev Cert.FfnUp0BwIdeal.nD → PrngReg), Pre_FfnUp0BwIdeal m →
    θ_run (Cert.FfnUp0BwIdeal.defs (F := Ideal)) (onTc (τ := Cert.FfnUp0BwIdeal.τ) (Cert.FfnUp0BwIdeal.main (F := Ideal))) ⟨m, fun _ => 0, g⟩ (fun r => (∀ c : Dev Cert.FfnUp0BwIdeal.nD,
      r.2.mem ((c.tc : Thread Cert.FfnUp0BwIdeal.nD Cert.FfnUp0BwIdeal.τ).loc Cert.FfnUp0BwIdeal.main_arg0) = m ((c.tc : Thread Cert.FfnUp0BwIdeal.nD Cert.FfnUp0BwIdeal.τ).loc Cert.FfnUp0BwIdeal.main_arg0)
      ∧ r.2.mem ((c.tc : Thread Cert.FfnUp0BwIdeal.nD Cert.FfnUp0BwIdeal.τ).loc Cert.FfnUp0BwIdeal.main_arg1) = m ((c.tc : Thread Cert.FfnUp0BwIdeal.nD Cert.FfnUp0BwIdeal.τ).loc Cert.FfnUp0BwIdeal.main_arg1))
      ∧ r.2.sem = fun _ => 0)

def quiescent_FfnUp0BwRefIdeal [hFfnUp0BwRefIdeal : Cert.FfnUp0BwRefIdeal.Facts] : Prop :=
  ∀ (m : (ℓ : Loc Cert.FfnUp0BwRefIdeal.nD Cert.FfnUp0BwRefIdeal.τ Cert.FfnUp0BwRefIdeal.sig) → Buf (Elt Ideal) ℓ) (g : Dev Cert.FfnUp0BwRefIdeal.nD → PrngReg), Pre_FfnUp0BwRefIdeal m →
    θ_run (Cert.FfnUp0BwRefIdeal.defs (F := Ideal)) (onTc (τ := Cert.FfnUp0BwRefIdeal.τ) (Cert.FfnUp0BwRefIdeal.main (F := Ideal))) ⟨m, fun _ => 0, g⟩ (fun r => (∀ c : Dev Cert.FfnUp0BwRefIdeal.nD,
      r.2.mem ((c.tc : Thread Cert.FfnUp0BwRefIdeal.nD Cert.FfnUp0BwRefIdeal.τ).loc Cert.FfnUp0BwRefIdeal.main_arg0) = m ((c.tc : Thread Cert.FfnUp0BwRefIdeal.nD Cert.FfnUp0BwRefIdeal.τ).loc Cert.FfnUp0BwRefIdeal.main_arg0)
      ∧ r.2.mem ((c.tc : Thread Cert.FfnUp0BwRefIdeal.nD Cert.FfnUp0BwRefIdeal.τ).loc Cert.FfnUp0BwRefIdeal.main_arg1) = m ((c.tc : Thread Cert.FfnUp0BwRefIdeal.nD Cert.FfnUp0BwRefIdeal.τ).loc Cert.FfnUp0BwRefIdeal.main_arg1))
      ∧ r.2.sem = fun _ => 0)

def quiescent_FfnUpBx [hFfnUpBx : Cert.FfnUpBx.Facts] : Prop :=
  ∀ (m : (ℓ : Loc Cert.FfnUpBx.nD Cert.FfnUpBx.τ Cert.FfnUpBx.sig) → Buf (Elt Bits) ℓ) (g : Dev Cert.FfnUpBx.nD → PrngReg), Pre_FfnUpBx m →
    θ_run (Cert.FfnUpBx.defs (F := Bits)) (onTc (τ := Cert.FfnUpBx.τ) (Cert.FfnUpBx.main (F := Bits))) ⟨m, fun _ => 0, g⟩ (fun r => (∀ c : Dev Cert.FfnUpBx.nD,
      r.2.mem ((c.tc : Thread Cert.FfnUpBx.nD Cert.FfnUpBx.τ).loc Cert.FfnUpBx.main_arg0) = m ((c.tc : Thread Cert.FfnUpBx.nD Cert.FfnUpBx.τ).loc Cert.FfnUpBx.main_arg0)
      ∧ r.2.mem ((c.tc : Thread Cert.FfnUpBx.nD Cert.FfnUpBx.τ).loc Cert.FfnUpBx.main_arg1) = m ((c.tc : Thread Cert.FfnUpBx.nD Cert.FfnUpBx.τ).loc Cert.FfnUpBx.main_arg1))
      ∧ r.2.sem = fun _ => 0)

def quiescent_FfnUpBxIdeal [hFfnUpBxIdeal : Cert.FfnUpBxIdeal.Facts] : Prop :=
  ∀ (m : (ℓ : Loc Cert.FfnUpBxIdeal.nD Cert.FfnUpBxIdeal.τ Cert.FfnUpBxIdeal.sig) → Buf (Elt Ideal) ℓ) (g : Dev Cert.FfnUpBxIdeal.nD → PrngReg), Pre_FfnUpBxIdeal m →
    θ_run (Cert.FfnUpBxIdeal.defs (F := Ideal)) (onTc (τ := Cert.FfnUpBxIdeal.τ) (Cert.FfnUpBxIdeal.main (F := Ideal))) ⟨m, fun _ => 0, g⟩ (fun r => (∀ c : Dev Cert.FfnUpBxIdeal.nD,
      r.2.mem ((c.tc : Thread Cert.FfnUpBxIdeal.nD Cert.FfnUpBxIdeal.τ).loc Cert.FfnUpBxIdeal.main_arg0) = m ((c.tc : Thread Cert.FfnUpBxIdeal.nD Cert.FfnUpBxIdeal.τ).loc Cert.FfnUpBxIdeal.main_arg0)
      ∧ r.2.mem ((c.tc : Thread Cert.FfnUpBxIdeal.nD Cert.FfnUpBxIdeal.τ).loc Cert.FfnUpBxIdeal.main_arg1) = m ((c.tc : Thread Cert.FfnUpBxIdeal.nD Cert.FfnUpBxIdeal.τ).loc Cert.FfnUpBxIdeal.main_arg1))
      ∧ r.2.sem = fun _ => 0)

def quiescent_FfnUpBxRefIdeal [hFfnUpBxRefIdeal : Cert.FfnUpBxRefIdeal.Facts] : Prop :=
  ∀ (m : (ℓ : Loc Cert.FfnUpBxRefIdeal.nD Cert.FfnUpBxRefIdeal.τ Cert.FfnUpBxRefIdeal.sig) → Buf (Elt Ideal) ℓ) (g : Dev Cert.FfnUpBxRefIdeal.nD → PrngReg), Pre_FfnUpBxRefIdeal m →
    θ_run (Cert.FfnUpBxRefIdeal.defs (F := Ideal)) (onTc (τ := Cert.FfnUpBxRefIdeal.τ) (Cert.FfnUpBxRefIdeal.main (F := Ideal))) ⟨m, fun _ => 0, g⟩ (fun r => (∀ c : Dev Cert.FfnUpBxRefIdeal.nD,
      r.2.mem ((c.tc : Thread Cert.FfnUpBxRefIdeal.nD Cert.FfnUpBxRefIdeal.τ).loc Cert.FfnUpBxRefIdeal.main_arg0) = m ((c.tc : Thread Cert.FfnUpBxRefIdeal.nD Cert.FfnUpBxRefIdeal.τ).loc Cert.FfnUpBxRefIdeal.main_arg0)
      ∧ r.2.mem ((c.tc : Thread Cert.FfnUpBxRefIdeal.nD Cert.FfnUpBxRefIdeal.τ).loc Cert.FfnUpBxRefIdeal.main_arg1) = m ((c.tc : Thread Cert.FfnUpBxRefIdeal.nD Cert.FfnUpBxRefIdeal.τ).loc Cert.FfnUpBxRefIdeal.main_arg1))
      ∧ r.2.sem = fun _ => 0)

def quiescent_FfnUpBw [hFfnUpBw : Cert.FfnUpBw.Facts] : Prop :=
  ∀ (m : (ℓ : Loc Cert.FfnUpBw.nD Cert.FfnUpBw.τ Cert.FfnUpBw.sig) → Buf (Elt Bits) ℓ) (g : Dev Cert.FfnUpBw.nD → PrngReg), Pre_FfnUpBw m →
    θ_run (Cert.FfnUpBw.defs (F := Bits)) (onTc (τ := Cert.FfnUpBw.τ) (Cert.FfnUpBw.main (F := Bits))) ⟨m, fun _ => 0, g⟩ (fun r => (∀ c : Dev Cert.FfnUpBw.nD,
      r.2.mem ((c.tc : Thread Cert.FfnUpBw.nD Cert.FfnUpBw.τ).loc Cert.FfnUpBw.main_arg0) = m ((c.tc : Thread Cert.FfnUpBw.nD Cert.FfnUpBw.τ).loc Cert.FfnUpBw.main_arg0)
      ∧ r.2.mem ((c.tc : Thread Cert.FfnUpBw.nD Cert.FfnUpBw.τ).loc Cert.FfnUpBw.main_arg1) = m ((c.tc : Thread Cert.FfnUpBw.nD Cert.FfnUpBw.τ).loc Cert.FfnUpBw.main_arg1))
      ∧ r.2.sem = fun _ => 0)

def quiescent_FfnUpBwIdeal [hFfnUpBwIdeal : Cert.FfnUpBwIdeal.Facts] : Prop :=
  ∀ (m : (ℓ : Loc Cert.FfnUpBwIdeal.nD Cert.FfnUpBwIdeal.τ Cert.FfnUpBwIdeal.sig) → Buf (Elt Ideal) ℓ) (g : Dev Cert.FfnUpBwIdeal.nD → PrngReg), Pre_FfnUpBwIdeal m →
    θ_run (Cert.FfnUpBwIdeal.defs (F := Ideal)) (onTc (τ := Cert.FfnUpBwIdeal.τ) (Cert.FfnUpBwIdeal.main (F := Ideal))) ⟨m, fun _ => 0, g⟩ (fun r => (∀ c : Dev Cert.FfnUpBwIdeal.nD,
      r.2.mem ((c.tc : Thread Cert.FfnUpBwIdeal.nD Cert.FfnUpBwIdeal.τ).loc Cert.FfnUpBwIdeal.main_arg0) = m ((c.tc : Thread Cert.FfnUpBwIdeal.nD Cert.FfnUpBwIdeal.τ).loc Cert.FfnUpBwIdeal.main_arg0)
      ∧ r.2.mem ((c.tc : Thread Cert.FfnUpBwIdeal.nD Cert.FfnUpBwIdeal.τ).loc Cert.FfnUpBwIdeal.main_arg1) = m ((c.tc : Thread Cert.FfnUpBwIdeal.nD Cert.FfnUpBwIdeal.τ).loc Cert.FfnUpBwIdeal.main_arg1))
      ∧ r.2.sem = fun _ => 0)

def quiescent_FfnUpBwRefIdeal [hFfnUpBwRefIdeal : Cert.FfnUpBwRefIdeal.Facts] : Prop :=
  ∀ (m : (ℓ : Loc Cert.FfnUpBwRefIdeal.nD Cert.FfnUpBwRefIdeal.τ Cert.FfnUpBwRefIdeal.sig) → Buf (Elt Ideal) ℓ) (g : Dev Cert.FfnUpBwRefIdeal.nD → PrngReg), Pre_FfnUpBwRefIdeal m →
    θ_run (Cert.FfnUpBwRefIdeal.defs (F := Ideal)) (onTc (τ := Cert.FfnUpBwRefIdeal.τ) (Cert.FfnUpBwRefIdeal.main (F := Ideal))) ⟨m, fun _ => 0, g⟩ (fun r => (∀ c : Dev Cert.FfnUpBwRefIdeal.nD,
      r.2.mem ((c.tc : Thread Cert.FfnUpBwRefIdeal.nD Cert.FfnUpBwRefIdeal.τ).loc Cert.FfnUpBwRefIdeal.main_arg0) = m ((c.tc : Thread Cert.FfnUpBwRefIdeal.nD Cert.FfnUpBwRefIdeal.τ).loc Cert.FfnUpBwRefIdeal.main_arg0)
      ∧ r.2.mem ((c.tc : Thread Cert.FfnUpBwRefIdeal.nD Cert.FfnUpBwRefIdeal.τ).loc Cert.FfnUpBwRefIdeal.main_arg1) = m ((c.tc : Thread Cert.FfnUpBwRefIdeal.nD Cert.FfnUpBwRefIdeal.τ).loc Cert.FfnUpBwRefIdeal.main_arg1))
      ∧ r.2.sem = fun _ => 0)

def quiescent_AdamwSmall [hAdamwSmall : Cert.AdamwSmall.Facts] : Prop :=
  ∀ (m : (ℓ : Loc Cert.AdamwSmall.nD Cert.AdamwSmall.τ Cert.AdamwSmall.sig) → Buf (Elt Bits) ℓ) (g : Dev Cert.AdamwSmall.nD → PrngReg), Pre_AdamwSmall m →
    θ_run (Cert.AdamwSmall.defs (F := Bits)) (onTc (τ := Cert.AdamwSmall.τ) (Cert.AdamwSmall.main (F := Bits))) ⟨m, fun _ => 0, g⟩ (fun r => (∀ c : Dev Cert.AdamwSmall.nD,
      r.2.mem ((c.tc : Thread Cert.AdamwSmall.nD Cert.AdamwSmall.τ).loc Cert.AdamwSmall.main_arg0) = m ((c.tc : Thread Cert.AdamwSmall.nD Cert.AdamwSmall.τ).loc Cert.AdamwSmall.main_arg0)
      ∧ r.2.mem ((c.tc : Thread Cert.AdamwSmall.nD Cert.AdamwSmall.τ).loc Cert.AdamwSmall.main_arg1) = m ((c.tc : Thread Cert.AdamwSmall.nD Cert.AdamwSmall.τ).loc Cert.AdamwSmall.main_arg1)
      ∧ r.2.mem ((c.tc : Thread Cert.AdamwSmall.nD Cert.AdamwSmall.τ).loc Cert.AdamwSmall.main_arg2) = m ((c.tc : Thread Cert.AdamwSmall.nD Cert.AdamwSmall.τ).loc Cert.AdamwSmall.main_arg2)
      ∧ r.2.mem ((c.tc : Thread Cert.AdamwSmall.nD Cert.AdamwSmall.τ).loc Cert.AdamwSmall.main_arg3) = m ((c.tc : Thread Cert.AdamwSmall.nD Cert.AdamwSmall.τ).loc Cert.AdamwSmall.main_arg3))
      ∧ r.2.sem = fun _ => 0)

def quiescent_AdamwSmallIdeal [hAdamwSmallIdeal : Cert.AdamwSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg), Pre_AdamwSmallIdeal m →
    θ_run (Cert.AdamwSmallIdeal.defs (F := Ideal)) (onTc (τ := Cert.AdamwSmallIdeal.τ) (Cert.AdamwSmallIdeal.main (F := Ideal))) ⟨m, fun _ => 0, g⟩ (fun r => (∀ c : Dev Cert.AdamwSmallIdeal.nD,
      r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
      ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
      ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
      ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ r.2.sem = fun _ => 0)

def quiescent_AdamwSmallRefIdeal [hAdamwSmallRefIdeal : Cert.AdamwSmallRefIdeal.Facts] : Prop :=
  ∀ (m : (ℓ : Loc Cert.AdamwSmallRefIdeal.nD Cert.AdamwSmallRefIdeal.τ Cert.AdamwSmallRefIdeal.sig) → Buf (Elt Ideal) ℓ) (g : Dev Cert.AdamwSmallRefIdeal.nD → PrngReg), Pre_AdamwSmallRefIdeal m →
    θ_run (Cert.AdamwSmallRefIdeal.defs (F := Ideal)) (onTc (τ := Cert.AdamwSmallRefIdeal.τ) (Cert.AdamwSmallRefIdeal.main (F := Ideal))) ⟨m, fun _ => 0, g⟩ (fun r => (∀ c : Dev Cert.AdamwSmallRefIdeal.nD,
      r.2.mem ((c.tc : Thread Cert.AdamwSmallRefIdeal.nD Cert.AdamwSmallRefIdeal.τ).loc Cert.AdamwSmallRefIdeal.main_arg0) = m ((c.tc : Thread Cert.AdamwSmallRefIdeal.nD Cert.AdamwSmallRefIdeal.τ).loc Cert.AdamwSmallRefIdeal.main_arg0)
      ∧ r.2.mem ((c.tc : Thread Cert.AdamwSmallRefIdeal.nD Cert.AdamwSmallRefIdeal.τ).loc Cert.AdamwSmallRefIdeal.main_arg1) = m ((c.tc : Thread Cert.AdamwSmallRefIdeal.nD Cert.AdamwSmallRefIdeal.τ).loc Cert.AdamwSmallRefIdeal.main_arg1)
      ∧ r.2.mem ((c.tc : Thread Cert.AdamwSmallRefIdeal.nD Cert.AdamwSmallRefIdeal.τ).loc Cert.AdamwSmallRefIdeal.main_arg2) = m ((c.tc : Thread Cert.AdamwSmallRefIdeal.nD Cert.AdamwSmallRefIdeal.τ).loc Cert.AdamwSmallRefIdeal.main_arg2)
      ∧ r.2.mem ((c.tc : Thread Cert.AdamwSmallRefIdeal.nD Cert.AdamwSmallRefIdeal.τ).loc Cert.AdamwSmallRefIdeal.main_arg3) = m ((c.tc : Thread Cert.AdamwSmallRefIdeal.nD Cert.AdamwSmallRefIdeal.τ).loc Cert.AdamwSmallRefIdeal.main_arg3))
      ∧ r.2.sem = fun _ => 0)

def quiescent_AdamwRepl [hAdamwRepl : Cert.AdamwRepl.Facts] : Prop :=
  ∀ (m : (ℓ : Loc Cert.AdamwRepl.nD Cert.AdamwRepl.τ Cert.AdamwRepl.sig) → Buf (Elt Bits) ℓ) (g : Dev Cert.AdamwRepl.nD → PrngReg), Pre_AdamwRepl m →
    θ_run (Cert.AdamwRepl.defs (F := Bits)) (onTc (τ := Cert.AdamwRepl.τ) (Cert.AdamwRepl.main (F := Bits))) ⟨m, fun _ => 0, g⟩ (fun r => (∀ c : Dev Cert.AdamwRepl.nD,
      r.2.mem ((c.tc : Thread Cert.AdamwRepl.nD Cert.AdamwRepl.τ).loc Cert.AdamwRepl.main_arg0) = m ((c.tc : Thread Cert.AdamwRepl.nD Cert.AdamwRepl.τ).loc Cert.AdamwRepl.main_arg0)
      ∧ r.2.mem ((c.tc : Thread Cert.AdamwRepl.nD Cert.AdamwRepl.τ).loc Cert.AdamwRepl.main_arg1) = m ((c.tc : Thread Cert.AdamwRepl.nD Cert.AdamwRepl.τ).loc Cert.AdamwRepl.main_arg1)
      ∧ r.2.mem ((c.tc : Thread Cert.AdamwRepl.nD Cert.AdamwRepl.τ).loc Cert.AdamwRepl.main_arg2) = m ((c.tc : Thread Cert.AdamwRepl.nD Cert.AdamwRepl.τ).loc Cert.AdamwRepl.main_arg2)
      ∧ r.2.mem ((c.tc : Thread Cert.AdamwRepl.nD Cert.AdamwRepl.τ).loc Cert.AdamwRepl.main_arg3) = m ((c.tc : Thread Cert.AdamwRepl.nD Cert.AdamwRepl.τ).loc Cert.AdamwRepl.main_arg3))
      ∧ r.2.sem = fun _ => 0)

def quiescent_AdamwReplIdeal [hAdamwReplIdeal : Cert.AdamwReplIdeal.Facts] : Prop :=
  ∀ (m : (ℓ : Loc Cert.AdamwReplIdeal.nD Cert.AdamwReplIdeal.τ Cert.AdamwReplIdeal.sig) → Buf (Elt Ideal) ℓ) (g : Dev Cert.AdamwReplIdeal.nD → PrngReg), Pre_AdamwReplIdeal m →
    θ_run (Cert.AdamwReplIdeal.defs (F := Ideal)) (onTc (τ := Cert.AdamwReplIdeal.τ) (Cert.AdamwReplIdeal.main (F := Ideal))) ⟨m, fun _ => 0, g⟩ (fun r => (∀ c : Dev Cert.AdamwReplIdeal.nD,
      r.2.mem ((c.tc : Thread Cert.AdamwReplIdeal.nD Cert.AdamwReplIdeal.τ).loc Cert.AdamwReplIdeal.main_arg0) = m ((c.tc : Thread Cert.AdamwReplIdeal.nD Cert.AdamwReplIdeal.τ).loc Cert.AdamwReplIdeal.main_arg0)
      ∧ r.2.mem ((c.tc : Thread Cert.AdamwReplIdeal.nD Cert.AdamwReplIdeal.τ).loc Cert.AdamwReplIdeal.main_arg1) = m ((c.tc : Thread Cert.AdamwReplIdeal.nD Cert.AdamwReplIdeal.τ).loc Cert.AdamwReplIdeal.main_arg1)
      ∧ r.2.mem ((c.tc : Thread Cert.AdamwReplIdeal.nD Cert.AdamwReplIdeal.τ).loc Cert.AdamwReplIdeal.main_arg2) = m ((c.tc : Thread Cert.AdamwReplIdeal.nD Cert.AdamwReplIdeal.τ).loc Cert.AdamwReplIdeal.main_arg2)
      ∧ r.2.mem ((c.tc : Thread Cert.AdamwReplIdeal.nD Cert.AdamwReplIdeal.τ).loc Cert.AdamwReplIdeal.main_arg3) = m ((c.tc : Thread Cert.AdamwReplIdeal.nD Cert.AdamwReplIdeal.τ).loc Cert.AdamwReplIdeal.main_arg3))
      ∧ r.2.sem = fun _ => 0)

def quiescent_AdamwReplRefIdeal [hAdamwReplRefIdeal : Cert.AdamwReplRefIdeal.Facts] : Prop :=
  ∀ (m : (ℓ : Loc Cert.AdamwReplRefIdeal.nD Cert.AdamwReplRefIdeal.τ Cert.AdamwReplRefIdeal.sig) → Buf (Elt Ideal) ℓ) (g : Dev Cert.AdamwReplRefIdeal.nD → PrngReg), Pre_AdamwReplRefIdeal m →
    θ_run (Cert.AdamwReplRefIdeal.defs (F := Ideal)) (onTc (τ := Cert.AdamwReplRefIdeal.τ) (Cert.AdamwReplRefIdeal.main (F := Ideal))) ⟨m, fun _ => 0, g⟩ (fun r => (∀ c : Dev Cert.AdamwReplRefIdeal.nD,
      r.2.mem ((c.tc : Thread Cert.AdamwReplRefIdeal.nD Cert.AdamwReplRefIdeal.τ).loc Cert.AdamwReplRefIdeal.main_arg0) = m ((c.tc : Thread Cert.AdamwReplRefIdeal.nD Cert.AdamwReplRefIdeal.τ).loc Cert.AdamwReplRefIdeal.main_arg0)
      ∧ r.2.mem ((c.tc : Thread Cert.AdamwReplRefIdeal.nD Cert.AdamwReplRefIdeal.τ).loc Cert.AdamwReplRefIdeal.main_arg1) = m ((c.tc : Thread Cert.AdamwReplRefIdeal.nD Cert.AdamwReplRefIdeal.τ).loc Cert.AdamwReplRefIdeal.main_arg1)
      ∧ r.2.mem ((c.tc : Thread Cert.AdamwReplRefIdeal.nD Cert.AdamwReplRefIdeal.τ).loc Cert.AdamwReplRefIdeal.main_arg2) = m ((c.tc : Thread Cert.AdamwReplRefIdeal.nD Cert.AdamwReplRefIdeal.τ).loc Cert.AdamwReplRefIdeal.main_arg2)
      ∧ r.2.mem ((c.tc : Thread Cert.AdamwReplRefIdeal.nD Cert.AdamwReplRefIdeal.τ).loc Cert.AdamwReplRefIdeal.main_arg3) = m ((c.tc : Thread Cert.AdamwReplRefIdeal.nD Cert.AdamwReplRefIdeal.τ).loc Cert.AdamwReplRefIdeal.main_arg3))
      ∧ r.2.sem = fun _ => 0)

def quiescent_AdamwAdaW [hAdamwAdaW : Cert.AdamwAdaW.Facts] : Prop :=
  ∀ (m : (ℓ : Loc Cert.AdamwAdaW.nD Cert.AdamwAdaW.τ Cert.AdamwAdaW.sig) → Buf (Elt Bits) ℓ) (g : Dev Cert.AdamwAdaW.nD → PrngReg), Pre_AdamwAdaW m →
    θ_run (Cert.AdamwAdaW.defs (F := Bits)) (onTc (τ := Cert.AdamwAdaW.τ) (Cert.AdamwAdaW.main (F := Bits))) ⟨m, fun _ => 0, g⟩ (fun r => (∀ c : Dev Cert.AdamwAdaW.nD,
      r.2.mem ((c.tc : Thread Cert.AdamwAdaW.nD Cert.AdamwAdaW.τ).loc Cert.AdamwAdaW.main_arg0) = m ((c.tc : Thread Cert.AdamwAdaW.nD Cert.AdamwAdaW.τ).loc Cert.AdamwAdaW.main_arg0)
      ∧ r.2.mem ((c.tc : Thread Cert.AdamwAdaW.nD Cert.AdamwAdaW.τ).loc Cert.AdamwAdaW.main_arg1) = m ((c.tc : Thread Cert.AdamwAdaW.nD Cert.AdamwAdaW.τ).loc Cert.AdamwAdaW.main_arg1)
      ∧ r.2.mem ((c.tc : Thread Cert.AdamwAdaW.nD Cert.AdamwAdaW.τ).loc Cert.AdamwAdaW.main_arg2) = m ((c.tc : Thread Cert.AdamwAdaW.nD Cert.AdamwAdaW.τ).loc Cert.AdamwAdaW.main_arg2)
      ∧ r.2.mem ((c.tc : Thread Cert.AdamwAdaW.nD Cert.AdamwAdaW.τ).loc Cert.AdamwAdaW.main_arg3) = m ((c.tc : Thread Cert.AdamwAdaW.nD Cert.AdamwAdaW.τ).loc Cert.AdamwAdaW.main_arg3))
      ∧ r.2.sem = fun _ => 0)

def quiescent_AdamwAdaWIdeal [hAdamwAdaWIdeal : Cert.AdamwAdaWIdeal.Facts] : Prop :=
  ∀ (m : (ℓ : Loc Cert.AdamwAdaWIdeal.nD Cert.AdamwAdaWIdeal.τ Cert.AdamwAdaWIdeal.sig) → Buf (Elt Ideal) ℓ) (g : Dev Cert.AdamwAdaWIdeal.nD → PrngReg), Pre_AdamwAdaWIdeal m →
    θ_run (Cert.AdamwAdaWIdeal.defs (F := Ideal)) (onTc (τ := Cert.AdamwAdaWIdeal.τ) (Cert.AdamwAdaWIdeal.main (F := Ideal))) ⟨m, fun _ => 0, g⟩ (fun r => (∀ c : Dev Cert.AdamwAdaWIdeal.nD,
      r.2.mem ((c.tc : Thread Cert.AdamwAdaWIdeal.nD Cert.AdamwAdaWIdeal.τ).loc Cert.AdamwAdaWIdeal.main_arg0) = m ((c.tc : Thread Cert.AdamwAdaWIdeal.nD Cert.AdamwAdaWIdeal.τ).loc Cert.AdamwAdaWIdeal.main_arg0)
      ∧ r.2.mem ((c.tc : Thread Cert.AdamwAdaWIdeal.nD Cert.AdamwAdaWIdeal.τ).loc Cert.AdamwAdaWIdeal.main_arg1) = m ((c.tc : Thread Cert.AdamwAdaWIdeal.nD Cert.AdamwAdaWIdeal.τ).loc Cert.AdamwAdaWIdeal.main_arg1)
      ∧ r.2.mem ((c.tc : Thread Cert.AdamwAdaWIdeal.nD Cert.AdamwAdaWIdeal.τ).loc Cert.AdamwAdaWIdeal.main_arg2) = m ((c.tc : Thread Cert.AdamwAdaWIdeal.nD Cert.AdamwAdaWIdeal.τ).loc Cert.AdamwAdaWIdeal.main_arg2)
      ∧ r.2.mem ((c.tc : Thread Cert.AdamwAdaWIdeal.nD Cert.AdamwAdaWIdeal.τ).loc Cert.AdamwAdaWIdeal.main_arg3) = m ((c.tc : Thread Cert.AdamwAdaWIdeal.nD Cert.AdamwAdaWIdeal.τ).loc Cert.AdamwAdaWIdeal.main_arg3))
      ∧ r.2.sem = fun _ => 0)

def quiescent_AdamwAdaWRefIdeal [hAdamwAdaWRefIdeal : Cert.AdamwAdaWRefIdeal.Facts] : Prop :=
  ∀ (m : (ℓ : Loc Cert.AdamwAdaWRefIdeal.nD Cert.AdamwAdaWRefIdeal.τ Cert.AdamwAdaWRefIdeal.sig) → Buf (Elt Ideal) ℓ) (g : Dev Cert.AdamwAdaWRefIdeal.nD → PrngReg), Pre_AdamwAdaWRefIdeal m →
    θ_run (Cert.AdamwAdaWRefIdeal.defs (F := Ideal)) (onTc (τ := Cert.AdamwAdaWRefIdeal.τ) (Cert.AdamwAdaWRefIdeal.main (F := Ideal))) ⟨m, fun _ => 0, g⟩ (fun r => (∀ c : Dev Cert.AdamwAdaWRefIdeal.nD,
      r.2.mem ((c.tc : Thread Cert.AdamwAdaWRefIdeal.nD Cert.AdamwAdaWRefIdeal.τ).loc Cert.AdamwAdaWRefIdeal.main_arg0) = m ((c.tc : Thread Cert.AdamwAdaWRefIdeal.nD Cert.AdamwAdaWRefIdeal.τ).loc Cert.AdamwAdaWRefIdeal.main_arg0)
      ∧ r.2.mem ((c.tc : Thread Cert.AdamwAdaWRefIdeal.nD Cert.AdamwAdaWRefIdeal.τ).loc Cert.AdamwAdaWRefIdeal.main_arg1) = m ((c.tc : Thread Cert.AdamwAdaWRefIdeal.nD Cert.AdamwAdaWRefIdeal.τ).loc Cert.AdamwAdaWRefIdeal.main_arg1)
      ∧ r.2.mem ((c.tc : Thread Cert.AdamwAdaWRefIdeal.nD Cert.AdamwAdaWRefIdeal.τ).loc Cert.AdamwAdaWRefIdeal.main_arg2) = m ((c.tc : Thread Cert.AdamwAdaWRefIdeal.nD Cert.AdamwAdaWRefIdeal.τ).loc Cert.AdamwAdaWRefIdeal.main_arg2)
      ∧ r.2.mem ((c.tc : Thread Cert.AdamwAdaWRefIdeal.nD Cert.AdamwAdaWRefIdeal.τ).loc Cert.AdamwAdaWRefIdeal.main_arg3) = m ((c.tc : Thread Cert.AdamwAdaWRefIdeal.nD Cert.AdamwAdaWRefIdeal.τ).loc Cert.AdamwAdaWRefIdeal.main_arg3))
      ∧ r.2.sem = fun _ => 0)

def quiescent_AdamwAdaB [hAdamwAdaB : Cert.AdamwAdaB.Facts] : Prop :=
  ∀ (m : (ℓ : Loc Cert.AdamwAdaB.nD Cert.AdamwAdaB.τ Cert.AdamwAdaB.sig) → Buf (Elt Bits) ℓ) (g : Dev Cert.AdamwAdaB.nD → PrngReg), Pre_AdamwAdaB m →
    θ_run (Cert.AdamwAdaB.defs (F := Bits)) (onTc (τ := Cert.AdamwAdaB.τ) (Cert.AdamwAdaB.main (F := Bits))) ⟨m, fun _ => 0, g⟩ (fun r => (∀ c : Dev Cert.AdamwAdaB.nD,
      r.2.mem ((c.tc : Thread Cert.AdamwAdaB.nD Cert.AdamwAdaB.τ).loc Cert.AdamwAdaB.main_arg0) = m ((c.tc : Thread Cert.AdamwAdaB.nD Cert.AdamwAdaB.τ).loc Cert.AdamwAdaB.main_arg0)
      ∧ r.2.mem ((c.tc : Thread Cert.AdamwAdaB.nD Cert.AdamwAdaB.τ).loc Cert.AdamwAdaB.main_arg1) = m ((c.tc : Thread Cert.AdamwAdaB.nD Cert.AdamwAdaB.τ).loc Cert.AdamwAdaB.main_arg1)
      ∧ r.2.mem ((c.tc : Thread Cert.AdamwAdaB.nD Cert.AdamwAdaB.τ).loc Cert.AdamwAdaB.main_arg2) = m ((c.tc : Thread Cert.AdamwAdaB.nD Cert.AdamwAdaB.τ).loc Cert.AdamwAdaB.main_arg2)
      ∧ r.2.mem ((c.tc : Thread Cert.AdamwAdaB.nD Cert.AdamwAdaB.τ).loc Cert.AdamwAdaB.main_arg3) = m ((c.tc : Thread Cert.AdamwAdaB.nD Cert.AdamwAdaB.τ).loc Cert.AdamwAdaB.main_arg3))
      ∧ r.2.sem = fun _ => 0)

def quiescent_AdamwAdaBIdeal [hAdamwAdaBIdeal : Cert.AdamwAdaBIdeal.Facts] : Prop :=
  ∀ (m : (ℓ : Loc Cert.AdamwAdaBIdeal.nD Cert.AdamwAdaBIdeal.τ Cert.AdamwAdaBIdeal.sig) → Buf (Elt Ideal) ℓ) (g : Dev Cert.AdamwAdaBIdeal.nD → PrngReg), Pre_AdamwAdaBIdeal m →
    θ_run (Cert.AdamwAdaBIdeal.defs (F := Ideal)) (onTc (τ := Cert.AdamwAdaBIdeal.τ) (Cert.AdamwAdaBIdeal.main (F := Ideal))) ⟨m, fun _ => 0, g⟩ (fun r => (∀ c : Dev Cert.AdamwAdaBIdeal.nD,
      r.2.mem ((c.tc : Thread Cert.AdamwAdaBIdeal.nD Cert.AdamwAdaBIdeal.τ).loc Cert.AdamwAdaBIdeal.main_arg0) = m ((c.tc : Thread Cert.AdamwAdaBIdeal.nD Cert.AdamwAdaBIdeal.τ).loc Cert.AdamwAdaBIdeal.main_arg0)
      ∧ r.2.mem ((c.tc : Thread Cert.AdamwAdaBIdeal.nD Cert.AdamwAdaBIdeal.τ).loc Cert.AdamwAdaBIdeal.main_arg1) = m ((c.tc : Thread Cert.AdamwAdaBIdeal.nD Cert.AdamwAdaBIdeal.τ).loc Cert.AdamwAdaBIdeal.main_arg1)
      ∧ r.2.mem ((c.tc : Thread Cert.AdamwAdaBIdeal.nD Cert.AdamwAdaBIdeal.τ).loc Cert.AdamwAdaBIdeal.main_arg2) = m ((c.tc : Thread Cert.AdamwAdaBIdeal.nD Cert.AdamwAdaBIdeal.τ).loc Cert.AdamwAdaBIdeal.main_arg2)
      ∧ r.2.mem ((c.tc : Thread Cert.AdamwAdaBIdeal.nD Cert.AdamwAdaBIdeal.τ).loc Cert.AdamwAdaBIdeal.main_arg3) = m ((c.tc : Thread Cert.AdamwAdaBIdeal.nD Cert.AdamwAdaBIdeal.τ).loc Cert.AdamwAdaBIdeal.main_arg3))
      ∧ r.2.sem = fun _ => 0)

def quiescent_AdamwAdaBRefIdeal [hAdamwAdaBRefIdeal : Cert.AdamwAdaBRefIdeal.Facts] : Prop :=
  ∀ (m : (ℓ : Loc Cert.AdamwAdaBRefIdeal.nD Cert.AdamwAdaBRefIdeal.τ Cert.AdamwAdaBRefIdeal.sig) → Buf (Elt Ideal) ℓ) (g : Dev Cert.AdamwAdaBRefIdeal.nD → PrngReg), Pre_AdamwAdaBRefIdeal m →
    θ_run (Cert.AdamwAdaBRefIdeal.defs (F := Ideal)) (onTc (τ := Cert.AdamwAdaBRefIdeal.τ) (Cert.AdamwAdaBRefIdeal.main (F := Ideal))) ⟨m, fun _ => 0, g⟩ (fun r => (∀ c : Dev Cert.AdamwAdaBRefIdeal.nD,
      r.2.mem ((c.tc : Thread Cert.AdamwAdaBRefIdeal.nD Cert.AdamwAdaBRefIdeal.τ).loc Cert.AdamwAdaBRefIdeal.main_arg0) = m ((c.tc : Thread Cert.AdamwAdaBRefIdeal.nD Cert.AdamwAdaBRefIdeal.τ).loc Cert.AdamwAdaBRefIdeal.main_arg0)
      ∧ r.2.mem ((c.tc : Thread Cert.AdamwAdaBRefIdeal.nD Cert.AdamwAdaBRefIdeal.τ).loc Cert.AdamwAdaBRefIdeal.main_arg1) = m ((c.tc : Thread Cert.AdamwAdaBRefIdeal.nD Cert.AdamwAdaBRefIdeal.τ).loc Cert.AdamwAdaBRefIdeal.main_arg1)
      ∧ r.2.mem ((c.tc : Thread Cert.AdamwAdaBRefIdeal.nD Cert.AdamwAdaBRefIdeal.τ).loc Cert.AdamwAdaBRefIdeal.main_arg2) = m ((c.tc : Thread Cert.AdamwAdaBRefIdeal.nD Cert.AdamwAdaBRefIdeal.τ).loc Cert.AdamwAdaBRefIdeal.main_arg2)
      ∧ r.2.mem ((c.tc : Thread Cert.AdamwAdaBRefIdeal.nD Cert.AdamwAdaBRefIdeal.τ).loc Cert.AdamwAdaBRefIdeal.main_arg3) = m ((c.tc : Thread Cert.AdamwAdaBRefIdeal.nD Cert.AdamwAdaBRefIdeal.τ).loc Cert.AdamwAdaBRefIdeal.main_arg3))
      ∧ r.2.sem = fun _ => 0)

def quiescent_AdamwFfnUp [hAdamwFfnUp : Cert.AdamwFfnUp.Facts] : Prop :=
  ∀ (m : (ℓ : Loc Cert.AdamwFfnUp.nD Cert.AdamwFfnUp.τ Cert.AdamwFfnUp.sig) → Buf (Elt Bits) ℓ) (g : Dev Cert.AdamwFfnUp.nD → PrngReg), Pre_AdamwFfnUp m →
    θ_run (Cert.AdamwFfnUp.defs (F := Bits)) (onTc (τ := Cert.AdamwFfnUp.τ) (Cert.AdamwFfnUp.main (F := Bits))) ⟨m, fun _ => 0, g⟩ (fun r => (∀ c : Dev Cert.AdamwFfnUp.nD,
      r.2.mem ((c.tc : Thread Cert.AdamwFfnUp.nD Cert.AdamwFfnUp.τ).loc Cert.AdamwFfnUp.main_arg0) = m ((c.tc : Thread Cert.AdamwFfnUp.nD Cert.AdamwFfnUp.τ).loc Cert.AdamwFfnUp.main_arg0)
      ∧ r.2.mem ((c.tc : Thread Cert.AdamwFfnUp.nD Cert.AdamwFfnUp.τ).loc Cert.AdamwFfnUp.main_arg1) = m ((c.tc : Thread Cert.AdamwFfnUp.nD Cert.AdamwFfnUp.τ).loc Cert.AdamwFfnUp.main_arg1)
      ∧ r.2.mem ((c.tc : Thread Cert.AdamwFfnUp.nD Cert.AdamwFfnUp.τ).loc Cert.AdamwFfnUp.main_arg2) = m ((c.tc : Thread Cert.AdamwFfnUp.nD Cert.AdamwFfnUp.τ).loc Cert.AdamwFfnUp.main_arg2)
      ∧ r.2.mem ((c.tc : Thread Cert.AdamwFfnUp.nD Cert.AdamwFfnUp.τ).loc Cert.AdamwFfnUp.main_arg3) = m ((c.tc : Thread Cert.AdamwFfnUp.nD Cert.AdamwFfnUp.τ).loc Cert.AdamwFfnUp.main_arg3)
      ∧ r.2.mem ((c.tc : Thread Cert.AdamwFfnUp.nD Cert.AdamwFfnUp.τ).loc Cert.AdamwFfnUp.main_arg4) = m ((c.tc : Thread Cert.AdamwFfnUp.nD Cert.AdamwFfnUp.τ).loc Cert.AdamwFfnUp.main_arg4)
      ∧ r.2.mem ((c.tc : Thread Cert.AdamwFfnUp.nD Cert.AdamwFfnUp.τ).loc Cert.AdamwFfnUp.main_arg5) = m ((c.tc : Thread Cert.AdamwFfnUp.nD Cert.AdamwFfnUp.τ).loc Cert.AdamwFfnUp.main_arg5)
      ∧ r.2.mem ((c.tc : Thread Cert.AdamwFfnUp.nD Cert.AdamwFfnUp.τ).loc Cert.AdamwFfnUp.main_arg6) = m ((c.tc : Thread Cert.AdamwFfnUp.nD Cert.AdamwFfnUp.τ).loc Cert.AdamwFfnUp.main_arg6))
      ∧ r.2.sem = fun _ => 0)

def quiescent_AdamwFfnUpIdeal [hAdamwFfnUpIdeal : Cert.AdamwFfnUpIdeal.Facts] : Prop :=
  ∀ (m : (ℓ : Loc Cert.AdamwFfnUpIdeal.nD Cert.AdamwFfnUpIdeal.τ Cert.AdamwFfnUpIdeal.sig) → Buf (Elt Ideal) ℓ) (g : Dev Cert.AdamwFfnUpIdeal.nD → PrngReg), Pre_AdamwFfnUpIdeal m →
    θ_run (Cert.AdamwFfnUpIdeal.defs (F := Ideal)) (onTc (τ := Cert.AdamwFfnUpIdeal.τ) (Cert.AdamwFfnUpIdeal.main (F := Ideal))) ⟨m, fun _ => 0, g⟩ (fun r => (∀ c : Dev Cert.AdamwFfnUpIdeal.nD,
      r.2.mem ((c.tc : Thread Cert.AdamwFfnUpIdeal.nD Cert.AdamwFfnUpIdeal.τ).loc Cert.AdamwFfnUpIdeal.main_arg0) = m ((c.tc : Thread Cert.AdamwFfnUpIdeal.nD Cert.AdamwFfnUpIdeal.τ).loc Cert.AdamwFfnUpIdeal.main_arg0)
      ∧ r.2.mem ((c.tc : Thread Cert.AdamwFfnUpIdeal.nD Cert.AdamwFfnUpIdeal.τ).loc Cert.AdamwFfnUpIdeal.main_arg1) = m ((c.tc : Thread Cert.AdamwFfnUpIdeal.nD Cert.AdamwFfnUpIdeal.τ).loc Cert.AdamwFfnUpIdeal.main_arg1)
      ∧ r.2.mem ((c.tc : Thread Cert.AdamwFfnUpIdeal.nD Cert.AdamwFfnUpIdeal.τ).loc Cert.AdamwFfnUpIdeal.main_arg2) = m ((c.tc : Thread Cert.AdamwFfnUpIdeal.nD Cert.AdamwFfnUpIdeal.τ).loc Cert.AdamwFfnUpIdeal.main_arg2)
      ∧ r.2.mem ((c.tc : Thread Cert.AdamwFfnUpIdeal.nD Cert.AdamwFfnUpIdeal.τ).loc Cert.AdamwFfnUpIdeal.main_arg3) = m ((c.tc : Thread Cert.AdamwFfnUpIdeal.nD Cert.AdamwFfnUpIdeal.τ).loc Cert.AdamwFfnUpIdeal.main_arg3)
      ∧ r.2.mem ((c.tc : Thread Cert.AdamwFfnUpIdeal.nD Cert.AdamwFfnUpIdeal.τ).loc Cert.AdamwFfnUpIdeal.main_arg4) = m ((c.tc : Thread Cert.AdamwFfnUpIdeal.nD Cert.AdamwFfnUpIdeal.τ).loc Cert.AdamwFfnUpIdeal.main_arg4)
      ∧ r.2.mem ((c.tc : Thread Cert.AdamwFfnUpIdeal.nD Cert.AdamwFfnUpIdeal.τ).loc Cert.AdamwFfnUpIdeal.main_arg5) = m ((c.tc : Thread Cert.AdamwFfnUpIdeal.nD Cert.AdamwFfnUpIdeal.τ).loc Cert.AdamwFfnUpIdeal.main_arg5)
      ∧ r.2.mem ((c.tc : Thread Cert.AdamwFfnUpIdeal.nD Cert.AdamwFfnUpIdeal.τ).loc Cert.AdamwFfnUpIdeal.main_arg6) = m ((c.tc : Thread Cert.AdamwFfnUpIdeal.nD Cert.AdamwFfnUpIdeal.τ).loc Cert.AdamwFfnUpIdeal.main_arg6))
      ∧ r.2.sem = fun _ => 0)

def quiescent_AdamwFfnUpRefIdeal [hAdamwFfnUpRefIdeal : Cert.AdamwFfnUpRefIdeal.Facts] : Prop :=
  ∀ (m : (ℓ : Loc Cert.AdamwFfnUpRefIdeal.nD Cert.AdamwFfnUpRefIdeal.τ Cert.AdamwFfnUpRefIdeal.sig) → Buf (Elt Ideal) ℓ) (g : Dev Cert.AdamwFfnUpRefIdeal.nD → PrngReg), Pre_AdamwFfnUpRefIdeal m →
    θ_run (Cert.AdamwFfnUpRefIdeal.defs (F := Ideal)) (onTc (τ := Cert.AdamwFfnUpRefIdeal.τ) (Cert.AdamwFfnUpRefIdeal.main (F := Ideal))) ⟨m, fun _ => 0, g⟩ (fun r => (∀ c : Dev Cert.AdamwFfnUpRefIdeal.nD,
      r.2.mem ((c.tc : Thread Cert.AdamwFfnUpRefIdeal.nD Cert.AdamwFfnUpRefIdeal.τ).loc Cert.AdamwFfnUpRefIdeal.main_arg0) = m ((c.tc : Thread Cert.AdamwFfnUpRefIdeal.nD Cert.AdamwFfnUpRefIdeal.τ).loc Cert.AdamwFfnUpRefIdeal.main_arg0)
      ∧ r.2.mem ((c.tc : Thread Cert.AdamwFfnUpRefIdeal.nD Cert.AdamwFfnUpRefIdeal.τ).loc Cert.AdamwFfnUpRefIdeal.main_arg1) = m ((c.tc : Thread Cert.AdamwFfnUpRefIdeal.nD Cert.AdamwFfnUpRefIdeal.τ).loc Cert.AdamwFfnUpRefIdeal.main_arg1)
      ∧ r.2.mem ((c.tc : Thread Cert.AdamwFfnUpRefIdeal.nD Cert.AdamwFfnUpRefIdeal.τ).loc Cert.AdamwFfnUpRefIdeal.main_arg2) = m ((c.tc : Thread Cert.AdamwFfnUpRefIdeal.nD Cert.AdamwFfnUpRefIdeal.τ).loc Cert.AdamwFfnUpRefIdeal.main_arg2)
      ∧ r.2.mem ((c.tc : Thread Cert.AdamwFfnUpRefIdeal.nD Cert.AdamwFfnUpRefIdeal.τ).loc Cert.AdamwFfnUpRefIdeal.main_arg3) = m ((c.tc : Thread Cert.AdamwFfnUpRefIdeal.nD Cert.AdamwFfnUpRefIdeal.τ).loc Cert.AdamwFfnUpRefIdeal.main_arg3)
      ∧ r.2.mem ((c.tc : Thread Cert.AdamwFfnUpRefIdeal.nD Cert.AdamwFfnUpRefIdeal.τ).loc Cert.AdamwFfnUpRefIdeal.main_arg4) = m ((c.tc : Thread Cert.AdamwFfnUpRefIdeal.nD Cert.AdamwFfnUpRefIdeal.τ).loc Cert.AdamwFfnUpRefIdeal.main_arg4)
      ∧ r.2.mem ((c.tc : Thread Cert.AdamwFfnUpRefIdeal.nD Cert.AdamwFfnUpRefIdeal.τ).loc Cert.AdamwFfnUpRefIdeal.main_arg5) = m ((c.tc : Thread Cert.AdamwFfnUpRefIdeal.nD Cert.AdamwFfnUpRefIdeal.τ).loc Cert.AdamwFfnUpRefIdeal.main_arg5)
      ∧ r.2.mem ((c.tc : Thread Cert.AdamwFfnUpRefIdeal.nD Cert.AdamwFfnUpRefIdeal.τ).loc Cert.AdamwFfnUpRefIdeal.main_arg6) = m ((c.tc : Thread Cert.AdamwFfnUpRefIdeal.nD Cert.AdamwFfnUpRefIdeal.τ).loc Cert.AdamwFfnUpRefIdeal.main_arg6))
      ∧ r.2.sem = fun _ => 0)

def quiescent_AdamwFfnDown [hAdamwFfnDown : Cert.AdamwFfnDown.Facts] : Prop :=
  ∀ (m : (ℓ : Loc Cert.AdamwFfnDown.nD Cert.AdamwFfnDown.τ Cert.AdamwFfnDown.sig) → Buf (Elt Bits) ℓ) (g : Dev Cert.AdamwFfnDown.nD → PrngReg), Pre_AdamwFfnDown m →
    θ_run (Cert.AdamwFfnDown.defs (F := Bits)) (onTc (τ := Cert.AdamwFfnDown.τ) (Cert.AdamwFfnDown.main (F := Bits))) ⟨m, fun _ => 0, g⟩ (fun r => (∀ c : Dev Cert.AdamwFfnDown.nD,
      r.2.mem ((c.tc : Thread Cert.AdamwFfnDown.nD Cert.AdamwFfnDown.τ).loc Cert.AdamwFfnDown.main_arg0) = m ((c.tc : Thread Cert.AdamwFfnDown.nD Cert.AdamwFfnDown.τ).loc Cert.AdamwFfnDown.main_arg0)
      ∧ r.2.mem ((c.tc : Thread Cert.AdamwFfnDown.nD Cert.AdamwFfnDown.τ).loc Cert.AdamwFfnDown.main_arg1) = m ((c.tc : Thread Cert.AdamwFfnDown.nD Cert.AdamwFfnDown.τ).loc Cert.AdamwFfnDown.main_arg1)
      ∧ r.2.mem ((c.tc : Thread Cert.AdamwFfnDown.nD Cert.AdamwFfnDown.τ).loc Cert.AdamwFfnDown.main_arg2) = m ((c.tc : Thread Cert.AdamwFfnDown.nD Cert.AdamwFfnDown.τ).loc Cert.AdamwFfnDown.main_arg2)
      ∧ r.2.mem ((c.tc : Thread Cert.AdamwFfnDown.nD Cert.AdamwFfnDown.τ).loc Cert.AdamwFfnDown.main_arg3) = m ((c.tc : Thread Cert.AdamwFfnDown.nD Cert.AdamwFfnDown.τ).loc Cert.AdamwFfnDown.main_arg3)
      ∧ r.2.mem ((c.tc : Thread Cert.AdamwFfnDown.nD Cert.AdamwFfnDown.τ).loc Cert.AdamwFfnDown.main_arg4) = m ((c.tc : Thread Cert.AdamwFfnDown.nD Cert.AdamwFfnDown.τ).loc Cert.AdamwFfnDown.main_arg4)
      ∧ r.2.mem ((c.tc : Thread Cert.AdamwFfnDown.nD Cert.AdamwFfnDown.τ).loc Cert.AdamwFfnDown.main_arg5) = m ((c.tc : Thread Cert.AdamwFfnDown.nD Cert.AdamwFfnDown.τ).loc Cert.AdamwFfnDown.main_arg5)
      ∧ r.2.mem ((c.tc : Thread Cert.AdamwFfnDown.nD Cert.AdamwFfnDown.τ).loc Cert.AdamwFfnDown.main_arg6) = m ((c.tc : Thread Cert.AdamwFfnDown.nD Cert.AdamwFfnDown.τ).loc Cert.AdamwFfnDown.main_arg6))
      ∧ r.2.sem = fun _ => 0)

def quiescent_AdamwFfnDownIdeal [hAdamwFfnDownIdeal : Cert.AdamwFfnDownIdeal.Facts] : Prop :=
  ∀ (m : (ℓ : Loc Cert.AdamwFfnDownIdeal.nD Cert.AdamwFfnDownIdeal.τ Cert.AdamwFfnDownIdeal.sig) → Buf (Elt Ideal) ℓ) (g : Dev Cert.AdamwFfnDownIdeal.nD → PrngReg), Pre_AdamwFfnDownIdeal m →
    θ_run (Cert.AdamwFfnDownIdeal.defs (F := Ideal)) (onTc (τ := Cert.AdamwFfnDownIdeal.τ) (Cert.AdamwFfnDownIdeal.main (F := Ideal))) ⟨m, fun _ => 0, g⟩ (fun r => (∀ c : Dev Cert.AdamwFfnDownIdeal.nD,
      r.2.mem ((c.tc : Thread Cert.AdamwFfnDownIdeal.nD Cert.AdamwFfnDownIdeal.τ).loc Cert.AdamwFfnDownIdeal.main_arg0) = m ((c.tc : Thread Cert.AdamwFfnDownIdeal.nD Cert.AdamwFfnDownIdeal.τ).loc Cert.AdamwFfnDownIdeal.main_arg0)
      ∧ r.2.mem ((c.tc : Thread Cert.AdamwFfnDownIdeal.nD Cert.AdamwFfnDownIdeal.τ).loc Cert.AdamwFfnDownIdeal.main_arg1) = m ((c.tc : Thread Cert.AdamwFfnDownIdeal.nD Cert.AdamwFfnDownIdeal.τ).loc Cert.AdamwFfnDownIdeal.main_arg1)
      ∧ r.2.mem ((c.tc : Thread Cert.AdamwFfnDownIdeal.nD Cert.AdamwFfnDownIdeal.τ).loc Cert.AdamwFfnDownIdeal.main_arg2) = m ((c.tc : Thread Cert.AdamwFfnDownIdeal.nD Cert.AdamwFfnDownIdeal.τ).loc Cert.AdamwFfnDownIdeal.main_arg2)
      ∧ r.2.mem ((c.tc : Thread Cert.AdamwFfnDownIdeal.nD Cert.AdamwFfnDownIdeal.τ).loc Cert.AdamwFfnDownIdeal.main_arg3) = m ((c.tc : Thread Cert.AdamwFfnDownIdeal.nD Cert.AdamwFfnDownIdeal.τ).loc Cert.AdamwFfnDownIdeal.main_arg3)
      ∧ r.2.mem ((c.tc : Thread Cert.AdamwFfnDownIdeal.nD Cert.AdamwFfnDownIdeal.τ).loc Cert.AdamwFfnDownIdeal.main_arg4) = m ((c.tc : Thread Cert.AdamwFfnDownIdeal.nD Cert.AdamwFfnDownIdeal.τ).loc Cert.AdamwFfnDownIdeal.main_arg4)
      ∧ r.2.mem ((c.tc : Thread Cert.AdamwFfnDownIdeal.nD Cert.AdamwFfnDownIdeal.τ).loc Cert.AdamwFfnDownIdeal.main_arg5) = m ((c.tc : Thread Cert.AdamwFfnDownIdeal.nD Cert.AdamwFfnDownIdeal.τ).loc Cert.AdamwFfnDownIdeal.main_arg5)
      ∧ r.2.mem ((c.tc : Thread Cert.AdamwFfnDownIdeal.nD Cert.AdamwFfnDownIdeal.τ).loc Cert.AdamwFfnDownIdeal.main_arg6) = m ((c.tc : Thread Cert.AdamwFfnDownIdeal.nD Cert.AdamwFfnDownIdeal.τ).loc Cert.AdamwFfnDownIdeal.main_arg6))
      ∧ r.2.sem = fun _ => 0)

def quiescent_AdamwFfnDownRefIdeal [hAdamwFfnDownRefIdeal : Cert.AdamwFfnDownRefIdeal.Facts] : Prop :=
  ∀ (m : (ℓ : Loc Cert.AdamwFfnDownRefIdeal.nD Cert.AdamwFfnDownRefIdeal.τ Cert.AdamwFfnDownRefIdeal.sig) → Buf (Elt Ideal) ℓ) (g : Dev Cert.AdamwFfnDownRefIdeal.nD → PrngReg), Pre_AdamwFfnDownRefIdeal m →
    θ_run (Cert.AdamwFfnDownRefIdeal.defs (F := Ideal)) (onTc (τ := Cert.AdamwFfnDownRefIdeal.τ) (Cert.AdamwFfnDownRefIdeal.main (F := Ideal))) ⟨m, fun _ => 0, g⟩ (fun r => (∀ c : Dev Cert.AdamwFfnDownRefIdeal.nD,
      r.2.mem ((c.tc : Thread Cert.AdamwFfnDownRefIdeal.nD Cert.AdamwFfnDownRefIdeal.τ).loc Cert.AdamwFfnDownRefIdeal.main_arg0) = m ((c.tc : Thread Cert.AdamwFfnDownRefIdeal.nD Cert.AdamwFfnDownRefIdeal.τ).loc Cert.AdamwFfnDownRefIdeal.main_arg0)
      ∧ r.2.mem ((c.tc : Thread Cert.AdamwFfnDownRefIdeal.nD Cert.AdamwFfnDownRefIdeal.τ).loc Cert.AdamwFfnDownRefIdeal.main_arg1) = m ((c.tc : Thread Cert.AdamwFfnDownRefIdeal.nD Cert.AdamwFfnDownRefIdeal.τ).loc Cert.AdamwFfnDownRefIdeal.main_arg1)
      ∧ r.2.mem ((c.tc : Thread Cert.AdamwFfnDownRefIdeal.nD Cert.AdamwFfnDownRefIdeal.τ).loc Cert.AdamwFfnDownRefIdeal.main_arg2) = m ((c.tc : Thread Cert.AdamwFfnDownRefIdeal.nD Cert.AdamwFfnDownRefIdeal.τ).loc Cert.AdamwFfnDownRefIdeal.main_arg2)
      ∧ r.2.mem ((c.tc : Thread Cert.AdamwFfnDownRefIdeal.nD Cert.AdamwFfnDownRefIdeal.τ).loc Cert.AdamwFfnDownRefIdeal.main_arg3) = m ((c.tc : Thread Cert.AdamwFfnDownRefIdeal.nD Cert.AdamwFfnDownRefIdeal.τ).loc Cert.AdamwFfnDownRefIdeal.main_arg3)
      ∧ r.2.mem ((c.tc : Thread Cert.AdamwFfnDownRefIdeal.nD Cert.AdamwFfnDownRefIdeal.τ).loc Cert.AdamwFfnDownRefIdeal.main_arg4) = m ((c.tc : Thread Cert.AdamwFfnDownRefIdeal.nD Cert.AdamwFfnDownRefIdeal.τ).loc Cert.AdamwFfnDownRefIdeal.main_arg4)
      ∧ r.2.mem ((c.tc : Thread Cert.AdamwFfnDownRefIdeal.nD Cert.AdamwFfnDownRefIdeal.τ).loc Cert.AdamwFfnDownRefIdeal.main_arg5) = m ((c.tc : Thread Cert.AdamwFfnDownRefIdeal.nD Cert.AdamwFfnDownRefIdeal.τ).loc Cert.AdamwFfnDownRefIdeal.main_arg5)
      ∧ r.2.mem ((c.tc : Thread Cert.AdamwFfnDownRefIdeal.nD Cert.AdamwFfnDownRefIdeal.τ).loc Cert.AdamwFfnDownRefIdeal.main_arg6) = m ((c.tc : Thread Cert.AdamwFfnDownRefIdeal.nD Cert.AdamwFfnDownRefIdeal.τ).loc Cert.AdamwFfnDownRefIdeal.main_arg6))
      ∧ r.2.sem = fun _ => 0)

def quiescent_AdamwConvIn [hAdamwConvIn : Cert.AdamwConvIn.Facts] : Prop :=
  ∀ (m : (ℓ : Loc Cert.AdamwConvIn.nD Cert.AdamwConvIn.τ Cert.AdamwConvIn.sig) → Buf (Elt Bits) ℓ) (g : Dev Cert.AdamwConvIn.nD → PrngReg), Pre_AdamwConvIn m →
    θ_run (Cert.AdamwConvIn.defs (F := Bits)) (onTc (τ := Cert.AdamwConvIn.τ) (Cert.AdamwConvIn.main (F := Bits))) ⟨m, fun _ => 0, g⟩ (fun r => (∀ c : Dev Cert.AdamwConvIn.nD,
      r.2.mem ((c.tc : Thread Cert.AdamwConvIn.nD Cert.AdamwConvIn.τ).loc Cert.AdamwConvIn.main_arg0) = m ((c.tc : Thread Cert.AdamwConvIn.nD Cert.AdamwConvIn.τ).loc Cert.AdamwConvIn.main_arg0)
      ∧ r.2.mem ((c.tc : Thread Cert.AdamwConvIn.nD Cert.AdamwConvIn.τ).loc Cert.AdamwConvIn.main_arg1) = m ((c.tc : Thread Cert.AdamwConvIn.nD Cert.AdamwConvIn.τ).loc Cert.AdamwConvIn.main_arg1)
      ∧ r.2.mem ((c.tc : Thread Cert.AdamwConvIn.nD Cert.AdamwConvIn.τ).loc Cert.AdamwConvIn.main_arg2) = m ((c.tc : Thread Cert.AdamwConvIn.nD Cert.AdamwConvIn.τ).loc Cert.AdamwConvIn.main_arg2)
      ∧ r.2.mem ((c.tc : Thread Cert.AdamwConvIn.nD Cert.AdamwConvIn.τ).loc Cert.AdamwConvIn.main_arg3) = m ((c.tc : Thread Cert.AdamwConvIn.nD Cert.AdamwConvIn.τ).loc Cert.AdamwConvIn.main_arg3)
      ∧ r.2.mem ((c.tc : Thread Cert.AdamwConvIn.nD Cert.AdamwConvIn.τ).loc Cert.AdamwConvIn.main_arg4) = m ((c.tc : Thread Cert.AdamwConvIn.nD Cert.AdamwConvIn.τ).loc Cert.AdamwConvIn.main_arg4))
      ∧ r.2.sem = fun _ => 0)

def quiescent_AdamwConvInIdeal [hAdamwConvInIdeal : Cert.AdamwConvInIdeal.Facts] : Prop :=
  ∀ (m : (ℓ : Loc Cert.AdamwConvInIdeal.nD Cert.AdamwConvInIdeal.τ Cert.AdamwConvInIdeal.sig) → Buf (Elt Ideal) ℓ) (g : Dev Cert.AdamwConvInIdeal.nD → PrngReg), Pre_AdamwConvInIdeal m →
    θ_run (Cert.AdamwConvInIdeal.defs (F := Ideal)) (onTc (τ := Cert.AdamwConvInIdeal.τ) (Cert.AdamwConvInIdeal.main (F := Ideal))) ⟨m, fun _ => 0, g⟩ (fun r => (∀ c : Dev Cert.AdamwConvInIdeal.nD,
      r.2.mem ((c.tc : Thread Cert.AdamwConvInIdeal.nD Cert.AdamwConvInIdeal.τ).loc Cert.AdamwConvInIdeal.main_arg0) = m ((c.tc : Thread Cert.AdamwConvInIdeal.nD Cert.AdamwConvInIdeal.τ).loc Cert.AdamwConvInIdeal.main_arg0)
      ∧ r.2.mem ((c.tc : Thread Cert.AdamwConvInIdeal.nD Cert.AdamwConvInIdeal.τ).loc Cert.AdamwConvInIdeal.main_arg1) = m ((c.tc : Thread Cert.AdamwConvInIdeal.nD Cert.AdamwConvInIdeal.τ).loc Cert.AdamwConvInIdeal.main_arg1)
      ∧ r.2.mem ((c.tc : Thread Cert.AdamwConvInIdeal.nD Cert.AdamwConvInIdeal.τ).loc Cert.AdamwConvInIdeal.main_arg2) = m ((c.tc : Thread Cert.AdamwConvInIdeal.nD Cert.AdamwConvInIdeal.τ).loc Cert.AdamwConvInIdeal.main_arg2)
      ∧ r.2.mem ((c.tc : Thread Cert.AdamwConvInIdeal.nD Cert.AdamwConvInIdeal.τ).loc Cert.AdamwConvInIdeal.main_arg3) = m ((c.tc : Thread Cert.AdamwConvInIdeal.nD Cert.AdamwConvInIdeal.τ).loc Cert.AdamwConvInIdeal.main_arg3)
      ∧ r.2.mem ((c.tc : Thread Cert.AdamwConvInIdeal.nD Cert.AdamwConvInIdeal.τ).loc Cert.AdamwConvInIdeal.main_arg4) = m ((c.tc : Thread Cert.AdamwConvInIdeal.nD Cert.AdamwConvInIdeal.τ).loc Cert.AdamwConvInIdeal.main_arg4))
      ∧ r.2.sem = fun _ => 0)

def quiescent_AdamwConvInRefIdeal [hAdamwConvInRefIdeal : Cert.AdamwConvInRefIdeal.Facts] : Prop :=
  ∀ (m : (ℓ : Loc Cert.AdamwConvInRefIdeal.nD Cert.AdamwConvInRefIdeal.τ Cert.AdamwConvInRefIdeal.sig) → Buf (Elt Ideal) ℓ) (g : Dev Cert.AdamwConvInRefIdeal.nD → PrngReg), Pre_AdamwConvInRefIdeal m →
    θ_run (Cert.AdamwConvInRefIdeal.defs (F := Ideal)) (onTc (τ := Cert.AdamwConvInRefIdeal.τ) (Cert.AdamwConvInRefIdeal.main (F := Ideal))) ⟨m, fun _ => 0, g⟩ (fun r => (∀ c : Dev Cert.AdamwConvInRefIdeal.nD,
      r.2.mem ((c.tc : Thread Cert.AdamwConvInRefIdeal.nD Cert.AdamwConvInRefIdeal.τ).loc Cert.AdamwConvInRefIdeal.main_arg0) = m ((c.tc : Thread Cert.AdamwConvInRefIdeal.nD Cert.AdamwConvInRefIdeal.τ).loc Cert.AdamwConvInRefIdeal.main_arg0)
      ∧ r.2.mem ((c.tc : Thread Cert.AdamwConvInRefIdeal.nD Cert.AdamwConvInRefIdeal.τ).loc Cert.AdamwConvInRefIdeal.main_arg1) = m ((c.tc : Thread Cert.AdamwConvInRefIdeal.nD Cert.AdamwConvInRefIdeal.τ).loc Cert.AdamwConvInRefIdeal.main_arg1)
      ∧ r.2.mem ((c.tc : Thread Cert.AdamwConvInRefIdeal.nD Cert.AdamwConvInRefIdeal.τ).loc Cert.AdamwConvInRefIdeal.main_arg2) = m ((c.tc : Thread Cert.AdamwConvInRefIdeal.nD Cert.AdamwConvInRefIdeal.τ).loc Cert.AdamwConvInRefIdeal.main_arg2)
      ∧ r.2.mem ((c.tc : Thread Cert.AdamwConvInRefIdeal.nD Cert.AdamwConvInRefIdeal.τ).loc Cert.AdamwConvInRefIdeal.main_arg3) = m ((c.tc : Thread Cert.AdamwConvInRefIdeal.nD Cert.AdamwConvInRefIdeal.τ).loc Cert.AdamwConvInRefIdeal.main_arg3)
      ∧ r.2.mem ((c.tc : Thread Cert.AdamwConvInRefIdeal.nD Cert.AdamwConvInRefIdeal.τ).loc Cert.AdamwConvInRefIdeal.main_arg4) = m ((c.tc : Thread Cert.AdamwConvInRefIdeal.nD Cert.AdamwConvInRefIdeal.τ).loc Cert.AdamwConvInRefIdeal.main_arg4))
      ∧ r.2.sem = fun _ => 0)

def quiescent_AdamwConvOut [hAdamwConvOut : Cert.AdamwConvOut.Facts] : Prop :=
  ∀ (m : (ℓ : Loc Cert.AdamwConvOut.nD Cert.AdamwConvOut.τ Cert.AdamwConvOut.sig) → Buf (Elt Bits) ℓ) (g : Dev Cert.AdamwConvOut.nD → PrngReg), Pre_AdamwConvOut m →
    θ_run (Cert.AdamwConvOut.defs (F := Bits)) (onTc (τ := Cert.AdamwConvOut.τ) (Cert.AdamwConvOut.main (F := Bits))) ⟨m, fun _ => 0, g⟩ (fun r => (∀ c : Dev Cert.AdamwConvOut.nD,
      r.2.mem ((c.tc : Thread Cert.AdamwConvOut.nD Cert.AdamwConvOut.τ).loc Cert.AdamwConvOut.main_arg0) = m ((c.tc : Thread Cert.AdamwConvOut.nD Cert.AdamwConvOut.τ).loc Cert.AdamwConvOut.main_arg0)
      ∧ r.2.mem ((c.tc : Thread Cert.AdamwConvOut.nD Cert.AdamwConvOut.τ).loc Cert.AdamwConvOut.main_arg1) = m ((c.tc : Thread Cert.AdamwConvOut.nD Cert.AdamwConvOut.τ).loc Cert.AdamwConvOut.main_arg1)
      ∧ r.2.mem ((c.tc : Thread Cert.AdamwConvOut.nD Cert.AdamwConvOut.τ).loc Cert.AdamwConvOut.main_arg2) = m ((c.tc : Thread Cert.AdamwConvOut.nD Cert.AdamwConvOut.τ).loc Cert.AdamwConvOut.main_arg2)
      ∧ r.2.mem ((c.tc : Thread Cert.AdamwConvOut.nD Cert.AdamwConvOut.τ).loc Cert.AdamwConvOut.main_arg3) = m ((c.tc : Thread Cert.AdamwConvOut.nD Cert.AdamwConvOut.τ).loc Cert.AdamwConvOut.main_arg3)
      ∧ r.2.mem ((c.tc : Thread Cert.AdamwConvOut.nD Cert.AdamwConvOut.τ).loc Cert.AdamwConvOut.main_arg4) = m ((c.tc : Thread Cert.AdamwConvOut.nD Cert.AdamwConvOut.τ).loc Cert.AdamwConvOut.main_arg4))
      ∧ r.2.sem = fun _ => 0)

def quiescent_AdamwConvOutIdeal [hAdamwConvOutIdeal : Cert.AdamwConvOutIdeal.Facts] : Prop :=
  ∀ (m : (ℓ : Loc Cert.AdamwConvOutIdeal.nD Cert.AdamwConvOutIdeal.τ Cert.AdamwConvOutIdeal.sig) → Buf (Elt Ideal) ℓ) (g : Dev Cert.AdamwConvOutIdeal.nD → PrngReg), Pre_AdamwConvOutIdeal m →
    θ_run (Cert.AdamwConvOutIdeal.defs (F := Ideal)) (onTc (τ := Cert.AdamwConvOutIdeal.τ) (Cert.AdamwConvOutIdeal.main (F := Ideal))) ⟨m, fun _ => 0, g⟩ (fun r => (∀ c : Dev Cert.AdamwConvOutIdeal.nD,
      r.2.mem ((c.tc : Thread Cert.AdamwConvOutIdeal.nD Cert.AdamwConvOutIdeal.τ).loc Cert.AdamwConvOutIdeal.main_arg0) = m ((c.tc : Thread Cert.AdamwConvOutIdeal.nD Cert.AdamwConvOutIdeal.τ).loc Cert.AdamwConvOutIdeal.main_arg0)
      ∧ r.2.mem ((c.tc : Thread Cert.AdamwConvOutIdeal.nD Cert.AdamwConvOutIdeal.τ).loc Cert.AdamwConvOutIdeal.main_arg1) = m ((c.tc : Thread Cert.AdamwConvOutIdeal.nD Cert.AdamwConvOutIdeal.τ).loc Cert.AdamwConvOutIdeal.main_arg1)
      ∧ r.2.mem ((c.tc : Thread Cert.AdamwConvOutIdeal.nD Cert.AdamwConvOutIdeal.τ).loc Cert.AdamwConvOutIdeal.main_arg2) = m ((c.tc : Thread Cert.AdamwConvOutIdeal.nD Cert.AdamwConvOutIdeal.τ).loc Cert.AdamwConvOutIdeal.main_arg2)
      ∧ r.2.mem ((c.tc : Thread Cert.AdamwConvOutIdeal.nD Cert.AdamwConvOutIdeal.τ).loc Cert.AdamwConvOutIdeal.main_arg3) = m ((c.tc : Thread Cert.AdamwConvOutIdeal.nD Cert.AdamwConvOutIdeal.τ).loc Cert.AdamwConvOutIdeal.main_arg3)
      ∧ r.2.mem ((c.tc : Thread Cert.AdamwConvOutIdeal.nD Cert.AdamwConvOutIdeal.τ).loc Cert.AdamwConvOutIdeal.main_arg4) = m ((c.tc : Thread Cert.AdamwConvOutIdeal.nD Cert.AdamwConvOutIdeal.τ).loc Cert.AdamwConvOutIdeal.main_arg4))
      ∧ r.2.sem = fun _ => 0)

def quiescent_AdamwConvOutRefIdeal [hAdamwConvOutRefIdeal : Cert.AdamwConvOutRefIdeal.Facts] : Prop :=
  ∀ (m : (ℓ : Loc Cert.AdamwConvOutRefIdeal.nD Cert.AdamwConvOutRefIdeal.τ Cert.AdamwConvOutRefIdeal.sig) → Buf (Elt Ideal) ℓ) (g : Dev Cert.AdamwConvOutRefIdeal.nD → PrngReg), Pre_AdamwConvOutRefIdeal m →
    θ_run (Cert.AdamwConvOutRefIdeal.defs (F := Ideal)) (onTc (τ := Cert.AdamwConvOutRefIdeal.τ) (Cert.AdamwConvOutRefIdeal.main (F := Ideal))) ⟨m, fun _ => 0, g⟩ (fun r => (∀ c : Dev Cert.AdamwConvOutRefIdeal.nD,
      r.2.mem ((c.tc : Thread Cert.AdamwConvOutRefIdeal.nD Cert.AdamwConvOutRefIdeal.τ).loc Cert.AdamwConvOutRefIdeal.main_arg0) = m ((c.tc : Thread Cert.AdamwConvOutRefIdeal.nD Cert.AdamwConvOutRefIdeal.τ).loc Cert.AdamwConvOutRefIdeal.main_arg0)
      ∧ r.2.mem ((c.tc : Thread Cert.AdamwConvOutRefIdeal.nD Cert.AdamwConvOutRefIdeal.τ).loc Cert.AdamwConvOutRefIdeal.main_arg1) = m ((c.tc : Thread Cert.AdamwConvOutRefIdeal.nD Cert.AdamwConvOutRefIdeal.τ).loc Cert.AdamwConvOutRefIdeal.main_arg1)
      ∧ r.2.mem ((c.tc : Thread Cert.AdamwConvOutRefIdeal.nD Cert.AdamwConvOutRefIdeal.τ).loc Cert.AdamwConvOutRefIdeal.main_arg2) = m ((c.tc : Thread Cert.AdamwConvOutRefIdeal.nD Cert.AdamwConvOutRefIdeal.τ).loc Cert.AdamwConvOutRefIdeal.main_arg2)
      ∧ r.2.mem ((c.tc : Thread Cert.AdamwConvOutRefIdeal.nD Cert.AdamwConvOutRefIdeal.τ).loc Cert.AdamwConvOutRefIdeal.main_arg3) = m ((c.tc : Thread Cert.AdamwConvOutRefIdeal.nD Cert.AdamwConvOutRefIdeal.τ).loc Cert.AdamwConvOutRefIdeal.main_arg3)
      ∧ r.2.mem ((c.tc : Thread Cert.AdamwConvOutRefIdeal.nD Cert.AdamwConvOutRefIdeal.τ).loc Cert.AdamwConvOutRefIdeal.main_arg4) = m ((c.tc : Thread Cert.AdamwConvOutRefIdeal.nD Cert.AdamwConvOutRefIdeal.τ).loc Cert.AdamwConvOutRefIdeal.main_arg4))
      ∧ r.2.sem = fun _ => 0)

def quiescent_AdamwQkv [hAdamwQkv : Cert.AdamwQkv.Facts] : Prop :=
  ∀ (m : (ℓ : Loc Cert.AdamwQkv.nD Cert.AdamwQkv.τ Cert.AdamwQkv.sig) → Buf (Elt Bits) ℓ) (g : Dev Cert.AdamwQkv.nD → PrngReg), Pre_AdamwQkv m →
    θ_run (Cert.AdamwQkv.defs (F := Bits)) (onTc (τ := Cert.AdamwQkv.τ) (Cert.AdamwQkv.main (F := Bits))) ⟨m, fun _ => 0, g⟩ (fun r => (∀ c : Dev Cert.AdamwQkv.nD,
      r.2.mem ((c.tc : Thread Cert.AdamwQkv.nD Cert.AdamwQkv.τ).loc Cert.AdamwQkv.main_arg0) = m ((c.tc : Thread Cert.AdamwQkv.nD Cert.AdamwQkv.τ).loc Cert.AdamwQkv.main_arg0)
      ∧ r.2.mem ((c.tc : Thread Cert.AdamwQkv.nD Cert.AdamwQkv.τ).loc Cert.AdamwQkv.main_arg1) = m ((c.tc : Thread Cert.AdamwQkv.nD Cert.AdamwQkv.τ).loc Cert.AdamwQkv.main_arg1)
      ∧ r.2.mem ((c.tc : Thread Cert.AdamwQkv.nD Cert.AdamwQkv.τ).loc Cert.AdamwQkv.main_arg2) = m ((c.tc : Thread Cert.AdamwQkv.nD Cert.AdamwQkv.τ).loc Cert.AdamwQkv.main_arg2)
      ∧ r.2.mem ((c.tc : Thread Cert.AdamwQkv.nD Cert.AdamwQkv.τ).loc Cert.AdamwQkv.main_arg3) = m ((c.tc : Thread Cert.AdamwQkv.nD Cert.AdamwQkv.τ).loc Cert.AdamwQkv.main_arg3))
      ∧ r.2.sem = fun _ => 0)

def quiescent_AdamwQkvIdeal [hAdamwQkvIdeal : Cert.AdamwQkvIdeal.Facts] : Prop :=
  ∀ (m : (ℓ : Loc Cert.AdamwQkvIdeal.nD Cert.AdamwQkvIdeal.τ Cert.AdamwQkvIdeal.sig) → Buf (Elt Ideal) ℓ) (g : Dev Cert.AdamwQkvIdeal.nD → PrngReg), Pre_AdamwQkvIdeal m →
    θ_run (Cert.AdamwQkvIdeal.defs (F := Ideal)) (onTc (τ := Cert.AdamwQkvIdeal.τ) (Cert.AdamwQkvIdeal.main (F := Ideal))) ⟨m, fun _ => 0, g⟩ (fun r => (∀ c : Dev Cert.AdamwQkvIdeal.nD,
      r.2.mem ((c.tc : Thread Cert.AdamwQkvIdeal.nD Cert.AdamwQkvIdeal.τ).loc Cert.AdamwQkvIdeal.main_arg0) = m ((c.tc : Thread Cert.AdamwQkvIdeal.nD Cert.AdamwQkvIdeal.τ).loc Cert.AdamwQkvIdeal.main_arg0)
      ∧ r.2.mem ((c.tc : Thread Cert.AdamwQkvIdeal.nD Cert.AdamwQkvIdeal.τ).loc Cert.AdamwQkvIdeal.main_arg1) = m ((c.tc : Thread Cert.AdamwQkvIdeal.nD Cert.AdamwQkvIdeal.τ).loc Cert.AdamwQkvIdeal.main_arg1)
      ∧ r.2.mem ((c.tc : Thread Cert.AdamwQkvIdeal.nD Cert.AdamwQkvIdeal.τ).loc Cert.AdamwQkvIdeal.main_arg2) = m ((c.tc : Thread Cert.AdamwQkvIdeal.nD Cert.AdamwQkvIdeal.τ).loc Cert.AdamwQkvIdeal.main_arg2)
      ∧ r.2.mem ((c.tc : Thread Cert.AdamwQkvIdeal.nD Cert.AdamwQkvIdeal.τ).loc Cert.AdamwQkvIdeal.main_arg3) = m ((c.tc : Thread Cert.AdamwQkvIdeal.nD Cert.AdamwQkvIdeal.τ).loc Cert.AdamwQkvIdeal.main_arg3))
      ∧ r.2.sem = fun _ => 0)

def quiescent_AdamwQkvRefIdeal [hAdamwQkvRefIdeal : Cert.AdamwQkvRefIdeal.Facts] : Prop :=
  ∀ (m : (ℓ : Loc Cert.AdamwQkvRefIdeal.nD Cert.AdamwQkvRefIdeal.τ Cert.AdamwQkvRefIdeal.sig) → Buf (Elt Ideal) ℓ) (g : Dev Cert.AdamwQkvRefIdeal.nD → PrngReg), Pre_AdamwQkvRefIdeal m →
    θ_run (Cert.AdamwQkvRefIdeal.defs (F := Ideal)) (onTc (τ := Cert.AdamwQkvRefIdeal.τ) (Cert.AdamwQkvRefIdeal.main (F := Ideal))) ⟨m, fun _ => 0, g⟩ (fun r => (∀ c : Dev Cert.AdamwQkvRefIdeal.nD,
      r.2.mem ((c.tc : Thread Cert.AdamwQkvRefIdeal.nD Cert.AdamwQkvRefIdeal.τ).loc Cert.AdamwQkvRefIdeal.main_arg0) = m ((c.tc : Thread Cert.AdamwQkvRefIdeal.nD Cert.AdamwQkvRefIdeal.τ).loc Cert.AdamwQkvRefIdeal.main_arg0)
      ∧ r.2.mem ((c.tc : Thread Cert.AdamwQkvRefIdeal.nD Cert.AdamwQkvRefIdeal.τ).loc Cert.AdamwQkvRefIdeal.main_arg1) = m ((c.tc : Thread Cert.AdamwQkvRefIdeal.nD Cert.AdamwQkvRefIdeal.τ).loc Cert.AdamwQkvRefIdeal.main_arg1)
      ∧ r.2.mem ((c.tc : Thread Cert.AdamwQkvRefIdeal.nD Cert.AdamwQkvRefIdeal.τ).loc Cert.AdamwQkvRefIdeal.main_arg2) = m ((c.tc : Thread Cert.AdamwQkvRefIdeal.nD Cert.AdamwQkvRefIdeal.τ).loc Cert.AdamwQkvRefIdeal.main_arg2)
      ∧ r.2.mem ((c.tc : Thread Cert.AdamwQkvRefIdeal.nD Cert.AdamwQkvRefIdeal.τ).loc Cert.AdamwQkvRefIdeal.main_arg3) = m ((c.tc : Thread Cert.AdamwQkvRefIdeal.nD Cert.AdamwQkvRefIdeal.τ).loc Cert.AdamwQkvRefIdeal.main_arg3))
      ∧ r.2.sem = fun _ => 0)

def quiescent_AdamwAttnOut [hAdamwAttnOut : Cert.AdamwAttnOut.Facts] : Prop :=
  ∀ (m : (ℓ : Loc Cert.AdamwAttnOut.nD Cert.AdamwAttnOut.τ Cert.AdamwAttnOut.sig) → Buf (Elt Bits) ℓ) (g : Dev Cert.AdamwAttnOut.nD → PrngReg), Pre_AdamwAttnOut m →
    θ_run (Cert.AdamwAttnOut.defs (F := Bits)) (onTc (τ := Cert.AdamwAttnOut.τ) (Cert.AdamwAttnOut.main (F := Bits))) ⟨m, fun _ => 0, g⟩ (fun r => (∀ c : Dev Cert.AdamwAttnOut.nD,
      r.2.mem ((c.tc : Thread Cert.AdamwAttnOut.nD Cert.AdamwAttnOut.τ).loc Cert.AdamwAttnOut.main_arg0) = m ((c.tc : Thread Cert.AdamwAttnOut.nD Cert.AdamwAttnOut.τ).loc Cert.AdamwAttnOut.main_arg0)
      ∧ r.2.mem ((c.tc : Thread Cert.AdamwAttnOut.nD Cert.AdamwAttnOut.τ).loc Cert.AdamwAttnOut.main_arg1) = m ((c.tc : Thread Cert.AdamwAttnOut.nD Cert.AdamwAttnOut.τ).loc Cert.AdamwAttnOut.main_arg1)
      ∧ r.2.mem ((c.tc : Thread Cert.AdamwAttnOut.nD Cert.AdamwAttnOut.τ).loc Cert.AdamwAttnOut.main_arg2) = m ((c.tc : Thread Cert.AdamwAttnOut.nD Cert.AdamwAttnOut.τ).loc Cert.AdamwAttnOut.main_arg2)
      ∧ r.2.mem ((c.tc : Thread Cert.AdamwAttnOut.nD Cert.AdamwAttnOut.τ).loc Cert.AdamwAttnOut.main_arg3) = m ((c.tc : Thread Cert.AdamwAttnOut.nD Cert.AdamwAttnOut.τ).loc Cert.AdamwAttnOut.main_arg3))
      ∧ r.2.sem = fun _ => 0)

def quiescent_AdamwAttnOutIdeal [hAdamwAttnOutIdeal : Cert.AdamwAttnOutIdeal.Facts] : Prop :=
  ∀ (m : (ℓ : Loc Cert.AdamwAttnOutIdeal.nD Cert.AdamwAttnOutIdeal.τ Cert.AdamwAttnOutIdeal.sig) → Buf (Elt Ideal) ℓ) (g : Dev Cert.AdamwAttnOutIdeal.nD → PrngReg), Pre_AdamwAttnOutIdeal m →
    θ_run (Cert.AdamwAttnOutIdeal.defs (F := Ideal)) (onTc (τ := Cert.AdamwAttnOutIdeal.τ) (Cert.AdamwAttnOutIdeal.main (F := Ideal))) ⟨m, fun _ => 0, g⟩ (fun r => (∀ c : Dev Cert.AdamwAttnOutIdeal.nD,
      r.2.mem ((c.tc : Thread Cert.AdamwAttnOutIdeal.nD Cert.AdamwAttnOutIdeal.τ).loc Cert.AdamwAttnOutIdeal.main_arg0) = m ((c.tc : Thread Cert.AdamwAttnOutIdeal.nD Cert.AdamwAttnOutIdeal.τ).loc Cert.AdamwAttnOutIdeal.main_arg0)
      ∧ r.2.mem ((c.tc : Thread Cert.AdamwAttnOutIdeal.nD Cert.AdamwAttnOutIdeal.τ).loc Cert.AdamwAttnOutIdeal.main_arg1) = m ((c.tc : Thread Cert.AdamwAttnOutIdeal.nD Cert.AdamwAttnOutIdeal.τ).loc Cert.AdamwAttnOutIdeal.main_arg1)
      ∧ r.2.mem ((c.tc : Thread Cert.AdamwAttnOutIdeal.nD Cert.AdamwAttnOutIdeal.τ).loc Cert.AdamwAttnOutIdeal.main_arg2) = m ((c.tc : Thread Cert.AdamwAttnOutIdeal.nD Cert.AdamwAttnOutIdeal.τ).loc Cert.AdamwAttnOutIdeal.main_arg2)
      ∧ r.2.mem ((c.tc : Thread Cert.AdamwAttnOutIdeal.nD Cert.AdamwAttnOutIdeal.τ).loc Cert.AdamwAttnOutIdeal.main_arg3) = m ((c.tc : Thread Cert.AdamwAttnOutIdeal.nD Cert.AdamwAttnOutIdeal.τ).loc Cert.AdamwAttnOutIdeal.main_arg3))
      ∧ r.2.sem = fun _ => 0)

def quiescent_AdamwAttnOutRefIdeal [hAdamwAttnOutRefIdeal : Cert.AdamwAttnOutRefIdeal.Facts] : Prop :=
  ∀ (m : (ℓ : Loc Cert.AdamwAttnOutRefIdeal.nD Cert.AdamwAttnOutRefIdeal.τ Cert.AdamwAttnOutRefIdeal.sig) → Buf (Elt Ideal) ℓ) (g : Dev Cert.AdamwAttnOutRefIdeal.nD → PrngReg), Pre_AdamwAttnOutRefIdeal m →
    θ_run (Cert.AdamwAttnOutRefIdeal.defs (F := Ideal)) (onTc (τ := Cert.AdamwAttnOutRefIdeal.τ) (Cert.AdamwAttnOutRefIdeal.main (F := Ideal))) ⟨m, fun _ => 0, g⟩ (fun r => (∀ c : Dev Cert.AdamwAttnOutRefIdeal.nD,
      r.2.mem ((c.tc : Thread Cert.AdamwAttnOutRefIdeal.nD Cert.AdamwAttnOutRefIdeal.τ).loc Cert.AdamwAttnOutRefIdeal.main_arg0) = m ((c.tc : Thread Cert.AdamwAttnOutRefIdeal.nD Cert.AdamwAttnOutRefIdeal.τ).loc Cert.AdamwAttnOutRefIdeal.main_arg0)
      ∧ r.2.mem ((c.tc : Thread Cert.AdamwAttnOutRefIdeal.nD Cert.AdamwAttnOutRefIdeal.τ).loc Cert.AdamwAttnOutRefIdeal.main_arg1) = m ((c.tc : Thread Cert.AdamwAttnOutRefIdeal.nD Cert.AdamwAttnOutRefIdeal.τ).loc Cert.AdamwAttnOutRefIdeal.main_arg1)
      ∧ r.2.mem ((c.tc : Thread Cert.AdamwAttnOutRefIdeal.nD Cert.AdamwAttnOutRefIdeal.τ).loc Cert.AdamwAttnOutRefIdeal.main_arg2) = m ((c.tc : Thread Cert.AdamwAttnOutRefIdeal.nD Cert.AdamwAttnOutRefIdeal.τ).loc Cert.AdamwAttnOutRefIdeal.main_arg2)
      ∧ r.2.mem ((c.tc : Thread Cert.AdamwAttnOutRefIdeal.nD Cert.AdamwAttnOutRefIdeal.τ).loc Cert.AdamwAttnOutRefIdeal.main_arg3) = m ((c.tc : Thread Cert.AdamwAttnOutRefIdeal.nD Cert.AdamwAttnOutRefIdeal.τ).loc Cert.AdamwAttnOutRefIdeal.main_arg3))
      ∧ r.2.sem = fun _ => 0)

def quiescent_AdamwGateIn [hAdamwGateIn : Cert.AdamwGateIn.Facts] : Prop :=
  ∀ (m : (ℓ : Loc Cert.AdamwGateIn.nD Cert.AdamwGateIn.τ Cert.AdamwGateIn.sig) → Buf (Elt Bits) ℓ) (g : Dev Cert.AdamwGateIn.nD → PrngReg), Pre_AdamwGateIn m →
    θ_run (Cert.AdamwGateIn.defs (F := Bits)) (onTc (τ := Cert.AdamwGateIn.τ) (Cert.AdamwGateIn.main (F := Bits))) ⟨m, fun _ => 0, g⟩ (fun r => (∀ c : Dev Cert.AdamwGateIn.nD,
      r.2.mem ((c.tc : Thread Cert.AdamwGateIn.nD Cert.AdamwGateIn.τ).loc Cert.AdamwGateIn.main_arg0) = m ((c.tc : Thread Cert.AdamwGateIn.nD Cert.AdamwGateIn.τ).loc Cert.AdamwGateIn.main_arg0)
      ∧ r.2.mem ((c.tc : Thread Cert.AdamwGateIn.nD Cert.AdamwGateIn.τ).loc Cert.AdamwGateIn.main_arg1) = m ((c.tc : Thread Cert.AdamwGateIn.nD Cert.AdamwGateIn.τ).loc Cert.AdamwGateIn.main_arg1)
      ∧ r.2.mem ((c.tc : Thread Cert.AdamwGateIn.nD Cert.AdamwGateIn.τ).loc Cert.AdamwGateIn.main_arg2) = m ((c.tc : Thread Cert.AdamwGateIn.nD Cert.AdamwGateIn.τ).loc Cert.AdamwGateIn.main_arg2)
      ∧ r.2.mem ((c.tc : Thread Cert.AdamwGateIn.nD Cert.AdamwGateIn.τ).loc Cert.AdamwGateIn.main_arg3) = m ((c.tc : Thread Cert.AdamwGateIn.nD Cert.AdamwGateIn.τ).loc Cert.AdamwGateIn.main_arg3))
      ∧ r.2.sem = fun _ => 0)

def quiescent_AdamwGateInIdeal [hAdamwGateInIdeal : Cert.AdamwGateInIdeal.Facts] : Prop :=
  ∀ (m : (ℓ : Loc Cert.AdamwGateInIdeal.nD Cert.AdamwGateInIdeal.τ Cert.AdamwGateInIdeal.sig) → Buf (Elt Ideal) ℓ) (g : Dev Cert.AdamwGateInIdeal.nD → PrngReg), Pre_AdamwGateInIdeal m →
    θ_run (Cert.AdamwGateInIdeal.defs (F := Ideal)) (onTc (τ := Cert.AdamwGateInIdeal.τ) (Cert.AdamwGateInIdeal.main (F := Ideal))) ⟨m, fun _ => 0, g⟩ (fun r => (∀ c : Dev Cert.AdamwGateInIdeal.nD,
      r.2.mem ((c.tc : Thread Cert.AdamwGateInIdeal.nD Cert.AdamwGateInIdeal.τ).loc Cert.AdamwGateInIdeal.main_arg0) = m ((c.tc : Thread Cert.AdamwGateInIdeal.nD Cert.AdamwGateInIdeal.τ).loc Cert.AdamwGateInIdeal.main_arg0)
      ∧ r.2.mem ((c.tc : Thread Cert.AdamwGateInIdeal.nD Cert.AdamwGateInIdeal.τ).loc Cert.AdamwGateInIdeal.main_arg1) = m ((c.tc : Thread Cert.AdamwGateInIdeal.nD Cert.AdamwGateInIdeal.τ).loc Cert.AdamwGateInIdeal.main_arg1)
      ∧ r.2.mem ((c.tc : Thread Cert.AdamwGateInIdeal.nD Cert.AdamwGateInIdeal.τ).loc Cert.AdamwGateInIdeal.main_arg2) = m ((c.tc : Thread Cert.AdamwGateInIdeal.nD Cert.AdamwGateInIdeal.τ).loc Cert.AdamwGateInIdeal.main_arg2)
      ∧ r.2.mem ((c.tc : Thread Cert.AdamwGateInIdeal.nD Cert.AdamwGateInIdeal.τ).loc Cert.AdamwGateInIdeal.main_arg3) = m ((c.tc : Thread Cert.AdamwGateInIdeal.nD Cert.AdamwGateInIdeal.τ).loc Cert.AdamwGateInIdeal.main_arg3))
      ∧ r.2.sem = fun _ => 0)

def quiescent_AdamwGateInRefIdeal [hAdamwGateInRefIdeal : Cert.AdamwGateInRefIdeal.Facts] : Prop :=
  ∀ (m : (ℓ : Loc Cert.AdamwGateInRefIdeal.nD Cert.AdamwGateInRefIdeal.τ Cert.AdamwGateInRefIdeal.sig) → Buf (Elt Ideal) ℓ) (g : Dev Cert.AdamwGateInRefIdeal.nD → PrngReg), Pre_AdamwGateInRefIdeal m →
    θ_run (Cert.AdamwGateInRefIdeal.defs (F := Ideal)) (onTc (τ := Cert.AdamwGateInRefIdeal.τ) (Cert.AdamwGateInRefIdeal.main (F := Ideal))) ⟨m, fun _ => 0, g⟩ (fun r => (∀ c : Dev Cert.AdamwGateInRefIdeal.nD,
      r.2.mem ((c.tc : Thread Cert.AdamwGateInRefIdeal.nD Cert.AdamwGateInRefIdeal.τ).loc Cert.AdamwGateInRefIdeal.main_arg0) = m ((c.tc : Thread Cert.AdamwGateInRefIdeal.nD Cert.AdamwGateInRefIdeal.τ).loc Cert.AdamwGateInRefIdeal.main_arg0)
      ∧ r.2.mem ((c.tc : Thread Cert.AdamwGateInRefIdeal.nD Cert.AdamwGateInRefIdeal.τ).loc Cert.AdamwGateInRefIdeal.main_arg1) = m ((c.tc : Thread Cert.AdamwGateInRefIdeal.nD Cert.AdamwGateInRefIdeal.τ).loc Cert.AdamwGateInRefIdeal.main_arg1)
      ∧ r.2.mem ((c.tc : Thread Cert.AdamwGateInRefIdeal.nD Cert.AdamwGateInRefIdeal.τ).loc Cert.AdamwGateInRefIdeal.main_arg2) = m ((c.tc : Thread Cert.AdamwGateInRefIdeal.nD Cert.AdamwGateInRefIdeal.τ).loc Cert.AdamwGateInRefIdeal.main_arg2)
      ∧ r.2.mem ((c.tc : Thread Cert.AdamwGateInRefIdeal.nD Cert.AdamwGateInRefIdeal.τ).loc Cert.AdamwGateInRefIdeal.main_arg3) = m ((c.tc : Thread Cert.AdamwGateInRefIdeal.nD Cert.AdamwGateInRefIdeal.τ).loc Cert.AdamwGateInRefIdeal.main_arg3))
      ∧ r.2.sem = fun _ => 0)

def quiescent_AdamwGateOut [hAdamwGateOut : Cert.AdamwGateOut.Facts] : Prop :=
  ∀ (m : (ℓ : Loc Cert.AdamwGateOut.nD Cert.AdamwGateOut.τ Cert.AdamwGateOut.sig) → Buf (Elt Bits) ℓ) (g : Dev Cert.AdamwGateOut.nD → PrngReg), Pre_AdamwGateOut m →
    θ_run (Cert.AdamwGateOut.defs (F := Bits)) (onTc (τ := Cert.AdamwGateOut.τ) (Cert.AdamwGateOut.main (F := Bits))) ⟨m, fun _ => 0, g⟩ (fun r => (∀ c : Dev Cert.AdamwGateOut.nD,
      r.2.mem ((c.tc : Thread Cert.AdamwGateOut.nD Cert.AdamwGateOut.τ).loc Cert.AdamwGateOut.main_arg0) = m ((c.tc : Thread Cert.AdamwGateOut.nD Cert.AdamwGateOut.τ).loc Cert.AdamwGateOut.main_arg0)
      ∧ r.2.mem ((c.tc : Thread Cert.AdamwGateOut.nD Cert.AdamwGateOut.τ).loc Cert.AdamwGateOut.main_arg1) = m ((c.tc : Thread Cert.AdamwGateOut.nD Cert.AdamwGateOut.τ).loc Cert.AdamwGateOut.main_arg1)
      ∧ r.2.mem ((c.tc : Thread Cert.AdamwGateOut.nD Cert.AdamwGateOut.τ).loc Cert.AdamwGateOut.main_arg2) = m ((c.tc : Thread Cert.AdamwGateOut.nD Cert.AdamwGateOut.τ).loc Cert.AdamwGateOut.main_arg2)
      ∧ r.2.mem ((c.tc : Thread Cert.AdamwGateOut.nD Cert.AdamwGateOut.τ).loc Cert.AdamwGateOut.main_arg3) = m ((c.tc : Thread Cert.AdamwGateOut.nD Cert.AdamwGateOut.τ).loc Cert.AdamwGateOut.main_arg3))
      ∧ r.2.sem = fun _ => 0)

def quiescent_AdamwGateOutIdeal [hAdamwGateOutIdeal : Cert.AdamwGateOutIdeal.Facts] : Prop :=
  ∀ (m : (ℓ : Loc Cert.AdamwGateOutIdeal.nD Cert.AdamwGateOutIdeal.τ Cert.AdamwGateOutIdeal.sig) → Buf (Elt Ideal) ℓ) (g : Dev Cert.AdamwGateOutIdeal.nD → PrngReg), Pre_AdamwGateOutIdeal m →
    θ_run (Cert.AdamwGateOutIdeal.defs (F := Ideal)) (onTc (τ := Cert.AdamwGateOutIdeal.τ) (Cert.AdamwGateOutIdeal.main (F := Ideal))) ⟨m, fun _ => 0, g⟩ (fun r => (∀ c : Dev Cert.AdamwGateOutIdeal.nD,
      r.2.mem ((c.tc : Thread Cert.AdamwGateOutIdeal.nD Cert.AdamwGateOutIdeal.τ).loc Cert.AdamwGateOutIdeal.main_arg0) = m ((c.tc : Thread Cert.AdamwGateOutIdeal.nD Cert.AdamwGateOutIdeal.τ).loc Cert.AdamwGateOutIdeal.main_arg0)
      ∧ r.2.mem ((c.tc : Thread Cert.AdamwGateOutIdeal.nD Cert.AdamwGateOutIdeal.τ).loc Cert.AdamwGateOutIdeal.main_arg1) = m ((c.tc : Thread Cert.AdamwGateOutIdeal.nD Cert.AdamwGateOutIdeal.τ).loc Cert.AdamwGateOutIdeal.main_arg1)
      ∧ r.2.mem ((c.tc : Thread Cert.AdamwGateOutIdeal.nD Cert.AdamwGateOutIdeal.τ).loc Cert.AdamwGateOutIdeal.main_arg2) = m ((c.tc : Thread Cert.AdamwGateOutIdeal.nD Cert.AdamwGateOutIdeal.τ).loc Cert.AdamwGateOutIdeal.main_arg2)
      ∧ r.2.mem ((c.tc : Thread Cert.AdamwGateOutIdeal.nD Cert.AdamwGateOutIdeal.τ).loc Cert.AdamwGateOutIdeal.main_arg3) = m ((c.tc : Thread Cert.AdamwGateOutIdeal.nD Cert.AdamwGateOutIdeal.τ).loc Cert.AdamwGateOutIdeal.main_arg3))
      ∧ r.2.sem = fun _ => 0)

def quiescent_AdamwGateOutRefIdeal [hAdamwGateOutRefIdeal : Cert.AdamwGateOutRefIdeal.Facts] : Prop :=
  ∀ (m : (ℓ : Loc Cert.AdamwGateOutRefIdeal.nD Cert.AdamwGateOutRefIdeal.τ Cert.AdamwGateOutRefIdeal.sig) → Buf (Elt Ideal) ℓ) (g : Dev Cert.AdamwGateOutRefIdeal.nD → PrngReg), Pre_AdamwGateOutRefIdeal m →
    θ_run (Cert.AdamwGateOutRefIdeal.defs (F := Ideal)) (onTc (τ := Cert.AdamwGateOutRefIdeal.τ) (Cert.AdamwGateOutRefIdeal.main (F := Ideal))) ⟨m, fun _ => 0, g⟩ (fun r => (∀ c : Dev Cert.AdamwGateOutRefIdeal.nD,
      r.2.mem ((c.tc : Thread Cert.AdamwGateOutRefIdeal.nD Cert.AdamwGateOutRefIdeal.τ).loc Cert.AdamwGateOutRefIdeal.main_arg0) = m ((c.tc : Thread Cert.AdamwGateOutRefIdeal.nD Cert.AdamwGateOutRefIdeal.τ).loc Cert.AdamwGateOutRefIdeal.main_arg0)
      ∧ r.2.mem ((c.tc : Thread Cert.AdamwGateOutRefIdeal.nD Cert.AdamwGateOutRefIdeal.τ).loc Cert.AdamwGateOutRefIdeal.main_arg1) = m ((c.tc : Thread Cert.AdamwGateOutRefIdeal.nD Cert.AdamwGateOutRefIdeal.τ).loc Cert.AdamwGateOutRefIdeal.main_arg1)
      ∧ r.2.mem ((c.tc : Thread Cert.AdamwGateOutRefIdeal.nD Cert.AdamwGateOutRefIdeal.τ).loc Cert.AdamwGateOutRefIdeal.main_arg2) = m ((c.tc : Thread Cert.AdamwGateOutRefIdeal.nD Cert.AdamwGateOutRefIdeal.τ).loc Cert.AdamwGateOutRefIdeal.main_arg2)
      ∧ r.2.mem ((c.tc : Thread Cert.AdamwGateOutRefIdeal.nD Cert.AdamwGateOutRefIdeal.τ).loc Cert.AdamwGateOutRefIdeal.main_arg3) = m ((c.tc : Thread Cert.AdamwGateOutRefIdeal.nD Cert.AdamwGateOutRefIdeal.τ).loc Cert.AdamwGateOutRefIdeal.main_arg3))
      ∧ r.2.sem = fun _ => 0)

def quiescent_NormB [hNormB : Cert.NormB.Facts] : Prop :=
  ∀ (m : (ℓ : Loc Cert.NormB.nD Cert.NormB.τ Cert.NormB.sig) → Buf (Elt Bits) ℓ) (g : Dev Cert.NormB.nD → PrngReg), Pre_NormB m →
    θ_run (Cert.NormB.defs (F := Bits)) (onTc (τ := Cert.NormB.τ) (Cert.NormB.main (F := Bits))) ⟨m, fun _ => 0, g⟩ (fun r => (∀ c : Dev Cert.NormB.nD,
      r.2.mem ((c.tc : Thread Cert.NormB.nD Cert.NormB.τ).loc Cert.NormB.main_arg0) = m ((c.tc : Thread Cert.NormB.nD Cert.NormB.τ).loc Cert.NormB.main_arg0)
      ∧ r.2.mem ((c.tc : Thread Cert.NormB.nD Cert.NormB.τ).loc Cert.NormB.main_arg1) = m ((c.tc : Thread Cert.NormB.nD Cert.NormB.τ).loc Cert.NormB.main_arg1)
      ∧ r.2.mem ((c.tc : Thread Cert.NormB.nD Cert.NormB.τ).loc Cert.NormB.main_arg2) = m ((c.tc : Thread Cert.NormB.nD Cert.NormB.τ).loc Cert.NormB.main_arg2)
      ∧ r.2.mem ((c.tc : Thread Cert.NormB.nD Cert.NormB.τ).loc Cert.NormB.main_arg3) = m ((c.tc : Thread Cert.NormB.nD Cert.NormB.τ).loc Cert.NormB.main_arg3)
      ∧ r.2.mem ((c.tc : Thread Cert.NormB.nD Cert.NormB.τ).loc Cert.NormB.main_arg4) = m ((c.tc : Thread Cert.NormB.nD Cert.NormB.τ).loc Cert.NormB.main_arg4)
      ∧ r.2.mem ((c.tc : Thread Cert.NormB.nD Cert.NormB.τ).loc Cert.NormB.main_arg5) = m ((c.tc : Thread Cert.NormB.nD Cert.NormB.τ).loc Cert.NormB.main_arg5))
      ∧ r.2.sem = fun _ => 0)

def quiescent_NormBIdeal [hNormBIdeal : Cert.NormBIdeal.Facts] : Prop :=
  ∀ (m : (ℓ : Loc Cert.NormBIdeal.nD Cert.NormBIdeal.τ Cert.NormBIdeal.sig) → Buf (Elt Ideal) ℓ) (g : Dev Cert.NormBIdeal.nD → PrngReg), Pre_NormBIdeal m →
    θ_run (Cert.NormBIdeal.defs (F := Ideal)) (onTc (τ := Cert.NormBIdeal.τ) (Cert.NormBIdeal.main (F := Ideal))) ⟨m, fun _ => 0, g⟩ (fun r => (∀ c : Dev Cert.NormBIdeal.nD,
      r.2.mem ((c.tc : Thread Cert.NormBIdeal.nD Cert.NormBIdeal.τ).loc Cert.NormBIdeal.main_arg0) = m ((c.tc : Thread Cert.NormBIdeal.nD Cert.NormBIdeal.τ).loc Cert.NormBIdeal.main_arg0)
      ∧ r.2.mem ((c.tc : Thread Cert.NormBIdeal.nD Cert.NormBIdeal.τ).loc Cert.NormBIdeal.main_arg1) = m ((c.tc : Thread Cert.NormBIdeal.nD Cert.NormBIdeal.τ).loc Cert.NormBIdeal.main_arg1)
      ∧ r.2.mem ((c.tc : Thread Cert.NormBIdeal.nD Cert.NormBIdeal.τ).loc Cert.NormBIdeal.main_arg2) = m ((c.tc : Thread Cert.NormBIdeal.nD Cert.NormBIdeal.τ).loc Cert.NormBIdeal.main_arg2)
      ∧ r.2.mem ((c.tc : Thread Cert.NormBIdeal.nD Cert.NormBIdeal.τ).loc Cert.NormBIdeal.main_arg3) = m ((c.tc : Thread Cert.NormBIdeal.nD Cert.NormBIdeal.τ).loc Cert.NormBIdeal.main_arg3)
      ∧ r.2.mem ((c.tc : Thread Cert.NormBIdeal.nD Cert.NormBIdeal.τ).loc Cert.NormBIdeal.main_arg4) = m ((c.tc : Thread Cert.NormBIdeal.nD Cert.NormBIdeal.τ).loc Cert.NormBIdeal.main_arg4)
      ∧ r.2.mem ((c.tc : Thread Cert.NormBIdeal.nD Cert.NormBIdeal.τ).loc Cert.NormBIdeal.main_arg5) = m ((c.tc : Thread Cert.NormBIdeal.nD Cert.NormBIdeal.τ).loc Cert.NormBIdeal.main_arg5))
      ∧ r.2.sem = fun _ => 0)

def quiescent_NormBRefIdeal [hNormBRefIdeal : Cert.NormBRefIdeal.Facts] : Prop :=
  ∀ (m : (ℓ : Loc Cert.NormBRefIdeal.nD Cert.NormBRefIdeal.τ Cert.NormBRefIdeal.sig) → Buf (Elt Ideal) ℓ) (g : Dev Cert.NormBRefIdeal.nD → PrngReg), Pre_NormBRefIdeal m →
    θ_run (Cert.NormBRefIdeal.defs (F := Ideal)) (onTc (τ := Cert.NormBRefIdeal.τ) (Cert.NormBRefIdeal.main (F := Ideal))) ⟨m, fun _ => 0, g⟩ (fun r => (∀ c : Dev Cert.NormBRefIdeal.nD,
      r.2.mem ((c.tc : Thread Cert.NormBRefIdeal.nD Cert.NormBRefIdeal.τ).loc Cert.NormBRefIdeal.main_arg0) = m ((c.tc : Thread Cert.NormBRefIdeal.nD Cert.NormBRefIdeal.τ).loc Cert.NormBRefIdeal.main_arg0)
      ∧ r.2.mem ((c.tc : Thread Cert.NormBRefIdeal.nD Cert.NormBRefIdeal.τ).loc Cert.NormBRefIdeal.main_arg1) = m ((c.tc : Thread Cert.NormBRefIdeal.nD Cert.NormBRefIdeal.τ).loc Cert.NormBRefIdeal.main_arg1)
      ∧ r.2.mem ((c.tc : Thread Cert.NormBRefIdeal.nD Cert.NormBRefIdeal.τ).loc Cert.NormBRefIdeal.main_arg2) = m ((c.tc : Thread Cert.NormBRefIdeal.nD Cert.NormBRefIdeal.τ).loc Cert.NormBRefIdeal.main_arg2)
      ∧ r.2.mem ((c.tc : Thread Cert.NormBRefIdeal.nD Cert.NormBRefIdeal.τ).loc Cert.NormBRefIdeal.main_arg3) = m ((c.tc : Thread Cert.NormBRefIdeal.nD Cert.NormBRefIdeal.τ).loc Cert.NormBRefIdeal.main_arg3)
      ∧ r.2.mem ((c.tc : Thread Cert.NormBRefIdeal.nD Cert.NormBRefIdeal.τ).loc Cert.NormBRefIdeal.main_arg4) = m ((c.tc : Thread Cert.NormBRefIdeal.nD Cert.NormBRefIdeal.τ).loc Cert.NormBRefIdeal.main_arg4)
      ∧ r.2.mem ((c.tc : Thread Cert.NormBRefIdeal.nD Cert.NormBRefIdeal.τ).loc Cert.NormBRefIdeal.main_arg5) = m ((c.tc : Thread Cert.NormBRefIdeal.nD Cert.NormBRefIdeal.τ).loc Cert.NormBRefIdeal.main_arg5))
      ∧ r.2.sem = fun _ => 0)

def quiescent_ResB [hResB : Cert.ResB.Facts] : Prop :=
  ∀ (m : (ℓ : Loc Cert.ResB.nD Cert.ResB.τ Cert.ResB.sig) → Buf (Elt Bits) ℓ) (g : Dev Cert.ResB.nD → PrngReg), Pre_ResB m →
    θ_run (Cert.ResB.defs (F := Bits)) (onTc (τ := Cert.ResB.τ) (Cert.ResB.main (F := Bits))) ⟨m, fun _ => 0, g⟩ (fun r => (∀ c : Dev Cert.ResB.nD,
      r.2.mem ((c.tc : Thread Cert.ResB.nD Cert.ResB.τ).loc Cert.ResB.main_arg0) = m ((c.tc : Thread Cert.ResB.nD Cert.ResB.τ).loc Cert.ResB.main_arg0)
      ∧ r.2.mem ((c.tc : Thread Cert.ResB.nD Cert.ResB.τ).loc Cert.ResB.main_arg1) = m ((c.tc : Thread Cert.ResB.nD Cert.ResB.τ).loc Cert.ResB.main_arg1)
      ∧ r.2.mem ((c.tc : Thread Cert.ResB.nD Cert.ResB.τ).loc Cert.ResB.main_arg2) = m ((c.tc : Thread Cert.ResB.nD Cert.ResB.τ).loc Cert.ResB.main_arg2)
      ∧ r.2.mem ((c.tc : Thread Cert.ResB.nD Cert.ResB.τ).loc Cert.ResB.main_arg3) = m ((c.tc : Thread Cert.ResB.nD Cert.ResB.τ).loc Cert.ResB.main_arg3))
      ∧ r.2.sem = fun _ => 0)

def quiescent_ResBIdeal [hResBIdeal : Cert.ResBIdeal.Facts] : Prop :=
  ∀ (m : (ℓ : Loc Cert.ResBIdeal.nD Cert.ResBIdeal.τ Cert.ResBIdeal.sig) → Buf (Elt Ideal) ℓ) (g : Dev Cert.ResBIdeal.nD → PrngReg), Pre_ResBIdeal m →
    θ_run (Cert.ResBIdeal.defs (F := Ideal)) (onTc (τ := Cert.ResBIdeal.τ) (Cert.ResBIdeal.main (F := Ideal))) ⟨m, fun _ => 0, g⟩ (fun r => (∀ c : Dev Cert.ResBIdeal.nD,
      r.2.mem ((c.tc : Thread Cert.ResBIdeal.nD Cert.ResBIdeal.τ).loc Cert.ResBIdeal.main_arg0) = m ((c.tc : Thread Cert.ResBIdeal.nD Cert.ResBIdeal.τ).loc Cert.ResBIdeal.main_arg0)
      ∧ r.2.mem ((c.tc : Thread Cert.ResBIdeal.nD Cert.ResBIdeal.τ).loc Cert.ResBIdeal.main_arg1) = m ((c.tc : Thread Cert.ResBIdeal.nD Cert.ResBIdeal.τ).loc Cert.ResBIdeal.main_arg1)
      ∧ r.2.mem ((c.tc : Thread Cert.ResBIdeal.nD Cert.ResBIdeal.τ).loc Cert.ResBIdeal.main_arg2) = m ((c.tc : Thread Cert.ResBIdeal.nD Cert.ResBIdeal.τ).loc Cert.ResBIdeal.main_arg2)
      ∧ r.2.mem ((c.tc : Thread Cert.ResBIdeal.nD Cert.ResBIdeal.τ).loc Cert.ResBIdeal.main_arg3) = m ((c.tc : Thread Cert.ResBIdeal.nD Cert.ResBIdeal.τ).loc Cert.ResBIdeal.main_arg3))
      ∧ r.2.sem = fun _ => 0)

def quiescent_ResBRefIdeal [hResBRefIdeal : Cert.ResBRefIdeal.Facts] : Prop :=
  ∀ (m : (ℓ : Loc Cert.ResBRefIdeal.nD Cert.ResBRefIdeal.τ Cert.ResBRefIdeal.sig) → Buf (Elt Ideal) ℓ) (g : Dev Cert.ResBRefIdeal.nD → PrngReg), Pre_ResBRefIdeal m →
    θ_run (Cert.ResBRefIdeal.defs (F := Ideal)) (onTc (τ := Cert.ResBRefIdeal.τ) (Cert.ResBRefIdeal.main (F := Ideal))) ⟨m, fun _ => 0, g⟩ (fun r => (∀ c : Dev Cert.ResBRefIdeal.nD,
      r.2.mem ((c.tc : Thread Cert.ResBRefIdeal.nD Cert.ResBRefIdeal.τ).loc Cert.ResBRefIdeal.main_arg0) = m ((c.tc : Thread Cert.ResBRefIdeal.nD Cert.ResBRefIdeal.τ).loc Cert.ResBRefIdeal.main_arg0)
      ∧ r.2.mem ((c.tc : Thread Cert.ResBRefIdeal.nD Cert.ResBRefIdeal.τ).loc Cert.ResBRefIdeal.main_arg1) = m ((c.tc : Thread Cert.ResBRefIdeal.nD Cert.ResBRefIdeal.τ).loc Cert.ResBRefIdeal.main_arg1)
      ∧ r.2.mem ((c.tc : Thread Cert.ResBRefIdeal.nD Cert.ResBRefIdeal.τ).loc Cert.ResBRefIdeal.main_arg2) = m ((c.tc : Thread Cert.ResBRefIdeal.nD Cert.ResBRefIdeal.τ).loc Cert.ResBRefIdeal.main_arg2)
      ∧ r.2.mem ((c.tc : Thread Cert.ResBRefIdeal.nD Cert.ResBRefIdeal.τ).loc Cert.ResBRefIdeal.main_arg3) = m ((c.tc : Thread Cert.ResBRefIdeal.nD Cert.ResBRefIdeal.τ).loc Cert.ResBRefIdeal.main_arg3))
      ∧ r.2.sem = fun _ => 0)

def quiescent_ResBiasB [hResBiasB : Cert.ResBiasB.Facts] : Prop :=
  ∀ (m : (ℓ : Loc Cert.ResBiasB.nD Cert.ResBiasB.τ Cert.ResBiasB.sig) → Buf (Elt Bits) ℓ) (g : Dev Cert.ResBiasB.nD → PrngReg), Pre_ResBiasB m →
    θ_run (Cert.ResBiasB.defs (F := Bits)) (onTc (τ := Cert.ResBiasB.τ) (Cert.ResBiasB.main (F := Bits))) ⟨m, fun _ => 0, g⟩ (fun r => (∀ c : Dev Cert.ResBiasB.nD,
      r.2.mem ((c.tc : Thread Cert.ResBiasB.nD Cert.ResBiasB.τ).loc Cert.ResBiasB.main_arg0) = m ((c.tc : Thread Cert.ResBiasB.nD Cert.ResBiasB.τ).loc Cert.ResBiasB.main_arg0)
      ∧ r.2.mem ((c.tc : Thread Cert.ResBiasB.nD Cert.ResBiasB.τ).loc Cert.ResBiasB.main_arg1) = m ((c.tc : Thread Cert.ResBiasB.nD Cert.ResBiasB.τ).loc Cert.ResBiasB.main_arg1)
      ∧ r.2.mem ((c.tc : Thread Cert.ResBiasB.nD Cert.ResBiasB.τ).loc Cert.ResBiasB.main_arg2) = m ((c.tc : Thread Cert.ResBiasB.nD Cert.ResBiasB.τ).loc Cert.ResBiasB.main_arg2)
      ∧ r.2.mem ((c.tc : Thread Cert.ResBiasB.nD Cert.ResBiasB.τ).loc Cert.ResBiasB.main_arg3) = m ((c.tc : Thread Cert.ResBiasB.nD Cert.ResBiasB.τ).loc Cert.ResBiasB.main_arg3)
      ∧ r.2.mem ((c.tc : Thread Cert.ResBiasB.nD Cert.ResBiasB.τ).loc Cert.ResBiasB.main_arg4) = m ((c.tc : Thread Cert.ResBiasB.nD Cert.ResBiasB.τ).loc Cert.ResBiasB.main_arg4))
      ∧ r.2.sem = fun _ => 0)

def quiescent_ResBiasBIdeal [hResBiasBIdeal : Cert.ResBiasBIdeal.Facts] : Prop :=
  ∀ (m : (ℓ : Loc Cert.ResBiasBIdeal.nD Cert.ResBiasBIdeal.τ Cert.ResBiasBIdeal.sig) → Buf (Elt Ideal) ℓ) (g : Dev Cert.ResBiasBIdeal.nD → PrngReg), Pre_ResBiasBIdeal m →
    θ_run (Cert.ResBiasBIdeal.defs (F := Ideal)) (onTc (τ := Cert.ResBiasBIdeal.τ) (Cert.ResBiasBIdeal.main (F := Ideal))) ⟨m, fun _ => 0, g⟩ (fun r => (∀ c : Dev Cert.ResBiasBIdeal.nD,
      r.2.mem ((c.tc : Thread Cert.ResBiasBIdeal.nD Cert.ResBiasBIdeal.τ).loc Cert.ResBiasBIdeal.main_arg0) = m ((c.tc : Thread Cert.ResBiasBIdeal.nD Cert.ResBiasBIdeal.τ).loc Cert.ResBiasBIdeal.main_arg0)
      ∧ r.2.mem ((c.tc : Thread Cert.ResBiasBIdeal.nD Cert.ResBiasBIdeal.τ).loc Cert.ResBiasBIdeal.main_arg1) = m ((c.tc : Thread Cert.ResBiasBIdeal.nD Cert.ResBiasBIdeal.τ).loc Cert.ResBiasBIdeal.main_arg1)
      ∧ r.2.mem ((c.tc : Thread Cert.ResBiasBIdeal.nD Cert.ResBiasBIdeal.τ).loc Cert.ResBiasBIdeal.main_arg2) = m ((c.tc : Thread Cert.ResBiasBIdeal.nD Cert.ResBiasBIdeal.τ).loc Cert.ResBiasBIdeal.main_arg2)
      ∧ r.2.mem ((c.tc : Thread Cert.ResBiasBIdeal.nD Cert.ResBiasBIdeal.τ).loc Cert.ResBiasBIdeal.main_arg3) = m ((c.tc : Thread Cert.ResBiasBIdeal.nD Cert.ResBiasBIdeal.τ).loc Cert.ResBiasBIdeal.main_arg3)
      ∧ r.2.mem ((c.tc : Thread Cert.ResBiasBIdeal.nD Cert.ResBiasBIdeal.τ).loc Cert.ResBiasBIdeal.main_arg4) = m ((c.tc : Thread Cert.ResBiasBIdeal.nD Cert.ResBiasBIdeal.τ).loc Cert.ResBiasBIdeal.main_arg4))
      ∧ r.2.sem = fun _ => 0)

def quiescent_ResBiasBRefIdeal [hResBiasBRefIdeal : Cert.ResBiasBRefIdeal.Facts] : Prop :=
  ∀ (m : (ℓ : Loc Cert.ResBiasBRefIdeal.nD Cert.ResBiasBRefIdeal.τ Cert.ResBiasBRefIdeal.sig) → Buf (Elt Ideal) ℓ) (g : Dev Cert.ResBiasBRefIdeal.nD → PrngReg), Pre_ResBiasBRefIdeal m →
    θ_run (Cert.ResBiasBRefIdeal.defs (F := Ideal)) (onTc (τ := Cert.ResBiasBRefIdeal.τ) (Cert.ResBiasBRefIdeal.main (F := Ideal))) ⟨m, fun _ => 0, g⟩ (fun r => (∀ c : Dev Cert.ResBiasBRefIdeal.nD,
      r.2.mem ((c.tc : Thread Cert.ResBiasBRefIdeal.nD Cert.ResBiasBRefIdeal.τ).loc Cert.ResBiasBRefIdeal.main_arg0) = m ((c.tc : Thread Cert.ResBiasBRefIdeal.nD Cert.ResBiasBRefIdeal.τ).loc Cert.ResBiasBRefIdeal.main_arg0)
      ∧ r.2.mem ((c.tc : Thread Cert.ResBiasBRefIdeal.nD Cert.ResBiasBRefIdeal.τ).loc Cert.ResBiasBRefIdeal.main_arg1) = m ((c.tc : Thread Cert.ResBiasBRefIdeal.nD Cert.ResBiasBRefIdeal.τ).loc Cert.ResBiasBRefIdeal.main_arg1)
      ∧ r.2.mem ((c.tc : Thread Cert.ResBiasBRefIdeal.nD Cert.ResBiasBRefIdeal.τ).loc Cert.ResBiasBRefIdeal.main_arg2) = m ((c.tc : Thread Cert.ResBiasBRefIdeal.nD Cert.ResBiasBRefIdeal.τ).loc Cert.ResBiasBRefIdeal.main_arg2)
      ∧ r.2.mem ((c.tc : Thread Cert.ResBiasBRefIdeal.nD Cert.ResBiasBRefIdeal.τ).loc Cert.ResBiasBRefIdeal.main_arg3) = m ((c.tc : Thread Cert.ResBiasBRefIdeal.nD Cert.ResBiasBRefIdeal.τ).loc Cert.ResBiasBRefIdeal.main_arg3)
      ∧ r.2.mem ((c.tc : Thread Cert.ResBiasBRefIdeal.nD Cert.ResBiasBRefIdeal.τ).loc Cert.ResBiasBRefIdeal.main_arg4) = m ((c.tc : Thread Cert.ResBiasBRefIdeal.nD Cert.ResBiasBRefIdeal.τ).loc Cert.ResBiasBRefIdeal.main_arg4))
      ∧ r.2.sem = fun _ => 0)

def quiescent_GluB [hGluB : Cert.GluB.Facts] : Prop :=
  ∀ (m : (ℓ : Loc Cert.GluB.nD Cert.GluB.τ Cert.GluB.sig) → Buf (Elt Bits) ℓ) (g : Dev Cert.GluB.nD → PrngReg), Pre_GluB m →
    θ_run (Cert.GluB.defs (F := Bits)) (onTc (τ := Cert.GluB.τ) (Cert.GluB.main (F := Bits))) ⟨m, fun _ => 0, g⟩ (fun r => (∀ c : Dev Cert.GluB.nD,
      r.2.mem ((c.tc : Thread Cert.GluB.nD Cert.GluB.τ).loc Cert.GluB.main_arg0) = m ((c.tc : Thread Cert.GluB.nD Cert.GluB.τ).loc Cert.GluB.main_arg0)
      ∧ r.2.mem ((c.tc : Thread Cert.GluB.nD Cert.GluB.τ).loc Cert.GluB.main_arg1) = m ((c.tc : Thread Cert.GluB.nD Cert.GluB.τ).loc Cert.GluB.main_arg1)
      ∧ r.2.mem ((c.tc : Thread Cert.GluB.nD Cert.GluB.τ).loc Cert.GluB.main_arg2) = m ((c.tc : Thread Cert.GluB.nD Cert.GluB.τ).loc Cert.GluB.main_arg2))
      ∧ r.2.sem = fun _ => 0)

def quiescent_GluBIdeal [hGluBIdeal : Cert.GluBIdeal.Facts] : Prop :=
  ∀ (m : (ℓ : Loc Cert.GluBIdeal.nD Cert.GluBIdeal.τ Cert.GluBIdeal.sig) → Buf (Elt Ideal) ℓ) (g : Dev Cert.GluBIdeal.nD → PrngReg), Pre_GluBIdeal m →
    θ_run (Cert.GluBIdeal.defs (F := Ideal)) (onTc (τ := Cert.GluBIdeal.τ) (Cert.GluBIdeal.main (F := Ideal))) ⟨m, fun _ => 0, g⟩ (fun r => (∀ c : Dev Cert.GluBIdeal.nD,
      r.2.mem ((c.tc : Thread Cert.GluBIdeal.nD Cert.GluBIdeal.τ).loc Cert.GluBIdeal.main_arg0) = m ((c.tc : Thread Cert.GluBIdeal.nD Cert.GluBIdeal.τ).loc Cert.GluBIdeal.main_arg0)
      ∧ r.2.mem ((c.tc : Thread Cert.GluBIdeal.nD Cert.GluBIdeal.τ).loc Cert.GluBIdeal.main_arg1) = m ((c.tc : Thread Cert.GluBIdeal.nD Cert.GluBIdeal.τ).loc Cert.GluBIdeal.main_arg1)
      ∧ r.2.mem ((c.tc : Thread Cert.GluBIdeal.nD Cert.GluBIdeal.τ).loc Cert.GluBIdeal.main_arg2) = m ((c.tc : Thread Cert.GluBIdeal.nD Cert.GluBIdeal.τ).loc Cert.GluBIdeal.main_arg2))
      ∧ r.2.sem = fun _ => 0)

def quiescent_GluBRefIdeal [hGluBRefIdeal : Cert.GluBRefIdeal.Facts] : Prop :=
  ∀ (m : (ℓ : Loc Cert.GluBRefIdeal.nD Cert.GluBRefIdeal.τ Cert.GluBRefIdeal.sig) → Buf (Elt Ideal) ℓ) (g : Dev Cert.GluBRefIdeal.nD → PrngReg), Pre_GluBRefIdeal m →
    θ_run (Cert.GluBRefIdeal.defs (F := Ideal)) (onTc (τ := Cert.GluBRefIdeal.τ) (Cert.GluBRefIdeal.main (F := Ideal))) ⟨m, fun _ => 0, g⟩ (fun r => (∀ c : Dev Cert.GluBRefIdeal.nD,
      r.2.mem ((c.tc : Thread Cert.GluBRefIdeal.nD Cert.GluBRefIdeal.τ).loc Cert.GluBRefIdeal.main_arg0) = m ((c.tc : Thread Cert.GluBRefIdeal.nD Cert.GluBRefIdeal.τ).loc Cert.GluBRefIdeal.main_arg0)
      ∧ r.2.mem ((c.tc : Thread Cert.GluBRefIdeal.nD Cert.GluBRefIdeal.τ).loc Cert.GluBRefIdeal.main_arg1) = m ((c.tc : Thread Cert.GluBRefIdeal.nD Cert.GluBRefIdeal.τ).loc Cert.GluBRefIdeal.main_arg1)
      ∧ r.2.mem ((c.tc : Thread Cert.GluBRefIdeal.nD Cert.GluBRefIdeal.τ).loc Cert.GluBRefIdeal.main_arg2) = m ((c.tc : Thread Cert.GluBRefIdeal.nD Cert.GluBRefIdeal.τ).loc Cert.GluBRefIdeal.main_arg2))
      ∧ r.2.sem = fun _ => 0)

def quiescent_LnB [hLnB : Cert.LnB.Facts] : Prop :=
  ∀ (m : (ℓ : Loc Cert.LnB.nD Cert.LnB.τ Cert.LnB.sig) → Buf (Elt Bits) ℓ) (g : Dev Cert.LnB.nD → PrngReg), Pre_LnB m →
    θ_run (Cert.LnB.defs (F := Bits)) (onTc (τ := Cert.LnB.τ) (Cert.LnB.main (F := Bits))) ⟨m, fun _ => 0, g⟩ (fun r => (∀ c : Dev Cert.LnB.nD,
      r.2.mem ((c.tc : Thread Cert.LnB.nD Cert.LnB.τ).loc Cert.LnB.main_arg0) = m ((c.tc : Thread Cert.LnB.nD Cert.LnB.τ).loc Cert.LnB.main_arg0)
      ∧ r.2.mem ((c.tc : Thread Cert.LnB.nD Cert.LnB.τ).loc Cert.LnB.main_arg1) = m ((c.tc : Thread Cert.LnB.nD Cert.LnB.τ).loc Cert.LnB.main_arg1)
      ∧ r.2.mem ((c.tc : Thread Cert.LnB.nD Cert.LnB.τ).loc Cert.LnB.main_arg2) = m ((c.tc : Thread Cert.LnB.nD Cert.LnB.τ).loc Cert.LnB.main_arg2)
      ∧ r.2.mem ((c.tc : Thread Cert.LnB.nD Cert.LnB.τ).loc Cert.LnB.main_arg3) = m ((c.tc : Thread Cert.LnB.nD Cert.LnB.τ).loc Cert.LnB.main_arg3))
      ∧ r.2.sem = fun _ => 0)

def quiescent_LnBIdeal [hLnBIdeal : Cert.LnBIdeal.Facts] : Prop :=
  ∀ (m : (ℓ : Loc Cert.LnBIdeal.nD Cert.LnBIdeal.τ Cert.LnBIdeal.sig) → Buf (Elt Ideal) ℓ) (g : Dev Cert.LnBIdeal.nD → PrngReg), Pre_LnBIdeal m →
    θ_run (Cert.LnBIdeal.defs (F := Ideal)) (onTc (τ := Cert.LnBIdeal.τ) (Cert.LnBIdeal.main (F := Ideal))) ⟨m, fun _ => 0, g⟩ (fun r => (∀ c : Dev Cert.LnBIdeal.nD,
      r.2.mem ((c.tc : Thread Cert.LnBIdeal.nD Cert.LnBIdeal.τ).loc Cert.LnBIdeal.main_arg0) = m ((c.tc : Thread Cert.LnBIdeal.nD Cert.LnBIdeal.τ).loc Cert.LnBIdeal.main_arg0)
      ∧ r.2.mem ((c.tc : Thread Cert.LnBIdeal.nD Cert.LnBIdeal.τ).loc Cert.LnBIdeal.main_arg1) = m ((c.tc : Thread Cert.LnBIdeal.nD Cert.LnBIdeal.τ).loc Cert.LnBIdeal.main_arg1)
      ∧ r.2.mem ((c.tc : Thread Cert.LnBIdeal.nD Cert.LnBIdeal.τ).loc Cert.LnBIdeal.main_arg2) = m ((c.tc : Thread Cert.LnBIdeal.nD Cert.LnBIdeal.τ).loc Cert.LnBIdeal.main_arg2)
      ∧ r.2.mem ((c.tc : Thread Cert.LnBIdeal.nD Cert.LnBIdeal.τ).loc Cert.LnBIdeal.main_arg3) = m ((c.tc : Thread Cert.LnBIdeal.nD Cert.LnBIdeal.τ).loc Cert.LnBIdeal.main_arg3))
      ∧ r.2.sem = fun _ => 0)

def quiescent_LnBRefIdeal [hLnBRefIdeal : Cert.LnBRefIdeal.Facts] : Prop :=
  ∀ (m : (ℓ : Loc Cert.LnBRefIdeal.nD Cert.LnBRefIdeal.τ Cert.LnBRefIdeal.sig) → Buf (Elt Ideal) ℓ) (g : Dev Cert.LnBRefIdeal.nD → PrngReg), Pre_LnBRefIdeal m →
    θ_run (Cert.LnBRefIdeal.defs (F := Ideal)) (onTc (τ := Cert.LnBRefIdeal.τ) (Cert.LnBRefIdeal.main (F := Ideal))) ⟨m, fun _ => 0, g⟩ (fun r => (∀ c : Dev Cert.LnBRefIdeal.nD,
      r.2.mem ((c.tc : Thread Cert.LnBRefIdeal.nD Cert.LnBRefIdeal.τ).loc Cert.LnBRefIdeal.main_arg0) = m ((c.tc : Thread Cert.LnBRefIdeal.nD Cert.LnBRefIdeal.τ).loc Cert.LnBRefIdeal.main_arg0)
      ∧ r.2.mem ((c.tc : Thread Cert.LnBRefIdeal.nD Cert.LnBRefIdeal.τ).loc Cert.LnBRefIdeal.main_arg1) = m ((c.tc : Thread Cert.LnBRefIdeal.nD Cert.LnBRefIdeal.τ).loc Cert.LnBRefIdeal.main_arg1)
      ∧ r.2.mem ((c.tc : Thread Cert.LnBRefIdeal.nD Cert.LnBRefIdeal.τ).loc Cert.LnBRefIdeal.main_arg2) = m ((c.tc : Thread Cert.LnBRefIdeal.nD Cert.LnBRefIdeal.τ).loc Cert.LnBRefIdeal.main_arg2)
      ∧ r.2.mem ((c.tc : Thread Cert.LnBRefIdeal.nD Cert.LnBRefIdeal.τ).loc Cert.LnBRefIdeal.main_arg3) = m ((c.tc : Thread Cert.LnBRefIdeal.nD Cert.LnBRefIdeal.τ).loc Cert.LnBRefIdeal.main_arg3))
      ∧ r.2.sem = fun _ => 0)

def quiescent_SpatialFwd [hSpatialFwd : Cert.SpatialFwd.Facts] : Prop :=
  ∀ (m : (ℓ : Loc Cert.SpatialFwd.nD Cert.SpatialFwd.τ Cert.SpatialFwd.sig) → Buf (Elt Bits) ℓ) (g : Dev Cert.SpatialFwd.nD → PrngReg), Pre_SpatialFwd m →
    θ_run (Cert.SpatialFwd.defs (F := Bits)) (onTc (τ := Cert.SpatialFwd.τ) (Cert.SpatialFwd.main (F := Bits))) ⟨m, fun _ => 0, g⟩ (fun r => (∀ c : Dev Cert.SpatialFwd.nD,
      r.2.mem ((c.tc : Thread Cert.SpatialFwd.nD Cert.SpatialFwd.τ).loc Cert.SpatialFwd.main_arg0) = m ((c.tc : Thread Cert.SpatialFwd.nD Cert.SpatialFwd.τ).loc Cert.SpatialFwd.main_arg0)
      ∧ r.2.mem ((c.tc : Thread Cert.SpatialFwd.nD Cert.SpatialFwd.τ).loc Cert.SpatialFwd.main_arg1) = m ((c.tc : Thread Cert.SpatialFwd.nD Cert.SpatialFwd.τ).loc Cert.SpatialFwd.main_arg1)
      ∧ r.2.mem ((c.tc : Thread Cert.SpatialFwd.nD Cert.SpatialFwd.τ).loc Cert.SpatialFwd.main_arg2) = m ((c.tc : Thread Cert.SpatialFwd.nD Cert.SpatialFwd.τ).loc Cert.SpatialFwd.main_arg2)
      ∧ r.2.mem ((c.tc : Thread Cert.SpatialFwd.nD Cert.SpatialFwd.τ).loc Cert.SpatialFwd.main_arg3) = m ((c.tc : Thread Cert.SpatialFwd.nD Cert.SpatialFwd.τ).loc Cert.SpatialFwd.main_arg3))
      ∧ r.2.sem = fun _ => 0)

def quiescent_SpatialFwdIdeal [hSpatialFwdIdeal : Cert.SpatialFwdIdeal.Facts] : Prop :=
  ∀ (m : (ℓ : Loc Cert.SpatialFwdIdeal.nD Cert.SpatialFwdIdeal.τ Cert.SpatialFwdIdeal.sig) → Buf (Elt Ideal) ℓ) (g : Dev Cert.SpatialFwdIdeal.nD → PrngReg), Pre_SpatialFwdIdeal m →
    θ_run (Cert.SpatialFwdIdeal.defs (F := Ideal)) (onTc (τ := Cert.SpatialFwdIdeal.τ) (Cert.SpatialFwdIdeal.main (F := Ideal))) ⟨m, fun _ => 0, g⟩ (fun r => (∀ c : Dev Cert.SpatialFwdIdeal.nD,
      r.2.mem ((c.tc : Thread Cert.SpatialFwdIdeal.nD Cert.SpatialFwdIdeal.τ).loc Cert.SpatialFwdIdeal.main_arg0) = m ((c.tc : Thread Cert.SpatialFwdIdeal.nD Cert.SpatialFwdIdeal.τ).loc Cert.SpatialFwdIdeal.main_arg0)
      ∧ r.2.mem ((c.tc : Thread Cert.SpatialFwdIdeal.nD Cert.SpatialFwdIdeal.τ).loc Cert.SpatialFwdIdeal.main_arg1) = m ((c.tc : Thread Cert.SpatialFwdIdeal.nD Cert.SpatialFwdIdeal.τ).loc Cert.SpatialFwdIdeal.main_arg1)
      ∧ r.2.mem ((c.tc : Thread Cert.SpatialFwdIdeal.nD Cert.SpatialFwdIdeal.τ).loc Cert.SpatialFwdIdeal.main_arg2) = m ((c.tc : Thread Cert.SpatialFwdIdeal.nD Cert.SpatialFwdIdeal.τ).loc Cert.SpatialFwdIdeal.main_arg2)
      ∧ r.2.mem ((c.tc : Thread Cert.SpatialFwdIdeal.nD Cert.SpatialFwdIdeal.τ).loc Cert.SpatialFwdIdeal.main_arg3) = m ((c.tc : Thread Cert.SpatialFwdIdeal.nD Cert.SpatialFwdIdeal.τ).loc Cert.SpatialFwdIdeal.main_arg3))
      ∧ r.2.sem = fun _ => 0)

def quiescent_SpatialFwdRefIdeal [hSpatialFwdRefIdeal : Cert.SpatialFwdRefIdeal.Facts] : Prop :=
  ∀ (m : (ℓ : Loc Cert.SpatialFwdRefIdeal.nD Cert.SpatialFwdRefIdeal.τ Cert.SpatialFwdRefIdeal.sig) → Buf (Elt Ideal) ℓ) (g : Dev Cert.SpatialFwdRefIdeal.nD → PrngReg), Pre_SpatialFwdRefIdeal m →
    θ_run (Cert.SpatialFwdRefIdeal.defs (F := Ideal)) (onTc (τ := Cert.SpatialFwdRefIdeal.τ) (Cert.SpatialFwdRefIdeal.main (F := Ideal))) ⟨m, fun _ => 0, g⟩ (fun r => (∀ c : Dev Cert.SpatialFwdRefIdeal.nD,
      r.2.mem ((c.tc : Thread Cert.SpatialFwdRefIdeal.nD Cert.SpatialFwdRefIdeal.τ).loc Cert.SpatialFwdRefIdeal.main_arg0) = m ((c.tc : Thread Cert.SpatialFwdRefIdeal.nD Cert.SpatialFwdRefIdeal.τ).loc Cert.SpatialFwdRefIdeal.main_arg0)
      ∧ r.2.mem ((c.tc : Thread Cert.SpatialFwdRefIdeal.nD Cert.SpatialFwdRefIdeal.τ).loc Cert.SpatialFwdRefIdeal.main_arg1) = m ((c.tc : Thread Cert.SpatialFwdRefIdeal.nD Cert.SpatialFwdRefIdeal.τ).loc Cert.SpatialFwdRefIdeal.main_arg1)
      ∧ r.2.mem ((c.tc : Thread Cert.SpatialFwdRefIdeal.nD Cert.SpatialFwdRefIdeal.τ).loc Cert.SpatialFwdRefIdeal.main_arg2) = m ((c.tc : Thread Cert.SpatialFwdRefIdeal.nD Cert.SpatialFwdRefIdeal.τ).loc Cert.SpatialFwdRefIdeal.main_arg2)
      ∧ r.2.mem ((c.tc : Thread Cert.SpatialFwdRefIdeal.nD Cert.SpatialFwdRefIdeal.τ).loc Cert.SpatialFwdRefIdeal.main_arg3) = m ((c.tc : Thread Cert.SpatialFwdRefIdeal.nD Cert.SpatialFwdRefIdeal.τ).loc Cert.SpatialFwdRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_v19) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_ConvIn0_ConvIn0Ideal : Prop :=
  True

def algebraic_ConvIn0Ideal_ConvIn0RefIdeal [hConvIn0Ideal : Cert.ConvIn0Ideal.Facts] [hConvIn0RefIdeal : Cert.ConvIn0RefIdeal.Facts] : Prop :=
  ∀ (m : (ℓ : Loc Cert.ConvIn0Ideal.nD Cert.ConvIn0Ideal.τ Cert.ConvIn0Ideal.sig) → Buf (Elt Ideal) ℓ) (g : Dev Cert.ConvIn0Ideal.nD → PrngReg)
    (m' : (ℓ : Loc Cert.ConvIn0RefIdeal.nD Cert.ConvIn0RefIdeal.τ Cert.ConvIn0RefIdeal.sig) → Buf (Elt Ideal) ℓ) (g' : Dev Cert.ConvIn0RefIdeal.nD → PrngReg), Pre_ConvIn0Ideal m →
    (∀ c : Dev Cert.ConvIn0Ideal.nD,
      m' ((c.tc : Thread Cert.ConvIn0RefIdeal.nD Cert.ConvIn0RefIdeal.τ).loc Cert.ConvIn0RefIdeal.main_arg0) = m ((c.tc : Thread Cert.ConvIn0Ideal.nD Cert.ConvIn0Ideal.τ).loc Cert.ConvIn0Ideal.main_arg0)
      ∧ m' ((c.tc : Thread Cert.ConvIn0RefIdeal.nD Cert.ConvIn0RefIdeal.τ).loc Cert.ConvIn0RefIdeal.main_arg1) = m ((c.tc : Thread Cert.ConvIn0Ideal.nD Cert.ConvIn0Ideal.τ).loc Cert.ConvIn0Ideal.main_arg1)) →
    ∃ (v0 : (c : Dev Cert.ConvIn0Ideal.nD) → Buf (Elt Ideal) ((c.tc : Thread Cert.ConvIn0Ideal.nD Cert.ConvIn0Ideal.τ).loc Cert.ConvIn0Ideal.main_v0)),
      θ_run (Cert.ConvIn0Ideal.defs (F := Ideal)) (onTc (τ := Cert.ConvIn0Ideal.τ) (Cert.ConvIn0Ideal.main (F := Ideal))) ⟨m, fun _ => 0, g⟩ (fun r => ∀ c : Dev Cert.ConvIn0Ideal.nD,
          r.2.mem ((c.tc : Thread Cert.ConvIn0Ideal.nD Cert.ConvIn0Ideal.τ).loc Cert.ConvIn0Ideal.main_v0) = v0 c
          ∧ r.2.mem ((c.tc : Thread Cert.ConvIn0Ideal.nD Cert.ConvIn0Ideal.τ).loc Cert.ConvIn0Ideal.main_arg0) = m ((c.tc : Thread Cert.ConvIn0Ideal.nD Cert.ConvIn0Ideal.τ).loc Cert.ConvIn0Ideal.main_arg0)
          ∧ r.2.mem ((c.tc : Thread Cert.ConvIn0Ideal.nD Cert.ConvIn0Ideal.τ).loc Cert.ConvIn0Ideal.main_arg1) = m ((c.tc : Thread Cert.ConvIn0Ideal.nD Cert.ConvIn0Ideal.τ).loc Cert.ConvIn0Ideal.main_arg1))
      ∧ θ_run (Cert.ConvIn0RefIdeal.defs (F := Ideal)) (onTc (τ := Cert.ConvIn0RefIdeal.τ) (Cert.ConvIn0RefIdeal.main (F := Ideal))) ⟨m', fun _ => 0, g'⟩ (fun r => ∀ c : Dev Cert.ConvIn0RefIdeal.nD,
          r.2.mem ((c.tc : Thread Cert.ConvIn0RefIdeal.nD Cert.ConvIn0RefIdeal.τ).loc Cert.ConvIn0RefIdeal.main_v3) = v0 c
          ∧ r.2.mem ((c.tc : Thread Cert.ConvIn0RefIdeal.nD Cert.ConvIn0RefIdeal.τ).loc Cert.ConvIn0RefIdeal.main_arg0) = m' ((c.tc : Thread Cert.ConvIn0RefIdeal.nD Cert.ConvIn0RefIdeal.τ).loc Cert.ConvIn0RefIdeal.main_arg0)
          ∧ r.2.mem ((c.tc : Thread Cert.ConvIn0RefIdeal.nD Cert.ConvIn0RefIdeal.τ).loc Cert.ConvIn0RefIdeal.main_arg1) = m' ((c.tc : Thread Cert.ConvIn0RefIdeal.nD Cert.ConvIn0RefIdeal.τ).loc Cert.ConvIn0RefIdeal.main_arg1))

def preserves_ConvIn0Bx_ConvIn0BxIdeal : Prop :=
  True

def algebraic_ConvIn0BxIdeal_ConvIn0BxRefIdeal [hConvIn0BxIdeal : Cert.ConvIn0BxIdeal.Facts] [hConvIn0BxRefIdeal : Cert.ConvIn0BxRefIdeal.Facts] : Prop :=
  ∀ (m : (ℓ : Loc Cert.ConvIn0BxIdeal.nD Cert.ConvIn0BxIdeal.τ Cert.ConvIn0BxIdeal.sig) → Buf (Elt Ideal) ℓ) (g : Dev Cert.ConvIn0BxIdeal.nD → PrngReg)
    (m' : (ℓ : Loc Cert.ConvIn0BxRefIdeal.nD Cert.ConvIn0BxRefIdeal.τ Cert.ConvIn0BxRefIdeal.sig) → Buf (Elt Ideal) ℓ) (g' : Dev Cert.ConvIn0BxRefIdeal.nD → PrngReg), Pre_ConvIn0BxIdeal m →
    (∀ c : Dev Cert.ConvIn0BxIdeal.nD,
      m' ((c.tc : Thread Cert.ConvIn0BxRefIdeal.nD Cert.ConvIn0BxRefIdeal.τ).loc Cert.ConvIn0BxRefIdeal.main_arg0) = m ((c.tc : Thread Cert.ConvIn0BxIdeal.nD Cert.ConvIn0BxIdeal.τ).loc Cert.ConvIn0BxIdeal.main_arg0)
      ∧ m' ((c.tc : Thread Cert.ConvIn0BxRefIdeal.nD Cert.ConvIn0BxRefIdeal.τ).loc Cert.ConvIn0BxRefIdeal.main_arg1) = m ((c.tc : Thread Cert.ConvIn0BxIdeal.nD Cert.ConvIn0BxIdeal.τ).loc Cert.ConvIn0BxIdeal.main_arg1)) →
    ∃ (v0 : (c : Dev Cert.ConvIn0BxIdeal.nD) → Buf (Elt Ideal) ((c.tc : Thread Cert.ConvIn0BxIdeal.nD Cert.ConvIn0BxIdeal.τ).loc Cert.ConvIn0BxIdeal.main_v0)),
      θ_run (Cert.ConvIn0BxIdeal.defs (F := Ideal)) (onTc (τ := Cert.ConvIn0BxIdeal.τ) (Cert.ConvIn0BxIdeal.main (F := Ideal))) ⟨m, fun _ => 0, g⟩ (fun r => ∀ c : Dev Cert.ConvIn0BxIdeal.nD,
          r.2.mem ((c.tc : Thread Cert.ConvIn0BxIdeal.nD Cert.ConvIn0BxIdeal.τ).loc Cert.ConvIn0BxIdeal.main_v0) = v0 c
          ∧ r.2.mem ((c.tc : Thread Cert.ConvIn0BxIdeal.nD Cert.ConvIn0BxIdeal.τ).loc Cert.ConvIn0BxIdeal.main_arg0) = m ((c.tc : Thread Cert.ConvIn0BxIdeal.nD Cert.ConvIn0BxIdeal.τ).loc Cert.ConvIn0BxIdeal.main_arg0)
          ∧ r.2.mem ((c.tc : Thread Cert.ConvIn0BxIdeal.nD Cert.ConvIn0BxIdeal.τ).loc Cert.ConvIn0BxIdeal.main_arg1) = m ((c.tc : Thread Cert.ConvIn0BxIdeal.nD Cert.ConvIn0BxIdeal.τ).loc Cert.ConvIn0BxIdeal.main_arg1))
      ∧ θ_run (Cert.ConvIn0BxRefIdeal.defs (F := Ideal)) (onTc (τ := Cert.ConvIn0BxRefIdeal.τ) (Cert.ConvIn0BxRefIdeal.main (F := Ideal))) ⟨m', fun _ => 0, g'⟩ (fun r => ∀ c : Dev Cert.ConvIn0BxRefIdeal.nD,
          r.2.mem ((c.tc : Thread Cert.ConvIn0BxRefIdeal.nD Cert.ConvIn0BxRefIdeal.τ).loc Cert.ConvIn0BxRefIdeal.main_v5) = v0 c
          ∧ r.2.mem ((c.tc : Thread Cert.ConvIn0BxRefIdeal.nD Cert.ConvIn0BxRefIdeal.τ).loc Cert.ConvIn0BxRefIdeal.main_arg0) = m' ((c.tc : Thread Cert.ConvIn0BxRefIdeal.nD Cert.ConvIn0BxRefIdeal.τ).loc Cert.ConvIn0BxRefIdeal.main_arg0)
          ∧ r.2.mem ((c.tc : Thread Cert.ConvIn0BxRefIdeal.nD Cert.ConvIn0BxRefIdeal.τ).loc Cert.ConvIn0BxRefIdeal.main_arg1) = m' ((c.tc : Thread Cert.ConvIn0BxRefIdeal.nD Cert.ConvIn0BxRefIdeal.τ).loc Cert.ConvIn0BxRefIdeal.main_arg1))

def preserves_ConvIn0Bw_ConvIn0BwIdeal : Prop :=
  True

def algebraic_ConvIn0BwIdeal_ConvIn0BwRefIdeal [hConvIn0BwIdeal : Cert.ConvIn0BwIdeal.Facts] [hConvIn0BwRefIdeal : Cert.ConvIn0BwRefIdeal.Facts] : Prop :=
  ∀ (m : (ℓ : Loc Cert.ConvIn0BwIdeal.nD Cert.ConvIn0BwIdeal.τ Cert.ConvIn0BwIdeal.sig) → Buf (Elt Ideal) ℓ) (g : Dev Cert.ConvIn0BwIdeal.nD → PrngReg)
    (m' : (ℓ : Loc Cert.ConvIn0BwRefIdeal.nD Cert.ConvIn0BwRefIdeal.τ Cert.ConvIn0BwRefIdeal.sig) → Buf (Elt Ideal) ℓ) (g' : Dev Cert.ConvIn0BwRefIdeal.nD → PrngReg), Pre_ConvIn0BwIdeal m →
    (∀ c : Dev Cert.ConvIn0BwIdeal.nD,
      m' ((c.tc : Thread Cert.ConvIn0BwRefIdeal.nD Cert.ConvIn0BwRefIdeal.τ).loc Cert.ConvIn0BwRefIdeal.main_arg0) = m ((c.tc : Thread Cert.ConvIn0BwIdeal.nD Cert.ConvIn0BwIdeal.τ).loc Cert.ConvIn0BwIdeal.main_arg0)
      ∧ m' ((c.tc : Thread Cert.ConvIn0BwRefIdeal.nD Cert.ConvIn0BwRefIdeal.τ).loc Cert.ConvIn0BwRefIdeal.main_arg1) = m ((c.tc : Thread Cert.ConvIn0BwIdeal.nD Cert.ConvIn0BwIdeal.τ).loc Cert.ConvIn0BwIdeal.main_arg1)) →
    ∃ (v0 : (c : Dev Cert.ConvIn0BwIdeal.nD) → Buf (Elt Ideal) ((c.tc : Thread Cert.ConvIn0BwIdeal.nD Cert.ConvIn0BwIdeal.τ).loc Cert.ConvIn0BwIdeal.main_v0)),
      θ_run (Cert.ConvIn0BwIdeal.defs (F := Ideal)) (onTc (τ := Cert.ConvIn0BwIdeal.τ) (Cert.ConvIn0BwIdeal.main (F := Ideal))) ⟨m, fun _ => 0, g⟩ (fun r => ∀ c : Dev Cert.ConvIn0BwIdeal.nD,
          r.2.mem ((c.tc : Thread Cert.ConvIn0BwIdeal.nD Cert.ConvIn0BwIdeal.τ).loc Cert.ConvIn0BwIdeal.main_v0) = v0 c
          ∧ r.2.mem ((c.tc : Thread Cert.ConvIn0BwIdeal.nD Cert.ConvIn0BwIdeal.τ).loc Cert.ConvIn0BwIdeal.main_arg0) = m ((c.tc : Thread Cert.ConvIn0BwIdeal.nD Cert.ConvIn0BwIdeal.τ).loc Cert.ConvIn0BwIdeal.main_arg0)
          ∧ r.2.mem ((c.tc : Thread Cert.ConvIn0BwIdeal.nD Cert.ConvIn0BwIdeal.τ).loc Cert.ConvIn0BwIdeal.main_arg1) = m ((c.tc : Thread Cert.ConvIn0BwIdeal.nD Cert.ConvIn0BwIdeal.τ).loc Cert.ConvIn0BwIdeal.main_arg1))
      ∧ θ_run (Cert.ConvIn0BwRefIdeal.defs (F := Ideal)) (onTc (τ := Cert.ConvIn0BwRefIdeal.τ) (Cert.ConvIn0BwRefIdeal.main (F := Ideal))) ⟨m', fun _ => 0, g'⟩ (fun r => ∀ c : Dev Cert.ConvIn0BwRefIdeal.nD,
          r.2.mem ((c.tc : Thread Cert.ConvIn0BwRefIdeal.nD Cert.ConvIn0BwRefIdeal.τ).loc Cert.ConvIn0BwRefIdeal.main_v8) = v0 c
          ∧ r.2.mem ((c.tc : Thread Cert.ConvIn0BwRefIdeal.nD Cert.ConvIn0BwRefIdeal.τ).loc Cert.ConvIn0BwRefIdeal.main_arg0) = m' ((c.tc : Thread Cert.ConvIn0BwRefIdeal.nD Cert.ConvIn0BwRefIdeal.τ).loc Cert.ConvIn0BwRefIdeal.main_arg0)
          ∧ r.2.mem ((c.tc : Thread Cert.ConvIn0BwRefIdeal.nD Cert.ConvIn0BwRefIdeal.τ).loc Cert.ConvIn0BwRefIdeal.main_arg1) = m' ((c.tc : Thread Cert.ConvIn0BwRefIdeal.nD Cert.ConvIn0BwRefIdeal.τ).loc Cert.ConvIn0BwRefIdeal.main_arg1))

def preserves_ConvIn3_ConvIn3Ideal : Prop :=
  True

def algebraic_ConvIn3Ideal_ConvIn3RefIdeal [hConvIn3Ideal : Cert.ConvIn3Ideal.Facts] [hConvIn3RefIdeal : Cert.ConvIn3RefIdeal.Facts] : Prop :=
  ∀ (m : (ℓ : Loc Cert.ConvIn3Ideal.nD Cert.ConvIn3Ideal.τ Cert.ConvIn3Ideal.sig) → Buf (Elt Ideal) ℓ) (g : Dev Cert.ConvIn3Ideal.nD → PrngReg)
    (m' : (ℓ : Loc Cert.ConvIn3RefIdeal.nD Cert.ConvIn3RefIdeal.τ Cert.ConvIn3RefIdeal.sig) → Buf (Elt Ideal) ℓ) (g' : Dev Cert.ConvIn3RefIdeal.nD → PrngReg), Pre_ConvIn3Ideal m →
    (∀ c : Dev Cert.ConvIn3Ideal.nD,
      m' ((c.tc : Thread Cert.ConvIn3RefIdeal.nD Cert.ConvIn3RefIdeal.τ).loc Cert.ConvIn3RefIdeal.main_arg0) = m ((c.tc : Thread Cert.ConvIn3Ideal.nD Cert.ConvIn3Ideal.τ).loc Cert.ConvIn3Ideal.main_arg0)
      ∧ m' ((c.tc : Thread Cert.ConvIn3RefIdeal.nD Cert.ConvIn3RefIdeal.τ).loc Cert.ConvIn3RefIdeal.main_arg1) = m ((c.tc : Thread Cert.ConvIn3Ideal.nD Cert.ConvIn3Ideal.τ).loc Cert.ConvIn3Ideal.main_arg1)) →
    ∃ (v0 : (c : Dev Cert.ConvIn3Ideal.nD) → Buf (Elt Ideal) ((c.tc : Thread Cert.ConvIn3Ideal.nD Cert.ConvIn3Ideal.τ).loc Cert.ConvIn3Ideal.main_v0)),
      θ_run (Cert.ConvIn3Ideal.defs (F := Ideal)) (onTc (τ := Cert.ConvIn3Ideal.τ) (Cert.ConvIn3Ideal.main (F := Ideal))) ⟨m, fun _ => 0, g⟩ (fun r => ∀ c : Dev Cert.ConvIn3Ideal.nD,
          r.2.mem ((c.tc : Thread Cert.ConvIn3Ideal.nD Cert.ConvIn3Ideal.τ).loc Cert.ConvIn3Ideal.main_v0) = v0 c
          ∧ r.2.mem ((c.tc : Thread Cert.ConvIn3Ideal.nD Cert.ConvIn3Ideal.τ).loc Cert.ConvIn3Ideal.main_arg0) = m ((c.tc : Thread Cert.ConvIn3Ideal.nD Cert.ConvIn3Ideal.τ).loc Cert.ConvIn3Ideal.main_arg0)
          ∧ r.2.mem ((c.tc : Thread Cert.ConvIn3Ideal.nD Cert.ConvIn3Ideal.τ).loc Cert.ConvIn3Ideal.main_arg1) = m ((c.tc : Thread Cert.ConvIn3Ideal.nD Cert.ConvIn3Ideal.τ).loc Cert.ConvIn3Ideal.main_arg1))
      ∧ θ_run (Cert.ConvIn3RefIdeal.defs (F := Ideal)) (onTc (τ := Cert.ConvIn3RefIdeal.τ) (Cert.ConvIn3RefIdeal.main (F := Ideal))) ⟨m', fun _ => 0, g'⟩ (fun r => ∀ c : Dev Cert.ConvIn3RefIdeal.nD,
          r.2.mem ((c.tc : Thread Cert.ConvIn3RefIdeal.nD Cert.ConvIn3RefIdeal.τ).loc Cert.ConvIn3RefIdeal.main_v3) = v0 c
          ∧ r.2.mem ((c.tc : Thread Cert.ConvIn3RefIdeal.nD Cert.ConvIn3RefIdeal.τ).loc Cert.ConvIn3RefIdeal.main_arg0) = m' ((c.tc : Thread Cert.ConvIn3RefIdeal.nD Cert.ConvIn3RefIdeal.τ).loc Cert.ConvIn3RefIdeal.main_arg0)
          ∧ r.2.mem ((c.tc : Thread Cert.ConvIn3RefIdeal.nD Cert.ConvIn3RefIdeal.τ).loc Cert.ConvIn3RefIdeal.main_arg1) = m' ((c.tc : Thread Cert.ConvIn3RefIdeal.nD Cert.ConvIn3RefIdeal.τ).loc Cert.ConvIn3RefIdeal.main_arg1))

def preserves_ConvIn3Bx_ConvIn3BxIdeal : Prop :=
  True

def algebraic_ConvIn3BxIdeal_ConvIn3BxRefIdeal [hConvIn3BxIdeal : Cert.ConvIn3BxIdeal.Facts] [hConvIn3BxRefIdeal : Cert.ConvIn3BxRefIdeal.Facts] : Prop :=
  ∀ (m : (ℓ : Loc Cert.ConvIn3BxIdeal.nD Cert.ConvIn3BxIdeal.τ Cert.ConvIn3BxIdeal.sig) → Buf (Elt Ideal) ℓ) (g : Dev Cert.ConvIn3BxIdeal.nD → PrngReg)
    (m' : (ℓ : Loc Cert.ConvIn3BxRefIdeal.nD Cert.ConvIn3BxRefIdeal.τ Cert.ConvIn3BxRefIdeal.sig) → Buf (Elt Ideal) ℓ) (g' : Dev Cert.ConvIn3BxRefIdeal.nD → PrngReg), Pre_ConvIn3BxIdeal m →
    (∀ c : Dev Cert.ConvIn3BxIdeal.nD,
      m' ((c.tc : Thread Cert.ConvIn3BxRefIdeal.nD Cert.ConvIn3BxRefIdeal.τ).loc Cert.ConvIn3BxRefIdeal.main_arg0) = m ((c.tc : Thread Cert.ConvIn3BxIdeal.nD Cert.ConvIn3BxIdeal.τ).loc Cert.ConvIn3BxIdeal.main_arg0)
      ∧ m' ((c.tc : Thread Cert.ConvIn3BxRefIdeal.nD Cert.ConvIn3BxRefIdeal.τ).loc Cert.ConvIn3BxRefIdeal.main_arg1) = m ((c.tc : Thread Cert.ConvIn3BxIdeal.nD Cert.ConvIn3BxIdeal.τ).loc Cert.ConvIn3BxIdeal.main_arg1)) →
    ∃ (v0 : (c : Dev Cert.ConvIn3BxIdeal.nD) → Buf (Elt Ideal) ((c.tc : Thread Cert.ConvIn3BxIdeal.nD Cert.ConvIn3BxIdeal.τ).loc Cert.ConvIn3BxIdeal.main_v0)),
      θ_run (Cert.ConvIn3BxIdeal.defs (F := Ideal)) (onTc (τ := Cert.ConvIn3BxIdeal.τ) (Cert.ConvIn3BxIdeal.main (F := Ideal))) ⟨m, fun _ => 0, g⟩ (fun r => ∀ c : Dev Cert.ConvIn3BxIdeal.nD,
          r.2.mem ((c.tc : Thread Cert.ConvIn3BxIdeal.nD Cert.ConvIn3BxIdeal.τ).loc Cert.ConvIn3BxIdeal.main_v0) = v0 c
          ∧ r.2.mem ((c.tc : Thread Cert.ConvIn3BxIdeal.nD Cert.ConvIn3BxIdeal.τ).loc Cert.ConvIn3BxIdeal.main_arg0) = m ((c.tc : Thread Cert.ConvIn3BxIdeal.nD Cert.ConvIn3BxIdeal.τ).loc Cert.ConvIn3BxIdeal.main_arg0)
          ∧ r.2.mem ((c.tc : Thread Cert.ConvIn3BxIdeal.nD Cert.ConvIn3BxIdeal.τ).loc Cert.ConvIn3BxIdeal.main_arg1) = m ((c.tc : Thread Cert.ConvIn3BxIdeal.nD Cert.ConvIn3BxIdeal.τ).loc Cert.ConvIn3BxIdeal.main_arg1))
      ∧ θ_run (Cert.ConvIn3BxRefIdeal.defs (F := Ideal)) (onTc (τ := Cert.ConvIn3BxRefIdeal.τ) (Cert.ConvIn3BxRefIdeal.main (F := Ideal))) ⟨m', fun _ => 0, g'⟩ (fun r => ∀ c : Dev Cert.ConvIn3BxRefIdeal.nD,
          r.2.mem ((c.tc : Thread Cert.ConvIn3BxRefIdeal.nD Cert.ConvIn3BxRefIdeal.τ).loc Cert.ConvIn3BxRefIdeal.main_v5) = v0 c
          ∧ r.2.mem ((c.tc : Thread Cert.ConvIn3BxRefIdeal.nD Cert.ConvIn3BxRefIdeal.τ).loc Cert.ConvIn3BxRefIdeal.main_arg0) = m' ((c.tc : Thread Cert.ConvIn3BxRefIdeal.nD Cert.ConvIn3BxRefIdeal.τ).loc Cert.ConvIn3BxRefIdeal.main_arg0)
          ∧ r.2.mem ((c.tc : Thread Cert.ConvIn3BxRefIdeal.nD Cert.ConvIn3BxRefIdeal.τ).loc Cert.ConvIn3BxRefIdeal.main_arg1) = m' ((c.tc : Thread Cert.ConvIn3BxRefIdeal.nD Cert.ConvIn3BxRefIdeal.τ).loc Cert.ConvIn3BxRefIdeal.main_arg1))

def preserves_ConvIn3Bw_ConvIn3BwIdeal : Prop :=
  True

def algebraic_ConvIn3BwIdeal_ConvIn3BwRefIdeal [hConvIn3BwIdeal : Cert.ConvIn3BwIdeal.Facts] [hConvIn3BwRefIdeal : Cert.ConvIn3BwRefIdeal.Facts] : Prop :=
  ∀ (m : (ℓ : Loc Cert.ConvIn3BwIdeal.nD Cert.ConvIn3BwIdeal.τ Cert.ConvIn3BwIdeal.sig) → Buf (Elt Ideal) ℓ) (g : Dev Cert.ConvIn3BwIdeal.nD → PrngReg)
    (m' : (ℓ : Loc Cert.ConvIn3BwRefIdeal.nD Cert.ConvIn3BwRefIdeal.τ Cert.ConvIn3BwRefIdeal.sig) → Buf (Elt Ideal) ℓ) (g' : Dev Cert.ConvIn3BwRefIdeal.nD → PrngReg), Pre_ConvIn3BwIdeal m →
    (∀ c : Dev Cert.ConvIn3BwIdeal.nD,
      m' ((c.tc : Thread Cert.ConvIn3BwRefIdeal.nD Cert.ConvIn3BwRefIdeal.τ).loc Cert.ConvIn3BwRefIdeal.main_arg0) = m ((c.tc : Thread Cert.ConvIn3BwIdeal.nD Cert.ConvIn3BwIdeal.τ).loc Cert.ConvIn3BwIdeal.main_arg0)
      ∧ m' ((c.tc : Thread Cert.ConvIn3BwRefIdeal.nD Cert.ConvIn3BwRefIdeal.τ).loc Cert.ConvIn3BwRefIdeal.main_arg1) = m ((c.tc : Thread Cert.ConvIn3BwIdeal.nD Cert.ConvIn3BwIdeal.τ).loc Cert.ConvIn3BwIdeal.main_arg1)) →
    ∃ (v0 : (c : Dev Cert.ConvIn3BwIdeal.nD) → Buf (Elt Ideal) ((c.tc : Thread Cert.ConvIn3BwIdeal.nD Cert.ConvIn3BwIdeal.τ).loc Cert.ConvIn3BwIdeal.main_v0)),
      θ_run (Cert.ConvIn3BwIdeal.defs (F := Ideal)) (onTc (τ := Cert.ConvIn3BwIdeal.τ) (Cert.ConvIn3BwIdeal.main (F := Ideal))) ⟨m, fun _ => 0, g⟩ (fun r => ∀ c : Dev Cert.ConvIn3BwIdeal.nD,
          r.2.mem ((c.tc : Thread Cert.ConvIn3BwIdeal.nD Cert.ConvIn3BwIdeal.τ).loc Cert.ConvIn3BwIdeal.main_v0) = v0 c
          ∧ r.2.mem ((c.tc : Thread Cert.ConvIn3BwIdeal.nD Cert.ConvIn3BwIdeal.τ).loc Cert.ConvIn3BwIdeal.main_arg0) = m ((c.tc : Thread Cert.ConvIn3BwIdeal.nD Cert.ConvIn3BwIdeal.τ).loc Cert.ConvIn3BwIdeal.main_arg0)
          ∧ r.2.mem ((c.tc : Thread Cert.ConvIn3BwIdeal.nD Cert.ConvIn3BwIdeal.τ).loc Cert.ConvIn3BwIdeal.main_arg1) = m ((c.tc : Thread Cert.ConvIn3BwIdeal.nD Cert.ConvIn3BwIdeal.τ).loc Cert.ConvIn3BwIdeal.main_arg1))
      ∧ θ_run (Cert.ConvIn3BwRefIdeal.defs (F := Ideal)) (onTc (τ := Cert.ConvIn3BwRefIdeal.τ) (Cert.ConvIn3BwRefIdeal.main (F := Ideal))) ⟨m', fun _ => 0, g'⟩ (fun r => ∀ c : Dev Cert.ConvIn3BwRefIdeal.nD,
          r.2.mem ((c.tc : Thread Cert.ConvIn3BwRefIdeal.nD Cert.ConvIn3BwRefIdeal.τ).loc Cert.ConvIn3BwRefIdeal.main_v8) = v0 c
          ∧ r.2.mem ((c.tc : Thread Cert.ConvIn3BwRefIdeal.nD Cert.ConvIn3BwRefIdeal.τ).loc Cert.ConvIn3BwRefIdeal.main_arg0) = m' ((c.tc : Thread Cert.ConvIn3BwRefIdeal.nD Cert.ConvIn3BwRefIdeal.τ).loc Cert.ConvIn3BwRefIdeal.main_arg0)
          ∧ r.2.mem ((c.tc : Thread Cert.ConvIn3BwRefIdeal.nD Cert.ConvIn3BwRefIdeal.τ).loc Cert.ConvIn3BwRefIdeal.main_arg1) = m' ((c.tc : Thread Cert.ConvIn3BwRefIdeal.nD Cert.ConvIn3BwRefIdeal.τ).loc Cert.ConvIn3BwRefIdeal.main_arg1))

def preserves_ConvOut0_ConvOut0Ideal : Prop :=
  True

def algebraic_ConvOut0Ideal_ConvOut0RefIdeal [hConvOut0Ideal : Cert.ConvOut0Ideal.Facts] [hConvOut0RefIdeal : Cert.ConvOut0RefIdeal.Facts] : Prop :=
  ∀ (m : (ℓ : Loc Cert.ConvOut0Ideal.nD Cert.ConvOut0Ideal.τ Cert.ConvOut0Ideal.sig) → Buf (Elt Ideal) ℓ) (g : Dev Cert.ConvOut0Ideal.nD → PrngReg)
    (m' : (ℓ : Loc Cert.ConvOut0RefIdeal.nD Cert.ConvOut0RefIdeal.τ Cert.ConvOut0RefIdeal.sig) → Buf (Elt Ideal) ℓ) (g' : Dev Cert.ConvOut0RefIdeal.nD → PrngReg), Pre_ConvOut0Ideal m →
    (∀ c : Dev Cert.ConvOut0Ideal.nD,
      m' ((c.tc : Thread Cert.ConvOut0RefIdeal.nD Cert.ConvOut0RefIdeal.τ).loc Cert.ConvOut0RefIdeal.main_arg0) = m ((c.tc : Thread Cert.ConvOut0Ideal.nD Cert.ConvOut0Ideal.τ).loc Cert.ConvOut0Ideal.main_arg0)
      ∧ m' ((c.tc : Thread Cert.ConvOut0RefIdeal.nD Cert.ConvOut0RefIdeal.τ).loc Cert.ConvOut0RefIdeal.main_arg1) = m ((c.tc : Thread Cert.ConvOut0Ideal.nD Cert.ConvOut0Ideal.τ).loc Cert.ConvOut0Ideal.main_arg1)) →
    ∃ (v0 : (c : Dev Cert.ConvOut0Ideal.nD) → Buf (Elt Ideal) ((c.tc : Thread Cert.ConvOut0Ideal.nD Cert.ConvOut0Ideal.τ).loc Cert.ConvOut0Ideal.main_v0)),
      θ_run (Cert.ConvOut0Ideal.defs (F := Ideal)) (onTc (τ := Cert.ConvOut0Ideal.τ) (Cert.ConvOut0Ideal.main (F := Ideal))) ⟨m, fun _ => 0, g⟩ (fun r => ∀ c : Dev Cert.ConvOut0Ideal.nD,
          r.2.mem ((c.tc : Thread Cert.ConvOut0Ideal.nD Cert.ConvOut0Ideal.τ).loc Cert.ConvOut0Ideal.main_v0) = v0 c
          ∧ r.2.mem ((c.tc : Thread Cert.ConvOut0Ideal.nD Cert.ConvOut0Ideal.τ).loc Cert.ConvOut0Ideal.main_arg0) = m ((c.tc : Thread Cert.ConvOut0Ideal.nD Cert.ConvOut0Ideal.τ).loc Cert.ConvOut0Ideal.main_arg0)
          ∧ r.2.mem ((c.tc : Thread Cert.ConvOut0Ideal.nD Cert.ConvOut0Ideal.τ).loc Cert.ConvOut0Ideal.main_arg1) = m ((c.tc : Thread Cert.ConvOut0Ideal.nD Cert.ConvOut0Ideal.τ).loc Cert.ConvOut0Ideal.main_arg1))
      ∧ θ_run (Cert.ConvOut0RefIdeal.defs (F := Ideal)) (onTc (τ := Cert.ConvOut0RefIdeal.τ) (Cert.ConvOut0RefIdeal.main (F := Ideal))) ⟨m', fun _ => 0, g'⟩ (fun r => ∀ c : Dev Cert.ConvOut0RefIdeal.nD,
          r.2.mem ((c.tc : Thread Cert.ConvOut0RefIdeal.nD Cert.ConvOut0RefIdeal.τ).loc Cert.ConvOut0RefIdeal.main_v3) = v0 c
          ∧ r.2.mem ((c.tc : Thread Cert.ConvOut0RefIdeal.nD Cert.ConvOut0RefIdeal.τ).loc Cert.ConvOut0RefIdeal.main_arg0) = m' ((c.tc : Thread Cert.ConvOut0RefIdeal.nD Cert.ConvOut0RefIdeal.τ).loc Cert.ConvOut0RefIdeal.main_arg0)
          ∧ r.2.mem ((c.tc : Thread Cert.ConvOut0RefIdeal.nD Cert.ConvOut0RefIdeal.τ).loc Cert.ConvOut0RefIdeal.main_arg1) = m' ((c.tc : Thread Cert.ConvOut0RefIdeal.nD Cert.ConvOut0RefIdeal.τ).loc Cert.ConvOut0RefIdeal.main_arg1))

def preserves_ConvOut0Bx_ConvOut0BxIdeal : Prop :=
  True

def algebraic_ConvOut0BxIdeal_ConvOut0BxRefIdeal [hConvOut0BxIdeal : Cert.ConvOut0BxIdeal.Facts] [hConvOut0BxRefIdeal : Cert.ConvOut0BxRefIdeal.Facts] : Prop :=
  ∀ (m : (ℓ : Loc Cert.ConvOut0BxIdeal.nD Cert.ConvOut0BxIdeal.τ Cert.ConvOut0BxIdeal.sig) → Buf (Elt Ideal) ℓ) (g : Dev Cert.ConvOut0BxIdeal.nD → PrngReg)
    (m' : (ℓ : Loc Cert.ConvOut0BxRefIdeal.nD Cert.ConvOut0BxRefIdeal.τ Cert.ConvOut0BxRefIdeal.sig) → Buf (Elt Ideal) ℓ) (g' : Dev Cert.ConvOut0BxRefIdeal.nD → PrngReg), Pre_ConvOut0BxIdeal m →
    (∀ c : Dev Cert.ConvOut0BxIdeal.nD,
      m' ((c.tc : Thread Cert.ConvOut0BxRefIdeal.nD Cert.ConvOut0BxRefIdeal.τ).loc Cert.ConvOut0BxRefIdeal.main_arg0) = m ((c.tc : Thread Cert.ConvOut0BxIdeal.nD Cert.ConvOut0BxIdeal.τ).loc Cert.ConvOut0BxIdeal.main_arg0)
      ∧ m' ((c.tc : Thread Cert.ConvOut0BxRefIdeal.nD Cert.ConvOut0BxRefIdeal.τ).loc Cert.ConvOut0BxRefIdeal.main_arg1) = m ((c.tc : Thread Cert.ConvOut0BxIdeal.nD Cert.ConvOut0BxIdeal.τ).loc Cert.ConvOut0BxIdeal.main_arg1)) →
    ∃ (v0 : (c : Dev Cert.ConvOut0BxIdeal.nD) → Buf (Elt Ideal) ((c.tc : Thread Cert.ConvOut0BxIdeal.nD Cert.ConvOut0BxIdeal.τ).loc Cert.ConvOut0BxIdeal.main_v0)),
      θ_run (Cert.ConvOut0BxIdeal.defs (F := Ideal)) (onTc (τ := Cert.ConvOut0BxIdeal.τ) (Cert.ConvOut0BxIdeal.main (F := Ideal))) ⟨m, fun _ => 0, g⟩ (fun r => ∀ c : Dev Cert.ConvOut0BxIdeal.nD,
          r.2.mem ((c.tc : Thread Cert.ConvOut0BxIdeal.nD Cert.ConvOut0BxIdeal.τ).loc Cert.ConvOut0BxIdeal.main_v0) = v0 c
          ∧ r.2.mem ((c.tc : Thread Cert.ConvOut0BxIdeal.nD Cert.ConvOut0BxIdeal.τ).loc Cert.ConvOut0BxIdeal.main_arg0) = m ((c.tc : Thread Cert.ConvOut0BxIdeal.nD Cert.ConvOut0BxIdeal.τ).loc Cert.ConvOut0BxIdeal.main_arg0)
          ∧ r.2.mem ((c.tc : Thread Cert.ConvOut0BxIdeal.nD Cert.ConvOut0BxIdeal.τ).loc Cert.ConvOut0BxIdeal.main_arg1) = m ((c.tc : Thread Cert.ConvOut0BxIdeal.nD Cert.ConvOut0BxIdeal.τ).loc Cert.ConvOut0BxIdeal.main_arg1))
      ∧ θ_run (Cert.ConvOut0BxRefIdeal.defs (F := Ideal)) (onTc (τ := Cert.ConvOut0BxRefIdeal.τ) (Cert.ConvOut0BxRefIdeal.main (F := Ideal))) ⟨m', fun _ => 0, g'⟩ (fun r => ∀ c : Dev Cert.ConvOut0BxRefIdeal.nD,
          r.2.mem ((c.tc : Thread Cert.ConvOut0BxRefIdeal.nD Cert.ConvOut0BxRefIdeal.τ).loc Cert.ConvOut0BxRefIdeal.main_v5) = v0 c
          ∧ r.2.mem ((c.tc : Thread Cert.ConvOut0BxRefIdeal.nD Cert.ConvOut0BxRefIdeal.τ).loc Cert.ConvOut0BxRefIdeal.main_arg0) = m' ((c.tc : Thread Cert.ConvOut0BxRefIdeal.nD Cert.ConvOut0BxRefIdeal.τ).loc Cert.ConvOut0BxRefIdeal.main_arg0)
          ∧ r.2.mem ((c.tc : Thread Cert.ConvOut0BxRefIdeal.nD Cert.ConvOut0BxRefIdeal.τ).loc Cert.ConvOut0BxRefIdeal.main_arg1) = m' ((c.tc : Thread Cert.ConvOut0BxRefIdeal.nD Cert.ConvOut0BxRefIdeal.τ).loc Cert.ConvOut0BxRefIdeal.main_arg1))

def preserves_ConvOut0Bw_ConvOut0BwIdeal : Prop :=
  True

def algebraic_ConvOut0BwIdeal_ConvOut0BwRefIdeal [hConvOut0BwIdeal : Cert.ConvOut0BwIdeal.Facts] [hConvOut0BwRefIdeal : Cert.ConvOut0BwRefIdeal.Facts] : Prop :=
  ∀ (m : (ℓ : Loc Cert.ConvOut0BwIdeal.nD Cert.ConvOut0BwIdeal.τ Cert.ConvOut0BwIdeal.sig) → Buf (Elt Ideal) ℓ) (g : Dev Cert.ConvOut0BwIdeal.nD → PrngReg)
    (m' : (ℓ : Loc Cert.ConvOut0BwRefIdeal.nD Cert.ConvOut0BwRefIdeal.τ Cert.ConvOut0BwRefIdeal.sig) → Buf (Elt Ideal) ℓ) (g' : Dev Cert.ConvOut0BwRefIdeal.nD → PrngReg), Pre_ConvOut0BwIdeal m →
    (∀ c : Dev Cert.ConvOut0BwIdeal.nD,
      m' ((c.tc : Thread Cert.ConvOut0BwRefIdeal.nD Cert.ConvOut0BwRefIdeal.τ).loc Cert.ConvOut0BwRefIdeal.main_arg0) = m ((c.tc : Thread Cert.ConvOut0BwIdeal.nD Cert.ConvOut0BwIdeal.τ).loc Cert.ConvOut0BwIdeal.main_arg0)
      ∧ m' ((c.tc : Thread Cert.ConvOut0BwRefIdeal.nD Cert.ConvOut0BwRefIdeal.τ).loc Cert.ConvOut0BwRefIdeal.main_arg1) = m ((c.tc : Thread Cert.ConvOut0BwIdeal.nD Cert.ConvOut0BwIdeal.τ).loc Cert.ConvOut0BwIdeal.main_arg1)) →
    ∃ (v0 : (c : Dev Cert.ConvOut0BwIdeal.nD) → Buf (Elt Ideal) ((c.tc : Thread Cert.ConvOut0BwIdeal.nD Cert.ConvOut0BwIdeal.τ).loc Cert.ConvOut0BwIdeal.main_v0)),
      θ_run (Cert.ConvOut0BwIdeal.defs (F := Ideal)) (onTc (τ := Cert.ConvOut0BwIdeal.τ) (Cert.ConvOut0BwIdeal.main (F := Ideal))) ⟨m, fun _ => 0, g⟩ (fun r => ∀ c : Dev Cert.ConvOut0BwIdeal.nD,
          r.2.mem ((c.tc : Thread Cert.ConvOut0BwIdeal.nD Cert.ConvOut0BwIdeal.τ).loc Cert.ConvOut0BwIdeal.main_v0) = v0 c
          ∧ r.2.mem ((c.tc : Thread Cert.ConvOut0BwIdeal.nD Cert.ConvOut0BwIdeal.τ).loc Cert.ConvOut0BwIdeal.main_arg0) = m ((c.tc : Thread Cert.ConvOut0BwIdeal.nD Cert.ConvOut0BwIdeal.τ).loc Cert.ConvOut0BwIdeal.main_arg0)
          ∧ r.2.mem ((c.tc : Thread Cert.ConvOut0BwIdeal.nD Cert.ConvOut0BwIdeal.τ).loc Cert.ConvOut0BwIdeal.main_arg1) = m ((c.tc : Thread Cert.ConvOut0BwIdeal.nD Cert.ConvOut0BwIdeal.τ).loc Cert.ConvOut0BwIdeal.main_arg1))
      ∧ θ_run (Cert.ConvOut0BwRefIdeal.defs (F := Ideal)) (onTc (τ := Cert.ConvOut0BwRefIdeal.τ) (Cert.ConvOut0BwRefIdeal.main (F := Ideal))) ⟨m', fun _ => 0, g'⟩ (fun r => ∀ c : Dev Cert.ConvOut0BwRefIdeal.nD,
          r.2.mem ((c.tc : Thread Cert.ConvOut0BwRefIdeal.nD Cert.ConvOut0BwRefIdeal.τ).loc Cert.ConvOut0BwRefIdeal.main_v8) = v0 c
          ∧ r.2.mem ((c.tc : Thread Cert.ConvOut0BwRefIdeal.nD Cert.ConvOut0BwRefIdeal.τ).loc Cert.ConvOut0BwRefIdeal.main_arg0) = m' ((c.tc : Thread Cert.ConvOut0BwRefIdeal.nD Cert.ConvOut0BwRefIdeal.τ).loc Cert.ConvOut0BwRefIdeal.main_arg0)
          ∧ r.2.mem ((c.tc : Thread Cert.ConvOut0BwRefIdeal.nD Cert.ConvOut0BwRefIdeal.τ).loc Cert.ConvOut0BwRefIdeal.main_arg1) = m' ((c.tc : Thread Cert.ConvOut0BwRefIdeal.nD Cert.ConvOut0BwRefIdeal.τ).loc Cert.ConvOut0BwRefIdeal.main_arg1))

def preserves_ConvOut3_ConvOut3Ideal : Prop :=
  True

def algebraic_ConvOut3Ideal_ConvOut3RefIdeal [hConvOut3Ideal : Cert.ConvOut3Ideal.Facts] [hConvOut3RefIdeal : Cert.ConvOut3RefIdeal.Facts] : Prop :=
  ∀ (m : (ℓ : Loc Cert.ConvOut3Ideal.nD Cert.ConvOut3Ideal.τ Cert.ConvOut3Ideal.sig) → Buf (Elt Ideal) ℓ) (g : Dev Cert.ConvOut3Ideal.nD → PrngReg)
    (m' : (ℓ : Loc Cert.ConvOut3RefIdeal.nD Cert.ConvOut3RefIdeal.τ Cert.ConvOut3RefIdeal.sig) → Buf (Elt Ideal) ℓ) (g' : Dev Cert.ConvOut3RefIdeal.nD → PrngReg), Pre_ConvOut3Ideal m →
    (∀ c : Dev Cert.ConvOut3Ideal.nD,
      m' ((c.tc : Thread Cert.ConvOut3RefIdeal.nD Cert.ConvOut3RefIdeal.τ).loc Cert.ConvOut3RefIdeal.main_arg0) = m ((c.tc : Thread Cert.ConvOut3Ideal.nD Cert.ConvOut3Ideal.τ).loc Cert.ConvOut3Ideal.main_arg0)
      ∧ m' ((c.tc : Thread Cert.ConvOut3RefIdeal.nD Cert.ConvOut3RefIdeal.τ).loc Cert.ConvOut3RefIdeal.main_arg1) = m ((c.tc : Thread Cert.ConvOut3Ideal.nD Cert.ConvOut3Ideal.τ).loc Cert.ConvOut3Ideal.main_arg1)) →
    ∃ (v0 : (c : Dev Cert.ConvOut3Ideal.nD) → Buf (Elt Ideal) ((c.tc : Thread Cert.ConvOut3Ideal.nD Cert.ConvOut3Ideal.τ).loc Cert.ConvOut3Ideal.main_v0)),
      θ_run (Cert.ConvOut3Ideal.defs (F := Ideal)) (onTc (τ := Cert.ConvOut3Ideal.τ) (Cert.ConvOut3Ideal.main (F := Ideal))) ⟨m, fun _ => 0, g⟩ (fun r => ∀ c : Dev Cert.ConvOut3Ideal.nD,
          r.2.mem ((c.tc : Thread Cert.ConvOut3Ideal.nD Cert.ConvOut3Ideal.τ).loc Cert.ConvOut3Ideal.main_v0) = v0 c
          ∧ r.2.mem ((c.tc : Thread Cert.ConvOut3Ideal.nD Cert.ConvOut3Ideal.τ).loc Cert.ConvOut3Ideal.main_arg0) = m ((c.tc : Thread Cert.ConvOut3Ideal.nD Cert.ConvOut3Ideal.τ).loc Cert.ConvOut3Ideal.main_arg0)
          ∧ r.2.mem ((c.tc : Thread Cert.ConvOut3Ideal.nD Cert.ConvOut3Ideal.τ).loc Cert.ConvOut3Ideal.main_arg1) = m ((c.tc : Thread Cert.ConvOut3Ideal.nD Cert.ConvOut3Ideal.τ).loc Cert.ConvOut3Ideal.main_arg1))
      ∧ θ_run (Cert.ConvOut3RefIdeal.defs (F := Ideal)) (onTc (τ := Cert.ConvOut3RefIdeal.τ) (Cert.ConvOut3RefIdeal.main (F := Ideal))) ⟨m', fun _ => 0, g'⟩ (fun r => ∀ c : Dev Cert.ConvOut3RefIdeal.nD,
          r.2.mem ((c.tc : Thread Cert.ConvOut3RefIdeal.nD Cert.ConvOut3RefIdeal.τ).loc Cert.ConvOut3RefIdeal.main_v3) = v0 c
          ∧ r.2.mem ((c.tc : Thread Cert.ConvOut3RefIdeal.nD Cert.ConvOut3RefIdeal.τ).loc Cert.ConvOut3RefIdeal.main_arg0) = m' ((c.tc : Thread Cert.ConvOut3RefIdeal.nD Cert.ConvOut3RefIdeal.τ).loc Cert.ConvOut3RefIdeal.main_arg0)
          ∧ r.2.mem ((c.tc : Thread Cert.ConvOut3RefIdeal.nD Cert.ConvOut3RefIdeal.τ).loc Cert.ConvOut3RefIdeal.main_arg1) = m' ((c.tc : Thread Cert.ConvOut3RefIdeal.nD Cert.ConvOut3RefIdeal.τ).loc Cert.ConvOut3RefIdeal.main_arg1))

def preserves_ConvOut3Bx_ConvOut3BxIdeal : Prop :=
  True

def algebraic_ConvOut3BxIdeal_ConvOut3BxRefIdeal [hConvOut3BxIdeal : Cert.ConvOut3BxIdeal.Facts] [hConvOut3BxRefIdeal : Cert.ConvOut3BxRefIdeal.Facts] : Prop :=
  ∀ (m : (ℓ : Loc Cert.ConvOut3BxIdeal.nD Cert.ConvOut3BxIdeal.τ Cert.ConvOut3BxIdeal.sig) → Buf (Elt Ideal) ℓ) (g : Dev Cert.ConvOut3BxIdeal.nD → PrngReg)
    (m' : (ℓ : Loc Cert.ConvOut3BxRefIdeal.nD Cert.ConvOut3BxRefIdeal.τ Cert.ConvOut3BxRefIdeal.sig) → Buf (Elt Ideal) ℓ) (g' : Dev Cert.ConvOut3BxRefIdeal.nD → PrngReg), Pre_ConvOut3BxIdeal m →
    (∀ c : Dev Cert.ConvOut3BxIdeal.nD,
      m' ((c.tc : Thread Cert.ConvOut3BxRefIdeal.nD Cert.ConvOut3BxRefIdeal.τ).loc Cert.ConvOut3BxRefIdeal.main_arg0) = m ((c.tc : Thread Cert.ConvOut3BxIdeal.nD Cert.ConvOut3BxIdeal.τ).loc Cert.ConvOut3BxIdeal.main_arg0)
      ∧ m' ((c.tc : Thread Cert.ConvOut3BxRefIdeal.nD Cert.ConvOut3BxRefIdeal.τ).loc Cert.ConvOut3BxRefIdeal.main_arg1) = m ((c.tc : Thread Cert.ConvOut3BxIdeal.nD Cert.ConvOut3BxIdeal.τ).loc Cert.ConvOut3BxIdeal.main_arg1)) →
    ∃ (v0 : (c : Dev Cert.ConvOut3BxIdeal.nD) → Buf (Elt Ideal) ((c.tc : Thread Cert.ConvOut3BxIdeal.nD Cert.ConvOut3BxIdeal.τ).loc Cert.ConvOut3BxIdeal.main_v0)),
      θ_run (Cert.ConvOut3BxIdeal.defs (F := Ideal)) (onTc (τ := Cert.ConvOut3BxIdeal.τ) (Cert.ConvOut3BxIdeal.main (F := Ideal))) ⟨m, fun _ => 0, g⟩ (fun r => ∀ c : Dev Cert.ConvOut3BxIdeal.nD,
          r.2.mem ((c.tc : Thread Cert.ConvOut3BxIdeal.nD Cert.ConvOut3BxIdeal.τ).loc Cert.ConvOut3BxIdeal.main_v0) = v0 c
          ∧ r.2.mem ((c.tc : Thread Cert.ConvOut3BxIdeal.nD Cert.ConvOut3BxIdeal.τ).loc Cert.ConvOut3BxIdeal.main_arg0) = m ((c.tc : Thread Cert.ConvOut3BxIdeal.nD Cert.ConvOut3BxIdeal.τ).loc Cert.ConvOut3BxIdeal.main_arg0)
          ∧ r.2.mem ((c.tc : Thread Cert.ConvOut3BxIdeal.nD Cert.ConvOut3BxIdeal.τ).loc Cert.ConvOut3BxIdeal.main_arg1) = m ((c.tc : Thread Cert.ConvOut3BxIdeal.nD Cert.ConvOut3BxIdeal.τ).loc Cert.ConvOut3BxIdeal.main_arg1))
      ∧ θ_run (Cert.ConvOut3BxRefIdeal.defs (F := Ideal)) (onTc (τ := Cert.ConvOut3BxRefIdeal.τ) (Cert.ConvOut3BxRefIdeal.main (F := Ideal))) ⟨m', fun _ => 0, g'⟩ (fun r => ∀ c : Dev Cert.ConvOut3BxRefIdeal.nD,
          r.2.mem ((c.tc : Thread Cert.ConvOut3BxRefIdeal.nD Cert.ConvOut3BxRefIdeal.τ).loc Cert.ConvOut3BxRefIdeal.main_v5) = v0 c
          ∧ r.2.mem ((c.tc : Thread Cert.ConvOut3BxRefIdeal.nD Cert.ConvOut3BxRefIdeal.τ).loc Cert.ConvOut3BxRefIdeal.main_arg0) = m' ((c.tc : Thread Cert.ConvOut3BxRefIdeal.nD Cert.ConvOut3BxRefIdeal.τ).loc Cert.ConvOut3BxRefIdeal.main_arg0)
          ∧ r.2.mem ((c.tc : Thread Cert.ConvOut3BxRefIdeal.nD Cert.ConvOut3BxRefIdeal.τ).loc Cert.ConvOut3BxRefIdeal.main_arg1) = m' ((c.tc : Thread Cert.ConvOut3BxRefIdeal.nD Cert.ConvOut3BxRefIdeal.τ).loc Cert.ConvOut3BxRefIdeal.main_arg1))

def preserves_ConvOut3Bw_ConvOut3BwIdeal : Prop :=
  True

def algebraic_ConvOut3BwIdeal_ConvOut3BwRefIdeal [hConvOut3BwIdeal : Cert.ConvOut3BwIdeal.Facts] [hConvOut3BwRefIdeal : Cert.ConvOut3BwRefIdeal.Facts] : Prop :=
  ∀ (m : (ℓ : Loc Cert.ConvOut3BwIdeal.nD Cert.ConvOut3BwIdeal.τ Cert.ConvOut3BwIdeal.sig) → Buf (Elt Ideal) ℓ) (g : Dev Cert.ConvOut3BwIdeal.nD → PrngReg)
    (m' : (ℓ : Loc Cert.ConvOut3BwRefIdeal.nD Cert.ConvOut3BwRefIdeal.τ Cert.ConvOut3BwRefIdeal.sig) → Buf (Elt Ideal) ℓ) (g' : Dev Cert.ConvOut3BwRefIdeal.nD → PrngReg), Pre_ConvOut3BwIdeal m →
    (∀ c : Dev Cert.ConvOut3BwIdeal.nD,
      m' ((c.tc : Thread Cert.ConvOut3BwRefIdeal.nD Cert.ConvOut3BwRefIdeal.τ).loc Cert.ConvOut3BwRefIdeal.main_arg0) = m ((c.tc : Thread Cert.ConvOut3BwIdeal.nD Cert.ConvOut3BwIdeal.τ).loc Cert.ConvOut3BwIdeal.main_arg0)
      ∧ m' ((c.tc : Thread Cert.ConvOut3BwRefIdeal.nD Cert.ConvOut3BwRefIdeal.τ).loc Cert.ConvOut3BwRefIdeal.main_arg1) = m ((c.tc : Thread Cert.ConvOut3BwIdeal.nD Cert.ConvOut3BwIdeal.τ).loc Cert.ConvOut3BwIdeal.main_arg1)) →
    ∃ (v0 : (c : Dev Cert.ConvOut3BwIdeal.nD) → Buf (Elt Ideal) ((c.tc : Thread Cert.ConvOut3BwIdeal.nD Cert.ConvOut3BwIdeal.τ).loc Cert.ConvOut3BwIdeal.main_v0)),
      θ_run (Cert.ConvOut3BwIdeal.defs (F := Ideal)) (onTc (τ := Cert.ConvOut3BwIdeal.τ) (Cert.ConvOut3BwIdeal.main (F := Ideal))) ⟨m, fun _ => 0, g⟩ (fun r => ∀ c : Dev Cert.ConvOut3BwIdeal.nD,
          r.2.mem ((c.tc : Thread Cert.ConvOut3BwIdeal.nD Cert.ConvOut3BwIdeal.τ).loc Cert.ConvOut3BwIdeal.main_v0) = v0 c
          ∧ r.2.mem ((c.tc : Thread Cert.ConvOut3BwIdeal.nD Cert.ConvOut3BwIdeal.τ).loc Cert.ConvOut3BwIdeal.main_arg0) = m ((c.tc : Thread Cert.ConvOut3BwIdeal.nD Cert.ConvOut3BwIdeal.τ).loc Cert.ConvOut3BwIdeal.main_arg0)
          ∧ r.2.mem ((c.tc : Thread Cert.ConvOut3BwIdeal.nD Cert.ConvOut3BwIdeal.τ).loc Cert.ConvOut3BwIdeal.main_arg1) = m ((c.tc : Thread Cert.ConvOut3BwIdeal.nD Cert.ConvOut3BwIdeal.τ).loc Cert.ConvOut3BwIdeal.main_arg1))
      ∧ θ_run (Cert.ConvOut3BwRefIdeal.defs (F := Ideal)) (onTc (τ := Cert.ConvOut3BwRefIdeal.τ) (Cert.ConvOut3BwRefIdeal.main (F := Ideal))) ⟨m', fun _ => 0, g'⟩ (fun r => ∀ c : Dev Cert.ConvOut3BwRefIdeal.nD,
          r.2.mem ((c.tc : Thread Cert.ConvOut3BwRefIdeal.nD Cert.ConvOut3BwRefIdeal.τ).loc Cert.ConvOut3BwRefIdeal.main_v8) = v0 c
          ∧ r.2.mem ((c.tc : Thread Cert.ConvOut3BwRefIdeal.nD Cert.ConvOut3BwRefIdeal.τ).loc Cert.ConvOut3BwRefIdeal.main_arg0) = m' ((c.tc : Thread Cert.ConvOut3BwRefIdeal.nD Cert.ConvOut3BwRefIdeal.τ).loc Cert.ConvOut3BwRefIdeal.main_arg0)
          ∧ r.2.mem ((c.tc : Thread Cert.ConvOut3BwRefIdeal.nD Cert.ConvOut3BwRefIdeal.τ).loc Cert.ConvOut3BwRefIdeal.main_arg1) = m' ((c.tc : Thread Cert.ConvOut3BwRefIdeal.nD Cert.ConvOut3BwRefIdeal.τ).loc Cert.ConvOut3BwRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v3) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_QkvBx_QkvBxIdeal : Prop :=
  True

def algebraic_QkvBxIdeal_QkvBxRefIdeal [hQkvBxIdeal : Cert.QkvBxIdeal.Facts] [hQkvBxRefIdeal : Cert.QkvBxRefIdeal.Facts] : Prop :=
  ∀ (m : (ℓ : Loc Cert.QkvBxIdeal.nD Cert.QkvBxIdeal.τ Cert.QkvBxIdeal.sig) → Buf (Elt Ideal) ℓ) (g : Dev Cert.QkvBxIdeal.nD → PrngReg)
    (m' : (ℓ : Loc Cert.QkvBxRefIdeal.nD Cert.QkvBxRefIdeal.τ Cert.QkvBxRefIdeal.sig) → Buf (Elt Ideal) ℓ) (g' : Dev Cert.QkvBxRefIdeal.nD → PrngReg), Pre_QkvBxIdeal m →
    (∀ c : Dev Cert.QkvBxIdeal.nD,
      m' ((c.tc : Thread Cert.QkvBxRefIdeal.nD Cert.QkvBxRefIdeal.τ).loc Cert.QkvBxRefIdeal.main_arg0) = m ((c.tc : Thread Cert.QkvBxIdeal.nD Cert.QkvBxIdeal.τ).loc Cert.QkvBxIdeal.main_arg0)
      ∧ m' ((c.tc : Thread Cert.QkvBxRefIdeal.nD Cert.QkvBxRefIdeal.τ).loc Cert.QkvBxRefIdeal.main_arg1) = m ((c.tc : Thread Cert.QkvBxIdeal.nD Cert.QkvBxIdeal.τ).loc Cert.QkvBxIdeal.main_arg1)) →
    ∃ (v0 : (c : Dev Cert.QkvBxIdeal.nD) → Buf (Elt Ideal) ((c.tc : Thread Cert.QkvBxIdeal.nD Cert.QkvBxIdeal.τ).loc Cert.QkvBxIdeal.main_v0)),
      θ_run (Cert.QkvBxIdeal.defs (F := Ideal)) (onTc (τ := Cert.QkvBxIdeal.τ) (Cert.QkvBxIdeal.main (F := Ideal))) ⟨m, fun _ => 0, g⟩ (fun r => ∀ c : Dev Cert.QkvBxIdeal.nD,
          r.2.mem ((c.tc : Thread Cert.QkvBxIdeal.nD Cert.QkvBxIdeal.τ).loc Cert.QkvBxIdeal.main_v0) = v0 c
          ∧ r.2.mem ((c.tc : Thread Cert.QkvBxIdeal.nD Cert.QkvBxIdeal.τ).loc Cert.QkvBxIdeal.main_arg0) = m ((c.tc : Thread Cert.QkvBxIdeal.nD Cert.QkvBxIdeal.τ).loc Cert.QkvBxIdeal.main_arg0)
          ∧ r.2.mem ((c.tc : Thread Cert.QkvBxIdeal.nD Cert.QkvBxIdeal.τ).loc Cert.QkvBxIdeal.main_arg1) = m ((c.tc : Thread Cert.QkvBxIdeal.nD Cert.QkvBxIdeal.τ).loc Cert.QkvBxIdeal.main_arg1))
      ∧ θ_run (Cert.QkvBxRefIdeal.defs (F := Ideal)) (onTc (τ := Cert.QkvBxRefIdeal.τ) (Cert.QkvBxRefIdeal.main (F := Ideal))) ⟨m', fun _ => 0, g'⟩ (fun r => ∀ c : Dev Cert.QkvBxRefIdeal.nD,
          r.2.mem ((c.tc : Thread Cert.QkvBxRefIdeal.nD Cert.QkvBxRefIdeal.τ).loc Cert.QkvBxRefIdeal.main_v5) = v0 c
          ∧ r.2.mem ((c.tc : Thread Cert.QkvBxRefIdeal.nD Cert.QkvBxRefIdeal.τ).loc Cert.QkvBxRefIdeal.main_arg0) = m' ((c.tc : Thread Cert.QkvBxRefIdeal.nD Cert.QkvBxRefIdeal.τ).loc Cert.QkvBxRefIdeal.main_arg0)
          ∧ r.2.mem ((c.tc : Thread Cert.QkvBxRefIdeal.nD Cert.QkvBxRefIdeal.τ).loc Cert.QkvBxRefIdeal.main_arg1) = m' ((c.tc : Thread Cert.QkvBxRefIdeal.nD Cert.QkvBxRefIdeal.τ).loc Cert.QkvBxRefIdeal.main_arg1))

def preserves_QkvBw_QkvBwIdeal : Prop :=
  True

def algebraic_QkvBwIdeal_QkvBwRefIdeal [hQkvBwIdeal : Cert.QkvBwIdeal.Facts] [hQkvBwRefIdeal : Cert.QkvBwRefIdeal.Facts] : Prop :=
  ∀ (m : (ℓ : Loc Cert.QkvBwIdeal.nD Cert.QkvBwIdeal.τ Cert.QkvBwIdeal.sig) → Buf (Elt Ideal) ℓ) (g : Dev Cert.QkvBwIdeal.nD → PrngReg)
    (m' : (ℓ : Loc Cert.QkvBwRefIdeal.nD Cert.QkvBwRefIdeal.τ Cert.QkvBwRefIdeal.sig) → Buf (Elt Ideal) ℓ) (g' : Dev Cert.QkvBwRefIdeal.nD → PrngReg), Pre_QkvBwIdeal m →
    (∀ c : Dev Cert.QkvBwIdeal.nD,
      m' ((c.tc : Thread Cert.QkvBwRefIdeal.nD Cert.QkvBwRefIdeal.τ).loc Cert.QkvBwRefIdeal.main_arg0) = m ((c.tc : Thread Cert.QkvBwIdeal.nD Cert.QkvBwIdeal.τ).loc Cert.QkvBwIdeal.main_arg0)
      ∧ m' ((c.tc : Thread Cert.QkvBwRefIdeal.nD Cert.QkvBwRefIdeal.τ).loc Cert.QkvBwRefIdeal.main_arg1) = m ((c.tc : Thread Cert.QkvBwIdeal.nD Cert.QkvBwIdeal.τ).loc Cert.QkvBwIdeal.main_arg1)) →
    ∃ (v0 : (c : Dev Cert.QkvBwIdeal.nD) → Buf (Elt Ideal) ((c.tc : Thread Cert.QkvBwIdeal.nD Cert.QkvBwIdeal.τ).loc Cert.QkvBwIdeal.main_v0)),
      θ_run (Cert.QkvBwIdeal.defs (F := Ideal)) (onTc (τ := Cert.QkvBwIdeal.τ) (Cert.QkvBwIdeal.main (F := Ideal))) ⟨m, fun _ => 0, g⟩ (fun r => ∀ c : Dev Cert.QkvBwIdeal.nD,
          r.2.mem ((c.tc : Thread Cert.QkvBwIdeal.nD Cert.QkvBwIdeal.τ).loc Cert.QkvBwIdeal.main_v0) = v0 c
          ∧ r.2.mem ((c.tc : Thread Cert.QkvBwIdeal.nD Cert.QkvBwIdeal.τ).loc Cert.QkvBwIdeal.main_arg0) = m ((c.tc : Thread Cert.QkvBwIdeal.nD Cert.QkvBwIdeal.τ).loc Cert.QkvBwIdeal.main_arg0)
          ∧ r.2.mem ((c.tc : Thread Cert.QkvBwIdeal.nD Cert.QkvBwIdeal.τ).loc Cert.QkvBwIdeal.main_arg1) = m ((c.tc : Thread Cert.QkvBwIdeal.nD Cert.QkvBwIdeal.τ).loc Cert.QkvBwIdeal.main_arg1))
      ∧ θ_run (Cert.QkvBwRefIdeal.defs (F := Ideal)) (onTc (τ := Cert.QkvBwRefIdeal.τ) (Cert.QkvBwRefIdeal.main (F := Ideal))) ⟨m', fun _ => 0, g'⟩ (fun r => ∀ c : Dev Cert.QkvBwRefIdeal.nD,
          r.2.mem ((c.tc : Thread Cert.QkvBwRefIdeal.nD Cert.QkvBwRefIdeal.τ).loc Cert.QkvBwRefIdeal.main_v8) = v0 c
          ∧ r.2.mem ((c.tc : Thread Cert.QkvBwRefIdeal.nD Cert.QkvBwRefIdeal.τ).loc Cert.QkvBwRefIdeal.main_arg0) = m' ((c.tc : Thread Cert.QkvBwRefIdeal.nD Cert.QkvBwRefIdeal.τ).loc Cert.QkvBwRefIdeal.main_arg0)
          ∧ r.2.mem ((c.tc : Thread Cert.QkvBwRefIdeal.nD Cert.QkvBwRefIdeal.τ).loc Cert.QkvBwRefIdeal.main_arg1) = m' ((c.tc : Thread Cert.QkvBwRefIdeal.nD Cert.QkvBwRefIdeal.τ).loc Cert.QkvBwRefIdeal.main_arg1))

def preserves_GateIn_GateInIdeal : Prop :=
  True

def algebraic_GateInIdeal_GateInRefIdeal [hGateInIdeal : Cert.GateInIdeal.Facts] [hGateInRefIdeal : Cert.GateInRefIdeal.Facts] : Prop :=
  ∀ (m : (ℓ : Loc Cert.GateInIdeal.nD Cert.GateInIdeal.τ Cert.GateInIdeal.sig) → Buf (Elt Ideal) ℓ) (g : Dev Cert.GateInIdeal.nD → PrngReg)
    (m' : (ℓ : Loc Cert.GateInRefIdeal.nD Cert.GateInRefIdeal.τ Cert.GateInRefIdeal.sig) → Buf (Elt Ideal) ℓ) (g' : Dev Cert.GateInRefIdeal.nD → PrngReg), Pre_GateInIdeal m →
    (∀ c : Dev Cert.GateInIdeal.nD,
      m' ((c.tc : Thread Cert.GateInRefIdeal.nD Cert.GateInRefIdeal.τ).loc Cert.GateInRefIdeal.main_arg0) = m ((c.tc : Thread Cert.GateInIdeal.nD Cert.GateInIdeal.τ).loc Cert.GateInIdeal.main_arg0)
      ∧ m' ((c.tc : Thread Cert.GateInRefIdeal.nD Cert.GateInRefIdeal.τ).loc Cert.GateInRefIdeal.main_arg1) = m ((c.tc : Thread Cert.GateInIdeal.nD Cert.GateInIdeal.τ).loc Cert.GateInIdeal.main_arg1)) →
    ∃ (v0 : (c : Dev Cert.GateInIdeal.nD) → Buf (Elt Ideal) ((c.tc : Thread Cert.GateInIdeal.nD Cert.GateInIdeal.τ).loc Cert.GateInIdeal.main_v0)),
      θ_run (Cert.GateInIdeal.defs (F := Ideal)) (onTc (τ := Cert.GateInIdeal.τ) (Cert.GateInIdeal.main (F := Ideal))) ⟨m, fun _ => 0, g⟩ (fun r => ∀ c : Dev Cert.GateInIdeal.nD,
          r.2.mem ((c.tc : Thread Cert.GateInIdeal.nD Cert.GateInIdeal.τ).loc Cert.GateInIdeal.main_v0) = v0 c
          ∧ r.2.mem ((c.tc : Thread Cert.GateInIdeal.nD Cert.GateInIdeal.τ).loc Cert.GateInIdeal.main_arg0) = m ((c.tc : Thread Cert.GateInIdeal.nD Cert.GateInIdeal.τ).loc Cert.GateInIdeal.main_arg0)
          ∧ r.2.mem ((c.tc : Thread Cert.GateInIdeal.nD Cert.GateInIdeal.τ).loc Cert.GateInIdeal.main_arg1) = m ((c.tc : Thread Cert.GateInIdeal.nD Cert.GateInIdeal.τ).loc Cert.GateInIdeal.main_arg1))
      ∧ θ_run (Cert.GateInRefIdeal.defs (F := Ideal)) (onTc (τ := Cert.GateInRefIdeal.τ) (Cert.GateInRefIdeal.main (F := Ideal))) ⟨m', fun _ => 0, g'⟩ (fun r => ∀ c : Dev Cert.GateInRefIdeal.nD,
          r.2.mem ((c.tc : Thread Cert.GateInRefIdeal.nD Cert.GateInRefIdeal.τ).loc Cert.GateInRefIdeal.main_v3) = v0 c
          ∧ r.2.mem ((c.tc : Thread Cert.GateInRefIdeal.nD Cert.GateInRefIdeal.τ).loc Cert.GateInRefIdeal.main_arg0) = m' ((c.tc : Thread Cert.GateInRefIdeal.nD Cert.GateInRefIdeal.τ).loc Cert.GateInRefIdeal.main_arg0)
          ∧ r.2.mem ((c.tc : Thread Cert.GateInRefIdeal.nD Cert.GateInRefIdeal.τ).loc Cert.GateInRefIdeal.main_arg1) = m' ((c.tc : Thread Cert.GateInRefIdeal.nD Cert.GateInRefIdeal.τ).loc Cert.GateInRefIdeal.main_arg1))

def preserves_GateInBx_GateInBxIdeal : Prop :=
  True

def algebraic_GateInBxIdeal_GateInBxRefIdeal [hGateInBxIdeal : Cert.GateInBxIdeal.Facts] [hGateInBxRefIdeal : Cert.GateInBxRefIdeal.Facts] : Prop :=
  ∀ (m : (ℓ : Loc Cert.GateInBxIdeal.nD Cert.GateInBxIdeal.τ Cert.GateInBxIdeal.sig) → Buf (Elt Ideal) ℓ) (g : Dev Cert.GateInBxIdeal.nD → PrngReg)
    (m' : (ℓ : Loc Cert.GateInBxRefIdeal.nD Cert.GateInBxRefIdeal.τ Cert.GateInBxRefIdeal.sig) → Buf (Elt Ideal) ℓ) (g' : Dev Cert.GateInBxRefIdeal.nD → PrngReg), Pre_GateInBxIdeal m →
    (∀ c : Dev Cert.GateInBxIdeal.nD,
      m' ((c.tc : Thread Cert.GateInBxRefIdeal.nD Cert.GateInBxRefIdeal.τ).loc Cert.GateInBxRefIdeal.main_arg0) = m ((c.tc : Thread Cert.GateInBxIdeal.nD Cert.GateInBxIdeal.τ).loc Cert.GateInBxIdeal.main_arg0)
      ∧ m' ((c.tc : Thread Cert.GateInBxRefIdeal.nD Cert.GateInBxRefIdeal.τ).loc Cert.GateInBxRefIdeal.main_arg1) = m ((c.tc : Thread Cert.GateInBxIdeal.nD Cert.GateInBxIdeal.τ).loc Cert.GateInBxIdeal.main_arg1)) →
    ∃ (v0 : (c : Dev Cert.GateInBxIdeal.nD) → Buf (Elt Ideal) ((c.tc : Thread Cert.GateInBxIdeal.nD Cert.GateInBxIdeal.τ).loc Cert.GateInBxIdeal.main_v0)),
      θ_run (Cert.GateInBxIdeal.defs (F := Ideal)) (onTc (τ := Cert.GateInBxIdeal.τ) (Cert.GateInBxIdeal.main (F := Ideal))) ⟨m, fun _ => 0, g⟩ (fun r => ∀ c : Dev Cert.GateInBxIdeal.nD,
          r.2.mem ((c.tc : Thread Cert.GateInBxIdeal.nD Cert.GateInBxIdeal.τ).loc Cert.GateInBxIdeal.main_v0) = v0 c
          ∧ r.2.mem ((c.tc : Thread Cert.GateInBxIdeal.nD Cert.GateInBxIdeal.τ).loc Cert.GateInBxIdeal.main_arg0) = m ((c.tc : Thread Cert.GateInBxIdeal.nD Cert.GateInBxIdeal.τ).loc Cert.GateInBxIdeal.main_arg0)
          ∧ r.2.mem ((c.tc : Thread Cert.GateInBxIdeal.nD Cert.GateInBxIdeal.τ).loc Cert.GateInBxIdeal.main_arg1) = m ((c.tc : Thread Cert.GateInBxIdeal.nD Cert.GateInBxIdeal.τ).loc Cert.GateInBxIdeal.main_arg1))
      ∧ θ_run (Cert.GateInBxRefIdeal.defs (F := Ideal)) (onTc (τ := Cert.GateInBxRefIdeal.τ) (Cert.GateInBxRefIdeal.main (F := Ideal))) ⟨m', fun _ => 0, g'⟩ (fun r => ∀ c : Dev Cert.GateInBxRefIdeal.nD,
          r.2.mem ((c.tc : Thread Cert.GateInBxRefIdeal.nD Cert.GateInBxRefIdeal.τ).loc Cert.GateInBxRefIdeal.main_v5) = v0 c
          ∧ r.2.mem ((c.tc : Thread Cert.GateInBxRefIdeal.nD Cert.GateInBxRefIdeal.τ).loc Cert.GateInBxRefIdeal.main_arg0) = m' ((c.tc : Thread Cert.GateInBxRefIdeal.nD Cert.GateInBxRefIdeal.τ).loc Cert.GateInBxRefIdeal.main_arg0)
          ∧ r.2.mem ((c.tc : Thread Cert.GateInBxRefIdeal.nD Cert.GateInBxRefIdeal.τ).loc Cert.GateInBxRefIdeal.main_arg1) = m' ((c.tc : Thread Cert.GateInBxRefIdeal.nD Cert.GateInBxRefIdeal.τ).loc Cert.GateInBxRefIdeal.main_arg1))

def preserves_GateInBw_GateInBwIdeal : Prop :=
  True

def algebraic_GateInBwIdeal_GateInBwRefIdeal [hGateInBwIdeal : Cert.GateInBwIdeal.Facts] [hGateInBwRefIdeal : Cert.GateInBwRefIdeal.Facts] : Prop :=
  ∀ (m : (ℓ : Loc Cert.GateInBwIdeal.nD Cert.GateInBwIdeal.τ Cert.GateInBwIdeal.sig) → Buf (Elt Ideal) ℓ) (g : Dev Cert.GateInBwIdeal.nD → PrngReg)
    (m' : (ℓ : Loc Cert.GateInBwRefIdeal.nD Cert.GateInBwRefIdeal.τ Cert.GateInBwRefIdeal.sig) → Buf (Elt Ideal) ℓ) (g' : Dev Cert.GateInBwRefIdeal.nD → PrngReg), Pre_GateInBwIdeal m →
    (∀ c : Dev Cert.GateInBwIdeal.nD,
      m' ((c.tc : Thread Cert.GateInBwRefIdeal.nD Cert.GateInBwRefIdeal.τ).loc Cert.GateInBwRefIdeal.main_arg0) = m ((c.tc : Thread Cert.GateInBwIdeal.nD Cert.GateInBwIdeal.τ).loc Cert.GateInBwIdeal.main_arg0)
      ∧ m' ((c.tc : Thread Cert.GateInBwRefIdeal.nD Cert.GateInBwRefIdeal.τ).loc Cert.GateInBwRefIdeal.main_arg1) = m ((c.tc : Thread Cert.GateInBwIdeal.nD Cert.GateInBwIdeal.τ).loc Cert.GateInBwIdeal.main_arg1)) →
    ∃ (v0 : (c : Dev Cert.GateInBwIdeal.nD) → Buf (Elt Ideal) ((c.tc : Thread Cert.GateInBwIdeal.nD Cert.GateInBwIdeal.τ).loc Cert.GateInBwIdeal.main_v0)),
      θ_run (Cert.GateInBwIdeal.defs (F := Ideal)) (onTc (τ := Cert.GateInBwIdeal.τ) (Cert.GateInBwIdeal.main (F := Ideal))) ⟨m, fun _ => 0, g⟩ (fun r => ∀ c : Dev Cert.GateInBwIdeal.nD,
          r.2.mem ((c.tc : Thread Cert.GateInBwIdeal.nD Cert.GateInBwIdeal.τ).loc Cert.GateInBwIdeal.main_v0) = v0 c
          ∧ r.2.mem ((c.tc : Thread Cert.GateInBwIdeal.nD Cert.GateInBwIdeal.τ).loc Cert.GateInBwIdeal.main_arg0) = m ((c.tc : Thread Cert.GateInBwIdeal.nD Cert.GateInBwIdeal.τ).loc Cert.GateInBwIdeal.main_arg0)
          ∧ r.2.mem ((c.tc : Thread Cert.GateInBwIdeal.nD Cert.GateInBwIdeal.τ).loc Cert.GateInBwIdeal.main_arg1) = m ((c.tc : Thread Cert.GateInBwIdeal.nD Cert.GateInBwIdeal.τ).loc Cert.GateInBwIdeal.main_arg1))
      ∧ θ_run (Cert.GateInBwRefIdeal.defs (F := Ideal)) (onTc (τ := Cert.GateInBwRefIdeal.τ) (Cert.GateInBwRefIdeal.main (F := Ideal))) ⟨m', fun _ => 0, g'⟩ (fun r => ∀ c : Dev Cert.GateInBwRefIdeal.nD,
          r.2.mem ((c.tc : Thread Cert.GateInBwRefIdeal.nD Cert.GateInBwRefIdeal.τ).loc Cert.GateInBwRefIdeal.main_v8) = v0 c
          ∧ r.2.mem ((c.tc : Thread Cert.GateInBwRefIdeal.nD Cert.GateInBwRefIdeal.τ).loc Cert.GateInBwRefIdeal.main_arg0) = m' ((c.tc : Thread Cert.GateInBwRefIdeal.nD Cert.GateInBwRefIdeal.τ).loc Cert.GateInBwRefIdeal.main_arg0)
          ∧ r.2.mem ((c.tc : Thread Cert.GateInBwRefIdeal.nD Cert.GateInBwRefIdeal.τ).loc Cert.GateInBwRefIdeal.main_arg1) = m' ((c.tc : Thread Cert.GateInBwRefIdeal.nD Cert.GateInBwRefIdeal.τ).loc Cert.GateInBwRefIdeal.main_arg1))

def preserves_GateOut_GateOutIdeal : Prop :=
  True

def algebraic_GateOutIdeal_GateOutRefIdeal [hGateOutIdeal : Cert.GateOutIdeal.Facts] [hGateOutRefIdeal : Cert.GateOutRefIdeal.Facts] : Prop :=
  ∀ (m : (ℓ : Loc Cert.GateOutIdeal.nD Cert.GateOutIdeal.τ Cert.GateOutIdeal.sig) → Buf (Elt Ideal) ℓ) (g : Dev Cert.GateOutIdeal.nD → PrngReg)
    (m' : (ℓ : Loc Cert.GateOutRefIdeal.nD Cert.GateOutRefIdeal.τ Cert.GateOutRefIdeal.sig) → Buf (Elt Ideal) ℓ) (g' : Dev Cert.GateOutRefIdeal.nD → PrngReg), Pre_GateOutIdeal m →
    (∀ c : Dev Cert.GateOutIdeal.nD,
      m' ((c.tc : Thread Cert.GateOutRefIdeal.nD Cert.GateOutRefIdeal.τ).loc Cert.GateOutRefIdeal.main_arg0) = m ((c.tc : Thread Cert.GateOutIdeal.nD Cert.GateOutIdeal.τ).loc Cert.GateOutIdeal.main_arg0)
      ∧ m' ((c.tc : Thread Cert.GateOutRefIdeal.nD Cert.GateOutRefIdeal.τ).loc Cert.GateOutRefIdeal.main_arg1) = m ((c.tc : Thread Cert.GateOutIdeal.nD Cert.GateOutIdeal.τ).loc Cert.GateOutIdeal.main_arg1)) →
    ∃ (v0 : (c : Dev Cert.GateOutIdeal.nD) → Buf (Elt Ideal) ((c.tc : Thread Cert.GateOutIdeal.nD Cert.GateOutIdeal.τ).loc Cert.GateOutIdeal.main_v0)),
      θ_run (Cert.GateOutIdeal.defs (F := Ideal)) (onTc (τ := Cert.GateOutIdeal.τ) (Cert.GateOutIdeal.main (F := Ideal))) ⟨m, fun _ => 0, g⟩ (fun r => ∀ c : Dev Cert.GateOutIdeal.nD,
          r.2.mem ((c.tc : Thread Cert.GateOutIdeal.nD Cert.GateOutIdeal.τ).loc Cert.GateOutIdeal.main_v0) = v0 c
          ∧ r.2.mem ((c.tc : Thread Cert.GateOutIdeal.nD Cert.GateOutIdeal.τ).loc Cert.GateOutIdeal.main_arg0) = m ((c.tc : Thread Cert.GateOutIdeal.nD Cert.GateOutIdeal.τ).loc Cert.GateOutIdeal.main_arg0)
          ∧ r.2.mem ((c.tc : Thread Cert.GateOutIdeal.nD Cert.GateOutIdeal.τ).loc Cert.GateOutIdeal.main_arg1) = m ((c.tc : Thread Cert.GateOutIdeal.nD Cert.GateOutIdeal.τ).loc Cert.GateOutIdeal.main_arg1))
      ∧ θ_run (Cert.GateOutRefIdeal.defs (F := Ideal)) (onTc (τ := Cert.GateOutRefIdeal.τ) (Cert.GateOutRefIdeal.main (F := Ideal))) ⟨m', fun _ => 0, g'⟩ (fun r => ∀ c : Dev Cert.GateOutRefIdeal.nD,
          r.2.mem ((c.tc : Thread Cert.GateOutRefIdeal.nD Cert.GateOutRefIdeal.τ).loc Cert.GateOutRefIdeal.main_v3) = v0 c
          ∧ r.2.mem ((c.tc : Thread Cert.GateOutRefIdeal.nD Cert.GateOutRefIdeal.τ).loc Cert.GateOutRefIdeal.main_arg0) = m' ((c.tc : Thread Cert.GateOutRefIdeal.nD Cert.GateOutRefIdeal.τ).loc Cert.GateOutRefIdeal.main_arg0)
          ∧ r.2.mem ((c.tc : Thread Cert.GateOutRefIdeal.nD Cert.GateOutRefIdeal.τ).loc Cert.GateOutRefIdeal.main_arg1) = m' ((c.tc : Thread Cert.GateOutRefIdeal.nD Cert.GateOutRefIdeal.τ).loc Cert.GateOutRefIdeal.main_arg1))

def preserves_GateOutBx_GateOutBxIdeal : Prop :=
  True

def algebraic_GateOutBxIdeal_GateOutBxRefIdeal [hGateOutBxIdeal : Cert.GateOutBxIdeal.Facts] [hGateOutBxRefIdeal : Cert.GateOutBxRefIdeal.Facts] : Prop :=
  ∀ (m : (ℓ : Loc Cert.GateOutBxIdeal.nD Cert.GateOutBxIdeal.τ Cert.GateOutBxIdeal.sig) → Buf (Elt Ideal) ℓ) (g : Dev Cert.GateOutBxIdeal.nD → PrngReg)
    (m' : (ℓ : Loc Cert.GateOutBxRefIdeal.nD Cert.GateOutBxRefIdeal.τ Cert.GateOutBxRefIdeal.sig) → Buf (Elt Ideal) ℓ) (g' : Dev Cert.GateOutBxRefIdeal.nD → PrngReg), Pre_GateOutBxIdeal m →
    (∀ c : Dev Cert.GateOutBxIdeal.nD,
      m' ((c.tc : Thread Cert.GateOutBxRefIdeal.nD Cert.GateOutBxRefIdeal.τ).loc Cert.GateOutBxRefIdeal.main_arg0) = m ((c.tc : Thread Cert.GateOutBxIdeal.nD Cert.GateOutBxIdeal.τ).loc Cert.GateOutBxIdeal.main_arg0)
      ∧ m' ((c.tc : Thread Cert.GateOutBxRefIdeal.nD Cert.GateOutBxRefIdeal.τ).loc Cert.GateOutBxRefIdeal.main_arg1) = m ((c.tc : Thread Cert.GateOutBxIdeal.nD Cert.GateOutBxIdeal.τ).loc Cert.GateOutBxIdeal.main_arg1)) →
    ∃ (v0 : (c : Dev Cert.GateOutBxIdeal.nD) → Buf (Elt Ideal) ((c.tc : Thread Cert.GateOutBxIdeal.nD Cert.GateOutBxIdeal.τ).loc Cert.GateOutBxIdeal.main_v0)),
      θ_run (Cert.GateOutBxIdeal.defs (F := Ideal)) (onTc (τ := Cert.GateOutBxIdeal.τ) (Cert.GateOutBxIdeal.main (F := Ideal))) ⟨m, fun _ => 0, g⟩ (fun r => ∀ c : Dev Cert.GateOutBxIdeal.nD,
          r.2.mem ((c.tc : Thread Cert.GateOutBxIdeal.nD Cert.GateOutBxIdeal.τ).loc Cert.GateOutBxIdeal.main_v0) = v0 c
          ∧ r.2.mem ((c.tc : Thread Cert.GateOutBxIdeal.nD Cert.GateOutBxIdeal.τ).loc Cert.GateOutBxIdeal.main_arg0) = m ((c.tc : Thread Cert.GateOutBxIdeal.nD Cert.GateOutBxIdeal.τ).loc Cert.GateOutBxIdeal.main_arg0)
          ∧ r.2.mem ((c.tc : Thread Cert.GateOutBxIdeal.nD Cert.GateOutBxIdeal.τ).loc Cert.GateOutBxIdeal.main_arg1) = m ((c.tc : Thread Cert.GateOutBxIdeal.nD Cert.GateOutBxIdeal.τ).loc Cert.GateOutBxIdeal.main_arg1))
      ∧ θ_run (Cert.GateOutBxRefIdeal.defs (F := Ideal)) (onTc (τ := Cert.GateOutBxRefIdeal.τ) (Cert.GateOutBxRefIdeal.main (F := Ideal))) ⟨m', fun _ => 0, g'⟩ (fun r => ∀ c : Dev Cert.GateOutBxRefIdeal.nD,
          r.2.mem ((c.tc : Thread Cert.GateOutBxRefIdeal.nD Cert.GateOutBxRefIdeal.τ).loc Cert.GateOutBxRefIdeal.main_v5) = v0 c
          ∧ r.2.mem ((c.tc : Thread Cert.GateOutBxRefIdeal.nD Cert.GateOutBxRefIdeal.τ).loc Cert.GateOutBxRefIdeal.main_arg0) = m' ((c.tc : Thread Cert.GateOutBxRefIdeal.nD Cert.GateOutBxRefIdeal.τ).loc Cert.GateOutBxRefIdeal.main_arg0)
          ∧ r.2.mem ((c.tc : Thread Cert.GateOutBxRefIdeal.nD Cert.GateOutBxRefIdeal.τ).loc Cert.GateOutBxRefIdeal.main_arg1) = m' ((c.tc : Thread Cert.GateOutBxRefIdeal.nD Cert.GateOutBxRefIdeal.τ).loc Cert.GateOutBxRefIdeal.main_arg1))

def preserves_GateOutBw_GateOutBwIdeal : Prop :=
  True

def algebraic_GateOutBwIdeal_GateOutBwRefIdeal [hGateOutBwIdeal : Cert.GateOutBwIdeal.Facts] [hGateOutBwRefIdeal : Cert.GateOutBwRefIdeal.Facts] : Prop :=
  ∀ (m : (ℓ : Loc Cert.GateOutBwIdeal.nD Cert.GateOutBwIdeal.τ Cert.GateOutBwIdeal.sig) → Buf (Elt Ideal) ℓ) (g : Dev Cert.GateOutBwIdeal.nD → PrngReg)
    (m' : (ℓ : Loc Cert.GateOutBwRefIdeal.nD Cert.GateOutBwRefIdeal.τ Cert.GateOutBwRefIdeal.sig) → Buf (Elt Ideal) ℓ) (g' : Dev Cert.GateOutBwRefIdeal.nD → PrngReg), Pre_GateOutBwIdeal m →
    (∀ c : Dev Cert.GateOutBwIdeal.nD,
      m' ((c.tc : Thread Cert.GateOutBwRefIdeal.nD Cert.GateOutBwRefIdeal.τ).loc Cert.GateOutBwRefIdeal.main_arg0) = m ((c.tc : Thread Cert.GateOutBwIdeal.nD Cert.GateOutBwIdeal.τ).loc Cert.GateOutBwIdeal.main_arg0)
      ∧ m' ((c.tc : Thread Cert.GateOutBwRefIdeal.nD Cert.GateOutBwRefIdeal.τ).loc Cert.GateOutBwRefIdeal.main_arg1) = m ((c.tc : Thread Cert.GateOutBwIdeal.nD Cert.GateOutBwIdeal.τ).loc Cert.GateOutBwIdeal.main_arg1)) →
    ∃ (v0 : (c : Dev Cert.GateOutBwIdeal.nD) → Buf (Elt Ideal) ((c.tc : Thread Cert.GateOutBwIdeal.nD Cert.GateOutBwIdeal.τ).loc Cert.GateOutBwIdeal.main_v0)),
      θ_run (Cert.GateOutBwIdeal.defs (F := Ideal)) (onTc (τ := Cert.GateOutBwIdeal.τ) (Cert.GateOutBwIdeal.main (F := Ideal))) ⟨m, fun _ => 0, g⟩ (fun r => ∀ c : Dev Cert.GateOutBwIdeal.nD,
          r.2.mem ((c.tc : Thread Cert.GateOutBwIdeal.nD Cert.GateOutBwIdeal.τ).loc Cert.GateOutBwIdeal.main_v0) = v0 c
          ∧ r.2.mem ((c.tc : Thread Cert.GateOutBwIdeal.nD Cert.GateOutBwIdeal.τ).loc Cert.GateOutBwIdeal.main_arg0) = m ((c.tc : Thread Cert.GateOutBwIdeal.nD Cert.GateOutBwIdeal.τ).loc Cert.GateOutBwIdeal.main_arg0)
          ∧ r.2.mem ((c.tc : Thread Cert.GateOutBwIdeal.nD Cert.GateOutBwIdeal.τ).loc Cert.GateOutBwIdeal.main_arg1) = m ((c.tc : Thread Cert.GateOutBwIdeal.nD Cert.GateOutBwIdeal.τ).loc Cert.GateOutBwIdeal.main_arg1))
      ∧ θ_run (Cert.GateOutBwRefIdeal.defs (F := Ideal)) (onTc (τ := Cert.GateOutBwRefIdeal.τ) (Cert.GateOutBwRefIdeal.main (F := Ideal))) ⟨m', fun _ => 0, g'⟩ (fun r => ∀ c : Dev Cert.GateOutBwRefIdeal.nD,
          r.2.mem ((c.tc : Thread Cert.GateOutBwRefIdeal.nD Cert.GateOutBwRefIdeal.τ).loc Cert.GateOutBwRefIdeal.main_v8) = v0 c
          ∧ r.2.mem ((c.tc : Thread Cert.GateOutBwRefIdeal.nD Cert.GateOutBwRefIdeal.τ).loc Cert.GateOutBwRefIdeal.main_arg0) = m' ((c.tc : Thread Cert.GateOutBwRefIdeal.nD Cert.GateOutBwRefIdeal.τ).loc Cert.GateOutBwRefIdeal.main_arg0)
          ∧ r.2.mem ((c.tc : Thread Cert.GateOutBwRefIdeal.nD Cert.GateOutBwRefIdeal.τ).loc Cert.GateOutBwRefIdeal.main_arg1) = m' ((c.tc : Thread Cert.GateOutBwRefIdeal.nD Cert.GateOutBwRefIdeal.τ).loc Cert.GateOutBwRefIdeal.main_arg1))

def preserves_FfnUp0Bx_FfnUp0BxIdeal : Prop :=
  True

def algebraic_FfnUp0BxIdeal_FfnUp0BxRefIdeal [hFfnUp0BxIdeal : Cert.FfnUp0BxIdeal.Facts] [hFfnUp0BxRefIdeal : Cert.FfnUp0BxRefIdeal.Facts] : Prop :=
  ∀ (m : (ℓ : Loc Cert.FfnUp0BxIdeal.nD Cert.FfnUp0BxIdeal.τ Cert.FfnUp0BxIdeal.sig) → Buf (Elt Ideal) ℓ) (g : Dev Cert.FfnUp0BxIdeal.nD → PrngReg)
    (m' : (ℓ : Loc Cert.FfnUp0BxRefIdeal.nD Cert.FfnUp0BxRefIdeal.τ Cert.FfnUp0BxRefIdeal.sig) → Buf (Elt Ideal) ℓ) (g' : Dev Cert.FfnUp0BxRefIdeal.nD → PrngReg), Pre_FfnUp0BxIdeal m →
    (∀ c : Dev Cert.FfnUp0BxIdeal.nD,
      m' ((c.tc : Thread Cert.FfnUp0BxRefIdeal.nD Cert.FfnUp0BxRefIdeal.τ).loc Cert.FfnUp0BxRefIdeal.main_arg0) = m ((c.tc : Thread Cert.FfnUp0BxIdeal.nD Cert.FfnUp0BxIdeal.τ).loc Cert.FfnUp0BxIdeal.main_arg0)
      ∧ m' ((c.tc : Thread Cert.FfnUp0BxRefIdeal.nD Cert.FfnUp0BxRefIdeal.τ).loc Cert.FfnUp0BxRefIdeal.main_arg1) = m ((c.tc : Thread Cert.FfnUp0BxIdeal.nD Cert.FfnUp0BxIdeal.τ).loc Cert.FfnUp0BxIdeal.main_arg1)) →
    ∃ (v0 : (c : Dev Cert.FfnUp0BxIdeal.nD) → Buf (Elt Ideal) ((c.tc : Thread Cert.FfnUp0BxIdeal.nD Cert.FfnUp0BxIdeal.τ).loc Cert.FfnUp0BxIdeal.main_v0)),
      θ_run (Cert.FfnUp0BxIdeal.defs (F := Ideal)) (onTc (τ := Cert.FfnUp0BxIdeal.τ) (Cert.FfnUp0BxIdeal.main (F := Ideal))) ⟨m, fun _ => 0, g⟩ (fun r => ∀ c : Dev Cert.FfnUp0BxIdeal.nD,
          r.2.mem ((c.tc : Thread Cert.FfnUp0BxIdeal.nD Cert.FfnUp0BxIdeal.τ).loc Cert.FfnUp0BxIdeal.main_v0) = v0 c
          ∧ r.2.mem ((c.tc : Thread Cert.FfnUp0BxIdeal.nD Cert.FfnUp0BxIdeal.τ).loc Cert.FfnUp0BxIdeal.main_arg0) = m ((c.tc : Thread Cert.FfnUp0BxIdeal.nD Cert.FfnUp0BxIdeal.τ).loc Cert.FfnUp0BxIdeal.main_arg0)
          ∧ r.2.mem ((c.tc : Thread Cert.FfnUp0BxIdeal.nD Cert.FfnUp0BxIdeal.τ).loc Cert.FfnUp0BxIdeal.main_arg1) = m ((c.tc : Thread Cert.FfnUp0BxIdeal.nD Cert.FfnUp0BxIdeal.τ).loc Cert.FfnUp0BxIdeal.main_arg1))
      ∧ θ_run (Cert.FfnUp0BxRefIdeal.defs (F := Ideal)) (onTc (τ := Cert.FfnUp0BxRefIdeal.τ) (Cert.FfnUp0BxRefIdeal.main (F := Ideal))) ⟨m', fun _ => 0, g'⟩ (fun r => ∀ c : Dev Cert.FfnUp0BxRefIdeal.nD,
          r.2.mem ((c.tc : Thread Cert.FfnUp0BxRefIdeal.nD Cert.FfnUp0BxRefIdeal.τ).loc Cert.FfnUp0BxRefIdeal.main_v8) = v0 c
          ∧ r.2.mem ((c.tc : Thread Cert.FfnUp0BxRefIdeal.nD Cert.FfnUp0BxRefIdeal.τ).loc Cert.FfnUp0BxRefIdeal.main_arg0) = m' ((c.tc : Thread Cert.FfnUp0BxRefIdeal.nD Cert.FfnUp0BxRefIdeal.τ).loc Cert.FfnUp0BxRefIdeal.main_arg0)
          ∧ r.2.mem ((c.tc : Thread Cert.FfnUp0BxRefIdeal.nD Cert.FfnUp0BxRefIdeal.τ).loc Cert.FfnUp0BxRefIdeal.main_arg1) = m' ((c.tc : Thread Cert.FfnUp0BxRefIdeal.nD Cert.FfnUp0BxRefIdeal.τ).loc Cert.FfnUp0BxRefIdeal.main_arg1))

def preserves_FfnUp0Bw_FfnUp0BwIdeal : Prop :=
  True

def algebraic_FfnUp0BwIdeal_FfnUp0BwRefIdeal [hFfnUp0BwIdeal : Cert.FfnUp0BwIdeal.Facts] [hFfnUp0BwRefIdeal : Cert.FfnUp0BwRefIdeal.Facts] : Prop :=
  ∀ (m : (ℓ : Loc Cert.FfnUp0BwIdeal.nD Cert.FfnUp0BwIdeal.τ Cert.FfnUp0BwIdeal.sig) → Buf (Elt Ideal) ℓ) (g : Dev Cert.FfnUp0BwIdeal.nD → PrngReg)
    (m' : (ℓ : Loc Cert.FfnUp0BwRefIdeal.nD Cert.FfnUp0BwRefIdeal.τ Cert.FfnUp0BwRefIdeal.sig) → Buf (Elt Ideal) ℓ) (g' : Dev Cert.FfnUp0BwRefIdeal.nD → PrngReg), Pre_FfnUp0BwIdeal m →
    (∀ c : Dev Cert.FfnUp0BwIdeal.nD,
      m' ((c.tc : Thread Cert.FfnUp0BwRefIdeal.nD Cert.FfnUp0BwRefIdeal.τ).loc Cert.FfnUp0BwRefIdeal.main_arg0) = m ((c.tc : Thread Cert.FfnUp0BwIdeal.nD Cert.FfnUp0BwIdeal.τ).loc Cert.FfnUp0BwIdeal.main_arg0)
      ∧ m' ((c.tc : Thread Cert.FfnUp0BwRefIdeal.nD Cert.FfnUp0BwRefIdeal.τ).loc Cert.FfnUp0BwRefIdeal.main_arg1) = m ((c.tc : Thread Cert.FfnUp0BwIdeal.nD Cert.FfnUp0BwIdeal.τ).loc Cert.FfnUp0BwIdeal.main_arg1)) →
    ∃ (v0 : (c : Dev Cert.FfnUp0BwIdeal.nD) → Buf (Elt Ideal) ((c.tc : Thread Cert.FfnUp0BwIdeal.nD Cert.FfnUp0BwIdeal.τ).loc Cert.FfnUp0BwIdeal.main_v0)),
      θ_run (Cert.FfnUp0BwIdeal.defs (F := Ideal)) (onTc (τ := Cert.FfnUp0BwIdeal.τ) (Cert.FfnUp0BwIdeal.main (F := Ideal))) ⟨m, fun _ => 0, g⟩ (fun r => ∀ c : Dev Cert.FfnUp0BwIdeal.nD,
          r.2.mem ((c.tc : Thread Cert.FfnUp0BwIdeal.nD Cert.FfnUp0BwIdeal.τ).loc Cert.FfnUp0BwIdeal.main_v0) = v0 c
          ∧ r.2.mem ((c.tc : Thread Cert.FfnUp0BwIdeal.nD Cert.FfnUp0BwIdeal.τ).loc Cert.FfnUp0BwIdeal.main_arg0) = m ((c.tc : Thread Cert.FfnUp0BwIdeal.nD Cert.FfnUp0BwIdeal.τ).loc Cert.FfnUp0BwIdeal.main_arg0)
          ∧ r.2.mem ((c.tc : Thread Cert.FfnUp0BwIdeal.nD Cert.FfnUp0BwIdeal.τ).loc Cert.FfnUp0BwIdeal.main_arg1) = m ((c.tc : Thread Cert.FfnUp0BwIdeal.nD Cert.FfnUp0BwIdeal.τ).loc Cert.FfnUp0BwIdeal.main_arg1))
      ∧ θ_run (Cert.FfnUp0BwRefIdeal.defs (F := Ideal)) (onTc (τ := Cert.FfnUp0BwRefIdeal.τ) (Cert.FfnUp0BwRefIdeal.main (F := Ideal))) ⟨m', fun _ => 0, g'⟩ (fun r => ∀ c : Dev Cert.FfnUp0BwRefIdeal.nD,
          r.2.mem ((c.tc : Thread Cert.FfnUp0BwRefIdeal.nD Cert.FfnUp0BwRefIdeal.τ).loc Cert.FfnUp0BwRefIdeal.main_v10) = v0 c
          ∧ r.2.mem ((c.tc : Thread Cert.FfnUp0BwRefIdeal.nD Cert.FfnUp0BwRefIdeal.τ).loc Cert.FfnUp0BwRefIdeal.main_arg0) = m' ((c.tc : Thread Cert.FfnUp0BwRefIdeal.nD Cert.FfnUp0BwRefIdeal.τ).loc Cert.FfnUp0BwRefIdeal.main_arg0)
          ∧ r.2.mem ((c.tc : Thread Cert.FfnUp0BwRefIdeal.nD Cert.FfnUp0BwRefIdeal.τ).loc Cert.FfnUp0BwRefIdeal.main_arg1) = m' ((c.tc : Thread Cert.FfnUp0BwRefIdeal.nD Cert.FfnUp0BwRefIdeal.τ).loc Cert.FfnUp0BwRefIdeal.main_arg1))

def preserves_FfnUpBx_FfnUpBxIdeal : Prop :=
  True

def algebraic_FfnUpBxIdeal_FfnUpBxRefIdeal [hFfnUpBxIdeal : Cert.FfnUpBxIdeal.Facts] [hFfnUpBxRefIdeal : Cert.FfnUpBxRefIdeal.Facts] : Prop :=
  ∀ (m : (ℓ : Loc Cert.FfnUpBxIdeal.nD Cert.FfnUpBxIdeal.τ Cert.FfnUpBxIdeal.sig) → Buf (Elt Ideal) ℓ) (g : Dev Cert.FfnUpBxIdeal.nD → PrngReg)
    (m' : (ℓ : Loc Cert.FfnUpBxRefIdeal.nD Cert.FfnUpBxRefIdeal.τ Cert.FfnUpBxRefIdeal.sig) → Buf (Elt Ideal) ℓ) (g' : Dev Cert.FfnUpBxRefIdeal.nD → PrngReg), Pre_FfnUpBxIdeal m →
    (∀ c : Dev Cert.FfnUpBxIdeal.nD,
      m' ((c.tc : Thread Cert.FfnUpBxRefIdeal.nD Cert.FfnUpBxRefIdeal.τ).loc Cert.FfnUpBxRefIdeal.main_arg0) = m ((c.tc : Thread Cert.FfnUpBxIdeal.nD Cert.FfnUpBxIdeal.τ).loc Cert.FfnUpBxIdeal.main_arg0)
      ∧ m' ((c.tc : Thread Cert.FfnUpBxRefIdeal.nD Cert.FfnUpBxRefIdeal.τ).loc Cert.FfnUpBxRefIdeal.main_arg1) = m ((c.tc : Thread Cert.FfnUpBxIdeal.nD Cert.FfnUpBxIdeal.τ).loc Cert.FfnUpBxIdeal.main_arg1)) →
    ∃ (v0 : (c : Dev Cert.FfnUpBxIdeal.nD) → Buf (Elt Ideal) ((c.tc : Thread Cert.FfnUpBxIdeal.nD Cert.FfnUpBxIdeal.τ).loc Cert.FfnUpBxIdeal.main_v0)),
      θ_run (Cert.FfnUpBxIdeal.defs (F := Ideal)) (onTc (τ := Cert.FfnUpBxIdeal.τ) (Cert.FfnUpBxIdeal.main (F := Ideal))) ⟨m, fun _ => 0, g⟩ (fun r => ∀ c : Dev Cert.FfnUpBxIdeal.nD,
          r.2.mem ((c.tc : Thread Cert.FfnUpBxIdeal.nD Cert.FfnUpBxIdeal.τ).loc Cert.FfnUpBxIdeal.main_v0) = v0 c
          ∧ r.2.mem ((c.tc : Thread Cert.FfnUpBxIdeal.nD Cert.FfnUpBxIdeal.τ).loc Cert.FfnUpBxIdeal.main_arg0) = m ((c.tc : Thread Cert.FfnUpBxIdeal.nD Cert.FfnUpBxIdeal.τ).loc Cert.FfnUpBxIdeal.main_arg0)
          ∧ r.2.mem ((c.tc : Thread Cert.FfnUpBxIdeal.nD Cert.FfnUpBxIdeal.τ).loc Cert.FfnUpBxIdeal.main_arg1) = m ((c.tc : Thread Cert.FfnUpBxIdeal.nD Cert.FfnUpBxIdeal.τ).loc Cert.FfnUpBxIdeal.main_arg1))
      ∧ θ_run (Cert.FfnUpBxRefIdeal.defs (F := Ideal)) (onTc (τ := Cert.FfnUpBxRefIdeal.τ) (Cert.FfnUpBxRefIdeal.main (F := Ideal))) ⟨m', fun _ => 0, g'⟩ (fun r => ∀ c : Dev Cert.FfnUpBxRefIdeal.nD,
          r.2.mem ((c.tc : Thread Cert.FfnUpBxRefIdeal.nD Cert.FfnUpBxRefIdeal.τ).loc Cert.FfnUpBxRefIdeal.main_v8) = v0 c
          ∧ r.2.mem ((c.tc : Thread Cert.FfnUpBxRefIdeal.nD Cert.FfnUpBxRefIdeal.τ).loc Cert.FfnUpBxRefIdeal.main_arg0) = m' ((c.tc : Thread Cert.FfnUpBxRefIdeal.nD Cert.FfnUpBxRefIdeal.τ).loc Cert.FfnUpBxRefIdeal.main_arg0)
          ∧ r.2.mem ((c.tc : Thread Cert.FfnUpBxRefIdeal.nD Cert.FfnUpBxRefIdeal.τ).loc Cert.FfnUpBxRefIdeal.main_arg1) = m' ((c.tc : Thread Cert.FfnUpBxRefIdeal.nD Cert.FfnUpBxRefIdeal.τ).loc Cert.FfnUpBxRefIdeal.main_arg1))

def preserves_FfnUpBw_FfnUpBwIdeal : Prop :=
  True

def algebraic_FfnUpBwIdeal_FfnUpBwRefIdeal [hFfnUpBwIdeal : Cert.FfnUpBwIdeal.Facts] [hFfnUpBwRefIdeal : Cert.FfnUpBwRefIdeal.Facts] : Prop :=
  ∀ (m : (ℓ : Loc Cert.FfnUpBwIdeal.nD Cert.FfnUpBwIdeal.τ Cert.FfnUpBwIdeal.sig) → Buf (Elt Ideal) ℓ) (g : Dev Cert.FfnUpBwIdeal.nD → PrngReg)
    (m' : (ℓ : Loc Cert.FfnUpBwRefIdeal.nD Cert.FfnUpBwRefIdeal.τ Cert.FfnUpBwRefIdeal.sig) → Buf (Elt Ideal) ℓ) (g' : Dev Cert.FfnUpBwRefIdeal.nD → PrngReg), Pre_FfnUpBwIdeal m →
    (∀ c : Dev Cert.FfnUpBwIdeal.nD,
      m' ((c.tc : Thread Cert.FfnUpBwRefIdeal.nD Cert.FfnUpBwRefIdeal.τ).loc Cert.FfnUpBwRefIdeal.main_arg0) = m ((c.tc : Thread Cert.FfnUpBwIdeal.nD Cert.FfnUpBwIdeal.τ).loc Cert.FfnUpBwIdeal.main_arg0)
      ∧ m' ((c.tc : Thread Cert.FfnUpBwRefIdeal.nD Cert.FfnUpBwRefIdeal.τ).loc Cert.FfnUpBwRefIdeal.main_arg1) = m ((c.tc : Thread Cert.FfnUpBwIdeal.nD Cert.FfnUpBwIdeal.τ).loc Cert.FfnUpBwIdeal.main_arg1)) →
    ∃ (v0 : (c : Dev Cert.FfnUpBwIdeal.nD) → Buf (Elt Ideal) ((c.tc : Thread Cert.FfnUpBwIdeal.nD Cert.FfnUpBwIdeal.τ).loc Cert.FfnUpBwIdeal.main_v0)),
      θ_run (Cert.FfnUpBwIdeal.defs (F := Ideal)) (onTc (τ := Cert.FfnUpBwIdeal.τ) (Cert.FfnUpBwIdeal.main (F := Ideal))) ⟨m, fun _ => 0, g⟩ (fun r => ∀ c : Dev Cert.FfnUpBwIdeal.nD,
          r.2.mem ((c.tc : Thread Cert.FfnUpBwIdeal.nD Cert.FfnUpBwIdeal.τ).loc Cert.FfnUpBwIdeal.main_v0) = v0 c
          ∧ r.2.mem ((c.tc : Thread Cert.FfnUpBwIdeal.nD Cert.FfnUpBwIdeal.τ).loc Cert.FfnUpBwIdeal.main_arg0) = m ((c.tc : Thread Cert.FfnUpBwIdeal.nD Cert.FfnUpBwIdeal.τ).loc Cert.FfnUpBwIdeal.main_arg0)
          ∧ r.2.mem ((c.tc : Thread Cert.FfnUpBwIdeal.nD Cert.FfnUpBwIdeal.τ).loc Cert.FfnUpBwIdeal.main_arg1) = m ((c.tc : Thread Cert.FfnUpBwIdeal.nD Cert.FfnUpBwIdeal.τ).loc Cert.FfnUpBwIdeal.main_arg1))
      ∧ θ_run (Cert.FfnUpBwRefIdeal.defs (F := Ideal)) (onTc (τ := Cert.FfnUpBwRefIdeal.τ) (Cert.FfnUpBwRefIdeal.main (F := Ideal))) ⟨m', fun _ => 0, g'⟩ (fun r => ∀ c : Dev Cert.FfnUpBwRefIdeal.nD,
          r.2.mem ((c.tc : Thread Cert.FfnUpBwRefIdeal.nD Cert.FfnUpBwRefIdeal.τ).loc Cert.FfnUpBwRefIdeal.main_v10) = v0 c
          ∧ r.2.mem ((c.tc : Thread Cert.FfnUpBwRefIdeal.nD Cert.FfnUpBwRefIdeal.τ).loc Cert.FfnUpBwRefIdeal.main_arg0) = m' ((c.tc : Thread Cert.FfnUpBwRefIdeal.nD Cert.FfnUpBwRefIdeal.τ).loc Cert.FfnUpBwRefIdeal.main_arg0)
          ∧ r.2.mem ((c.tc : Thread Cert.FfnUpBwRefIdeal.nD Cert.FfnUpBwRefIdeal.τ).loc Cert.FfnUpBwRefIdeal.main_arg1) = m' ((c.tc : Thread Cert.FfnUpBwRefIdeal.nD Cert.FfnUpBwRefIdeal.τ).loc Cert.FfnUpBwRefIdeal.main_arg1))

def preserves_AdamwSmall_AdamwSmallIdeal : Prop :=
  IdealRules.named_const.Statement Cert.AdamwSmallIdeal.κ "c1" .f32 0x3FC48605#32 ((10000000000 / 6513215599 : ℝ) : EReal)
  ∧ IdealRules.named_const.Statement Cert.AdamwSmallIdeal.κ "c2" .f32 0x42C8E6D3#32 ((1000000000000000000000000000000 / 9955119790251790119955009999 : ℝ) : EReal)

def algebraic_AdamwSmallIdeal_AdamwSmallRefIdeal [hAdamwSmallIdeal : Cert.AdamwSmallIdeal.Facts] [hAdamwSmallRefIdeal : Cert.AdamwSmallRefIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg)
    (m' : (ℓ : Loc Cert.AdamwSmallRefIdeal.nD Cert.AdamwSmallRefIdeal.τ Cert.AdamwSmallRefIdeal.sig) → Buf (Elt Ideal) ℓ) (g' : Dev Cert.AdamwSmallRefIdeal.nD → PrngReg), Pre_AdamwSmallIdeal m →
    (∀ c : Dev Cert.AdamwSmallIdeal.nD,
      m' ((c.tc : Thread Cert.AdamwSmallRefIdeal.nD Cert.AdamwSmallRefIdeal.τ).loc Cert.AdamwSmallRefIdeal.main_arg0) = m ((c.tc : Thread Cert.AdamwSmallIdeal.nD Cert.AdamwSmallIdeal.τ).loc Cert.AdamwSmallIdeal.main_arg0)
      ∧ m' ((c.tc : Thread Cert.AdamwSmallRefIdeal.nD Cert.AdamwSmallRefIdeal.τ).loc Cert.AdamwSmallRefIdeal.main_arg1) = m ((c.tc : Thread Cert.AdamwSmallIdeal.nD Cert.AdamwSmallIdeal.τ).loc Cert.AdamwSmallIdeal.main_arg1)
      ∧ m' ((c.tc : Thread Cert.AdamwSmallRefIdeal.nD Cert.AdamwSmallRefIdeal.τ).loc Cert.AdamwSmallRefIdeal.main_arg2) = m ((c.tc : Thread Cert.AdamwSmallIdeal.nD Cert.AdamwSmallIdeal.τ).loc Cert.AdamwSmallIdeal.main_arg2)
      ∧ m' ((c.tc : Thread Cert.AdamwSmallRefIdeal.nD Cert.AdamwSmallRefIdeal.τ).loc Cert.AdamwSmallRefIdeal.main_arg3) = m ((c.tc : Thread Cert.AdamwSmallIdeal.nD Cert.AdamwSmallIdeal.τ).loc Cert.AdamwSmallIdeal.main_arg3)) →
    ∃ (v0 : (c : Dev Cert.AdamwSmallIdeal.nD) → Buf (Elt Ideal) ((c.tc : Thread Cert.AdamwSmallIdeal.nD Cert.AdamwSmallIdeal.τ).loc Cert.AdamwSmallIdeal.main_v0_0)) (v1 : (c : Dev Cert.AdamwSmallIdeal.nD) → Buf (Elt Ideal) ((c.tc : Thread Cert.AdamwSmallIdeal.nD Cert.AdamwSmallIdeal.τ).loc Cert.AdamwSmallIdeal.main_v0_1)) (v2 : (c : Dev Cert.AdamwSmallIdeal.nD) → Buf (Elt Ideal) ((c.tc : Thread Cert.AdamwSmallIdeal.nD Cert.AdamwSmallIdeal.τ).loc Cert.AdamwSmallIdeal.main_v0_2)) (v3 : (c : Dev Cert.AdamwSmallIdeal.nD) → Buf (Elt Ideal) ((c.tc : Thread Cert.AdamwSmallIdeal.nD Cert.AdamwSmallIdeal.τ).loc Cert.AdamwSmallIdeal.main_v0_3)),
      θ_run (Cert.AdamwSmallIdeal.defs (F := Ideal)) (onTc (τ := Cert.AdamwSmallIdeal.τ) (Cert.AdamwSmallIdeal.main (F := Ideal))) ⟨m, fun _ => 0, g⟩ (fun r => ∀ c : Dev Cert.AdamwSmallIdeal.nD,
          r.2.mem ((c.tc : Thread Cert.AdamwSmallIdeal.nD Cert.AdamwSmallIdeal.τ).loc Cert.AdamwSmallIdeal.main_v0_0) = v0 c
          ∧ r.2.mem ((c.tc : Thread Cert.AdamwSmallIdeal.nD Cert.AdamwSmallIdeal.τ).loc Cert.AdamwSmallIdeal.main_v0_1) = v1 c
          ∧ r.2.mem ((c.tc : Thread Cert.AdamwSmallIdeal.nD Cert.AdamwSmallIdeal.τ).loc Cert.AdamwSmallIdeal.main_v0_2) = v2 c
          ∧ r.2.mem ((c.tc : Thread Cert.AdamwSmallIdeal.nD Cert.AdamwSmallIdeal.τ).loc Cert.AdamwSmallIdeal.main_v0_3) = v3 c
          ∧ r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
          ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
          ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
          ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ θ_run (Cert.AdamwSmallRefIdeal.defs (F := Ideal)) (onTc (τ := Cert.AdamwSmallRefIdeal.τ) (Cert.AdamwSmallRefIdeal.main (F := Ideal))) ⟨m', fun _ => 0, g'⟩ (fun r => ∀ c : Dev Cert.AdamwSmallRefIdeal.nD,
          r.2.mem ((c.tc : Thread Cert.AdamwSmallRefIdeal.nD Cert.AdamwSmallRefIdeal.τ).loc Cert.AdamwSmallRefIdeal.main_v0) = v0 c
          ∧ r.2.mem ((c.tc : Thread Cert.AdamwSmallRefIdeal.nD Cert.AdamwSmallRefIdeal.τ).loc Cert.AdamwSmallRefIdeal.main_v36) = v1 c
          ∧ r.2.mem ((c.tc : Thread Cert.AdamwSmallRefIdeal.nD Cert.AdamwSmallRefIdeal.τ).loc Cert.AdamwSmallRefIdeal.main_v5) = v2 c
          ∧ r.2.mem ((c.tc : Thread Cert.AdamwSmallRefIdeal.nD Cert.AdamwSmallRefIdeal.τ).loc Cert.AdamwSmallRefIdeal.main_v11) = v3 c
          ∧ r.2.mem ((c.tc : Thread Cert.AdamwSmallRefIdeal.nD Cert.AdamwSmallRefIdeal.τ).loc Cert.AdamwSmallRefIdeal.main_arg0) = m' ((c.tc : Thread Cert.AdamwSmallRefIdeal.nD Cert.AdamwSmallRefIdeal.τ).loc Cert.AdamwSmallRefIdeal.main_arg0)
          ∧ r.2.mem ((c.tc : Thread Cert.AdamwSmallRefIdeal.nD Cert.AdamwSmallRefIdeal.τ).loc Cert.AdamwSmallRefIdeal.main_arg1) = m' ((c.tc : Thread Cert.AdamwSmallRefIdeal.nD Cert.AdamwSmallRefIdeal.τ).loc Cert.AdamwSmallRefIdeal.main_arg1)
          ∧ r.2.mem ((c.tc : Thread Cert.AdamwSmallRefIdeal.nD Cert.AdamwSmallRefIdeal.τ).loc Cert.AdamwSmallRefIdeal.main_arg2) = m' ((c.tc : Thread Cert.AdamwSmallRefIdeal.nD Cert.AdamwSmallRefIdeal.τ).loc Cert.AdamwSmallRefIdeal.main_arg2)
          ∧ r.2.mem ((c.tc : Thread Cert.AdamwSmallRefIdeal.nD Cert.AdamwSmallRefIdeal.τ).loc Cert.AdamwSmallRefIdeal.main_arg3) = m' ((c.tc : Thread Cert.AdamwSmallRefIdeal.nD Cert.AdamwSmallRefIdeal.τ).loc Cert.AdamwSmallRefIdeal.main_arg3))

def preserves_AdamwRepl_AdamwReplIdeal : Prop :=
  IdealRules.named_const.Statement Cert.AdamwReplIdeal.κ "c1" .f32 0x3FC48605#32 ((10000000000 / 6513215599 : ℝ) : EReal)
  ∧ IdealRules.named_const.Statement Cert.AdamwReplIdeal.κ "c2" .f32 0x42C8E6D3#32 ((1000000000000000000000000000000 / 9955119790251790119955009999 : ℝ) : EReal)

def algebraic_AdamwReplIdeal_AdamwReplRefIdeal [hAdamwReplIdeal : Cert.AdamwReplIdeal.Facts] [hAdamwReplRefIdeal : Cert.AdamwReplRefIdeal.Facts] : Prop :=
  ∀ (m : (ℓ : Loc Cert.AdamwReplIdeal.nD Cert.AdamwReplIdeal.τ Cert.AdamwReplIdeal.sig) → Buf (Elt Ideal) ℓ) (g : Dev Cert.AdamwReplIdeal.nD → PrngReg)
    (m' : (ℓ : Loc Cert.AdamwReplRefIdeal.nD Cert.AdamwReplRefIdeal.τ Cert.AdamwReplRefIdeal.sig) → Buf (Elt Ideal) ℓ) (g' : Dev Cert.AdamwReplRefIdeal.nD → PrngReg), Pre_AdamwReplIdeal m →
    (∀ c : Dev Cert.AdamwReplIdeal.nD,
      m' ((c.tc : Thread Cert.AdamwReplRefIdeal.nD Cert.AdamwReplRefIdeal.τ).loc Cert.AdamwReplRefIdeal.main_arg0) = m ((c.tc : Thread Cert.AdamwReplIdeal.nD Cert.AdamwReplIdeal.τ).loc Cert.AdamwReplIdeal.main_arg0)
      ∧ m' ((c.tc : Thread Cert.AdamwReplRefIdeal.nD Cert.AdamwReplRefIdeal.τ).loc Cert.AdamwReplRefIdeal.main_arg1) = m ((c.tc : Thread Cert.AdamwReplIdeal.nD Cert.AdamwReplIdeal.τ).loc Cert.AdamwReplIdeal.main_arg1)
      ∧ m' ((c.tc : Thread Cert.AdamwReplRefIdeal.nD Cert.AdamwReplRefIdeal.τ).loc Cert.AdamwReplRefIdeal.main_arg2) = m ((c.tc : Thread Cert.AdamwReplIdeal.nD Cert.AdamwReplIdeal.τ).loc Cert.AdamwReplIdeal.main_arg2)
      ∧ m' ((c.tc : Thread Cert.AdamwReplRefIdeal.nD Cert.AdamwReplRefIdeal.τ).loc Cert.AdamwReplRefIdeal.main_arg3) = m ((c.tc : Thread Cert.AdamwReplIdeal.nD Cert.AdamwReplIdeal.τ).loc Cert.AdamwReplIdeal.main_arg3)) →
    ∃ (v0 : (c : Dev Cert.AdamwReplIdeal.nD) → Buf (Elt Ideal) ((c.tc : Thread Cert.AdamwReplIdeal.nD Cert.AdamwReplIdeal.τ).loc Cert.AdamwReplIdeal.main_v0_0)) (v1 : (c : Dev Cert.AdamwReplIdeal.nD) → Buf (Elt Ideal) ((c.tc : Thread Cert.AdamwReplIdeal.nD Cert.AdamwReplIdeal.τ).loc Cert.AdamwReplIdeal.main_v0_1)) (v2 : (c : Dev Cert.AdamwReplIdeal.nD) → Buf (Elt Ideal) ((c.tc : Thread Cert.AdamwReplIdeal.nD Cert.AdamwReplIdeal.τ).loc Cert.AdamwReplIdeal.main_v0_2)) (v3 : (c : Dev Cert.AdamwReplIdeal.nD) → Buf (Elt Ideal) ((c.tc : Thread Cert.AdamwReplIdeal.nD Cert.AdamwReplIdeal.τ).loc Cert.AdamwReplIdeal.main_v0_3)),
      θ_run (Cert.AdamwReplIdeal.defs (F := Ideal)) (onTc (τ := Cert.AdamwReplIdeal.τ) (Cert.AdamwReplIdeal.main (F := Ideal))) ⟨m, fun _ => 0, g⟩ (fun r => ∀ c : Dev Cert.AdamwReplIdeal.nD,
          r.2.mem ((c.tc : Thread Cert.AdamwReplIdeal.nD Cert.AdamwReplIdeal.τ).loc Cert.AdamwReplIdeal.main_v0_0) = v0 c
          ∧ r.2.mem ((c.tc : Thread Cert.AdamwReplIdeal.nD Cert.AdamwReplIdeal.τ).loc Cert.AdamwReplIdeal.main_v0_1) = v1 c
          ∧ r.2.mem ((c.tc : Thread Cert.AdamwReplIdeal.nD Cert.AdamwReplIdeal.τ).loc Cert.AdamwReplIdeal.main_v0_2) = v2 c
          ∧ r.2.mem ((c.tc : Thread Cert.AdamwReplIdeal.nD Cert.AdamwReplIdeal.τ).loc Cert.AdamwReplIdeal.main_v0_3) = v3 c
          ∧ r.2.mem ((c.tc : Thread Cert.AdamwReplIdeal.nD Cert.AdamwReplIdeal.τ).loc Cert.AdamwReplIdeal.main_arg0) = m ((c.tc : Thread Cert.AdamwReplIdeal.nD Cert.AdamwReplIdeal.τ).loc Cert.AdamwReplIdeal.main_arg0)
          ∧ r.2.mem ((c.tc : Thread Cert.AdamwReplIdeal.nD Cert.AdamwReplIdeal.τ).loc Cert.AdamwReplIdeal.main_arg1) = m ((c.tc : Thread Cert.AdamwReplIdeal.nD Cert.AdamwReplIdeal.τ).loc Cert.AdamwReplIdeal.main_arg1)
          ∧ r.2.mem ((c.tc : Thread Cert.AdamwReplIdeal.nD Cert.AdamwReplIdeal.τ).loc Cert.AdamwReplIdeal.main_arg2) = m ((c.tc : Thread Cert.AdamwReplIdeal.nD Cert.AdamwReplIdeal.τ).loc Cert.AdamwReplIdeal.main_arg2)
          ∧ r.2.mem ((c.tc : Thread Cert.AdamwReplIdeal.nD Cert.AdamwReplIdeal.τ).loc Cert.AdamwReplIdeal.main_arg3) = m ((c.tc : Thread Cert.AdamwReplIdeal.nD Cert.AdamwReplIdeal.τ).loc Cert.AdamwReplIdeal.main_arg3))
      ∧ θ_run (Cert.AdamwReplRefIdeal.defs (F := Ideal)) (onTc (τ := Cert.AdamwReplRefIdeal.τ) (Cert.AdamwReplRefIdeal.main (F := Ideal))) ⟨m', fun _ => 0, g'⟩ (fun r => ∀ c : Dev Cert.AdamwReplRefIdeal.nD,
          r.2.mem ((c.tc : Thread Cert.AdamwReplRefIdeal.nD Cert.AdamwReplRefIdeal.τ).loc Cert.AdamwReplRefIdeal.main_v0) = v0 c
          ∧ r.2.mem ((c.tc : Thread Cert.AdamwReplRefIdeal.nD Cert.AdamwReplRefIdeal.τ).loc Cert.AdamwReplRefIdeal.main_v36) = v1 c
          ∧ r.2.mem ((c.tc : Thread Cert.AdamwReplRefIdeal.nD Cert.AdamwReplRefIdeal.τ).loc Cert.AdamwReplRefIdeal.main_v5) = v2 c
          ∧ r.2.mem ((c.tc : Thread Cert.AdamwReplRefIdeal.nD Cert.AdamwReplRefIdeal.τ).loc Cert.AdamwReplRefIdeal.main_v11) = v3 c
          ∧ r.2.mem ((c.tc : Thread Cert.AdamwReplRefIdeal.nD Cert.AdamwReplRefIdeal.τ).loc Cert.AdamwReplRefIdeal.main_arg0) = m' ((c.tc : Thread Cert.AdamwReplRefIdeal.nD Cert.AdamwReplRefIdeal.τ).loc Cert.AdamwReplRefIdeal.main_arg0)
          ∧ r.2.mem ((c.tc : Thread Cert.AdamwReplRefIdeal.nD Cert.AdamwReplRefIdeal.τ).loc Cert.AdamwReplRefIdeal.main_arg1) = m' ((c.tc : Thread Cert.AdamwReplRefIdeal.nD Cert.AdamwReplRefIdeal.τ).loc Cert.AdamwReplRefIdeal.main_arg1)
          ∧ r.2.mem ((c.tc : Thread Cert.AdamwReplRefIdeal.nD Cert.AdamwReplRefIdeal.τ).loc Cert.AdamwReplRefIdeal.main_arg2) = m' ((c.tc : Thread Cert.AdamwReplRefIdeal.nD Cert.AdamwReplRefIdeal.τ).loc Cert.AdamwReplRefIdeal.main_arg2)
          ∧ r.2.mem ((c.tc : Thread Cert.AdamwReplRefIdeal.nD Cert.AdamwReplRefIdeal.τ).loc Cert.AdamwReplRefIdeal.main_arg3) = m' ((c.tc : Thread Cert.AdamwReplRefIdeal.nD Cert.AdamwReplRefIdeal.τ).loc Cert.AdamwReplRefIdeal.main_arg3))

def preserves_AdamwAdaW_AdamwAdaWIdeal : Prop :=
  IdealRules.named_const.Statement Cert.AdamwAdaWIdeal.κ "c1" .f32 0x3FC48605#32 ((10000000000 / 6513215599 : ℝ) : EReal)
  ∧ IdealRules.named_const.Statement Cert.AdamwAdaWIdeal.κ "c2" .f32 0x42C8E6D3#32 ((1000000000000000000000000000000 / 9955119790251790119955009999 : ℝ) : EReal)

def algebraic_AdamwAdaWIdeal_AdamwAdaWRefIdeal [hAdamwAdaWIdeal : Cert.AdamwAdaWIdeal.Facts] [hAdamwAdaWRefIdeal : Cert.AdamwAdaWRefIdeal.Facts] : Prop :=
  ∀ (m : (ℓ : Loc Cert.AdamwAdaWIdeal.nD Cert.AdamwAdaWIdeal.τ Cert.AdamwAdaWIdeal.sig) → Buf (Elt Ideal) ℓ) (g : Dev Cert.AdamwAdaWIdeal.nD → PrngReg)
    (m' : (ℓ : Loc Cert.AdamwAdaWRefIdeal.nD Cert.AdamwAdaWRefIdeal.τ Cert.AdamwAdaWRefIdeal.sig) → Buf (Elt Ideal) ℓ) (g' : Dev Cert.AdamwAdaWRefIdeal.nD → PrngReg), Pre_AdamwAdaWIdeal m →
    (∀ c : Dev Cert.AdamwAdaWIdeal.nD,
      m' ((c.tc : Thread Cert.AdamwAdaWRefIdeal.nD Cert.AdamwAdaWRefIdeal.τ).loc Cert.AdamwAdaWRefIdeal.main_arg0) = m ((c.tc : Thread Cert.AdamwAdaWIdeal.nD Cert.AdamwAdaWIdeal.τ).loc Cert.AdamwAdaWIdeal.main_arg0)
      ∧ m' ((c.tc : Thread Cert.AdamwAdaWRefIdeal.nD Cert.AdamwAdaWRefIdeal.τ).loc Cert.AdamwAdaWRefIdeal.main_arg1) = m ((c.tc : Thread Cert.AdamwAdaWIdeal.nD Cert.AdamwAdaWIdeal.τ).loc Cert.AdamwAdaWIdeal.main_arg1)
      ∧ m' ((c.tc : Thread Cert.AdamwAdaWRefIdeal.nD Cert.AdamwAdaWRefIdeal.τ).loc Cert.AdamwAdaWRefIdeal.main_arg2) = m ((c.tc : Thread Cert.AdamwAdaWIdeal.nD Cert.AdamwAdaWIdeal.τ).loc Cert.AdamwAdaWIdeal.main_arg2)
      ∧ m' ((c.tc : Thread Cert.AdamwAdaWRefIdeal.nD Cert.AdamwAdaWRefIdeal.τ).loc Cert.AdamwAdaWRefIdeal.main_arg3) = m ((c.tc : Thread Cert.AdamwAdaWIdeal.nD Cert.AdamwAdaWIdeal.τ).loc Cert.AdamwAdaWIdeal.main_arg3)) →
    ∃ (v0 : (c : Dev Cert.AdamwAdaWIdeal.nD) → Buf (Elt Ideal) ((c.tc : Thread Cert.AdamwAdaWIdeal.nD Cert.AdamwAdaWIdeal.τ).loc Cert.AdamwAdaWIdeal.main_v0_0)) (v1 : (c : Dev Cert.AdamwAdaWIdeal.nD) → Buf (Elt Ideal) ((c.tc : Thread Cert.AdamwAdaWIdeal.nD Cert.AdamwAdaWIdeal.τ).loc Cert.AdamwAdaWIdeal.main_v0_1)) (v2 : (c : Dev Cert.AdamwAdaWIdeal.nD) → Buf (Elt Ideal) ((c.tc : Thread Cert.AdamwAdaWIdeal.nD Cert.AdamwAdaWIdeal.τ).loc Cert.AdamwAdaWIdeal.main_v0_2)) (v3 : (c : Dev Cert.AdamwAdaWIdeal.nD) → Buf (Elt Ideal) ((c.tc : Thread Cert.AdamwAdaWIdeal.nD Cert.AdamwAdaWIdeal.τ).loc Cert.AdamwAdaWIdeal.main_v0_3)),
      θ_run (Cert.AdamwAdaWIdeal.defs (F := Ideal)) (onTc (τ := Cert.AdamwAdaWIdeal.τ) (Cert.AdamwAdaWIdeal.main (F := Ideal))) ⟨m, fun _ => 0, g⟩ (fun r => ∀ c : Dev Cert.AdamwAdaWIdeal.nD,
          r.2.mem ((c.tc : Thread Cert.AdamwAdaWIdeal.nD Cert.AdamwAdaWIdeal.τ).loc Cert.AdamwAdaWIdeal.main_v0_0) = v0 c
          ∧ r.2.mem ((c.tc : Thread Cert.AdamwAdaWIdeal.nD Cert.AdamwAdaWIdeal.τ).loc Cert.AdamwAdaWIdeal.main_v0_1) = v1 c
          ∧ r.2.mem ((c.tc : Thread Cert.AdamwAdaWIdeal.nD Cert.AdamwAdaWIdeal.τ).loc Cert.AdamwAdaWIdeal.main_v0_2) = v2 c
          ∧ r.2.mem ((c.tc : Thread Cert.AdamwAdaWIdeal.nD Cert.AdamwAdaWIdeal.τ).loc Cert.AdamwAdaWIdeal.main_v0_3) = v3 c
          ∧ r.2.mem ((c.tc : Thread Cert.AdamwAdaWIdeal.nD Cert.AdamwAdaWIdeal.τ).loc Cert.AdamwAdaWIdeal.main_arg0) = m ((c.tc : Thread Cert.AdamwAdaWIdeal.nD Cert.AdamwAdaWIdeal.τ).loc Cert.AdamwAdaWIdeal.main_arg0)
          ∧ r.2.mem ((c.tc : Thread Cert.AdamwAdaWIdeal.nD Cert.AdamwAdaWIdeal.τ).loc Cert.AdamwAdaWIdeal.main_arg1) = m ((c.tc : Thread Cert.AdamwAdaWIdeal.nD Cert.AdamwAdaWIdeal.τ).loc Cert.AdamwAdaWIdeal.main_arg1)
          ∧ r.2.mem ((c.tc : Thread Cert.AdamwAdaWIdeal.nD Cert.AdamwAdaWIdeal.τ).loc Cert.AdamwAdaWIdeal.main_arg2) = m ((c.tc : Thread Cert.AdamwAdaWIdeal.nD Cert.AdamwAdaWIdeal.τ).loc Cert.AdamwAdaWIdeal.main_arg2)
          ∧ r.2.mem ((c.tc : Thread Cert.AdamwAdaWIdeal.nD Cert.AdamwAdaWIdeal.τ).loc Cert.AdamwAdaWIdeal.main_arg3) = m ((c.tc : Thread Cert.AdamwAdaWIdeal.nD Cert.AdamwAdaWIdeal.τ).loc Cert.AdamwAdaWIdeal.main_arg3))
      ∧ θ_run (Cert.AdamwAdaWRefIdeal.defs (F := Ideal)) (onTc (τ := Cert.AdamwAdaWRefIdeal.τ) (Cert.AdamwAdaWRefIdeal.main (F := Ideal))) ⟨m', fun _ => 0, g'⟩ (fun r => ∀ c : Dev Cert.AdamwAdaWRefIdeal.nD,
          r.2.mem ((c.tc : Thread Cert.AdamwAdaWRefIdeal.nD Cert.AdamwAdaWRefIdeal.τ).loc Cert.AdamwAdaWRefIdeal.main_v0) = v0 c
          ∧ r.2.mem ((c.tc : Thread Cert.AdamwAdaWRefIdeal.nD Cert.AdamwAdaWRefIdeal.τ).loc Cert.AdamwAdaWRefIdeal.main_v36) = v1 c
          ∧ r.2.mem ((c.tc : Thread Cert.AdamwAdaWRefIdeal.nD Cert.AdamwAdaWRefIdeal.τ).loc Cert.AdamwAdaWRefIdeal.main_v5) = v2 c
          ∧ r.2.mem ((c.tc : Thread Cert.AdamwAdaWRefIdeal.nD Cert.AdamwAdaWRefIdeal.τ).loc Cert.AdamwAdaWRefIdeal.main_v11) = v3 c
          ∧ r.2.mem ((c.tc : Thread Cert.AdamwAdaWRefIdeal.nD Cert.AdamwAdaWRefIdeal.τ).loc Cert.AdamwAdaWRefIdeal.main_arg0) = m' ((c.tc : Thread Cert.AdamwAdaWRefIdeal.nD Cert.AdamwAdaWRefIdeal.τ).loc Cert.AdamwAdaWRefIdeal.main_arg0)
          ∧ r.2.mem ((c.tc : Thread Cert.AdamwAdaWRefIdeal.nD Cert.AdamwAdaWRefIdeal.τ).loc Cert.AdamwAdaWRefIdeal.main_arg1) = m' ((c.tc : Thread Cert.AdamwAdaWRefIdeal.nD Cert.AdamwAdaWRefIdeal.τ).loc Cert.AdamwAdaWRefIdeal.main_arg1)
          ∧ r.2.mem ((c.tc : Thread Cert.AdamwAdaWRefIdeal.nD Cert.AdamwAdaWRefIdeal.τ).loc Cert.AdamwAdaWRefIdeal.main_arg2) = m' ((c.tc : Thread Cert.AdamwAdaWRefIdeal.nD Cert.AdamwAdaWRefIdeal.τ).loc Cert.AdamwAdaWRefIdeal.main_arg2)
          ∧ r.2.mem ((c.tc : Thread Cert.AdamwAdaWRefIdeal.nD Cert.AdamwAdaWRefIdeal.τ).loc Cert.AdamwAdaWRefIdeal.main_arg3) = m' ((c.tc : Thread Cert.AdamwAdaWRefIdeal.nD Cert.AdamwAdaWRefIdeal.τ).loc Cert.AdamwAdaWRefIdeal.main_arg3))

def preserves_AdamwAdaB_AdamwAdaBIdeal : Prop :=
  IdealRules.named_const.Statement Cert.AdamwAdaBIdeal.κ "c1" .f32 0x3FC48605#32 ((10000000000 / 6513215599 : ℝ) : EReal)
  ∧ IdealRules.named_const.Statement Cert.AdamwAdaBIdeal.κ "c2" .f32 0x42C8E6D3#32 ((1000000000000000000000000000000 / 9955119790251790119955009999 : ℝ) : EReal)

def algebraic_AdamwAdaBIdeal_AdamwAdaBRefIdeal [hAdamwAdaBIdeal : Cert.AdamwAdaBIdeal.Facts] [hAdamwAdaBRefIdeal : Cert.AdamwAdaBRefIdeal.Facts] : Prop :=
  ∀ (m : (ℓ : Loc Cert.AdamwAdaBIdeal.nD Cert.AdamwAdaBIdeal.τ Cert.AdamwAdaBIdeal.sig) → Buf (Elt Ideal) ℓ) (g : Dev Cert.AdamwAdaBIdeal.nD → PrngReg)
    (m' : (ℓ : Loc Cert.AdamwAdaBRefIdeal.nD Cert.AdamwAdaBRefIdeal.τ Cert.AdamwAdaBRefIdeal.sig) → Buf (Elt Ideal) ℓ) (g' : Dev Cert.AdamwAdaBRefIdeal.nD → PrngReg), Pre_AdamwAdaBIdeal m →
    (∀ c : Dev Cert.AdamwAdaBIdeal.nD,
      m' ((c.tc : Thread Cert.AdamwAdaBRefIdeal.nD Cert.AdamwAdaBRefIdeal.τ).loc Cert.AdamwAdaBRefIdeal.main_arg0) = m ((c.tc : Thread Cert.AdamwAdaBIdeal.nD Cert.AdamwAdaBIdeal.τ).loc Cert.AdamwAdaBIdeal.main_arg0)
      ∧ m' ((c.tc : Thread Cert.AdamwAdaBRefIdeal.nD Cert.AdamwAdaBRefIdeal.τ).loc Cert.AdamwAdaBRefIdeal.main_arg1) = m ((c.tc : Thread Cert.AdamwAdaBIdeal.nD Cert.AdamwAdaBIdeal.τ).loc Cert.AdamwAdaBIdeal.main_arg1)
      ∧ m' ((c.tc : Thread Cert.AdamwAdaBRefIdeal.nD Cert.AdamwAdaBRefIdeal.τ).loc Cert.AdamwAdaBRefIdeal.main_arg2) = m ((c.tc : Thread Cert.AdamwAdaBIdeal.nD Cert.AdamwAdaBIdeal.τ).loc Cert.AdamwAdaBIdeal.main_arg2)
      ∧ m' ((c.tc : Thread Cert.AdamwAdaBRefIdeal.nD Cert.AdamwAdaBRefIdeal.τ).loc Cert.AdamwAdaBRefIdeal.main_arg3) = m ((c.tc : Thread Cert.AdamwAdaBIdeal.nD Cert.AdamwAdaBIdeal.τ).loc Cert.AdamwAdaBIdeal.main_arg3)) →
    ∃ (v0 : (c : Dev Cert.AdamwAdaBIdeal.nD) → Buf (Elt Ideal) ((c.tc : Thread Cert.AdamwAdaBIdeal.nD Cert.AdamwAdaBIdeal.τ).loc Cert.AdamwAdaBIdeal.main_v0_0)) (v1 : (c : Dev Cert.AdamwAdaBIdeal.nD) → Buf (Elt Ideal) ((c.tc : Thread Cert.AdamwAdaBIdeal.nD Cert.AdamwAdaBIdeal.τ).loc Cert.AdamwAdaBIdeal.main_v0_1)) (v2 : (c : Dev Cert.AdamwAdaBIdeal.nD) → Buf (Elt Ideal) ((c.tc : Thread Cert.AdamwAdaBIdeal.nD Cert.AdamwAdaBIdeal.τ).loc Cert.AdamwAdaBIdeal.main_v0_2)) (v3 : (c : Dev Cert.AdamwAdaBIdeal.nD) → Buf (Elt Ideal) ((c.tc : Thread Cert.AdamwAdaBIdeal.nD Cert.AdamwAdaBIdeal.τ).loc Cert.AdamwAdaBIdeal.main_v0_3)),
      θ_run (Cert.AdamwAdaBIdeal.defs (F := Ideal)) (onTc (τ := Cert.AdamwAdaBIdeal.τ) (Cert.AdamwAdaBIdeal.main (F := Ideal))) ⟨m, fun _ => 0, g⟩ (fun r => ∀ c : Dev Cert.AdamwAdaBIdeal.nD,
          r.2.mem ((c.tc : Thread Cert.AdamwAdaBIdeal.nD Cert.AdamwAdaBIdeal.τ).loc Cert.AdamwAdaBIdeal.main_v0_0) = v0 c
          ∧ r.2.mem ((c.tc : Thread Cert.AdamwAdaBIdeal.nD Cert.AdamwAdaBIdeal.τ).loc Cert.AdamwAdaBIdeal.main_v0_1) = v1 c
          ∧ r.2.mem ((c.tc : Thread Cert.AdamwAdaBIdeal.nD Cert.AdamwAdaBIdeal.τ).loc Cert.AdamwAdaBIdeal.main_v0_2) = v2 c
          ∧ r.2.mem ((c.tc : Thread Cert.AdamwAdaBIdeal.nD Cert.AdamwAdaBIdeal.τ).loc Cert.AdamwAdaBIdeal.main_v0_3) = v3 c
          ∧ r.2.mem ((c.tc : Thread Cert.AdamwAdaBIdeal.nD Cert.AdamwAdaBIdeal.τ).loc Cert.AdamwAdaBIdeal.main_arg0) = m ((c.tc : Thread Cert.AdamwAdaBIdeal.nD Cert.AdamwAdaBIdeal.τ).loc Cert.AdamwAdaBIdeal.main_arg0)
          ∧ r.2.mem ((c.tc : Thread Cert.AdamwAdaBIdeal.nD Cert.AdamwAdaBIdeal.τ).loc Cert.AdamwAdaBIdeal.main_arg1) = m ((c.tc : Thread Cert.AdamwAdaBIdeal.nD Cert.AdamwAdaBIdeal.τ).loc Cert.AdamwAdaBIdeal.main_arg1)
          ∧ r.2.mem ((c.tc : Thread Cert.AdamwAdaBIdeal.nD Cert.AdamwAdaBIdeal.τ).loc Cert.AdamwAdaBIdeal.main_arg2) = m ((c.tc : Thread Cert.AdamwAdaBIdeal.nD Cert.AdamwAdaBIdeal.τ).loc Cert.AdamwAdaBIdeal.main_arg2)
          ∧ r.2.mem ((c.tc : Thread Cert.AdamwAdaBIdeal.nD Cert.AdamwAdaBIdeal.τ).loc Cert.AdamwAdaBIdeal.main_arg3) = m ((c.tc : Thread Cert.AdamwAdaBIdeal.nD Cert.AdamwAdaBIdeal.τ).loc Cert.AdamwAdaBIdeal.main_arg3))
      ∧ θ_run (Cert.AdamwAdaBRefIdeal.defs (F := Ideal)) (onTc (τ := Cert.AdamwAdaBRefIdeal.τ) (Cert.AdamwAdaBRefIdeal.main (F := Ideal))) ⟨m', fun _ => 0, g'⟩ (fun r => ∀ c : Dev Cert.AdamwAdaBRefIdeal.nD,
          r.2.mem ((c.tc : Thread Cert.AdamwAdaBRefIdeal.nD Cert.AdamwAdaBRefIdeal.τ).loc Cert.AdamwAdaBRefIdeal.main_v0) = v0 c
          ∧ r.2.mem ((c.tc : Thread Cert.AdamwAdaBRefIdeal.nD Cert.AdamwAdaBRefIdeal.τ).loc Cert.AdamwAdaBRefIdeal.main_v36) = v1 c
          ∧ r.2.mem ((c.tc : Thread Cert.AdamwAdaBRefIdeal.nD Cert.AdamwAdaBRefIdeal.τ).loc Cert.AdamwAdaBRefIdeal.main_v5) = v2 c
          ∧ r.2.mem ((c.tc : Thread Cert.AdamwAdaBRefIdeal.nD Cert.AdamwAdaBRefIdeal.τ).loc Cert.AdamwAdaBRefIdeal.main_v11) = v3 c
          ∧ r.2.mem ((c.tc : Thread Cert.AdamwAdaBRefIdeal.nD Cert.AdamwAdaBRefIdeal.τ).loc Cert.AdamwAdaBRefIdeal.main_arg0) = m' ((c.tc : Thread Cert.AdamwAdaBRefIdeal.nD Cert.AdamwAdaBRefIdeal.τ).loc Cert.AdamwAdaBRefIdeal.main_arg0)
          ∧ r.2.mem ((c.tc : Thread Cert.AdamwAdaBRefIdeal.nD Cert.AdamwAdaBRefIdeal.τ).loc Cert.AdamwAdaBRefIdeal.main_arg1) = m' ((c.tc : Thread Cert.AdamwAdaBRefIdeal.nD Cert.AdamwAdaBRefIdeal.τ).loc Cert.AdamwAdaBRefIdeal.main_arg1)
          ∧ r.2.mem ((c.tc : Thread Cert.AdamwAdaBRefIdeal.nD Cert.AdamwAdaBRefIdeal.τ).loc Cert.AdamwAdaBRefIdeal.main_arg2) = m' ((c.tc : Thread Cert.AdamwAdaBRefIdeal.nD Cert.AdamwAdaBRefIdeal.τ).loc Cert.AdamwAdaBRefIdeal.main_arg2)
          ∧ r.2.mem ((c.tc : Thread Cert.AdamwAdaBRefIdeal.nD Cert.AdamwAdaBRefIdeal.τ).loc Cert.AdamwAdaBRefIdeal.main_arg3) = m' ((c.tc : Thread Cert.AdamwAdaBRefIdeal.nD Cert.AdamwAdaBRefIdeal.τ).loc Cert.AdamwAdaBRefIdeal.main_arg3))

def preserves_AdamwFfnUp_AdamwFfnUpIdeal : Prop :=
  IdealRules.named_const.Statement Cert.AdamwFfnUpIdeal.κ "c1" .f32 0x3FC48605#32 ((10000000000 / 6513215599 : ℝ) : EReal)
  ∧ IdealRules.named_const.Statement Cert.AdamwFfnUpIdeal.κ "c2" .f32 0x42C8E6D3#32 ((1000000000000000000000000000000 / 9955119790251790119955009999 : ℝ) : EReal)

def algebraic_AdamwFfnUpIdeal_AdamwFfnUpRefIdeal [hAdamwFfnUpIdeal : Cert.AdamwFfnUpIdeal.Facts] [hAdamwFfnUpRefIdeal : Cert.AdamwFfnUpRefIdeal.Facts] : Prop :=
  ∀ (m : (ℓ : Loc Cert.AdamwFfnUpIdeal.nD Cert.AdamwFfnUpIdeal.τ Cert.AdamwFfnUpIdeal.sig) → Buf (Elt Ideal) ℓ) (g : Dev Cert.AdamwFfnUpIdeal.nD → PrngReg)
    (m' : (ℓ : Loc Cert.AdamwFfnUpRefIdeal.nD Cert.AdamwFfnUpRefIdeal.τ Cert.AdamwFfnUpRefIdeal.sig) → Buf (Elt Ideal) ℓ) (g' : Dev Cert.AdamwFfnUpRefIdeal.nD → PrngReg), Pre_AdamwFfnUpIdeal m →
    (∀ c : Dev Cert.AdamwFfnUpIdeal.nD,
      m' ((c.tc : Thread Cert.AdamwFfnUpRefIdeal.nD Cert.AdamwFfnUpRefIdeal.τ).loc Cert.AdamwFfnUpRefIdeal.main_arg0) = m ((c.tc : Thread Cert.AdamwFfnUpIdeal.nD Cert.AdamwFfnUpIdeal.τ).loc Cert.AdamwFfnUpIdeal.main_arg0)
      ∧ m' ((c.tc : Thread Cert.AdamwFfnUpRefIdeal.nD Cert.AdamwFfnUpRefIdeal.τ).loc Cert.AdamwFfnUpRefIdeal.main_arg1) = m ((c.tc : Thread Cert.AdamwFfnUpIdeal.nD Cert.AdamwFfnUpIdeal.τ).loc Cert.AdamwFfnUpIdeal.main_arg1)
      ∧ m' ((c.tc : Thread Cert.AdamwFfnUpRefIdeal.nD Cert.AdamwFfnUpRefIdeal.τ).loc Cert.AdamwFfnUpRefIdeal.main_arg2) = m ((c.tc : Thread Cert.AdamwFfnUpIdeal.nD Cert.AdamwFfnUpIdeal.τ).loc Cert.AdamwFfnUpIdeal.main_arg2)
      ∧ m' ((c.tc : Thread Cert.AdamwFfnUpRefIdeal.nD Cert.AdamwFfnUpRefIdeal.τ).loc Cert.AdamwFfnUpRefIdeal.main_arg3) = m ((c.tc : Thread Cert.AdamwFfnUpIdeal.nD Cert.AdamwFfnUpIdeal.τ).loc Cert.AdamwFfnUpIdeal.main_arg3)
      ∧ m' ((c.tc : Thread Cert.AdamwFfnUpRefIdeal.nD Cert.AdamwFfnUpRefIdeal.τ).loc Cert.AdamwFfnUpRefIdeal.main_arg4) = m ((c.tc : Thread Cert.AdamwFfnUpIdeal.nD Cert.AdamwFfnUpIdeal.τ).loc Cert.AdamwFfnUpIdeal.main_arg4)
      ∧ m' ((c.tc : Thread Cert.AdamwFfnUpRefIdeal.nD Cert.AdamwFfnUpRefIdeal.τ).loc Cert.AdamwFfnUpRefIdeal.main_arg5) = m ((c.tc : Thread Cert.AdamwFfnUpIdeal.nD Cert.AdamwFfnUpIdeal.τ).loc Cert.AdamwFfnUpIdeal.main_arg5)
      ∧ m' ((c.tc : Thread Cert.AdamwFfnUpRefIdeal.nD Cert.AdamwFfnUpRefIdeal.τ).loc Cert.AdamwFfnUpRefIdeal.main_arg6) = m ((c.tc : Thread Cert.AdamwFfnUpIdeal.nD Cert.AdamwFfnUpIdeal.τ).loc Cert.AdamwFfnUpIdeal.main_arg6)) →
    ∃ (v0 : (c : Dev Cert.AdamwFfnUpIdeal.nD) → Buf (Elt Ideal) ((c.tc : Thread Cert.AdamwFfnUpIdeal.nD Cert.AdamwFfnUpIdeal.τ).loc Cert.AdamwFfnUpIdeal.main_v0_0)) (v1 : (c : Dev Cert.AdamwFfnUpIdeal.nD) → Buf (Elt Ideal) ((c.tc : Thread Cert.AdamwFfnUpIdeal.nD Cert.AdamwFfnUpIdeal.τ).loc Cert.AdamwFfnUpIdeal.main_v0_1)) (v2 : (c : Dev Cert.AdamwFfnUpIdeal.nD) → Buf (Elt Ideal) ((c.tc : Thread Cert.AdamwFfnUpIdeal.nD Cert.AdamwFfnUpIdeal.τ).loc Cert.AdamwFfnUpIdeal.main_v0_2)) (v3 : (c : Dev Cert.AdamwFfnUpIdeal.nD) → Buf (Elt Ideal) ((c.tc : Thread Cert.AdamwFfnUpIdeal.nD Cert.AdamwFfnUpIdeal.τ).loc Cert.AdamwFfnUpIdeal.main_v0_3)),
      θ_run (Cert.AdamwFfnUpIdeal.defs (F := Ideal)) (onTc (τ := Cert.AdamwFfnUpIdeal.τ) (Cert.AdamwFfnUpIdeal.main (F := Ideal))) ⟨m, fun _ => 0, g⟩ (fun r => ∀ c : Dev Cert.AdamwFfnUpIdeal.nD,
          r.2.mem ((c.tc : Thread Cert.AdamwFfnUpIdeal.nD Cert.AdamwFfnUpIdeal.τ).loc Cert.AdamwFfnUpIdeal.main_v0_0) = v0 c
          ∧ r.2.mem ((c.tc : Thread Cert.AdamwFfnUpIdeal.nD Cert.AdamwFfnUpIdeal.τ).loc Cert.AdamwFfnUpIdeal.main_v0_1) = v1 c
          ∧ r.2.mem ((c.tc : Thread Cert.AdamwFfnUpIdeal.nD Cert.AdamwFfnUpIdeal.τ).loc Cert.AdamwFfnUpIdeal.main_v0_2) = v2 c
          ∧ r.2.mem ((c.tc : Thread Cert.AdamwFfnUpIdeal.nD Cert.AdamwFfnUpIdeal.τ).loc Cert.AdamwFfnUpIdeal.main_v0_3) = v3 c
          ∧ r.2.mem ((c.tc : Thread Cert.AdamwFfnUpIdeal.nD Cert.AdamwFfnUpIdeal.τ).loc Cert.AdamwFfnUpIdeal.main_arg0) = m ((c.tc : Thread Cert.AdamwFfnUpIdeal.nD Cert.AdamwFfnUpIdeal.τ).loc Cert.AdamwFfnUpIdeal.main_arg0)
          ∧ r.2.mem ((c.tc : Thread Cert.AdamwFfnUpIdeal.nD Cert.AdamwFfnUpIdeal.τ).loc Cert.AdamwFfnUpIdeal.main_arg1) = m ((c.tc : Thread Cert.AdamwFfnUpIdeal.nD Cert.AdamwFfnUpIdeal.τ).loc Cert.AdamwFfnUpIdeal.main_arg1)
          ∧ r.2.mem ((c.tc : Thread Cert.AdamwFfnUpIdeal.nD Cert.AdamwFfnUpIdeal.τ).loc Cert.AdamwFfnUpIdeal.main_arg2) = m ((c.tc : Thread Cert.AdamwFfnUpIdeal.nD Cert.AdamwFfnUpIdeal.τ).loc Cert.AdamwFfnUpIdeal.main_arg2)
          ∧ r.2.mem ((c.tc : Thread Cert.AdamwFfnUpIdeal.nD Cert.AdamwFfnUpIdeal.τ).loc Cert.AdamwFfnUpIdeal.main_arg3) = m ((c.tc : Thread Cert.AdamwFfnUpIdeal.nD Cert.AdamwFfnUpIdeal.τ).loc Cert.AdamwFfnUpIdeal.main_arg3)
          ∧ r.2.mem ((c.tc : Thread Cert.AdamwFfnUpIdeal.nD Cert.AdamwFfnUpIdeal.τ).loc Cert.AdamwFfnUpIdeal.main_arg4) = m ((c.tc : Thread Cert.AdamwFfnUpIdeal.nD Cert.AdamwFfnUpIdeal.τ).loc Cert.AdamwFfnUpIdeal.main_arg4)
          ∧ r.2.mem ((c.tc : Thread Cert.AdamwFfnUpIdeal.nD Cert.AdamwFfnUpIdeal.τ).loc Cert.AdamwFfnUpIdeal.main_arg5) = m ((c.tc : Thread Cert.AdamwFfnUpIdeal.nD Cert.AdamwFfnUpIdeal.τ).loc Cert.AdamwFfnUpIdeal.main_arg5)
          ∧ r.2.mem ((c.tc : Thread Cert.AdamwFfnUpIdeal.nD Cert.AdamwFfnUpIdeal.τ).loc Cert.AdamwFfnUpIdeal.main_arg6) = m ((c.tc : Thread Cert.AdamwFfnUpIdeal.nD Cert.AdamwFfnUpIdeal.τ).loc Cert.AdamwFfnUpIdeal.main_arg6))
      ∧ θ_run (Cert.AdamwFfnUpRefIdeal.defs (F := Ideal)) (onTc (τ := Cert.AdamwFfnUpRefIdeal.τ) (Cert.AdamwFfnUpRefIdeal.main (F := Ideal))) ⟨m', fun _ => 0, g'⟩ (fun r => ∀ c : Dev Cert.AdamwFfnUpRefIdeal.nD,
          r.2.mem ((c.tc : Thread Cert.AdamwFfnUpRefIdeal.nD Cert.AdamwFfnUpRefIdeal.τ).loc Cert.AdamwFfnUpRefIdeal.main_v12) = v0 c
          ∧ r.2.mem ((c.tc : Thread Cert.AdamwFfnUpRefIdeal.nD Cert.AdamwFfnUpRefIdeal.τ).loc Cert.AdamwFfnUpRefIdeal.main_v48) = v1 c
          ∧ r.2.mem ((c.tc : Thread Cert.AdamwFfnUpRefIdeal.nD Cert.AdamwFfnUpRefIdeal.τ).loc Cert.AdamwFfnUpRefIdeal.main_v17) = v2 c
          ∧ r.2.mem ((c.tc : Thread Cert.AdamwFfnUpRefIdeal.nD Cert.AdamwFfnUpRefIdeal.τ).loc Cert.AdamwFfnUpRefIdeal.main_v23) = v3 c
          ∧ r.2.mem ((c.tc : Thread Cert.AdamwFfnUpRefIdeal.nD Cert.AdamwFfnUpRefIdeal.τ).loc Cert.AdamwFfnUpRefIdeal.main_arg0) = m' ((c.tc : Thread Cert.AdamwFfnUpRefIdeal.nD Cert.AdamwFfnUpRefIdeal.τ).loc Cert.AdamwFfnUpRefIdeal.main_arg0)
          ∧ r.2.mem ((c.tc : Thread Cert.AdamwFfnUpRefIdeal.nD Cert.AdamwFfnUpRefIdeal.τ).loc Cert.AdamwFfnUpRefIdeal.main_arg1) = m' ((c.tc : Thread Cert.AdamwFfnUpRefIdeal.nD Cert.AdamwFfnUpRefIdeal.τ).loc Cert.AdamwFfnUpRefIdeal.main_arg1)
          ∧ r.2.mem ((c.tc : Thread Cert.AdamwFfnUpRefIdeal.nD Cert.AdamwFfnUpRefIdeal.τ).loc Cert.AdamwFfnUpRefIdeal.main_arg2) = m' ((c.tc : Thread Cert.AdamwFfnUpRefIdeal.nD Cert.AdamwFfnUpRefIdeal.τ).loc Cert.AdamwFfnUpRefIdeal.main_arg2)
          ∧ r.2.mem ((c.tc : Thread Cert.AdamwFfnUpRefIdeal.nD Cert.AdamwFfnUpRefIdeal.τ).loc Cert.AdamwFfnUpRefIdeal.main_arg3) = m' ((c.tc : Thread Cert.AdamwFfnUpRefIdeal.nD Cert.AdamwFfnUpRefIdeal.τ).loc Cert.AdamwFfnUpRefIdeal.main_arg3)
          ∧ r.2.mem ((c.tc : Thread Cert.AdamwFfnUpRefIdeal.nD Cert.AdamwFfnUpRefIdeal.τ).loc Cert.AdamwFfnUpRefIdeal.main_arg4) = m' ((c.tc : Thread Cert.AdamwFfnUpRefIdeal.nD Cert.AdamwFfnUpRefIdeal.τ).loc Cert.AdamwFfnUpRefIdeal.main_arg4)
          ∧ r.2.mem ((c.tc : Thread Cert.AdamwFfnUpRefIdeal.nD Cert.AdamwFfnUpRefIdeal.τ).loc Cert.AdamwFfnUpRefIdeal.main_arg5) = m' ((c.tc : Thread Cert.AdamwFfnUpRefIdeal.nD Cert.AdamwFfnUpRefIdeal.τ).loc Cert.AdamwFfnUpRefIdeal.main_arg5)
          ∧ r.2.mem ((c.tc : Thread Cert.AdamwFfnUpRefIdeal.nD Cert.AdamwFfnUpRefIdeal.τ).loc Cert.AdamwFfnUpRefIdeal.main_arg6) = m' ((c.tc : Thread Cert.AdamwFfnUpRefIdeal.nD Cert.AdamwFfnUpRefIdeal.τ).loc Cert.AdamwFfnUpRefIdeal.main_arg6))

def preserves_AdamwFfnDown_AdamwFfnDownIdeal : Prop :=
  IdealRules.named_const.Statement Cert.AdamwFfnDownIdeal.κ "c1" .f32 0x3FC48605#32 ((10000000000 / 6513215599 : ℝ) : EReal)
  ∧ IdealRules.named_const.Statement Cert.AdamwFfnDownIdeal.κ "c2" .f32 0x42C8E6D3#32 ((1000000000000000000000000000000 / 9955119790251790119955009999 : ℝ) : EReal)

def algebraic_AdamwFfnDownIdeal_AdamwFfnDownRefIdeal [hAdamwFfnDownIdeal : Cert.AdamwFfnDownIdeal.Facts] [hAdamwFfnDownRefIdeal : Cert.AdamwFfnDownRefIdeal.Facts] : Prop :=
  ∀ (m : (ℓ : Loc Cert.AdamwFfnDownIdeal.nD Cert.AdamwFfnDownIdeal.τ Cert.AdamwFfnDownIdeal.sig) → Buf (Elt Ideal) ℓ) (g : Dev Cert.AdamwFfnDownIdeal.nD → PrngReg)
    (m' : (ℓ : Loc Cert.AdamwFfnDownRefIdeal.nD Cert.AdamwFfnDownRefIdeal.τ Cert.AdamwFfnDownRefIdeal.sig) → Buf (Elt Ideal) ℓ) (g' : Dev Cert.AdamwFfnDownRefIdeal.nD → PrngReg), Pre_AdamwFfnDownIdeal m →
    (∀ c : Dev Cert.AdamwFfnDownIdeal.nD,
      m' ((c.tc : Thread Cert.AdamwFfnDownRefIdeal.nD Cert.AdamwFfnDownRefIdeal.τ).loc Cert.AdamwFfnDownRefIdeal.main_arg0) = m ((c.tc : Thread Cert.AdamwFfnDownIdeal.nD Cert.AdamwFfnDownIdeal.τ).loc Cert.AdamwFfnDownIdeal.main_arg0)
      ∧ m' ((c.tc : Thread Cert.AdamwFfnDownRefIdeal.nD Cert.AdamwFfnDownRefIdeal.τ).loc Cert.AdamwFfnDownRefIdeal.main_arg1) = m ((c.tc : Thread Cert.AdamwFfnDownIdeal.nD Cert.AdamwFfnDownIdeal.τ).loc Cert.AdamwFfnDownIdeal.main_arg1)
      ∧ m' ((c.tc : Thread Cert.AdamwFfnDownRefIdeal.nD Cert.AdamwFfnDownRefIdeal.τ).loc Cert.AdamwFfnDownRefIdeal.main_arg2) = m ((c.tc : Thread Cert.AdamwFfnDownIdeal.nD Cert.AdamwFfnDownIdeal.τ).loc Cert.AdamwFfnDownIdeal.main_arg2)
      ∧ m' ((c.tc : Thread Cert.AdamwFfnDownRefIdeal.nD Cert.AdamwFfnDownRefIdeal.τ).loc Cert.AdamwFfnDownRefIdeal.main_arg3) = m ((c.tc : Thread Cert.AdamwFfnDownIdeal.nD Cert.AdamwFfnDownIdeal.τ).loc Cert.AdamwFfnDownIdeal.main_arg3)
      ∧ m' ((c.tc : Thread Cert.AdamwFfnDownRefIdeal.nD Cert.AdamwFfnDownRefIdeal.τ).loc Cert.AdamwFfnDownRefIdeal.main_arg4) = m ((c.tc : Thread Cert.AdamwFfnDownIdeal.nD Cert.AdamwFfnDownIdeal.τ).loc Cert.AdamwFfnDownIdeal.main_arg4)
      ∧ m' ((c.tc : Thread Cert.AdamwFfnDownRefIdeal.nD Cert.AdamwFfnDownRefIdeal.τ).loc Cert.AdamwFfnDownRefIdeal.main_arg5) = m ((c.tc : Thread Cert.AdamwFfnDownIdeal.nD Cert.AdamwFfnDownIdeal.τ).loc Cert.AdamwFfnDownIdeal.main_arg5)
      ∧ m' ((c.tc : Thread Cert.AdamwFfnDownRefIdeal.nD Cert.AdamwFfnDownRefIdeal.τ).loc Cert.AdamwFfnDownRefIdeal.main_arg6) = m ((c.tc : Thread Cert.AdamwFfnDownIdeal.nD Cert.AdamwFfnDownIdeal.τ).loc Cert.AdamwFfnDownIdeal.main_arg6)) →
    ∃ (v0 : (c : Dev Cert.AdamwFfnDownIdeal.nD) → Buf (Elt Ideal) ((c.tc : Thread Cert.AdamwFfnDownIdeal.nD Cert.AdamwFfnDownIdeal.τ).loc Cert.AdamwFfnDownIdeal.main_v0_0)) (v1 : (c : Dev Cert.AdamwFfnDownIdeal.nD) → Buf (Elt Ideal) ((c.tc : Thread Cert.AdamwFfnDownIdeal.nD Cert.AdamwFfnDownIdeal.τ).loc Cert.AdamwFfnDownIdeal.main_v0_1)) (v2 : (c : Dev Cert.AdamwFfnDownIdeal.nD) → Buf (Elt Ideal) ((c.tc : Thread Cert.AdamwFfnDownIdeal.nD Cert.AdamwFfnDownIdeal.τ).loc Cert.AdamwFfnDownIdeal.main_v0_2)) (v3 : (c : Dev Cert.AdamwFfnDownIdeal.nD) → Buf (Elt Ideal) ((c.tc : Thread Cert.AdamwFfnDownIdeal.nD Cert.AdamwFfnDownIdeal.τ).loc Cert.AdamwFfnDownIdeal.main_v0_3)),
      θ_run (Cert.AdamwFfnDownIdeal.defs (F := Ideal)) (onTc (τ := Cert.AdamwFfnDownIdeal.τ) (Cert.AdamwFfnDownIdeal.main (F := Ideal))) ⟨m, fun _ => 0, g⟩ (fun r => ∀ c : Dev Cert.AdamwFfnDownIdeal.nD,
          r.2.mem ((c.tc : Thread Cert.AdamwFfnDownIdeal.nD Cert.AdamwFfnDownIdeal.τ).loc Cert.AdamwFfnDownIdeal.main_v0_0) = v0 c
          ∧ r.2.mem ((c.tc : Thread Cert.AdamwFfnDownIdeal.nD Cert.AdamwFfnDownIdeal.τ).loc Cert.AdamwFfnDownIdeal.main_v0_1) = v1 c
          ∧ r.2.mem ((c.tc : Thread Cert.AdamwFfnDownIdeal.nD Cert.AdamwFfnDownIdeal.τ).loc Cert.AdamwFfnDownIdeal.main_v0_2) = v2 c
          ∧ r.2.mem ((c.tc : Thread Cert.AdamwFfnDownIdeal.nD Cert.AdamwFfnDownIdeal.τ).loc Cert.AdamwFfnDownIdeal.main_v0_3) = v3 c
          ∧ r.2.mem ((c.tc : Thread Cert.AdamwFfnDownIdeal.nD Cert.AdamwFfnDownIdeal.τ).loc Cert.AdamwFfnDownIdeal.main_arg0) = m ((c.tc : Thread Cert.AdamwFfnDownIdeal.nD Cert.AdamwFfnDownIdeal.τ).loc Cert.AdamwFfnDownIdeal.main_arg0)
          ∧ r.2.mem ((c.tc : Thread Cert.AdamwFfnDownIdeal.nD Cert.AdamwFfnDownIdeal.τ).loc Cert.AdamwFfnDownIdeal.main_arg1) = m ((c.tc : Thread Cert.AdamwFfnDownIdeal.nD Cert.AdamwFfnDownIdeal.τ).loc Cert.AdamwFfnDownIdeal.main_arg1)
          ∧ r.2.mem ((c.tc : Thread Cert.AdamwFfnDownIdeal.nD Cert.AdamwFfnDownIdeal.τ).loc Cert.AdamwFfnDownIdeal.main_arg2) = m ((c.tc : Thread Cert.AdamwFfnDownIdeal.nD Cert.AdamwFfnDownIdeal.τ).loc Cert.AdamwFfnDownIdeal.main_arg2)
          ∧ r.2.mem ((c.tc : Thread Cert.AdamwFfnDownIdeal.nD Cert.AdamwFfnDownIdeal.τ).loc Cert.AdamwFfnDownIdeal.main_arg3) = m ((c.tc : Thread Cert.AdamwFfnDownIdeal.nD Cert.AdamwFfnDownIdeal.τ).loc Cert.AdamwFfnDownIdeal.main_arg3)
          ∧ r.2.mem ((c.tc : Thread Cert.AdamwFfnDownIdeal.nD Cert.AdamwFfnDownIdeal.τ).loc Cert.AdamwFfnDownIdeal.main_arg4) = m ((c.tc : Thread Cert.AdamwFfnDownIdeal.nD Cert.AdamwFfnDownIdeal.τ).loc Cert.AdamwFfnDownIdeal.main_arg4)
          ∧ r.2.mem ((c.tc : Thread Cert.AdamwFfnDownIdeal.nD Cert.AdamwFfnDownIdeal.τ).loc Cert.AdamwFfnDownIdeal.main_arg5) = m ((c.tc : Thread Cert.AdamwFfnDownIdeal.nD Cert.AdamwFfnDownIdeal.τ).loc Cert.AdamwFfnDownIdeal.main_arg5)
          ∧ r.2.mem ((c.tc : Thread Cert.AdamwFfnDownIdeal.nD Cert.AdamwFfnDownIdeal.τ).loc Cert.AdamwFfnDownIdeal.main_arg6) = m ((c.tc : Thread Cert.AdamwFfnDownIdeal.nD Cert.AdamwFfnDownIdeal.τ).loc Cert.AdamwFfnDownIdeal.main_arg6))
      ∧ θ_run (Cert.AdamwFfnDownRefIdeal.defs (F := Ideal)) (onTc (τ := Cert.AdamwFfnDownRefIdeal.τ) (Cert.AdamwFfnDownRefIdeal.main (F := Ideal))) ⟨m', fun _ => 0, g'⟩ (fun r => ∀ c : Dev Cert.AdamwFfnDownRefIdeal.nD,
          r.2.mem ((c.tc : Thread Cert.AdamwFfnDownRefIdeal.nD Cert.AdamwFfnDownRefIdeal.τ).loc Cert.AdamwFfnDownRefIdeal.main_v12) = v0 c
          ∧ r.2.mem ((c.tc : Thread Cert.AdamwFfnDownRefIdeal.nD Cert.AdamwFfnDownRefIdeal.τ).loc Cert.AdamwFfnDownRefIdeal.main_v48) = v1 c
          ∧ r.2.mem ((c.tc : Thread Cert.AdamwFfnDownRefIdeal.nD Cert.AdamwFfnDownRefIdeal.τ).loc Cert.AdamwFfnDownRefIdeal.main_v17) = v2 c
          ∧ r.2.mem ((c.tc : Thread Cert.AdamwFfnDownRefIdeal.nD Cert.AdamwFfnDownRefIdeal.τ).loc Cert.AdamwFfnDownRefIdeal.main_v23) = v3 c
          ∧ r.2.mem ((c.tc : Thread Cert.AdamwFfnDownRefIdeal.nD Cert.AdamwFfnDownRefIdeal.τ).loc Cert.AdamwFfnDownRefIdeal.main_arg0) = m' ((c.tc : Thread Cert.AdamwFfnDownRefIdeal.nD Cert.AdamwFfnDownRefIdeal.τ).loc Cert.AdamwFfnDownRefIdeal.main_arg0)
          ∧ r.2.mem ((c.tc : Thread Cert.AdamwFfnDownRefIdeal.nD Cert.AdamwFfnDownRefIdeal.τ).loc Cert.AdamwFfnDownRefIdeal.main_arg1) = m' ((c.tc : Thread Cert.AdamwFfnDownRefIdeal.nD Cert.AdamwFfnDownRefIdeal.τ).loc Cert.AdamwFfnDownRefIdeal.main_arg1)
          ∧ r.2.mem ((c.tc : Thread Cert.AdamwFfnDownRefIdeal.nD Cert.AdamwFfnDownRefIdeal.τ).loc Cert.AdamwFfnDownRefIdeal.main_arg2) = m' ((c.tc : Thread Cert.AdamwFfnDownRefIdeal.nD Cert.AdamwFfnDownRefIdeal.τ).loc Cert.AdamwFfnDownRefIdeal.main_arg2)
          ∧ r.2.mem ((c.tc : Thread Cert.AdamwFfnDownRefIdeal.nD Cert.AdamwFfnDownRefIdeal.τ).loc Cert.AdamwFfnDownRefIdeal.main_arg3) = m' ((c.tc : Thread Cert.AdamwFfnDownRefIdeal.nD Cert.AdamwFfnDownRefIdeal.τ).loc Cert.AdamwFfnDownRefIdeal.main_arg3)
          ∧ r.2.mem ((c.tc : Thread Cert.AdamwFfnDownRefIdeal.nD Cert.AdamwFfnDownRefIdeal.τ).loc Cert.AdamwFfnDownRefIdeal.main_arg4) = m' ((c.tc : Thread Cert.AdamwFfnDownRefIdeal.nD Cert.AdamwFfnDownRefIdeal.τ).loc Cert.AdamwFfnDownRefIdeal.main_arg4)
          ∧ r.2.mem ((c.tc : Thread Cert.AdamwFfnDownRefIdeal.nD Cert.AdamwFfnDownRefIdeal.τ).loc Cert.AdamwFfnDownRefIdeal.main_arg5) = m' ((c.tc : Thread Cert.AdamwFfnDownRefIdeal.nD Cert.AdamwFfnDownRefIdeal.τ).loc Cert.AdamwFfnDownRefIdeal.main_arg5)
          ∧ r.2.mem ((c.tc : Thread Cert.AdamwFfnDownRefIdeal.nD Cert.AdamwFfnDownRefIdeal.τ).loc Cert.AdamwFfnDownRefIdeal.main_arg6) = m' ((c.tc : Thread Cert.AdamwFfnDownRefIdeal.nD Cert.AdamwFfnDownRefIdeal.τ).loc Cert.AdamwFfnDownRefIdeal.main_arg6))

def preserves_AdamwConvIn_AdamwConvInIdeal : Prop :=
  IdealRules.named_const.Statement Cert.AdamwConvInIdeal.κ "c1" .f32 0x3FC48605#32 ((10000000000 / 6513215599 : ℝ) : EReal)
  ∧ IdealRules.named_const.Statement Cert.AdamwConvInIdeal.κ "c2" .f32 0x42C8E6D3#32 ((1000000000000000000000000000000 / 9955119790251790119955009999 : ℝ) : EReal)

def algebraic_AdamwConvInIdeal_AdamwConvInRefIdeal [hAdamwConvInIdeal : Cert.AdamwConvInIdeal.Facts] [hAdamwConvInRefIdeal : Cert.AdamwConvInRefIdeal.Facts] : Prop :=
  ∀ (m : (ℓ : Loc Cert.AdamwConvInIdeal.nD Cert.AdamwConvInIdeal.τ Cert.AdamwConvInIdeal.sig) → Buf (Elt Ideal) ℓ) (g : Dev Cert.AdamwConvInIdeal.nD → PrngReg)
    (m' : (ℓ : Loc Cert.AdamwConvInRefIdeal.nD Cert.AdamwConvInRefIdeal.τ Cert.AdamwConvInRefIdeal.sig) → Buf (Elt Ideal) ℓ) (g' : Dev Cert.AdamwConvInRefIdeal.nD → PrngReg), Pre_AdamwConvInIdeal m →
    (∀ c : Dev Cert.AdamwConvInIdeal.nD,
      m' ((c.tc : Thread Cert.AdamwConvInRefIdeal.nD Cert.AdamwConvInRefIdeal.τ).loc Cert.AdamwConvInRefIdeal.main_arg0) = m ((c.tc : Thread Cert.AdamwConvInIdeal.nD Cert.AdamwConvInIdeal.τ).loc Cert.AdamwConvInIdeal.main_arg0)
      ∧ m' ((c.tc : Thread Cert.AdamwConvInRefIdeal.nD Cert.AdamwConvInRefIdeal.τ).loc Cert.AdamwConvInRefIdeal.main_arg1) = m ((c.tc : Thread Cert.AdamwConvInIdeal.nD Cert.AdamwConvInIdeal.τ).loc Cert.AdamwConvInIdeal.main_arg1)
      ∧ m' ((c.tc : Thread Cert.AdamwConvInRefIdeal.nD Cert.AdamwConvInRefIdeal.τ).loc Cert.AdamwConvInRefIdeal.main_arg2) = m ((c.tc : Thread Cert.AdamwConvInIdeal.nD Cert.AdamwConvInIdeal.τ).loc Cert.AdamwConvInIdeal.main_arg2)
      ∧ m' ((c.tc : Thread Cert.AdamwConvInRefIdeal.nD Cert.AdamwConvInRefIdeal.τ).loc Cert.AdamwConvInRefIdeal.main_arg3) = m ((c.tc : Thread Cert.AdamwConvInIdeal.nD Cert.AdamwConvInIdeal.τ).loc Cert.AdamwConvInIdeal.main_arg3)
      ∧ m' ((c.tc : Thread Cert.AdamwConvInRefIdeal.nD Cert.AdamwConvInRefIdeal.τ).loc Cert.AdamwConvInRefIdeal.main_arg4) = m ((c.tc : Thread Cert.AdamwConvInIdeal.nD Cert.AdamwConvInIdeal.τ).loc Cert.AdamwConvInIdeal.main_arg4)) →
    ∃ (v0 : (c : Dev Cert.AdamwConvInIdeal.nD) → Buf (Elt Ideal) ((c.tc : Thread Cert.AdamwConvInIdeal.nD Cert.AdamwConvInIdeal.τ).loc Cert.AdamwConvInIdeal.main_v0_0)) (v1 : (c : Dev Cert.AdamwConvInIdeal.nD) → Buf (Elt Ideal) ((c.tc : Thread Cert.AdamwConvInIdeal.nD Cert.AdamwConvInIdeal.τ).loc Cert.AdamwConvInIdeal.main_v0_1)) (v2 : (c : Dev Cert.AdamwConvInIdeal.nD) → Buf (Elt Ideal) ((c.tc : Thread Cert.AdamwConvInIdeal.nD Cert.AdamwConvInIdeal.τ).loc Cert.AdamwConvInIdeal.main_v0_2)) (v3 : (c : Dev Cert.AdamwConvInIdeal.nD) → Buf (Elt Ideal) ((c.tc : Thread Cert.AdamwConvInIdeal.nD Cert.AdamwConvInIdeal.τ).loc Cert.AdamwConvInIdeal.main_v0_3)),
      θ_run (Cert.AdamwConvInIdeal.defs (F := Ideal)) (onTc (τ := Cert.AdamwConvInIdeal.τ) (Cert.AdamwConvInIdeal.main (F := Ideal))) ⟨m, fun _ => 0, g⟩ (fun r => ∀ c : Dev Cert.AdamwConvInIdeal.nD,
          r.2.mem ((c.tc : Thread Cert.AdamwConvInIdeal.nD Cert.AdamwConvInIdeal.τ).loc Cert.AdamwConvInIdeal.main_v0_0) = v0 c
          ∧ r.2.mem ((c.tc : Thread Cert.AdamwConvInIdeal.nD Cert.AdamwConvInIdeal.τ).loc Cert.AdamwConvInIdeal.main_v0_1) = v1 c
          ∧ r.2.mem ((c.tc : Thread Cert.AdamwConvInIdeal.nD Cert.AdamwConvInIdeal.τ).loc Cert.AdamwConvInIdeal.main_v0_2) = v2 c
          ∧ r.2.mem ((c.tc : Thread Cert.AdamwConvInIdeal.nD Cert.AdamwConvInIdeal.τ).loc Cert.AdamwConvInIdeal.main_v0_3) = v3 c
          ∧ r.2.mem ((c.tc : Thread Cert.AdamwConvInIdeal.nD Cert.AdamwConvInIdeal.τ).loc Cert.AdamwConvInIdeal.main_arg0) = m ((c.tc : Thread Cert.AdamwConvInIdeal.nD Cert.AdamwConvInIdeal.τ).loc Cert.AdamwConvInIdeal.main_arg0)
          ∧ r.2.mem ((c.tc : Thread Cert.AdamwConvInIdeal.nD Cert.AdamwConvInIdeal.τ).loc Cert.AdamwConvInIdeal.main_arg1) = m ((c.tc : Thread Cert.AdamwConvInIdeal.nD Cert.AdamwConvInIdeal.τ).loc Cert.AdamwConvInIdeal.main_arg1)
          ∧ r.2.mem ((c.tc : Thread Cert.AdamwConvInIdeal.nD Cert.AdamwConvInIdeal.τ).loc Cert.AdamwConvInIdeal.main_arg2) = m ((c.tc : Thread Cert.AdamwConvInIdeal.nD Cert.AdamwConvInIdeal.τ).loc Cert.AdamwConvInIdeal.main_arg2)
          ∧ r.2.mem ((c.tc : Thread Cert.AdamwConvInIdeal.nD Cert.AdamwConvInIdeal.τ).loc Cert.AdamwConvInIdeal.main_arg3) = m ((c.tc : Thread Cert.AdamwConvInIdeal.nD Cert.AdamwConvInIdeal.τ).loc Cert.AdamwConvInIdeal.main_arg3)
          ∧ r.2.mem ((c.tc : Thread Cert.AdamwConvInIdeal.nD Cert.AdamwConvInIdeal.τ).loc Cert.AdamwConvInIdeal.main_arg4) = m ((c.tc : Thread Cert.AdamwConvInIdeal.nD Cert.AdamwConvInIdeal.τ).loc Cert.AdamwConvInIdeal.main_arg4))
      ∧ θ_run (Cert.AdamwConvInRefIdeal.defs (F := Ideal)) (onTc (τ := Cert.AdamwConvInRefIdeal.τ) (Cert.AdamwConvInRefIdeal.main (F := Ideal))) ⟨m', fun _ => 0, g'⟩ (fun r => ∀ c : Dev Cert.AdamwConvInRefIdeal.nD,
          r.2.mem ((c.tc : Thread Cert.AdamwConvInRefIdeal.nD Cert.AdamwConvInRefIdeal.τ).loc Cert.AdamwConvInRefIdeal.main_v6) = v0 c
          ∧ r.2.mem ((c.tc : Thread Cert.AdamwConvInRefIdeal.nD Cert.AdamwConvInRefIdeal.τ).loc Cert.AdamwConvInRefIdeal.main_v42) = v1 c
          ∧ r.2.mem ((c.tc : Thread Cert.AdamwConvInRefIdeal.nD Cert.AdamwConvInRefIdeal.τ).loc Cert.AdamwConvInRefIdeal.main_v11) = v2 c
          ∧ r.2.mem ((c.tc : Thread Cert.AdamwConvInRefIdeal.nD Cert.AdamwConvInRefIdeal.τ).loc Cert.AdamwConvInRefIdeal.main_v17) = v3 c
          ∧ r.2.mem ((c.tc : Thread Cert.AdamwConvInRefIdeal.nD Cert.AdamwConvInRefIdeal.τ).loc Cert.AdamwConvInRefIdeal.main_arg0) = m' ((c.tc : Thread Cert.AdamwConvInRefIdeal.nD Cert.AdamwConvInRefIdeal.τ).loc Cert.AdamwConvInRefIdeal.main_arg0)
          ∧ r.2.mem ((c.tc : Thread Cert.AdamwConvInRefIdeal.nD Cert.AdamwConvInRefIdeal.τ).loc Cert.AdamwConvInRefIdeal.main_arg1) = m' ((c.tc : Thread Cert.AdamwConvInRefIdeal.nD Cert.AdamwConvInRefIdeal.τ).loc Cert.AdamwConvInRefIdeal.main_arg1)
          ∧ r.2.mem ((c.tc : Thread Cert.AdamwConvInRefIdeal.nD Cert.AdamwConvInRefIdeal.τ).loc Cert.AdamwConvInRefIdeal.main_arg2) = m' ((c.tc : Thread Cert.AdamwConvInRefIdeal.nD Cert.AdamwConvInRefIdeal.τ).loc Cert.AdamwConvInRefIdeal.main_arg2)
          ∧ r.2.mem ((c.tc : Thread Cert.AdamwConvInRefIdeal.nD Cert.AdamwConvInRefIdeal.τ).loc Cert.AdamwConvInRefIdeal.main_arg3) = m' ((c.tc : Thread Cert.AdamwConvInRefIdeal.nD Cert.AdamwConvInRefIdeal.τ).loc Cert.AdamwConvInRefIdeal.main_arg3)
          ∧ r.2.mem ((c.tc : Thread Cert.AdamwConvInRefIdeal.nD Cert.AdamwConvInRefIdeal.τ).loc Cert.AdamwConvInRefIdeal.main_arg4) = m' ((c.tc : Thread Cert.AdamwConvInRefIdeal.nD Cert.AdamwConvInRefIdeal.τ).loc Cert.AdamwConvInRefIdeal.main_arg4))

def preserves_AdamwConvOut_AdamwConvOutIdeal : Prop :=
  IdealRules.named_const.Statement Cert.AdamwConvOutIdeal.κ "c1" .f32 0x3FC48605#32 ((10000000000 / 6513215599 : ℝ) : EReal)
  ∧ IdealRules.named_const.Statement Cert.AdamwConvOutIdeal.κ "c2" .f32 0x42C8E6D3#32 ((1000000000000000000000000000000 / 9955119790251790119955009999 : ℝ) : EReal)

def algebraic_AdamwConvOutIdeal_AdamwConvOutRefIdeal [hAdamwConvOutIdeal : Cert.AdamwConvOutIdeal.Facts] [hAdamwConvOutRefIdeal : Cert.AdamwConvOutRefIdeal.Facts] : Prop :=
  ∀ (m : (ℓ : Loc Cert.AdamwConvOutIdeal.nD Cert.AdamwConvOutIdeal.τ Cert.AdamwConvOutIdeal.sig) → Buf (Elt Ideal) ℓ) (g : Dev Cert.AdamwConvOutIdeal.nD → PrngReg)
    (m' : (ℓ : Loc Cert.AdamwConvOutRefIdeal.nD Cert.AdamwConvOutRefIdeal.τ Cert.AdamwConvOutRefIdeal.sig) → Buf (Elt Ideal) ℓ) (g' : Dev Cert.AdamwConvOutRefIdeal.nD → PrngReg), Pre_AdamwConvOutIdeal m →
    (∀ c : Dev Cert.AdamwConvOutIdeal.nD,
      m' ((c.tc : Thread Cert.AdamwConvOutRefIdeal.nD Cert.AdamwConvOutRefIdeal.τ).loc Cert.AdamwConvOutRefIdeal.main_arg0) = m ((c.tc : Thread Cert.AdamwConvOutIdeal.nD Cert.AdamwConvOutIdeal.τ).loc Cert.AdamwConvOutIdeal.main_arg0)
      ∧ m' ((c.tc : Thread Cert.AdamwConvOutRefIdeal.nD Cert.AdamwConvOutRefIdeal.τ).loc Cert.AdamwConvOutRefIdeal.main_arg1) = m ((c.tc : Thread Cert.AdamwConvOutIdeal.nD Cert.AdamwConvOutIdeal.τ).loc Cert.AdamwConvOutIdeal.main_arg1)
      ∧ m' ((c.tc : Thread Cert.AdamwConvOutRefIdeal.nD Cert.AdamwConvOutRefIdeal.τ).loc Cert.AdamwConvOutRefIdeal.main_arg2) = m ((c.tc : Thread Cert.AdamwConvOutIdeal.nD Cert.AdamwConvOutIdeal.τ).loc Cert.AdamwConvOutIdeal.main_arg2)
      ∧ m' ((c.tc : Thread Cert.AdamwConvOutRefIdeal.nD Cert.AdamwConvOutRefIdeal.τ).loc Cert.AdamwConvOutRefIdeal.main_arg3) = m ((c.tc : Thread Cert.AdamwConvOutIdeal.nD Cert.AdamwConvOutIdeal.τ).loc Cert.AdamwConvOutIdeal.main_arg3)
      ∧ m' ((c.tc : Thread Cert.AdamwConvOutRefIdeal.nD Cert.AdamwConvOutRefIdeal.τ).loc Cert.AdamwConvOutRefIdeal.main_arg4) = m ((c.tc : Thread Cert.AdamwConvOutIdeal.nD Cert.AdamwConvOutIdeal.τ).loc Cert.AdamwConvOutIdeal.main_arg4)) →
    ∃ (v0 : (c : Dev Cert.AdamwConvOutIdeal.nD) → Buf (Elt Ideal) ((c.tc : Thread Cert.AdamwConvOutIdeal.nD Cert.AdamwConvOutIdeal.τ).loc Cert.AdamwConvOutIdeal.main_v0_0)) (v1 : (c : Dev Cert.AdamwConvOutIdeal.nD) → Buf (Elt Ideal) ((c.tc : Thread Cert.AdamwConvOutIdeal.nD Cert.AdamwConvOutIdeal.τ).loc Cert.AdamwConvOutIdeal.main_v0_1)) (v2 : (c : Dev Cert.AdamwConvOutIdeal.nD) → Buf (Elt Ideal) ((c.tc : Thread Cert.AdamwConvOutIdeal.nD Cert.AdamwConvOutIdeal.τ).loc Cert.AdamwConvOutIdeal.main_v0_2)) (v3 : (c : Dev Cert.AdamwConvOutIdeal.nD) → Buf (Elt Ideal) ((c.tc : Thread Cert.AdamwConvOutIdeal.nD Cert.AdamwConvOutIdeal.τ).loc Cert.AdamwConvOutIdeal.main_v0_3)),
      θ_run (Cert.AdamwConvOutIdeal.defs (F := Ideal)) (onTc (τ := Cert.AdamwConvOutIdeal.τ) (Cert.AdamwConvOutIdeal.main (F := Ideal))) ⟨m, fun _ => 0, g⟩ (fun r => ∀ c : Dev Cert.AdamwConvOutIdeal.nD,
          r.2.mem ((c.tc : Thread Cert.AdamwConvOutIdeal.nD Cert.AdamwConvOutIdeal.τ).loc Cert.AdamwConvOutIdeal.main_v0_0) = v0 c
          ∧ r.2.mem ((c.tc : Thread Cert.AdamwConvOutIdeal.nD Cert.AdamwConvOutIdeal.τ).loc Cert.AdamwConvOutIdeal.main_v0_1) = v1 c
          ∧ r.2.mem ((c.tc : Thread Cert.AdamwConvOutIdeal.nD Cert.AdamwConvOutIdeal.τ).loc Cert.AdamwConvOutIdeal.main_v0_2) = v2 c
          ∧ r.2.mem ((c.tc : Thread Cert.AdamwConvOutIdeal.nD Cert.AdamwConvOutIdeal.τ).loc Cert.AdamwConvOutIdeal.main_v0_3) = v3 c
          ∧ r.2.mem ((c.tc : Thread Cert.AdamwConvOutIdeal.nD Cert.AdamwConvOutIdeal.τ).loc Cert.AdamwConvOutIdeal.main_arg0) = m ((c.tc : Thread Cert.AdamwConvOutIdeal.nD Cert.AdamwConvOutIdeal.τ).loc Cert.AdamwConvOutIdeal.main_arg0)
          ∧ r.2.mem ((c.tc : Thread Cert.AdamwConvOutIdeal.nD Cert.AdamwConvOutIdeal.τ).loc Cert.AdamwConvOutIdeal.main_arg1) = m ((c.tc : Thread Cert.AdamwConvOutIdeal.nD Cert.AdamwConvOutIdeal.τ).loc Cert.AdamwConvOutIdeal.main_arg1)
          ∧ r.2.mem ((c.tc : Thread Cert.AdamwConvOutIdeal.nD Cert.AdamwConvOutIdeal.τ).loc Cert.AdamwConvOutIdeal.main_arg2) = m ((c.tc : Thread Cert.AdamwConvOutIdeal.nD Cert.AdamwConvOutIdeal.τ).loc Cert.AdamwConvOutIdeal.main_arg2)
          ∧ r.2.mem ((c.tc : Thread Cert.AdamwConvOutIdeal.nD Cert.AdamwConvOutIdeal.τ).loc Cert.AdamwConvOutIdeal.main_arg3) = m ((c.tc : Thread Cert.AdamwConvOutIdeal.nD Cert.AdamwConvOutIdeal.τ).loc Cert.AdamwConvOutIdeal.main_arg3)
          ∧ r.2.mem ((c.tc : Thread Cert.AdamwConvOutIdeal.nD Cert.AdamwConvOutIdeal.τ).loc Cert.AdamwConvOutIdeal.main_arg4) = m ((c.tc : Thread Cert.AdamwConvOutIdeal.nD Cert.AdamwConvOutIdeal.τ).loc Cert.AdamwConvOutIdeal.main_arg4))
      ∧ θ_run (Cert.AdamwConvOutRefIdeal.defs (F := Ideal)) (onTc (τ := Cert.AdamwConvOutRefIdeal.τ) (Cert.AdamwConvOutRefIdeal.main (F := Ideal))) ⟨m', fun _ => 0, g'⟩ (fun r => ∀ c : Dev Cert.AdamwConvOutRefIdeal.nD,
          r.2.mem ((c.tc : Thread Cert.AdamwConvOutRefIdeal.nD Cert.AdamwConvOutRefIdeal.τ).loc Cert.AdamwConvOutRefIdeal.main_v6) = v0 c
          ∧ r.2.mem ((c.tc : Thread Cert.AdamwConvOutRefIdeal.nD Cert.AdamwConvOutRefIdeal.τ).loc Cert.AdamwConvOutRefIdeal.main_v42) = v1 c
          ∧ r.2.mem ((c.tc : Thread Cert.AdamwConvOutRefIdeal.nD Cert.AdamwConvOutRefIdeal.τ).loc Cert.AdamwConvOutRefIdeal.main_v11) = v2 c
          ∧ r.2.mem ((c.tc : Thread Cert.AdamwConvOutRefIdeal.nD Cert.AdamwConvOutRefIdeal.τ).loc Cert.AdamwConvOutRefIdeal.main_v17) = v3 c
          ∧ r.2.mem ((c.tc : Thread Cert.AdamwConvOutRefIdeal.nD Cert.AdamwConvOutRefIdeal.τ).loc Cert.AdamwConvOutRefIdeal.main_arg0) = m' ((c.tc : Thread Cert.AdamwConvOutRefIdeal.nD Cert.AdamwConvOutRefIdeal.τ).loc Cert.AdamwConvOutRefIdeal.main_arg0)
          ∧ r.2.mem ((c.tc : Thread Cert.AdamwConvOutRefIdeal.nD Cert.AdamwConvOutRefIdeal.τ).loc Cert.AdamwConvOutRefIdeal.main_arg1) = m' ((c.tc : Thread Cert.AdamwConvOutRefIdeal.nD Cert.AdamwConvOutRefIdeal.τ).loc Cert.AdamwConvOutRefIdeal.main_arg1)
          ∧ r.2.mem ((c.tc : Thread Cert.AdamwConvOutRefIdeal.nD Cert.AdamwConvOutRefIdeal.τ).loc Cert.AdamwConvOutRefIdeal.main_arg2) = m' ((c.tc : Thread Cert.AdamwConvOutRefIdeal.nD Cert.AdamwConvOutRefIdeal.τ).loc Cert.AdamwConvOutRefIdeal.main_arg2)
          ∧ r.2.mem ((c.tc : Thread Cert.AdamwConvOutRefIdeal.nD Cert.AdamwConvOutRefIdeal.τ).loc Cert.AdamwConvOutRefIdeal.main_arg3) = m' ((c.tc : Thread Cert.AdamwConvOutRefIdeal.nD Cert.AdamwConvOutRefIdeal.τ).loc Cert.AdamwConvOutRefIdeal.main_arg3)
          ∧ r.2.mem ((c.tc : Thread Cert.AdamwConvOutRefIdeal.nD Cert.AdamwConvOutRefIdeal.τ).loc Cert.AdamwConvOutRefIdeal.main_arg4) = m' ((c.tc : Thread Cert.AdamwConvOutRefIdeal.nD Cert.AdamwConvOutRefIdeal.τ).loc Cert.AdamwConvOutRefIdeal.main_arg4))

def preserves_AdamwQkv_AdamwQkvIdeal : Prop :=
  IdealRules.named_const.Statement Cert.AdamwQkvIdeal.κ "c1" .f32 0x3FC48605#32 ((10000000000 / 6513215599 : ℝ) : EReal)
  ∧ IdealRules.named_const.Statement Cert.AdamwQkvIdeal.κ "c2" .f32 0x42C8E6D3#32 ((1000000000000000000000000000000 / 9955119790251790119955009999 : ℝ) : EReal)

def algebraic_AdamwQkvIdeal_AdamwQkvRefIdeal [hAdamwQkvIdeal : Cert.AdamwQkvIdeal.Facts] [hAdamwQkvRefIdeal : Cert.AdamwQkvRefIdeal.Facts] : Prop :=
  ∀ (m : (ℓ : Loc Cert.AdamwQkvIdeal.nD Cert.AdamwQkvIdeal.τ Cert.AdamwQkvIdeal.sig) → Buf (Elt Ideal) ℓ) (g : Dev Cert.AdamwQkvIdeal.nD → PrngReg)
    (m' : (ℓ : Loc Cert.AdamwQkvRefIdeal.nD Cert.AdamwQkvRefIdeal.τ Cert.AdamwQkvRefIdeal.sig) → Buf (Elt Ideal) ℓ) (g' : Dev Cert.AdamwQkvRefIdeal.nD → PrngReg), Pre_AdamwQkvIdeal m →
    (∀ c : Dev Cert.AdamwQkvIdeal.nD,
      m' ((c.tc : Thread Cert.AdamwQkvRefIdeal.nD Cert.AdamwQkvRefIdeal.τ).loc Cert.AdamwQkvRefIdeal.main_arg0) = m ((c.tc : Thread Cert.AdamwQkvIdeal.nD Cert.AdamwQkvIdeal.τ).loc Cert.AdamwQkvIdeal.main_arg0)
      ∧ m' ((c.tc : Thread Cert.AdamwQkvRefIdeal.nD Cert.AdamwQkvRefIdeal.τ).loc Cert.AdamwQkvRefIdeal.main_arg1) = m ((c.tc : Thread Cert.AdamwQkvIdeal.nD Cert.AdamwQkvIdeal.τ).loc Cert.AdamwQkvIdeal.main_arg1)
      ∧ m' ((c.tc : Thread Cert.AdamwQkvRefIdeal.nD Cert.AdamwQkvRefIdeal.τ).loc Cert.AdamwQkvRefIdeal.main_arg2) = m ((c.tc : Thread Cert.AdamwQkvIdeal.nD Cert.AdamwQkvIdeal.τ).loc Cert.AdamwQkvIdeal.main_arg2)
      ∧ m' ((c.tc : Thread Cert.AdamwQkvRefIdeal.nD Cert.AdamwQkvRefIdeal.τ).loc Cert.AdamwQkvRefIdeal.main_arg3) = m ((c.tc : Thread Cert.AdamwQkvIdeal.nD Cert.AdamwQkvIdeal.τ).loc Cert.AdamwQkvIdeal.main_arg3)) →
    ∃ (v0 : (c : Dev Cert.AdamwQkvIdeal.nD) → Buf (Elt Ideal) ((c.tc : Thread Cert.AdamwQkvIdeal.nD Cert.AdamwQkvIdeal.τ).loc Cert.AdamwQkvIdeal.main_v0_0)) (v1 : (c : Dev Cert.AdamwQkvIdeal.nD) → Buf (Elt Ideal) ((c.tc : Thread Cert.AdamwQkvIdeal.nD Cert.AdamwQkvIdeal.τ).loc Cert.AdamwQkvIdeal.main_v0_1)) (v2 : (c : Dev Cert.AdamwQkvIdeal.nD) → Buf (Elt Ideal) ((c.tc : Thread Cert.AdamwQkvIdeal.nD Cert.AdamwQkvIdeal.τ).loc Cert.AdamwQkvIdeal.main_v0_2)) (v3 : (c : Dev Cert.AdamwQkvIdeal.nD) → Buf (Elt Ideal) ((c.tc : Thread Cert.AdamwQkvIdeal.nD Cert.AdamwQkvIdeal.τ).loc Cert.AdamwQkvIdeal.main_v0_3)),
      θ_run (Cert.AdamwQkvIdeal.defs (F := Ideal)) (onTc (τ := Cert.AdamwQkvIdeal.τ) (Cert.AdamwQkvIdeal.main (F := Ideal))) ⟨m, fun _ => 0, g⟩ (fun r => ∀ c : Dev Cert.AdamwQkvIdeal.nD,
          r.2.mem ((c.tc : Thread Cert.AdamwQkvIdeal.nD Cert.AdamwQkvIdeal.τ).loc Cert.AdamwQkvIdeal.main_v0_0) = v0 c
          ∧ r.2.mem ((c.tc : Thread Cert.AdamwQkvIdeal.nD Cert.AdamwQkvIdeal.τ).loc Cert.AdamwQkvIdeal.main_v0_1) = v1 c
          ∧ r.2.mem ((c.tc : Thread Cert.AdamwQkvIdeal.nD Cert.AdamwQkvIdeal.τ).loc Cert.AdamwQkvIdeal.main_v0_2) = v2 c
          ∧ r.2.mem ((c.tc : Thread Cert.AdamwQkvIdeal.nD Cert.AdamwQkvIdeal.τ).loc Cert.AdamwQkvIdeal.main_v0_3) = v3 c
          ∧ r.2.mem ((c.tc : Thread Cert.AdamwQkvIdeal.nD Cert.AdamwQkvIdeal.τ).loc Cert.AdamwQkvIdeal.main_arg0) = m ((c.tc : Thread Cert.AdamwQkvIdeal.nD Cert.AdamwQkvIdeal.τ).loc Cert.AdamwQkvIdeal.main_arg0)
          ∧ r.2.mem ((c.tc : Thread Cert.AdamwQkvIdeal.nD Cert.AdamwQkvIdeal.τ).loc Cert.AdamwQkvIdeal.main_arg1) = m ((c.tc : Thread Cert.AdamwQkvIdeal.nD Cert.AdamwQkvIdeal.τ).loc Cert.AdamwQkvIdeal.main_arg1)
          ∧ r.2.mem ((c.tc : Thread Cert.AdamwQkvIdeal.nD Cert.AdamwQkvIdeal.τ).loc Cert.AdamwQkvIdeal.main_arg2) = m ((c.tc : Thread Cert.AdamwQkvIdeal.nD Cert.AdamwQkvIdeal.τ).loc Cert.AdamwQkvIdeal.main_arg2)
          ∧ r.2.mem ((c.tc : Thread Cert.AdamwQkvIdeal.nD Cert.AdamwQkvIdeal.τ).loc Cert.AdamwQkvIdeal.main_arg3) = m ((c.tc : Thread Cert.AdamwQkvIdeal.nD Cert.AdamwQkvIdeal.τ).loc Cert.AdamwQkvIdeal.main_arg3))
      ∧ θ_run (Cert.AdamwQkvRefIdeal.defs (F := Ideal)) (onTc (τ := Cert.AdamwQkvRefIdeal.τ) (Cert.AdamwQkvRefIdeal.main (F := Ideal))) ⟨m', fun _ => 0, g'⟩ (fun r => ∀ c : Dev Cert.AdamwQkvRefIdeal.nD,
          r.2.mem ((c.tc : Thread Cert.AdamwQkvRefIdeal.nD Cert.AdamwQkvRefIdeal.τ).loc Cert.AdamwQkvRefIdeal.main_v2) = v0 c
          ∧ r.2.mem ((c.tc : Thread Cert.AdamwQkvRefIdeal.nD Cert.AdamwQkvRefIdeal.τ).loc Cert.AdamwQkvRefIdeal.main_v38) = v1 c
          ∧ r.2.mem ((c.tc : Thread Cert.AdamwQkvRefIdeal.nD Cert.AdamwQkvRefIdeal.τ).loc Cert.AdamwQkvRefIdeal.main_v7) = v2 c
          ∧ r.2.mem ((c.tc : Thread Cert.AdamwQkvRefIdeal.nD Cert.AdamwQkvRefIdeal.τ).loc Cert.AdamwQkvRefIdeal.main_v13) = v3 c
          ∧ r.2.mem ((c.tc : Thread Cert.AdamwQkvRefIdeal.nD Cert.AdamwQkvRefIdeal.τ).loc Cert.AdamwQkvRefIdeal.main_arg0) = m' ((c.tc : Thread Cert.AdamwQkvRefIdeal.nD Cert.AdamwQkvRefIdeal.τ).loc Cert.AdamwQkvRefIdeal.main_arg0)
          ∧ r.2.mem ((c.tc : Thread Cert.AdamwQkvRefIdeal.nD Cert.AdamwQkvRefIdeal.τ).loc Cert.AdamwQkvRefIdeal.main_arg1) = m' ((c.tc : Thread Cert.AdamwQkvRefIdeal.nD Cert.AdamwQkvRefIdeal.τ).loc Cert.AdamwQkvRefIdeal.main_arg1)
          ∧ r.2.mem ((c.tc : Thread Cert.AdamwQkvRefIdeal.nD Cert.AdamwQkvRefIdeal.τ).loc Cert.AdamwQkvRefIdeal.main_arg2) = m' ((c.tc : Thread Cert.AdamwQkvRefIdeal.nD Cert.AdamwQkvRefIdeal.τ).loc Cert.AdamwQkvRefIdeal.main_arg2)
          ∧ r.2.mem ((c.tc : Thread Cert.AdamwQkvRefIdeal.nD Cert.AdamwQkvRefIdeal.τ).loc Cert.AdamwQkvRefIdeal.main_arg3) = m' ((c.tc : Thread Cert.AdamwQkvRefIdeal.nD Cert.AdamwQkvRefIdeal.τ).loc Cert.AdamwQkvRefIdeal.main_arg3))

def preserves_AdamwAttnOut_AdamwAttnOutIdeal : Prop :=
  IdealRules.named_const.Statement Cert.AdamwAttnOutIdeal.κ "c1" .f32 0x3FC48605#32 ((10000000000 / 6513215599 : ℝ) : EReal)
  ∧ IdealRules.named_const.Statement Cert.AdamwAttnOutIdeal.κ "c2" .f32 0x42C8E6D3#32 ((1000000000000000000000000000000 / 9955119790251790119955009999 : ℝ) : EReal)

def algebraic_AdamwAttnOutIdeal_AdamwAttnOutRefIdeal [hAdamwAttnOutIdeal : Cert.AdamwAttnOutIdeal.Facts] [hAdamwAttnOutRefIdeal : Cert.AdamwAttnOutRefIdeal.Facts] : Prop :=
  ∀ (m : (ℓ : Loc Cert.AdamwAttnOutIdeal.nD Cert.AdamwAttnOutIdeal.τ Cert.AdamwAttnOutIdeal.sig) → Buf (Elt Ideal) ℓ) (g : Dev Cert.AdamwAttnOutIdeal.nD → PrngReg)
    (m' : (ℓ : Loc Cert.AdamwAttnOutRefIdeal.nD Cert.AdamwAttnOutRefIdeal.τ Cert.AdamwAttnOutRefIdeal.sig) → Buf (Elt Ideal) ℓ) (g' : Dev Cert.AdamwAttnOutRefIdeal.nD → PrngReg), Pre_AdamwAttnOutIdeal m →
    (∀ c : Dev Cert.AdamwAttnOutIdeal.nD,
      m' ((c.tc : Thread Cert.AdamwAttnOutRefIdeal.nD Cert.AdamwAttnOutRefIdeal.τ).loc Cert.AdamwAttnOutRefIdeal.main_arg0) = m ((c.tc : Thread Cert.AdamwAttnOutIdeal.nD Cert.AdamwAttnOutIdeal.τ).loc Cert.AdamwAttnOutIdeal.main_arg0)
      ∧ m' ((c.tc : Thread Cert.AdamwAttnOutRefIdeal.nD Cert.AdamwAttnOutRefIdeal.τ).loc Cert.AdamwAttnOutRefIdeal.main_arg1) = m ((c.tc : Thread Cert.AdamwAttnOutIdeal.nD Cert.AdamwAttnOutIdeal.τ).loc Cert.AdamwAttnOutIdeal.main_arg1)
      ∧ m' ((c.tc : Thread Cert.AdamwAttnOutRefIdeal.nD Cert.AdamwAttnOutRefIdeal.τ).loc Cert.AdamwAttnOutRefIdeal.main_arg2) = m ((c.tc : Thread Cert.AdamwAttnOutIdeal.nD Cert.AdamwAttnOutIdeal.τ).loc Cert.AdamwAttnOutIdeal.main_arg2)
      ∧ m' ((c.tc : Thread Cert.AdamwAttnOutRefIdeal.nD Cert.AdamwAttnOutRefIdeal.τ).loc Cert.AdamwAttnOutRefIdeal.main_arg3) = m ((c.tc : Thread Cert.AdamwAttnOutIdeal.nD Cert.AdamwAttnOutIdeal.τ).loc Cert.AdamwAttnOutIdeal.main_arg3)) →
    ∃ (v0 : (c : Dev Cert.AdamwAttnOutIdeal.nD) → Buf (Elt Ideal) ((c.tc : Thread Cert.AdamwAttnOutIdeal.nD Cert.AdamwAttnOutIdeal.τ).loc Cert.AdamwAttnOutIdeal.main_v0_0)) (v1 : (c : Dev Cert.AdamwAttnOutIdeal.nD) → Buf (Elt Ideal) ((c.tc : Thread Cert.AdamwAttnOutIdeal.nD Cert.AdamwAttnOutIdeal.τ).loc Cert.AdamwAttnOutIdeal.main_v0_1)) (v2 : (c : Dev Cert.AdamwAttnOutIdeal.nD) → Buf (Elt Ideal) ((c.tc : Thread Cert.AdamwAttnOutIdeal.nD Cert.AdamwAttnOutIdeal.τ).loc Cert.AdamwAttnOutIdeal.main_v0_2)) (v3 : (c : Dev Cert.AdamwAttnOutIdeal.nD) → Buf (Elt Ideal) ((c.tc : Thread Cert.AdamwAttnOutIdeal.nD Cert.AdamwAttnOutIdeal.τ).loc Cert.AdamwAttnOutIdeal.main_v0_3)),
      θ_run (Cert.AdamwAttnOutIdeal.defs (F := Ideal)) (onTc (τ := Cert.AdamwAttnOutIdeal.τ) (Cert.AdamwAttnOutIdeal.main (F := Ideal))) ⟨m, fun _ => 0, g⟩ (fun r => ∀ c : Dev Cert.AdamwAttnOutIdeal.nD,
          r.2.mem ((c.tc : Thread Cert.AdamwAttnOutIdeal.nD Cert.AdamwAttnOutIdeal.τ).loc Cert.AdamwAttnOutIdeal.main_v0_0) = v0 c
          ∧ r.2.mem ((c.tc : Thread Cert.AdamwAttnOutIdeal.nD Cert.AdamwAttnOutIdeal.τ).loc Cert.AdamwAttnOutIdeal.main_v0_1) = v1 c
          ∧ r.2.mem ((c.tc : Thread Cert.AdamwAttnOutIdeal.nD Cert.AdamwAttnOutIdeal.τ).loc Cert.AdamwAttnOutIdeal.main_v0_2) = v2 c
          ∧ r.2.mem ((c.tc : Thread Cert.AdamwAttnOutIdeal.nD Cert.AdamwAttnOutIdeal.τ).loc Cert.AdamwAttnOutIdeal.main_v0_3) = v3 c
          ∧ r.2.mem ((c.tc : Thread Cert.AdamwAttnOutIdeal.nD Cert.AdamwAttnOutIdeal.τ).loc Cert.AdamwAttnOutIdeal.main_arg0) = m ((c.tc : Thread Cert.AdamwAttnOutIdeal.nD Cert.AdamwAttnOutIdeal.τ).loc Cert.AdamwAttnOutIdeal.main_arg0)
          ∧ r.2.mem ((c.tc : Thread Cert.AdamwAttnOutIdeal.nD Cert.AdamwAttnOutIdeal.τ).loc Cert.AdamwAttnOutIdeal.main_arg1) = m ((c.tc : Thread Cert.AdamwAttnOutIdeal.nD Cert.AdamwAttnOutIdeal.τ).loc Cert.AdamwAttnOutIdeal.main_arg1)
          ∧ r.2.mem ((c.tc : Thread Cert.AdamwAttnOutIdeal.nD Cert.AdamwAttnOutIdeal.τ).loc Cert.AdamwAttnOutIdeal.main_arg2) = m ((c.tc : Thread Cert.AdamwAttnOutIdeal.nD Cert.AdamwAttnOutIdeal.τ).loc Cert.AdamwAttnOutIdeal.main_arg2)
          ∧ r.2.mem ((c.tc : Thread Cert.AdamwAttnOutIdeal.nD Cert.AdamwAttnOutIdeal.τ).loc Cert.AdamwAttnOutIdeal.main_arg3) = m ((c.tc : Thread Cert.AdamwAttnOutIdeal.nD Cert.AdamwAttnOutIdeal.τ).loc Cert.AdamwAttnOutIdeal.main_arg3))
      ∧ θ_run (Cert.AdamwAttnOutRefIdeal.defs (F := Ideal)) (onTc (τ := Cert.AdamwAttnOutRefIdeal.τ) (Cert.AdamwAttnOutRefIdeal.main (F := Ideal))) ⟨m', fun _ => 0, g'⟩ (fun r => ∀ c : Dev Cert.AdamwAttnOutRefIdeal.nD,
          r.2.mem ((c.tc : Thread Cert.AdamwAttnOutRefIdeal.nD Cert.AdamwAttnOutRefIdeal.τ).loc Cert.AdamwAttnOutRefIdeal.main_v2) = v0 c
          ∧ r.2.mem ((c.tc : Thread Cert.AdamwAttnOutRefIdeal.nD Cert.AdamwAttnOutRefIdeal.τ).loc Cert.AdamwAttnOutRefIdeal.main_v38) = v1 c
          ∧ r.2.mem ((c.tc : Thread Cert.AdamwAttnOutRefIdeal.nD Cert.AdamwAttnOutRefIdeal.τ).loc Cert.AdamwAttnOutRefIdeal.main_v7) = v2 c
          ∧ r.2.mem ((c.tc : Thread Cert.AdamwAttnOutRefIdeal.nD Cert.AdamwAttnOutRefIdeal.τ).loc Cert.AdamwAttnOutRefIdeal.main_v13) = v3 c
          ∧ r.2.mem ((c.tc : Thread Cert.AdamwAttnOutRefIdeal.nD Cert.AdamwAttnOutRefIdeal.τ).loc Cert.AdamwAttnOutRefIdeal.main_arg0) = m' ((c.tc : Thread Cert.AdamwAttnOutRefIdeal.nD Cert.AdamwAttnOutRefIdeal.τ).loc Cert.AdamwAttnOutRefIdeal.main_arg0)
          ∧ r.2.mem ((c.tc : Thread Cert.AdamwAttnOutRefIdeal.nD Cert.AdamwAttnOutRefIdeal.τ).loc Cert.AdamwAttnOutRefIdeal.main_arg1) = m' ((c.tc : Thread Cert.AdamwAttnOutRefIdeal.nD Cert.AdamwAttnOutRefIdeal.τ).loc Cert.AdamwAttnOutRefIdeal.main_arg1)
          ∧ r.2.mem ((c.tc : Thread Cert.AdamwAttnOutRefIdeal.nD Cert.AdamwAttnOutRefIdeal.τ).loc Cert.AdamwAttnOutRefIdeal.main_arg2) = m' ((c.tc : Thread Cert.AdamwAttnOutRefIdeal.nD Cert.AdamwAttnOutRefIdeal.τ).loc Cert.AdamwAttnOutRefIdeal.main_arg2)
          ∧ r.2.mem ((c.tc : Thread Cert.AdamwAttnOutRefIdeal.nD Cert.AdamwAttnOutRefIdeal.τ).loc Cert.AdamwAttnOutRefIdeal.main_arg3) = m' ((c.tc : Thread Cert.AdamwAttnOutRefIdeal.nD Cert.AdamwAttnOutRefIdeal.τ).loc Cert.AdamwAttnOutRefIdeal.main_arg3))

def preserves_AdamwGateIn_AdamwGateInIdeal : Prop :=
  IdealRules.named_const.Statement Cert.AdamwGateInIdeal.κ "c1" .f32 0x3FC48605#32 ((10000000000 / 6513215599 : ℝ) : EReal)
  ∧ IdealRules.named_const.Statement Cert.AdamwGateInIdeal.κ "c2" .f32 0x42C8E6D3#32 ((1000000000000000000000000000000 / 9955119790251790119955009999 : ℝ) : EReal)

def algebraic_AdamwGateInIdeal_AdamwGateInRefIdeal [hAdamwGateInIdeal : Cert.AdamwGateInIdeal.Facts] [hAdamwGateInRefIdeal : Cert.AdamwGateInRefIdeal.Facts] : Prop :=
  ∀ (m : (ℓ : Loc Cert.AdamwGateInIdeal.nD Cert.AdamwGateInIdeal.τ Cert.AdamwGateInIdeal.sig) → Buf (Elt Ideal) ℓ) (g : Dev Cert.AdamwGateInIdeal.nD → PrngReg)
    (m' : (ℓ : Loc Cert.AdamwGateInRefIdeal.nD Cert.AdamwGateInRefIdeal.τ Cert.AdamwGateInRefIdeal.sig) → Buf (Elt Ideal) ℓ) (g' : Dev Cert.AdamwGateInRefIdeal.nD → PrngReg), Pre_AdamwGateInIdeal m →
    (∀ c : Dev Cert.AdamwGateInIdeal.nD,
      m' ((c.tc : Thread Cert.AdamwGateInRefIdeal.nD Cert.AdamwGateInRefIdeal.τ).loc Cert.AdamwGateInRefIdeal.main_arg0) = m ((c.tc : Thread Cert.AdamwGateInIdeal.nD Cert.AdamwGateInIdeal.τ).loc Cert.AdamwGateInIdeal.main_arg0)
      ∧ m' ((c.tc : Thread Cert.AdamwGateInRefIdeal.nD Cert.AdamwGateInRefIdeal.τ).loc Cert.AdamwGateInRefIdeal.main_arg1) = m ((c.tc : Thread Cert.AdamwGateInIdeal.nD Cert.AdamwGateInIdeal.τ).loc Cert.AdamwGateInIdeal.main_arg1)
      ∧ m' ((c.tc : Thread Cert.AdamwGateInRefIdeal.nD Cert.AdamwGateInRefIdeal.τ).loc Cert.AdamwGateInRefIdeal.main_arg2) = m ((c.tc : Thread Cert.AdamwGateInIdeal.nD Cert.AdamwGateInIdeal.τ).loc Cert.AdamwGateInIdeal.main_arg2)
      ∧ m' ((c.tc : Thread Cert.AdamwGateInRefIdeal.nD Cert.AdamwGateInRefIdeal.τ).loc Cert.AdamwGateInRefIdeal.main_arg3) = m ((c.tc : Thread Cert.AdamwGateInIdeal.nD Cert.AdamwGateInIdeal.τ).loc Cert.AdamwGateInIdeal.main_arg3)) →
    ∃ (v0 : (c : Dev Cert.AdamwGateInIdeal.nD) → Buf (Elt Ideal) ((c.tc : Thread Cert.AdamwGateInIdeal.nD Cert.AdamwGateInIdeal.τ).loc Cert.AdamwGateInIdeal.main_v0_0)) (v1 : (c : Dev Cert.AdamwGateInIdeal.nD) → Buf (Elt Ideal) ((c.tc : Thread Cert.AdamwGateInIdeal.nD Cert.AdamwGateInIdeal.τ).loc Cert.AdamwGateInIdeal.main_v0_1)) (v2 : (c : Dev Cert.AdamwGateInIdeal.nD) → Buf (Elt Ideal) ((c.tc : Thread Cert.AdamwGateInIdeal.nD Cert.AdamwGateInIdeal.τ).loc Cert.AdamwGateInIdeal.main_v0_2)) (v3 : (c : Dev Cert.AdamwGateInIdeal.nD) → Buf (Elt Ideal) ((c.tc : Thread Cert.AdamwGateInIdeal.nD Cert.AdamwGateInIdeal.τ).loc Cert.AdamwGateInIdeal.main_v0_3)),
      θ_run (Cert.AdamwGateInIdeal.defs (F := Ideal)) (onTc (τ := Cert.AdamwGateInIdeal.τ) (Cert.AdamwGateInIdeal.main (F := Ideal))) ⟨m, fun _ => 0, g⟩ (fun r => ∀ c : Dev Cert.AdamwGateInIdeal.nD,
          r.2.mem ((c.tc : Thread Cert.AdamwGateInIdeal.nD Cert.AdamwGateInIdeal.τ).loc Cert.AdamwGateInIdeal.main_v0_0) = v0 c
          ∧ r.2.mem ((c.tc : Thread Cert.AdamwGateInIdeal.nD Cert.AdamwGateInIdeal.τ).loc Cert.AdamwGateInIdeal.main_v0_1) = v1 c
          ∧ r.2.mem ((c.tc : Thread Cert.AdamwGateInIdeal.nD Cert.AdamwGateInIdeal.τ).loc Cert.AdamwGateInIdeal.main_v0_2) = v2 c
          ∧ r.2.mem ((c.tc : Thread Cert.AdamwGateInIdeal.nD Cert.AdamwGateInIdeal.τ).loc Cert.AdamwGateInIdeal.main_v0_3) = v3 c
          ∧ r.2.mem ((c.tc : Thread Cert.AdamwGateInIdeal.nD Cert.AdamwGateInIdeal.τ).loc Cert.AdamwGateInIdeal.main_arg0) = m ((c.tc : Thread Cert.AdamwGateInIdeal.nD Cert.AdamwGateInIdeal.τ).loc Cert.AdamwGateInIdeal.main_arg0)
          ∧ r.2.mem ((c.tc : Thread Cert.AdamwGateInIdeal.nD Cert.AdamwGateInIdeal.τ).loc Cert.AdamwGateInIdeal.main_arg1) = m ((c.tc : Thread Cert.AdamwGateInIdeal.nD Cert.AdamwGateInIdeal.τ).loc Cert.AdamwGateInIdeal.main_arg1)
          ∧ r.2.mem ((c.tc : Thread Cert.AdamwGateInIdeal.nD Cert.AdamwGateInIdeal.τ).loc Cert.AdamwGateInIdeal.main_arg2) = m ((c.tc : Thread Cert.AdamwGateInIdeal.nD Cert.AdamwGateInIdeal.τ).loc Cert.AdamwGateInIdeal.main_arg2)
          ∧ r.2.mem ((c.tc : Thread Cert.AdamwGateInIdeal.nD Cert.AdamwGateInIdeal.τ).loc Cert.AdamwGateInIdeal.main_arg3) = m ((c.tc : Thread Cert.AdamwGateInIdeal.nD Cert.AdamwGateInIdeal.τ).loc Cert.AdamwGateInIdeal.main_arg3))
      ∧ θ_run (Cert.AdamwGateInRefIdeal.defs (F := Ideal)) (onTc (τ := Cert.AdamwGateInRefIdeal.τ) (Cert.AdamwGateInRefIdeal.main (F := Ideal))) ⟨m', fun _ => 0, g'⟩ (fun r => ∀ c : Dev Cert.AdamwGateInRefIdeal.nD,
          r.2.mem ((c.tc : Thread Cert.AdamwGateInRefIdeal.nD Cert.AdamwGateInRefIdeal.τ).loc Cert.AdamwGateInRefIdeal.main_v2) = v0 c
          ∧ r.2.mem ((c.tc : Thread Cert.AdamwGateInRefIdeal.nD Cert.AdamwGateInRefIdeal.τ).loc Cert.AdamwGateInRefIdeal.main_v38) = v1 c
          ∧ r.2.mem ((c.tc : Thread Cert.AdamwGateInRefIdeal.nD Cert.AdamwGateInRefIdeal.τ).loc Cert.AdamwGateInRefIdeal.main_v7) = v2 c
          ∧ r.2.mem ((c.tc : Thread Cert.AdamwGateInRefIdeal.nD Cert.AdamwGateInRefIdeal.τ).loc Cert.AdamwGateInRefIdeal.main_v13) = v3 c
          ∧ r.2.mem ((c.tc : Thread Cert.AdamwGateInRefIdeal.nD Cert.AdamwGateInRefIdeal.τ).loc Cert.AdamwGateInRefIdeal.main_arg0) = m' ((c.tc : Thread Cert.AdamwGateInRefIdeal.nD Cert.AdamwGateInRefIdeal.τ).loc Cert.AdamwGateInRefIdeal.main_arg0)
          ∧ r.2.mem ((c.tc : Thread Cert.AdamwGateInRefIdeal.nD Cert.AdamwGateInRefIdeal.τ).loc Cert.AdamwGateInRefIdeal.main_arg1) = m' ((c.tc : Thread Cert.AdamwGateInRefIdeal.nD Cert.AdamwGateInRefIdeal.τ).loc Cert.AdamwGateInRefIdeal.main_arg1)
          ∧ r.2.mem ((c.tc : Thread Cert.AdamwGateInRefIdeal.nD Cert.AdamwGateInRefIdeal.τ).loc Cert.AdamwGateInRefIdeal.main_arg2) = m' ((c.tc : Thread Cert.AdamwGateInRefIdeal.nD Cert.AdamwGateInRefIdeal.τ).loc Cert.AdamwGateInRefIdeal.main_arg2)
          ∧ r.2.mem ((c.tc : Thread Cert.AdamwGateInRefIdeal.nD Cert.AdamwGateInRefIdeal.τ).loc Cert.AdamwGateInRefIdeal.main_arg3) = m' ((c.tc : Thread Cert.AdamwGateInRefIdeal.nD Cert.AdamwGateInRefIdeal.τ).loc Cert.AdamwGateInRefIdeal.main_arg3))

def preserves_AdamwGateOut_AdamwGateOutIdeal : Prop :=
  IdealRules.named_const.Statement Cert.AdamwGateOutIdeal.κ "c1" .f32 0x3FC48605#32 ((10000000000 / 6513215599 : ℝ) : EReal)
  ∧ IdealRules.named_const.Statement Cert.AdamwGateOutIdeal.κ "c2" .f32 0x42C8E6D3#32 ((1000000000000000000000000000000 / 9955119790251790119955009999 : ℝ) : EReal)

def algebraic_AdamwGateOutIdeal_AdamwGateOutRefIdeal [hAdamwGateOutIdeal : Cert.AdamwGateOutIdeal.Facts] [hAdamwGateOutRefIdeal : Cert.AdamwGateOutRefIdeal.Facts] : Prop :=
  ∀ (m : (ℓ : Loc Cert.AdamwGateOutIdeal.nD Cert.AdamwGateOutIdeal.τ Cert.AdamwGateOutIdeal.sig) → Buf (Elt Ideal) ℓ) (g : Dev Cert.AdamwGateOutIdeal.nD → PrngReg)
    (m' : (ℓ : Loc Cert.AdamwGateOutRefIdeal.nD Cert.AdamwGateOutRefIdeal.τ Cert.AdamwGateOutRefIdeal.sig) → Buf (Elt Ideal) ℓ) (g' : Dev Cert.AdamwGateOutRefIdeal.nD → PrngReg), Pre_AdamwGateOutIdeal m →
    (∀ c : Dev Cert.AdamwGateOutIdeal.nD,
      m' ((c.tc : Thread Cert.AdamwGateOutRefIdeal.nD Cert.AdamwGateOutRefIdeal.τ).loc Cert.AdamwGateOutRefIdeal.main_arg0) = m ((c.tc : Thread Cert.AdamwGateOutIdeal.nD Cert.AdamwGateOutIdeal.τ).loc Cert.AdamwGateOutIdeal.main_arg0)
      ∧ m' ((c.tc : Thread Cert.AdamwGateOutRefIdeal.nD Cert.AdamwGateOutRefIdeal.τ).loc Cert.AdamwGateOutRefIdeal.main_arg1) = m ((c.tc : Thread Cert.AdamwGateOutIdeal.nD Cert.AdamwGateOutIdeal.τ).loc Cert.AdamwGateOutIdeal.main_arg1)
      ∧ m' ((c.tc : Thread Cert.AdamwGateOutRefIdeal.nD Cert.AdamwGateOutRefIdeal.τ).loc Cert.AdamwGateOutRefIdeal.main_arg2) = m ((c.tc : Thread Cert.AdamwGateOutIdeal.nD Cert.AdamwGateOutIdeal.τ).loc Cert.AdamwGateOutIdeal.main_arg2)
      ∧ m' ((c.tc : Thread Cert.AdamwGateOutRefIdeal.nD Cert.AdamwGateOutRefIdeal.τ).loc Cert.AdamwGateOutRefIdeal.main_arg3) = m ((c.tc : Thread Cert.AdamwGateOutIdeal.nD Cert.AdamwGateOutIdeal.τ).loc Cert.AdamwGateOutIdeal.main_arg3)) →
    ∃ (v0 : (c : Dev Cert.AdamwGateOutIdeal.nD) → Buf (Elt Ideal) ((c.tc : Thread Cert.AdamwGateOutIdeal.nD Cert.AdamwGateOutIdeal.τ).loc Cert.AdamwGateOutIdeal.main_v0_0)) (v1 : (c : Dev Cert.AdamwGateOutIdeal.nD) → Buf (Elt Ideal) ((c.tc : Thread Cert.AdamwGateOutIdeal.nD Cert.AdamwGateOutIdeal.τ).loc Cert.AdamwGateOutIdeal.main_v0_1)) (v2 : (c : Dev Cert.AdamwGateOutIdeal.nD) → Buf (Elt Ideal) ((c.tc : Thread Cert.AdamwGateOutIdeal.nD Cert.AdamwGateOutIdeal.τ).loc Cert.AdamwGateOutIdeal.main_v0_2)) (v3 : (c : Dev Cert.AdamwGateOutIdeal.nD) → Buf (Elt Ideal) ((c.tc : Thread Cert.AdamwGateOutIdeal.nD Cert.AdamwGateOutIdeal.τ).loc Cert.AdamwGateOutIdeal.main_v0_3)),
      θ_run (Cert.AdamwGateOutIdeal.defs (F := Ideal)) (onTc (τ := Cert.AdamwGateOutIdeal.τ) (Cert.AdamwGateOutIdeal.main (F := Ideal))) ⟨m, fun _ => 0, g⟩ (fun r => ∀ c : Dev Cert.AdamwGateOutIdeal.nD,
          r.2.mem ((c.tc : Thread Cert.AdamwGateOutIdeal.nD Cert.AdamwGateOutIdeal.τ).loc Cert.AdamwGateOutIdeal.main_v0_0) = v0 c
          ∧ r.2.mem ((c.tc : Thread Cert.AdamwGateOutIdeal.nD Cert.AdamwGateOutIdeal.τ).loc Cert.AdamwGateOutIdeal.main_v0_1) = v1 c
          ∧ r.2.mem ((c.tc : Thread Cert.AdamwGateOutIdeal.nD Cert.AdamwGateOutIdeal.τ).loc Cert.AdamwGateOutIdeal.main_v0_2) = v2 c
          ∧ r.2.mem ((c.tc : Thread Cert.AdamwGateOutIdeal.nD Cert.AdamwGateOutIdeal.τ).loc Cert.AdamwGateOutIdeal.main_v0_3) = v3 c
          ∧ r.2.mem ((c.tc : Thread Cert.AdamwGateOutIdeal.nD Cert.AdamwGateOutIdeal.τ).loc Cert.AdamwGateOutIdeal.main_arg0) = m ((c.tc : Thread Cert.AdamwGateOutIdeal.nD Cert.AdamwGateOutIdeal.τ).loc Cert.AdamwGateOutIdeal.main_arg0)
          ∧ r.2.mem ((c.tc : Thread Cert.AdamwGateOutIdeal.nD Cert.AdamwGateOutIdeal.τ).loc Cert.AdamwGateOutIdeal.main_arg1) = m ((c.tc : Thread Cert.AdamwGateOutIdeal.nD Cert.AdamwGateOutIdeal.τ).loc Cert.AdamwGateOutIdeal.main_arg1)
          ∧ r.2.mem ((c.tc : Thread Cert.AdamwGateOutIdeal.nD Cert.AdamwGateOutIdeal.τ).loc Cert.AdamwGateOutIdeal.main_arg2) = m ((c.tc : Thread Cert.AdamwGateOutIdeal.nD Cert.AdamwGateOutIdeal.τ).loc Cert.AdamwGateOutIdeal.main_arg2)
          ∧ r.2.mem ((c.tc : Thread Cert.AdamwGateOutIdeal.nD Cert.AdamwGateOutIdeal.τ).loc Cert.AdamwGateOutIdeal.main_arg3) = m ((c.tc : Thread Cert.AdamwGateOutIdeal.nD Cert.AdamwGateOutIdeal.τ).loc Cert.AdamwGateOutIdeal.main_arg3))
      ∧ θ_run (Cert.AdamwGateOutRefIdeal.defs (F := Ideal)) (onTc (τ := Cert.AdamwGateOutRefIdeal.τ) (Cert.AdamwGateOutRefIdeal.main (F := Ideal))) ⟨m', fun _ => 0, g'⟩ (fun r => ∀ c : Dev Cert.AdamwGateOutRefIdeal.nD,
          r.2.mem ((c.tc : Thread Cert.AdamwGateOutRefIdeal.nD Cert.AdamwGateOutRefIdeal.τ).loc Cert.AdamwGateOutRefIdeal.main_v2) = v0 c
          ∧ r.2.mem ((c.tc : Thread Cert.AdamwGateOutRefIdeal.nD Cert.AdamwGateOutRefIdeal.τ).loc Cert.AdamwGateOutRefIdeal.main_v38) = v1 c
          ∧ r.2.mem ((c.tc : Thread Cert.AdamwGateOutRefIdeal.nD Cert.AdamwGateOutRefIdeal.τ).loc Cert.AdamwGateOutRefIdeal.main_v7) = v2 c
          ∧ r.2.mem ((c.tc : Thread Cert.AdamwGateOutRefIdeal.nD Cert.AdamwGateOutRefIdeal.τ).loc Cert.AdamwGateOutRefIdeal.main_v13) = v3 c
          ∧ r.2.mem ((c.tc : Thread Cert.AdamwGateOutRefIdeal.nD Cert.AdamwGateOutRefIdeal.τ).loc Cert.AdamwGateOutRefIdeal.main_arg0) = m' ((c.tc : Thread Cert.AdamwGateOutRefIdeal.nD Cert.AdamwGateOutRefIdeal.τ).loc Cert.AdamwGateOutRefIdeal.main_arg0)
          ∧ r.2.mem ((c.tc : Thread Cert.AdamwGateOutRefIdeal.nD Cert.AdamwGateOutRefIdeal.τ).loc Cert.AdamwGateOutRefIdeal.main_arg1) = m' ((c.tc : Thread Cert.AdamwGateOutRefIdeal.nD Cert.AdamwGateOutRefIdeal.τ).loc Cert.AdamwGateOutRefIdeal.main_arg1)
          ∧ r.2.mem ((c.tc : Thread Cert.AdamwGateOutRefIdeal.nD Cert.AdamwGateOutRefIdeal.τ).loc Cert.AdamwGateOutRefIdeal.main_arg2) = m' ((c.tc : Thread Cert.AdamwGateOutRefIdeal.nD Cert.AdamwGateOutRefIdeal.τ).loc Cert.AdamwGateOutRefIdeal.main_arg2)
          ∧ r.2.mem ((c.tc : Thread Cert.AdamwGateOutRefIdeal.nD Cert.AdamwGateOutRefIdeal.τ).loc Cert.AdamwGateOutRefIdeal.main_arg3) = m' ((c.tc : Thread Cert.AdamwGateOutRefIdeal.nD Cert.AdamwGateOutRefIdeal.τ).loc Cert.AdamwGateOutRefIdeal.main_arg3))

def preserves_NormB_NormBIdeal : Prop :=
  True

def algebraic_NormBIdeal_NormBRefIdeal [hNormBIdeal : Cert.NormBIdeal.Facts] [hNormBRefIdeal : Cert.NormBRefIdeal.Facts] : Prop :=
  ∀ (m : (ℓ : Loc Cert.NormBIdeal.nD Cert.NormBIdeal.τ Cert.NormBIdeal.sig) → Buf (Elt Ideal) ℓ) (g : Dev Cert.NormBIdeal.nD → PrngReg)
    (m' : (ℓ : Loc Cert.NormBRefIdeal.nD Cert.NormBRefIdeal.τ Cert.NormBRefIdeal.sig) → Buf (Elt Ideal) ℓ) (g' : Dev Cert.NormBRefIdeal.nD → PrngReg), Pre_NormBIdeal m →
    (∀ c : Dev Cert.NormBIdeal.nD,
      m' ((c.tc : Thread Cert.NormBRefIdeal.nD Cert.NormBRefIdeal.τ).loc Cert.NormBRefIdeal.main_arg0) = m ((c.tc : Thread Cert.NormBIdeal.nD Cert.NormBIdeal.τ).loc Cert.NormBIdeal.main_arg0)
      ∧ m' ((c.tc : Thread Cert.NormBRefIdeal.nD Cert.NormBRefIdeal.τ).loc Cert.NormBRefIdeal.main_arg1) = m ((c.tc : Thread Cert.NormBIdeal.nD Cert.NormBIdeal.τ).loc Cert.NormBIdeal.main_arg1)
      ∧ m' ((c.tc : Thread Cert.NormBRefIdeal.nD Cert.NormBRefIdeal.τ).loc Cert.NormBRefIdeal.main_arg2) = m ((c.tc : Thread Cert.NormBIdeal.nD Cert.NormBIdeal.τ).loc Cert.NormBIdeal.main_arg2)
      ∧ m' ((c.tc : Thread Cert.NormBRefIdeal.nD Cert.NormBRefIdeal.τ).loc Cert.NormBRefIdeal.main_arg3) = m ((c.tc : Thread Cert.NormBIdeal.nD Cert.NormBIdeal.τ).loc Cert.NormBIdeal.main_arg3)
      ∧ m' ((c.tc : Thread Cert.NormBRefIdeal.nD Cert.NormBRefIdeal.τ).loc Cert.NormBRefIdeal.main_arg4) = m ((c.tc : Thread Cert.NormBIdeal.nD Cert.NormBIdeal.τ).loc Cert.NormBIdeal.main_arg4)
      ∧ m' ((c.tc : Thread Cert.NormBRefIdeal.nD Cert.NormBRefIdeal.τ).loc Cert.NormBRefIdeal.main_arg5) = m ((c.tc : Thread Cert.NormBIdeal.nD Cert.NormBIdeal.τ).loc Cert.NormBIdeal.main_arg5)) →
    ∃ (v0 : (c : Dev Cert.NormBIdeal.nD) → Buf (Elt Ideal) ((c.tc : Thread Cert.NormBIdeal.nD Cert.NormBIdeal.τ).loc Cert.NormBIdeal.main_v0_0)) (v1 : (c : Dev Cert.NormBIdeal.nD) → Buf (Elt Ideal) ((c.tc : Thread Cert.NormBIdeal.nD Cert.NormBIdeal.τ).loc Cert.NormBIdeal.main_v0_1)) (v2 : (c : Dev Cert.NormBIdeal.nD) → Buf (Elt Ideal) ((c.tc : Thread Cert.NormBIdeal.nD Cert.NormBIdeal.τ).loc Cert.NormBIdeal.main_v0_2)) (v3 : (c : Dev Cert.NormBIdeal.nD) → Buf (Elt Ideal) ((c.tc : Thread Cert.NormBIdeal.nD Cert.NormBIdeal.τ).loc Cert.NormBIdeal.main_v0_3)),
      θ_run (Cert.NormBIdeal.defs (F := Ideal)) (onTc (τ := Cert.NormBIdeal.τ) (Cert.NormBIdeal.main (F := Ideal))) ⟨m, fun _ => 0, g⟩ (fun r => ∀ c : Dev Cert.NormBIdeal.nD,
          r.2.mem ((c.tc : Thread Cert.NormBIdeal.nD Cert.NormBIdeal.τ).loc Cert.NormBIdeal.main_v0_0) = v0 c
          ∧ r.2.mem ((c.tc : Thread Cert.NormBIdeal.nD Cert.NormBIdeal.τ).loc Cert.NormBIdeal.main_v0_1) = v1 c
          ∧ r.2.mem ((c.tc : Thread Cert.NormBIdeal.nD Cert.NormBIdeal.τ).loc Cert.NormBIdeal.main_v0_2) = v2 c
          ∧ r.2.mem ((c.tc : Thread Cert.NormBIdeal.nD Cert.NormBIdeal.τ).loc Cert.NormBIdeal.main_v0_3) = v3 c
          ∧ r.2.mem ((c.tc : Thread Cert.NormBIdeal.nD Cert.NormBIdeal.τ).loc Cert.NormBIdeal.main_arg0) = m ((c.tc : Thread Cert.NormBIdeal.nD Cert.NormBIdeal.τ).loc Cert.NormBIdeal.main_arg0)
          ∧ r.2.mem ((c.tc : Thread Cert.NormBIdeal.nD Cert.NormBIdeal.τ).loc Cert.NormBIdeal.main_arg1) = m ((c.tc : Thread Cert.NormBIdeal.nD Cert.NormBIdeal.τ).loc Cert.NormBIdeal.main_arg1)
          ∧ r.2.mem ((c.tc : Thread Cert.NormBIdeal.nD Cert.NormBIdeal.τ).loc Cert.NormBIdeal.main_arg2) = m ((c.tc : Thread Cert.NormBIdeal.nD Cert.NormBIdeal.τ).loc Cert.NormBIdeal.main_arg2)
          ∧ r.2.mem ((c.tc : Thread Cert.NormBIdeal.nD Cert.NormBIdeal.τ).loc Cert.NormBIdeal.main_arg3) = m ((c.tc : Thread Cert.NormBIdeal.nD Cert.NormBIdeal.τ).loc Cert.NormBIdeal.main_arg3)
          ∧ r.2.mem ((c.tc : Thread Cert.NormBIdeal.nD Cert.NormBIdeal.τ).loc Cert.NormBIdeal.main_arg4) = m ((c.tc : Thread Cert.NormBIdeal.nD Cert.NormBIdeal.τ).loc Cert.NormBIdeal.main_arg4)
          ∧ r.2.mem ((c.tc : Thread Cert.NormBIdeal.nD Cert.NormBIdeal.τ).loc Cert.NormBIdeal.main_arg5) = m ((c.tc : Thread Cert.NormBIdeal.nD Cert.NormBIdeal.τ).loc Cert.NormBIdeal.main_arg5))
      ∧ θ_run (Cert.NormBRefIdeal.defs (F := Ideal)) (onTc (τ := Cert.NormBRefIdeal.τ) (Cert.NormBRefIdeal.main (F := Ideal))) ⟨m', fun _ => 0, g'⟩ (fun r => ∀ c : Dev Cert.NormBRefIdeal.nD,
          r.2.mem ((c.tc : Thread Cert.NormBRefIdeal.nD Cert.NormBRefIdeal.τ).loc Cert.NormBRefIdeal.main_v49) = v0 c
          ∧ r.2.mem ((c.tc : Thread Cert.NormBRefIdeal.nD Cert.NormBRefIdeal.τ).loc Cert.NormBRefIdeal.main_v31) = v1 c
          ∧ r.2.mem ((c.tc : Thread Cert.NormBRefIdeal.nD Cert.NormBRefIdeal.τ).loc Cert.NormBRefIdeal.main_v26) = v2 c
          ∧ r.2.mem ((c.tc : Thread Cert.NormBRefIdeal.nD Cert.NormBRefIdeal.τ).loc Cert.NormBRefIdeal.main_v23) = v3 c
          ∧ r.2.mem ((c.tc : Thread Cert.NormBRefIdeal.nD Cert.NormBRefIdeal.τ).loc Cert.NormBRefIdeal.main_arg0) = m' ((c.tc : Thread Cert.NormBRefIdeal.nD Cert.NormBRefIdeal.τ).loc Cert.NormBRefIdeal.main_arg0)
          ∧ r.2.mem ((c.tc : Thread Cert.NormBRefIdeal.nD Cert.NormBRefIdeal.τ).loc Cert.NormBRefIdeal.main_arg1) = m' ((c.tc : Thread Cert.NormBRefIdeal.nD Cert.NormBRefIdeal.τ).loc Cert.NormBRefIdeal.main_arg1)
          ∧ r.2.mem ((c.tc : Thread Cert.NormBRefIdeal.nD Cert.NormBRefIdeal.τ).loc Cert.NormBRefIdeal.main_arg2) = m' ((c.tc : Thread Cert.NormBRefIdeal.nD Cert.NormBRefIdeal.τ).loc Cert.NormBRefIdeal.main_arg2)
          ∧ r.2.mem ((c.tc : Thread Cert.NormBRefIdeal.nD Cert.NormBRefIdeal.τ).loc Cert.NormBRefIdeal.main_arg3) = m' ((c.tc : Thread Cert.NormBRefIdeal.nD Cert.NormBRefIdeal.τ).loc Cert.NormBRefIdeal.main_arg3)
          ∧ r.2.mem ((c.tc : Thread Cert.NormBRefIdeal.nD Cert.NormBRefIdeal.τ).loc Cert.NormBRefIdeal.main_arg4) = m' ((c.tc : Thread Cert.NormBRefIdeal.nD Cert.NormBRefIdeal.τ).loc Cert.NormBRefIdeal.main_arg4)
          ∧ r.2.mem ((c.tc : Thread Cert.NormBRefIdeal.nD Cert.NormBRefIdeal.τ).loc Cert.NormBRefIdeal.main_arg5) = m' ((c.tc : Thread Cert.NormBRefIdeal.nD Cert.NormBRefIdeal.τ).loc Cert.NormBRefIdeal.main_arg5))

def preserves_ResB_ResBIdeal : Prop :=
  True

def algebraic_ResBIdeal_ResBRefIdeal [hResBIdeal : Cert.ResBIdeal.Facts] [hResBRefIdeal : Cert.ResBRefIdeal.Facts] : Prop :=
  ∀ (m : (ℓ : Loc Cert.ResBIdeal.nD Cert.ResBIdeal.τ Cert.ResBIdeal.sig) → Buf (Elt Ideal) ℓ) (g : Dev Cert.ResBIdeal.nD → PrngReg)
    (m' : (ℓ : Loc Cert.ResBRefIdeal.nD Cert.ResBRefIdeal.τ Cert.ResBRefIdeal.sig) → Buf (Elt Ideal) ℓ) (g' : Dev Cert.ResBRefIdeal.nD → PrngReg), Pre_ResBIdeal m →
    (∀ c : Dev Cert.ResBIdeal.nD,
      m' ((c.tc : Thread Cert.ResBRefIdeal.nD Cert.ResBRefIdeal.τ).loc Cert.ResBRefIdeal.main_arg0) = m ((c.tc : Thread Cert.ResBIdeal.nD Cert.ResBIdeal.τ).loc Cert.ResBIdeal.main_arg0)
      ∧ m' ((c.tc : Thread Cert.ResBRefIdeal.nD Cert.ResBRefIdeal.τ).loc Cert.ResBRefIdeal.main_arg1) = m ((c.tc : Thread Cert.ResBIdeal.nD Cert.ResBIdeal.τ).loc Cert.ResBIdeal.main_arg1)
      ∧ m' ((c.tc : Thread Cert.ResBRefIdeal.nD Cert.ResBRefIdeal.τ).loc Cert.ResBRefIdeal.main_arg2) = m ((c.tc : Thread Cert.ResBIdeal.nD Cert.ResBIdeal.τ).loc Cert.ResBIdeal.main_arg2)
      ∧ m' ((c.tc : Thread Cert.ResBRefIdeal.nD Cert.ResBRefIdeal.τ).loc Cert.ResBRefIdeal.main_arg3) = m ((c.tc : Thread Cert.ResBIdeal.nD Cert.ResBIdeal.τ).loc Cert.ResBIdeal.main_arg3)) →
    ∃ (v0 : (c : Dev Cert.ResBIdeal.nD) → Buf (Elt Ideal) ((c.tc : Thread Cert.ResBIdeal.nD Cert.ResBIdeal.τ).loc Cert.ResBIdeal.main_v0_0)) (v1 : (c : Dev Cert.ResBIdeal.nD) → Buf (Elt Ideal) ((c.tc : Thread Cert.ResBIdeal.nD Cert.ResBIdeal.τ).loc Cert.ResBIdeal.main_v0_1)) (v2 : (c : Dev Cert.ResBIdeal.nD) → Buf (Elt Ideal) ((c.tc : Thread Cert.ResBIdeal.nD Cert.ResBIdeal.τ).loc Cert.ResBIdeal.main_v0_2)),
      θ_run (Cert.ResBIdeal.defs (F := Ideal)) (onTc (τ := Cert.ResBIdeal.τ) (Cert.ResBIdeal.main (F := Ideal))) ⟨m, fun _ => 0, g⟩ (fun r => ∀ c : Dev Cert.ResBIdeal.nD,
          r.2.mem ((c.tc : Thread Cert.ResBIdeal.nD Cert.ResBIdeal.τ).loc Cert.ResBIdeal.main_v0_0) = v0 c
          ∧ r.2.mem ((c.tc : Thread Cert.ResBIdeal.nD Cert.ResBIdeal.τ).loc Cert.ResBIdeal.main_v0_1) = v1 c
          ∧ r.2.mem ((c.tc : Thread Cert.ResBIdeal.nD Cert.ResBIdeal.τ).loc Cert.ResBIdeal.main_v0_2) = v2 c
          ∧ r.2.mem ((c.tc : Thread Cert.ResBIdeal.nD Cert.ResBIdeal.τ).loc Cert.ResBIdeal.main_arg0) = m ((c.tc : Thread Cert.ResBIdeal.nD Cert.ResBIdeal.τ).loc Cert.ResBIdeal.main_arg0)
          ∧ r.2.mem ((c.tc : Thread Cert.ResBIdeal.nD Cert.ResBIdeal.τ).loc Cert.ResBIdeal.main_arg1) = m ((c.tc : Thread Cert.ResBIdeal.nD Cert.ResBIdeal.τ).loc Cert.ResBIdeal.main_arg1)
          ∧ r.2.mem ((c.tc : Thread Cert.ResBIdeal.nD Cert.ResBIdeal.τ).loc Cert.ResBIdeal.main_arg2) = m ((c.tc : Thread Cert.ResBIdeal.nD Cert.ResBIdeal.τ).loc Cert.ResBIdeal.main_arg2)
          ∧ r.2.mem ((c.tc : Thread Cert.ResBIdeal.nD Cert.ResBIdeal.τ).loc Cert.ResBIdeal.main_arg3) = m ((c.tc : Thread Cert.ResBIdeal.nD Cert.ResBIdeal.τ).loc Cert.ResBIdeal.main_arg3))
      ∧ θ_run (Cert.ResBRefIdeal.defs (F := Ideal)) (onTc (τ := Cert.ResBRefIdeal.τ) (Cert.ResBRefIdeal.main (F := Ideal))) ⟨m', fun _ => 0, g'⟩ (fun r => ∀ c : Dev Cert.ResBRefIdeal.nD,
          r.2.mem ((c.tc : Thread Cert.ResBRefIdeal.nD Cert.ResBRefIdeal.τ).loc Cert.ResBRefIdeal.main_v42) = v0 c
          ∧ r.2.mem ((c.tc : Thread Cert.ResBRefIdeal.nD Cert.ResBRefIdeal.τ).loc Cert.ResBRefIdeal.main_v21) = v1 c
          ∧ r.2.mem ((c.tc : Thread Cert.ResBRefIdeal.nD Cert.ResBRefIdeal.τ).loc Cert.ResBRefIdeal.main_v24) = v2 c
          ∧ r.2.mem ((c.tc : Thread Cert.ResBRefIdeal.nD Cert.ResBRefIdeal.τ).loc Cert.ResBRefIdeal.main_arg0) = m' ((c.tc : Thread Cert.ResBRefIdeal.nD Cert.ResBRefIdeal.τ).loc Cert.ResBRefIdeal.main_arg0)
          ∧ r.2.mem ((c.tc : Thread Cert.ResBRefIdeal.nD Cert.ResBRefIdeal.τ).loc Cert.ResBRefIdeal.main_arg1) = m' ((c.tc : Thread Cert.ResBRefIdeal.nD Cert.ResBRefIdeal.τ).loc Cert.ResBRefIdeal.main_arg1)
          ∧ r.2.mem ((c.tc : Thread Cert.ResBRefIdeal.nD Cert.ResBRefIdeal.τ).loc Cert.ResBRefIdeal.main_arg2) = m' ((c.tc : Thread Cert.ResBRefIdeal.nD Cert.ResBRefIdeal.τ).loc Cert.ResBRefIdeal.main_arg2)
          ∧ r.2.mem ((c.tc : Thread Cert.ResBRefIdeal.nD Cert.ResBRefIdeal.τ).loc Cert.ResBRefIdeal.main_arg3) = m' ((c.tc : Thread Cert.ResBRefIdeal.nD Cert.ResBRefIdeal.τ).loc Cert.ResBRefIdeal.main_arg3))

def preserves_ResBiasB_ResBiasBIdeal : Prop :=
  True

def algebraic_ResBiasBIdeal_ResBiasBRefIdeal [hResBiasBIdeal : Cert.ResBiasBIdeal.Facts] [hResBiasBRefIdeal : Cert.ResBiasBRefIdeal.Facts] : Prop :=
  ∀ (m : (ℓ : Loc Cert.ResBiasBIdeal.nD Cert.ResBiasBIdeal.τ Cert.ResBiasBIdeal.sig) → Buf (Elt Ideal) ℓ) (g : Dev Cert.ResBiasBIdeal.nD → PrngReg)
    (m' : (ℓ : Loc Cert.ResBiasBRefIdeal.nD Cert.ResBiasBRefIdeal.τ Cert.ResBiasBRefIdeal.sig) → Buf (Elt Ideal) ℓ) (g' : Dev Cert.ResBiasBRefIdeal.nD → PrngReg), Pre_ResBiasBIdeal m →
    (∀ c : Dev Cert.ResBiasBIdeal.nD,
      m' ((c.tc : Thread Cert.ResBiasBRefIdeal.nD Cert.ResBiasBRefIdeal.τ).loc Cert.ResBiasBRefIdeal.main_arg0) = m ((c.tc : Thread Cert.ResBiasBIdeal.nD Cert.ResBiasBIdeal.τ).loc Cert.ResBiasBIdeal.main_arg0)
      ∧ m' ((c.tc : Thread Cert.ResBiasBRefIdeal.nD Cert.ResBiasBRefIdeal.τ).loc Cert.ResBiasBRefIdeal.main_arg1) = m ((c.tc : Thread Cert.ResBiasBIdeal.nD Cert.ResBiasBIdeal.τ).loc Cert.ResBiasBIdeal.main_arg1)
      ∧ m' ((c.tc : Thread Cert.ResBiasBRefIdeal.nD Cert.ResBiasBRefIdeal.τ).loc Cert.ResBiasBRefIdeal.main_arg2) = m ((c.tc : Thread Cert.ResBiasBIdeal.nD Cert.ResBiasBIdeal.τ).loc Cert.ResBiasBIdeal.main_arg2)
      ∧ m' ((c.tc : Thread Cert.ResBiasBRefIdeal.nD Cert.ResBiasBRefIdeal.τ).loc Cert.ResBiasBRefIdeal.main_arg3) = m ((c.tc : Thread Cert.ResBiasBIdeal.nD Cert.ResBiasBIdeal.τ).loc Cert.ResBiasBIdeal.main_arg3)
      ∧ m' ((c.tc : Thread Cert.ResBiasBRefIdeal.nD Cert.ResBiasBRefIdeal.τ).loc Cert.ResBiasBRefIdeal.main_arg4) = m ((c.tc : Thread Cert.ResBiasBIdeal.nD Cert.ResBiasBIdeal.τ).loc Cert.ResBiasBIdeal.main_arg4)) →
    ∃ (v0 : (c : Dev Cert.ResBiasBIdeal.nD) → Buf (Elt Ideal) ((c.tc : Thread Cert.ResBiasBIdeal.nD Cert.ResBiasBIdeal.τ).loc Cert.ResBiasBIdeal.main_v0_0)) (v1 : (c : Dev Cert.ResBiasBIdeal.nD) → Buf (Elt Ideal) ((c.tc : Thread Cert.ResBiasBIdeal.nD Cert.ResBiasBIdeal.τ).loc Cert.ResBiasBIdeal.main_v0_1)) (v2 : (c : Dev Cert.ResBiasBIdeal.nD) → Buf (Elt Ideal) ((c.tc : Thread Cert.ResBiasBIdeal.nD Cert.ResBiasBIdeal.τ).loc Cert.ResBiasBIdeal.main_v0_2)) (v3 : (c : Dev Cert.ResBiasBIdeal.nD) → Buf (Elt Ideal) ((c.tc : Thread Cert.ResBiasBIdeal.nD Cert.ResBiasBIdeal.τ).loc Cert.ResBiasBIdeal.main_v0_3)),
      θ_run (Cert.ResBiasBIdeal.defs (F := Ideal)) (onTc (τ := Cert.ResBiasBIdeal.τ) (Cert.ResBiasBIdeal.main (F := Ideal))) ⟨m, fun _ => 0, g⟩ (fun r => ∀ c : Dev Cert.ResBiasBIdeal.nD,
          r.2.mem ((c.tc : Thread Cert.ResBiasBIdeal.nD Cert.ResBiasBIdeal.τ).loc Cert.ResBiasBIdeal.main_v0_0) = v0 c
          ∧ r.2.mem ((c.tc : Thread Cert.ResBiasBIdeal.nD Cert.ResBiasBIdeal.τ).loc Cert.ResBiasBIdeal.main_v0_1) = v1 c
          ∧ r.2.mem ((c.tc : Thread Cert.ResBiasBIdeal.nD Cert.ResBiasBIdeal.τ).loc Cert.ResBiasBIdeal.main_v0_2) = v2 c
          ∧ r.2.mem ((c.tc : Thread Cert.ResBiasBIdeal.nD Cert.ResBiasBIdeal.τ).loc Cert.ResBiasBIdeal.main_v0_3) = v3 c
          ∧ r.2.mem ((c.tc : Thread Cert.ResBiasBIdeal.nD Cert.ResBiasBIdeal.τ).loc Cert.ResBiasBIdeal.main_arg0) = m ((c.tc : Thread Cert.ResBiasBIdeal.nD Cert.ResBiasBIdeal.τ).loc Cert.ResBiasBIdeal.main_arg0)
          ∧ r.2.mem ((c.tc : Thread Cert.ResBiasBIdeal.nD Cert.ResBiasBIdeal.τ).loc Cert.ResBiasBIdeal.main_arg1) = m ((c.tc : Thread Cert.ResBiasBIdeal.nD Cert.ResBiasBIdeal.τ).loc Cert.ResBiasBIdeal.main_arg1)
          ∧ r.2.mem ((c.tc : Thread Cert.ResBiasBIdeal.nD Cert.ResBiasBIdeal.τ).loc Cert.ResBiasBIdeal.main_arg2) = m ((c.tc : Thread Cert.ResBiasBIdeal.nD Cert.ResBiasBIdeal.τ).loc Cert.ResBiasBIdeal.main_arg2)
          ∧ r.2.mem ((c.tc : Thread Cert.ResBiasBIdeal.nD Cert.ResBiasBIdeal.τ).loc Cert.ResBiasBIdeal.main_arg3) = m ((c.tc : Thread Cert.ResBiasBIdeal.nD Cert.ResBiasBIdeal.τ).loc Cert.ResBiasBIdeal.main_arg3)
          ∧ r.2.mem ((c.tc : Thread Cert.ResBiasBIdeal.nD Cert.ResBiasBIdeal.τ).loc Cert.ResBiasBIdeal.main_arg4) = m ((c.tc : Thread Cert.ResBiasBIdeal.nD Cert.ResBiasBIdeal.τ).loc Cert.ResBiasBIdeal.main_arg4))
      ∧ θ_run (Cert.ResBiasBRefIdeal.defs (F := Ideal)) (onTc (τ := Cert.ResBiasBRefIdeal.τ) (Cert.ResBiasBRefIdeal.main (F := Ideal))) ⟨m', fun _ => 0, g'⟩ (fun r => ∀ c : Dev Cert.ResBiasBRefIdeal.nD,
          r.2.mem ((c.tc : Thread Cert.ResBiasBRefIdeal.nD Cert.ResBiasBRefIdeal.τ).loc Cert.ResBiasBRefIdeal.main_v46) = v0 c
          ∧ r.2.mem ((c.tc : Thread Cert.ResBiasBRefIdeal.nD Cert.ResBiasBRefIdeal.τ).loc Cert.ResBiasBRefIdeal.main_v23) = v1 c
          ∧ r.2.mem ((c.tc : Thread Cert.ResBiasBRefIdeal.nD Cert.ResBiasBRefIdeal.τ).loc Cert.ResBiasBRefIdeal.main_v26) = v2 c
          ∧ r.2.mem ((c.tc : Thread Cert.ResBiasBRefIdeal.nD Cert.ResBiasBRefIdeal.τ).loc Cert.ResBiasBRefIdeal.main_v45) = v3 c
          ∧ r.2.mem ((c.tc : Thread Cert.ResBiasBRefIdeal.nD Cert.ResBiasBRefIdeal.τ).loc Cert.ResBiasBRefIdeal.main_arg0) = m' ((c.tc : Thread Cert.ResBiasBRefIdeal.nD Cert.ResBiasBRefIdeal.τ).loc Cert.ResBiasBRefIdeal.main_arg0)
          ∧ r.2.mem ((c.tc : Thread Cert.ResBiasBRefIdeal.nD Cert.ResBiasBRefIdeal.τ).loc Cert.ResBiasBRefIdeal.main_arg1) = m' ((c.tc : Thread Cert.ResBiasBRefIdeal.nD Cert.ResBiasBRefIdeal.τ).loc Cert.ResBiasBRefIdeal.main_arg1)
          ∧ r.2.mem ((c.tc : Thread Cert.ResBiasBRefIdeal.nD Cert.ResBiasBRefIdeal.τ).loc Cert.ResBiasBRefIdeal.main_arg2) = m' ((c.tc : Thread Cert.ResBiasBRefIdeal.nD Cert.ResBiasBRefIdeal.τ).loc Cert.ResBiasBRefIdeal.main_arg2)
          ∧ r.2.mem ((c.tc : Thread Cert.ResBiasBRefIdeal.nD Cert.ResBiasBRefIdeal.τ).loc Cert.ResBiasBRefIdeal.main_arg3) = m' ((c.tc : Thread Cert.ResBiasBRefIdeal.nD Cert.ResBiasBRefIdeal.τ).loc Cert.ResBiasBRefIdeal.main_arg3)
          ∧ r.2.mem ((c.tc : Thread Cert.ResBiasBRefIdeal.nD Cert.ResBiasBRefIdeal.τ).loc Cert.ResBiasBRefIdeal.main_arg4) = m' ((c.tc : Thread Cert.ResBiasBRefIdeal.nD Cert.ResBiasBRefIdeal.τ).loc Cert.ResBiasBRefIdeal.main_arg4))

def preserves_GluB_GluBIdeal : Prop :=
  True

def algebraic_GluBIdeal_GluBRefIdeal [hGluBIdeal : Cert.GluBIdeal.Facts] [hGluBRefIdeal : Cert.GluBRefIdeal.Facts] : Prop :=
  ∀ (m : (ℓ : Loc Cert.GluBIdeal.nD Cert.GluBIdeal.τ Cert.GluBIdeal.sig) → Buf (Elt Ideal) ℓ) (g : Dev Cert.GluBIdeal.nD → PrngReg)
    (m' : (ℓ : Loc Cert.GluBRefIdeal.nD Cert.GluBRefIdeal.τ Cert.GluBRefIdeal.sig) → Buf (Elt Ideal) ℓ) (g' : Dev Cert.GluBRefIdeal.nD → PrngReg), Pre_GluBIdeal m →
    (∀ c : Dev Cert.GluBIdeal.nD,
      m' ((c.tc : Thread Cert.GluBRefIdeal.nD Cert.GluBRefIdeal.τ).loc Cert.GluBRefIdeal.main_arg0) = m ((c.tc : Thread Cert.GluBIdeal.nD Cert.GluBIdeal.τ).loc Cert.GluBIdeal.main_arg0)
      ∧ m' ((c.tc : Thread Cert.GluBRefIdeal.nD Cert.GluBRefIdeal.τ).loc Cert.GluBRefIdeal.main_arg1) = m ((c.tc : Thread Cert.GluBIdeal.nD Cert.GluBIdeal.τ).loc Cert.GluBIdeal.main_arg1)
      ∧ m' ((c.tc : Thread Cert.GluBRefIdeal.nD Cert.GluBRefIdeal.τ).loc Cert.GluBRefIdeal.main_arg2) = m ((c.tc : Thread Cert.GluBIdeal.nD Cert.GluBIdeal.τ).loc Cert.GluBIdeal.main_arg2)) →
    ∃ (v0 : (c : Dev Cert.GluBIdeal.nD) → Buf (Elt Ideal) ((c.tc : Thread Cert.GluBIdeal.nD Cert.GluBIdeal.τ).loc Cert.GluBIdeal.main_v0_0)) (v1 : (c : Dev Cert.GluBIdeal.nD) → Buf (Elt Ideal) ((c.tc : Thread Cert.GluBIdeal.nD Cert.GluBIdeal.τ).loc Cert.GluBIdeal.main_v0_1)),
      θ_run (Cert.GluBIdeal.defs (F := Ideal)) (onTc (τ := Cert.GluBIdeal.τ) (Cert.GluBIdeal.main (F := Ideal))) ⟨m, fun _ => 0, g⟩ (fun r => ∀ c : Dev Cert.GluBIdeal.nD,
          r.2.mem ((c.tc : Thread Cert.GluBIdeal.nD Cert.GluBIdeal.τ).loc Cert.GluBIdeal.main_v0_0) = v0 c
          ∧ r.2.mem ((c.tc : Thread Cert.GluBIdeal.nD Cert.GluBIdeal.τ).loc Cert.GluBIdeal.main_v0_1) = v1 c
          ∧ r.2.mem ((c.tc : Thread Cert.GluBIdeal.nD Cert.GluBIdeal.τ).loc Cert.GluBIdeal.main_arg0) = m ((c.tc : Thread Cert.GluBIdeal.nD Cert.GluBIdeal.τ).loc Cert.GluBIdeal.main_arg0)
          ∧ r.2.mem ((c.tc : Thread Cert.GluBIdeal.nD Cert.GluBIdeal.τ).loc Cert.GluBIdeal.main_arg1) = m ((c.tc : Thread Cert.GluBIdeal.nD Cert.GluBIdeal.τ).loc Cert.GluBIdeal.main_arg1)
          ∧ r.2.mem ((c.tc : Thread Cert.GluBIdeal.nD Cert.GluBIdeal.τ).loc Cert.GluBIdeal.main_arg2) = m ((c.tc : Thread Cert.GluBIdeal.nD Cert.GluBIdeal.τ).loc Cert.GluBIdeal.main_arg2))
      ∧ θ_run (Cert.GluBRefIdeal.defs (F := Ideal)) (onTc (τ := Cert.GluBRefIdeal.τ) (Cert.GluBRefIdeal.main (F := Ideal))) ⟨m', fun _ => 0, g'⟩ (fun r => ∀ c : Dev Cert.GluBRefIdeal.nD,
          r.2.mem ((c.tc : Thread Cert.GluBRefIdeal.nD Cert.GluBRefIdeal.τ).loc Cert.GluBRefIdeal.main_v25) = v0 c
          ∧ r.2.mem ((c.tc : Thread Cert.GluBRefIdeal.nD Cert.GluBRefIdeal.τ).loc Cert.GluBRefIdeal.main_v24) = v1 c
          ∧ r.2.mem ((c.tc : Thread Cert.GluBRefIdeal.nD Cert.GluBRefIdeal.τ).loc Cert.GluBRefIdeal.main_arg0) = m' ((c.tc : Thread Cert.GluBRefIdeal.nD Cert.GluBRefIdeal.τ).loc Cert.GluBRefIdeal.main_arg0)
          ∧ r.2.mem ((c.tc : Thread Cert.GluBRefIdeal.nD Cert.GluBRefIdeal.τ).loc Cert.GluBRefIdeal.main_arg1) = m' ((c.tc : Thread Cert.GluBRefIdeal.nD Cert.GluBRefIdeal.τ).loc Cert.GluBRefIdeal.main_arg1)
          ∧ r.2.mem ((c.tc : Thread Cert.GluBRefIdeal.nD Cert.GluBRefIdeal.τ).loc Cert.GluBRefIdeal.main_arg2) = m' ((c.tc : Thread Cert.GluBRefIdeal.nD Cert.GluBRefIdeal.τ).loc Cert.GluBRefIdeal.main_arg2))

def preserves_LnB_LnBIdeal : Prop :=
  True

def algebraic_LnBIdeal_LnBRefIdeal [hLnBIdeal : Cert.LnBIdeal.Facts] [hLnBRefIdeal : Cert.LnBRefIdeal.Facts] : Prop :=
  ∀ (m : (ℓ : Loc Cert.LnBIdeal.nD Cert.LnBIdeal.τ Cert.LnBIdeal.sig) → Buf (Elt Ideal) ℓ) (g : Dev Cert.LnBIdeal.nD → PrngReg)
    (m' : (ℓ : Loc Cert.LnBRefIdeal.nD Cert.LnBRefIdeal.τ Cert.LnBRefIdeal.sig) → Buf (Elt Ideal) ℓ) (g' : Dev Cert.LnBRefIdeal.nD → PrngReg), Pre_LnBIdeal m →
    (∀ c : Dev Cert.LnBIdeal.nD,
      m' ((c.tc : Thread Cert.LnBRefIdeal.nD Cert.LnBRefIdeal.τ).loc Cert.LnBRefIdeal.main_arg0) = m ((c.tc : Thread Cert.LnBIdeal.nD Cert.LnBIdeal.τ).loc Cert.LnBIdeal.main_arg0)
      ∧ m' ((c.tc : Thread Cert.LnBRefIdeal.nD Cert.LnBRefIdeal.τ).loc Cert.LnBRefIdeal.main_arg1) = m ((c.tc : Thread Cert.LnBIdeal.nD Cert.LnBIdeal.τ).loc Cert.LnBIdeal.main_arg1)
      ∧ m' ((c.tc : Thread Cert.LnBRefIdeal.nD Cert.LnBRefIdeal.τ).loc Cert.LnBRefIdeal.main_arg2) = m ((c.tc : Thread Cert.LnBIdeal.nD Cert.LnBIdeal.τ).loc Cert.LnBIdeal.main_arg2)
      ∧ m' ((c.tc : Thread Cert.LnBRefIdeal.nD Cert.LnBRefIdeal.τ).loc Cert.LnBRefIdeal.main_arg3) = m ((c.tc : Thread Cert.LnBIdeal.nD Cert.LnBIdeal.τ).loc Cert.LnBIdeal.main_arg3)) →
    ∃ (v0 : (c : Dev Cert.LnBIdeal.nD) → Buf (Elt Ideal) ((c.tc : Thread Cert.LnBIdeal.nD Cert.LnBIdeal.τ).loc Cert.LnBIdeal.main_v0_0)) (v1 : (c : Dev Cert.LnBIdeal.nD) → Buf (Elt Ideal) ((c.tc : Thread Cert.LnBIdeal.nD Cert.LnBIdeal.τ).loc Cert.LnBIdeal.main_v0_1)) (v2 : (c : Dev Cert.LnBIdeal.nD) → Buf (Elt Ideal) ((c.tc : Thread Cert.LnBIdeal.nD Cert.LnBIdeal.τ).loc Cert.LnBIdeal.main_v0_2)),
      θ_run (Cert.LnBIdeal.defs (F := Ideal)) (onTc (τ := Cert.LnBIdeal.τ) (Cert.LnBIdeal.main (F := Ideal))) ⟨m, fun _ => 0, g⟩ (fun r => ∀ c : Dev Cert.LnBIdeal.nD,
          r.2.mem ((c.tc : Thread Cert.LnBIdeal.nD Cert.LnBIdeal.τ).loc Cert.LnBIdeal.main_v0_0) = v0 c
          ∧ r.2.mem ((c.tc : Thread Cert.LnBIdeal.nD Cert.LnBIdeal.τ).loc Cert.LnBIdeal.main_v0_1) = v1 c
          ∧ r.2.mem ((c.tc : Thread Cert.LnBIdeal.nD Cert.LnBIdeal.τ).loc Cert.LnBIdeal.main_v0_2) = v2 c
          ∧ r.2.mem ((c.tc : Thread Cert.LnBIdeal.nD Cert.LnBIdeal.τ).loc Cert.LnBIdeal.main_arg0) = m ((c.tc : Thread Cert.LnBIdeal.nD Cert.LnBIdeal.τ).loc Cert.LnBIdeal.main_arg0)
          ∧ r.2.mem ((c.tc : Thread Cert.LnBIdeal.nD Cert.LnBIdeal.τ).loc Cert.LnBIdeal.main_arg1) = m ((c.tc : Thread Cert.LnBIdeal.nD Cert.LnBIdeal.τ).loc Cert.LnBIdeal.main_arg1)
          ∧ r.2.mem ((c.tc : Thread Cert.LnBIdeal.nD Cert.LnBIdeal.τ).loc Cert.LnBIdeal.main_arg2) = m ((c.tc : Thread Cert.LnBIdeal.nD Cert.LnBIdeal.τ).loc Cert.LnBIdeal.main_arg2)
          ∧ r.2.mem ((c.tc : Thread Cert.LnBIdeal.nD Cert.LnBIdeal.τ).loc Cert.LnBIdeal.main_arg3) = m ((c.tc : Thread Cert.LnBIdeal.nD Cert.LnBIdeal.τ).loc Cert.LnBIdeal.main_arg3))
      ∧ θ_run (Cert.LnBRefIdeal.defs (F := Ideal)) (onTc (τ := Cert.LnBRefIdeal.τ) (Cert.LnBRefIdeal.main (F := Ideal))) ⟨m', fun _ => 0, g'⟩ (fun r => ∀ c : Dev Cert.LnBRefIdeal.nD,
          r.2.mem ((c.tc : Thread Cert.LnBRefIdeal.nD Cert.LnBRefIdeal.τ).loc Cert.LnBRefIdeal.main_v72) = v0 c
          ∧ r.2.mem ((c.tc : Thread Cert.LnBRefIdeal.nD Cert.LnBRefIdeal.τ).loc Cert.LnBRefIdeal.main_v48) = v1 c
          ∧ r.2.mem ((c.tc : Thread Cert.LnBRefIdeal.nD Cert.LnBRefIdeal.τ).loc Cert.LnBRefIdeal.main_v45) = v2 c
          ∧ r.2.mem ((c.tc : Thread Cert.LnBRefIdeal.nD Cert.LnBRefIdeal.τ).loc Cert.LnBRefIdeal.main_arg0) = m' ((c.tc : Thread Cert.LnBRefIdeal.nD Cert.LnBRefIdeal.τ).loc Cert.LnBRefIdeal.main_arg0)
          ∧ r.2.mem ((c.tc : Thread Cert.LnBRefIdeal.nD Cert.LnBRefIdeal.τ).loc Cert.LnBRefIdeal.main_arg1) = m' ((c.tc : Thread Cert.LnBRefIdeal.nD Cert.LnBRefIdeal.τ).loc Cert.LnBRefIdeal.main_arg1)
          ∧ r.2.mem ((c.tc : Thread Cert.LnBRefIdeal.nD Cert.LnBRefIdeal.τ).loc Cert.LnBRefIdeal.main_arg2) = m' ((c.tc : Thread Cert.LnBRefIdeal.nD Cert.LnBRefIdeal.τ).loc Cert.LnBRefIdeal.main_arg2)
          ∧ r.2.mem ((c.tc : Thread Cert.LnBRefIdeal.nD Cert.LnBRefIdeal.τ).loc Cert.LnBRefIdeal.main_arg3) = m' ((c.tc : Thread Cert.LnBRefIdeal.nD Cert.LnBRefIdeal.τ).loc Cert.LnBRefIdeal.main_arg3))

def preserves_SpatialFwd_SpatialFwdIdeal : Prop :=
  True

def algebraic_SpatialFwdIdeal_SpatialFwdRefIdeal [hSpatialFwdIdeal : Cert.SpatialFwdIdeal.Facts] [hSpatialFwdRefIdeal : Cert.SpatialFwdRefIdeal.Facts] : Prop :=
  ∀ (m : (ℓ : Loc Cert.SpatialFwdIdeal.nD Cert.SpatialFwdIdeal.τ Cert.SpatialFwdIdeal.sig) → Buf (Elt Ideal) ℓ) (g : Dev Cert.SpatialFwdIdeal.nD → PrngReg)
    (m' : (ℓ : Loc Cert.SpatialFwdRefIdeal.nD Cert.SpatialFwdRefIdeal.τ Cert.SpatialFwdRefIdeal.sig) → Buf (Elt Ideal) ℓ) (g' : Dev Cert.SpatialFwdRefIdeal.nD → PrngReg), Pre_SpatialFwdIdeal m →
    (∀ c : Dev Cert.SpatialFwdIdeal.nD,
      m' ((c.tc : Thread Cert.SpatialFwdRefIdeal.nD Cert.SpatialFwdRefIdeal.τ).loc Cert.SpatialFwdRefIdeal.main_arg0) = m ((c.tc : Thread Cert.SpatialFwdIdeal.nD Cert.SpatialFwdIdeal.τ).loc Cert.SpatialFwdIdeal.main_arg0)
      ∧ m' ((c.tc : Thread Cert.SpatialFwdRefIdeal.nD Cert.SpatialFwdRefIdeal.τ).loc Cert.SpatialFwdRefIdeal.main_arg1) = m ((c.tc : Thread Cert.SpatialFwdIdeal.nD Cert.SpatialFwdIdeal.τ).loc Cert.SpatialFwdIdeal.main_arg1)
      ∧ m' ((c.tc : Thread Cert.SpatialFwdRefIdeal.nD Cert.SpatialFwdRefIdeal.τ).loc Cert.SpatialFwdRefIdeal.main_arg2) = m ((c.tc : Thread Cert.SpatialFwdIdeal.nD Cert.SpatialFwdIdeal.τ).loc Cert.SpatialFwdIdeal.main_arg2)
      ∧ m' ((c.tc : Thread Cert.SpatialFwdRefIdeal.nD Cert.SpatialFwdRefIdeal.τ).loc Cert.SpatialFwdRefIdeal.main_arg3) = m ((c.tc : Thread Cert.SpatialFwdIdeal.nD Cert.SpatialFwdIdeal.τ).loc Cert.SpatialFwdIdeal.main_arg3)) →
    ∃ (v0 : (c : Dev Cert.SpatialFwdIdeal.nD) → Buf (Elt Ideal) ((c.tc : Thread Cert.SpatialFwdIdeal.nD Cert.SpatialFwdIdeal.τ).loc Cert.SpatialFwdIdeal.main_v0)),
      θ_run (Cert.SpatialFwdIdeal.defs (F := Ideal)) (onTc (τ := Cert.SpatialFwdIdeal.τ) (Cert.SpatialFwdIdeal.main (F := Ideal))) ⟨m, fun _ => 0, g⟩ (fun r => ∀ c : Dev Cert.SpatialFwdIdeal.nD,
          r.2.mem ((c.tc : Thread Cert.SpatialFwdIdeal.nD Cert.SpatialFwdIdeal.τ).loc Cert.SpatialFwdIdeal.main_v0) = v0 c
          ∧ r.2.mem ((c.tc : Thread Cert.SpatialFwdIdeal.nD Cert.SpatialFwdIdeal.τ).loc Cert.SpatialFwdIdeal.main_arg0) = m ((c.tc : Thread Cert.SpatialFwdIdeal.nD Cert.SpatialFwdIdeal.τ).loc Cert.SpatialFwdIdeal.main_arg0)
          ∧ r.2.mem ((c.tc : Thread Cert.SpatialFwdIdeal.nD Cert.SpatialFwdIdeal.τ).loc Cert.SpatialFwdIdeal.main_arg1) = m ((c.tc : Thread Cert.SpatialFwdIdeal.nD Cert.SpatialFwdIdeal.τ).loc Cert.SpatialFwdIdeal.main_arg1)
          ∧ r.2.mem ((c.tc : Thread Cert.SpatialFwdIdeal.nD Cert.SpatialFwdIdeal.τ).loc Cert.SpatialFwdIdeal.main_arg2) = m ((c.tc : Thread Cert.SpatialFwdIdeal.nD Cert.SpatialFwdIdeal.τ).loc Cert.SpatialFwdIdeal.main_arg2)
          ∧ r.2.mem ((c.tc : Thread Cert.SpatialFwdIdeal.nD Cert.SpatialFwdIdeal.τ).loc Cert.SpatialFwdIdeal.main_arg3) = m ((c.tc : Thread Cert.SpatialFwdIdeal.nD Cert.SpatialFwdIdeal.τ).loc Cert.SpatialFwdIdeal.main_arg3))
      ∧ θ_run (Cert.SpatialFwdRefIdeal.defs (F := Ideal)) (onTc (τ := Cert.SpatialFwdRefIdeal.τ) (Cert.SpatialFwdRefIdeal.main (F := Ideal))) ⟨m', fun _ => 0, g'⟩ (fun r => ∀ c : Dev Cert.SpatialFwdRefIdeal.nD,
          r.2.mem ((c.tc : Thread Cert.SpatialFwdRefIdeal.nD Cert.SpatialFwdRefIdeal.τ).loc Cert.SpatialFwdRefIdeal.main_v12) = v0 c
          ∧ r.2.mem ((c.tc : Thread Cert.SpatialFwdRefIdeal.nD Cert.SpatialFwdRefIdeal.τ).loc Cert.SpatialFwdRefIdeal.main_arg0) = m' ((c.tc : Thread Cert.SpatialFwdRefIdeal.nD Cert.SpatialFwdRefIdeal.τ).loc Cert.SpatialFwdRefIdeal.main_arg0)
          ∧ r.2.mem ((c.tc : Thread Cert.SpatialFwdRefIdeal.nD Cert.SpatialFwdRefIdeal.τ).loc Cert.SpatialFwdRefIdeal.main_arg1) = m' ((c.tc : Thread Cert.SpatialFwdRefIdeal.nD Cert.SpatialFwdRefIdeal.τ).loc Cert.SpatialFwdRefIdeal.main_arg1)
          ∧ r.2.mem ((c.tc : Thread Cert.SpatialFwdRefIdeal.nD Cert.SpatialFwdRefIdeal.τ).loc Cert.SpatialFwdRefIdeal.main_arg2) = m' ((c.tc : Thread Cert.SpatialFwdRefIdeal.nD Cert.SpatialFwdRefIdeal.τ).loc Cert.SpatialFwdRefIdeal.main_arg2)
          ∧ r.2.mem ((c.tc : Thread Cert.SpatialFwdRefIdeal.nD Cert.SpatialFwdRefIdeal.τ).loc Cert.SpatialFwdRefIdeal.main_arg3) = m' ((c.tc : Thread Cert.SpatialFwdRefIdeal.nD Cert.SpatialFwdRefIdeal.τ).loc Cert.SpatialFwdRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def Claim : Prop :=
  ∃ (hKernel : Cert.Kernel.Facts) (hKernelIdeal : Cert.KernelIdeal.Facts) (hReferenceIdeal : Cert.ReferenceIdeal.Facts) (hConvIn0 : Cert.ConvIn0.Facts) (hConvIn0Ideal : Cert.ConvIn0Ideal.Facts) (hConvIn0RefIdeal : Cert.ConvIn0RefIdeal.Facts) (hConvIn0Bx : Cert.ConvIn0Bx.Facts) (hConvIn0BxIdeal : Cert.ConvIn0BxIdeal.Facts) (hConvIn0BxRefIdeal : Cert.ConvIn0BxRefIdeal.Facts) (hConvIn0Bw : Cert.ConvIn0Bw.Facts) (hConvIn0BwIdeal : Cert.ConvIn0BwIdeal.Facts) (hConvIn0BwRefIdeal : Cert.ConvIn0BwRefIdeal.Facts) (hConvIn3 : Cert.ConvIn3.Facts) (hConvIn3Ideal : Cert.ConvIn3Ideal.Facts) (hConvIn3RefIdeal : Cert.ConvIn3RefIdeal.Facts) (hConvIn3Bx : Cert.ConvIn3Bx.Facts) (hConvIn3BxIdeal : Cert.ConvIn3BxIdeal.Facts) (hConvIn3BxRefIdeal : Cert.ConvIn3BxRefIdeal.Facts) (hConvIn3Bw : Cert.ConvIn3Bw.Facts) (hConvIn3BwIdeal : Cert.ConvIn3BwIdeal.Facts) (hConvIn3BwRefIdeal : Cert.ConvIn3BwRefIdeal.Facts) (hConvOut0 : Cert.ConvOut0.Facts) (hConvOut0Ideal : Cert.ConvOut0Ideal.Facts) (hConvOut0RefIdeal : Cert.ConvOut0RefIdeal.Facts) (hConvOut0Bx : Cert.ConvOut0Bx.Facts) (hConvOut0BxIdeal : Cert.ConvOut0BxIdeal.Facts) (hConvOut0BxRefIdeal : Cert.ConvOut0BxRefIdeal.Facts) (hConvOut0Bw : Cert.ConvOut0Bw.Facts) (hConvOut0BwIdeal : Cert.ConvOut0BwIdeal.Facts) (hConvOut0BwRefIdeal : Cert.ConvOut0BwRefIdeal.Facts) (hConvOut3 : Cert.ConvOut3.Facts) (hConvOut3Ideal : Cert.ConvOut3Ideal.Facts) (hConvOut3RefIdeal : Cert.ConvOut3RefIdeal.Facts) (hConvOut3Bx : Cert.ConvOut3Bx.Facts) (hConvOut3BxIdeal : Cert.ConvOut3BxIdeal.Facts) (hConvOut3BxRefIdeal : Cert.ConvOut3BxRefIdeal.Facts) (hConvOut3Bw : Cert.ConvOut3Bw.Facts) (hConvOut3BwIdeal : Cert.ConvOut3BwIdeal.Facts) (hConvOut3BwRefIdeal : Cert.ConvOut3BwRefIdeal.Facts) (hQkv : Cert.Qkv.Facts) (hQkvIdeal : Cert.QkvIdeal.Facts) (hQkvRefIdeal : Cert.QkvRefIdeal.Facts) (hQkvBx : Cert.QkvBx.Facts) (hQkvBxIdeal : Cert.QkvBxIdeal.Facts) (hQkvBxRefIdeal : Cert.QkvBxRefIdeal.Facts) (hQkvBw : Cert.QkvBw.Facts) (hQkvBwIdeal : Cert.QkvBwIdeal.Facts) (hQkvBwRefIdeal : Cert.QkvBwRefIdeal.Facts) (hGateIn : Cert.GateIn.Facts) (hGateInIdeal : Cert.GateInIdeal.Facts) (hGateInRefIdeal : Cert.GateInRefIdeal.Facts) (hGateInBx : Cert.GateInBx.Facts) (hGateInBxIdeal : Cert.GateInBxIdeal.Facts) (hGateInBxRefIdeal : Cert.GateInBxRefIdeal.Facts) (hGateInBw : Cert.GateInBw.Facts) (hGateInBwIdeal : Cert.GateInBwIdeal.Facts) (hGateInBwRefIdeal : Cert.GateInBwRefIdeal.Facts) (hGateOut : Cert.GateOut.Facts) (hGateOutIdeal : Cert.GateOutIdeal.Facts) (hGateOutRefIdeal : Cert.GateOutRefIdeal.Facts) (hGateOutBx : Cert.GateOutBx.Facts) (hGateOutBxIdeal : Cert.GateOutBxIdeal.Facts) (hGateOutBxRefIdeal : Cert.GateOutBxRefIdeal.Facts) (hGateOutBw : Cert.GateOutBw.Facts) (hGateOutBwIdeal : Cert.GateOutBwIdeal.Facts) (hGateOutBwRefIdeal : Cert.GateOutBwRefIdeal.Facts) (hFfnUp0Bx : Cert.FfnUp0Bx.Facts) (hFfnUp0BxIdeal : Cert.FfnUp0BxIdeal.Facts) (hFfnUp0BxRefIdeal : Cert.FfnUp0BxRefIdeal.Facts) (hFfnUp0Bw : Cert.FfnUp0Bw.Facts) (hFfnUp0BwIdeal : Cert.FfnUp0BwIdeal.Facts) (hFfnUp0BwRefIdeal : Cert.FfnUp0BwRefIdeal.Facts) (hFfnUpBx : Cert.FfnUpBx.Facts) (hFfnUpBxIdeal : Cert.FfnUpBxIdeal.Facts) (hFfnUpBxRefIdeal : Cert.FfnUpBxRefIdeal.Facts) (hFfnUpBw : Cert.FfnUpBw.Facts) (hFfnUpBwIdeal : Cert.FfnUpBwIdeal.Facts) (hFfnUpBwRefIdeal : Cert.FfnUpBwRefIdeal.Facts) (hAdamwSmall : Cert.AdamwSmall.Facts) (hAdamwSmallIdeal : Cert.AdamwSmallIdeal.Facts) (hAdamwSmallRefIdeal : Cert.AdamwSmallRefIdeal.Facts) (hAdamwRepl : Cert.AdamwRepl.Facts) (hAdamwReplIdeal : Cert.AdamwReplIdeal.Facts) (hAdamwReplRefIdeal : Cert.AdamwReplRefIdeal.Facts) (hAdamwAdaW : Cert.AdamwAdaW.Facts) (hAdamwAdaWIdeal : Cert.AdamwAdaWIdeal.Facts) (hAdamwAdaWRefIdeal : Cert.AdamwAdaWRefIdeal.Facts) (hAdamwAdaB : Cert.AdamwAdaB.Facts) (hAdamwAdaBIdeal : Cert.AdamwAdaBIdeal.Facts) (hAdamwAdaBRefIdeal : Cert.AdamwAdaBRefIdeal.Facts) (hAdamwFfnUp : Cert.AdamwFfnUp.Facts) (hAdamwFfnUpIdeal : Cert.AdamwFfnUpIdeal.Facts) (hAdamwFfnUpRefIdeal : Cert.AdamwFfnUpRefIdeal.Facts) (hAdamwFfnDown : Cert.AdamwFfnDown.Facts) (hAdamwFfnDownIdeal : Cert.AdamwFfnDownIdeal.Facts) (hAdamwFfnDownRefIdeal : Cert.AdamwFfnDownRefIdeal.Facts) (hAdamwConvIn : Cert.AdamwConvIn.Facts) (hAdamwConvInIdeal : Cert.AdamwConvInIdeal.Facts) (hAdamwConvInRefIdeal : Cert.AdamwConvInRefIdeal.Facts) (hAdamwConvOut : Cert.AdamwConvOut.Facts) (hAdamwConvOutIdeal : Cert.AdamwConvOutIdeal.Facts) (hAdamwConvOutRefIdeal : Cert.AdamwConvOutRefIdeal.Facts) (hAdamwQkv : Cert.AdamwQkv.Facts) (hAdamwQkvIdeal : Cert.AdamwQkvIdeal.Facts) (hAdamwQkvRefIdeal : Cert.AdamwQkvRefIdeal.Facts) (hAdamwAttnOut : Cert.AdamwAttnOut.Facts) (hAdamwAttnOutIdeal : Cert.AdamwAttnOutIdeal.Facts) (hAdamwAttnOutRefIdeal : Cert.AdamwAttnOutRefIdeal.Facts) (hAdamwGateIn : Cert.AdamwGateIn.Facts) (hAdamwGateInIdeal : Cert.AdamwGateInIdeal.Facts) (hAdamwGateInRefIdeal : Cert.AdamwGateInRefIdeal.Facts) (hAdamwGateOut : Cert.AdamwGateOut.Facts) (hAdamwGateOutIdeal : Cert.AdamwGateOutIdeal.Facts) (hAdamwGateOutRefIdeal : Cert.AdamwGateOutRefIdeal.Facts) (hNormB : Cert.NormB.Facts) (hNormBIdeal : Cert.NormBIdeal.Facts) (hNormBRefIdeal : Cert.NormBRefIdeal.Facts) (hResB : Cert.ResB.Facts) (hResBIdeal : Cert.ResBIdeal.Facts) (hResBRefIdeal : Cert.ResBRefIdeal.Facts) (hResBiasB : Cert.ResBiasB.Facts) (hResBiasBIdeal : Cert.ResBiasBIdeal.Facts) (hResBiasBRefIdeal : Cert.ResBiasBRefIdeal.Facts) (hGluB : Cert.GluB.Facts) (hGluBIdeal : Cert.GluBIdeal.Facts) (hGluBRefIdeal : Cert.GluBRefIdeal.Facts) (hLnB : Cert.LnB.Facts) (hLnBIdeal : Cert.LnBIdeal.Facts) (hLnBRefIdeal : Cert.LnBRefIdeal.Facts) (hSpatialFwd : Cert.SpatialFwd.Facts) (hSpatialFwdIdeal : Cert.SpatialFwdIdeal.Facts) (hSpatialFwdRefIdeal : Cert.SpatialFwdRefIdeal.Facts) (hLoss : Cert.Loss.Facts) (hLossIdeal : Cert.LossIdeal.Facts) (hLossRefIdeal : Cert.LossRefIdeal.Facts),
    quiescent_Kernel (hKernel := hKernel)
    ∧ quiescent_KernelIdeal (hKernelIdeal := hKernelIdeal)
    ∧ quiescent_ReferenceIdeal (hReferenceIdeal := hReferenceIdeal)
    ∧ quiescent_ConvIn0 (hConvIn0 := hConvIn0)
    ∧ quiescent_ConvIn0Ideal (hConvIn0Ideal := hConvIn0Ideal)
    ∧ quiescent_ConvIn0RefIdeal (hConvIn0RefIdeal := hConvIn0RefIdeal)
    ∧ quiescent_ConvIn0Bx (hConvIn0Bx := hConvIn0Bx)
    ∧ quiescent_ConvIn0BxIdeal (hConvIn0BxIdeal := hConvIn0BxIdeal)
    ∧ quiescent_ConvIn0BxRefIdeal (hConvIn0BxRefIdeal := hConvIn0BxRefIdeal)
    ∧ quiescent_ConvIn0Bw (hConvIn0Bw := hConvIn0Bw)
    ∧ quiescent_ConvIn0BwIdeal (hConvIn0BwIdeal := hConvIn0BwIdeal)
    ∧ quiescent_ConvIn0BwRefIdeal (hConvIn0BwRefIdeal := hConvIn0BwRefIdeal)
    ∧ quiescent_ConvIn3 (hConvIn3 := hConvIn3)
    ∧ quiescent_ConvIn3Ideal (hConvIn3Ideal := hConvIn3Ideal)
    ∧ quiescent_ConvIn3RefIdeal (hConvIn3RefIdeal := hConvIn3RefIdeal)
    ∧ quiescent_ConvIn3Bx (hConvIn3Bx := hConvIn3Bx)
    ∧ quiescent_ConvIn3BxIdeal (hConvIn3BxIdeal := hConvIn3BxIdeal)
    ∧ quiescent_ConvIn3BxRefIdeal (hConvIn3BxRefIdeal := hConvIn3BxRefIdeal)
    ∧ quiescent_ConvIn3Bw (hConvIn3Bw := hConvIn3Bw)
    ∧ quiescent_ConvIn3BwIdeal (hConvIn3BwIdeal := hConvIn3BwIdeal)
    ∧ quiescent_ConvIn3BwRefIdeal (hConvIn3BwRefIdeal := hConvIn3BwRefIdeal)
    ∧ quiescent_ConvOut0 (hConvOut0 := hConvOut0)
    ∧ quiescent_ConvOut0Ideal (hConvOut0Ideal := hConvOut0Ideal)
    ∧ quiescent_ConvOut0RefIdeal (hConvOut0RefIdeal := hConvOut0RefIdeal)
    ∧ quiescent_ConvOut0Bx (hConvOut0Bx := hConvOut0Bx)
    ∧ quiescent_ConvOut0BxIdeal (hConvOut0BxIdeal := hConvOut0BxIdeal)
    ∧ quiescent_ConvOut0BxRefIdeal (hConvOut0BxRefIdeal := hConvOut0BxRefIdeal)
    ∧ quiescent_ConvOut0Bw (hConvOut0Bw := hConvOut0Bw)
    ∧ quiescent_ConvOut0BwIdeal (hConvOut0BwIdeal := hConvOut0BwIdeal)
    ∧ quiescent_ConvOut0BwRefIdeal (hConvOut0BwRefIdeal := hConvOut0BwRefIdeal)
    ∧ quiescent_ConvOut3 (hConvOut3 := hConvOut3)
    ∧ quiescent_ConvOut3Ideal (hConvOut3Ideal := hConvOut3Ideal)
    ∧ quiescent_ConvOut3RefIdeal (hConvOut3RefIdeal := hConvOut3RefIdeal)
    ∧ quiescent_ConvOut3Bx (hConvOut3Bx := hConvOut3Bx)
    ∧ quiescent_ConvOut3BxIdeal (hConvOut3BxIdeal := hConvOut3BxIdeal)
    ∧ quiescent_ConvOut3BxRefIdeal (hConvOut3BxRefIdeal := hConvOut3BxRefIdeal)
    ∧ quiescent_ConvOut3Bw (hConvOut3Bw := hConvOut3Bw)
    ∧ quiescent_ConvOut3BwIdeal (hConvOut3BwIdeal := hConvOut3BwIdeal)
    ∧ quiescent_ConvOut3BwRefIdeal (hConvOut3BwRefIdeal := hConvOut3BwRefIdeal)
    ∧ quiescent_Qkv (hQkv := hQkv)
    ∧ quiescent_QkvIdeal (hQkvIdeal := hQkvIdeal)
    ∧ quiescent_QkvRefIdeal (hQkvRefIdeal := hQkvRefIdeal)
    ∧ quiescent_QkvBx (hQkvBx := hQkvBx)
    ∧ quiescent_QkvBxIdeal (hQkvBxIdeal := hQkvBxIdeal)
    ∧ quiescent_QkvBxRefIdeal (hQkvBxRefIdeal := hQkvBxRefIdeal)
    ∧ quiescent_QkvBw (hQkvBw := hQkvBw)
    ∧ quiescent_QkvBwIdeal (hQkvBwIdeal := hQkvBwIdeal)
    ∧ quiescent_QkvBwRefIdeal (hQkvBwRefIdeal := hQkvBwRefIdeal)
    ∧ quiescent_GateIn (hGateIn := hGateIn)
    ∧ quiescent_GateInIdeal (hGateInIdeal := hGateInIdeal)
    ∧ quiescent_GateInRefIdeal (hGateInRefIdeal := hGateInRefIdeal)
    ∧ quiescent_GateInBx (hGateInBx := hGateInBx)
    ∧ quiescent_GateInBxIdeal (hGateInBxIdeal := hGateInBxIdeal)
    ∧ quiescent_GateInBxRefIdeal (hGateInBxRefIdeal := hGateInBxRefIdeal)
    ∧ quiescent_GateInBw (hGateInBw := hGateInBw)
    ∧ quiescent_GateInBwIdeal (hGateInBwIdeal := hGateInBwIdeal)
    ∧ quiescent_GateInBwRefIdeal (hGateInBwRefIdeal := hGateInBwRefIdeal)
    ∧ quiescent_GateOut (hGateOut := hGateOut)
    ∧ quiescent_GateOutIdeal (hGateOutIdeal := hGateOutIdeal)
    ∧ quiescent_GateOutRefIdeal (hGateOutRefIdeal := hGateOutRefIdeal)
    ∧ quiescent_GateOutBx (hGateOutBx := hGateOutBx)
    ∧ quiescent_GateOutBxIdeal (hGateOutBxIdeal := hGateOutBxIdeal)
    ∧ quiescent_GateOutBxRefIdeal (hGateOutBxRefIdeal := hGateOutBxRefIdeal)
    ∧ quiescent_GateOutBw (hGateOutBw := hGateOutBw)
    ∧ quiescent_GateOutBwIdeal (hGateOutBwIdeal := hGateOutBwIdeal)
    ∧ quiescent_GateOutBwRefIdeal (hGateOutBwRefIdeal := hGateOutBwRefIdeal)
    ∧ quiescent_FfnUp0Bx (hFfnUp0Bx := hFfnUp0Bx)
    ∧ quiescent_FfnUp0BxIdeal (hFfnUp0BxIdeal := hFfnUp0BxIdeal)
    ∧ quiescent_FfnUp0BxRefIdeal (hFfnUp0BxRefIdeal := hFfnUp0BxRefIdeal)
    ∧ quiescent_FfnUp0Bw (hFfnUp0Bw := hFfnUp0Bw)
    ∧ quiescent_FfnUp0BwIdeal (hFfnUp0BwIdeal := hFfnUp0BwIdeal)
    ∧ quiescent_FfnUp0BwRefIdeal (hFfnUp0BwRefIdeal := hFfnUp0BwRefIdeal)
    ∧ quiescent_FfnUpBx (hFfnUpBx := hFfnUpBx)
    ∧ quiescent_FfnUpBxIdeal (hFfnUpBxIdeal := hFfnUpBxIdeal)
    ∧ quiescent_FfnUpBxRefIdeal (hFfnUpBxRefIdeal := hFfnUpBxRefIdeal)
    ∧ quiescent_FfnUpBw (hFfnUpBw := hFfnUpBw)
    ∧ quiescent_FfnUpBwIdeal (hFfnUpBwIdeal := hFfnUpBwIdeal)
    ∧ quiescent_FfnUpBwRefIdeal (hFfnUpBwRefIdeal := hFfnUpBwRefIdeal)
    ∧ quiescent_AdamwSmall (hAdamwSmall := hAdamwSmall)
    ∧ quiescent_AdamwSmallIdeal (hAdamwSmallIdeal := hAdamwSmallIdeal)
    ∧ quiescent_AdamwSmallRefIdeal (hAdamwSmallRefIdeal := hAdamwSmallRefIdeal)
    ∧ quiescent_AdamwRepl (hAdamwRepl := hAdamwRepl)
    ∧ quiescent_AdamwReplIdeal (hAdamwReplIdeal := hAdamwReplIdeal)
    ∧ quiescent_AdamwReplRefIdeal (hAdamwReplRefIdeal := hAdamwReplRefIdeal)
    ∧ quiescent_AdamwAdaW (hAdamwAdaW := hAdamwAdaW)
    ∧ quiescent_AdamwAdaWIdeal (hAdamwAdaWIdeal := hAdamwAdaWIdeal)
    ∧ quiescent_AdamwAdaWRefIdeal (hAdamwAdaWRefIdeal := hAdamwAdaWRefIdeal)
    ∧ quiescent_AdamwAdaB (hAdamwAdaB := hAdamwAdaB)
    ∧ quiescent_AdamwAdaBIdeal (hAdamwAdaBIdeal := hAdamwAdaBIdeal)
    ∧ quiescent_AdamwAdaBRefIdeal (hAdamwAdaBRefIdeal := hAdamwAdaBRefIdeal)
    ∧ quiescent_AdamwFfnUp (hAdamwFfnUp := hAdamwFfnUp)
    ∧ quiescent_AdamwFfnUpIdeal (hAdamwFfnUpIdeal := hAdamwFfnUpIdeal)
    ∧ quiescent_AdamwFfnUpRefIdeal (hAdamwFfnUpRefIdeal := hAdamwFfnUpRefIdeal)
    ∧ quiescent_AdamwFfnDown (hAdamwFfnDown := hAdamwFfnDown)
    ∧ quiescent_AdamwFfnDownIdeal (hAdamwFfnDownIdeal := hAdamwFfnDownIdeal)
    ∧ quiescent_AdamwFfnDownRefIdeal (hAdamwFfnDownRefIdeal := hAdamwFfnDownRefIdeal)
    ∧ quiescent_AdamwConvIn (hAdamwConvIn := hAdamwConvIn)
    ∧ quiescent_AdamwConvInIdeal (hAdamwConvInIdeal := hAdamwConvInIdeal)
    ∧ quiescent_AdamwConvInRefIdeal (hAdamwConvInRefIdeal := hAdamwConvInRefIdeal)
    ∧ quiescent_AdamwConvOut (hAdamwConvOut := hAdamwConvOut)
    ∧ quiescent_AdamwConvOutIdeal (hAdamwConvOutIdeal := hAdamwConvOutIdeal)
    ∧ quiescent_AdamwConvOutRefIdeal (hAdamwConvOutRefIdeal := hAdamwConvOutRefIdeal)
    ∧ quiescent_AdamwQkv (hAdamwQkv := hAdamwQkv)
    ∧ quiescent_AdamwQkvIdeal (hAdamwQkvIdeal := hAdamwQkvIdeal)
    ∧ quiescent_AdamwQkvRefIdeal (hAdamwQkvRefIdeal := hAdamwQkvRefIdeal)
    ∧ quiescent_AdamwAttnOut (hAdamwAttnOut := hAdamwAttnOut)
    ∧ quiescent_AdamwAttnOutIdeal (hAdamwAttnOutIdeal := hAdamwAttnOutIdeal)
    ∧ quiescent_AdamwAttnOutRefIdeal (hAdamwAttnOutRefIdeal := hAdamwAttnOutRefIdeal)
    ∧ quiescent_AdamwGateIn (hAdamwGateIn := hAdamwGateIn)
    ∧ quiescent_AdamwGateInIdeal (hAdamwGateInIdeal := hAdamwGateInIdeal)
    ∧ quiescent_AdamwGateInRefIdeal (hAdamwGateInRefIdeal := hAdamwGateInRefIdeal)
    ∧ quiescent_AdamwGateOut (hAdamwGateOut := hAdamwGateOut)
    ∧ quiescent_AdamwGateOutIdeal (hAdamwGateOutIdeal := hAdamwGateOutIdeal)
    ∧ quiescent_AdamwGateOutRefIdeal (hAdamwGateOutRefIdeal := hAdamwGateOutRefIdeal)
    ∧ quiescent_NormB (hNormB := hNormB)
    ∧ quiescent_NormBIdeal (hNormBIdeal := hNormBIdeal)
    ∧ quiescent_NormBRefIdeal (hNormBRefIdeal := hNormBRefIdeal)
    ∧ quiescent_ResB (hResB := hResB)
    ∧ quiescent_ResBIdeal (hResBIdeal := hResBIdeal)
    ∧ quiescent_ResBRefIdeal (hResBRefIdeal := hResBRefIdeal)
    ∧ quiescent_ResBiasB (hResBiasB := hResBiasB)
    ∧ quiescent_ResBiasBIdeal (hResBiasBIdeal := hResBiasBIdeal)
    ∧ quiescent_ResBiasBRefIdeal (hResBiasBRefIdeal := hResBiasBRefIdeal)
    ∧ quiescent_GluB (hGluB := hGluB)
    ∧ quiescent_GluBIdeal (hGluBIdeal := hGluBIdeal)
    ∧ quiescent_GluBRefIdeal (hGluBRefIdeal := hGluBRefIdeal)
    ∧ quiescent_LnB (hLnB := hLnB)
    ∧ quiescent_LnBIdeal (hLnBIdeal := hLnBIdeal)
    ∧ quiescent_LnBRefIdeal (hLnBRefIdeal := hLnBRefIdeal)
    ∧ quiescent_SpatialFwd (hSpatialFwd := hSpatialFwd)
    ∧ quiescent_SpatialFwdIdeal (hSpatialFwdIdeal := hSpatialFwdIdeal)
    ∧ quiescent_SpatialFwdRefIdeal (hSpatialFwdRefIdeal := hSpatialFwdRefIdeal)
    ∧ quiescent_Loss (hLoss := hLoss)
    ∧ quiescent_LossIdeal (hLossIdeal := hLossIdeal)
    ∧ quiescent_LossRefIdeal (hLossRefIdeal := hLossRefIdeal)
    ∧ preserves_Kernel_KernelIdeal
    ∧ algebraic_KernelIdeal_ReferenceIdeal (hKernelIdeal := hKernelIdeal) (hReferenceIdeal := hReferenceIdeal)
    ∧ preserves_ConvIn0_ConvIn0Ideal
    ∧ algebraic_ConvIn0Ideal_ConvIn0RefIdeal (hConvIn0Ideal := hConvIn0Ideal) (hConvIn0RefIdeal := hConvIn0RefIdeal)
    ∧ preserves_ConvIn0Bx_ConvIn0BxIdeal
    ∧ algebraic_ConvIn0BxIdeal_ConvIn0BxRefIdeal (hConvIn0BxIdeal := hConvIn0BxIdeal) (hConvIn0BxRefIdeal := hConvIn0BxRefIdeal)
    ∧ preserves_ConvIn0Bw_ConvIn0BwIdeal
    ∧ algebraic_ConvIn0BwIdeal_ConvIn0BwRefIdeal (hConvIn0BwIdeal := hConvIn0BwIdeal) (hConvIn0BwRefIdeal := hConvIn0BwRefIdeal)
    ∧ preserves_ConvIn3_ConvIn3Ideal
    ∧ algebraic_ConvIn3Ideal_ConvIn3RefIdeal (hConvIn3Ideal := hConvIn3Ideal) (hConvIn3RefIdeal := hConvIn3RefIdeal)
    ∧ preserves_ConvIn3Bx_ConvIn3BxIdeal
    ∧ algebraic_ConvIn3BxIdeal_ConvIn3BxRefIdeal (hConvIn3BxIdeal := hConvIn3BxIdeal) (hConvIn3BxRefIdeal := hConvIn3BxRefIdeal)
    ∧ preserves_ConvIn3Bw_ConvIn3BwIdeal
    ∧ algebraic_ConvIn3BwIdeal_ConvIn3BwRefIdeal (hConvIn3BwIdeal := hConvIn3BwIdeal) (hConvIn3BwRefIdeal := hConvIn3BwRefIdeal)
    ∧ preserves_ConvOut0_ConvOut0Ideal
    ∧ algebraic_ConvOut0Ideal_ConvOut0RefIdeal (hConvOut0Ideal := hConvOut0Ideal) (hConvOut0RefIdeal := hConvOut0RefIdeal)
    ∧ preserves_ConvOut0Bx_ConvOut0BxIdeal
    ∧ algebraic_ConvOut0BxIdeal_ConvOut0BxRefIdeal (hConvOut0BxIdeal := hConvOut0BxIdeal) (hConvOut0BxRefIdeal := hConvOut0BxRefIdeal)
    ∧ preserves_ConvOut0Bw_ConvOut0BwIdeal
    ∧ algebraic_ConvOut0BwIdeal_ConvOut0BwRefIdeal (hConvOut0BwIdeal := hConvOut0BwIdeal) (hConvOut0BwRefIdeal := hConvOut0BwRefIdeal)
    ∧ preserves_ConvOut3_ConvOut3Ideal
    ∧ algebraic_ConvOut3Ideal_ConvOut3RefIdeal (hConvOut3Ideal := hConvOut3Ideal) (hConvOut3RefIdeal := hConvOut3RefIdeal)
    ∧ preserves_ConvOut3Bx_ConvOut3BxIdeal
    ∧ algebraic_ConvOut3BxIdeal_ConvOut3BxRefIdeal (hConvOut3BxIdeal := hConvOut3BxIdeal) (hConvOut3BxRefIdeal := hConvOut3BxRefIdeal)
    ∧ preserves_ConvOut3Bw_ConvOut3BwIdeal
    ∧ algebraic_ConvOut3BwIdeal_ConvOut3BwRefIdeal (hConvOut3BwIdeal := hConvOut3BwIdeal) (hConvOut3BwRefIdeal := hConvOut3BwRefIdeal)
    ∧ preserves_Qkv_QkvIdeal
    ∧ algebraic_QkvIdeal_QkvRefIdeal (hQkvIdeal := hQkvIdeal) (hQkvRefIdeal := hQkvRefIdeal)
    ∧ preserves_QkvBx_QkvBxIdeal
    ∧ algebraic_QkvBxIdeal_QkvBxRefIdeal (hQkvBxIdeal := hQkvBxIdeal) (hQkvBxRefIdeal := hQkvBxRefIdeal)
    ∧ preserves_QkvBw_QkvBwIdeal
    ∧ algebraic_QkvBwIdeal_QkvBwRefIdeal (hQkvBwIdeal := hQkvBwIdeal) (hQkvBwRefIdeal := hQkvBwRefIdeal)
    ∧ preserves_GateIn_GateInIdeal
    ∧ algebraic_GateInIdeal_GateInRefIdeal (hGateInIdeal := hGateInIdeal) (hGateInRefIdeal := hGateInRefIdeal)
    ∧ preserves_GateInBx_GateInBxIdeal
    ∧ algebraic_GateInBxIdeal_GateInBxRefIdeal (hGateInBxIdeal := hGateInBxIdeal) (hGateInBxRefIdeal := hGateInBxRefIdeal)
    ∧ preserves_GateInBw_GateInBwIdeal
    ∧ algebraic_GateInBwIdeal_GateInBwRefIdeal (hGateInBwIdeal := hGateInBwIdeal) (hGateInBwRefIdeal := hGateInBwRefIdeal)
    ∧ preserves_GateOut_GateOutIdeal
    ∧ algebraic_GateOutIdeal_GateOutRefIdeal (hGateOutIdeal := hGateOutIdeal) (hGateOutRefIdeal := hGateOutRefIdeal)
    ∧ preserves_GateOutBx_GateOutBxIdeal
    ∧ algebraic_GateOutBxIdeal_GateOutBxRefIdeal (hGateOutBxIdeal := hGateOutBxIdeal) (hGateOutBxRefIdeal := hGateOutBxRefIdeal)
    ∧ preserves_GateOutBw_GateOutBwIdeal
    ∧ algebraic_GateOutBwIdeal_GateOutBwRefIdeal (hGateOutBwIdeal := hGateOutBwIdeal) (hGateOutBwRefIdeal := hGateOutBwRefIdeal)
    ∧ preserves_FfnUp0Bx_FfnUp0BxIdeal
    ∧ algebraic_FfnUp0BxIdeal_FfnUp0BxRefIdeal (hFfnUp0BxIdeal := hFfnUp0BxIdeal) (hFfnUp0BxRefIdeal := hFfnUp0BxRefIdeal)
    ∧ preserves_FfnUp0Bw_FfnUp0BwIdeal
    ∧ algebraic_FfnUp0BwIdeal_FfnUp0BwRefIdeal (hFfnUp0BwIdeal := hFfnUp0BwIdeal) (hFfnUp0BwRefIdeal := hFfnUp0BwRefIdeal)
    ∧ preserves_FfnUpBx_FfnUpBxIdeal
    ∧ algebraic_FfnUpBxIdeal_FfnUpBxRefIdeal (hFfnUpBxIdeal := hFfnUpBxIdeal) (hFfnUpBxRefIdeal := hFfnUpBxRefIdeal)
    ∧ preserves_FfnUpBw_FfnUpBwIdeal
    ∧ algebraic_FfnUpBwIdeal_FfnUpBwRefIdeal (hFfnUpBwIdeal := hFfnUpBwIdeal) (hFfnUpBwRefIdeal := hFfnUpBwRefIdeal)
    ∧ preserves_AdamwSmall_AdamwSmallIdeal
    ∧ algebraic_AdamwSmallIdeal_AdamwSmallRefIdeal (hAdamwSmallIdeal := hAdamwSmallIdeal) (hAdamwSmallRefIdeal := hAdamwSmallRefIdeal)
    ∧ preserves_AdamwRepl_AdamwReplIdeal
    ∧ algebraic_AdamwReplIdeal_AdamwReplRefIdeal (hAdamwReplIdeal := hAdamwReplIdeal) (hAdamwReplRefIdeal := hAdamwReplRefIdeal)
    ∧ preserves_AdamwAdaW_AdamwAdaWIdeal
    ∧ algebraic_AdamwAdaWIdeal_AdamwAdaWRefIdeal (hAdamwAdaWIdeal := hAdamwAdaWIdeal) (hAdamwAdaWRefIdeal := hAdamwAdaWRefIdeal)
    ∧ preserves_AdamwAdaB_AdamwAdaBIdeal
    ∧ algebraic_AdamwAdaBIdeal_AdamwAdaBRefIdeal (hAdamwAdaBIdeal := hAdamwAdaBIdeal) (hAdamwAdaBRefIdeal := hAdamwAdaBRefIdeal)
    ∧ preserves_AdamwFfnUp_AdamwFfnUpIdeal
    ∧ algebraic_AdamwFfnUpIdeal_AdamwFfnUpRefIdeal (hAdamwFfnUpIdeal := hAdamwFfnUpIdeal) (hAdamwFfnUpRefIdeal := hAdamwFfnUpRefIdeal)
    ∧ preserves_AdamwFfnDown_AdamwFfnDownIdeal
    ∧ algebraic_AdamwFfnDownIdeal_AdamwFfnDownRefIdeal (hAdamwFfnDownIdeal := hAdamwFfnDownIdeal) (hAdamwFfnDownRefIdeal := hAdamwFfnDownRefIdeal)
    ∧ preserves_AdamwConvIn_AdamwConvInIdeal
    ∧ algebraic_AdamwConvInIdeal_AdamwConvInRefIdeal (hAdamwConvInIdeal := hAdamwConvInIdeal) (hAdamwConvInRefIdeal := hAdamwConvInRefIdeal)
    ∧ preserves_AdamwConvOut_AdamwConvOutIdeal
    ∧ algebraic_AdamwConvOutIdeal_AdamwConvOutRefIdeal (hAdamwConvOutIdeal := hAdamwConvOutIdeal) (hAdamwConvOutRefIdeal := hAdamwConvOutRefIdeal)
    ∧ preserves_AdamwQkv_AdamwQkvIdeal
    ∧ algebraic_AdamwQkvIdeal_AdamwQkvRefIdeal (hAdamwQkvIdeal := hAdamwQkvIdeal) (hAdamwQkvRefIdeal := hAdamwQkvRefIdeal)
    ∧ preserves_AdamwAttnOut_AdamwAttnOutIdeal
    ∧ algebraic_AdamwAttnOutIdeal_AdamwAttnOutRefIdeal (hAdamwAttnOutIdeal := hAdamwAttnOutIdeal) (hAdamwAttnOutRefIdeal := hAdamwAttnOutRefIdeal)
    ∧ preserves_AdamwGateIn_AdamwGateInIdeal
    ∧ algebraic_AdamwGateInIdeal_AdamwGateInRefIdeal (hAdamwGateInIdeal := hAdamwGateInIdeal) (hAdamwGateInRefIdeal := hAdamwGateInRefIdeal)
    ∧ preserves_AdamwGateOut_AdamwGateOutIdeal
    ∧ algebraic_AdamwGateOutIdeal_AdamwGateOutRefIdeal (hAdamwGateOutIdeal := hAdamwGateOutIdeal) (hAdamwGateOutRefIdeal := hAdamwGateOutRefIdeal)
    ∧ preserves_NormB_NormBIdeal
    ∧ algebraic_NormBIdeal_NormBRefIdeal (hNormBIdeal := hNormBIdeal) (hNormBRefIdeal := hNormBRefIdeal)
    ∧ preserves_ResB_ResBIdeal
    ∧ algebraic_ResBIdeal_ResBRefIdeal (hResBIdeal := hResBIdeal) (hResBRefIdeal := hResBRefIdeal)
    ∧ preserves_ResBiasB_ResBiasBIdeal
    ∧ algebraic_ResBiasBIdeal_ResBiasBRefIdeal (hResBiasBIdeal := hResBiasBIdeal) (hResBiasBRefIdeal := hResBiasBRefIdeal)
    ∧ preserves_GluB_GluBIdeal
    ∧ algebraic_GluBIdeal_GluBRefIdeal (hGluBIdeal := hGluBIdeal) (hGluBRefIdeal := hGluBRefIdeal)
    ∧ preserves_LnB_LnBIdeal
    ∧ algebraic_LnBIdeal_LnBRefIdeal (hLnBIdeal := hLnBIdeal) (hLnBRefIdeal := hLnBRefIdeal)
    ∧ preserves_SpatialFwd_SpatialFwdIdeal
    ∧ algebraic_SpatialFwdIdeal_SpatialFwdRefIdeal (hSpatialFwdIdeal := hSpatialFwdIdeal) (hSpatialFwdRefIdeal := hSpatialFwdRefIdeal)
    ∧ preserves_Loss_LossIdeal
    ∧ algebraic_LossIdeal_LossRefIdeal (hLossIdeal := hLossIdeal) (hLossRefIdeal := hLossRefIdeal)
-- ==== Kernel.lean ====
abbrev S1x2048x2048 : Shape := ⟨3, ![1, 2048, 2048]⟩
abbrev S16x128x128 : Shape := ⟨3, ![16, 128, 128]⟩
abbrev S16x128x1 : Shape := ⟨3, ![16, 128, 1]⟩
abbrev S1x128x2048 : Shape := ⟨3, ![1, 128, 2048]⟩
abbrev S1x128x128 : Shape := ⟨3, ![1, 128, 128]⟩
abbrev S128x128 : Shape := ⟨2, ![128, 128]⟩
abbrev S1x128x1 : Shape := ⟨3, ![1, 128, 1]⟩
abbrev S128x1 : Shape := ⟨2, ![128, 1]⟩
abbrev S128 : Shape := ⟨1, ![128]⟩

abbrev nBuf : Space → Nat
  | .hbm => 9
  | .vmem => 14
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .bf16⟩
  | .hbm, ⟨2, _⟩ => ⟨S16x128x128, .bf16⟩
  | .hbm, ⟨3, _⟩ => ⟨S16x128x1, .f32⟩
  | .hbm, ⟨4, _⟩ => ⟨S1x2048x2048, .f32⟩
  | .hbm, ⟨5, _⟩ => ⟨S1x2048x2048, .f32⟩
  | .hbm, ⟨6, _⟩ => ⟨S1x2048x2048, .f32⟩
  | .hbm, ⟨7, _⟩ => ⟨S16x128x128, .f32⟩
  | .hbm, ⟨8, _⟩ => ⟨S16x128x1, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .bf16⟩
  | .local _ .vmem, ⟨3, _⟩ => ⟨S1x128x2048, .bf16⟩
  | .local _ .vmem, ⟨4, _⟩ => ⟨S16x128x128, .bf16⟩
  | .local _ .vmem, ⟨5, _⟩ => ⟨S16x128x1, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S16x128x128, .f32⟩
  | .local _ .vmem, ⟨13, _⟩ => ⟨S16x128x1, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
abbrev S1x2048x2048 : Shape := ⟨3, ![1, 2048, 2048]⟩
abbrev S16x128x128 : Shape := ⟨3, ![16, 128, 128]⟩
abbrev S16x128x1 : Shape := ⟨3, ![16, 128, 1]⟩
abbrev S1x128x2048 : Shape := ⟨3, ![1, 128, 2048]⟩
abbrev S1x128x128 : Shape := ⟨3, ![1, 128, 128]⟩
abbrev S128x128 : Shape := ⟨2, ![128, 128]⟩
abbrev S1x128x1 : Shape := ⟨3, ![1, 128, 1]⟩
abbrev S128x1 : Shape := ⟨2, ![128, 1]⟩
abbrev S128 : Shape := ⟨1, ![128]⟩

abbrev nBuf : Space → Nat
  | .hbm => 9
  | .vmem => 14
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .bf16⟩
  | .hbm, ⟨2, _⟩ => ⟨S16x128x128, .bf16⟩
  | .hbm, ⟨3, _⟩ => ⟨S16x128x1, .f32⟩
  | .hbm, ⟨4, _⟩ => ⟨S1x2048x2048, .f32⟩
  | .hbm, ⟨5, _⟩ => ⟨S1x2048x2048, .f32⟩
  | .hbm, ⟨6, _⟩ => ⟨S1x2048x2048, .f32⟩
  | .hbm, ⟨7, _⟩ => ⟨S16x128x128, .f32⟩
  | .hbm, ⟨8, _⟩ => ⟨S16x128x1, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .bf16⟩
  | .local _ .vmem, ⟨3, _⟩ => ⟨S1x128x2048, .bf16⟩
  | .local _ .vmem, ⟨4, _⟩ => ⟨S16x128x128, .bf16⟩
  | .local _ .vmem, ⟨5, _⟩ => ⟨S16x128x1, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S16x128x128, .f32⟩
  | .local _ .vmem, ⟨13, _⟩ => ⟨S16x128x1, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S1x2048x2048 : Shape := ⟨3, ![1, 2048, 2048]⟩
abbrev S16x128x128 : Shape := ⟨3, ![16, 128, 128]⟩
abbrev S16x128x1 : Shape := ⟨3, ![16, 128, 1]⟩
abbrev S16x128x16x128 : Shape := ⟨4, ![16, 128, 16, 128]⟩
abbrev S16x16x128x128 : Shape := ⟨4, ![16, 16, 128, 128]⟩
abbrev S16x128 : Shape := ⟨2, ![16, 128]⟩
abbrev S128x16 : Shape := ⟨2, ![128, 16]⟩
abbrev S1x128x16x1 : Shape := ⟨4, ![1, 128, 16, 1]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .bf16⟩
  | .hbm, ⟨2, _⟩ => ⟨S16x128x128, .bf16⟩
  | .hbm, ⟨3, _⟩ => ⟨S16x128x1, .f32⟩
  | .hbm, ⟨4, _⟩ => ⟨S1x2048x2048, .f32⟩
  | .hbm, ⟨5, _⟩ => ⟨S1x2048x2048, .f32⟩
  | .hbm, ⟨6, _⟩ => ⟨S16x128x128, .f32⟩
  | .hbm, ⟨7, _⟩ => ⟨S16x128x16x128, .f32⟩
  | .hbm, ⟨8, _⟩ => ⟨S16x16x128x128, .f32⟩
  | .hbm, ⟨9, _⟩ => ⟨S16x128x16x128, .f32⟩
  | .hbm, ⟨10, _⟩ => ⟨S16x128, .f32⟩
  | .hbm, ⟨11, _⟩ => ⟨S128x16, .f32⟩
  | .hbm, ⟨12, _⟩ => ⟨S1x128x16x1, .f32⟩
  | .hbm, ⟨13, _⟩ => ⟨S16x128x16x128, .f32⟩
  | .hbm, ⟨14, _⟩ => ⟨S16x128x16x128, .f32⟩
  | .hbm, ⟨15, _⟩ => ⟨S1x2048x2048, .f32⟩
  | .hbm, ⟨16, _⟩ => ⟨S1x2048x2048, .f32⟩
  | .hbm, ⟨17, _⟩ => ⟨S1x2048x2048, .f32⟩
  | .hbm, ⟨18, _⟩ => ⟨S1x2048x2048, .f32⟩
  | .hbm, ⟨19, _⟩ => ⟨S16x128x16x128, .f32⟩
  | .hbm, ⟨20, _⟩ => ⟨S_, .f32⟩
  | .hbm, ⟨21, _⟩ => ⟨S128x16, .f32⟩
  | .hbm, ⟨22, _⟩ => ⟨S1x128x16x1, .f32⟩
  | .hbm, ⟨23, _⟩ => ⟨S_, .f32⟩
  | .hbm, ⟨24, _⟩ => ⟨S128x16, .f32⟩
  | .hbm, ⟨25, _⟩ => ⟨S16x128, .f32⟩
  | .hbm, ⟨26, _⟩ => ⟨S16x128x1, .f32⟩
  | .hbm, ⟨27, _⟩ => ⟨S16x16x128x128, .f32⟩
  | .hbm, ⟨28, _⟩ => ⟨S16x128x128, .f32⟩
  | .hbm, ⟨29, _⟩ => ⟨S16x16x128x128, .f32⟩
  | .hbm, ⟨30, _⟩ => ⟨S16x128x16x128, .f32⟩
  | .hbm, ⟨31, _⟩ => ⟨S1x2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== ConvIn0.lean ====
abbrev S1x2304x1024 : Shape := ⟨3, ![1, 2304, 1024]⟩
abbrev S1x1024x2048 : Shape := ⟨3, ![1, 1024, 2048]⟩
abbrev S1x2304x2048 : Shape := ⟨3, ![1, 2304, 2048]⟩
abbrev S1x256x1024 : Shape := ⟨3, ![1, 256, 1024]⟩
abbrev S1x256x2048 : Shape := ⟨3, ![1, 256, 2048]⟩
abbrev S256x1024 : Shape := ⟨2, ![256, 1024]⟩
abbrev S1024x2048 : Shape := ⟨2, ![1024, 2048]⟩
abbrev S256x2048 : Shape := ⟨2, ![256, 2048]⟩

abbrev nBuf : Space → Nat
  | .hbm => 3
  | .vmem => 5
  | .smem => 0
  | _ => 0

abbrev bufTy : (tb : Table) → Fin (tcTables nBuf tb) → BufTy
  | .hbm, ⟨0, _⟩ => ⟨S1x2304x1024, .bf16⟩
  | .hbm, ⟨1, _⟩ => ⟨S1x1024x2048, .bf16⟩
  | .hbm, ⟨2, _⟩ => ⟨S1x2304x2048, .f32⟩
  | .local _ .vmem, ⟨0, _⟩ => ⟨S1x256x1024, .bf16⟩
  | .local _ .vmem, ⟨1, _⟩ => ⟨S1x256x1024, .bf16⟩
  | .local _ .vmem, ⟨2, _⟩ => ⟨S1x1024x2048, .bf16⟩
  | .local _ .vmem, ⟨3, _⟩ => ⟨S1x256x2048, .f32⟩
  | .local _ .vmem, ⟨4, _⟩ => ⟨S1x256x2048, .f32⟩
  | _, _ => ⟨S1x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 9, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, false]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ConvIn0Ideal.lean ====
abbrev S1x2304x1024 : Shape := ⟨3, ![1, 2304, 1024]⟩
abbrev S1x1024x2048 : Shape := ⟨3, ![1, 1024, 2048]⟩
abbrev S1x2304x2048 : Shape := ⟨3, ![1, 2304, 2048]⟩
abbrev S1x256x1024 : Shape := ⟨3, ![1, 256, 1024]⟩
abbrev S1x256x2048 : Shape := ⟨3, ![1, 256, 2048]⟩
abbrev S256x1024 : Shape := ⟨2, ![256, 1024]⟩
abbrev S1024x2048 : Shape := ⟨2, ![1024, 2048]⟩
abbrev S256x2048 : Shape := ⟨2, ![256, 2048]⟩

abbrev nBuf : Space → Nat
  | .hbm => 3
  | .vmem => 5
  | .smem => 0
  | _ => 0

abbrev bufTy : (tb : Table) → Fin (tcTables nBuf tb) → BufTy
  | .hbm, ⟨0, _⟩ => ⟨S1x2304x1024, .bf16⟩
  | .hbm, ⟨1, _⟩ => ⟨S1x1024x2048, .bf16⟩
  | .hbm, ⟨2, _⟩ => ⟨S1x2304x2048, .f32⟩
  | .local _ .vmem, ⟨0, _⟩ => ⟨S1x256x1024, .bf16⟩
  | .local _ .vmem, ⟨1, _⟩ => ⟨S1x256x1024, .bf16⟩
  | .local _ .vmem, ⟨2, _⟩ => ⟨S1x1024x2048, .bf16⟩
  | .local _ .vmem, ⟨3, _⟩ => ⟨S1x256x2048, .f32⟩
  | .local _ .vmem, ⟨4, _⟩ => ⟨S1x256x2048, .f32⟩
  | _, _ => ⟨S1x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 9, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, false]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ConvIn0RefIdeal.lean ====
abbrev S1x2304x1024 : Shape := ⟨3, ![1, 2304, 1024]⟩
abbrev S1x1024x2048 : Shape := ⟨3, ![1, 1024, 2048]⟩
abbrev S1024x2048 : Shape := ⟨2, ![1024, 2048]⟩
abbrev S1x2304x2048 : Shape := ⟨3, ![1, 2304, 2048]⟩

abbrev nBuf : Space → Nat
  | .hbm => 6
  | .vmem => 0
  | .smem => 0
  | _ => 0

abbrev bufTy : (tb : Table) → Fin (tcTables nBuf tb) → BufTy
  | .hbm, ⟨0, _⟩ => ⟨S1x2304x1024, .bf16⟩
  | .hbm, ⟨1, _⟩ => ⟨S1x1024x2048, .bf16⟩
  | .hbm, ⟨2, _⟩ => ⟨S1x2304x1024, .f32⟩
  | .hbm, ⟨3, _⟩ => ⟨S1x1024x2048, .f32⟩
  | .hbm, ⟨4, _⟩ => ⟨S1024x2048, .f32⟩
  | .hbm, ⟨5, _⟩ => ⟨S1x2304x2048, .f32⟩
  | _, _ => ⟨S1x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ConvIn0Bx.lean ====
abbrev S1x2304x2048 : Shape := ⟨3, ![1, 2304, 2048]⟩
abbrev S1x1024x2048 : Shape := ⟨3, ![1, 1024, 2048]⟩
abbrev S1x2304x1024 : Shape := ⟨3, ![1, 2304, 1024]⟩
abbrev S1x768x2048 : Shape := ⟨3, ![1, 768, 2048]⟩
abbrev S1x768x1024 : Shape := ⟨3, ![1, 768, 1024]⟩
abbrev S768x2048 : Shape := ⟨2, ![768, 2048]⟩
abbrev S1024x2048 : Shape := ⟨2, ![1024, 2048]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1x2304x2048, .bf16⟩
  | .hbm, ⟨1, _⟩ => ⟨S1x1024x2048, .bf16⟩
  | .hbm, ⟨2, _⟩ => ⟨S1x2304x1024, .f32⟩
  | .local _ .vmem, ⟨0, _⟩ => ⟨S1x768x2048, .bf16⟩
  | .local _ .vmem, ⟨1, _⟩ => ⟨S1x768x2048, .bf16⟩
  | .local _ .vmem, ⟨2, _⟩ => ⟨S1x1024x2048, .bf16⟩
  | .local _ .vmem, ⟨3, _⟩ => ⟨S1x768x1024, .f32⟩
  | .local _ .vmem, ⟨4, _⟩ => ⟨S1x768x1024, .f32⟩
  | _, _ => ⟨S1x2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 3, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, false]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, false]

abbrev stage0_2 : Fin 2 → Memref sig .tc .vmem S1x768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ConvIn0BxIdeal.lean ====
abbrev S1x2304x2048 : Shape := ⟨3, ![1, 2304, 2048]⟩
abbrev S1x1024x2048 : Shape := ⟨3, ![1, 1024, 2048]⟩
abbrev S1x2304x1024 : Shape := ⟨3, ![1, 2304, 1024]⟩
abbrev S1x768x2048 : Shape := ⟨3, ![1, 768, 2048]⟩
abbrev S1x768x1024 : Shape := ⟨3, ![1, 768, 1024]⟩
abbrev S768x2048 : Shape := ⟨2, ![768, 2048]⟩
abbrev S1024x2048 : Shape := ⟨2, ![1024, 2048]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1x2304x2048, .bf16⟩
  | .hbm, ⟨1, _⟩ => ⟨S1x1024x2048, .bf16⟩
  | .hbm, ⟨2, _⟩ => ⟨S1x2304x1024, .f32⟩
  | .local _ .vmem, ⟨0, _⟩ => ⟨S1x768x2048, .bf16⟩
  | .local _ .vmem, ⟨1, _⟩ => ⟨S1x768x2048, .bf16⟩
  | .local _ .vmem, ⟨2, _⟩ => ⟨S1x1024x2048, .bf16⟩
  | .local _ .vmem, ⟨3, _⟩ => ⟨S1x768x1024, .f32⟩
  | .local _ .vmem, ⟨4, _⟩ => ⟨S1x768x1024, .f32⟩
  | _, _ => ⟨S1x2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 3, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, false]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, false]

abbrev stage0_2 : Fin 2 → Memref sig .tc .vmem S1x768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ConvIn0BxRefIdeal.lean ====
abbrev S1x2304x2048 : Shape := ⟨3, ![1, 2304, 2048]⟩
abbrev S1x1024x2048 : Shape := ⟨3, ![1, 1024, 2048]⟩
abbrev S_ : Shape := ⟨0, ![]⟩
abbrev S1x2304x1024 : Shape := ⟨3, ![1, 2304, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S1x2304x2048, .bf16⟩
  | .hbm, ⟨1, _⟩ => ⟨S1x1024x2048, .bf16⟩
  | .hbm, ⟨2, _⟩ => ⟨S_, .f32⟩
  | .hbm, ⟨3, _⟩ => ⟨S1x2304x1024, .f32⟩
  | .hbm, ⟨4, _⟩ => ⟨S1x1024x2048, .f32⟩
  | .hbm, ⟨5, _⟩ => ⟨S1024x2048, .f32⟩
  | .hbm, ⟨6, _⟩ => ⟨S1x2304x2048, .f32⟩
  | .hbm, ⟨7, _⟩ => ⟨S1x2304x2048, .f32⟩
  | .hbm, ⟨8, _⟩ => ⟨S1x2304x1024, .f32⟩
  | _, _ => ⟨S1x2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ConvIn0Bw.lean ====
abbrev S1x2304x1024 : Shape := ⟨3, ![1, 2304, 1024]⟩
abbrev S1x2304x2048 : Shape := ⟨3, ![1, 2304, 2048]⟩
abbrev S1x1024x2048 : Shape := ⟨3, ![1, 1024, 2048]⟩
abbrev S1x1024x1024 : Shape := ⟨3, ![1, 1024, 1024]⟩
abbrev S2304x1024 : Shape := ⟨2, ![2304, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1x2304x1024, .bf16⟩
  | .hbm, ⟨1, _⟩ => ⟨S1x2304x2048, .bf16⟩
  | .hbm, ⟨2, _⟩ => ⟨S1x1024x2048, .bf16⟩
  | .local _ .vmem, ⟨0, _⟩ => ⟨S1x2304x1024, .bf16⟩
  | .local _ .vmem, ⟨1, _⟩ => ⟨S1x2304x1024, .bf16⟩
  | .local _ .vmem, ⟨2, _⟩ => ⟨S1x2304x1024, .bf16⟩
  | .local _ .vmem, ⟨3, _⟩ => ⟨S1x1024x1024, .bf16⟩
  | .local _ .vmem, ⟨4, _⟩ => ⟨S1x1024x1024, .bf16⟩
  | _, _ => ⟨S1x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 2, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 1 → Memref sig .tc .vmem S1x2304x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true, true]

abbrev stage0_1 : Fin 2 → Memref sig .tc .vmem S1x2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ConvIn0BwIdeal.lean ====
abbrev S1x2304x1024 : Shape := ⟨3, ![1, 2304, 1024]⟩
abbrev S1x2304x2048 : Shape := ⟨3, ![1, 2304, 2048]⟩
abbrev S1x1024x2048 : Shape := ⟨3, ![1, 1024, 2048]⟩
abbrev S1x1024x1024 : Shape := ⟨3, ![1, 1024, 1024]⟩
abbrev S2304x1024 : Shape := ⟨2, ![2304, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1x2304x1024, .bf16⟩
  | .hbm, ⟨1, _⟩ => ⟨S1x2304x2048, .bf16⟩
  | .hbm, ⟨2, _⟩ => ⟨S1x1024x2048, .bf16⟩
  | .local _ .vmem, ⟨0, _⟩ => ⟨S1x2304x1024, .bf16⟩
  | .local _ .vmem, ⟨1, _⟩ => ⟨S1x2304x1024, .bf16⟩
  | .local _ .vmem, ⟨2, _⟩ => ⟨S1x2304x1024, .bf16⟩
  | .local _ .vmem, ⟨3, _⟩ => ⟨S1x1024x1024, .bf16⟩
  | .local _ .vmem, ⟨4, _⟩ => ⟨S1x1024x1024, .bf16⟩
  | _, _ => ⟨S1x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 2, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 1 → Memref sig .tc .vmem S1x2304x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true, true]

abbrev stage0_1 : Fin 2 → Memref sig .tc .vmem S1x2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ConvIn0BwRefIdeal.lean ====
abbrev S1x2304x1024 : Shape := ⟨3, ![1, 2304, 1024]⟩
abbrev S1x2304x2048 : Shape := ⟨3, ![1, 2304, 2048]⟩
abbrev S_ : Shape := ⟨0, ![]⟩
abbrev S1x1024x2048 : Shape := ⟨3, ![1, 1024, 2048]⟩
abbrev S1024x2048 : Shape := ⟨2, ![1024, 2048]⟩
abbrev S2048x1024 : Shape := ⟨2, ![2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S1x2304x1024, .bf16⟩
  | .hbm, ⟨1, _⟩ => ⟨S1x2304x2048, .bf16⟩
  | .hbm, ⟨2, _⟩ => ⟨S_, .f32⟩
  | .hbm, ⟨3, _⟩ => ⟨S1x1024x2048, .f32⟩
  | .hbm, ⟨4, _⟩ => ⟨S1x2304x1024, .f32⟩
  | .hbm, ⟨5, _⟩ => ⟨S1024x2048, .f32⟩
  | .hbm, ⟨6, _⟩ => ⟨S1x2304x2048, .f32⟩
  | .hbm, ⟨7, _⟩ => ⟨S1x2304x2048, .f32⟩
  | .hbm, ⟨8, _⟩ => ⟨S2048x1024, .f32⟩
  | .hbm, ⟨9, _⟩ => ⟨S1024x2048, .f32⟩
  | .hbm, ⟨10, _⟩ => ⟨S1x1024x2048, .f32⟩
  | .hbm, ⟨11, _⟩ => ⟨S1x1024x2048, .bf16⟩
  | _, _ => ⟨S1x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== ConvIn3.lean ====
abbrev S1x2048x1024 : Shape := ⟨3, ![1, 2048, 1024]⟩
abbrev S1x1024x2048 : Shape := ⟨3, ![1, 1024, 2048]⟩
abbrev S1x2048x2048 : Shape := ⟨3, ![1, 2048, 2048]⟩
abbrev S1x512x1024 : Shape := ⟨3, ![1, 512, 1024]⟩
abbrev S1x512x2048 : Shape := ⟨3, ![1, 512, 2048]⟩
abbrev S512x1024 : Shape := ⟨2, ![512, 1024]⟩
abbrev S1024x2048 : Shape := ⟨2, ![1024, 2048]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S1x2048x1024, .bf16⟩
  | .hbm, ⟨1, _⟩ => ⟨S1x1024x2048, .bf16⟩
  | .hbm, ⟨2, _⟩ => ⟨S1x2048x2048, .f32⟩
  | .local _ .vmem, ⟨0, _⟩ => ⟨S1x512x1024, .bf16⟩
  | .local _ .vmem, ⟨1, _⟩ => ⟨S1x512x1024, .bf16⟩
  | .local _ .vmem, ⟨2, _⟩ => ⟨S1x1024x2048, .bf16⟩
  | .local _ .vmem, ⟨3, _⟩ => ⟨S1x512x2048, .f32⟩
  | .local _ .vmem, ⟨4, _⟩ => ⟨S1x512x2048, .f32⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 4, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, false]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ConvIn3Ideal.lean ====
abbrev S1x2048x1024 : Shape := ⟨3, ![1, 2048, 1024]⟩
abbrev S1x1024x2048 : Shape := ⟨3, ![1, 1024, 2048]⟩
abbrev S1x2048x2048 : Shape := ⟨3, ![1, 2048, 2048]⟩
abbrev S1x512x1024 : Shape := ⟨3, ![1, 512, 1024]⟩
abbrev S1x512x2048 : Shape := ⟨3, ![1, 512, 2048]⟩
abbrev S512x1024 : Shape := ⟨2, ![512, 1024]⟩
abbrev S1024x2048 : Shape := ⟨2, ![1024, 2048]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S1x2048x1024, .bf16⟩
  | .hbm, ⟨1, _⟩ => ⟨S1x1024x2048, .bf16⟩
  | .hbm, ⟨2, _⟩ => ⟨S1x2048x2048, .f32⟩
  | .local _ .vmem, ⟨0, _⟩ => ⟨S1x512x1024, .bf16⟩
  | .local _ .vmem, ⟨1, _⟩ => ⟨S1x512x1024, .bf16⟩
  | .local _ .vmem, ⟨2, _⟩ => ⟨S1x1024x2048, .bf16⟩
  | .local _ .vmem, ⟨3, _⟩ => ⟨S1x512x2048, .f32⟩
  | .local _ .vmem, ⟨4, _⟩ => ⟨S1x512x2048, .f32⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 4, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, false]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ConvIn3RefIdeal.lean ====
abbrev S1x2048x1024 : Shape := ⟨3, ![1, 2048, 1024]⟩
abbrev S1x1024x2048 : Shape := ⟨3, ![1, 1024, 2048]⟩
abbrev S1024x2048 : Shape := ⟨2, ![1024, 2048]⟩
abbrev S1x2048x2048 : Shape := ⟨3, ![1, 2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S1x2048x1024, .bf16⟩
  | .hbm, ⟨1, _⟩ => ⟨S1x1024x2048, .bf16⟩
  | .hbm, ⟨2, _⟩ => ⟨S1x2048x1024, .f32⟩
  | .hbm, ⟨3, _⟩ => ⟨S1x1024x2048, .f32⟩
  | .hbm, ⟨4, _⟩ => ⟨S1024x2048, .f32⟩
  | .hbm, ⟨5, _⟩ => ⟨S1x2048x2048, .f32⟩
  | _, _ => ⟨S1x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ConvIn3Bx.lean ====
abbrev S1x2048x2048 : Shape := ⟨3, ![1, 2048, 2048]⟩
abbrev S1x1024x2048 : Shape := ⟨3, ![1, 1024, 2048]⟩
abbrev S1x2048x1024 : Shape := ⟨3, ![1, 2048, 1024]⟩
abbrev S1x1024x1024 : Shape := ⟨3, ![1, 1024, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1x2048x2048, .bf16⟩
  | .hbm, ⟨1, _⟩ => ⟨S1x1024x2048, .bf16⟩
  | .hbm, ⟨2, _⟩ => ⟨S1x2048x1024, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S1x1024x1024, .f32⟩
  | .local _ .vmem, ⟨4, _⟩ => ⟨S1x1024x1024, .f32⟩
  | _, _ => ⟨S1x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 2, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, false]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ConvIn3BxIdeal.lean ====
abbrev S1x2048x2048 : Shape := ⟨3, ![1, 2048, 2048]⟩
abbrev S1x1024x2048 : Shape := ⟨3, ![1, 1024, 2048]⟩
abbrev S1x2048x1024 : Shape := ⟨3, ![1, 2048, 1024]⟩
abbrev S1x1024x1024 : Shape := ⟨3, ![1, 1024, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1x2048x2048, .bf16⟩
  | .hbm, ⟨1, _⟩ => ⟨S1x1024x2048, .bf16⟩
  | .hbm, ⟨2, _⟩ => ⟨S1x2048x1024, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S1x1024x1024, .f32⟩
  | .local _ .vmem, ⟨4, _⟩ => ⟨S1x1024x1024, .f32⟩
  | _, _ => ⟨S1x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 2, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, false]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ConvIn3BxRefIdeal.lean ====
abbrev S1x2048x2048 : Shape := ⟨3, ![1, 2048, 2048]⟩
abbrev S1x1024x2048 : Shape := ⟨3, ![1, 1024, 2048]⟩
abbrev S_ : Shape := ⟨0, ![]⟩
abbrev S1x2048x1024 : Shape := ⟨3, ![1, 2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S1x2048x2048, .bf16⟩
  | .hbm, ⟨1, _⟩ => ⟨S1x1024x2048, .bf16⟩
  | .hbm, ⟨2, _⟩ => ⟨S_, .f32⟩
  | .hbm, ⟨3, _⟩ => ⟨S1x2048x1024, .f32⟩
  | .hbm, ⟨4, _⟩ => ⟨S1x1024x2048, .f32⟩
  | .hbm, ⟨5, _⟩ => ⟨S1024x2048, .f32⟩
  | .hbm, ⟨6, _⟩ => ⟨S1x2048x2048, .f32⟩
  | .hbm, ⟨7, _⟩ => ⟨S1x2048x2048, .f32⟩
  | .hbm, ⟨8, _⟩ => ⟨S1x2048x1024, .f32⟩
  | _, _ => ⟨S1x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ConvIn3Bw.lean ====
abbrev S1x2048x1024 : Shape := ⟨3, ![1, 2048, 1024]⟩
abbrev S1x2048x2048 : Shape := ⟨3, ![1, 2048, 2048]⟩
abbrev S1x1024x2048 : Shape := ⟨3, ![1, 1024, 2048]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1x2048x1024, .bf16⟩
  | .hbm, ⟨1, _⟩ => ⟨S1x2048x2048, .bf16⟩
  | .hbm, ⟨2, _⟩ => ⟨S1x1024x2048, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x1024x1024, .bf16⟩
  | .local _ .vmem, ⟨4, _⟩ => ⟨S1x1024x1024, .bf16⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 2, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 1 → Memref sig .tc .vmem S1x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ConvIn3BwIdeal.lean ====
abbrev S1x2048x1024 : Shape := ⟨3, ![1, 2048, 1024]⟩
abbrev S1x2048x2048 : Shape := ⟨3, ![1, 2048, 2048]⟩
abbrev S1x1024x2048 : Shape := ⟨3, ![1, 1024, 2048]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1x2048x1024, .bf16⟩
  | .hbm, ⟨1, _⟩ => ⟨S1x2048x2048, .bf16⟩
  | .hbm, ⟨2, _⟩ => ⟨S1x1024x2048, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x1024x1024, .bf16⟩
  | .local _ .vmem, ⟨4, _⟩ => ⟨S1x1024x1024, .bf16⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 2, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 1 → Memref sig .tc .vmem S1x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ConvIn3BwRefIdeal.lean ====
abbrev S1x2048x1024 : Shape := ⟨3, ![1, 2048, 1024]⟩
abbrev S1x2048x2048 : Shape := ⟨3, ![1, 2048, 2048]⟩
abbrev S_ : Shape := ⟨0, ![]⟩
abbrev S1x1024x2048 : Shape := ⟨3, ![1, 1024, 2048]⟩
abbrev S1024x2048 : Shape := ⟨2, ![1024, 2048]⟩
abbrev S2048x1024 : Shape := ⟨2, ![2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S1x2048x1024, .bf16⟩
  | .hbm, ⟨1, _⟩ => ⟨S1x2048x2048, .bf16⟩
  | .hbm, ⟨2, _⟩ => ⟨S_, .f32⟩
  | .hbm, ⟨3, _⟩ => ⟨S1x1024x2048, .f32⟩
  | .hbm, ⟨4, _⟩ => ⟨S1x2048x1024, .f32⟩
  | .hbm, ⟨5, _⟩ => ⟨S1024x2048, .f32⟩
  | .hbm, ⟨6, _⟩ => ⟨S1x2048x2048, .f32⟩
  | .hbm, ⟨7, _⟩ => ⟨S1x2048x2048, .f32⟩
  | .hbm, ⟨8, _⟩ => ⟨S2048x1024, .f32⟩
  | .hbm, ⟨9, _⟩ => ⟨S1024x2048, .f32⟩
  | .hbm, ⟨10, _⟩ => ⟨S1x1024x2048, .f32⟩
  | .hbm, ⟨11, _⟩ => ⟨S1x1024x2048, .bf16⟩
  | _, _ => ⟨S1x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== ConvOut0.lean ====
abbrev S1x2304x1024 : Shape := ⟨3, ![1, 2304, 1024]⟩
abbrev S1x1024x1024 : Shape := ⟨3, ![1, 1024, 1024]⟩
abbrev S1x768x1024 : Shape := ⟨3, ![1, 768, 1024]⟩
abbrev S768x1024 : Shape := ⟨2, ![768, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1x2304x1024, .bf16⟩
  | .hbm, ⟨1, _⟩ => ⟨S1x1024x1024, .bf16⟩
  | .hbm, ⟨2, _⟩ => ⟨S1x2304x1024, .f32⟩
  | .local _ .vmem, ⟨0, _⟩ => ⟨S1x768x1024, .bf16⟩
  | .local _ .vmem, ⟨1, _⟩ => ⟨S1x768x1024, .bf16⟩
  | .local _ .vmem, ⟨2, _⟩ => ⟨S1x1024x1024, .bf16⟩
  | .local _ .vmem, ⟨3, _⟩ => ⟨S1x768x1024, .f32⟩
  | .local _ .vmem, ⟨4, _⟩ => ⟨S1x768x1024, .f32⟩
  | _, _ => ⟨S1x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 3, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, false]

abbrev stage0_2 : Fin 2 → Memref sig .tc .vmem S1x768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ConvOut0Ideal.lean ====
abbrev S1x2304x1024 : Shape := ⟨3, ![1, 2304, 1024]⟩
abbrev S1x1024x1024 : Shape := ⟨3, ![1, 1024, 1024]⟩
abbrev S1x768x1024 : Shape := ⟨3, ![1, 768, 1024]⟩
abbrev S768x1024 : Shape := ⟨2, ![768, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1x2304x1024, .bf16⟩
  | .hbm, ⟨1, _⟩ => ⟨S1x1024x1024, .bf16⟩
  | .hbm, ⟨2, _⟩ => ⟨S1x2304x1024, .f32⟩
  | .local _ .vmem, ⟨0, _⟩ => ⟨S1x768x1024, .bf16⟩
  | .local _ .vmem, ⟨1, _⟩ => ⟨S1x768x1024, .bf16⟩
  | .local _ .vmem, ⟨2, _⟩ => ⟨S1x1024x1024, .bf16⟩
  | .local _ .vmem, ⟨3, _⟩ => ⟨S1x768x1024, .f32⟩
  | .local _ .vmem, ⟨4, _⟩ => ⟨S1x768x1024, .f32⟩
  | _, _ => ⟨S1x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 3, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, false]

abbrev stage0_2 : Fin 2 → Memref sig .tc .vmem S1x768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ConvOut0RefIdeal.lean ====
abbrev S1x2304x1024 : Shape := ⟨3, ![1, 2304, 1024]⟩
abbrev S1x1024x1024 : Shape := ⟨3, ![1, 1024, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1x2304x1024, .bf16⟩
  | .hbm, ⟨1, _⟩ => ⟨S1x1024x1024, .bf16⟩
  | .hbm, ⟨2, _⟩ => ⟨S1x2304x1024, .f32⟩
  | .hbm, ⟨3, _⟩ => ⟨S1x1024x1024, .f32⟩
  | .hbm, ⟨4, _⟩ => ⟨S1024x1024, .f32⟩
  | .hbm, ⟨5, _⟩ => ⟨S1x2304x1024, .f32⟩
  | _, _ => ⟨S1x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ConvOut0Bx.lean ====
abbrev S1x2304x1024 : Shape := ⟨3, ![1, 2304, 1024]⟩
abbrev S1x1024x1024 : Shape := ⟨3, ![1, 1024, 1024]⟩
abbrev S1x768x1024 : Shape := ⟨3, ![1, 768, 1024]⟩
abbrev S768x1024 : Shape := ⟨2, ![768, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1x2304x1024, .bf16⟩
  | .hbm, ⟨1, _⟩ => ⟨S1x1024x1024, .bf16⟩
  | .hbm, ⟨2, _⟩ => ⟨S1x2304x1024, .f32⟩
  | .local _ .vmem, ⟨0, _⟩ => ⟨S1x768x1024, .bf16⟩
  | .local _ .vmem, ⟨1, _⟩ => ⟨S1x768x1024, .bf16⟩
  | .local _ .vmem, ⟨2, _⟩ => ⟨S1x1024x1024, .bf16⟩
  | .local _ .vmem, ⟨3, _⟩ => ⟨S1x768x1024, .f32⟩
  | .local _ .vmem, ⟨4, _⟩ => ⟨S1x768x1024, .f32⟩
  | _, _ => ⟨S1x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 3, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, false]

abbrev stage0_2 : Fin 2 → Memref sig .tc .vmem S1x768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ConvOut0BxIdeal.lean ====
abbrev S1x2304x1024 : Shape := ⟨3, ![1, 2304, 1024]⟩
abbrev S1x1024x1024 : Shape := ⟨3, ![1, 1024, 1024]⟩
abbrev S1x768x1024 : Shape := ⟨3, ![1, 768, 1024]⟩
abbrev S768x1024 : Shape := ⟨2, ![768, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1x2304x1024, .bf16⟩
  | .hbm, ⟨1, _⟩ => ⟨S1x1024x1024, .bf16⟩
  | .hbm, ⟨2, _⟩ => ⟨S1x2304x1024, .f32⟩
  | .local _ .vmem, ⟨0, _⟩ => ⟨S1x768x1024, .bf16⟩
  | .local _ .vmem, ⟨1, _⟩ => ⟨S1x768x1024, .bf16⟩
  | .local _ .vmem, ⟨2, _⟩ => ⟨S1x1024x1024, .bf16⟩
  | .local _ .vmem, ⟨3, _⟩ => ⟨S1x768x1024, .f32⟩
  | .local _ .vmem, ⟨4, _⟩ => ⟨S1x768x1024, .f32⟩
  | _, _ => ⟨S1x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 3, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, false]

abbrev stage0_2 : Fin 2 → Memref sig .tc .vmem S1x768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ConvOut0BxRefIdeal.lean ====
abbrev S1x2304x1024 : Shape := ⟨3, ![1, 2304, 1024]⟩
abbrev S1x1024x1024 : Shape := ⟨3, ![1, 1024, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S1x2304x1024, .bf16⟩
  | .hbm, ⟨1, _⟩ => ⟨S1x1024x1024, .bf16⟩
  | .hbm, ⟨2, _⟩ => ⟨S_, .f32⟩
  | .hbm, ⟨3, _⟩ => ⟨S1x2304x1024, .f32⟩
  | .hbm, ⟨4, _⟩ => ⟨S1x1024x1024, .f32⟩
  | .hbm, ⟨5, _⟩ => ⟨S1024x1024, .f32⟩
  | .hbm, ⟨6, _⟩ => ⟨S1x2304x1024, .f32⟩
  | .hbm, ⟨7, _⟩ => ⟨S1x2304x1024, .f32⟩
  | .hbm, ⟨8, _⟩ => ⟨S1x2304x1024, .f32⟩
  | _, _ => ⟨S1x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ConvOut0Bw.lean ====
abbrev S1x2304x1024 : Shape := ⟨3, ![1, 2304, 1024]⟩
abbrev S1x1024x1024 : Shape := ⟨3, ![1, 1024, 1024]⟩
abbrev S2304x1024 : Shape := ⟨2, ![2304, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S1x2304x1024, .bf16⟩
  | .hbm, ⟨1, _⟩ => ⟨S1x2304x1024, .bf16⟩
  | .hbm, ⟨2, _⟩ => ⟨S1x1024x1024, .bf16⟩
  | .local _ .vmem, ⟨0, _⟩ => ⟨S1x2304x1024, .bf16⟩
  | .local _ .vmem, ⟨1, _⟩ => ⟨S1x2304x1024, .bf16⟩
  | .local _ .vmem, ⟨2, _⟩ => ⟨S1x1024x1024, .bf16⟩
  | _, _ => ⟨S1x2304x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨4, ![1, 1, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 1 → Memref sig .tc .vmem S1x2304x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true, true]

abbrev stage0_1 : Fin 1 → Memref sig .tc .vmem S1x2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false]
-- ==== ConvOut0BwIdeal.lean ====
abbrev S1x2304x1024 : Shape := ⟨3, ![1, 2304, 1024]⟩
abbrev S1x1024x1024 : Shape := ⟨3, ![1, 1024, 1024]⟩
abbrev S2304x1024 : Shape := ⟨2, ![2304, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S1x2304x1024, .bf16⟩
  | .hbm, ⟨1, _⟩ => ⟨S1x2304x1024, .bf16⟩
  | .hbm, ⟨2, _⟩ => ⟨S1x1024x1024, .bf16⟩
  | .local _ .vmem, ⟨0, _⟩ => ⟨S1x2304x1024, .bf16⟩
  | .local _ .vmem, ⟨1, _⟩ => ⟨S1x2304x1024, .bf16⟩
  | .local _ .vmem, ⟨2, _⟩ => ⟨S1x1024x1024, .bf16⟩
  | _, _ => ⟨S1x2304x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨4, ![1, 1, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 1 → Memref sig .tc .vmem S1x2304x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true, true]

abbrev stage0_1 : Fin 1 → Memref sig .tc .vmem S1x2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false]
-- ==== ConvOut0BwRefIdeal.lean ====
abbrev S1x2304x1024 : Shape := ⟨3, ![1, 2304, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S1x2304x1024, .bf16⟩
  | .hbm, ⟨1, _⟩ => ⟨S1x2304x1024, .bf16⟩
  | .hbm, ⟨2, _⟩ => ⟨S_, .f32⟩
  | .hbm, ⟨3, _⟩ => ⟨S1x1024x1024, .f32⟩
  | .hbm, ⟨4, _⟩ => ⟨S1x2304x1024, .f32⟩
  | .hbm, ⟨5, _⟩ => ⟨S1024x1024, .f32⟩
  | .hbm, ⟨6, _⟩ => ⟨S1x2304x1024, .f32⟩
  | .hbm, ⟨7, _⟩ => ⟨S1x2304x1024, .f32⟩
  | .hbm, ⟨8, _⟩ => ⟨S1024x1024, .f32⟩
  | .hbm, ⟨9, _⟩ => ⟨S1024x1024, .f32⟩
  | .hbm, ⟨10, _⟩ => ⟨S1x1024x1024, .f32⟩
  | .hbm, ⟨11, _⟩ => ⟨S1x1024x1024, .bf16⟩
  | _, _ => ⟨S1x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== ConvOut3.lean ====
abbrev S1x2048x1024 : Shape := ⟨3, ![1, 2048, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1x2048x1024, .bf16⟩
  | .hbm, ⟨1, _⟩ => ⟨S1x1024x1024, .bf16⟩
  | .hbm, ⟨2, _⟩ => ⟨S1x2048x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .f32⟩
  | .local _ .vmem, ⟨4, _⟩ => ⟨S1x1024x1024, .f32⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 2, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ConvOut3Ideal.lean ====
abbrev S1x2048x1024 : Shape := ⟨3, ![1, 2048, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1x2048x1024, .bf16⟩
  | .hbm, ⟨1, _⟩ => ⟨S1x1024x1024, .bf16⟩
  | .hbm, ⟨2, _⟩ => ⟨S1x2048x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .f32⟩
  | .local _ .vmem, ⟨4, _⟩ => ⟨S1x1024x1024, .f32⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 2, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ConvOut3RefIdeal.lean ====
abbrev S1x2048x1024 : Shape := ⟨3, ![1, 2048, 1024]⟩
abbrev S1x1024x1024 : Shape := ⟨3, ![1, 1024, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1x2048x1024, .bf16⟩
  | .hbm, ⟨1, _⟩ => ⟨S1x1024x1024, .bf16⟩
  | .hbm, ⟨2, _⟩ => ⟨S1x2048x1024, .f32⟩
  | .hbm, ⟨3, _⟩ => ⟨S1x1024x1024, .f32⟩
  | .hbm, ⟨4, _⟩ => ⟨S1024x1024, .f32⟩
  | .hbm, ⟨5, _⟩ => ⟨S1x2048x1024, .f32⟩
  | _, _ => ⟨S1x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ConvOut3Bx.lean ====
abbrev S1x2048x1024 : Shape := ⟨3, ![1, 2048, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1x2048x1024, .bf16⟩
  | .hbm, ⟨1, _⟩ => ⟨S1x1024x1024, .bf16⟩
  | .hbm, ⟨2, _⟩ => ⟨S1x2048x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .f32⟩
  | .local _ .vmem, ⟨4, _⟩ => ⟨S1x1024x1024, .f32⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 2, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ConvOut3BxIdeal.lean ====
abbrev S1x2048x1024 : Shape := ⟨3, ![1, 2048, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1x2048x1024, .bf16⟩
  | .hbm, ⟨1, _⟩ => ⟨S1x1024x1024, .bf16⟩
  | .hbm, ⟨2, _⟩ => ⟨S1x2048x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .f32⟩
  | .local _ .vmem, ⟨4, _⟩ => ⟨S1x1024x1024, .f32⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 2, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ConvOut3BxRefIdeal.lean ====
abbrev S1x2048x1024 : Shape := ⟨3, ![1, 2048, 1024]⟩
abbrev S1x1024x1024 : Shape := ⟨3, ![1, 1024, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S1x2048x1024, .bf16⟩
  | .hbm, ⟨1, _⟩ => ⟨S1x1024x1024, .bf16⟩
  | .hbm, ⟨2, _⟩ => ⟨S_, .f32⟩
  | .hbm, ⟨3, _⟩ => ⟨S1x2048x1024, .f32⟩
  | .hbm, ⟨4, _⟩ => ⟨S1x1024x1024, .f32⟩
  | .hbm, ⟨5, _⟩ => ⟨S1024x1024, .f32⟩
  | .hbm, ⟨6, _⟩ => ⟨S1x2048x1024, .f32⟩
  | .hbm, ⟨7, _⟩ => ⟨S1x2048x1024, .f32⟩
  | .hbm, ⟨8, _⟩ => ⟨S1x2048x1024, .f32⟩
  | _, _ => ⟨S1x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ConvOut3Bw.lean ====
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S1x2048x1024, .bf16⟩
  | .hbm, ⟨1, _⟩ => ⟨S1x2048x1024, .bf16⟩
  | .hbm, ⟨2, _⟩ => ⟨S1x1024x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x1024x1024, .bf16⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨4, ![1, 1, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 1 → Memref sig .tc .vmem S1x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false]
-- ==== ConvOut3BwIdeal.lean ====
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S1x2048x1024, .bf16⟩
  | .hbm, ⟨1, _⟩ => ⟨S1x2048x1024, .bf16⟩
  | .hbm, ⟨2, _⟩ => ⟨S1x1024x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x1024x1024, .bf16⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨4, ![1, 1, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 1 → Memref sig .tc .vmem S1x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false]
-- ==== ConvOut3BwRefIdeal.lean ====
abbrev S1x2048x1024 : Shape := ⟨3, ![1, 2048, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S1x2048x1024, .bf16⟩
  | .hbm, ⟨1, _⟩ => ⟨S1x2048x1024, .bf16⟩
  | .hbm, ⟨2, _⟩ => ⟨S_, .f32⟩
  | .hbm, ⟨3, _⟩ => ⟨S1x1024x1024, .f32⟩
  | .hbm, ⟨4, _⟩ => ⟨S1x2048x1024, .f32⟩
  | .hbm, ⟨5, _⟩ => ⟨S1024x1024, .f32⟩
  | .hbm, ⟨6, _⟩ => ⟨S1x2048x1024, .f32⟩
  | .hbm, ⟨7, _⟩ => ⟨S1x2048x1024, .f32⟩
  | .hbm, ⟨8, _⟩ => ⟨S1024x1024, .f32⟩
  | .hbm, ⟨9, _⟩ => ⟨S1024x1024, .f32⟩
  | .hbm, ⟨10, _⟩ => ⟨S1x1024x1024, .f32⟩
  | .hbm, ⟨11, _⟩ => ⟨S1x1024x1024, .bf16⟩
  | _, _ => ⟨S1x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Qkv.lean ====
abbrev S1x2304x1024 : Shape := ⟨3, ![1, 2304, 1024]⟩
abbrev S1x1024x1536 : Shape := ⟨3, ![1, 1024, 1536]⟩
abbrev S1x2304x1536 : Shape := ⟨3, ![1, 2304, 1536]⟩
abbrev S1x256x1024 : Shape := ⟨3, ![1, 256, 1024]⟩
abbrev S1x256x1536 : Shape := ⟨3, ![1, 256, 1536]⟩
abbrev S256x1024 : Shape := ⟨2, ![256, 1024]⟩
abbrev S1024x1536 : Shape := ⟨2, ![1024, 1536]⟩
abbrev S256x1536 : Shape := ⟨2, ![256, 1536]⟩

abbrev nBuf : Space → Nat
  | .hbm => 3
  | .vmem => 5
  | .smem => 0
  | _ => 0

abbrev bufTy : (tb : Table) → Fin (tcTables nBuf tb) → BufTy
  | .hbm, ⟨0, _⟩ => ⟨S1x2304x1024, .bf16⟩
  | .hbm, ⟨1, _⟩ => ⟨S1x1024x1536, .bf16⟩
  | .hbm, ⟨2, _⟩ => ⟨S1x2304x1536, .f32⟩
  | .local _ .vmem, ⟨0, _⟩ => ⟨S1x256x1024, .bf16⟩
  | .local _ .vmem, ⟨1, _⟩ => ⟨S1x256x1024, .bf16⟩
  | .local _ .vmem, ⟨2, _⟩ => ⟨S1x1024x1536, .bf16⟩
  | .local _ .vmem, ⟨3, _⟩ => ⟨S1x256x1536, .f32⟩
  | .local _ .vmem, ⟨4, _⟩ => ⟨S1x256x1536, .f32⟩
  | _, _ => ⟨S1x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 9, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, false]

abbrev stage0_1 : Fin 1 → Memref sig .tc .vmem S1x1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, false]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== QkvIdeal.lean ====
abbrev S1x2304x1024 : Shape := ⟨3, ![1, 2304, 1024]⟩
abbrev S1x1024x1536 : Shape := ⟨3, ![1, 1024, 1536]⟩
abbrev S1x2304x1536 : Shape := ⟨3, ![1, 2304, 1536]⟩
abbrev S1x256x1024 : Shape := ⟨3, ![1, 256, 1024]⟩
abbrev S1x256x1536 : Shape := ⟨3, ![1, 256, 1536]⟩
abbrev S256x1024 : Shape := ⟨2, ![256, 1024]⟩
abbrev S1024x1536 : Shape := ⟨2, ![1024, 1536]⟩
abbrev S256x1536 : Shape := ⟨2, ![256, 1536]⟩

abbrev nBuf : Space → Nat
  | .hbm => 3
  | .vmem => 5
  | .smem => 0
  | _ => 0

abbrev bufTy : (tb : Table) → Fin (tcTables nBuf tb) → BufTy
  | .hbm, ⟨0, _⟩ => ⟨S1x2304x1024, .bf16⟩
  | .hbm, ⟨1, _⟩ => ⟨S1x1024x1536, .bf16⟩
  | .hbm, ⟨2, _⟩ => ⟨S1x2304x1536, .f32⟩
  | .local _ .vmem, ⟨0, _⟩ => ⟨S1x256x1024, .bf16⟩
  | .local _ .vmem, ⟨1, _⟩ => ⟨S1x256x1024, .bf16⟩
  | .local _ .vmem, ⟨2, _⟩ => ⟨S1x1024x1536, .bf16⟩
  | .local _ .vmem, ⟨3, _⟩ => ⟨S1x256x1536, .f32⟩
  | .local _ .vmem, ⟨4, _⟩ => ⟨S1x256x1536, .f32⟩
  | _, _ => ⟨S1x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 9, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, false]

abbrev stage0_1 : Fin 1 → Memref sig .tc .vmem S1x1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, false]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== QkvRefIdeal.lean ====
abbrev S1x2304x1024 : Shape := ⟨3, ![1, 2304, 1024]⟩
abbrev S1x1024x1536 : Shape := ⟨3, ![1, 1024, 1536]⟩
abbrev S1024x1536 : Shape := ⟨2, ![1024, 1536]⟩
abbrev S1x2304x1536 : Shape := ⟨3, ![1, 2304, 1536]⟩

abbrev nBuf : Space → Nat
  | .hbm => 6
  | .vmem => 0
  | .smem => 0
  | _ => 0

abbrev bufTy : (tb : Table) → Fin (tcTables nBuf tb) → BufTy
  | .hbm, ⟨0, _⟩ => ⟨S1x2304x1024, .bf16⟩
  | .hbm, ⟨1, _⟩ => ⟨S1x1024x1536, .bf16⟩
  | .hbm, ⟨2, _⟩ => ⟨S1x2304x1024, .f32⟩
  | .hbm, ⟨3, _⟩ => ⟨S1x1024x1536, .f32⟩
  | .hbm, ⟨4, _⟩ => ⟨S1024x1536, .f32⟩
  | .hbm, ⟨5, _⟩ => ⟨S1x2304x1536, .f32⟩
  | _, _ => ⟨S1x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== QkvBx.lean ====
abbrev S1x2304x1536 : Shape := ⟨3, ![1, 2304, 1536]⟩
abbrev S1x1024x1536 : Shape := ⟨3, ![1, 1024, 1536]⟩
abbrev S1x2304x1024 : Shape := ⟨3, ![1, 2304, 1024]⟩
abbrev S1x768x1536 : Shape := ⟨3, ![1, 768, 1536]⟩
abbrev S1x768x1024 : Shape := ⟨3, ![1, 768, 1024]⟩
abbrev S768x1536 : Shape := ⟨2, ![768, 1536]⟩
abbrev S1024x1536 : Shape := ⟨2, ![1024, 1536]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1x2304x1536, .bf16⟩
  | .hbm, ⟨1, _⟩ => ⟨S1x1024x1536, .bf16⟩
  | .hbm, ⟨2, _⟩ => ⟨S1x2304x1024, .f32⟩
  | .local _ .vmem, ⟨0, _⟩ => ⟨S1x768x1536, .bf16⟩
  | .local _ .vmem, ⟨1, _⟩ => ⟨S1x768x1536, .bf16⟩
  | .local _ .vmem, ⟨2, _⟩ => ⟨S1x1024x1536, .bf16⟩
  | .local _ .vmem, ⟨3, _⟩ => ⟨S1x768x1024, .f32⟩
  | .local _ .vmem, ⟨4, _⟩ => ⟨S1x768x1024, .f32⟩
  | _, _ => ⟨S1x2304x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 3, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x768x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, false]

abbrev stage0_1 : Fin 1 → Memref sig .tc .vmem S1x1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, false]

abbrev stage0_2 : Fin 2 → Memref sig .tc .vmem S1x768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== QkvBxIdeal.lean ====
abbrev S1x2304x1536 : Shape := ⟨3, ![1, 2304, 1536]⟩
abbrev S1x1024x1536 : Shape := ⟨3, ![1, 1024, 1536]⟩
abbrev S1x2304x1024 : Shape := ⟨3, ![1, 2304, 1024]⟩
abbrev S1x768x1536 : Shape := ⟨3, ![1, 768, 1536]⟩
abbrev S1x768x1024 : Shape := ⟨3, ![1, 768, 1024]⟩
abbrev S768x1536 : Shape := ⟨2, ![768, 1536]⟩
abbrev S1024x1536 : Shape := ⟨2, ![1024, 1536]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1x2304x1536, .bf16⟩
  | .hbm, ⟨1, _⟩ => ⟨S1x1024x1536, .bf16⟩
  | .hbm, ⟨2, _⟩ => ⟨S1x2304x1024, .f32⟩
  | .local _ .vmem, ⟨0, _⟩ => ⟨S1x768x1536, .bf16⟩
  | .local _ .vmem, ⟨1, _⟩ => ⟨S1x768x1536, .bf16⟩
  | .local _ .vmem, ⟨2, _⟩ => ⟨S1x1024x1536, .bf16⟩
  | .local _ .vmem, ⟨3, _⟩ => ⟨S1x768x1024, .f32⟩
  | .local _ .vmem, ⟨4, _⟩ => ⟨S1x768x1024, .f32⟩
  | _, _ => ⟨S1x2304x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 3, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x768x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, false]

abbrev stage0_1 : Fin 1 → Memref sig .tc .vmem S1x1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, false]

abbrev stage0_2 : Fin 2 → Memref sig .tc .vmem S1x768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== QkvBxRefIdeal.lean ====
abbrev S1x2304x1536 : Shape := ⟨3, ![1, 2304, 1536]⟩
abbrev S1x1024x1536 : Shape := ⟨3, ![1, 1024, 1536]⟩
abbrev S_ : Shape := ⟨0, ![]⟩
abbrev S1x2304x1024 : Shape := ⟨3, ![1, 2304, 1024]⟩
abbrev S1024x1536 : Shape := ⟨2, ![1024, 1536]⟩

abbrev nBuf : Space → Nat
  | .hbm => 9
  | .vmem => 0
  | .smem => 0
  | _ => 0

abbrev bufTy : (tb : Table) → Fin (tcTables nBuf tb) → BufTy
  | .hbm, ⟨0, _⟩ => ⟨S1x2304x1536, .bf16⟩
  | .hbm, ⟨1, _⟩ => ⟨S1x1024x1536, .bf16⟩
  | .hbm, ⟨2, _⟩ => ⟨S_, .f32⟩
  | .hbm, ⟨3, _⟩ => ⟨S1x2304x1024, .f32⟩
  | .hbm, ⟨4, _⟩ => ⟨S1x1024x1536, .f32⟩
  | .hbm, ⟨5, _⟩ => ⟨S1024x1536, .f32⟩
  | .hbm, ⟨6, _⟩ => ⟨S1x2304x1536, .f32⟩
  | .hbm, ⟨7, _⟩ => ⟨S1x2304x1536, .f32⟩
  | .hbm, ⟨8, _⟩ => ⟨S1x2304x1024, .f32⟩
  | _, _ => ⟨S1x2304x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== QkvBw.lean ====
abbrev S1x2304x1024 : Shape := ⟨3, ![1, 2304, 1024]⟩
abbrev S1x2304x1536 : Shape := ⟨3, ![1, 2304, 1536]⟩
abbrev S1x1024x1536 : Shape := ⟨3, ![1, 1024, 1536]⟩
abbrev S1x2304x768 : Shape := ⟨3, ![1, 2304, 768]⟩
abbrev S1x1024x768 : Shape := ⟨3, ![1, 1024, 768]⟩
abbrev S2304x1024 : Shape := ⟨2, ![2304, 1024]⟩
abbrev S2304x768 : Shape := ⟨2, ![2304, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S1x2304x1024, .bf16⟩
  | .hbm, ⟨1, _⟩ => ⟨S1x2304x1536, .bf16⟩
  | .hbm, ⟨2, _⟩ => ⟨S1x1024x1536, .bf16⟩
  | .local _ .vmem, ⟨0, _⟩ => ⟨S1x2304x1024, .bf16⟩
  | .local _ .vmem, ⟨1, _⟩ => ⟨S1x2304x768, .bf16⟩
  | .local _ .vmem, ⟨2, _⟩ => ⟨S1x2304x768, .bf16⟩
  | .local _ .vmem, ⟨3, _⟩ => ⟨S1x1024x768, .bf16⟩
  | .local _ .vmem, ⟨4, _⟩ => ⟨S1x1024x768, .bf16⟩
  | _, _ => ⟨S1x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 2, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 1 → Memref sig .tc .vmem S1x2304x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true, true]

abbrev stage0_1 : Fin 2 → Memref sig .tc .vmem S1x2304x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== QkvBwIdeal.lean ====
abbrev S1x2304x1024 : Shape := ⟨3, ![1, 2304, 1024]⟩
abbrev S1x2304x1536 : Shape := ⟨3, ![1, 2304, 1536]⟩
abbrev S1x1024x1536 : Shape := ⟨3, ![1, 1024, 1536]⟩
abbrev S1x2304x768 : Shape := ⟨3, ![1, 2304, 768]⟩
abbrev S1x1024x768 : Shape := ⟨3, ![1, 1024, 768]⟩
abbrev S2304x1024 : Shape := ⟨2, ![2304, 1024]⟩
abbrev S2304x768 : Shape := ⟨2, ![2304, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S1x2304x1024, .bf16⟩
  | .hbm, ⟨1, _⟩ => ⟨S1x2304x1536, .bf16⟩
  | .hbm, ⟨2, _⟩ => ⟨S1x1024x1536, .bf16⟩
  | .local _ .vmem, ⟨0, _⟩ => ⟨S1x2304x1024, .bf16⟩
  | .local _ .vmem, ⟨1, _⟩ => ⟨S1x2304x768, .bf16⟩
  | .local _ .vmem, ⟨2, _⟩ => ⟨S1x2304x768, .bf16⟩
  | .local _ .vmem, ⟨3, _⟩ => ⟨S1x1024x768, .bf16⟩
  | .local _ .vmem, ⟨4, _⟩ => ⟨S1x1024x768, .bf16⟩
  | _, _ => ⟨S1x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 2, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 1 → Memref sig .tc .vmem S1x2304x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true, true]

abbrev stage0_1 : Fin 2 → Memref sig .tc .vmem S1x2304x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== QkvBwRefIdeal.lean ====
abbrev S1x2304x1024 : Shape := ⟨3, ![1, 2304, 1024]⟩
abbrev S1x2304x1536 : Shape := ⟨3, ![1, 2304, 1536]⟩
abbrev S_ : Shape := ⟨0, ![]⟩
abbrev S1x1024x1536 : Shape := ⟨3, ![1, 1024, 1536]⟩
abbrev S1024x1536 : Shape := ⟨2, ![1024, 1536]⟩
abbrev S1536x1024 : Shape := ⟨2, ![1536, 1024]⟩

abbrev nBuf : Space → Nat
  | .hbm => 12
  | .vmem => 0
  | .smem => 0
  | _ => 0

abbrev bufTy : (tb : Table) → Fin (tcTables nBuf tb) → BufTy
  | .hbm, ⟨0, _⟩ => ⟨S1x2304x1024, .bf16⟩
  | .hbm, ⟨1, _⟩ => ⟨S1x2304x1536, .bf16⟩
  | .hbm, ⟨2, _⟩ => ⟨S_, .f32⟩
  | .hbm, ⟨3, _⟩ => ⟨S1x1024x1536, .f32⟩
  | .hbm, ⟨4, _⟩ => ⟨S1x2304x1024, .f32⟩
  | .hbm, ⟨5, _⟩ => ⟨S1024x1536, .f32⟩
  | .hbm, ⟨6, _⟩ => ⟨S1x2304x1536, .f32⟩
  | .hbm, ⟨7, _⟩ => ⟨S1x2304x1536, .f32⟩
  | .hbm, ⟨8, _⟩ => ⟨S1536x1024, .f32⟩
  | .hbm, ⟨9, _⟩ => ⟨S1024x1536, .f32⟩
  | .hbm, ⟨10, _⟩ => ⟨S1x1024x1536, .f32⟩
  | .hbm, ⟨11, _⟩ => ⟨S1x1024x1536, .bf16⟩
  | _, _ => ⟨S1x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GateIn.lean ====
abbrev S1x2048x1024 : Shape := ⟨3, ![1, 2048, 1024]⟩
abbrev S1x1024x4096 : Shape := ⟨3, ![1, 1024, 4096]⟩
abbrev S1x2048x4096 : Shape := ⟨3, ![1, 2048, 4096]⟩
abbrev S1x256x1024 : Shape := ⟨3, ![1, 256, 1024]⟩
abbrev S1x256x4096 : Shape := ⟨3, ![1, 256, 4096]⟩
abbrev S256x1024 : Shape := ⟨2, ![256, 1024]⟩
abbrev S1024x4096 : Shape := ⟨2, ![1024, 4096]⟩
abbrev S256x4096 : Shape := ⟨2, ![256, 4096]⟩

abbrev nBuf : Space → Nat
  | .hbm => 3
  | .vmem => 5
  | .smem => 0
  | _ => 0

abbrev bufTy : (tb : Table) → Fin (tcTables nBuf tb) → BufTy
  | .hbm, ⟨0, _⟩ => ⟨S1x2048x1024, .bf16⟩
  | .hbm, ⟨1, _⟩ => ⟨S1x1024x4096, .bf16⟩
  | .hbm, ⟨2, _⟩ => ⟨S1x2048x4096, .f32⟩
  | .local _ .vmem, ⟨0, _⟩ => ⟨S1x256x1024, .bf16⟩
  | .local _ .vmem, ⟨1, _⟩ => ⟨S1x256x1024, .bf16⟩
  | .local _ .vmem, ⟨2, _⟩ => ⟨S1x1024x4096, .bf16⟩
  | .local _ .vmem, ⟨3, _⟩ => ⟨S1x256x4096, .f32⟩
  | .local _ .vmem, ⟨4, _⟩ => ⟨S1x256x4096, .f32⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 8, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, false]

abbrev stage0_1 : Fin 1 → Memref sig .tc .vmem S1x1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, false]

abbrev stage0_2 : Fin 2 → Memref sig .tc .vmem S1x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== GateInIdeal.lean ====
abbrev S1x2048x1024 : Shape := ⟨3, ![1, 2048, 1024]⟩
abbrev S1x1024x4096 : Shape := ⟨3, ![1, 1024, 4096]⟩
abbrev S1x2048x4096 : Shape := ⟨3, ![1, 2048, 4096]⟩
abbrev S1x256x1024 : Shape := ⟨3, ![1, 256, 1024]⟩
abbrev S1x256x4096 : Shape := ⟨3, ![1, 256, 4096]⟩
abbrev S256x1024 : Shape := ⟨2, ![256, 1024]⟩
abbrev S1024x4096 : Shape := ⟨2, ![1024, 4096]⟩
abbrev S256x4096 : Shape := ⟨2, ![256, 4096]⟩

abbrev nBuf : Space → Nat
  | .hbm => 3
  | .vmem => 5
  | .smem => 0
  | _ => 0

abbrev bufTy : (tb : Table) → Fin (tcTables nBuf tb) → BufTy
  | .hbm, ⟨0, _⟩ => ⟨S1x2048x1024, .bf16⟩
  | .hbm, ⟨1, _⟩ => ⟨S1x1024x4096, .bf16⟩
  | .hbm, ⟨2, _⟩ => ⟨S1x2048x4096, .f32⟩
  | .local _ .vmem, ⟨0, _⟩ => ⟨S1x256x1024, .bf16⟩
  | .local _ .vmem, ⟨1, _⟩ => ⟨S1x256x1024, .bf16⟩
  | .local _ .vmem, ⟨2, _⟩ => ⟨S1x1024x4096, .bf16⟩
  | .local _ .vmem, ⟨3, _⟩ => ⟨S1x256x4096, .f32⟩
  | .local _ .vmem, ⟨4, _⟩ => ⟨S1x256x4096, .f32⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 8, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, false]

abbrev stage0_1 : Fin 1 → Memref sig .tc .vmem S1x1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, false]

abbrev stage0_2 : Fin 2 → Memref sig .tc .vmem S1x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== GateInRefIdeal.lean ====
abbrev S1x2048x1024 : Shape := ⟨3, ![1, 2048, 1024]⟩
abbrev S1x1024x4096 : Shape := ⟨3, ![1, 1024, 4096]⟩
abbrev S1024x4096 : Shape := ⟨2, ![1024, 4096]⟩
abbrev S1x2048x4096 : Shape := ⟨3, ![1, 2048, 4096]⟩

abbrev nBuf : Space → Nat
  | .hbm => 6
  | .vmem => 0
  | .smem => 0
  | _ => 0

abbrev bufTy : (tb : Table) → Fin (tcTables nBuf tb) → BufTy
  | .hbm, ⟨0, _⟩ => ⟨S1x2048x1024, .bf16⟩
  | .hbm, ⟨1, _⟩ => ⟨S1x1024x4096, .bf16⟩
  | .hbm, ⟨2, _⟩ => ⟨S1x2048x1024, .f32⟩
  | .hbm, ⟨3, _⟩ => ⟨S1x1024x4096, .f32⟩
  | .hbm, ⟨4, _⟩ => ⟨S1024x4096, .f32⟩
  | .hbm, ⟨5, _⟩ => ⟨S1x2048x4096, .f32⟩
  | _, _ => ⟨S1x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GateInBx.lean ====
abbrev S1x2048x4096 : Shape := ⟨3, ![1, 2048, 4096]⟩
abbrev S1x1024x4096 : Shape := ⟨3, ![1, 1024, 4096]⟩
abbrev S1x2048x1024 : Shape := ⟨3, ![1, 2048, 1024]⟩
abbrev S1x512x4096 : Shape := ⟨3, ![1, 512, 4096]⟩
abbrev S1x512x1024 : Shape := ⟨3, ![1, 512, 1024]⟩
abbrev S512x4096 : Shape := ⟨2, ![512, 4096]⟩
abbrev S1024x4096 : Shape := ⟨2, ![1024, 4096]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1x2048x4096, .bf16⟩
  | .hbm, ⟨1, _⟩ => ⟨S1x1024x4096, .bf16⟩
  | .hbm, ⟨2, _⟩ => ⟨S1x2048x1024, .f32⟩
  | .local _ .vmem, ⟨0, _⟩ => ⟨S1x512x4096, .bf16⟩
  | .local _ .vmem, ⟨1, _⟩ => ⟨S1x512x4096, .bf16⟩
  | .local _ .vmem, ⟨2, _⟩ => ⟨S1x1024x4096, .bf16⟩
  | .local _ .vmem, ⟨3, _⟩ => ⟨S1x512x1024, .f32⟩
  | .local _ .vmem, ⟨4, _⟩ => ⟨S1x512x1024, .f32⟩
  | _, _ => ⟨S1x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 4, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, false]

abbrev stage0_1 : Fin 1 → Memref sig .tc .vmem S1x1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== GateInBxIdeal.lean ====
abbrev S1x2048x4096 : Shape := ⟨3, ![1, 2048, 4096]⟩
abbrev S1x1024x4096 : Shape := ⟨3, ![1, 1024, 4096]⟩
abbrev S1x2048x1024 : Shape := ⟨3, ![1, 2048, 1024]⟩
abbrev S1x512x4096 : Shape := ⟨3, ![1, 512, 4096]⟩
abbrev S1x512x1024 : Shape := ⟨3, ![1, 512, 1024]⟩
abbrev S512x4096 : Shape := ⟨2, ![512, 4096]⟩
abbrev S1024x4096 : Shape := ⟨2, ![1024, 4096]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1x2048x4096, .bf16⟩
  | .hbm, ⟨1, _⟩ => ⟨S1x1024x4096, .bf16⟩
  | .hbm, ⟨2, _⟩ => ⟨S1x2048x1024, .f32⟩
  | .local _ .vmem, ⟨0, _⟩ => ⟨S1x512x4096, .bf16⟩
  | .local _ .vmem, ⟨1, _⟩ => ⟨S1x512x4096, .bf16⟩
  | .local _ .vmem, ⟨2, _⟩ => ⟨S1x1024x4096, .bf16⟩
  | .local _ .vmem, ⟨3, _⟩ => ⟨S1x512x1024, .f32⟩
  | .local _ .vmem, ⟨4, _⟩ => ⟨S1x512x1024, .f32⟩
  | _, _ => ⟨S1x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 4, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, false]

abbrev stage0_1 : Fin 1 → Memref sig .tc .vmem S1x1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== GateInBxRefIdeal.lean ====
abbrev S1x2048x4096 : Shape := ⟨3, ![1, 2048, 4096]⟩
abbrev S1x1024x4096 : Shape := ⟨3, ![1, 1024, 4096]⟩
abbrev S_ : Shape := ⟨0, ![]⟩
abbrev S1x2048x1024 : Shape := ⟨3, ![1, 2048, 1024]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S1x2048x4096, .bf16⟩
  | .hbm, ⟨1, _⟩ => ⟨S1x1024x4096, .bf16⟩
  | .hbm, ⟨2, _⟩ => ⟨S_, .f32⟩
  | .hbm, ⟨3, _⟩ => ⟨S1x2048x1024, .f32⟩
  | .hbm, ⟨4, _⟩ => ⟨S1x1024x4096, .f32⟩
  | .hbm, ⟨5, _⟩ => ⟨S1024x4096, .f32⟩
  | .hbm, ⟨6, _⟩ => ⟨S1x2048x4096, .f32⟩
  | .hbm, ⟨7, _⟩ => ⟨S1x2048x4096, .f32⟩
  | .hbm, ⟨8, _⟩ => ⟨S1x2048x1024, .f32⟩
  | _, _ => ⟨S1x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GateInBw.lean ====
abbrev S1x2048x1024 : Shape := ⟨3, ![1, 2048, 1024]⟩
abbrev S1x2048x4096 : Shape := ⟨3, ![1, 2048, 4096]⟩
abbrev S1x1024x4096 : Shape := ⟨3, ![1, 1024, 4096]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1x2048x1024, .bf16⟩
  | .hbm, ⟨1, _⟩ => ⟨S1x2048x4096, .bf16⟩
  | .hbm, ⟨2, _⟩ => ⟨S1x1024x4096, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x1024x1024, .bf16⟩
  | .local _ .vmem, ⟨4, _⟩ => ⟨S1x1024x1024, .bf16⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 4, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 1 → Memref sig .tc .vmem S1x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== GateInBwIdeal.lean ====
abbrev S1x2048x1024 : Shape := ⟨3, ![1, 2048, 1024]⟩
abbrev S1x2048x4096 : Shape := ⟨3, ![1, 2048, 4096]⟩
abbrev S1x1024x4096 : Shape := ⟨3, ![1, 1024, 4096]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1x2048x1024, .bf16⟩
  | .hbm, ⟨1, _⟩ => ⟨S1x2048x4096, .bf16⟩
  | .hbm, ⟨2, _⟩ => ⟨S1x1024x4096, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x1024x1024, .bf16⟩
  | .local _ .vmem, ⟨4, _⟩ => ⟨S1x1024x1024, .bf16⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 4, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 1 → Memref sig .tc .vmem S1x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== GateInBwRefIdeal.lean ====
abbrev S1x2048x1024 : Shape := ⟨3, ![1, 2048, 1024]⟩
abbrev S1x2048x4096 : Shape := ⟨3, ![1, 2048, 4096]⟩
abbrev S_ : Shape := ⟨0, ![]⟩
abbrev S1x1024x4096 : Shape := ⟨3, ![1, 1024, 4096]⟩
abbrev S1024x4096 : Shape := ⟨2, ![1024, 4096]⟩
abbrev S4096x1024 : Shape := ⟨2, ![4096, 1024]⟩

abbrev nBuf : Space → Nat
  | .hbm => 12
  | .vmem => 0
  | .smem => 0
  | _ => 0

abbrev bufTy : (tb : Table) → Fin (tcTables nBuf tb) → BufTy
  | .hbm, ⟨0, _⟩ => ⟨S1x2048x1024, .bf16⟩
  | .hbm, ⟨1, _⟩ => ⟨S1x2048x4096, .bf16⟩
  | .hbm, ⟨2, _⟩ => ⟨S_, .f32⟩
  | .hbm, ⟨3, _⟩ => ⟨S1x1024x4096, .f32⟩
  | .hbm, ⟨4, _⟩ => ⟨S1x2048x1024, .f32⟩
  | .hbm, ⟨5, _⟩ => ⟨S1024x4096, .f32⟩
  | .hbm, ⟨6, _⟩ => ⟨S1x2048x4096, .f32⟩
  | .hbm, ⟨7, _⟩ => ⟨S1x2048x4096, .f32⟩
  | .hbm, ⟨8, _⟩ => ⟨S4096x1024, .f32⟩
  | .hbm, ⟨9, _⟩ => ⟨S1024x4096, .f32⟩
  | .hbm, ⟨10, _⟩ => ⟨S1x1024x4096, .f32⟩
  | .hbm, ⟨11, _⟩ => ⟨S1x1024x4096, .bf16⟩
  | _, _ => ⟨S1x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GateOut.lean ====
abbrev S1x2048x2048 : Shape := ⟨3, ![1, 2048, 2048]⟩
abbrev S1x2048x1024 : Shape := ⟨3, ![1, 2048, 1024]⟩
abbrev S1x1024x2048 : Shape := ⟨3, ![1, 1024, 2048]⟩
abbrev S1x1024x1024 : Shape := ⟨3, ![1, 1024, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1x2048x2048, .bf16⟩
  | .hbm, ⟨1, _⟩ => ⟨S1x2048x1024, .bf16⟩
  | .hbm, ⟨2, _⟩ => ⟨S1x2048x1024, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x1024, .bf16⟩
  | .local _ .vmem, ⟨3, _⟩ => ⟨S1x1024x1024, .f32⟩
  | .local _ .vmem, ⟨4, _⟩ => ⟨S1x1024x1024, .f32⟩
  | _, _ => ⟨S1x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 2, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, false]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== GateOutRefIdeal.lean ====
abbrev S1x2048x2048 : Shape := ⟨3, ![1, 2048, 2048]⟩
abbrev S1x2048x1024 : Shape := ⟨3, ![1, 2048, 1024]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1x2048x2048, .bf16⟩
  | .hbm, ⟨1, _⟩ => ⟨S1x2048x1024, .bf16⟩
  | .hbm, ⟨2, _⟩ => ⟨S1x2048x2048, .f32⟩
  | .hbm, ⟨3, _⟩ => ⟨S1x2048x1024, .f32⟩
  | .hbm, ⟨4, _⟩ => ⟨S2048x1024, .f32⟩
  | .hbm, ⟨5, _⟩ => ⟨S1x2048x1024, .f32⟩
  | _, _ => ⟨S1x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GateOutBx.lean ====
abbrev S1x2048x1024 : Shape := ⟨3, ![1, 2048, 1024]⟩
abbrev S1x2048x2048 : Shape := ⟨3, ![1, 2048, 2048]⟩
abbrev S1x512x1024 : Shape := ⟨3, ![1, 512, 1024]⟩
abbrev S1x512x2048 : Shape := ⟨3, ![1, 512, 2048]⟩
abbrev S512x1024 : Shape := ⟨2, ![512, 1024]⟩
abbrev S2048x1024 : Shape := ⟨2, ![2048, 1024]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S1x2048x1024, .bf16⟩
  | .hbm, ⟨1, _⟩ => ⟨S1x2048x1024, .bf16⟩
  | .hbm, ⟨2, _⟩ => ⟨S1x2048x2048, .f32⟩
  | .local _ .vmem, ⟨0, _⟩ => ⟨S1x512x1024, .bf16⟩
  | .local _ .vmem, ⟨1, _⟩ => ⟨S1x512x1024, .bf16⟩
  | .local _ .vmem, ⟨2, _⟩ => ⟨S1x2048x1024, .bf16⟩
  | .local _ .vmem, ⟨3, _⟩ => ⟨S1x512x2048, .f32⟩
  | .local _ .vmem, ⟨4, _⟩ => ⟨S1x512x2048, .f32⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 4, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, false]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== GateOutBxRefIdeal.lean ====
abbrev S1x2048x1024 : Shape := ⟨3, ![1, 2048, 1024]⟩
abbrev S_ : Shape := ⟨0, ![]⟩
abbrev S1x2048x2048 : Shape := ⟨3, ![1, 2048, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S1x2048x1024, .bf16⟩
  | .hbm, ⟨1, _⟩ => ⟨S1x2048x1024, .bf16⟩
  | .hbm, ⟨2, _⟩ => ⟨S_, .f32⟩
  | .hbm, ⟨3, _⟩ => ⟨S1x2048x2048, .f32⟩
  | .hbm, ⟨4, _⟩ => ⟨S1x2048x1024, .f32⟩
  | .hbm, ⟨5, _⟩ => ⟨S2048x1024, .f32⟩
  | .hbm, ⟨6, _⟩ => ⟨S1x2048x1024, .f32⟩
  | .hbm, ⟨7, _⟩ => ⟨S1x2048x1024, .f32⟩
  | .hbm, ⟨8, _⟩ => ⟨S1x2048x2048, .f32⟩
  | _, _ => ⟨S1x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GateOutBw.lean ====
abbrev S1x2048x2048 : Shape := ⟨3, ![1, 2048, 2048]⟩
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1x2048x2048, .bf16⟩
  | .hbm, ⟨1, _⟩ => ⟨S1x2048x1024, .bf16⟩
  | .hbm, ⟨2, _⟩ => ⟨S1x2048x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x1024x1024, .bf16⟩
  | .local _ .vmem, ⟨4, _⟩ => ⟨S1x1024x1024, .bf16⟩
  | _, _ => ⟨S1x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 2, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== GateOutBwRefIdeal.lean ====
abbrev S1x2048x2048 : Shape := ⟨3, ![1, 2048, 2048]⟩
abbrev S1x2048x1024 : Shape := ⟨3, ![1, 2048, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 12
  | .vmem => 0
  | .smem => 0
  | _ => 0

abbrev bufTy : (tb : Table) → Fin (tcTables nBuf tb) → BufTy
  | .hbm, ⟨0, _⟩ => ⟨S1x2048x2048, .bf16⟩
  | .hbm, ⟨1, _⟩ => ⟨S1x2048x1024, .bf16⟩
  | .hbm, ⟨2, _⟩ => ⟨S_, .f32⟩
  | .hbm, ⟨3, _⟩ => ⟨S1x2048x1024, .f32⟩
  | .hbm, ⟨4, _⟩ => ⟨S1x2048x2048, .f32⟩
  | .hbm, ⟨5, _⟩ => ⟨S2048x1024, .f32⟩
  | .hbm, ⟨6, _⟩ => ⟨S1x2048x1024, .f32⟩
  | .hbm, ⟨7, _⟩ => ⟨S1x2048x1024, .f32⟩
  | .hbm, ⟨8, _⟩ => ⟨S1024x2048, .f32⟩
  | .hbm, ⟨9, _⟩ => ⟨S2048x1024, .f32⟩
  | .hbm, ⟨10, _⟩ => ⟨S1x2048x1024, .f32⟩
  | .hbm, ⟨11, _⟩ => ⟨S1x2048x1024, .bf16⟩
  | _, _ => ⟨S1x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== FfnUp0Bx.lean ====
abbrev S8x2304x704 : Shape := ⟨3, ![8, 2304, 704]⟩
abbrev S8x1024x704 : Shape := ⟨3, ![8, 1024, 704]⟩
abbrev S1x2304x1024 : Shape := ⟨3, ![1, 2304, 1024]⟩
abbrev S1x768x704 : Shape := ⟨3, ![1, 768, 704]⟩
abbrev S1x1024x704 : Shape := ⟨3, ![1, 1024, 704]⟩
abbrev S1x768x1024 : Shape := ⟨3, ![1, 768, 1024]⟩
abbrev S768x1024 : Shape := ⟨2, ![768, 1024]⟩
abbrev S768x704 : Shape := ⟨2, ![768, 704]⟩
abbrev S1024x704 : Shape := ⟨2, ![1024, 704]⟩

abbrev nBuf : Space → Nat
  | .hbm => 3
  | .vmem => 7
  | .smem => 0
  | _ => 0

abbrev bufTy : (tb : Table) → Fin (tcTables nBuf tb) → BufTy
  | .hbm, ⟨0, _⟩ => ⟨S8x2304x704, .bf16⟩
  | .hbm, ⟨1, _⟩ => ⟨S8x1024x704, .bf16⟩
  | .hbm, ⟨2, _⟩ => ⟨S1x2304x1024, .f32⟩
  | .local _ .vmem, ⟨0, _⟩ => ⟨S1x768x704, .bf16⟩
  | .local _ .vmem, ⟨1, _⟩ => ⟨S1x768x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x768x1024, .f32⟩
  | .local _ .vmem, ⟨5, _⟩ => ⟨S1x768x1024, .f32⟩
  | .local _ .vmem, ⟨6, _⟩ => ⟨S768x1024, .f32⟩
  | _, _ => ⟨S8x2304x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 1, 3, 8], ![false, false, false, false]⟩

def k0_cond3 (i : grid0.Coords) : BitVec 1 :=
  let arg3 : BitVec 32 := BitVec.ofNat 32 (i 3).val
  let c7_i32 : BitVec 32 := 7#32
  let v11 : BitVec 1 := Scalar.cmpi .eq arg3 c7_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg3.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg3.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x768x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, true]

abbrev stage0_2 : Fin 2 → Memref sig .tc .vmem S1x768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== FfnUp0BxIdeal.lean ====
abbrev S8x2304x704 : Shape := ⟨3, ![8, 2304, 704]⟩
abbrev S8x1024x704 : Shape := ⟨3, ![8, 1024, 704]⟩
abbrev S1x2304x1024 : Shape := ⟨3, ![1, 2304, 1024]⟩
abbrev S1x768x704 : Shape := ⟨3, ![1, 768, 704]⟩
abbrev S1x1024x704 : Shape := ⟨3, ![1, 1024, 704]⟩
abbrev S1x768x1024 : Shape := ⟨3, ![1, 768, 1024]⟩
abbrev S768x1024 : Shape := ⟨2, ![768, 1024]⟩
abbrev S768x704 : Shape := ⟨2, ![768, 704]⟩
abbrev S1024x704 : Shape := ⟨2, ![1024, 704]⟩

abbrev nBuf : Space → Nat
  | .hbm => 3
  | .vmem => 7
  | .smem => 0
  | _ => 0

abbrev bufTy : (tb : Table) → Fin (tcTables nBuf tb) → BufTy
  | .hbm, ⟨0, _⟩ => ⟨S8x2304x704, .bf16⟩
  | .hbm, ⟨1, _⟩ => ⟨S8x1024x704, .bf16⟩
  | .hbm, ⟨2, _⟩ => ⟨S1x2304x1024, .f32⟩
  | .local _ .vmem, ⟨0, _⟩ => ⟨S1x768x704, .bf16⟩
  | .local _ .vmem, ⟨1, _⟩ => ⟨S1x768x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x768x1024, .f32⟩
  | .local _ .vmem, ⟨5, _⟩ => ⟨S1x768x1024, .f32⟩
  | .local _ .vmem, ⟨6, _⟩ => ⟨S768x1024, .f32⟩
  | _, _ => ⟨S8x2304x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 1, 3, 8], ![false, false, false, false]⟩

def k0_cond3 (i : grid0.Coords) : BitVec 1 :=
  let arg3 : BitVec 32 := BitVec.ofNat 32 (i 3).val
  let c7_i32 : BitVec 32 := 7#32
  let v11 : BitVec 1 := Scalar.cmpi .eq arg3 c7_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg3.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg3.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x768x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, true]

abbrev stage0_2 : Fin 2 → Memref sig .tc .vmem S1x768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== FfnUp0BxRefIdeal.lean ====
abbrev S8x2304x704 : Shape := ⟨3, ![8, 2304, 704]⟩
abbrev S8x1024x704 : Shape := ⟨3, ![8, 1024, 704]⟩
abbrev S_ : Shape := ⟨0, ![]⟩
abbrev S1x2304x1024 : Shape := ⟨3, ![1, 2304, 1024]⟩
abbrev S2304x1024 : Shape := ⟨2, ![2304, 1024]⟩
abbrev S8x704x2304 : Shape := ⟨3, ![8, 704, 2304]⟩

abbrev nBuf : Space → Nat
  | .hbm => 13
  | .vmem => 0
  | .smem => 0
  | _ => 0

abbrev bufTy : (tb : Table) → Fin (tcTables nBuf tb) → BufTy
  | .hbm, ⟨0, _⟩ => ⟨S8x2304x704, .bf16⟩
  | .hbm, ⟨1, _⟩ => ⟨S8x1024x704, .bf16⟩
  | .hbm, ⟨2, _⟩ => ⟨S_, .f32⟩
  | .hbm, ⟨3, _⟩ => ⟨S1x2304x1024, .f32⟩
  | .hbm, ⟨4, _⟩ => ⟨S8x1024x704, .f32⟩
  | .hbm, ⟨5, _⟩ => ⟨S_, .f32⟩
  | .hbm, ⟨6, _⟩ => ⟨S2304x1024, .f32⟩
  | .hbm, ⟨7, _⟩ => ⟨S8x704x2304, .f32⟩
  | .hbm, ⟨8, _⟩ => ⟨S8x2304x704, .f32⟩
  | .hbm, ⟨9, _⟩ => ⟨S8x2304x704, .f32⟩
  | .hbm, ⟨10, _⟩ => ⟨S8x704x2304, .f32⟩
  | .hbm, ⟨11, _⟩ => ⟨S2304x1024, .f32⟩
  | .hbm, ⟨12, _⟩ => ⟨S1x2304x1024, .f32⟩
  | _, _ => ⟨S8x2304x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== FfnUp0Bw.lean ====
abbrev S8x2304x704 : Shape := ⟨3, ![8, 2304, 704]⟩
abbrev S1x2304x1024 : Shape := ⟨3, ![1, 2304, 1024]⟩
abbrev S8x704x1024 : Shape := ⟨3, ![8, 704, 1024]⟩
abbrev S1x2304x704 : Shape := ⟨3, ![1, 2304, 704]⟩
abbrev S1x704x1024 : Shape := ⟨3, ![1, 704, 1024]⟩
abbrev S2304x704 : Shape := ⟨2, ![2304, 704]⟩
abbrev S2304x1024 : Shape := ⟨2, ![2304, 1024]⟩
abbrev S704x1024 : Shape := ⟨2, ![704, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8x2304x704, .bf16⟩
  | .hbm, ⟨1, _⟩ => ⟨S1x2304x1024, .bf16⟩
  | .hbm, ⟨2, _⟩ => ⟨S8x704x1024, .bf16⟩
  | .local _ .vmem, ⟨0, _⟩ => ⟨S1x2304x704, .bf16⟩
  | .local _ .vmem, ⟨1, _⟩ => ⟨S1x2304x704, .bf16⟩
  | .local _ .vmem, ⟨2, _⟩ => ⟨S1x2304x1024, .bf16⟩
  | .local _ .vmem, ⟨3, _⟩ => ⟨S1x704x1024, .bf16⟩
  | .local _ .vmem, ⟨4, _⟩ => ⟨S1x704x1024, .bf16⟩
  | _, _ => ⟨S8x2304x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![8, 1, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x2304x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 1 → Memref sig .tc .vmem S1x2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== FfnUp0BwIdeal.lean ====
abbrev S8x2304x704 : Shape := ⟨3, ![8, 2304, 704]⟩
abbrev S1x2304x1024 : Shape := ⟨3, ![1, 2304, 1024]⟩
abbrev S8x704x1024 : Shape := ⟨3, ![8, 704, 1024]⟩
abbrev S1x2304x704 : Shape := ⟨3, ![1, 2304, 704]⟩
abbrev S1x704x1024 : Shape := ⟨3, ![1, 704, 1024]⟩
abbrev S2304x704 : Shape := ⟨2, ![2304, 704]⟩
abbrev S2304x1024 : Shape := ⟨2, ![2304, 1024]⟩
abbrev S704x1024 : Shape := ⟨2, ![704, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8x2304x704, .bf16⟩
  | .hbm, ⟨1, _⟩ => ⟨S1x2304x1024, .bf16⟩
  | .hbm, ⟨2, _⟩ => ⟨S8x704x1024, .bf16⟩
  | .local _ .vmem, ⟨0, _⟩ => ⟨S1x2304x704, .bf16⟩
  | .local _ .vmem, ⟨1, _⟩ => ⟨S1x2304x704, .bf16⟩
  | .local _ .vmem, ⟨2, _⟩ => ⟨S1x2304x1024, .bf16⟩
  | .local _ .vmem, ⟨3, _⟩ => ⟨S1x704x1024, .bf16⟩
  | .local _ .vmem, ⟨4, _⟩ => ⟨S1x704x1024, .bf16⟩
  | _, _ => ⟨S8x2304x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![8, 1, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x2304x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 1 → Memref sig .tc .vmem S1x2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== FfnUp0BwRefIdeal.lean ====
abbrev S8x2304x704 : Shape := ⟨3, ![8, 2304, 704]⟩
abbrev S1x2304x1024 : Shape := ⟨3, ![1, 2304, 1024]⟩
abbrev S_ : Shape := ⟨0, ![]⟩
abbrev S8x1024x704 : Shape := ⟨3, ![8, 1024, 704]⟩
abbrev S2304x1024 : Shape := ⟨2, ![2304, 1024]⟩
abbrev S8x704x2304 : Shape := ⟨3, ![8, 704, 2304]⟩
abbrev S8x704x1024 : Shape := ⟨3, ![8, 704, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8x2304x704, .bf16⟩
  | .hbm, ⟨1, _⟩ => ⟨S1x2304x1024, .bf16⟩
  | .hbm, ⟨2, _⟩ => ⟨S_, .f32⟩
  | .hbm, ⟨3, _⟩ => ⟨S8x1024x704, .f32⟩
  | .hbm, ⟨4, _⟩ => ⟨S1x2304x1024, .f32⟩
  | .hbm, ⟨5, _⟩ => ⟨S_, .f32⟩
  | .hbm, ⟨6, _⟩ => ⟨S2304x1024, .f32⟩
  | .hbm, ⟨7, _⟩ => ⟨S8x704x2304, .f32⟩
  | .hbm, ⟨8, _⟩ => ⟨S8x2304x704, .f32⟩
  | .hbm, ⟨9, _⟩ => ⟨S8x2304x704, .f32⟩
  | .hbm, ⟨10, _⟩ => ⟨S8x704x2304, .f32⟩
  | .hbm, ⟨11, _⟩ => ⟨S8x704x1024, .f32⟩
  | .hbm, ⟨12, _⟩ => ⟨S8x1024x704, .f32⟩
  | .hbm, ⟨13, _⟩ => ⟨S8x704x1024, .f32⟩
  | .hbm, ⟨14, _⟩ => ⟨S8x704x1024, .bf16⟩
  | _, _ => ⟨S8x2304x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== FfnUpBx.lean ====
abbrev S8x2048x704 : Shape := ⟨3, ![8, 2048, 704]⟩
abbrev S8x1024x704 : Shape := ⟨3, ![8, 1024, 704]⟩
abbrev S1x2048x1024 : Shape := ⟨3, ![1, 2048, 1024]⟩
abbrev S1x1024x704 : Shape := ⟨3, ![1, 1024, 704]⟩
abbrev S1x1024x1024 : Shape := ⟨3, ![1, 1024, 1024]⟩
abbrev S1024x1024 : Shape := ⟨2, ![1024, 1024]⟩
abbrev S1024x704 : Shape := ⟨2, ![1024, 704]⟩

abbrev nBuf : Space → Nat
  | .hbm => 3
  | .vmem => 7
  | .smem => 0
  | _ => 0

abbrev bufTy : (tb : Table) → Fin (tcTables nBuf tb) → BufTy
  | .hbm, ⟨0, _⟩ => ⟨S8x2048x704, .bf16⟩
  | .hbm, ⟨1, _⟩ => ⟨S8x1024x704, .bf16⟩
  | .hbm, ⟨2, _⟩ => ⟨S1x2048x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 1, 2, 8], ![false, false, false, false]⟩

def k0_cond3 (i : grid0.Coords) : BitVec 1 :=
  let arg3 : BitVec 32 := BitVec.ofNat 32 (i 3).val
  let c7_i32 : BitVec 32 := 7#32
  let v11 : BitVec 1 := Scalar.cmpi .eq arg3 c7_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg3.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg3.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== FfnUpBxRefIdeal.lean ====
abbrev S8x2048x704 : Shape := ⟨3, ![8, 2048, 704]⟩
abbrev S8x1024x704 : Shape := ⟨3, ![8, 1024, 704]⟩
abbrev S_ : Shape := ⟨0, ![]⟩
abbrev S1x2048x1024 : Shape := ⟨3, ![1, 2048, 1024]⟩
abbrev S2048x1024 : Shape := ⟨2, ![2048, 1024]⟩
abbrev S8x704x2048 : Shape := ⟨3, ![8, 704, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8x2048x704, .bf16⟩
  | .hbm, ⟨1, _⟩ => ⟨S8x1024x704, .bf16⟩
  | .hbm, ⟨2, _⟩ => ⟨S_, .f32⟩
  | .hbm, ⟨3, _⟩ => ⟨S1x2048x1024, .f32⟩
  | .hbm, ⟨4, _⟩ => ⟨S8x1024x704, .f32⟩
  | .hbm, ⟨5, _⟩ => ⟨S_, .f32⟩
  | .hbm, ⟨6, _⟩ => ⟨S2048x1024, .f32⟩
  | .hbm, ⟨7, _⟩ => ⟨S8x704x2048, .f32⟩
  | .hbm, ⟨8, _⟩ => ⟨S8x2048x704, .f32⟩
  | .hbm, ⟨9, _⟩ => ⟨S8x2048x704, .f32⟩
  | .hbm, ⟨10, _⟩ => ⟨S8x704x2048, .f32⟩
  | .hbm, ⟨11, _⟩ => ⟨S2048x1024, .f32⟩
  | .hbm, ⟨12, _⟩ => ⟨S1x2048x1024, .f32⟩
  | _, _ => ⟨S8x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== FfnUpBw.lean ====
abbrev S8x2048x704 : Shape := ⟨3, ![8, 2048, 704]⟩
abbrev S1x2048x1024 : Shape := ⟨3, ![1, 2048, 1024]⟩
abbrev S8x704x1024 : Shape := ⟨3, ![8, 704, 1024]⟩
abbrev S1x2048x704 : Shape := ⟨3, ![1, 2048, 704]⟩
abbrev S1x704x1024 : Shape := ⟨3, ![1, 704, 1024]⟩
abbrev S2048x704 : Shape := ⟨2, ![2048, 704]⟩
abbrev S2048x1024 : Shape := ⟨2, ![2048, 1024]⟩
abbrev S704x1024 : Shape := ⟨2, ![704, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8x2048x704, .bf16⟩
  | .hbm, ⟨1, _⟩ => ⟨S1x2048x1024, .bf16⟩
  | .hbm, ⟨2, _⟩ => ⟨S8x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S1x2048x1024, .bf16⟩
  | .local _ .vmem, ⟨3, _⟩ => ⟨S1x704x1024, .bf16⟩
  | .local _ .vmem, ⟨4, _⟩ => ⟨S1x704x1024, .bf16⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![8, 1, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== FfnUpBwRefIdeal.lean ====
abbrev S8x2048x704 : Shape := ⟨3, ![8, 2048, 704]⟩
abbrev S1x2048x1024 : Shape := ⟨3, ![1, 2048, 1024]⟩
abbrev S_ : Shape := ⟨0, ![]⟩
abbrev S8x1024x704 : Shape := ⟨3, ![8, 1024, 704]⟩
abbrev S2048x1024 : Shape := ⟨2, ![2048, 1024]⟩
abbrev S8x704x2048 : Shape := ⟨3, ![8, 704, 2048]⟩
abbrev S8x704x1024 : Shape := ⟨3, ![8, 704, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8x2048x704, .bf16⟩
  | .hbm, ⟨1, _⟩ => ⟨S1x2048x1024, .bf16⟩
  | .hbm, ⟨2, _⟩ => ⟨S_, .f32⟩
  | .hbm, ⟨3, _⟩ => ⟨S8x1024x704, .f32⟩
  | .hbm, ⟨4, _⟩ => ⟨S1x2048x1024, .f32⟩
  | .hbm, ⟨5, _⟩ => ⟨S_, .f32⟩
  | .hbm, ⟨6, _⟩ => ⟨S2048x1024, .f32⟩
  | .hbm, ⟨7, _⟩ => ⟨S8x704x2048, .f32⟩
  | .hbm, ⟨8, _⟩ => ⟨S8x2048x704, .f32⟩
  | .hbm, ⟨9, _⟩ => ⟨S8x2048x704, .f32⟩
  | .hbm, ⟨10, _⟩ => ⟨S8x704x2048, .f32⟩
  | .hbm, ⟨11, _⟩ => ⟨S8x704x1024, .f32⟩
  | .hbm, ⟨12, _⟩ => ⟨S8x1024x704, .f32⟩
  | .hbm, ⟨13, _⟩ => ⟨S8x704x1024, .f32⟩
  | .hbm, ⟨14, _⟩ => ⟨S8x704x1024, .bf16⟩
  | _, _ => ⟨S8x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== AdamwSmall.lean ====
abbrev S1x8x168x128 : Shape := ⟨4, ![1, 8, 168, 128]⟩
abbrev S1x168x128 : Shape := ⟨3, ![1, 168, 128]⟩
abbrev S1x1x168x128 : Shape := ⟨4, ![1, 1, 168, 128]⟩
abbrev S168x128 : Shape := ⟨2, ![168, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x8x168x128, .f32⟩
  | .hbm, ⟨1, _⟩ => ⟨S1x168x128, .f32⟩
  | .hbm, ⟨2, _⟩ => ⟨S1x168x128, .f32⟩
  | .hbm, ⟨3, _⟩ => ⟨S1x168x128, .f32⟩
  | .hbm, ⟨4, _⟩ => ⟨S1x168x128, .f32⟩
  | .hbm, ⟨5, _⟩ => ⟨S1x168x128, .f32⟩
  | .hbm, ⟨6, _⟩ => ⟨S1x168x128, .f32⟩
  | .hbm, ⟨7, _⟩ => ⟨S1x168x128, .f32⟩
  | .local _ .vmem, ⟨0, _⟩ => ⟨S1x8x168x128, .f32⟩
  | .local _ .vmem, ⟨1, _⟩ => ⟨S1x168x128, .f32⟩
  | .local _ .vmem, ⟨2, _⟩ => ⟨S1x168x128, .f32⟩
  | .local _ .vmem, ⟨3, _⟩ => ⟨S1x168x128, .f32⟩
  | .local _ .vmem, ⟨4, _⟩ => ⟨S1x168x128, .f32⟩
  | .local _ .vmem, ⟨5, _⟩ => ⟨S1x168x128, .f32⟩
  | .local _ .vmem, ⟨6, _⟩ => ⟨S1x168x128, .f32⟩
  | .local _ .vmem, ⟨7, _⟩ => ⟨S1x168x128, .f32⟩
  | _, _ => ⟨S1x8x168x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x8x168x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x168x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x168x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x168x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x168x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x168x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x168x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x168x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamwSmallIdeal.lean ====
abbrev S1x8x168x128 : Shape := ⟨4, ![1, 8, 168, 128]⟩
abbrev S1x168x128 : Shape := ⟨3, ![1, 168, 128]⟩
abbrev S1x1x168x128 : Shape := ⟨4, ![1, 1, 168, 128]⟩
abbrev S168x128 : Shape := ⟨2, ![168, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x8x168x128, .f32⟩
  | .hbm, ⟨1, _⟩ => ⟨S1x168x128, .f32⟩
  | .hbm, ⟨2, _⟩ => ⟨S1x168x128, .f32⟩
  | .hbm, ⟨3, _⟩ => ⟨S1x168x128, .f32⟩
  | .hbm, ⟨4, _⟩ => ⟨S1x168x128, .f32⟩
  | .hbm, ⟨5, _⟩ => ⟨S1x168x128, .f32⟩
  | .hbm, ⟨6, _⟩ => ⟨S1x168x128, .f32⟩
  | .hbm, ⟨7, _⟩ => ⟨S1x168x128, .f32⟩
  | .local _ .vmem, ⟨0, _⟩ => ⟨S1x8x168x128, .f32⟩
  | .local _ .vmem, ⟨1, _⟩ => ⟨S1x168x128, .f32⟩
  | .local _ .vmem, ⟨2, _⟩ => ⟨S1x168x128, .f32⟩
  | .local _ .vmem, ⟨3, _⟩ => ⟨S1x168x128, .f32⟩
  | .local _ .vmem, ⟨4, _⟩ => ⟨S1x168x128, .f32⟩
  | .local _ .vmem, ⟨5, _⟩ => ⟨S1x168x128, .f32⟩
  | .local _ .vmem, ⟨6, _⟩ => ⟨S1x168x128, .f32⟩
  | .local _ .vmem, ⟨7, _⟩ => ⟨S1x168x128, .f32⟩
  | _, _ => ⟨S1x8x168x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "c1" => some ((10000000000 / 6513215599 : ℝ) : EReal)
  | "c2" => some ((1000000000000000000000000000000 / 9955119790251790119955009999 : ℝ) : EReal)
  | _ => none

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x8x168x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x168x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x168x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x168x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x168x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x168x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x168x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x168x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamwSmallRefIdeal.lean ====
abbrev S1x8x168x128 : Shape := ⟨4, ![1, 8, 168, 128]⟩
abbrev S1x168x128 : Shape := ⟨3, ![1, 168, 128]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S1x8x168x128, .f32⟩
  | .hbm, ⟨1, _⟩ => ⟨S1x168x128, .f32⟩
  | .hbm, ⟨2, _⟩ => ⟨S1x168x128, .f32⟩
  | .hbm, ⟨3, _⟩ => ⟨S1x168x128, .f32⟩
  | .hbm, ⟨4, _⟩ => ⟨S_, .f32⟩
  | .hbm, ⟨5, _⟩ => ⟨S1x168x128, .f32⟩
  | .hbm, ⟨6, _⟩ => ⟨S_, .f32⟩
  | .hbm, ⟨7, _⟩ => ⟨S1x168x128, .f32⟩
  | .hbm, ⟨8, _⟩ => ⟨S1x168x128, .f32⟩
  | .hbm, ⟨9, _⟩ => ⟨S_, .f32⟩
  | .hbm, ⟨10, _⟩ => ⟨S1x168x128, .f32⟩
  | .hbm, ⟨11, _⟩ => ⟨S1x168x128, .f32⟩
  | .hbm, ⟨12, _⟩ => ⟨S1x168x128, .f32⟩
  | .hbm, ⟨13, _⟩ => ⟨S_, .f32⟩
  | .hbm, ⟨14, _⟩ => ⟨S1x168x128, .f32⟩
  | .hbm, ⟨15, _⟩ => ⟨S1x168x128, .f32⟩
  | .hbm, ⟨16, _⟩ => ⟨S1x168x128, .f32⟩
  | .hbm, ⟨17, _⟩ => ⟨S_, .f32⟩
  | .hbm, ⟨18, _⟩ => ⟨S1x168x128, .f32⟩
  | .hbm, ⟨19, _⟩ => ⟨S1x168x128, .f32⟩
  | .hbm, ⟨20, _⟩ => ⟨S1x168x128, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1x168x128, .f32⟩
  | .hbm, ⟨31, _⟩ => ⟨S1x168x128, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1x168x128, .f32⟩
  | .hbm, ⟨42, _⟩ => ⟨S1x168x128, .f32⟩
  | .hbm, ⟨43, _⟩ => ⟨S1x168x128, .f32⟩
  | .hbm, ⟨44, _⟩ => ⟨S_, .f32⟩
  | .hbm, ⟨45, _⟩ => ⟨S1x168x128, .f32⟩
  | .hbm, ⟨46, _⟩ => ⟨S1x168x128, .f32⟩
  | .hbm, ⟨47, _⟩ => ⟨S1x168x128, .f32⟩
  | .hbm, ⟨48, _⟩ => ⟨S_, .f32⟩
  | .hbm, ⟨49, _⟩ => ⟨S1x168x128, .f32⟩
  | .hbm, ⟨50, _⟩ => ⟨S1x168x128, .f32⟩
  | .hbm, ⟨51, _⟩ => ⟨S1x168x128, .f32⟩
  | .hbm, ⟨52, _⟩ => ⟨S_, .f32⟩
  | .hbm, ⟨53, _⟩ => ⟨S1x168x128, .f32⟩
  | .hbm, ⟨54, _⟩ => ⟨S1x168x128, .f32⟩
  | _, _ => ⟨S1x8x168x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_cst_5 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_cst_8 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_10 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_12 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]
-- ==== AdamwRepl.lean ====
abbrev S1x8x2304x128 : Shape := ⟨4, ![1, 8, 2304, 128]⟩
abbrev S1x2304x128 : Shape := ⟨3, ![1, 2304, 128]⟩
abbrev S1x8x256x128 : Shape := ⟨4, ![1, 8, 256, 128]⟩
abbrev S1x256x128 : Shape := ⟨3, ![1, 256, 128]⟩
abbrev S1x1x256x128 : Shape := ⟨4, ![1, 1, 256, 128]⟩
abbrev S256x128 : Shape := ⟨2, ![256, 128]⟩

abbrev nBuf : Space → Nat
  | .hbm => 8
  | .vmem => 16
  | .smem => 0
  | _ => 0

abbrev bufTy : (tb : Table) → Fin (tcTables nBuf tb) → BufTy
  | .hbm, ⟨0, _⟩ => ⟨S1x8x2304x128, .f32⟩
  | .hbm, ⟨1, _⟩ => ⟨S1x2304x128, .f32⟩
  | .hbm, ⟨2, _⟩ => ⟨S1x2304x128, .f32⟩
  | .hbm, ⟨3, _⟩ => ⟨S1x2304x128, .f32⟩
  | .hbm, ⟨4, _⟩ => ⟨S1x2304x128, .f32⟩
  | .hbm, ⟨5, _⟩ => ⟨S1x2304x128, .f32⟩
  | .hbm, ⟨6, _⟩ => ⟨S1x2304x128, .f32⟩
  | .hbm, ⟨7, _⟩ => ⟨S1x2304x128, .f32⟩
  | .local _ .vmem, ⟨0, _⟩ => ⟨S1x8x256x128, .f32⟩
  | .local _ .vmem, ⟨1, _⟩ => ⟨S1x8x256x128, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | _, _ => ⟨S1x8x2304x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 9], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamwReplIdeal.lean ====
abbrev S1x8x2304x128 : Shape := ⟨4, ![1, 8, 2304, 128]⟩
abbrev S1x2304x128 : Shape := ⟨3, ![1, 2304, 128]⟩
abbrev S1x8x256x128 : Shape := ⟨4, ![1, 8, 256, 128]⟩
abbrev S1x256x128 : Shape := ⟨3, ![1, 256, 128]⟩
abbrev S1x1x256x128 : Shape := ⟨4, ![1, 1, 256, 128]⟩
abbrev S256x128 : Shape := ⟨2, ![256, 128]⟩

abbrev nBuf : Space → Nat
  | .hbm => 8
  | .vmem => 16
  | .smem => 0
  | _ => 0

abbrev bufTy : (tb : Table) → Fin (tcTables nBuf tb) → BufTy
  | .hbm, ⟨0, _⟩ => ⟨S1x8x2304x128, .f32⟩
  | .hbm, ⟨1, _⟩ => ⟨S1x2304x128, .f32⟩
  | .hbm, ⟨2, _⟩ => ⟨S1x2304x128, .f32⟩
  | .hbm, ⟨3, _⟩ => ⟨S1x2304x128, .f32⟩
  | .hbm, ⟨4, _⟩ => ⟨S1x2304x128, .f32⟩
  | .hbm, ⟨5, _⟩ => ⟨S1x2304x128, .f32⟩
  | .hbm, ⟨6, _⟩ => ⟨S1x2304x128, .f32⟩
  | .hbm, ⟨7, _⟩ => ⟨S1x2304x128, .f32⟩
  | .local _ .vmem, ⟨0, _⟩ => ⟨S1x8x256x128, .f32⟩
  | .local _ .vmem, ⟨1, _⟩ => ⟨S1x8x256x128, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | _, _ => ⟨S1x8x2304x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((10000000000 / 6513215599 : ℝ) : EReal)
  | "c2" => some ((1000000000000000000000000000000 / 9955119790251790119955009999 : ℝ) : EReal)
  | _ => none

abbrev grid0 : Pipeline.Grid := ⟨2, ![1, 9], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamwReplRefIdeal.lean ====
abbrev S1x8x2304x128 : Shape := ⟨4, ![1, 8, 2304, 128]⟩
abbrev S1x2304x128 : Shape := ⟨3, ![1, 2304, 128]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S1x8x2304x128, .f32⟩
  | .hbm, ⟨1, _⟩ => ⟨S1x2304x128, .f32⟩
  | .hbm, ⟨2, _⟩ => ⟨S1x2304x128, .f32⟩
  | .hbm, ⟨3, _⟩ => ⟨S1x2304x128, .f32⟩
  | .hbm, ⟨4, _⟩ => ⟨S_, .f32⟩
  | .hbm, ⟨5, _⟩ => ⟨S1x2304x128, .f32⟩
  | .hbm, ⟨6, _⟩ => ⟨S_, .f32⟩
  | .hbm, ⟨7, _⟩ => ⟨S1x2304x128, .f32⟩
  | .hbm, ⟨8, _⟩ => ⟨S1x2304x128, .f32⟩
  | .hbm, ⟨9, _⟩ => ⟨S_, .f32⟩
  | .hbm, ⟨10, _⟩ => ⟨S1x2304x128, .f32⟩
  | .hbm, ⟨11, _⟩ => ⟨S1x2304x128, .f32⟩
  | .hbm, ⟨12, _⟩ => ⟨S1x2304x128, .f32⟩
  | .hbm, ⟨13, _⟩ => ⟨S_, .f32⟩
  | .hbm, ⟨14, _⟩ => ⟨S1x2304x128, .f32⟩
  | .hbm, ⟨15, _⟩ => ⟨S1x2304x128, .f32⟩
  | .hbm, ⟨16, _⟩ => ⟨S1x2304x128, .f32⟩
  | .hbm, ⟨17, _⟩ => ⟨S_, .f32⟩
  | .hbm, ⟨18, _⟩ => ⟨S1x2304x128, .f32⟩
  | .hbm, ⟨19, _⟩ => ⟨S1x2304x128, .f32⟩
  | .hbm, ⟨20, _⟩ => ⟨S1x2304x128, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1x2304x128, .f32⟩
  | .hbm, ⟨31, _⟩ => ⟨S1x2304x128, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1x2304x128, .f32⟩
  | .hbm, ⟨42, _⟩ => ⟨S1x2304x128, .f32⟩
  | .hbm, ⟨43, _⟩ => ⟨S1x2304x128, .f32⟩
  | .hbm, ⟨44, _⟩ => ⟨S_, .f32⟩
  | .hbm, ⟨45, _⟩ => ⟨S1x2304x128, .f32⟩
  | .hbm, ⟨46, _⟩ => ⟨S1x2304x128, .f32⟩
  | .hbm, ⟨47, _⟩ => ⟨S1x2304x128, .f32⟩
  | .hbm, ⟨48, _⟩ => ⟨S_, .f32⟩
  | .hbm, ⟨49, _⟩ => ⟨S1x2304x128, .f32⟩
  | .hbm, ⟨50, _⟩ => ⟨S1x2304x128, .f32⟩
  | .hbm, ⟨51, _⟩ => ⟨S1x2304x128, .f32⟩
  | .hbm, ⟨52, _⟩ => ⟨S_, .f32⟩
  | .hbm, ⟨53, _⟩ => ⟨S1x2304x128, .f32⟩
  | .hbm, ⟨54, _⟩ => ⟨S1x2304x128, .f32⟩
  | _, _ => ⟨S1x8x2304x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_cst_5 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_cst_8 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_10 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_12 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]
-- ==== AdamwAdaW.lean ====
abbrev S4x1x1024x768 : Shape := ⟨4, ![4, 1, 1024, 768]⟩
abbrev S4x1024x768 : Shape := ⟨3, ![4, 1024, 768]⟩
abbrev S1x1x128x768 : Shape := ⟨4, ![1, 1, 128, 768]⟩
abbrev S1x128x768 : Shape := ⟨3, ![1, 128, 768]⟩
abbrev S128x768 : Shape := ⟨2, ![128, 768]⟩

abbrev nBuf : Space → Nat
  | .hbm => 8
  | .vmem => 16
  | .smem => 0
  | _ => 0

abbrev bufTy : (tb : Table) → Fin (tcTables nBuf tb) → BufTy
  | .hbm, ⟨0, _⟩ => ⟨S4x1x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S4x1024x768, .f32⟩
  | .hbm, ⟨5, _⟩ => ⟨S4x1024x768, .f32⟩
  | .hbm, ⟨6, _⟩ => ⟨S4x1024x768, .f32⟩
  | .hbm, ⟨7, _⟩ => ⟨S4x1024x768, .f32⟩
  | .local _ .vmem, ⟨0, _⟩ => ⟨S1x1x128x768, .f32⟩
  | .local _ .vmem, ⟨1, _⟩ => ⟨S1x1x128x768, .f32⟩
  | .local _ .vmem, ⟨2, _⟩ => ⟨S1x128x768, .f32⟩
  | .local _ .vmem, ⟨3, _⟩ => ⟨S1x128x768, .f32⟩
  | .local _ .vmem, ⟨4, _⟩ => ⟨S1x128x768, .f32⟩
  | .local _ .vmem, ⟨5, _⟩ => ⟨S1x128x768, .f32⟩
  | .local _ .vmem, ⟨6, _⟩ => ⟨S1x128x768, .f32⟩
  | .local _ .vmem, ⟨7, _⟩ => ⟨S1x128x768, .f32⟩
  | .local _ .vmem, ⟨8, _⟩ => ⟨S1x128x768, .f32⟩
  | .local _ .vmem, ⟨9, _⟩ => ⟨S1x128x768, .f32⟩
  | .local _ .vmem, ⟨10, _⟩ => ⟨S1x128x768, .f32⟩
  | .local _ .vmem, ⟨11, _⟩ => ⟨S1x128x768, .f32⟩
  | .local _ .vmem, ⟨12, _⟩ => ⟨S1x128x768, .f32⟩
  | .local _ .vmem, ⟨13, _⟩ => ⟨S1x128x768, .f32⟩
  | .local _ .vmem, ⟨14, _⟩ => ⟨S1x128x768, .f32⟩
  | .local _ .vmem, ⟨15, _⟩ => ⟨S1x128x768, .f32⟩
  | _, _ => ⟨S4x1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamwAdaWIdeal.lean ====
abbrev S4x1x1024x768 : Shape := ⟨4, ![4, 1, 1024, 768]⟩
abbrev S4x1024x768 : Shape := ⟨3, ![4, 1024, 768]⟩
abbrev S1x1x128x768 : Shape := ⟨4, ![1, 1, 128, 768]⟩
abbrev S1x128x768 : Shape := ⟨3, ![1, 128, 768]⟩
abbrev S128x768 : Shape := ⟨2, ![128, 768]⟩

abbrev nBuf : Space → Nat
  | .hbm => 8
  | .vmem => 16
  | .smem => 0
  | _ => 0

abbrev bufTy : (tb : Table) → Fin (tcTables nBuf tb) → BufTy
  | .hbm, ⟨0, _⟩ => ⟨S4x1x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S4x1024x768, .f32⟩
  | .hbm, ⟨5, _⟩ => ⟨S4x1024x768, .f32⟩
  | .hbm, ⟨6, _⟩ => ⟨S4x1024x768, .f32⟩
  | .hbm, ⟨7, _⟩ => ⟨S4x1024x768, .f32⟩
  | .local _ .vmem, ⟨0, _⟩ => ⟨S1x1x128x768, .f32⟩
  | .local _ .vmem, ⟨1, _⟩ => ⟨S1x1x128x768, .f32⟩
  | .local _ .vmem, ⟨2, _⟩ => ⟨S1x128x768, .f32⟩
  | .local _ .vmem, ⟨3, _⟩ => ⟨S1x128x768, .f32⟩
  | .local _ .vmem, ⟨4, _⟩ => ⟨S1x128x768, .f32⟩
  | .local _ .vmem, ⟨5, _⟩ => ⟨S1x128x768, .f32⟩
  | .local _ .vmem, ⟨6, _⟩ => ⟨S1x128x768, .f32⟩
  | .local _ .vmem, ⟨7, _⟩ => ⟨S1x128x768, .f32⟩
  | .local _ .vmem, ⟨8, _⟩ => ⟨S1x128x768, .f32⟩
  | .local _ .vmem, ⟨9, _⟩ => ⟨S1x128x768, .f32⟩
  | .local _ .vmem, ⟨10, _⟩ => ⟨S1x128x768, .f32⟩
  | .local _ .vmem, ⟨11, _⟩ => ⟨S1x128x768, .f32⟩
  | .local _ .vmem, ⟨12, _⟩ => ⟨S1x128x768, .f32⟩
  | .local _ .vmem, ⟨13, _⟩ => ⟨S1x128x768, .f32⟩
  | .local _ .vmem, ⟨14, _⟩ => ⟨S1x128x768, .f32⟩
  | .local _ .vmem, ⟨15, _⟩ => ⟨S1x128x768, .f32⟩
  | _, _ => ⟨S4x1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((10000000000 / 6513215599 : ℝ) : EReal)
  | "c2" => some ((1000000000000000000000000000000 / 9955119790251790119955009999 : ℝ) : EReal)
  | _ => none

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamwAdaWRefIdeal.lean ====
abbrev S4x1x1024x768 : Shape := ⟨4, ![4, 1, 1024, 768]⟩
abbrev S4x1024x768 : Shape := ⟨3, ![4, 1024, 768]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S4x1x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S_, .f32⟩
  | .hbm, ⟨5, _⟩ => ⟨S4x1024x768, .f32⟩
  | .hbm, ⟨6, _⟩ => ⟨S_, .f32⟩
  | .hbm, ⟨7, _⟩ => ⟨S4x1024x768, .f32⟩
  | .hbm, ⟨8, _⟩ => ⟨S4x1024x768, .f32⟩
  | .hbm, ⟨9, _⟩ => ⟨S_, .f32⟩
  | .hbm, ⟨10, _⟩ => ⟨S4x1024x768, .f32⟩
  | .hbm, ⟨11, _⟩ => ⟨S4x1024x768, .f32⟩
  | .hbm, ⟨12, _⟩ => ⟨S4x1024x768, .f32⟩
  | .hbm, ⟨13, _⟩ => ⟨S_, .f32⟩
  | .hbm, ⟨14, _⟩ => ⟨S4x1024x768, .f32⟩
  | .hbm, ⟨15, _⟩ => ⟨S4x1024x768, .f32⟩
  | .hbm, ⟨16, _⟩ => ⟨S4x1024x768, .f32⟩
  | .hbm, ⟨17, _⟩ => ⟨S_, .f32⟩
  | .hbm, ⟨18, _⟩ => ⟨S4x1024x768, .f32⟩
  | .hbm, ⟨19, _⟩ => ⟨S4x1024x768, .f32⟩
  | .hbm, ⟨20, _⟩ => ⟨S4x1024x768, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4x1024x768, .f32⟩
  | .hbm, ⟨31, _⟩ => ⟨S4x1024x768, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4x1024x768, .f32⟩
  | .hbm, ⟨42, _⟩ => ⟨S4x1024x768, .f32⟩
  | .hbm, ⟨43, _⟩ => ⟨S4x1024x768, .f32⟩
  | .hbm, ⟨44, _⟩ => ⟨S_, .f32⟩
  | .hbm, ⟨45, _⟩ => ⟨S4x1024x768, .f32⟩
  | .hbm, ⟨46, _⟩ => ⟨S4x1024x768, .f32⟩
  | .hbm, ⟨47, _⟩ => ⟨S4x1024x768, .f32⟩
  | .hbm, ⟨48, _⟩ => ⟨S_, .f32⟩
  | .hbm, ⟨49, _⟩ => ⟨S4x1024x768, .f32⟩
  | .hbm, ⟨50, _⟩ => ⟨S4x1024x768, .f32⟩
  | .hbm, ⟨51, _⟩ => ⟨S4x1024x768, .f32⟩
  | .hbm, ⟨52, _⟩ => ⟨S_, .f32⟩
  | .hbm, ⟨53, _⟩ => ⟨S4x1024x768, .f32⟩
  | .hbm, ⟨54, _⟩ => ⟨S4x1024x768, .f32⟩
  | _, _ => ⟨S4x1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_cst_5 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_cst_8 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_10 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_12 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]
-- ==== AdamwAdaB.lean ====
abbrev S1x16x4x6144 : Shape := ⟨4, ![1, 16, 4, 6144]⟩
abbrev S1x4x6144 : Shape := ⟨3, ![1, 4, 6144]⟩
abbrev S1x1x4x6144 : Shape := ⟨4, ![1, 1, 4, 6144]⟩
abbrev S4x6144 : Shape := ⟨2, ![4, 6144]⟩

abbrev nBuf : Space → Nat
  | .hbm => 8
  | .vmem => 8
  | .smem => 0
  | _ => 0

abbrev bufTy : (tb : Table) → Fin (tcTables nBuf tb) → BufTy
  | .hbm, ⟨0, _⟩ => ⟨S1x16x4x6144, .f32⟩
  | .hbm, ⟨1, _⟩ => ⟨S1x4x6144, .f32⟩
  | .hbm, ⟨2, _⟩ => ⟨S1x4x6144, .f32⟩
  | .hbm, ⟨3, _⟩ => ⟨S1x4x6144, .f32⟩
  | .hbm, ⟨4, _⟩ => ⟨S1x4x6144, .f32⟩
  | .hbm, ⟨5, _⟩ => ⟨S1x4x6144, .f32⟩
  | .hbm, ⟨6, _⟩ => ⟨S1x4x6144, .f32⟩
  | .hbm, ⟨7, _⟩ => ⟨S1x4x6144, .f32⟩
  | .local _ .vmem, ⟨0, _⟩ => ⟨S1x16x4x6144, .f32⟩
  | .local _ .vmem, ⟨1, _⟩ => ⟨S1x4x6144, .f32⟩
  | .local _ .vmem, ⟨2, _⟩ => ⟨S1x4x6144, .f32⟩
  | .local _ .vmem, ⟨3, _⟩ => ⟨S1x4x6144, .f32⟩
  | .local _ .vmem, ⟨4, _⟩ => ⟨S1x4x6144, .f32⟩
  | .local _ .vmem, ⟨5, _⟩ => ⟨S1x4x6144, .f32⟩
  | .local _ .vmem, ⟨6, _⟩ => ⟨S1x4x6144, .f32⟩
  | .local _ .vmem, ⟨7, _⟩ => ⟨S1x4x6144, .f32⟩
  | _, _ => ⟨S1x16x4x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x16x4x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x4x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x4x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x4x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x4x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x4x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x4x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x4x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamwAdaBIdeal.lean ====
abbrev S1x16x4x6144 : Shape := ⟨4, ![1, 16, 4, 6144]⟩
abbrev S1x4x6144 : Shape := ⟨3, ![1, 4, 6144]⟩
abbrev S1x1x4x6144 : Shape := ⟨4, ![1, 1, 4, 6144]⟩
abbrev S4x6144 : Shape := ⟨2, ![4, 6144]⟩

abbrev nBuf : Space → Nat
  | .hbm => 8
  | .vmem => 8
  | .smem => 0
  | _ => 0

abbrev bufTy : (tb : Table) → Fin (tcTables nBuf tb) → BufTy
  | .hbm, ⟨0, _⟩ => ⟨S1x16x4x6144, .f32⟩
  | .hbm, ⟨1, _⟩ => ⟨S1x4x6144, .f32⟩
  | .hbm, ⟨2, _⟩ => ⟨S1x4x6144, .f32⟩
  | .hbm, ⟨3, _⟩ => ⟨S1x4x6144, .f32⟩
  | .hbm, ⟨4, _⟩ => ⟨S1x4x6144, .f32⟩
  | .hbm, ⟨5, _⟩ => ⟨S1x4x6144, .f32⟩
  | .hbm, ⟨6, _⟩ => ⟨S1x4x6144, .f32⟩
  | .hbm, ⟨7, _⟩ => ⟨S1x4x6144, .f32⟩
  | .local _ .vmem, ⟨0, _⟩ => ⟨S1x16x4x6144, .f32⟩
  | .local _ .vmem, ⟨1, _⟩ => ⟨S1x4x6144, .f32⟩
  | .local _ .vmem, ⟨2, _⟩ => ⟨S1x4x6144, .f32⟩
  | .local _ .vmem, ⟨3, _⟩ => ⟨S1x4x6144, .f32⟩
  | .local _ .vmem, ⟨4, _⟩ => ⟨S1x4x6144, .f32⟩
  | .local _ .vmem, ⟨5, _⟩ => ⟨S1x4x6144, .f32⟩
  | .local _ .vmem, ⟨6, _⟩ => ⟨S1x4x6144, .f32⟩
  | .local _ .vmem, ⟨7, _⟩ => ⟨S1x4x6144, .f32⟩
  | _, _ => ⟨S1x16x4x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "c1" => some ((10000000000 / 6513215599 : ℝ) : EReal)
  | "c2" => some ((1000000000000000000000000000000 / 9955119790251790119955009999 : ℝ) : EReal)
  | _ => none

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x16x4x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x4x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x4x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x4x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x4x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x4x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x4x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x4x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamwAdaBRefIdeal.lean ====
abbrev S1x16x4x6144 : Shape := ⟨4, ![1, 16, 4, 6144]⟩
abbrev S1x4x6144 : Shape := ⟨3, ![1, 4, 6144]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S1x16x4x6144, .f32⟩
  | .hbm, ⟨1, _⟩ => ⟨S1x4x6144, .f32⟩
  | .hbm, ⟨2, _⟩ => ⟨S1x4x6144, .f32⟩
  | .hbm, ⟨3, _⟩ => ⟨S1x4x6144, .f32⟩
  | .hbm, ⟨4, _⟩ => ⟨S_, .f32⟩
  | .hbm, ⟨5, _⟩ => ⟨S1x4x6144, .f32⟩
  | .hbm, ⟨6, _⟩ => ⟨S_, .f32⟩
  | .hbm, ⟨7, _⟩ => ⟨S1x4x6144, .f32⟩
  | .hbm, ⟨8, _⟩ => ⟨S1x4x6144, .f32⟩
  | .hbm, ⟨9, _⟩ => ⟨S_, .f32⟩
  | .hbm, ⟨10, _⟩ => ⟨S1x4x6144, .f32⟩
  | .hbm, ⟨11, _⟩ => ⟨S1x4x6144, .f32⟩
  | .hbm, ⟨12, _⟩ => ⟨S1x4x6144, .f32⟩
  | .hbm, ⟨13, _⟩ => ⟨S_, .f32⟩
  | .hbm, ⟨14, _⟩ => ⟨S1x4x6144, .f32⟩
  | .hbm, ⟨15, _⟩ => ⟨S1x4x6144, .f32⟩
  | .hbm, ⟨16, _⟩ => ⟨S1x4x6144, .f32⟩
  | .hbm, ⟨17, _⟩ => ⟨S_, .f32⟩
  | .hbm, ⟨18, _⟩ => ⟨S1x4x6144, .f32⟩
  | .hbm, ⟨19, _⟩ => ⟨S1x4x6144, .f32⟩
  | .hbm, ⟨20, _⟩ => ⟨S1x4x6144, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1x4x6144, .f32⟩
  | .hbm, ⟨31, _⟩ => ⟨S1x4x6144, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1x4x6144, .f32⟩
  | .hbm, ⟨42, _⟩ => ⟨S1x4x6144, .f32⟩
  | .hbm, ⟨43, _⟩ => ⟨S1x4x6144, .f32⟩
  | .hbm, ⟨44, _⟩ => ⟨S_, .f32⟩
  | .hbm, ⟨45, _⟩ => ⟨S1x4x6144, .f32⟩
  | .hbm, ⟨46, _⟩ => ⟨S1x4x6144, .f32⟩
  | .hbm, ⟨47, _⟩ => ⟨S1x4x6144, .f32⟩
  | .hbm, ⟨48, _⟩ => ⟨S_, .f32⟩
  | .hbm, ⟨49, _⟩ => ⟨S1x4x6144, .f32⟩
  | .hbm, ⟨50, _⟩ => ⟨S1x4x6144, .f32⟩
  | .hbm, ⟨51, _⟩ => ⟨S1x4x6144, .f32⟩
  | .hbm, ⟨52, _⟩ => ⟨S_, .f32⟩
  | .hbm, ⟨53, _⟩ => ⟨S1x4x6144, .f32⟩
  | .hbm, ⟨54, _⟩ => ⟨S1x4x6144, .f32⟩
  | _, _ => ⟨S1x16x4x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_cst_5 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_cst_8 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_10 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_12 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]
-- ==== AdamwFfnUp.lean ====
abbrev S8x704x1024 : Shape := ⟨3, ![8, 704, 1024]⟩
abbrev S4x704x1024 : Shape := ⟨3, ![4, 704, 1024]⟩
abbrev S8x64x1024 : Shape := ⟨3, ![8, 64, 1024]⟩
abbrev S1x64x1024 : Shape := ⟨3, ![1, 64, 1024]⟩
abbrev S64x1024 : Shape := ⟨2, ![64, 1024]⟩

abbrev nBuf : Space → Nat
  | .hbm => 11
  | .vmem => 22
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S8x704x1024, .bf16⟩
  | .hbm, ⟨3, _⟩ => ⟨S8x704x1024, .bf16⟩
  | .hbm, ⟨4, _⟩ => ⟨S4x704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S8x64x1024, .bf16⟩
  | .local _ .vmem, ⟨3, _⟩ => ⟨S8x64x1024, .bf16⟩
  | .local _ .vmem, ⟨4, _⟩ => ⟨S8x64x1024, .bf16⟩
  | .local _ .vmem, ⟨5, _⟩ => ⟨S8x64x1024, .bf16⟩
  | .local _ .vmem, ⟨6, _⟩ => ⟨S8x64x1024, .bf16⟩
  | .local _ .vmem, ⟨7, _⟩ => ⟨S8x64x1024, .bf16⟩
  | .local _ .vmem, ⟨8, _⟩ => ⟨S1x64x1024, .f32⟩
  | .local _ .vmem, ⟨9, _⟩ => ⟨S1x64x1024, .f32⟩
  | .local _ .vmem, ⟨10, _⟩ => ⟨S1x64x1024, .f32⟩
  | .local _ .vmem, ⟨11, _⟩ => ⟨S1x64x1024, .f32⟩
  | .local _ .vmem, ⟨12, _⟩ => ⟨S1x64x1024, .f32⟩
  | .local _ .vmem, ⟨13, _⟩ => ⟨S1x64x1024, .f32⟩
  | .local _ .vmem, ⟨14, _⟩ => ⟨S1x64x1024, .f32⟩
  | .local _ .vmem, ⟨15, _⟩ => ⟨S1x64x1024, .f32⟩
  | .local _ .vmem, ⟨16, _⟩ => ⟨S1x64x1024, .f32⟩
  | .local _ .vmem, ⟨17, _⟩ => ⟨S1x64x1024, .f32⟩
  | .local _ .vmem, ⟨18, _⟩ => ⟨S1x64x1024, .f32⟩
  | .local _ .vmem, ⟨19, _⟩ => ⟨S1x64x1024, .f32⟩
  | .local _ .vmem, ⟨20, _⟩ => ⟨S1x64x1024, .f32⟩
  | .local _ .vmem, ⟨21, _⟩ => ⟨S1x64x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 11], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c10_i32 : BitVec 32 := 10#32
  let c0_i32_1 : BitVec 32 := 0#32
  let v2 : BitVec 32 := Scalar.select v1 c10_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c10_i32 : BitVec 32 := 10#32
  let c0_i32 : BitVec 32 := 0#32
  let v2 : BitVec 32 := Scalar.select v1 c10_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .sgt arg0 c2_i32_0
  let c10_i32 : BitVec 32 := 10#32
  let c0_i32 : BitVec 32 := 0#32
  let v2 : BitVec 32 := Scalar.select v1 c10_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .sgt arg0 c3_i32_0
  let c10_i32 : BitVec 32 := 10#32
  let c0_i32 : BitVec 32 := 0#32
  let v2 : BitVec 32 := Scalar.select v1 c10_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamwFfnUpIdeal.lean ====
abbrev S8x704x1024 : Shape := ⟨3, ![8, 704, 1024]⟩
abbrev S4x704x1024 : Shape := ⟨3, ![4, 704, 1024]⟩
abbrev S8x64x1024 : Shape := ⟨3, ![8, 64, 1024]⟩
abbrev S1x64x1024 : Shape := ⟨3, ![1, 64, 1024]⟩
abbrev S64x1024 : Shape := ⟨2, ![64, 1024]⟩

abbrev nBuf : Space → Nat
  | .hbm => 11
  | .vmem => 22
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S8x704x1024, .bf16⟩
  | .hbm, ⟨3, _⟩ => ⟨S8x704x1024, .bf16⟩
  | .hbm, ⟨4, _⟩ => ⟨S4x704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S8x64x1024, .bf16⟩
  | .local _ .vmem, ⟨3, _⟩ => ⟨S8x64x1024, .bf16⟩
  | .local _ .vmem, ⟨4, _⟩ => ⟨S8x64x1024, .bf16⟩
  | .local _ .vmem, ⟨5, _⟩ => ⟨S8x64x1024, .bf16⟩
  | .local _ .vmem, ⟨6, _⟩ => ⟨S8x64x1024, .bf16⟩
  | .local _ .vmem, ⟨7, _⟩ => ⟨S8x64x1024, .bf16⟩
  | .local _ .vmem, ⟨8, _⟩ => ⟨S1x64x1024, .f32⟩
  | .local _ .vmem, ⟨9, _⟩ => ⟨S1x64x1024, .f32⟩
  | .local _ .vmem, ⟨10, _⟩ => ⟨S1x64x1024, .f32⟩
  | .local _ .vmem, ⟨11, _⟩ => ⟨S1x64x1024, .f32⟩
  | .local _ .vmem, ⟨12, _⟩ => ⟨S1x64x1024, .f32⟩
  | .local _ .vmem, ⟨13, _⟩ => ⟨S1x64x1024, .f32⟩
  | .local _ .vmem, ⟨14, _⟩ => ⟨S1x64x1024, .f32⟩
  | .local _ .vmem, ⟨15, _⟩ => ⟨S1x64x1024, .f32⟩
  | .local _ .vmem, ⟨16, _⟩ => ⟨S1x64x1024, .f32⟩
  | .local _ .vmem, ⟨17, _⟩ => ⟨S1x64x1024, .f32⟩
  | .local _ .vmem, ⟨18, _⟩ => ⟨S1x64x1024, .f32⟩
  | .local _ .vmem, ⟨19, _⟩ => ⟨S1x64x1024, .f32⟩
  | .local _ .vmem, ⟨20, _⟩ => ⟨S1x64x1024, .f32⟩
  | .local _ .vmem, ⟨21, _⟩ => ⟨S1x64x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F] [Named F]

def κ : String → Option EReal := fun
  | "c1" => some ((10000000000 / 6513215599 : ℝ) : EReal)
  | "c2" => some ((1000000000000000000000000000000 / 9955119790251790119955009999 : ℝ) : EReal)
  | _ => none

abbrev grid0 : Pipeline.Grid := ⟨2, ![4, 11], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c10_i32 : BitVec 32 := 10#32
  let c0_i32_1 : BitVec 32 := 0#32
  let v2 : BitVec 32 := Scalar.select v1 c10_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c10_i32 : BitVec 32 := 10#32
  let c0_i32 : BitVec 32 := 0#32
  let v2 : BitVec 32 := Scalar.select v1 c10_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .sgt arg0 c2_i32_0
  let c10_i32 : BitVec 32 := 10#32
  let c0_i32 : BitVec 32 := 0#32
  let v2 : BitVec 32 := Scalar.select v1 c10_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .sgt arg0 c3_i32_0
  let c10_i32 : BitVec 32 := 10#32
  let c0_i32 : BitVec 32 := 0#32
  let v2 : BitVec 32 := Scalar.select v1 c10_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamwFfnUpRefIdeal.lean ====
abbrev S8x704x1024 : Shape := ⟨3, ![8, 704, 1024]⟩
abbrev S4x704x1024 : Shape := ⟨3, ![4, 704, 1024]⟩
abbrev S_ : Shape := ⟨0, ![]⟩
abbrev S704x1024 : Shape := ⟨2, ![704, 1024]⟩
abbrev S1x704x1024 : Shape := ⟨3, ![1, 704, 1024]⟩

abbrev nBuf : Space → Nat
  | .hbm => 73
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S8x704x1024, .bf16⟩
  | .hbm, ⟨3, _⟩ => ⟨S8x704x1024, .bf16⟩
  | .hbm, ⟨4, _⟩ => ⟨S4x704x1024, .f32⟩
  | .hbm, ⟨5, _⟩ => ⟨S4x704x1024, .f32⟩
  | .hbm, ⟨6, _⟩ => ⟨S4x704x1024, .f32⟩
  | .hbm, ⟨7, _⟩ => ⟨S8x704x1024, .f32⟩
  | .hbm, ⟨8, _⟩ => ⟨S_, .f32⟩
  | .hbm, ⟨9, _⟩ => ⟨S704x1024, .f32⟩
  | .hbm, ⟨10, _⟩ => ⟨S8x704x1024, .f32⟩
  | .hbm, ⟨11, _⟩ => ⟨S_, .f32⟩
  | .hbm, ⟨12, _⟩ => ⟨S704x1024, .f32⟩
  | .hbm, ⟨13, _⟩ => ⟨S8x704x1024, .f32⟩
  | .hbm, ⟨14, _⟩ => ⟨S_, .f32⟩
  | .hbm, ⟨15, _⟩ => ⟨S704x1024, .f32⟩
  | .hbm, ⟨16, _⟩ => ⟨S8x704x1024, .f32⟩
  | .hbm, ⟨17, _⟩ => ⟨S_, .f32⟩
  | .hbm, ⟨18, _⟩ => ⟨S704x1024, .f32⟩
  | .hbm, ⟨19, _⟩ => ⟨S1x704x1024, .f32⟩
  | .hbm, ⟨20, _⟩ => ⟨S1x704x1024, .f32⟩
  | .hbm, ⟨21, _⟩ => ⟨S1x704x1024, .f32⟩
  | .hbm, ⟨22, _⟩ => ⟨S1x704x1024, .f32⟩
  | .hbm, ⟨23, _⟩ => ⟨S4x704x1024, .f32⟩
  | .hbm, ⟨24, _⟩ => ⟨S_, .f32⟩
  | .hbm, ⟨25, _⟩ => ⟨S4x704x1024, .f32⟩
  | .hbm, ⟨26, _⟩ => ⟨S4x704x1024, .f32⟩
  | .hbm, ⟨27, _⟩ => ⟨S_, .f32⟩
  | .hbm, ⟨28, _⟩ => ⟨S4x704x1024, .f32⟩
  | .hbm, ⟨29, _⟩ => ⟨S4x704x1024, .f32⟩
  | .hbm, ⟨30, _⟩ => ⟨S4x704x1024, .f32⟩
  | .hbm, ⟨31, _⟩ => ⟨S_, .f32⟩
  | .hbm, ⟨32, _⟩ => ⟨S4x704x1024, .f32⟩
  | .hbm, ⟨33, _⟩ => ⟨S4x704x1024, .f32⟩
  | .hbm, ⟨34, _⟩ => ⟨S4x704x1024, .f32⟩
  | .hbm, ⟨35, _⟩ => ⟨S_, .f32⟩
  | .hbm, ⟨36, _⟩ => ⟨S4x704x1024, .f32⟩
  | .hbm, ⟨37, _⟩ => ⟨S4x704x1024, .f32⟩
  | .hbm, ⟨38, _⟩ => ⟨S4x704x1024, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S4x704x1024, .f32⟩
  | .hbm, ⟨49, _⟩ => ⟨S4x704x1024, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S4x704x1024, .f32⟩
  | .hbm, ⟨60, _⟩ => ⟨S4x704x1024, .f32⟩
  | .hbm, ⟨61, _⟩ => ⟨S4x704x1024, .f32⟩
  | .hbm, ⟨62, _⟩ => ⟨S_, .f32⟩
  | .hbm, ⟨63, _⟩ => ⟨S4x704x1024, .f32⟩
  | .hbm, ⟨64, _⟩ => ⟨S4x704x1024, .f32⟩
  | .hbm, ⟨65, _⟩ => ⟨S4x704x1024, .f32⟩
  | .hbm, ⟨66, _⟩ => ⟨S_, .f32⟩
  | .hbm, ⟨67, _⟩ => ⟨S4x704x1024, .f32⟩
  | .hbm, ⟨68, _⟩ => ⟨S4x704x1024, .f32⟩
  | .hbm, ⟨69, _⟩ => ⟨S4x704x1024, .f32⟩
  | .hbm, ⟨70, _⟩ => ⟨S_, .f32⟩
  | .hbm, ⟨71, _⟩ => ⟨S4x704x1024, .f32⟩
  | .hbm, ⟨72, _⟩ => ⟨S4x704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_cst_8 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_cst_11 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_12 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_13 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_14 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_15 : Ref sig .tc := ⟨.hbm, 70, rfl⟩
abbrev main_v47 : Ref sig .tc := ⟨.hbm, 71, rfl⟩
abbrev main_v48 : Ref sig .tc := ⟨.hbm, 72, rfl⟩

abbrev nD : Nat := 1
abbrev τ : Topo := Topo.v7x

variable {F : FTy → Type} [FloatOps F]
-- ==== AdamwFfnDown.lean ====
abbrev S8x352x1024 : Shape := ⟨3, ![8, 352, 1024]⟩
abbrev S4x352x1024 : Shape := ⟨3, ![4, 352, 1024]⟩
abbrev S8x32x1024 : Shape := ⟨3, ![8, 32, 1024]⟩
abbrev S1x32x1024 : Shape := ⟨3, ![1, 32, 1024]⟩
abbrev S32x1024 : Shape := ⟨2, ![32, 1024]⟩

abbrev nBuf : Space → Nat
  | .hbm => 11
  | .vmem => 22
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S8x352x1024, .bf16⟩
  | .hbm, ⟨3, _⟩ => ⟨S8x352x1024, .bf16⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S8x32x1024, .bf16⟩
  | .local _ .vmem, ⟨3, _⟩ => ⟨S8x32x1024, .bf16⟩
  | .local _ .vmem, ⟨4, _⟩ => ⟨S8x32x1024, .bf16⟩
  | .local _ .vmem, ⟨5, _⟩ => ⟨S8x32x1024, .bf16⟩
  | .local _ .vmem, ⟨6, _⟩ => ⟨S8x32x1024, .bf16⟩
  | .local _ .vmem, ⟨7, _⟩ => ⟨S8x32x1024, .bf16⟩
  | .local _ .vmem, ⟨8, _⟩ => ⟨S1x32x1024, .f32⟩
  | .local _ .vmem, ⟨9, _⟩ => ⟨S1x32x1024, .f32⟩
  | .local _ .vmem, ⟨10, _⟩ => ⟨S1x32x1024, .f32⟩
  | .local _ .vmem, ⟨11, _⟩ => ⟨S1x32x1024, .f32⟩
  | .local _ .vmem, ⟨12, _⟩ => ⟨S1x32x1024, .f32⟩
  | .local _ .vmem, ⟨13, _⟩ => ⟨S1x32x1024, .f32⟩
  | .local _ .vmem, ⟨14, _⟩ => ⟨S1x32x1024, .f32⟩
  | .local _ .vmem, ⟨15, _⟩ => ⟨S1x32x1024, .f32⟩
  | .local _ .vmem, ⟨16, _⟩ => ⟨S1x32x1024, .f32⟩
  | .local _ .vmem, ⟨17, _⟩ => ⟨S1x32x1024, .f32⟩
  | .local _ .vmem, ⟨18, _⟩ => ⟨S1x32x1024, .f32⟩
  | .local _ .vmem, ⟨19, _⟩ => ⟨S1x32x1024, .f32⟩
  | .local _ .vmem, ⟨20, _⟩ => ⟨S1x32x1024, .f32⟩
  | .local _ .vmem, ⟨21, _⟩ => ⟨S1x32x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 11], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c10_i32 : BitVec 32 := 10#32
  let c0_i32_1 : BitVec 32 := 0#32
  let v2 : BitVec 32 := Scalar.select v1 c10_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c10_i32 : BitVec 32 := 10#32
  let c0_i32 : BitVec 32 := 0#32
  let v2 : BitVec 32 := Scalar.select v1 c10_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .sgt arg0 c2_i32_0
  let c10_i32 : BitVec 32 := 10#32
  let c0_i32 : BitVec 32 := 0#32
  let v2 : BitVec 32 := Scalar.select v1 c10_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .sgt arg0 c3_i32_0
  let c10_i32 : BitVec 32 := 10#32
  let c0_i32 : BitVec 32 := 0#32
  let v2 : BitVec 32 := Scalar.select v1 c10_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamwFfnDownIdeal.lean ====
abbrev S8x352x1024 : Shape := ⟨3, ![8, 352, 1024]⟩
abbrev S4x352x1024 : Shape := ⟨3, ![4, 352, 1024]⟩
abbrev S8x32x1024 : Shape := ⟨3, ![8, 32, 1024]⟩
abbrev S1x32x1024 : Shape := ⟨3, ![1, 32, 1024]⟩
abbrev S32x1024 : Shape := ⟨2, ![32, 1024]⟩

abbrev nBuf : Space → Nat
  | .hbm => 11
  | .vmem => 22
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S8x352x1024, .bf16⟩
  | .hbm, ⟨3, _⟩ => ⟨S8x352x1024, .bf16⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S8x32x1024, .bf16⟩
  | .local _ .vmem, ⟨3, _⟩ => ⟨S8x32x1024, .bf16⟩
  | .local _ .vmem, ⟨4, _⟩ => ⟨S8x32x1024, .bf16⟩
  | .local _ .vmem, ⟨5, _⟩ => ⟨S8x32x1024, .bf16⟩
  | .local _ .vmem, ⟨6, _⟩ => ⟨S8x32x1024, .bf16⟩
  | .local _ .vmem, ⟨7, _⟩ => ⟨S8x32x1024, .bf16⟩
  | .local _ .vmem, ⟨8, _⟩ => ⟨S1x32x1024, .f32⟩
  | .local _ .vmem, ⟨9, _⟩ => ⟨S1x32x1024, .f32⟩
  | .local _ .vmem, ⟨10, _⟩ => ⟨S1x32x1024, .f32⟩
  | .local _ .vmem, ⟨11, _⟩ => ⟨S1x32x1024, .f32⟩
  | .local _ .vmem, ⟨12, _⟩ => ⟨S1x32x1024, .f32⟩
  | .local _ .vmem, ⟨13, _⟩ => ⟨S1x32x1024, .f32⟩
  | .local _ .vmem, ⟨14, _⟩ => ⟨S1x32x1024, .f32⟩
  | .local _ .vmem, ⟨15, _⟩ => ⟨S1x32x1024, .f32⟩
  | .local _ .vmem, ⟨16, _⟩ => ⟨S1x32x1024, .f32⟩
  | .local _ .vmem, ⟨17, _⟩ => ⟨S1x32x1024, .f32⟩
  | .local _ .vmem, ⟨18, _⟩ => ⟨S1x32x1024, .f32⟩
  | .local _ .vmem, ⟨19, _⟩ => ⟨S1x32x1024, .f32⟩
  | .local _ .vmem, ⟨20, _⟩ => ⟨S1x32x1024, .f32⟩
  | .local _ .vmem, ⟨21, _⟩ => ⟨S1x32x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F] [Named F]

def κ : String → Option EReal := fun
  | "c1" => some ((10000000000 / 6513215599 : ℝ) : EReal)
  | "c2" => some ((1000000000000000000000000000000 / 9955119790251790119955009999 : ℝ) : EReal)
  | _ => none

abbrev grid0 : Pipeline.Grid := ⟨2, ![4, 11], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c10_i32 : BitVec 32 := 10#32
  let c0_i32_1 : BitVec 32 := 0#32
  let v2 : BitVec 32 := Scalar.select v1 c10_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c10_i32 : BitVec 32 := 10#32
  let c0_i32 : BitVec 32 := 0#32
  let v2 : BitVec 32 := Scalar.select v1 c10_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .sgt arg0 c2_i32_0
  let c10_i32 : BitVec 32 := 10#32
  let c0_i32 : BitVec 32 := 0#32
  let v2 : BitVec 32 := Scalar.select v1 c10_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .sgt arg0 c3_i32_0
  let c10_i32 : BitVec 32 := 10#32
  let c0_i32 : BitVec 32 := 0#32
  let v2 : BitVec 32 := Scalar.select v1 c10_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamwFfnDownRefIdeal.lean ====
abbrev S8x352x1024 : Shape := ⟨3, ![8, 352, 1024]⟩
abbrev S4x352x1024 : Shape := ⟨3, ![4, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 73
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S8x352x1024, .bf16⟩
  | .hbm, ⟨3, _⟩ => ⟨S8x352x1024, .bf16⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S8x352x1024, .f32⟩
  | .hbm, ⟨8, _⟩ => ⟨S_, .f32⟩
  | .hbm, ⟨9, _⟩ => ⟨S352x1024, .f32⟩
  | .hbm, ⟨10, _⟩ => ⟨S8x352x1024, .f32⟩
  | .hbm, ⟨11, _⟩ => ⟨S_, .f32⟩
  | .hbm, ⟨12, _⟩ => ⟨S352x1024, .f32⟩
  | .hbm, ⟨13, _⟩ => ⟨S8x352x1024, .f32⟩
  | .hbm, ⟨14, _⟩ => ⟨S_, .f32⟩
  | .hbm, ⟨15, _⟩ => ⟨S352x1024, .f32⟩
  | .hbm, ⟨16, _⟩ => ⟨S8x352x1024, .f32⟩
  | .hbm, ⟨17, _⟩ => ⟨S_, .f32⟩
  | .hbm, ⟨18, _⟩ => ⟨S352x1024, .f32⟩
  | .hbm, ⟨19, _⟩ => ⟨S1x352x1024, .f32⟩
  | .hbm, ⟨20, _⟩ => ⟨S1x352x1024, .f32⟩
  | .hbm, ⟨21, _⟩ => ⟨S1x352x1024, .f32⟩
  | .hbm, ⟨22, _⟩ => ⟨S1x352x1024, .f32⟩
  | .hbm, ⟨23, _⟩ => ⟨S4x352x1024, .f32⟩
  | .hbm, ⟨24, _⟩ => ⟨S_, .f32⟩
  | .hbm, ⟨25, _⟩ => ⟨S4x352x1024, .f32⟩
  | .hbm, ⟨26, _⟩ => ⟨S4x352x1024, .f32⟩
  | .hbm, ⟨27, _⟩ => ⟨S_, .f32⟩
  | .hbm, ⟨28, _⟩ => ⟨S4x352x1024, .f32⟩
  | .hbm, ⟨29, _⟩ => ⟨S4x352x1024, .f32⟩
  | .hbm, ⟨30, _⟩ => ⟨S4x352x1024, .f32⟩
  | .hbm, ⟨31, _⟩ => ⟨S_, .f32⟩
  | .hbm, ⟨32, _⟩ => ⟨S4x352x1024, .f32⟩
  | .hbm, ⟨33, _⟩ => ⟨S4x352x1024, .f32⟩
  | .hbm, ⟨34, _⟩ => ⟨S4x352x1024, .f32⟩
  | .hbm, ⟨35, _⟩ => ⟨S_, .f32⟩
  | .hbm, ⟨36, _⟩ => ⟨S4x352x1024, .f32⟩
  | .hbm, ⟨37, _⟩ => ⟨S4x352x1024, .f32⟩
  | .hbm, ⟨38, _⟩ => ⟨S4x352x1024, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S4x352x1024, .f32⟩
  | .hbm, ⟨49, _⟩ => ⟨S4x352x1024, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S4x352x1024, .f32⟩
  | .hbm, ⟨60, _⟩ => ⟨S4x352x1024, .f32⟩
  | .hbm, ⟨61, _⟩ => ⟨S4x352x1024, .f32⟩
  | .hbm, ⟨62, _⟩ => ⟨S_, .f32⟩
  | .hbm, ⟨63, _⟩ => ⟨S4x352x1024, .f32⟩
  | .hbm, ⟨64, _⟩ => ⟨S4x352x1024, .f32⟩
  | .hbm, ⟨65, _⟩ => ⟨S4x352x1024, .f32⟩
  | .hbm, ⟨66, _⟩ => ⟨S_, .f32⟩
  | .hbm, ⟨67, _⟩ => ⟨S4x352x1024, .f32⟩
  | .hbm, ⟨68, _⟩ => ⟨S4x352x1024, .f32⟩
  | .hbm, ⟨69, _⟩ => ⟨S4x352x1024, .f32⟩
  | .hbm, ⟨70, _⟩ => ⟨S_, .f32⟩
  | .hbm, ⟨71, _⟩ => ⟨S4x352x1024, .f32⟩
  | .hbm, ⟨72, _⟩ => ⟨S4x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_cst_8 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_cst_11 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_12 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_13 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_14 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_15 : Ref sig .tc := ⟨.hbm, 70, rfl⟩
abbrev main_v47 : Ref sig .tc := ⟨.hbm, 71, rfl⟩
abbrev main_v48 : Ref sig .tc := ⟨.hbm, 72, rfl⟩

abbrev nD : Nat := 1
abbrev τ : Topo := Topo.v7x

variable {F : FTy → Type} [FloatOps F]
-- ==== AdamwConvIn.lean ====
abbrev S8x1024x256 : Shape := ⟨3, ![8, 1024, 256]⟩
abbrev S2x1024x256 : Shape := ⟨3, ![2, 1024, 256]⟩
abbrev S8x512x256 : Shape := ⟨3, ![8, 512, 256]⟩
abbrev S1x512x256 : Shape := ⟨3, ![1, 512, 256]⟩
abbrev S512x256 : Shape := ⟨2, ![512, 256]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x256, .bf16⟩
  | .hbm, ⟨1, _⟩ => ⟨S8x1024x256, .bf16⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S2x1024x256, .f32⟩
  | .hbm, ⟨6, _⟩ => ⟨S2x1024x256, .f32⟩
  | .hbm, ⟨7, _⟩ => ⟨S2x1024x256, .f32⟩
  | .hbm, ⟨8, _⟩ => ⟨S2x1024x256, .f32⟩
  | .local _ .vmem, ⟨0, _⟩ => ⟨S8x512x256, .bf16⟩
  | .local _ .vmem, ⟨1, _⟩ => ⟨S8x512x256, .bf16⟩
  | .local _ .vmem, ⟨2, _⟩ => ⟨S8x512x256, .bf16⟩
  | .local _ .vmem, ⟨3, _⟩ => ⟨S8x512x256, .bf16⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c1_i32 : BitVec 32 := 1#32
  let c0_i32_1 : BitVec 32 := 0#32
  let v2 : BitVec 32 := Scalar.select v1 c1_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c1_i32_1 : BitVec 32 := 1#32
  let c0_i32 : BitVec 32 := 0#32
  let v2 : BitVec 32 := Scalar.select v1 c1_i32_1 c0_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwConvInIdeal.lean ====
abbrev S8x1024x256 : Shape := ⟨3, ![8, 1024, 256]⟩
abbrev S2x1024x256 : Shape := ⟨3, ![2, 1024, 256]⟩
abbrev S8x512x256 : Shape := ⟨3, ![8, 512, 256]⟩
abbrev S1x512x256 : Shape := ⟨3, ![1, 512, 256]⟩
abbrev S512x256 : Shape := ⟨2, ![512, 256]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x256, .bf16⟩
  | .hbm, ⟨1, _⟩ => ⟨S8x1024x256, .bf16⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S2x1024x256, .f32⟩
  | .hbm, ⟨6, _⟩ => ⟨S2x1024x256, .f32⟩
  | .hbm, ⟨7, _⟩ => ⟨S2x1024x256, .f32⟩
  | .hbm, ⟨8, _⟩ => ⟨S2x1024x256, .f32⟩
  | .local _ .vmem, ⟨0, _⟩ => ⟨S8x512x256, .bf16⟩
  | .local _ .vmem, ⟨1, _⟩ => ⟨S8x512x256, .bf16⟩
  | .local _ .vmem, ⟨2, _⟩ => ⟨S8x512x256, .bf16⟩
  | .local _ .vmem, ⟨3, _⟩ => ⟨S8x512x256, .bf16⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "c1" => some ((10000000000 / 6513215599 : ℝ) : EReal)
  | "c2" => some ((1000000000000000000000000000000 / 9955119790251790119955009999 : ℝ) : EReal)
  | _ => none

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c1_i32 : BitVec 32 := 1#32
  let c0_i32_1 : BitVec 32 := 0#32
  let v2 : BitVec 32 := Scalar.select v1 c1_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c1_i32_1 : BitVec 32 := 1#32
  let c0_i32 : BitVec 32 := 0#32
  let v2 : BitVec 32 := Scalar.select v1 c1_i32_1 c0_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwConvInRefIdeal.lean ====
abbrev S8x1024x256 : Shape := ⟨3, ![8, 1024, 256]⟩
abbrev S2x1024x256 : Shape := ⟨3, ![2, 1024, 256]⟩
abbrev S_ : Shape := ⟨0, ![]⟩
abbrev S1024x256 : Shape := ⟨2, ![1024, 256]⟩
abbrev S1x1024x256 : Shape := ⟨3, ![1, 1024, 256]⟩

abbrev nBuf : Space → Nat
  | .hbm => 63
  | .vmem => 0
  | .smem => 0
  | _ => 0

abbrev bufTy : (tb : Table) → Fin (tcTables nBuf tb) → BufTy
  | .hbm, ⟨0, _⟩ => ⟨S8x1024x256, .bf16⟩
  | .hbm, ⟨1, _⟩ => ⟨S8x1024x256, .bf16⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S8x1024x256, .f32⟩
  | .hbm, ⟨6, _⟩ => ⟨S_, .f32⟩
  | .hbm, ⟨7, _⟩ => ⟨S1024x256, .f32⟩
  | .hbm, ⟨8, _⟩ => ⟨S8x1024x256, .f32⟩
  | .hbm, ⟨9, _⟩ => ⟨S_, .f32⟩
  | .hbm, ⟨10, _⟩ => ⟨S1024x256, .f32⟩
  | .hbm, ⟨11, _⟩ => ⟨S1x1024x256, .f32⟩
  | .hbm, ⟨12, _⟩ => ⟨S1x1024x256, .f32⟩
  | .hbm, ⟨13, _⟩ => ⟨S2x1024x256, .f32⟩
  | .hbm, ⟨14, _⟩ => ⟨S_, .f32⟩
  | .hbm, ⟨15, _⟩ => ⟨S2x1024x256, .f32⟩
  | .hbm, ⟨16, _⟩ => ⟨S2x1024x256, .f32⟩
  | .hbm, ⟨17, _⟩ => ⟨S_, .f32⟩
  | .hbm, ⟨18, _⟩ => ⟨S2x1024x256, .f32⟩
  | .hbm, ⟨19, _⟩ => ⟨S2x1024x256, .f32⟩
  | .hbm, ⟨20, _⟩ => ⟨S2x1024x256, .f32⟩
  | .hbm, ⟨21, _⟩ => ⟨S_, .f32⟩
  | .hbm, ⟨22, _⟩ => ⟨S2x1024x256, .f32⟩
  | .hbm, ⟨23, _⟩ => ⟨S2x1024x256, .f32⟩
  | .hbm, ⟨24, _⟩ => ⟨S2x1024x256, .f32⟩
  | .hbm, ⟨25, _⟩ => ⟨S_, .f32⟩
  | .hbm, ⟨26, _⟩ => ⟨S2x1024x256, .f32⟩
  | .hbm, ⟨27, _⟩ => ⟨S2x1024x256, .f32⟩
  | .hbm, ⟨28, _⟩ => ⟨S2x1024x256, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S2x1024x256, .f32⟩
  | .hbm, ⟨39, _⟩ => ⟨S2x1024x256, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S2x1024x256, .f32⟩
  | .hbm, ⟨50, _⟩ => ⟨S2x1024x256, .f32⟩
  | .hbm, ⟨51, _⟩ => ⟨S2x1024x256, .f32⟩
  | .hbm, ⟨52, _⟩ => ⟨S_, .f32⟩
  | .hbm, ⟨53, _⟩ => ⟨S2x1024x256, .f32⟩
  | .hbm, ⟨54, _⟩ => ⟨S2x1024x256, .f32⟩
  | .hbm, ⟨55, _⟩ => ⟨S2x1024x256, .f32⟩
  | .hbm, ⟨56, _⟩ => ⟨S_, .f32⟩
  | .hbm, ⟨57, _⟩ => ⟨S2x1024x256, .f32⟩
  | .hbm, ⟨58, _⟩ => ⟨S2x1024x256, .f32⟩
  | .hbm, ⟨59, _⟩ => ⟨S2x1024x256, .f32⟩
  | .hbm, ⟨60, _⟩ => ⟨S_, .f32⟩
  | .hbm, ⟨61, _⟩ => ⟨S2x1024x256, .f32⟩
  | .hbm, ⟨62, _⟩ => ⟨S2x1024x256, .f32⟩
  | _, _ => ⟨S8x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_cst_9 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== AdamwConvOut.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwConvOutIdeal.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "c1" => some ((10000000000 / 6513215599 : ℝ) : EReal)
  | "c2" => some ((1000000000000000000000000000000 / 9955119790251790119955009999 : ℝ) : EReal)
  | _ => none

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwConvOutRefIdeal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 63
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S_, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S2x128x1024, .f32⟩
  | .hbm, ⟨50, _⟩ => ⟨S2x128x1024, .f32⟩
  | .hbm, ⟨51, _⟩ => ⟨S2x128x1024, .f32⟩
  | .hbm, ⟨52, _⟩ => ⟨S_, .f32⟩
  | .hbm, ⟨53, _⟩ => ⟨S2x128x1024, .f32⟩
  | .hbm, ⟨54, _⟩ => ⟨S2x128x1024, .f32⟩
  | .hbm, ⟨55, _⟩ => ⟨S2x128x1024, .f32⟩
  | .hbm, ⟨56, _⟩ => ⟨S_, .f32⟩
  | .hbm, ⟨57, _⟩ => ⟨S2x128x1024, .f32⟩
  | .hbm, ⟨58, _⟩ => ⟨S2x128x1024, .f32⟩
  | .hbm, ⟨59, _⟩ => ⟨S2x128x1024, .f32⟩
  | .hbm, ⟨60, _⟩ => ⟨S_, .f32⟩
  | .hbm, ⟨61, _⟩ => ⟨S2x128x1024, .f32⟩
  | .hbm, ⟨62, _⟩ => ⟨S2x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_cst_9 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== AdamwQkv.lean ====
abbrev S8x1024x192 : Shape := ⟨3, ![8, 1024, 192]⟩
abbrev S1x1024x192 : Shape := ⟨3, ![1, 1024, 192]⟩
abbrev S8x512x192 : Shape := ⟨3, ![8, 512, 192]⟩
abbrev S1x512x192 : Shape := ⟨3, ![1, 512, 192]⟩
abbrev S512x192 : Shape := ⟨2, ![512, 192]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x192, .bf16⟩
  | .hbm, ⟨1, _⟩ => ⟨S1x1024x192, .f32⟩
  | .hbm, ⟨2, _⟩ => ⟨S1x1024x192, .f32⟩
  | .hbm, ⟨3, _⟩ => ⟨S1x1024x192, .f32⟩
  | .hbm, ⟨4, _⟩ => ⟨S1x1024x192, .f32⟩
  | .hbm, ⟨5, _⟩ => ⟨S1x1024x192, .f32⟩
  | .hbm, ⟨6, _⟩ => ⟨S1x1024x192, .f32⟩
  | .hbm, ⟨7, _⟩ => ⟨S1x1024x192, .f32⟩
  | .local _ .vmem, ⟨0, _⟩ => ⟨S8x512x192, .bf16⟩
  | .local _ .vmem, ⟨1, _⟩ => ⟨S8x512x192, .bf16⟩
  | .local _ .vmem, ⟨2, _⟩ => ⟨S1x512x192, .f32⟩
  | .local _ .vmem, ⟨3, _⟩ => ⟨S1x512x192, .f32⟩
  | .local _ .vmem, ⟨4, _⟩ => ⟨S1x512x192, .f32⟩
  | .local _ .vmem, ⟨5, _⟩ => ⟨S1x512x192, .f32⟩
  | .local _ .vmem, ⟨6, _⟩ => ⟨S1x512x192, .f32⟩
  | .local _ .vmem, ⟨7, _⟩ => ⟨S1x512x192, .f32⟩
  | .local _ .vmem, ⟨8, _⟩ => ⟨S1x512x192, .f32⟩
  | .local _ .vmem, ⟨9, _⟩ => ⟨S1x512x192, .f32⟩
  | .local _ .vmem, ⟨10, _⟩ => ⟨S1x512x192, .f32⟩
  | .local _ .vmem, ⟨11, _⟩ => ⟨S1x512x192, .f32⟩
  | .local _ .vmem, ⟨12, _⟩ => ⟨S1x512x192, .f32⟩
  | .local _ .vmem, ⟨13, _⟩ => ⟨S1x512x192, .f32⟩
  | .local _ .vmem, ⟨14, _⟩ => ⟨S1x512x192, .f32⟩
  | .local _ .vmem, ⟨15, _⟩ => ⟨S1x512x192, .f32⟩
  | _, _ => ⟨S8x1024x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c1_i32 : BitVec 32 := 1#32
  let c0_i32_1 : BitVec 32 := 0#32
  let v2 : BitVec 32 := Scalar.select v1 c1_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x512x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamwQkvIdeal.lean ====
abbrev S8x1024x192 : Shape := ⟨3, ![8, 1024, 192]⟩
abbrev S1x1024x192 : Shape := ⟨3, ![1, 1024, 192]⟩
abbrev S8x512x192 : Shape := ⟨3, ![8, 512, 192]⟩
abbrev S1x512x192 : Shape := ⟨3, ![1, 512, 192]⟩
abbrev S512x192 : Shape := ⟨2, ![512, 192]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x192, .bf16⟩
  | .hbm, ⟨1, _⟩ => ⟨S1x1024x192, .f32⟩
  | .hbm, ⟨2, _⟩ => ⟨S1x1024x192, .f32⟩
  | .hbm, ⟨3, _⟩ => ⟨S1x1024x192, .f32⟩
  | .hbm, ⟨4, _⟩ => ⟨S1x1024x192, .f32⟩
  | .hbm, ⟨5, _⟩ => ⟨S1x1024x192, .f32⟩
  | .hbm, ⟨6, _⟩ => ⟨S1x1024x192, .f32⟩
  | .hbm, ⟨7, _⟩ => ⟨S1x1024x192, .f32⟩
  | .local _ .vmem, ⟨0, _⟩ => ⟨S8x512x192, .bf16⟩
  | .local _ .vmem, ⟨1, _⟩ => ⟨S8x512x192, .bf16⟩
  | .local _ .vmem, ⟨2, _⟩ => ⟨S1x512x192, .f32⟩
  | .local _ .vmem, ⟨3, _⟩ => ⟨S1x512x192, .f32⟩
  | .local _ .vmem, ⟨4, _⟩ => ⟨S1x512x192, .f32⟩
  | .local _ .vmem, ⟨5, _⟩ => ⟨S1x512x192, .f32⟩
  | .local _ .vmem, ⟨6, _⟩ => ⟨S1x512x192, .f32⟩
  | .local _ .vmem, ⟨7, _⟩ => ⟨S1x512x192, .f32⟩
  | .local _ .vmem, ⟨8, _⟩ => ⟨S1x512x192, .f32⟩
  | .local _ .vmem, ⟨9, _⟩ => ⟨S1x512x192, .f32⟩
  | .local _ .vmem, ⟨10, _⟩ => ⟨S1x512x192, .f32⟩
  | .local _ .vmem, ⟨11, _⟩ => ⟨S1x512x192, .f32⟩
  | .local _ .vmem, ⟨12, _⟩ => ⟨S1x512x192, .f32⟩
  | .local _ .vmem, ⟨13, _⟩ => ⟨S1x512x192, .f32⟩
  | .local _ .vmem, ⟨14, _⟩ => ⟨S1x512x192, .f32⟩
  | .local _ .vmem, ⟨15, _⟩ => ⟨S1x512x192, .f32⟩
  | _, _ => ⟨S8x1024x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((10000000000 / 6513215599 : ℝ) : EReal)
  | "c2" => some ((1000000000000000000000000000000 / 9955119790251790119955009999 : ℝ) : EReal)
  | _ => none

abbrev grid0 : Pipeline.Grid := ⟨2, ![1, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c1_i32 : BitVec 32 := 1#32
  let c0_i32_1 : BitVec 32 := 0#32
  let v2 : BitVec 32 := Scalar.select v1 c1_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x512x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamwQkvRefIdeal.lean ====
abbrev S8x1024x192 : Shape := ⟨3, ![8, 1024, 192]⟩
abbrev S1x1024x192 : Shape := ⟨3, ![1, 1024, 192]⟩
abbrev S_ : Shape := ⟨0, ![]⟩
abbrev S1024x192 : Shape := ⟨2, ![1024, 192]⟩

abbrev nBuf : Space → Nat
  | .hbm => 57
  | .vmem => 0
  | .smem => 0
  | _ => 0

abbrev bufTy : (tb : Table) → Fin (tcTables nBuf tb) → BufTy
  | .hbm, ⟨0, _⟩ => ⟨S8x1024x192, .bf16⟩
  | .hbm, ⟨1, _⟩ => ⟨S1x1024x192, .f32⟩
  | .hbm, ⟨2, _⟩ => ⟨S1x1024x192, .f32⟩
  | .hbm, ⟨3, _⟩ => ⟨S1x1024x192, .f32⟩
  | .hbm, ⟨4, _⟩ => ⟨S8x1024x192, .f32⟩
  | .hbm, ⟨5, _⟩ => ⟨S_, .f32⟩
  | .hbm, ⟨6, _⟩ => ⟨S1024x192, .f32⟩
  | .hbm, ⟨7, _⟩ => ⟨S1x1024x192, .f32⟩
  | .hbm, ⟨8, _⟩ => ⟨S_, .f32⟩
  | .hbm, ⟨9, _⟩ => ⟨S1x1024x192, .f32⟩
  | .hbm, ⟨10, _⟩ => ⟨S1x1024x192, .f32⟩
  | .hbm, ⟨11, _⟩ => ⟨S_, .f32⟩
  | .hbm, ⟨12, _⟩ => ⟨S1x1024x192, .f32⟩
  | .hbm, ⟨13, _⟩ => ⟨S1x1024x192, .f32⟩
  | .hbm, ⟨14, _⟩ => ⟨S1x1024x192, .f32⟩
  | .hbm, ⟨15, _⟩ => ⟨S_, .f32⟩
  | .hbm, ⟨16, _⟩ => ⟨S1x1024x192, .f32⟩
  | .hbm, ⟨17, _⟩ => ⟨S1x1024x192, .f32⟩
  | .hbm, ⟨18, _⟩ => ⟨S1x1024x192, .f32⟩
  | .hbm, ⟨19, _⟩ => ⟨S_, .f32⟩
  | .hbm, ⟨20, _⟩ => ⟨S1x1024x192, .f32⟩
  | .hbm, ⟨21, _⟩ => ⟨S1x1024x192, .f32⟩
  | .hbm, ⟨22, _⟩ => ⟨S1x1024x192, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1x1024x192, .f32⟩
  | .hbm, ⟨33, _⟩ => ⟨S1x1024x192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S1x1024x192, .f32⟩
  | .hbm, ⟨44, _⟩ => ⟨S1x1024x192, .f32⟩
  | .hbm, ⟨45, _⟩ => ⟨S1x1024x192, .f32⟩
  | .hbm, ⟨46, _⟩ => ⟨S_, .f32⟩
  | .hbm, ⟨47, _⟩ => ⟨S1x1024x192, .f32⟩
  | .hbm, ⟨48, _⟩ => ⟨S1x1024x192, .f32⟩
  | .hbm, ⟨49, _⟩ => ⟨S1x1024x192, .f32⟩
  | .hbm, ⟨50, _⟩ => ⟨S_, .f32⟩
  | .hbm, ⟨51, _⟩ => ⟨S1x1024x192, .f32⟩
  | .hbm, ⟨52, _⟩ => ⟨S1x1024x192, .f32⟩
  | .hbm, ⟨53, _⟩ => ⟨S1x1024x192, .f32⟩
  | .hbm, ⟨54, _⟩ => ⟨S_, .f32⟩
  | .hbm, ⟨55, _⟩ => ⟨S1x1024x192, .f32⟩
  | .hbm, ⟨56, _⟩ => ⟨S1x1024x192, .f32⟩
  | _, _ => ⟨S8x1024x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_9 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_10 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_11 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]
-- ==== AdamwAttnOut.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamwAttnOutIdeal.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "c1" => some ((10000000000 / 6513215599 : ℝ) : EReal)
  | "c2" => some ((1000000000000000000000000000000 / 9955119790251790119955009999 : ℝ) : EReal)
  | _ => none

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamwAttnOutRefIdeal.lean ====
abbrev S8x128x1024 : Shape := ⟨3, ![8, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S1x128x1024, .f32⟩
  | .hbm, ⟨8, _⟩ => ⟨S_, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S1x128x1024, .f32⟩
  | .hbm, ⟨44, _⟩ => ⟨S1x128x1024, .f32⟩
  | .hbm, ⟨45, _⟩ => ⟨S1x128x1024, .f32⟩
  | .hbm, ⟨46, _⟩ => ⟨S_, .f32⟩
  | .hbm, ⟨47, _⟩ => ⟨S1x128x1024, .f32⟩
  | .hbm, ⟨48, _⟩ => ⟨S1x128x1024, .f32⟩
  | .hbm, ⟨49, _⟩ => ⟨S1x128x1024, .f32⟩
  | .hbm, ⟨50, _⟩ => ⟨S_, .f32⟩
  | .hbm, ⟨51, _⟩ => ⟨S1x128x1024, .f32⟩
  | .hbm, ⟨52, _⟩ => ⟨S1x128x1024, .f32⟩
  | .hbm, ⟨53, _⟩ => ⟨S1x128x1024, .f32⟩
  | .hbm, ⟨54, _⟩ => ⟨S_, .f32⟩
  | .hbm, ⟨55, _⟩ => ⟨S1x128x1024, .f32⟩
  | .hbm, ⟨56, _⟩ => ⟨S1x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_9 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_10 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_11 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]
-- ==== AdamwGateIn.lean ====
abbrev S8x1024x512 : Shape := ⟨3, ![8, 1024, 512]⟩
abbrev S1x1024x512 : Shape := ⟨3, ![1, 1024, 512]⟩
abbrev S8x256x512 : Shape := ⟨3, ![8, 256, 512]⟩
abbrev S1x256x512 : Shape := ⟨3, ![1, 256, 512]⟩
abbrev S256x512 : Shape := ⟨2, ![256, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x512, .bf16⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S1x1024x512, .f32⟩
  | .hbm, ⟨5, _⟩ => ⟨S1x1024x512, .f32⟩
  | .hbm, ⟨6, _⟩ => ⟨S1x1024x512, .f32⟩
  | .hbm, ⟨7, _⟩ => ⟨S1x1024x512, .f32⟩
  | .local _ .vmem, ⟨0, _⟩ => ⟨S8x256x512, .bf16⟩
  | .local _ .vmem, ⟨1, _⟩ => ⟨S8x256x512, .bf16⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c3_i32 : BitVec 32 := 3#32
  let c0_i32_1 : BitVec 32 := 0#32
  let v2 : BitVec 32 := Scalar.select v1 c3_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamwGateInIdeal.lean ====
abbrev S8x1024x512 : Shape := ⟨3, ![8, 1024, 512]⟩
abbrev S1x1024x512 : Shape := ⟨3, ![1, 1024, 512]⟩
abbrev S8x256x512 : Shape := ⟨3, ![8, 256, 512]⟩
abbrev S1x256x512 : Shape := ⟨3, ![1, 256, 512]⟩
abbrev S256x512 : Shape := ⟨2, ![256, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x512, .bf16⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S1x1024x512, .f32⟩
  | .hbm, ⟨5, _⟩ => ⟨S1x1024x512, .f32⟩
  | .hbm, ⟨6, _⟩ => ⟨S1x1024x512, .f32⟩
  | .hbm, ⟨7, _⟩ => ⟨S1x1024x512, .f32⟩
  | .local _ .vmem, ⟨0, _⟩ => ⟨S8x256x512, .bf16⟩
  | .local _ .vmem, ⟨1, _⟩ => ⟨S8x256x512, .bf16⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((10000000000 / 6513215599 : ℝ) : EReal)
  | "c2" => some ((1000000000000000000000000000000 / 9955119790251790119955009999 : ℝ) : EReal)
  | _ => none

abbrev grid0 : Pipeline.Grid := ⟨2, ![1, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c3_i32 : BitVec 32 := 3#32
  let c0_i32_1 : BitVec 32 := 0#32
  let v2 : BitVec 32 := Scalar.select v1 c3_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamwGateInRefIdeal.lean ====
abbrev S8x1024x512 : Shape := ⟨3, ![8, 1024, 512]⟩
abbrev S1x1024x512 : Shape := ⟨3, ![1, 1024, 512]⟩
abbrev S_ : Shape := ⟨0, ![]⟩
abbrev S1024x512 : Shape := ⟨2, ![1024, 512]⟩

abbrev nBuf : Space → Nat
  | .hbm => 57
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S8x1024x512, .f32⟩
  | .hbm, ⟨5, _⟩ => ⟨S_, .f32⟩
  | .hbm, ⟨6, _⟩ => ⟨S1024x512, .f32⟩
  | .hbm, ⟨7, _⟩ => ⟨S1x1024x512, .f32⟩
  | .hbm, ⟨8, _⟩ => ⟨S_, .f32⟩
  | .hbm, ⟨9, _⟩ => ⟨S1x1024x512, .f32⟩
  | .hbm, ⟨10, _⟩ => ⟨S1x1024x512, .f32⟩
  | .hbm, ⟨11, _⟩ => ⟨S_, .f32⟩
  | .hbm, ⟨12, _⟩ => ⟨S1x1024x512, .f32⟩
  | .hbm, ⟨13, _⟩ => ⟨S1x1024x512, .f32⟩
  | .hbm, ⟨14, _⟩ => ⟨S1x1024x512, .f32⟩
  | .hbm, ⟨15, _⟩ => ⟨S_, .f32⟩
  | .hbm, ⟨16, _⟩ => ⟨S1x1024x512, .f32⟩
  | .hbm, ⟨17, _⟩ => ⟨S1x1024x512, .f32⟩
  | .hbm, ⟨18, _⟩ => ⟨S1x1024x512, .f32⟩
  | .hbm, ⟨19, _⟩ => ⟨S_, .f32⟩
  | .hbm, ⟨20, _⟩ => ⟨S1x1024x512, .f32⟩
  | .hbm, ⟨21, _⟩ => ⟨S1x1024x512, .f32⟩
  | .hbm, ⟨22, _⟩ => ⟨S1x1024x512, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1x1024x512, .f32⟩
  | .hbm, ⟨33, _⟩ => ⟨S1x1024x512, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S1x1024x512, .f32⟩
  | .hbm, ⟨44, _⟩ => ⟨S1x1024x512, .f32⟩
  | .hbm, ⟨45, _⟩ => ⟨S1x1024x512, .f32⟩
  | .hbm, ⟨46, _⟩ => ⟨S_, .f32⟩
  | .hbm, ⟨47, _⟩ => ⟨S1x1024x512, .f32⟩
  | .hbm, ⟨48, _⟩ => ⟨S1x1024x512, .f32⟩
  | .hbm, ⟨49, _⟩ => ⟨S1x1024x512, .f32⟩
  | .hbm, ⟨50, _⟩ => ⟨S_, .f32⟩
  | .hbm, ⟨51, _⟩ => ⟨S1x1024x512, .f32⟩
  | .hbm, ⟨52, _⟩ => ⟨S1x1024x512, .f32⟩
  | .hbm, ⟨53, _⟩ => ⟨S1x1024x512, .f32⟩
  | .hbm, ⟨54, _⟩ => ⟨S_, .f32⟩
  | .hbm, ⟨55, _⟩ => ⟨S1x1024x512, .f32⟩
  | .hbm, ⟨56, _⟩ => ⟨S1x1024x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_9 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_10 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_11 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]
-- ==== AdamwGateOut.lean ====
abbrev S8x256x1024 : Shape := ⟨3, ![8, 256, 1024]⟩
abbrev S1x256x1024 : Shape := ⟨3, ![1, 256, 1024]⟩
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x256x1024, .bf16⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c1_i32 : BitVec 32 := 1#32
  let c0_i32_1 : BitVec 32 := 0#32
  let v2 : BitVec 32 := Scalar.select v1 c1_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamwGateOutIdeal.lean ====
variable {F : FTy → Type} [FloatOps F] [Named F]
def κ : String → Option EReal := fun
  | "c1" => some ((10000000000 / 6513215599 : ℝ) : EReal)
  | "c2" => some ((1000000000000000000000000000000 / 9955119790251790119955009999 : ℝ) : EReal)
  | _ => none
-- ==== AdamwGateOutRefIdeal.lean ====
abbrev S8x256x1024 : Shape := ⟨3, ![8, 256, 1024]⟩
abbrev S1x256x1024 : Shape := ⟨3, ![1, 256, 1024]⟩
abbrev S_ : Shape := ⟨0, ![]⟩
abbrev S256x1024 : Shape := ⟨2, ![256, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S1x256x1024, .f32⟩
  | .hbm, ⟨8, _⟩ => ⟨S_, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S1x256x1024, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S1x256x1024, .f32⟩
  | .hbm, ⟨44, _⟩ => ⟨S1x256x1024, .f32⟩
  | .hbm, ⟨45, _⟩ => ⟨S1x256x1024, .f32⟩
  | .hbm, ⟨46, _⟩ => ⟨S_, .f32⟩
  | .hbm, ⟨47, _⟩ => ⟨S1x256x1024, .f32⟩
  | .hbm, ⟨48, _⟩ => ⟨S1x256x1024, .f32⟩
  | .hbm, ⟨49, _⟩ => ⟨S1x256x1024, .f32⟩
  | .hbm, ⟨50, _⟩ => ⟨S_, .f32⟩
  | .hbm, ⟨51, _⟩ => ⟨S1x256x1024, .f32⟩
  | .hbm, ⟨52, _⟩ => ⟨S1x256x1024, .f32⟩
  | .hbm, ⟨53, _⟩ => ⟨S1x256x1024, .f32⟩
  | .hbm, ⟨54, _⟩ => ⟨S_, .f32⟩
  | .hbm, ⟨55, _⟩ => ⟨S1x256x1024, .f32⟩
  | .hbm, ⟨56, _⟩ => ⟨S1x256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_9 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_10 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_11 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]
-- ==== NormB.lean ====
abbrev S1x2048x1024 : Shape := ⟨3, ![1, 2048, 1024]⟩
abbrev S1x1x1024 : Shape := ⟨3, ![1, 1, 1024]⟩
abbrev S1x256x1024 : Shape := ⟨3, ![1, 256, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 10
  | .vmem => 18
  | .smem => 0
  | _ => 0

abbrev bufTy : (tb : Table) → Fin (tcTables nBuf tb) → BufTy
  | .hbm, ⟨0, _⟩ => ⟨S1x2048x1024, .f32⟩
  | .hbm, ⟨1, _⟩ => ⟨S1x1x1024, .f32⟩
  | .hbm, ⟨2, _⟩ => ⟨S1x1x1024, .f32⟩
  | .hbm, ⟨3, _⟩ => ⟨S1x1x1024, .f32⟩
  | .hbm, ⟨4, _⟩ => ⟨S1x2048x1024, .f32⟩
  | .hbm, ⟨5, _⟩ => ⟨S1x2048x1024, .f32⟩
  | .hbm, ⟨6, _⟩ => ⟨S1x2048x1024, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg0 : BitVec 32 := BitVec.ofNat 32 (i 0).val
  let c8_i32 : BitVec 32 := 8#32
  let v59 : BitVec 32 := Scalar.muli arg0 c8_i32
  let arg1 : BitVec 32 := BitVec.ofNat 32 (i 1).val
  let v60 : BitVec 32 := Scalar.addi v59 arg1
  let c0_i32_32 : BitVec 32 := 0#32
  let v72 : BitVec 1 := Scalar.cmpi .eq v60 c0_i32_32
  let v73 : BitVec 32 := Scalar.extui v72
  let c0_i32_33 : BitVec 32 := 0#32
  let v74 : BitVec 1 := Scalar.cmpi .ne v73 c0_i32_33
  v74

def k0_cond2 (i : grid0.Coords) : BitVec 1 :=
  let arg0 : BitVec 32 := BitVec.ofNat 32 (i 0).val
  let c8_i32 : BitVec 32 := 8#32
  let v59 : BitVec 32 := Scalar.muli arg0 c8_i32
  let arg1 : BitVec 32 := BitVec.ofNat 32 (i 1).val
  let v60 : BitVec 32 := Scalar.addi v59 arg1
  let c0_i32_32 : BitVec 32 := 0#32
  let v72 : BitVec 1 := Scalar.cmpi .eq v60 c0_i32_32
  let v_true : BitVec 1 := 1#1
  let v75 : BitVec 1 := Scalar.xori v72 v_true
  let v76 : BitVec 32 := Scalar.extui v75
  let c0_i32_34 : BitVec 32 := 0#32
  let v77 : BitVec 1 := Scalar.cmpi .ne v76 c0_i32_34
  v77

def k0_cond3 (i : grid0.Coords) : BitVec 1 :=
  let arg0 : BitVec 32 := BitVec.ofNat 32 (i 0).val
  let c8_i32 : BitVec 32 := 8#32
  let v59 : BitVec 32 := Scalar.muli arg0 c8_i32
  let arg1 : BitVec 32 := BitVec.ofNat 32 (i 1).val
  let v60 : BitVec 32 := Scalar.addi v59 arg1
  let c0_i32_35 : BitVec 32 := 0#32
  let v78 : BitVec 1 := Scalar.cmpi .eq v60 c0_i32_35
  let c256_i32 : BitVec 32 := 256#32
  let v79 : BitVec 32 := Scalar.muli arg1 c256_i32
  let c0_i32_36 : BitVec 32 := 0#32
  let v81 : BitVec 1 := Scalar.cmpi .sgt v79 c0_i32_36
  let v82 : BitVec 32 := Scalar.extui v81
  let c0_i32_37 : BitVec 32 := 0#32
  let v83 : BitVec 1 := Scalar.cmpi .slt v79 c0_i32_37
  let v84 : BitVec 32 := Scalar.extui v83
  let v85 : BitVec 32 := Scalar.subi v82 v84
  let c2048_i32 : BitVec 32 := 2048#32
  let c0_i32_38 : BitVec 32 := 0#32
  let v86 : BitVec 1 := Scalar.cmpi .sgt c2048_i32 c0_i32_38
  let v87 : BitVec 32 := Scalar.extui v86
  let c0_i32_39 : BitVec 32 := 0#32
  let v88 : BitVec 1 := Scalar.cmpi .slt c2048_i32 c0_i32_39
  let v89 : BitVec 32 := Scalar.extui v88
  let v90 : BitVec 32 := Scalar.subi v87 v89
  let v91 : BitVec 1 := Scalar.cmpi .ne v85 v90
  let v92 : BitVec 32 := Scalar.remsi v79 c2048_i32
  let c0_i32_40 : BitVec 32 := 0#32
  let v93 : BitVec 1 := Scalar.cmpi .ne v92 c0_i32_40
  let v94 : BitVec 1 := Scalar.andi v91 v93
  let v80 : BitVec 32 := Scalar.divsi v79 c2048_i32
  let c1_i32_41 : BitVec 32 := 1#32
  let v95 : BitVec 32 := Scalar.subi v80 c1_i32_41
  let v96 : BitVec 32 := Scalar.select v94 v95 v80
  let c1_i32 : BitVec 32 := 1#32
  let v61 : BitVec 32 := Scalar.subi v60 c1_i32
  let c8_i32_27 : BitVec 32 := 8#32
  let c0_i32 : BitVec 32 := 0#32
  let v62 : BitVec 1 := Scalar.cmpi .eq c8_i32_27 c0_i32
  let c1_i32_28 : BitVec 32 := 1#32
  let v63 : BitVec 32 := Scalar.select v62 c1_i32_28 c8_i32_27
  let v64 : BitVec 32 := Scalar.remsi v61 v63
  let c0_i32_30 : BitVec 32 := 0#32
  let v66 : BitVec 1 := Scalar.cmpi .slt v64 c0_i32_30
  let c0_i32_31 : BitVec 32 := 0#32
  let v67 : BitVec 1 := Scalar.cmpi .slt v63 c0_i32_31
  let v68 : BitVec 1 := Scalar.xori v66 v67
  let c0_i32_29 : BitVec 32 := 0#32
  let v65 : BitVec 1 := Scalar.cmpi .ne v64 c0_i32_29
  let v69 : BitVec 1 := Scalar.andi v68 v65
  let v70 : BitVec 32 := Scalar.addi v64 v63
  let v71 : BitVec 32 := Scalar.select v69 v70 v64
  let c256_i32_42 : BitVec 32 := 256#32
  let v97 : BitVec 32 := Scalar.muli v71 c256_i32_42
  let c0_i32_44 : BitVec 32 := 0#32
  let v99 : BitVec 1 := Scalar.cmpi .sgt v97 c0_i32_44
  let v100 : BitVec 32 := Scalar.extui v99
  let c0_i32_45 : BitVec 32 := 0#32
  let v101 : BitVec 1 := Scalar.cmpi .slt v97 c0_i32_45
  let v102 : BitVec 32 := Scalar.extui v101
  let v103 : BitVec 32 := Scalar.subi v100 v102
  let c2048_i32_43 : BitVec 32 := 2048#32
  let c0_i32_46 : BitVec 32 := 0#32
  let v104 : BitVec 1 := Scalar.cmpi .sgt c2048_i32_43 c0_i32_46
  let v105 : BitVec 32 := Scalar.extui v104
  let c0_i32_47 : BitVec 32 := 0#32
  let v106 : BitVec 1 := Scalar.cmpi .slt c2048_i32_43 c0_i32_47
  let v107 : BitVec 32 := Scalar.extui v106
  let v108 : BitVec 32 := Scalar.subi v105 v107
  let v109 : BitVec 1 := Scalar.cmpi .ne v103 v108
  let v110 : BitVec 32 := Scalar.remsi v97 c2048_i32_43
  let c0_i32_48 : BitVec 32 := 0#32
  let v111 : BitVec 1 := Scalar.cmpi .ne v110 c0_i32_48
  let v112 : BitVec 1 := Scalar.andi v109 v111
  let v98 : BitVec 32 := Scalar.divsi v97 c2048_i32_43
  let c1_i32_49 : BitVec 32 := 1#32
  let v113 : BitVec 32 := Scalar.subi v98 c1_i32_49
  let v114 : BitVec 32 := Scalar.select v112 v113 v98
  let v115 : BitVec 1 := Scalar.cmpi .ne v96 v114
  let v116 : BitVec 1 := Scalar.ori v78 v115
  let v117 : BitVec 32 := Scalar.extui v116
  let c0_i32_50 : BitVec 32 := 0#32
  let v118 : BitVec 1 := Scalar.cmpi .ne v117 c0_i32_50
  v118

def k0_cond4 (i : grid0.Coords) : BitVec 1 :=
  let arg0 : BitVec 32 := BitVec.ofNat 32 (i 0).val
  let c8_i32 : BitVec 32 := 8#32
  let v59 : BitVec 32 := Scalar.muli arg0 c8_i32
  let arg1 : BitVec 32 := BitVec.ofNat 32 (i 1).val
  let v60 : BitVec 32 := Scalar.addi v59 arg1
  let c0_i32_35 : BitVec 32 := 0#32
  let v78 : BitVec 1 := Scalar.cmpi .eq v60 c0_i32_35
  let c256_i32 : BitVec 32 := 256#32
  let v79 : BitVec 32 := Scalar.muli arg1 c256_i32
  let c0_i32_36 : BitVec 32 := 0#32
  let v81 : BitVec 1 := Scalar.cmpi .sgt v79 c0_i32_36
  let v82 : BitVec 32 := Scalar.extui v81
  let c0_i32_37 : BitVec 32 := 0#32
  let v83 : BitVec 1 := Scalar.cmpi .slt v79 c0_i32_37
  let v84 : BitVec 32 := Scalar.extui v83
  let v85 : BitVec 32 := Scalar.subi v82 v84
  let c2048_i32 : BitVec 32 := 2048#32
  let c0_i32_38 : BitVec 32 := 0#32
  let v86 : BitVec 1 := Scalar.cmpi .sgt c2048_i32 c0_i32_38
  let v87 : BitVec 32 := Scalar.extui v86
  let c0_i32_39 : BitVec 32 := 0#32
  let v88 : BitVec 1 := Scalar.cmpi .slt c2048_i32 c0_i32_39
  let v89 : BitVec 32 := Scalar.extui v88
  let v90 : BitVec 32 := Scalar.subi v87 v89
  let v91 : BitVec 1 := Scalar.cmpi .ne v85 v90
  let v92 : BitVec 32 := Scalar.remsi v79 c2048_i32
  let c0_i32_40 : BitVec 32 := 0#32
  let v93 : BitVec 1 := Scalar.cmpi .ne v92 c0_i32_40
  let v94 : BitVec 1 := Scalar.andi v91 v93
  let v80 : BitVec 32 := Scalar.divsi v79 c2048_i32
  let c1_i32_41 : BitVec 32 := 1#32
  let v95 : BitVec 32 := Scalar.subi v80 c1_i32_41
  let v96 : BitVec 32 := Scalar.select v94 v95 v80
  let c1_i32 : BitVec 32 := 1#32
  let v61 : BitVec 32 := Scalar.subi v60 c1_i32
  let c8_i32_27 : BitVec 32 := 8#32
  let c0_i32 : BitVec 32 := 0#32
  let v62 : BitVec 1 := Scalar.cmpi .eq c8_i32_27 c0_i32
  let c1_i32_28 : BitVec 32 := 1#32
  let v63 : BitVec 32 := Scalar.select v62 c1_i32_28 c8_i32_27
  let v64 : BitVec 32 := Scalar.remsi v61 v63
  let c0_i32_30 : BitVec 32 := 0#32
  let v66 : BitVec 1 := Scalar.cmpi .slt v64 c0_i32_30
  let c0_i32_31 : BitVec 32 := 0#32
  let v67 : BitVec 1 := Scalar.cmpi .slt v63 c0_i32_31
  let v68 : BitVec 1 := Scalar.xori v66 v67
  let c0_i32_29 : BitVec 32 := 0#32
  let v65 : BitVec 1 := Scalar.cmpi .ne v64 c0_i32_29
  let v69 : BitVec 1 := Scalar.andi v68 v65
  let v70 : BitVec 32 := Scalar.addi v64 v63
  let v71 : BitVec 32 := Scalar.select v69 v70 v64
  let c256_i32_42 : BitVec 32 := 256#32
  let v97 : BitVec 32 := Scalar.muli v71 c256_i32_42
  let c0_i32_44 : BitVec 32 := 0#32
  let v99 : BitVec 1 := Scalar.cmpi .sgt v97 c0_i32_44
  let v100 : BitVec 32 := Scalar.extui v99
  let c0_i32_45 : BitVec 32 := 0#32
  let v101 : BitVec 1 := Scalar.cmpi .slt v97 c0_i32_45
  let v102 : BitVec 32 := Scalar.extui v101
  let v103 : BitVec 32 := Scalar.subi v100 v102
  let c2048_i32_43 : BitVec 32 := 2048#32
  let c0_i32_46 : BitVec 32 := 0#32
  let v104 : BitVec 1 := Scalar.cmpi .sgt c2048_i32_43 c0_i32_46
  let v105 : BitVec 32 := Scalar.extui v104
  let c0_i32_47 : BitVec 32 := 0#32
  let v106 : BitVec 1 := Scalar.cmpi .slt c2048_i32_43 c0_i32_47
  let v107 : BitVec 32 := Scalar.extui v106
  let v108 : BitVec 32 := Scalar.subi v105 v107
  let v109 : BitVec 1 := Scalar.cmpi .ne v103 v108
  let v110 : BitVec 32 := Scalar.remsi v97 c2048_i32_43
  let c0_i32_48 : BitVec 32 := 0#32
  let v111 : BitVec 1 := Scalar.cmpi .ne v110 c0_i32_48
  let v112 : BitVec 1 := Scalar.andi v109 v111
  let v98 : BitVec 32 := Scalar.divsi v97 c2048_i32_43
  let c1_i32_49 : BitVec 32 := 1#32
  let v113 : BitVec 32 := Scalar.subi v98 c1_i32_49
  let v114 : BitVec 32 := Scalar.select v112 v113 v98
  let v115 : BitVec 1 := Scalar.cmpi .ne v96 v114
  let v116 : BitVec 1 := Scalar.ori v78 v115
  let true_51 : BitVec 1 := 1#1
  let v119 : BitVec 1 := Scalar.xori v116 true_51
  let v120 : BitVec 32 := Scalar.extui v119
  let c0_i32_52 : BitVec 32 := 0#32
  let v121 : BitVec 1 := Scalar.cmpi .ne v120 c0_i32_52
  v121

def k0_cond5 (i : grid0.Coords) : BitVec 1 :=
  let arg0 : BitVec 32 := BitVec.ofNat 32 (i 0).val
  let c8_i32 : BitVec 32 := 8#32
  let v59 : BitVec 32 := Scalar.muli arg0 c8_i32
  let arg1 : BitVec 32 := BitVec.ofNat 32 (i 1).val
  let v60 : BitVec 32 := Scalar.addi v59 arg1
  let c0_i32_53 : BitVec 32 := 0#32
  let v122 : BitVec 1 := Scalar.cmpi .eq v60 c0_i32_53
  let c256_i32_54 : BitVec 32 := 256#32
  let v123 : BitVec 32 := Scalar.muli arg1 c256_i32_54
  let c0_i32_56 : BitVec 32 := 0#32
  let v125 : BitVec 1 := Scalar.cmpi .sgt v123 c0_i32_56
  let v126 : BitVec 32 := Scalar.extui v125
  let c0_i32_57 : BitVec 32 := 0#32
  let v127 : BitVec 1 := Scalar.cmpi .slt v123 c0_i32_57
  let v128 : BitVec 32 := Scalar.extui v127
  let v129 : BitVec 32 := Scalar.subi v126 v128
  let c2048_i32_55 : BitVec 32 := 2048#32
  let c0_i32_58 : BitVec 32 := 0#32
  let v130 : BitVec 1 := Scalar.cmpi .sgt c2048_i32_55 c0_i32_58
  let v131 : BitVec 32 := Scalar.extui v130
  let c0_i32_59 : BitVec 32 := 0#32
  let v132 : BitVec 1 := Scalar.cmpi .slt c2048_i32_55 c0_i32_59
  let v133 : BitVec 32 := Scalar.extui v132
  let v134 : BitVec 32 := Scalar.subi v131 v133
  let v135 : BitVec 1 := Scalar.cmpi .ne v129 v134
  let v136 : BitVec 32 := Scalar.remsi v123 c2048_i32_55
  let c0_i32_60 : BitVec 32 := 0#32
  let v137 : BitVec 1 := Scalar.cmpi .ne v136 c0_i32_60
  let v138 : BitVec 1 := Scalar.andi v135 v137
  let v124 : BitVec 32 := Scalar.divsi v123 c2048_i32_55
  let c1_i32_61 : BitVec 32 := 1#32
  let v139 : BitVec 32 := Scalar.subi v124 c1_i32_61
  let v140 : BitVec 32 := Scalar.select v138 v139 v124
  let c1_i32 : BitVec 32 := 1#32
  let v61 : BitVec 32 := Scalar.subi v60 c1_i32
  let c8_i32_27 : BitVec 32 := 8#32
  let c0_i32 : BitVec 32 := 0#32
  let v62 : BitVec 1 := Scalar.cmpi .eq c8_i32_27 c0_i32
  let c1_i32_28 : BitVec 32 := 1#32
  let v63 : BitVec 32 := Scalar.select v62 c1_i32_28 c8_i32_27
  let v64 : BitVec 32 := Scalar.remsi v61 v63
  let c0_i32_30 : BitVec 32 := 0#32
  let v66 : BitVec 1 := Scalar.cmpi .slt v64 c0_i32_30
  let c0_i32_31 : BitVec 32 := 0#32
  let v67 : BitVec 1 := Scalar.cmpi .slt v63 c0_i32_31
  let v68 : BitVec 1 := Scalar.xori v66 v67
  let c0_i32_29 : BitVec 32 := 0#32
  let v65 : BitVec 1 := Scalar.cmpi .ne v64 c0_i32_29
  let v69 : BitVec 1 := Scalar.andi v68 v65
  let v70 : BitVec 32 := Scalar.addi v64 v63
  let v71 : BitVec 32 := Scalar.select v69 v70 v64
  let c256_i32_62 : BitVec 32 := 256#32
  let v141 : BitVec 32 := Scalar.muli v71 c256_i32_62
  let c0_i32_64 : BitVec 32 := 0#32
  let v143 : BitVec 1 := Scalar.cmpi .sgt v141 c0_i32_64
  let v144 : BitVec 32 := Scalar.extui v143
  let c0_i32_65 : BitVec 32 := 0#32
  let v145 : BitVec 1 := Scalar.cmpi .slt v141 c0_i32_65
  let v146 : BitVec 32 := Scalar.extui v145
  let v147 : BitVec 32 := Scalar.subi v144 v146
  let c2048_i32_63 : BitVec 32 := 2048#32
  let c0_i32_66 : BitVec 32 := 0#32
  let v148 : BitVec 1 := Scalar.cmpi .sgt c2048_i32_63 c0_i32_66
  let v149 : BitVec 32 := Scalar.extui v148
  let c0_i32_67 : BitVec 32 := 0#32
  let v150 : BitVec 1 := Scalar.cmpi .slt c2048_i32_63 c0_i32_67
  let v151 : BitVec 32 := Scalar.extui v150
  let v152 : BitVec 32 := Scalar.subi v149 v151
  let v153 : BitVec 1 := Scalar.cmpi .ne v147 v152
  let v154 : BitVec 32 := Scalar.remsi v141 c2048_i32_63
  let c0_i32_68 : BitVec 32 := 0#32
  let v155 : BitVec 1 := Scalar.cmpi .ne v154 c0_i32_68
  let v156 : BitVec 1 := Scalar.andi v153 v155
  let v142 : BitVec 32 := Scalar.divsi v141 c2048_i32_63
  let c1_i32_69 : BitVec 32 := 1#32
  let v157 : BitVec 32 := Scalar.subi v142 c1_i32_69
  let v158 : BitVec 32 := Scalar.select v156 v157 v142
  let v159 : BitVec 1 := Scalar.cmpi .ne v140 v158
  let v160 : BitVec 1 := Scalar.ori v122 v159
  let v161 : BitVec 32 := Scalar.extui v160
  let c0_i32_70 : BitVec 32 := 0#32
  let v162 : BitVec 1 := Scalar.cmpi .ne v161 c0_i32_70
  v162

def k0_cond6 (i : grid0.Coords) : BitVec 1 :=
  let arg0 : BitVec 32 := BitVec.ofNat 32 (i 0).val
  let c8_i32 : BitVec 32 := 8#32
  let v59 : BitVec 32 := Scalar.muli arg0 c8_i32
  let arg1 : BitVec 32 := BitVec.ofNat 32 (i 1).val
  let v60 : BitVec 32 := Scalar.addi v59 arg1
  let c0_i32_53 : BitVec 32 := 0#32
  let v122 : BitVec 1 := Scalar.cmpi .eq v60 c0_i32_53
  let c256_i32_54 : BitVec 32 := 256#32
  let v123 : BitVec 32 := Scalar.muli arg1 c256_i32_54
  let c0_i32_56 : BitVec 32 := 0#32
  let v125 : BitVec 1 := Scalar.cmpi .sgt v123 c0_i32_56
  let v126 : BitVec 32 := Scalar.extui v125
  let c0_i32_57 : BitVec 32 := 0#32
  let v127 : BitVec 1 := Scalar.cmpi .slt v123 c0_i32_57
  let v128 : BitVec 32 := Scalar.extui v127
  let v129 : BitVec 32 := Scalar.subi v126 v128
  let c2048_i32_55 : BitVec 32 := 2048#32
  let c0_i32_58 : BitVec 32 := 0#32
  let v130 : BitVec 1 := Scalar.cmpi .sgt c2048_i32_55 c0_i32_58
  let v131 : BitVec 32 := Scalar.extui v130
  let c0_i32_59 : BitVec 32 := 0#32
  let v132 : BitVec 1 := Scalar.cmpi .slt c2048_i32_55 c0_i32_59
  let v133 : BitVec 32 := Scalar.extui v132
  let v134 : BitVec 32 := Scalar.subi v131 v133
  let v135 : BitVec 1 := Scalar.cmpi .ne v129 v134
  let v136 : BitVec 32 := Scalar.remsi v123 c2048_i32_55
  let c0_i32_60 : BitVec 32 := 0#32
  let v137 : BitVec 1 := Scalar.cmpi .ne v136 c0_i32_60
  let v138 : BitVec 1 := Scalar.andi v135 v137
  let v124 : BitVec 32 := Scalar.divsi v123 c2048_i32_55
  let c1_i32_61 : BitVec 32 := 1#32
  let v139 : BitVec 32 := Scalar.subi v124 c1_i32_61
  let v140 : BitVec 32 := Scalar.select v138 v139 v124
  let c1_i32 : BitVec 32 := 1#32
  let v61 : BitVec 32 := Scalar.subi v60 c1_i32
  let c8_i32_27 : BitVec 32 := 8#32
  let c0_i32 : BitVec 32 := 0#32
  let v62 : BitVec 1 := Scalar.cmpi .eq c8_i32_27 c0_i32
  let c1_i32_28 : BitVec 32 := 1#32
  let v63 : BitVec 32 := Scalar.select v62 c1_i32_28 c8_i32_27
  let v64 : BitVec 32 := Scalar.remsi v61 v63
  let c0_i32_30 : BitVec 32 := 0#32
  let v66 : BitVec 1 := Scalar.cmpi .slt v64 c0_i32_30
  let c0_i32_31 : BitVec 32 := 0#32
  let v67 : BitVec 1 := Scalar.cmpi .slt v63 c0_i32_31
  let v68 : BitVec 1 := Scalar.xori v66 v67
  let c0_i32_29 : BitVec 32 := 0#32
  let v65 : BitVec 1 := Scalar.cmpi .ne v64 c0_i32_29
  let v69 : BitVec 1 := Scalar.andi v68 v65
  let v70 : BitVec 32 := Scalar.addi v64 v63
  let v71 : BitVec 32 := Scalar.select v69 v70 v64
  let c256_i32_62 : BitVec 32 := 256#32
  let v141 : BitVec 32 := Scalar.muli v71 c256_i32_62
  let c0_i32_64 : BitVec 32 := 0#32
  let v143 : BitVec 1 := Scalar.cmpi .sgt v141 c0_i32_64
  let v144 : BitVec 32 := Scalar.extui v143
  let c0_i32_65 : BitVec 32 := 0#32
  let v145 : BitVec 1 := Scalar.cmpi .slt v141 c0_i32_65
  let v146 : BitVec 32 := Scalar.extui v145
  let v147 : BitVec 32 := Scalar.subi v144 v146
  let c2048_i32_63 : BitVec 32 := 2048#32
  let c0_i32_66 : BitVec 32 := 0#32
  let v148 : BitVec 1 := Scalar.cmpi .sgt c2048_i32_63 c0_i32_66
  let v149 : BitVec 32 := Scalar.extui v148
  let c0_i32_67 : BitVec 32 := 0#32
  let v150 : BitVec 1 := Scalar.cmpi .slt c2048_i32_63 c0_i32_67
  let v151 : BitVec 32 := Scalar.extui v150
  let v152 : BitVec 32 := Scalar.subi v149 v151
  let v153 : BitVec 1 := Scalar.cmpi .ne v147 v152
  let v154 : BitVec 32 := Scalar.remsi v141 c2048_i32_63
  let c0_i32_68 : BitVec 32 := 0#32
  let v155 : BitVec 1 := Scalar.cmpi .ne v154 c0_i32_68
  let v156 : BitVec 1 := Scalar.andi v153 v155
  let v142 : BitVec 32 := Scalar.divsi v141 c2048_i32_63
  let c1_i32_69 : BitVec 32 := 1#32
  let v157 : BitVec 32 := Scalar.subi v142 c1_i32_69
  let v158 : BitVec 32 := Scalar.select v156 v157 v142
  let v159 : BitVec 1 := Scalar.cmpi .ne v140 v158
  let v160 : BitVec 1 := Scalar.ori v122 v159
  let true_71 : BitVec 1 := 1#1
  let v163 : BitVec 1 := Scalar.xori v160 true_71
  let v164 : BitVec 32 := Scalar.extui v163
  let c0_i32_72 : BitVec 32 := 0#32
  let v165 : BitVec 1 := Scalar.cmpi .ne v164 c0_i32_72
  v165

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_9 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]
-- ==== NormBRefIdeal.lean ====
abbrev S1x2048x1024 : Shape := ⟨3, ![1, 2048, 1024]⟩
abbrev S1x1x1024 : Shape := ⟨3, ![1, 1, 1024]⟩
abbrev S_ : Shape := ⟨0, ![]⟩
abbrev S1x2048 : Shape := ⟨2, ![1, 2048]⟩
abbrev S1x2048x1 : Shape := ⟨3, ![1, 2048, 1]⟩
abbrev S1x1024 : Shape := ⟨2, ![1, 1024]⟩
abbrev S2048 : Shape := ⟨1, ![2048]⟩

abbrev nBuf : Space → Nat
  | .hbm => 67
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1x1024, .f32⟩
  | .hbm, ⟨2, _⟩ => ⟨S1x1x1024, .f32⟩
  | .hbm, ⟨3, _⟩ => ⟨S1x1x1024, .f32⟩
  | .hbm, ⟨4, _⟩ => ⟨S1x2048x1024, .f32⟩
  | .hbm, ⟨5, _⟩ => ⟨S1x2048x1024, .f32⟩
  | .hbm, ⟨6, _⟩ => ⟨S1x2048x1024, .f32⟩
  | .hbm, ⟨7, _⟩ => ⟨S_, .f32⟩
  | .hbm, ⟨8, _⟩ => ⟨S1x2048, .f32⟩
  | .hbm, ⟨9, _⟩ => ⟨S1x2048x1, .f32⟩
  | .hbm, ⟨10, _⟩ => ⟨S_, .f32⟩
  | .hbm, ⟨11, _⟩ => ⟨S1x2048x1, .f32⟩
  | .hbm, ⟨12, _⟩ => ⟨S1x2048x1, .f32⟩
  | .hbm, ⟨13, _⟩ => ⟨S_, .f32⟩
  | .hbm, ⟨14, _⟩ => ⟨S1x2048x1, .f32⟩
  | .hbm, ⟨15, _⟩ => ⟨S1x2048x1, .f32⟩
  | .hbm, ⟨16, _⟩ => ⟨S1x2048x1, .f32⟩
  | .hbm, ⟨17, _⟩ => ⟨S1x2048x1, .f32⟩
  | .hbm, ⟨18, _⟩ => ⟨S_, .f32⟩
  | .hbm, ⟨19, _⟩ => ⟨S1x2048x1, .f32⟩
  | .hbm, ⟨20, _⟩ => ⟨S1x2048x1, .f32⟩
  | .hbm, ⟨21, _⟩ => ⟨S1x2048x1024, .f32⟩
  | .hbm, ⟨22, _⟩ => ⟨S1x2048x1024, .f32⟩
  | .hbm, ⟨23, _⟩ => ⟨S1x2048x1024, .f32⟩
  | .hbm, ⟨24, _⟩ => ⟨S1x2048x1024, .f32⟩
  | .hbm, ⟨25, _⟩ => ⟨S_, .f32⟩
  | .hbm, ⟨26, _⟩ => ⟨S1x1x1024, .f32⟩
  | .hbm, ⟨27, _⟩ => ⟨S1x1x1024, .f32⟩
  | .hbm, ⟨28, _⟩ => ⟨S1x2048x1024, .f32⟩
  | .hbm, ⟨29, _⟩ => ⟨S1x2048x1024, .f32⟩
  | .hbm, ⟨30, _⟩ => ⟨S1x2048x1024, .f32⟩
  | .hbm, ⟨31, _⟩ => ⟨S1x2048x1024, .f32⟩
  | .hbm, ⟨32, _⟩ => ⟨S1x2048x1024, .f32⟩
  | .hbm, ⟨33, _⟩ => ⟨S_, .f32⟩
  | .hbm, ⟨34, _⟩ => ⟨S1x1024, .f32⟩
  | .hbm, ⟨35, _⟩ => ⟨S1x1x1024, .f32⟩
  | .hbm, ⟨36, _⟩ => ⟨S1x2048x1024, .f32⟩
  | .hbm, ⟨37, _⟩ => ⟨S_, .f32⟩
  | .hbm, ⟨38, _⟩ => ⟨S1x1024, .f32⟩
  | .hbm, ⟨39, _⟩ => ⟨S1x1x1024, .f32⟩
  | .hbm, ⟨40, _⟩ => ⟨S1x2048x1024, .f32⟩
  | .hbm, ⟨41, _⟩ => ⟨S1x2048x1024, .f32⟩
  | .hbm, ⟨42, _⟩ => ⟨S1x2048x1024, .f32⟩
  | .hbm, ⟨43, _⟩ => ⟨S_, .f32⟩
  | .hbm, ⟨44, _⟩ => ⟨S1x1024, .f32⟩
  | .hbm, ⟨45, _⟩ => ⟨S1x1x1024, .f32⟩
  | .hbm, ⟨46, _⟩ => ⟨S1x2048x1024, .f32⟩
  | .hbm, ⟨47, _⟩ => ⟨S1x2048x1024, .f32⟩
  | .hbm, ⟨48, _⟩ => ⟨S1x2048x1024, .f32⟩
  | .hbm, ⟨49, _⟩ => ⟨S_, .f32⟩
  | .hbm, ⟨50, _⟩ => ⟨S1x2048, .f32⟩
  | .hbm, ⟨51, _⟩ => ⟨S1x2048x1, .f32⟩
  | .hbm, ⟨52, _⟩ => ⟨S1x2048x1024, .f32⟩
  | .hbm, ⟨53, _⟩ => ⟨S1x2048x1024, .f32⟩
  | .hbm, ⟨54, _⟩ => ⟨S1x2048x1, .f32⟩
  | .hbm, ⟨55, _⟩ => ⟨S_, .f32⟩
  | .hbm, ⟨56, _⟩ => ⟨S1x2048x1, .f32⟩
  | .hbm, ⟨57, _⟩ => ⟨S1x2048x1, .f32⟩
  | .hbm, ⟨58, _⟩ => ⟨S_, .f32⟩
  | .hbm, ⟨59, _⟩ => ⟨S2048, .f32⟩
  | .hbm, ⟨60, _⟩ => ⟨S1x2048, .f32⟩
  | .hbm, ⟨61, _⟩ => ⟨S1x2048x1024, .f32⟩
  | .hbm, ⟨62, _⟩ => ⟨S1x2048x1024, .f32⟩
  | .hbm, ⟨63, _⟩ => ⟨S1x2048x1024, .f32⟩
  | .hbm, ⟨64, _⟩ => ⟨S1x2048x1024, .f32⟩
  | .hbm, ⟨65, _⟩ => ⟨S1x2048x1024, .f32⟩
  | .hbm, ⟨66, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== ResB.lean ====
abbrev S1x2048x1024 : Shape := ⟨3, ![1, 2048, 1024]⟩
abbrev S1x1x1024 : Shape := ⟨3, ![1, 1, 1024]⟩
abbrev S1x256x1024 : Shape := ⟨3, ![1, 256, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S1x2048x1024, .f32⟩
  | .hbm, ⟨1, _⟩ => ⟨S1x1x1024, .f32⟩
  | .hbm, ⟨2, _⟩ => ⟨S1x1x1024, .f32⟩
  | .hbm, ⟨3, _⟩ => ⟨S1x2048x1024, .f32⟩
  | .hbm, ⟨4, _⟩ => ⟨S1x2048x1024, .bf16⟩
  | .hbm, ⟨5, _⟩ => ⟨S1x1x1024, .f32⟩
  | .hbm, ⟨6, _⟩ => ⟨S1x1x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .bf16⟩
  | .local _ .vmem, ⟨8, _⟩ => ⟨S1x256x1024, .bf16⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg0 : BitVec 32 := BitVec.ofNat 32 (i 0).val
  let c8_i32 : BitVec 32 := 8#32
  let v52 : BitVec 32 := Scalar.muli arg0 c8_i32
  let arg1 : BitVec 32 := BitVec.ofNat 32 (i 1).val
  let v53 : BitVec 32 := Scalar.addi v52 arg1
  let c0_i32_27 : BitVec 32 := 0#32
  let v65 : BitVec 1 := Scalar.cmpi .eq v53 c0_i32_27
  let c256_i32 : BitVec 32 := 256#32
  let v66 : BitVec 32 := Scalar.muli arg1 c256_i32
  let c0_i32_28 : BitVec 32 := 0#32
  let v68 : BitVec 1 := Scalar.cmpi .sgt v66 c0_i32_28
  let v69 : BitVec 32 := Scalar.extui v68
  let c0_i32_29 : BitVec 32 := 0#32
  let v70 : BitVec 1 := Scalar.cmpi .slt v66 c0_i32_29
  let v71 : BitVec 32 := Scalar.extui v70
  let v72 : BitVec 32 := Scalar.subi v69 v71
  let c2048_i32 : BitVec 32 := 2048#32
  let c0_i32_30 : BitVec 32 := 0#32
  let v73 : BitVec 1 := Scalar.cmpi .sgt c2048_i32 c0_i32_30
  let v74 : BitVec 32 := Scalar.extui v73
  let c0_i32_31 : BitVec 32 := 0#32
  let v75 : BitVec 1 := Scalar.cmpi .slt c2048_i32 c0_i32_31
  let v76 : BitVec 32 := Scalar.extui v75
  let v77 : BitVec 32 := Scalar.subi v74 v76
  let v78 : BitVec 1 := Scalar.cmpi .ne v72 v77
  let v79 : BitVec 32 := Scalar.remsi v66 c2048_i32
  let c0_i32_32 : BitVec 32 := 0#32
  let v80 : BitVec 1 := Scalar.cmpi .ne v79 c0_i32_32
  let v81 : BitVec 1 := Scalar.andi v78 v80
  let v67 : BitVec 32 := Scalar.divsi v66 c2048_i32
  let c1_i32_33 : BitVec 32 := 1#32
  let v82 : BitVec 32 := Scalar.subi v67 c1_i32_33
  let v83 : BitVec 32 := Scalar.select v81 v82 v67
  let c1_i32 : BitVec 32 := 1#32
  let v54 : BitVec 32 := Scalar.subi v53 c1_i32
  let c8_i32_22 : BitVec 32 := 8#32
  let c0_i32 : BitVec 32 := 0#32
  let v55 : BitVec 1 := Scalar.cmpi .eq c8_i32_22 c0_i32
  let c1_i32_23 : BitVec 32 := 1#32
  let v56 : BitVec 32 := Scalar.select v55 c1_i32_23 c8_i32_22
  let v57 : BitVec 32 := Scalar.remsi v54 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c256_i32_34 : BitVec 32 := 256#32
  let v84 : BitVec 32 := Scalar.muli v64 c256_i32_34
  let c0_i32_36 : BitVec 32 := 0#32
  let v86 : BitVec 1 := Scalar.cmpi .sgt v84 c0_i32_36
  let v87 : BitVec 32 := Scalar.extui v86
  let c0_i32_37 : BitVec 32 := 0#32
  let v88 : BitVec 1 := Scalar.cmpi .slt v84 c0_i32_37
  let v89 : BitVec 32 := Scalar.extui v88
  let v90 : BitVec 32 := Scalar.subi v87 v89
  let c2048_i32_35 : BitVec 32 := 2048#32
  let c0_i32_38 : BitVec 32 := 0#32
  let v91 : BitVec 1 := Scalar.cmpi .sgt c2048_i32_35 c0_i32_38
  let v92 : BitVec 32 := Scalar.extui v91
  let c0_i32_39 : BitVec 32 := 0#32
  let v93 : BitVec 1 := Scalar.cmpi .slt c2048_i32_35 c0_i32_39
  let v94 : BitVec 32 := Scalar.extui v93
  let v95 : BitVec 32 := Scalar.subi v92 v94
  let v96 : BitVec 1 := Scalar.cmpi .ne v90 v95
  let v97 : BitVec 32 := Scalar.remsi v84 c2048_i32_35
  let c0_i32_40 : BitVec 32 := 0#32
  let v98 : BitVec 1 := Scalar.cmpi .ne v97 c0_i32_40
  let v99 : BitVec 1 := Scalar.andi v96 v98
  let v85 : BitVec 32 := Scalar.divsi v84 c2048_i32_35
  let c1_i32_41 : BitVec 32 := 1#32
  let v100 : BitVec 32 := Scalar.subi v85 c1_i32_41
  let v101 : BitVec 32 := Scalar.select v99 v100 v85
  let v102 : BitVec 1 := Scalar.cmpi .ne v83 v101
  let v103 : BitVec 1 := Scalar.ori v65 v102
  let v104 : BitVec 32 := Scalar.extui v103
  let c0_i32_42 : BitVec 32 := 0#32
  let v105 : BitVec 1 := Scalar.cmpi .ne v104 c0_i32_42
  v105

def k0_cond2 (i : grid0.Coords) : BitVec 1 :=
  let arg0 : BitVec 32 := BitVec.ofNat 32 (i 0).val
  let c8_i32 : BitVec 32 := 8#32
  let v52 : BitVec 32 := Scalar.muli arg0 c8_i32
  let arg1 : BitVec 32 := BitVec.ofNat 32 (i 1).val
  let v53 : BitVec 32 := Scalar.addi v52 arg1
  let c0_i32_27 : BitVec 32 := 0#32
  let v65 : BitVec 1 := Scalar.cmpi .eq v53 c0_i32_27
  let c256_i32 : BitVec 32 := 256#32
  let v66 : BitVec 32 := Scalar.muli arg1 c256_i32
  let c0_i32_28 : BitVec 32 := 0#32
  let v68 : BitVec 1 := Scalar.cmpi .sgt v66 c0_i32_28
  let v69 : BitVec 32 := Scalar.extui v68
  let c0_i32_29 : BitVec 32 := 0#32
  let v70 : BitVec 1 := Scalar.cmpi .slt v66 c0_i32_29
  let v71 : BitVec 32 := Scalar.extui v70
  let v72 : BitVec 32 := Scalar.subi v69 v71
  let c2048_i32 : BitVec 32 := 2048#32
  let c0_i32_30 : BitVec 32 := 0#32
  let v73 : BitVec 1 := Scalar.cmpi .sgt c2048_i32 c0_i32_30
  let v74 : BitVec 32 := Scalar.extui v73
  let c0_i32_31 : BitVec 32 := 0#32
  let v75 : BitVec 1 := Scalar.cmpi .slt c2048_i32 c0_i32_31
  let v76 : BitVec 32 := Scalar.extui v75
  let v77 : BitVec 32 := Scalar.subi v74 v76
  let v78 : BitVec 1 := Scalar.cmpi .ne v72 v77
  let v79 : BitVec 32 := Scalar.remsi v66 c2048_i32
  let c0_i32_32 : BitVec 32 := 0#32
  let v80 : BitVec 1 := Scalar.cmpi .ne v79 c0_i32_32
  let v81 : BitVec 1 := Scalar.andi v78 v80
  let v67 : BitVec 32 := Scalar.divsi v66 c2048_i32
  let c1_i32_33 : BitVec 32 := 1#32
  let v82 : BitVec 32 := Scalar.subi v67 c1_i32_33
  let v83 : BitVec 32 := Scalar.select v81 v82 v67
  let c1_i32 : BitVec 32 := 1#32
  let v54 : BitVec 32 := Scalar.subi v53 c1_i32
  let c8_i32_22 : BitVec 32 := 8#32
  let c0_i32 : BitVec 32 := 0#32
  let v55 : BitVec 1 := Scalar.cmpi .eq c8_i32_22 c0_i32
  let c1_i32_23 : BitVec 32 := 1#32
  let v56 : BitVec 32 := Scalar.select v55 c1_i32_23 c8_i32_22
  let v57 : BitVec 32 := Scalar.remsi v54 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c256_i32_34 : BitVec 32 := 256#32
  let v84 : BitVec 32 := Scalar.muli v64 c256_i32_34
  let c0_i32_36 : BitVec 32 := 0#32
  let v86 : BitVec 1 := Scalar.cmpi .sgt v84 c0_i32_36
  let v87 : BitVec 32 := Scalar.extui v86
  let c0_i32_37 : BitVec 32 := 0#32
  let v88 : BitVec 1 := Scalar.cmpi .slt v84 c0_i32_37
  let v89 : BitVec 32 := Scalar.extui v88
  let v90 : BitVec 32 := Scalar.subi v87 v89
  let c2048_i32_35 : BitVec 32 := 2048#32
  let c0_i32_38 : BitVec 32 := 0#32
  let v91 : BitVec 1 := Scalar.cmpi .sgt c2048_i32_35 c0_i32_38
  let v92 : BitVec 32 := Scalar.extui v91
  let c0_i32_39 : BitVec 32 := 0#32
  let v93 : BitVec 1 := Scalar.cmpi .slt c2048_i32_35 c0_i32_39
  let v94 : BitVec 32 := Scalar.extui v93
  let v95 : BitVec 32 := Scalar.subi v92 v94
  let v96 : BitVec 1 := Scalar.cmpi .ne v90 v95
  let v97 : BitVec 32 := Scalar.remsi v84 c2048_i32_35
  let c0_i32_40 : BitVec 32 := 0#32
  let v98 : BitVec 1 := Scalar.cmpi .ne v97 c0_i32_40
  let v99 : BitVec 1 := Scalar.andi v96 v98
  let v85 : BitVec 32 := Scalar.divsi v84 c2048_i32_35
  let c1_i32_41 : BitVec 32 := 1#32
  let v100 : BitVec 32 := Scalar.subi v85 c1_i32_41
  let v101 : BitVec 32 := Scalar.select v99 v100 v85
  let v102 : BitVec 1 := Scalar.cmpi .ne v83 v101
  let v103 : BitVec 1 := Scalar.ori v65 v102
  let v_true : BitVec 1 := 1#1
  let v106 : BitVec 1 := Scalar.xori v103 v_true
  let v107 : BitVec 32 := Scalar.extui v106
  let c0_i32_43 : BitVec 32 := 0#32
  let v108 : BitVec 1 := Scalar.cmpi .ne v107 c0_i32_43
  v108

def k0_cond3 (i : grid0.Coords) : BitVec 1 :=
  let arg0 : BitVec 32 := BitVec.ofNat 32 (i 0).val
  let c8_i32 : BitVec 32 := 8#32
  let v52 : BitVec 32 := Scalar.muli arg0 c8_i32
  let arg1 : BitVec 32 := BitVec.ofNat 32 (i 1).val
  let v53 : BitVec 32 := Scalar.addi v52 arg1
  let c0_i32_44 : BitVec 32 := 0#32
  let v109 : BitVec 1 := Scalar.cmpi .eq v53 c0_i32_44
  let v110 : BitVec 32 := Scalar.extui v109
  let c0_i32_45 : BitVec 32 := 0#32
  let v111 : BitVec 1 := Scalar.cmpi .ne v110 c0_i32_45
  v111

def k0_cond4 (i : grid0.Coords) : BitVec 1 :=
  let arg0 : BitVec 32 := BitVec.ofNat 32 (i 0).val
  let c8_i32 : BitVec 32 := 8#32
  let v52 : BitVec 32 := Scalar.muli arg0 c8_i32
  let arg1 : BitVec 32 := BitVec.ofNat 32 (i 1).val
  let v53 : BitVec 32 := Scalar.addi v52 arg1
  let c0_i32_44 : BitVec 32 := 0#32
  let v109 : BitVec 1 := Scalar.cmpi .eq v53 c0_i32_44
  let true_46 : BitVec 1 := 1#1
  let v112 : BitVec 1 := Scalar.xori v109 true_46
  let v113 : BitVec 32 := Scalar.extui v112
  let c0_i32_47 : BitVec 32 := 0#32
  let v114 : BitVec 1 := Scalar.cmpi .ne v113 c0_i32_47
  v114

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ResBRefIdeal.lean ====
abbrev S1x2048x1024 : Shape := ⟨3, ![1, 2048, 1024]⟩
abbrev S1x1x1024 : Shape := ⟨3, ![1, 1, 1024]⟩
abbrev S_ : Shape := ⟨0, ![]⟩
abbrev S1x2048 : Shape := ⟨2, ![1, 2048]⟩
abbrev S1x2048x1 : Shape := ⟨3, ![1, 2048, 1]⟩
abbrev S1x1024 : Shape := ⟨2, ![1, 1024]⟩
abbrev S2048 : Shape := ⟨1, ![2048]⟩

abbrev nBuf : Space → Nat
  | .hbm => 56
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1x1024, .f32⟩
  | .hbm, ⟨2, _⟩ => ⟨S1x1x1024, .f32⟩
  | .hbm, ⟨3, _⟩ => ⟨S1x2048x1024, .f32⟩
  | .hbm, ⟨4, _⟩ => ⟨S1x2048x1024, .f32⟩
  | .hbm, ⟨5, _⟩ => ⟨S_, .f32⟩
  | .hbm, ⟨6, _⟩ => ⟨S1x2048, .f32⟩
  | .hbm, ⟨7, _⟩ => ⟨S1x2048x1, .f32⟩
  | .hbm, ⟨8, _⟩ => ⟨S_, .f32⟩
  | .hbm, ⟨9, _⟩ => ⟨S1x2048x1, .f32⟩
  | .hbm, ⟨10, _⟩ => ⟨S1x2048x1, .f32⟩
  | .hbm, ⟨11, _⟩ => ⟨S_, .f32⟩
  | .hbm, ⟨12, _⟩ => ⟨S1x2048x1, .f32⟩
  | .hbm, ⟨13, _⟩ => ⟨S1x2048x1, .f32⟩
  | .hbm, ⟨14, _⟩ => ⟨S1x2048x1, .f32⟩
  | .hbm, ⟨15, _⟩ => ⟨S1x2048x1, .f32⟩
  | .hbm, ⟨16, _⟩ => ⟨S_, .f32⟩
  | .hbm, ⟨17, _⟩ => ⟨S1x2048x1, .f32⟩
  | .hbm, ⟨18, _⟩ => ⟨S1x2048x1, .f32⟩
  | .hbm, ⟨19, _⟩ => ⟨S1x2048x1024, .f32⟩
  | .hbm, ⟨20, _⟩ => ⟨S1x2048x1024, .f32⟩
  | .hbm, ⟨21, _⟩ => ⟨S1x2048x1024, .f32⟩
  | .hbm, ⟨22, _⟩ => ⟨S1x2048x1024, .f32⟩
  | .hbm, ⟨23, _⟩ => ⟨S1x2048x1024, .f32⟩
  | .hbm, ⟨24, _⟩ => ⟨S1x2048x1024, .f32⟩
  | .hbm, ⟨25, _⟩ => ⟨S1x2048x1024, .f32⟩
  | .hbm, ⟨26, _⟩ => ⟨S1x2048x1024, .f32⟩
  | .hbm, ⟨27, _⟩ => ⟨S1x2048x1024, .f32⟩
  | .hbm, ⟨28, _⟩ => ⟨S_, .f32⟩
  | .hbm, ⟨29, _⟩ => ⟨S1x1024, .f32⟩
  | .hbm, ⟨30, _⟩ => ⟨S1x1x1024, .f32⟩
  | .hbm, ⟨31, _⟩ => ⟨S1x2048x1024, .f32⟩
  | .hbm, ⟨32, _⟩ => ⟨S_, .f32⟩
  | .hbm, ⟨33, _⟩ => ⟨S1x1024, .f32⟩
  | .hbm, ⟨34, _⟩ => ⟨S1x1x1024, .f32⟩
  | .hbm, ⟨35, _⟩ => ⟨S1x2048x1024, .f32⟩
  | .hbm, ⟨36, _⟩ => ⟨S1x2048x1024, .f32⟩
  | .hbm, ⟨37, _⟩ => ⟨S1x2048x1024, .f32⟩
  | .hbm, ⟨38, _⟩ => ⟨S_, .f32⟩
  | .hbm, ⟨39, _⟩ => ⟨S1x2048, .f32⟩
  | .hbm, ⟨40, _⟩ => ⟨S1x2048x1, .f32⟩
  | .hbm, ⟨41, _⟩ => ⟨S1x2048x1024, .f32⟩
  | .hbm, ⟨42, _⟩ => ⟨S1x2048x1024, .f32⟩
  | .hbm, ⟨43, _⟩ => ⟨S1x2048x1, .f32⟩
  | .hbm, ⟨44, _⟩ => ⟨S_, .f32⟩
  | .hbm, ⟨45, _⟩ => ⟨S1x2048x1, .f32⟩
  | .hbm, ⟨46, _⟩ => ⟨S1x2048x1, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S1x2048x1024, .f32⟩
  | .hbm, ⟨51, _⟩ => ⟨S1x2048x1024, .f32⟩
  | .hbm, ⟨52, _⟩ => ⟨S1x2048x1024, .f32⟩
  | .hbm, ⟨53, _⟩ => ⟨S1x2048x1024, .f32⟩
  | .hbm, ⟨54, _⟩ => ⟨S1x2048x1024, .f32⟩
  | .hbm, ⟨55, _⟩ => ⟨S1x2048x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== ResBiasB.lean ====
abbrev S1x2048x1024 : Shape := ⟨3, ![1, 2048, 1024]⟩
abbrev S1x1x1024 : Shape := ⟨3, ![1, 1, 1024]⟩
abbrev S1x256x1024 : Shape := ⟨3, ![1, 256, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S1x2048x1024, .f32⟩
  | .hbm, ⟨1, _⟩ => ⟨S1x1x1024, .f32⟩
  | .hbm, ⟨2, _⟩ => ⟨S1x1x1024, .f32⟩
  | .hbm, ⟨3, _⟩ => ⟨S1x1x1024, .f32⟩
  | .hbm, ⟨4, _⟩ => ⟨S1x2048x1024, .f32⟩
  | .hbm, ⟨5, _⟩ => ⟨S1x2048x1024, .bf16⟩
  | .hbm, ⟨6, _⟩ => ⟨S1x1x1024, .f32⟩
  | .hbm, ⟨7, _⟩ => ⟨S1x1x1024, .f32⟩
  | .hbm, ⟨8, _⟩ => ⟨S1x1x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .bf16⟩
  | .local _ .vmem, ⟨9, _⟩ => ⟨S1x256x1024, .bf16⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg0 : BitVec 32 := BitVec.ofNat 32 (i 0).val
  let c8_i32 : BitVec 32 := 8#32
  let v58 : BitVec 32 := Scalar.muli arg0 c8_i32
  let arg1 : BitVec 32 := BitVec.ofNat 32 (i 1).val
  let v59 : BitVec 32 := Scalar.addi v58 arg1
  let c0_i32_31 : BitVec 32 := 0#32
  let v71 : BitVec 1 := Scalar.cmpi .eq v59 c0_i32_31
  let c256_i32 : BitVec 32 := 256#32
  let v72 : BitVec 32 := Scalar.muli arg1 c256_i32
  let c0_i32_32 : BitVec 32 := 0#32
  let v74 : BitVec 1 := Scalar.cmpi .sgt v72 c0_i32_32
  let v75 : BitVec 32 := Scalar.extui v74
  let c0_i32_33 : BitVec 32 := 0#32
  let v76 : BitVec 1 := Scalar.cmpi .slt v72 c0_i32_33
  let v77 : BitVec 32 := Scalar.extui v76
  let v78 : BitVec 32 := Scalar.subi v75 v77
  let c2048_i32 : BitVec 32 := 2048#32
  let c0_i32_34 : BitVec 32 := 0#32
  let v79 : BitVec 1 := Scalar.cmpi .sgt c2048_i32 c0_i32_34
  let v80 : BitVec 32 := Scalar.extui v79
  let c0_i32_35 : BitVec 32 := 0#32
  let v81 : BitVec 1 := Scalar.cmpi .slt c2048_i32 c0_i32_35
  let v82 : BitVec 32 := Scalar.extui v81
  let v83 : BitVec 32 := Scalar.subi v80 v82
  let v84 : BitVec 1 := Scalar.cmpi .ne v78 v83
  let v85 : BitVec 32 := Scalar.remsi v72 c2048_i32
  let c0_i32_36 : BitVec 32 := 0#32
  let v86 : BitVec 1 := Scalar.cmpi .ne v85 c0_i32_36
  let v87 : BitVec 1 := Scalar.andi v84 v86
  let v73 : BitVec 32 := Scalar.divsi v72 c2048_i32
  let c1_i32_37 : BitVec 32 := 1#32
  let v88 : BitVec 32 := Scalar.subi v73 c1_i32_37
  let v89 : BitVec 32 := Scalar.select v87 v88 v73
  let c1_i32 : BitVec 32 := 1#32
  let v60 : BitVec 32 := Scalar.subi v59 c1_i32
  let c8_i32_26 : BitVec 32 := 8#32
  let c0_i32 : BitVec 32 := 0#32
  let v61 : BitVec 1 := Scalar.cmpi .eq c8_i32_26 c0_i32
  let c1_i32_27 : BitVec 32 := 1#32
  let v62 : BitVec 32 := Scalar.select v61 c1_i32_27 c8_i32_26
  let v63 : BitVec 32 := Scalar.remsi v60 v62
  let c0_i32_29 : BitVec 32 := 0#32
  let v65 : BitVec 1 := Scalar.cmpi .slt v63 c0_i32_29
  let c0_i32_30 : BitVec 32 := 0#32
  let v66 : BitVec 1 := Scalar.cmpi .slt v62 c0_i32_30
  let v67 : BitVec 1 := Scalar.xori v65 v66
  let c0_i32_28 : BitVec 32 := 0#32
  let v64 : BitVec 1 := Scalar.cmpi .ne v63 c0_i32_28
  let v68 : BitVec 1 := Scalar.andi v67 v64
  let v69 : BitVec 32 := Scalar.addi v63 v62
  let v70 : BitVec 32 := Scalar.select v68 v69 v63
  let c256_i32_38 : BitVec 32 := 256#32
  let v90 : BitVec 32 := Scalar.muli v70 c256_i32_38
  let c0_i32_40 : BitVec 32 := 0#32
  let v92 : BitVec 1 := Scalar.cmpi .sgt v90 c0_i32_40
  let v93 : BitVec 32 := Scalar.extui v92
  let c0_i32_41 : BitVec 32 := 0#32
  let v94 : BitVec 1 := Scalar.cmpi .slt v90 c0_i32_41
  let v95 : BitVec 32 := Scalar.extui v94
  let v96 : BitVec 32 := Scalar.subi v93 v95
  let c2048_i32_39 : BitVec 32 := 2048#32
  let c0_i32_42 : BitVec 32 := 0#32
  let v97 : BitVec 1 := Scalar.cmpi .sgt c2048_i32_39 c0_i32_42
  let v98 : BitVec 32 := Scalar.extui v97
  let c0_i32_43 : BitVec 32 := 0#32
  let v99 : BitVec 1 := Scalar.cmpi .slt c2048_i32_39 c0_i32_43
  let v100 : BitVec 32 := Scalar.extui v99
  let v101 : BitVec 32 := Scalar.subi v98 v100
  let v102 : BitVec 1 := Scalar.cmpi .ne v96 v101
  let v103 : BitVec 32 := Scalar.remsi v90 c2048_i32_39
  let c0_i32_44 : BitVec 32 := 0#32
  let v104 : BitVec 1 := Scalar.cmpi .ne v103 c0_i32_44
  let v105 : BitVec 1 := Scalar.andi v102 v104
  let v91 : BitVec 32 := Scalar.divsi v90 c2048_i32_39
  let c1_i32_45 : BitVec 32 := 1#32
  let v106 : BitVec 32 := Scalar.subi v91 c1_i32_45
  let v107 : BitVec 32 := Scalar.select v105 v106 v91
  let v108 : BitVec 1 := Scalar.cmpi .ne v89 v107
  let v109 : BitVec 1 := Scalar.ori v71 v108
  let v110 : BitVec 32 := Scalar.extui v109
  let c0_i32_46 : BitVec 32 := 0#32
  let v111 : BitVec 1 := Scalar.cmpi .ne v110 c0_i32_46
  v111

def k0_cond2 (i : grid0.Coords) : BitVec 1 :=
  let arg0 : BitVec 32 := BitVec.ofNat 32 (i 0).val
  let c8_i32 : BitVec 32 := 8#32
  let v58 : BitVec 32 := Scalar.muli arg0 c8_i32
  let arg1 : BitVec 32 := BitVec.ofNat 32 (i 1).val
  let v59 : BitVec 32 := Scalar.addi v58 arg1
  let c0_i32_31 : BitVec 32 := 0#32
  let v71 : BitVec 1 := Scalar.cmpi .eq v59 c0_i32_31
  let c256_i32 : BitVec 32 := 256#32
  let v72 : BitVec 32 := Scalar.muli arg1 c256_i32
  let c0_i32_32 : BitVec 32 := 0#32
  let v74 : BitVec 1 := Scalar.cmpi .sgt v72 c0_i32_32
  let v75 : BitVec 32 := Scalar.extui v74
  let c0_i32_33 : BitVec 32 := 0#32
  let v76 : BitVec 1 := Scalar.cmpi .slt v72 c0_i32_33
  let v77 : BitVec 32 := Scalar.extui v76
  let v78 : BitVec 32 := Scalar.subi v75 v77
  let c2048_i32 : BitVec 32 := 2048#32
  let c0_i32_34 : BitVec 32 := 0#32
  let v79 : BitVec 1 := Scalar.cmpi .sgt c2048_i32 c0_i32_34
  let v80 : BitVec 32 := Scalar.extui v79
  let c0_i32_35 : BitVec 32 := 0#32
  let v81 : BitVec 1 := Scalar.cmpi .slt c2048_i32 c0_i32_35
  let v82 : BitVec 32 := Scalar.extui v81
  let v83 : BitVec 32 := Scalar.subi v80 v82
  let v84 : BitVec 1 := Scalar.cmpi .ne v78 v83
  let v85 : BitVec 32 := Scalar.remsi v72 c2048_i32
  let c0_i32_36 : BitVec 32 := 0#32
  let v86 : BitVec 1 := Scalar.cmpi .ne v85 c0_i32_36
  let v87 : BitVec 1 := Scalar.andi v84 v86
  let v73 : BitVec 32 := Scalar.divsi v72 c2048_i32
  let c1_i32_37 : BitVec 32 := 1#32
  let v88 : BitVec 32 := Scalar.subi v73 c1_i32_37
  let v89 : BitVec 32 := Scalar.select v87 v88 v73
  let c1_i32 : BitVec 32 := 1#32
  let v60 : BitVec 32 := Scalar.subi v59 c1_i32
  let c8_i32_26 : BitVec 32 := 8#32
  let c0_i32 : BitVec 32 := 0#32
  let v61 : BitVec 1 := Scalar.cmpi .eq c8_i32_26 c0_i32
  let c1_i32_27 : BitVec 32 := 1#32
  let v62 : BitVec 32 := Scalar.select v61 c1_i32_27 c8_i32_26
  let v63 : BitVec 32 := Scalar.remsi v60 v62
  let c0_i32_29 : BitVec 32 := 0#32
  let v65 : BitVec 1 := Scalar.cmpi .slt v63 c0_i32_29
  let c0_i32_30 : BitVec 32 := 0#32
  let v66 : BitVec 1 := Scalar.cmpi .slt v62 c0_i32_30
  let v67 : BitVec 1 := Scalar.xori v65 v66
  let c0_i32_28 : BitVec 32 := 0#32
  let v64 : BitVec 1 := Scalar.cmpi .ne v63 c0_i32_28
  let v68 : BitVec 1 := Scalar.andi v67 v64
  let v69 : BitVec 32 := Scalar.addi v63 v62
  let v70 : BitVec 32 := Scalar.select v68 v69 v63
  let c256_i32_38 : BitVec 32 := 256#32
  let v90 : BitVec 32 := Scalar.muli v70 c256_i32_38
  let c0_i32_40 : BitVec 32 := 0#32
  let v92 : BitVec 1 := Scalar.cmpi .sgt v90 c0_i32_40
  let v93 : BitVec 32 := Scalar.extui v92
  let c0_i32_41 : BitVec 32 := 0#32
  let v94 : BitVec 1 := Scalar.cmpi .slt v90 c0_i32_41
  let v95 : BitVec 32 := Scalar.extui v94
  let v96 : BitVec 32 := Scalar.subi v93 v95
  let c2048_i32_39 : BitVec 32 := 2048#32
  let c0_i32_42 : BitVec 32 := 0#32
  let v97 : BitVec 1 := Scalar.cmpi .sgt c2048_i32_39 c0_i32_42
  let v98 : BitVec 32 := Scalar.extui v97
  let c0_i32_43 : BitVec 32 := 0#32
  let v99 : BitVec 1 := Scalar.cmpi .slt c2048_i32_39 c0_i32_43
  let v100 : BitVec 32 := Scalar.extui v99
  let v101 : BitVec 32 := Scalar.subi v98 v100
  let v102 : BitVec 1 := Scalar.cmpi .ne v96 v101
  let v103 : BitVec 32 := Scalar.remsi v90 c2048_i32_39
  let c0_i32_44 : BitVec 32 := 0#32
  let v104 : BitVec 1 := Scalar.cmpi .ne v103 c0_i32_44
  let v105 : BitVec 1 := Scalar.andi v102 v104
  let v91 : BitVec 32 := Scalar.divsi v90 c2048_i32_39
  let c1_i32_45 : BitVec 32 := 1#32
  let v106 : BitVec 32 := Scalar.subi v91 c1_i32_45
  let v107 : BitVec 32 := Scalar.select v105 v106 v91
  let v108 : BitVec 1 := Scalar.cmpi .ne v89 v107
  let v109 : BitVec 1 := Scalar.ori v71 v108
  let v_true : BitVec 1 := 1#1
  let v112 : BitVec 1 := Scalar.xori v109 v_true
  let v113 : BitVec 32 := Scalar.extui v112
  let c0_i32_47 : BitVec 32 := 0#32
  let v114 : BitVec 1 := Scalar.cmpi .ne v113 c0_i32_47
  v114

def k0_cond3 (i : grid0.Coords) : BitVec 1 :=
  let arg0 : BitVec 32 := BitVec.ofNat 32 (i 0).val
  let c8_i32 : BitVec 32 := 8#32
  let v58 : BitVec 32 := Scalar.muli arg0 c8_i32
  let arg1 : BitVec 32 := BitVec.ofNat 32 (i 1).val
  let v59 : BitVec 32 := Scalar.addi v58 arg1
  let c0_i32_48 : BitVec 32 := 0#32
  let v115 : BitVec 1 := Scalar.cmpi .eq v59 c0_i32_48
  let v116 : BitVec 32 := Scalar.extui v115
  let c0_i32_49 : BitVec 32 := 0#32
  let v117 : BitVec 1 := Scalar.cmpi .ne v116 c0_i32_49
  v117

def k0_cond4 (i : grid0.Coords) : BitVec 1 :=
  let arg0 : BitVec 32 := BitVec.ofNat 32 (i 0).val
  let c8_i32 : BitVec 32 := 8#32
  let v58 : BitVec 32 := Scalar.muli arg0 c8_i32
  let arg1 : BitVec 32 := BitVec.ofNat 32 (i 1).val
  let v59 : BitVec 32 := Scalar.addi v58 arg1
  let c0_i32_48 : BitVec 32 := 0#32
  let v115 : BitVec 1 := Scalar.cmpi .eq v59 c0_i32_48
  let true_50 : BitVec 1 := 1#1
  let v118 : BitVec 1 := Scalar.xori v115 true_50
  let v119 : BitVec 32 := Scalar.extui v118
  let c0_i32_51 : BitVec 32 := 0#32
  let v120 : BitVec 1 := Scalar.cmpi .ne v119 c0_i32_51
  v120

def k0_cond5 (i : grid0.Coords) : BitVec 1 :=
  let arg0 : BitVec 32 := BitVec.ofNat 32 (i 0).val
  let c8_i32 : BitVec 32 := 8#32
  let v58 : BitVec 32 := Scalar.muli arg0 c8_i32
  let arg1 : BitVec 32 := BitVec.ofNat 32 (i 1).val
  let v59 : BitVec 32 := Scalar.addi v58 arg1
  let c0_i32_52 : BitVec 32 := 0#32
  let v121 : BitVec 1 := Scalar.cmpi .eq v59 c0_i32_52
  let v122 : BitVec 32 := Scalar.extui v121
  let c0_i32_53 : BitVec 32 := 0#32
  let v123 : BitVec 1 := Scalar.cmpi .ne v122 c0_i32_53
  v123

def k0_cond6 (i : grid0.Coords) : BitVec 1 :=
  let arg0 : BitVec 32 := BitVec.ofNat 32 (i 0).val
  let c8_i32 : BitVec 32 := 8#32
  let v58 : BitVec 32 := Scalar.muli arg0 c8_i32
  let arg1 : BitVec 32 := BitVec.ofNat 32 (i 1).val
  let v59 : BitVec 32 := Scalar.addi v58 arg1
  let c0_i32_52 : BitVec 32 := 0#32
  let v121 : BitVec 1 := Scalar.cmpi .eq v59 c0_i32_52
  let true_54 : BitVec 1 := 1#1
  let v124 : BitVec 1 := Scalar.xori v121 true_54
  let v125 : BitVec 32 := Scalar.extui v124
  let c0_i32_55 : BitVec 32 := 0#32
  let v126 : BitVec 1 := Scalar.cmpi .ne v125 c0_i32_55
  v126

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ResBiasBRefIdeal.lean ====
abbrev S1x2048x1024 : Shape := ⟨3, ![1, 2048, 1024]⟩
abbrev S1x1x1024 : Shape := ⟨3, ![1, 1, 1024]⟩
abbrev S_ : Shape := ⟨0, ![]⟩
abbrev S1x2048 : Shape := ⟨2, ![1, 2048]⟩
abbrev S1x2048x1 : Shape := ⟨3, ![1, 2048, 1]⟩
abbrev S1x1024 : Shape := ⟨2, ![1, 1024]⟩
abbrev S2048 : Shape := ⟨1, ![2048]⟩

abbrev nBuf : Space → Nat
  | .hbm => 62
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1x1024, .f32⟩
  | .hbm, ⟨2, _⟩ => ⟨S1x1x1024, .f32⟩
  | .hbm, ⟨3, _⟩ => ⟨S1x1x1024, .f32⟩
  | .hbm, ⟨4, _⟩ => ⟨S1x2048x1024, .f32⟩
  | .hbm, ⟨5, _⟩ => ⟨S1x2048x1024, .f32⟩
  | .hbm, ⟨6, _⟩ => ⟨S1x2048x1024, .f32⟩
  | .hbm, ⟨7, _⟩ => ⟨S1x2048x1024, .f32⟩
  | .hbm, ⟨8, _⟩ => ⟨S_, .f32⟩
  | .hbm, ⟨9, _⟩ => ⟨S1x2048, .f32⟩
  | .hbm, ⟨10, _⟩ => ⟨S1x2048x1, .f32⟩
  | .hbm, ⟨11, _⟩ => ⟨S_, .f32⟩
  | .hbm, ⟨12, _⟩ => ⟨S1x2048x1, .f32⟩
  | .hbm, ⟨13, _⟩ => ⟨S1x2048x1, .f32⟩
  | .hbm, ⟨14, _⟩ => ⟨S_, .f32⟩
  | .hbm, ⟨15, _⟩ => ⟨S1x2048x1, .f32⟩
  | .hbm, ⟨16, _⟩ => ⟨S1x2048x1, .f32⟩
  | .hbm, ⟨17, _⟩ => ⟨S1x2048x1, .f32⟩
  | .hbm, ⟨18, _⟩ => ⟨S1x2048x1, .f32⟩
  | .hbm, ⟨19, _⟩ => ⟨S_, .f32⟩
  | .hbm, ⟨20, _⟩ => ⟨S1x2048x1, .f32⟩
  | .hbm, ⟨21, _⟩ => ⟨S1x2048x1, .f32⟩
  | .hbm, ⟨22, _⟩ => ⟨S1x2048x1024, .f32⟩
  | .hbm, ⟨23, _⟩ => ⟨S1x2048x1024, .f32⟩
  | .hbm, ⟨24, _⟩ => ⟨S1x2048x1024, .f32⟩
  | .hbm, ⟨25, _⟩ => ⟨S1x2048x1024, .f32⟩
  | .hbm, ⟨26, _⟩ => ⟨S1x2048x1024, .f32⟩
  | .hbm, ⟨27, _⟩ => ⟨S1x2048x1024, .f32⟩
  | .hbm, ⟨28, _⟩ => ⟨S1x2048x1024, .f32⟩
  | .hbm, ⟨29, _⟩ => ⟨S1x2048x1024, .f32⟩
  | .hbm, ⟨30, _⟩ => ⟨S1x2048x1024, .f32⟩
  | .hbm, ⟨31, _⟩ => ⟨S_, .f32⟩
  | .hbm, ⟨32, _⟩ => ⟨S1x1024, .f32⟩
  | .hbm, ⟨33, _⟩ => ⟨S1x1x1024, .f32⟩
  | .hbm, ⟨34, _⟩ => ⟨S1x2048x1024, .f32⟩
  | .hbm, ⟨35, _⟩ => ⟨S_, .f32⟩
  | .hbm, ⟨36, _⟩ => ⟨S1x1024, .f32⟩
  | .hbm, ⟨37, _⟩ => ⟨S1x1x1024, .f32⟩
  | .hbm, ⟨38, _⟩ => ⟨S1x2048x1024, .f32⟩
  | .hbm, ⟨39, _⟩ => ⟨S1x2048x1024, .f32⟩
  | .hbm, ⟨40, _⟩ => ⟨S1x2048x1024, .f32⟩
  | .hbm, ⟨41, _⟩ => ⟨S_, .f32⟩
  | .hbm, ⟨42, _⟩ => ⟨S1x2048, .f32⟩
  | .hbm, ⟨43, _⟩ => ⟨S1x2048x1, .f32⟩
  | .hbm, ⟨44, _⟩ => ⟨S1x2048x1024, .f32⟩
  | .hbm, ⟨45, _⟩ => ⟨S1x2048x1024, .f32⟩
  | .hbm, ⟨46, _⟩ => ⟨S1x2048x1, .f32⟩
  | .hbm, ⟨47, _⟩ => ⟨S_, .f32⟩
  | .hbm, ⟨48, _⟩ => ⟨S1x2048x1, .f32⟩
  | .hbm, ⟨49, _⟩ => ⟨S1x2048x1, .f32⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S1x2048x1024, .f32⟩
  | .hbm, ⟨54, _⟩ => ⟨S1x2048x1024, .f32⟩
  | .hbm, ⟨55, _⟩ => ⟨S1x2048x1024, .f32⟩
  | .hbm, ⟨56, _⟩ => ⟨S1x2048x1024, .f32⟩
  | .hbm, ⟨57, _⟩ => ⟨S1x2048x1024, .f32⟩
  | .hbm, ⟨58, _⟩ => ⟨S_, .f32⟩
  | .hbm, ⟨59, _⟩ => ⟨S1x1024, .f32⟩
  | .hbm, ⟨60, _⟩ => ⟨S1x1x1024, .f32⟩
  | .hbm, ⟨61, _⟩ => ⟨S1x2048x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== GluB.lean ====
abbrev S1x2048x2048 : Shape := ⟨3, ![1, 2048, 2048]⟩
abbrev S1x1x2048 : Shape := ⟨3, ![1, 1, 2048]⟩
abbrev S1x2048x1024 : Shape := ⟨3, ![1, 2048, 1024]⟩
abbrev S1x128x2048 : Shape := ⟨3, ![1, 128, 2048]⟩
abbrev S1x128x1024 : Shape := ⟨3, ![1, 128, 1024]⟩
abbrev S128x2048 : Shape := ⟨2, ![128, 2048]⟩
abbrev S1x2048 : Shape := ⟨2, ![1, 2048]⟩
abbrev S128x1024 : Shape := ⟨2, ![128, 1024]⟩
abbrev S1x1024 : Shape := ⟨2, ![1, 1024]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S1x2048x2048, .f32⟩
  | .hbm, ⟨1, _⟩ => ⟨S1x1x2048, .f32⟩
  | .hbm, ⟨2, _⟩ => ⟨S1x2048x1024, .f32⟩
  | .hbm, ⟨3, _⟩ => ⟨S1x2048x2048, .bf16⟩
  | .hbm, ⟨4, _⟩ => ⟨S1x1x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x1x2048, .f32⟩
  | .local _ .vmem, ⟨3, _⟩ => ⟨S1x128x1024, .f32⟩
  | .local _ .vmem, ⟨4, _⟩ => ⟨S1x128x1024, .f32⟩
  | .local _ .vmem, ⟨5, _⟩ => ⟨S1x128x2048, .bf16⟩
  | .local _ .vmem, ⟨6, _⟩ => ⟨S1x128x2048, .bf16⟩
  | .local _ .vmem, ⟨7, _⟩ => ⟨S1x1x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg0 : BitVec 32 := BitVec.ofNat 32 (i 0).val
  let c16_i32 : BitVec 32 := 16#32
  let v44 : BitVec 32 := Scalar.muli arg0 c16_i32
  let arg1 : BitVec 32 := BitVec.ofNat 32 (i 1).val
  let v45 : BitVec 32 := Scalar.addi v44 arg1
  let c0_i32 : BitVec 32 := 0#32
  let v46 : BitVec 1 := Scalar.cmpi .eq v45 c0_i32
  let v47 : BitVec 32 := Scalar.extui v46
  let c0_i32_19 : BitVec 32 := 0#32
  let v48 : BitVec 1 := Scalar.cmpi .ne v47 c0_i32_19
  v48

def k0_cond2 (i : grid0.Coords) : BitVec 1 :=
  let arg0 : BitVec 32 := BitVec.ofNat 32 (i 0).val
  let c16_i32 : BitVec 32 := 16#32
  let v44 : BitVec 32 := Scalar.muli arg0 c16_i32
  let arg1 : BitVec 32 := BitVec.ofNat 32 (i 1).val
  let v45 : BitVec 32 := Scalar.addi v44 arg1
  let c0_i32 : BitVec 32 := 0#32
  let v46 : BitVec 1 := Scalar.cmpi .eq v45 c0_i32
  let v_true : BitVec 1 := 1#1
  let v49 : BitVec 1 := Scalar.xori v46 v_true
  let v50 : BitVec 32 := Scalar.extui v49
  let c0_i32_20 : BitVec 32 := 0#32
  let v51 : BitVec 1 := Scalar.cmpi .ne v50 c0_i32_20
  v51

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== GluBRefIdeal.lean ====
abbrev S1x2048x2048 : Shape := ⟨3, ![1, 2048, 2048]⟩
abbrev S1x1x2048 : Shape := ⟨3, ![1, 1, 2048]⟩
abbrev S1x2048x1024 : Shape := ⟨3, ![1, 2048, 1024]⟩
abbrev S_ : Shape := ⟨0, ![]⟩
abbrev S1x2048 : Shape := ⟨2, ![1, 2048]⟩

abbrev nBuf : Space → Nat
  | .hbm => 34
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x1x2048, .f32⟩
  | .hbm, ⟨2, _⟩ => ⟨S1x2048x1024, .f32⟩
  | .hbm, ⟨3, _⟩ => ⟨S1x2048x2048, .f32⟩
  | .hbm, ⟨4, _⟩ => ⟨S1x2048x2048, .f32⟩
  | .hbm, ⟨5, _⟩ => ⟨S1x2048x1024, .f32⟩
  | .hbm, ⟨6, _⟩ => ⟨S1x2048x1024, .f32⟩
  | .hbm, ⟨7, _⟩ => ⟨S1x2048x1024, .f32⟩
  | .hbm, ⟨8, _⟩ => ⟨S1x2048x1024, .f32⟩
  | .hbm, ⟨9, _⟩ => ⟨S_, .f32⟩
  | .hbm, ⟨10, _⟩ => ⟨S1x2048x1024, .f32⟩
  | .hbm, ⟨11, _⟩ => ⟨S1x2048x1024, .f32⟩
  | .hbm, ⟨12, _⟩ => ⟨S_, .f32⟩
  | .hbm, ⟨13, _⟩ => ⟨S1x2048x1024, .f32⟩
  | .hbm, ⟨14, _⟩ => ⟨S1x2048x1024, .f32⟩
  | .hbm, ⟨15, _⟩ => ⟨S1x2048x1024, .f32⟩
  | .hbm, ⟨16, _⟩ => ⟨S_, .f32⟩
  | .hbm, ⟨17, _⟩ => ⟨S1x2048x1024, .f32⟩
  | .hbm, ⟨18, _⟩ => ⟨S1x2048x1024, .f32⟩
  | .hbm, ⟨19, _⟩ => ⟨S1x2048x1024, .f32⟩
  | .hbm, ⟨20, _⟩ => ⟨S1x2048x1024, .f32⟩
  | .hbm, ⟨21, _⟩ => ⟨S1x2048x1024, .f32⟩
  | .hbm, ⟨22, _⟩ => ⟨S1x2048x1024, .f32⟩
  | .hbm, ⟨23, _⟩ => ⟨S_, .f32⟩
  | .hbm, ⟨24, _⟩ => ⟨S1x2048x1024, .f32⟩
  | .hbm, ⟨25, _⟩ => ⟨S1x2048x1024, .f32⟩
  | .hbm, ⟨26, _⟩ => ⟨S1x2048x1024, .f32⟩
  | .hbm, ⟨27, _⟩ => ⟨S1x2048x1024, .f32⟩
  | .hbm, ⟨28, _⟩ => ⟨S1x2048x1024, .f32⟩
  | .hbm, ⟨29, _⟩ => ⟨S1x2048x2048, .f32⟩
  | .hbm, ⟨30, _⟩ => ⟨S_, .f32⟩
  | .hbm, ⟨31, _⟩ => ⟨S1x2048, .f32⟩
  | .hbm, ⟨32, _⟩ => ⟨S1x1x2048, .f32⟩
  | .hbm, ⟨33, _⟩ => ⟨S1x2048x2048, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== LnB.lean ====
abbrev S1x2048x1024 : Shape := ⟨3, ![1, 2048, 1024]⟩
abbrev S1x1x1024 : Shape := ⟨3, ![1, 1, 1024]⟩
abbrev S1x256x1024 : Shape := ⟨3, ![1, 256, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S1x2048x1024, .f32⟩
  | .hbm, ⟨1, _⟩ => ⟨S1x1x1024, .f32⟩
  | .hbm, ⟨2, _⟩ => ⟨S1x1x1024, .f32⟩
  | .hbm, ⟨3, _⟩ => ⟨S1x2048x1024, .f32⟩
  | .hbm, ⟨4, _⟩ => ⟨S1x2048x1024, .f32⟩
  | .hbm, ⟨5, _⟩ => ⟨S1x1x1024, .f32⟩
  | .hbm, ⟨6, _⟩ => ⟨S1x1x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x1x1024, .f32⟩
  | .local _ .vmem, ⟨9, _⟩ => ⟨S1x1x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg0 : BitVec 32 := BitVec.ofNat 32 (i 0).val
  let c8_i32 : BitVec 32 := 8#32
  let v87 : BitVec 32 := Scalar.muli arg0 c8_i32
  let arg1 : BitVec 32 := BitVec.ofNat 32 (i 1).val
  let v88 : BitVec 32 := Scalar.addi v87 arg1
  let c0_i32 : BitVec 32 := 0#32
  let v89 : BitVec 1 := Scalar.cmpi .eq v88 c0_i32
  let v90 : BitVec 32 := Scalar.extui v89
  let c0_i32_35 : BitVec 32 := 0#32
  let v91 : BitVec 1 := Scalar.cmpi .ne v90 c0_i32_35
  v91

def k0_cond2 (i : grid0.Coords) : BitVec 1 :=
  let arg0 : BitVec 32 := BitVec.ofNat 32 (i 0).val
  let c8_i32 : BitVec 32 := 8#32
  let v87 : BitVec 32 := Scalar.muli arg0 c8_i32
  let arg1 : BitVec 32 := BitVec.ofNat 32 (i 1).val
  let v88 : BitVec 32 := Scalar.addi v87 arg1
  let c0_i32 : BitVec 32 := 0#32
  let v89 : BitVec 1 := Scalar.cmpi .eq v88 c0_i32
  let v_true : BitVec 1 := 1#1
  let v92 : BitVec 1 := Scalar.xori v89 v_true
  let v93 : BitVec 32 := Scalar.extui v92
  let c0_i32_36 : BitVec 32 := 0#32
  let v94 : BitVec 1 := Scalar.cmpi .ne v93 c0_i32_36
  v94

def k0_cond3 (i : grid0.Coords) : BitVec 1 :=
  let arg0 : BitVec 32 := BitVec.ofNat 32 (i 0).val
  let c8_i32 : BitVec 32 := 8#32
  let v87 : BitVec 32 := Scalar.muli arg0 c8_i32
  let arg1 : BitVec 32 := BitVec.ofNat 32 (i 1).val
  let v88 : BitVec 32 := Scalar.addi v87 arg1
  let c0_i32_37 : BitVec 32 := 0#32
  let v95 : BitVec 1 := Scalar.cmpi .eq v88 c0_i32_37
  let v96 : BitVec 32 := Scalar.extui v95
  let c0_i32_38 : BitVec 32 := 0#32
  let v97 : BitVec 1 := Scalar.cmpi .ne v96 c0_i32_38
  v97

def k0_cond4 (i : grid0.Coords) : BitVec 1 :=
  let arg0 : BitVec 32 := BitVec.ofNat 32 (i 0).val
  let c8_i32 : BitVec 32 := 8#32
  let v87 : BitVec 32 := Scalar.muli arg0 c8_i32
  let arg1 : BitVec 32 := BitVec.ofNat 32 (i 1).val
  let v88 : BitVec 32 := Scalar.addi v87 arg1
  let c0_i32_37 : BitVec 32 := 0#32
  let v95 : BitVec 1 := Scalar.cmpi .eq v88 c0_i32_37
  let true_39 : BitVec 1 := 1#1
  let v98 : BitVec 1 := Scalar.xori v95 true_39
  let v99 : BitVec 32 := Scalar.extui v98
  let c0_i32_40 : BitVec 32 := 0#32
  let v100 : BitVec 1 := Scalar.cmpi .ne v99 c0_i32_40
  v100

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== LnBRefIdeal.lean ====
abbrev S1x2048x1024 : Shape := ⟨3, ![1, 2048, 1024]⟩
abbrev S1x1x1024 : Shape := ⟨3, ![1, 1, 1024]⟩
abbrev S_ : Shape := ⟨0, ![]⟩
abbrev S1x2048 : Shape := ⟨2, ![1, 2048]⟩
abbrev S1x2048x1 : Shape := ⟨3, ![1, 2048, 1]⟩
abbrev S1x1024 : Shape := ⟨2, ![1, 1024]⟩
abbrev S2048 : Shape := ⟨1, ![2048]⟩

abbrev nBuf : Space → Nat
  | .hbm => 96
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1x1024, .f32⟩
  | .hbm, ⟨2, _⟩ => ⟨S1x1x1024, .f32⟩
  | .hbm, ⟨3, _⟩ => ⟨S1x2048x1024, .f32⟩
  | .hbm, ⟨4, _⟩ => ⟨S_, .f32⟩
  | .hbm, ⟨5, _⟩ => ⟨S1x2048, .f32⟩
  | .hbm, ⟨6, _⟩ => ⟨S1x2048x1, .f32⟩
  | .hbm, ⟨7, _⟩ => ⟨S_, .f32⟩
  | .hbm, ⟨8, _⟩ => ⟨S1x2048x1, .f32⟩
  | .hbm, ⟨9, _⟩ => ⟨S1x2048x1, .f32⟩
  | .hbm, ⟨10, _⟩ => ⟨S1x2048x1024, .f32⟩
  | .hbm, ⟨11, _⟩ => ⟨S1x2048x1024, .f32⟩
  | .hbm, ⟨12, _⟩ => ⟨S1x2048x1024, .f32⟩
  | .hbm, ⟨13, _⟩ => ⟨S_, .f32⟩
  | .hbm, ⟨14, _⟩ => ⟨S1x2048x1024, .f32⟩
  | .hbm, ⟨15, _⟩ => ⟨S1x2048x1024, .f32⟩
  | .hbm, ⟨16, _⟩ => ⟨S_, .f32⟩
  | .hbm, ⟨17, _⟩ => ⟨S1x2048, .f32⟩
  | .hbm, ⟨18, _⟩ => ⟨S1x2048x1, .f32⟩
  | .hbm, ⟨19, _⟩ => ⟨S_, .f32⟩
  | .hbm, ⟨20, _⟩ => ⟨S1x2048x1, .f32⟩
  | .hbm, ⟨21, _⟩ => ⟨S1x2048x1, .f32⟩
  | .hbm, ⟨22, _⟩ => ⟨S_, .f32⟩
  | .hbm, ⟨23, _⟩ => ⟨S1x2048x1, .f32⟩
  | .hbm, ⟨24, _⟩ => ⟨S1x2048x1, .f32⟩
  | .hbm, ⟨25, _⟩ => ⟨S1x2048x1, .f32⟩
  | .hbm, ⟨26, _⟩ => ⟨S1x2048x1, .f32⟩
  | .hbm, ⟨27, _⟩ => ⟨S_, .f32⟩
  | .hbm, ⟨28, _⟩ => ⟨S1x2048x1, .f32⟩
  | .hbm, ⟨29, _⟩ => ⟨S1x2048x1, .f32⟩
  | .hbm, ⟨30, _⟩ => ⟨S1x2048x1024, .f32⟩
  | .hbm, ⟨31, _⟩ => ⟨S1x2048x1024, .f32⟩
  | .hbm, ⟨32, _⟩ => ⟨S1x2048x1024, .f32⟩
  | .hbm, ⟨33, _⟩ => ⟨S1x2048x1024, .f32⟩
  | .hbm, ⟨34, _⟩ => ⟨S1x2048x1024, .f32⟩
  | .hbm, ⟨35, _⟩ => ⟨S1x2048x1024, .f32⟩
  | .hbm, ⟨36, _⟩ => ⟨S1x2048x1024, .f32⟩
  | .hbm, ⟨37, _⟩ => ⟨S1x2048x1024, .f32⟩
  | .hbm, ⟨38, _⟩ => ⟨S_, .f32⟩
  | .hbm, ⟨39, _⟩ => ⟨S1x2048x1024, .f32⟩
  | .hbm, ⟨40, _⟩ => ⟨S1x2048x1024, .f32⟩
  | .hbm, ⟨41, _⟩ => ⟨S_, .f32⟩
  | .hbm, ⟨42, _⟩ => ⟨S1x2048x1024, .f32⟩
  | .hbm, ⟨43, _⟩ => ⟨S1x2048x1024, .f32⟩
  | .hbm, ⟨44, _⟩ => ⟨S1x2048x1024, .f32⟩
  | .hbm, ⟨45, _⟩ => ⟨S_, .f32⟩
  | .hbm, ⟨46, _⟩ => ⟨S1x2048x1024, .f32⟩
  | .hbm, ⟨47, _⟩ => ⟨S1x2048x1024, .f32⟩
  | .hbm, ⟨48, _⟩ => ⟨S1x2048x1024, .f32⟩
  | .hbm, ⟨49, _⟩ => ⟨S1x2048x1024, .f32⟩
  | .hbm, ⟨50, _⟩ => ⟨S1x2048x1024, .f32⟩
  | .hbm, ⟨51, _⟩ => ⟨S1x2048x1024, .f32⟩
  | .hbm, ⟨52, _⟩ => ⟨S_, .f32⟩
  | .hbm, ⟨53, _⟩ => ⟨S1x2048x1024, .f32⟩
  | .hbm, ⟨54, _⟩ => ⟨S1x2048x1024, .f32⟩
  | .hbm, ⟨55, _⟩ => ⟨S1x2048x1024, .f32⟩
  | .hbm, ⟨56, _⟩ => ⟨S1x2048x1024, .f32⟩
  | .hbm, ⟨57, _⟩ => ⟨S1x2048x1024, .f32⟩
  | .hbm, ⟨58, _⟩ => ⟨S1x2048x1024, .f32⟩
  | .hbm, ⟨59, _⟩ => ⟨S_, .f32⟩
  | .hbm, ⟨60, _⟩ => ⟨S1x1024, .f32⟩
  | .hbm, ⟨61, _⟩ => ⟨S1x1x1024, .f32⟩
  | .hbm, ⟨62, _⟩ => ⟨S1x2048x1024, .f32⟩
  | .hbm, ⟨63, _⟩ => ⟨S_, .f32⟩
  | .hbm, ⟨64, _⟩ => ⟨S1x1024, .f32⟩
  | .hbm, ⟨65, _⟩ => ⟨S1x1x1024, .f32⟩
  | .hbm, ⟨66, _⟩ => ⟨S1x2048x1024, .f32⟩
  | .hbm, ⟨67, _⟩ => ⟨S1x2048x1024, .f32⟩
  | .hbm, ⟨68, _⟩ => ⟨S1x2048x1024, .f32⟩
  | .hbm, ⟨69, _⟩ => ⟨S_, .f32⟩
  | .hbm, ⟨70, _⟩ => ⟨S1x2048, .f32⟩
  | .hbm, ⟨71, _⟩ => ⟨S1x2048x1, .f32⟩
  | .hbm, ⟨72, _⟩ => ⟨S1x2048x1024, .f32⟩
  | .hbm, ⟨73, _⟩ => ⟨S1x2048x1024, .f32⟩
  | .hbm, ⟨74, _⟩ => ⟨S1x2048x1, .f32⟩
  | .hbm, ⟨75, _⟩ => ⟨S_, .f32⟩
  | .hbm, ⟨76, _⟩ => ⟨S1x2048x1, .f32⟩
  | .hbm, ⟨77, _⟩ => ⟨S1x2048x1, .f32⟩
  | .hbm, ⟨78, _⟩ => ⟨S_, .f32⟩
  | .hbm, ⟨79, _⟩ => ⟨S2048, .f32⟩
  | .hbm, ⟨80, _⟩ => ⟨S1x2048, .f32⟩
  | .hbm, ⟨81, _⟩ => ⟨S1x2048x1024, .f32⟩
  | .hbm, ⟨82, _⟩ => ⟨S1x2048x1024, .f32⟩
  | .hbm, ⟨83, _⟩ => ⟨S1x2048x1024, .f32⟩
  | .hbm, ⟨84, _⟩ => ⟨S1x2048x1024, .f32⟩
  | .hbm, ⟨85, _⟩ => ⟨S_, .f32⟩
  | .hbm, ⟨86, _⟩ => ⟨S1x2048, .f32⟩
  | .hbm, ⟨87, _⟩ => ⟨S1x2048x1, .f32⟩
  | .hbm, ⟨88, _⟩ => ⟨S_, .f32⟩
  | .hbm, ⟨89, _⟩ => ⟨S1x2048x1, .f32⟩
  | .hbm, ⟨90, _⟩ => ⟨S1x2048x1, .f32⟩
  | .hbm, ⟨91, _⟩ => ⟨S_, .f32⟩
  | .hbm, ⟨92, _⟩ => ⟨S2048, .f32⟩
  | .hbm, ⟨93, _⟩ => ⟨S1x2048, .f32⟩
  | .hbm, ⟨94, _⟩ => ⟨S1x2048x1024, .f32⟩
  | .hbm, ⟨95, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_11 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_12 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_13 : Ref sig .tc := ⟨.hbm, 75, rfl⟩
abbrev main_v57 : Ref sig .tc := ⟨.hbm, 76, rfl⟩
abbrev main_v58 : Ref sig .tc := ⟨.hbm, 77, rfl⟩
abbrev main_cst_14 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_15 : Ref sig .tc := ⟨.hbm, 85, rfl⟩
abbrev main_v65 : Ref sig .tc := ⟨.hbm, 86, rfl⟩
abbrev main_v66 : Ref sig .tc := ⟨.hbm, 87, rfl⟩
abbrev main_cst_16 : Ref sig .tc := ⟨.hbm, 88, rfl⟩
abbrev main_v67 : Ref sig .tc := ⟨.hbm, 89, rfl⟩
abbrev main_v68 : Ref sig .tc := ⟨.hbm, 90, rfl⟩
abbrev main_cst_17 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩

abbrev nD : Nat := 1
abbrev τ : Topo := Topo.v7x

variable {F : FTy → Type} [FloatOps F]
-- ==== SpatialFwd.lean ====
abbrev S1x2048x2048 : Shape := ⟨3, ![1, 2048, 2048]⟩
abbrev S16x128x128 : Shape := ⟨3, ![16, 128, 128]⟩
abbrev S16x128x1 : Shape := ⟨3, ![16, 128, 1]⟩
abbrev S1x128x2048 : Shape := ⟨3, ![1, 128, 2048]⟩
abbrev S1x128x128 : Shape := ⟨3, ![1, 128, 128]⟩
abbrev S128x128 : Shape := ⟨2, ![128, 128]⟩
abbrev S1x128x1 : Shape := ⟨3, ![1, 128, 1]⟩
abbrev S128x1 : Shape := ⟨2, ![128, 1]⟩

abbrev nBuf : Space → Nat
  | .hbm => 5
  | .vmem => 8
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .bf16⟩
  | .hbm, ⟨2, _⟩ => ⟨S16x128x128, .bf16⟩
  | .hbm, ⟨3, _⟩ => ⟨S16x128x1, .f32⟩
  | .hbm, ⟨4, _⟩ => ⟨S1x2048x2048, .bf16⟩
  | .local _ .vmem, ⟨0, _⟩ => ⟨S1x128x2048, .f32⟩
  | .local _ .vmem, ⟨1, _⟩ => ⟨S1x128x2048, .f32⟩
  | .local _ .vmem, ⟨2, _⟩ => ⟨S1x128x2048, .bf16⟩
  | .local _ .vmem, ⟨3, _⟩ => ⟨S1x128x2048, .bf16⟩
  | .local _ .vmem, ⟨4, _⟩ => ⟨S16x128x128, .bf16⟩
  | .local _ .vmem, ⟨5, _⟩ => ⟨S16x128x1, .f32⟩
  | .local _ .vmem, ⟨6, _⟩ => ⟨S1x128x2048, .bf16⟩
  | .local _ .vmem, ⟨7, _⟩ => ⟨S1x128x2048, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SpatialFwdRefIdeal.lean ====
abbrev S1x2048x2048 : Shape := ⟨3, ![1, 2048, 2048]⟩
abbrev S16x128x128 : Shape := ⟨3, ![16, 128, 128]⟩
abbrev S16x128x1 : Shape := ⟨3, ![16, 128, 1]⟩
abbrev S16x128x16x128 : Shape := ⟨4, ![16, 128, 16, 128]⟩
abbrev S16x16x128x128 : Shape := ⟨4, ![16, 16, 128, 128]⟩
abbrev S16x128 : Shape := ⟨2, ![16, 128]⟩
abbrev S128x16 : Shape := ⟨2, ![128, 16]⟩
abbrev S1x128x16x1 : Shape := ⟨4, ![1, 128, 16, 1]⟩

abbrev nBuf : Space → Nat
  | .hbm => 17
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .bf16⟩
  | .hbm, ⟨2, _⟩ => ⟨S16x128x128, .bf16⟩
  | .hbm, ⟨3, _⟩ => ⟨S16x128x1, .f32⟩
  | .hbm, ⟨4, _⟩ => ⟨S1x2048x2048, .f32⟩
  | .hbm, ⟨5, _⟩ => ⟨S16x128x128, .f32⟩
  | .hbm, ⟨6, _⟩ => ⟨S16x128x16x128, .f32⟩
  | .hbm, ⟨7, _⟩ => ⟨S16x16x128x128, .f32⟩
  | .hbm, ⟨8, _⟩ => ⟨S16x128x16x128, .f32⟩
  | .hbm, ⟨9, _⟩ => ⟨S16x128, .f32⟩
  | .hbm, ⟨10, _⟩ => ⟨S128x16, .f32⟩
  | .hbm, ⟨11, _⟩ => ⟨S1x128x16x1, .f32⟩
  | .hbm, ⟨12, _⟩ => ⟨S16x128x16x128, .f32⟩
  | .hbm, ⟨13, _⟩ => ⟨S16x128x16x128, .f32⟩
  | .hbm, ⟨14, _⟩ => ⟨S1x2048x2048, .f32⟩
  | .hbm, ⟨15, _⟩ => ⟨S1x2048x2048, .f32⟩
  | .hbm, ⟨16, _⟩ => ⟨S1x2048x2048, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Loss.lean ====
abbrev S1x2048x1024 : Shape := ⟨3, ![1, 2048, 1024]⟩
abbrev S8x128 : Shape := ⟨2, ![8, 128]⟩
abbrev S1x256x1024 : Shape := ⟨3, ![1, 256, 1024]⟩
abbrev S256x1024 : Shape := ⟨2, ![256, 1024]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S8x128, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S8x128, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S1x2048x1024 : Shape := ⟨3, ![1, 2048, 1024]⟩
abbrev S_ : Shape := ⟨0, ![]⟩
abbrev S1x2048 : Shape := ⟨2, ![1, 2048]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S1x2048x1024, .f32⟩
  | .hbm, ⟨4, _⟩ => ⟨S_, .f32⟩
  | .hbm, ⟨5, _⟩ => ⟨S1x2048x1024, .f32⟩
  | .hbm, ⟨6, _⟩ => ⟨S1x2048x1024, .f32⟩
  | .hbm, ⟨7, _⟩ => ⟨S_, .f32⟩
  | .hbm, ⟨8, _⟩ => ⟨S1x2048, .f32⟩
  | .hbm, ⟨9, _⟩ => ⟨S_, .f32⟩
  | .hbm, ⟨10, _⟩ => ⟨S1x2048, .f32⟩
  | .hbm, ⟨11, _⟩ => ⟨S1x2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x2048, .f32⟩
  | .hbm, ⟨20, _⟩ => ⟨S_, .f32⟩
  | .hbm, ⟨21, _⟩ => ⟨S1x2048, .f32⟩
  | .hbm, ⟨22, _⟩ => ⟨S1x2048, .f32⟩
  | .hbm, ⟨23, _⟩ => ⟨S1x2048x1024, .f32⟩
  | .hbm, ⟨24, _⟩ => ⟨S1x2048x1024, .f32⟩
  | .hbm, ⟨25, _⟩ => ⟨S8x128, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Proof.Pieces.lean ====
module

public import Idealize.ShloMosaic.Lib.Pointwise
public import Idealize.ShloMosaic.Lib.WholeRead
public import Idealize.ShloMosaic.Lib.WritesUnit
public import proofs.«01_k».proof.Proof.Gen.KernelIdeal.Frame

/-! # What one grid point stores, group by group

The body is written out for the sixteen channel groups one after the other. Here its stores are told as lists over the
group number: the same four values at every group, of that group's columns. -/

set_option maxRecDepth 16384

noncomputable section

open Idealize.ShloMosaic

@[expose] public section

namespace Cert.KernelIdeal.Spatial

open Cert.KernelIdeal.Gen

/-- Where the 128 columns of group `g` begin. -/
abbrev colOff (g : Fin 16) : Fin S1x128x2048.rank → ℕ := ![0, 0, 128 * g.val]

/-- Where group `g`'s matrix begins among the sixteen. -/
abbrev matOff (g : Fin 16) : Fin S16x128x128.rank → ℕ := ![g.val, 0, 0]

/-- Where group `g`'s biases begin among the sixteen. -/
abbrev biasOff (g : Fin 16) : Fin S16x128x1.rank → ℕ := ![g.val, 0, 0]

/-- The columns of every group lie in the block. -/
theorem col_inb (g : Fin 16) : ∀ a, colOff g a + S1x128x128.size a ≤ S1x128x2048.size a := by
  intro a
  have := g.isLt
  fin_cases a <;> simp [S1x128x128, S1x128x2048, colOff] <;> omega

/-- The matrix of every group lies in the array. -/
theorem mat_inb (g : Fin 16) : ∀ a, matOff g a + S1x128x128.size a ≤ S16x128x128.size a := by
  intro a
  have := g.isLt
  fin_cases a <;> simp [S1x128x128, S16x128x128, matOff] <;> omega

/-- The biases of every group lie in the array. -/
theorem bias_inb (g : Fin 16) : ∀ a, biasOff g a + S1x128x1.size a ≤ S16x128x1.size a := by
  intro a
  have := g.isLt
  fin_cases a <;> simp [S1x128x1, S16x128x1, biasOff] <;> omega

/-- The 128 columns of group `g` of a chunk of rows. -/
abbrev colRect (g : Fin 16) : Rect S1x128x2048 := Rect.unit (colOff g) S1x128x128.size (col_inb g)

/-- Group `g`'s matrix among the sixteen. -/
abbrev matRect (g : Fin 16) : Rect S16x128x128 := Rect.unit (matOff g) S1x128x128.size (mat_inb g)

/-- Group `g`'s column of biases among the sixteen. -/
abbrev biasRect (g : Fin 16) : Rect S16x128x1 := Rect.unit (biasOff g) S1x128x1.size (bias_inb g)

/-- The group's part of `u`'s gradient: the incoming gradient times the mixed values plus bias. -/
def duTile (v w : Vec Ideal S1x128x128 .bf16) (b : Vec Ideal S1x128x1 .f32) (d : Vec Ideal S1x128x128 .f32) : Vec Ideal S1x128x128 .f32 :=
  k0_pay7 v w b d

/-- The group's part of `v`'s gradient: the transposed mixing matrix times the gradient that reaches the mixed values. -/
def dvTile (d u : Vec Ideal S1x128x128 .f32) (w : Vec Ideal S1x128x128 .bf16) : Vec Ideal S1x128x128 .f32 :=
  k0_pay10 d u w

/-- What the group adds to its matrix's gradient, added to `o`. -/
def dwTile (v : Vec Ideal S1x128x128 .bf16) (d u o : Vec Ideal S1x128x128 .f32) : Vec Ideal S1x128x128 .f32 :=
  k0_pay11 (k0_pay5 v) (k0_pay9 d u) o

/-- What the group adds to its biases' gradient, added to `o`. -/
def dbTile (d u : Vec Ideal S1x128x128 .f32) (o : Vec Ideal S1x128x1 .f32) : Vec Ideal S1x128x1 .f32 :=
  k0_pay12 (k0_pay8 d u) o

/-- A sum kept in place across the sixteen groups: first the whole array is filled with `z`, then each group's tile is
read back and replaced by `P` of it. The first `k` groups' stores, newest first. -/
def accPieces {κ : Kind} {sp : Space} {s : Shape} (v : View sig κ sp s .f32) (tsz : Fin s.rank → ℕ)
    (off : Fin 16 → Fin s.rank → ℕ) (inb : ∀ i a, off i a + tsz a ≤ s.size a) (fill : View.Piece (Elt Ideal) s .f32)
    (P : Fin 16 → ((⟨s.rank, tsz⟩ : Shape).Idx → Elt Ideal .f32) → (⟨s.rank, tsz⟩ : Shape).Idx → Elt Ideal .f32) :
    (k : ℕ) → k ≤ 16 → List (View.Piece (Elt Ideal) s .f32)
  | 0, _ => [fill]
  | k + 1, hk =>
    ⟨Rect.unit (off ⟨k, hk⟩) tsz (inb ⟨k, hk⟩),
      P ⟨k, hk⟩ (v.readCov (accPieces v tsz off inb fill P k (Nat.le_of_succ_le hk))
        (Rect.unit (off ⟨k, hk⟩) tsz (inb ⟨k, hk⟩)).toLoadRect)⟩
      :: accPieces v tsz off inb fill P k (Nat.le_of_succ_le hk)

section Lists

variable (c : Dev nD) (i : grid0.Coords) (arg1 : Memref sig .tc .vmem S1x128x2048 .f32) (harg1 : arg1.IsWhole) (arg2 : Memref sig .tc .vmem S1x128x2048 .bf16) (harg2 : arg2.IsWhole) (arg3 : Memref sig .tc .vmem S16x128x128 .bf16) (harg3 : arg3.IsWhole) (arg4 : Memref sig .tc .vmem S16x128x1 .f32) (harg4 : arg4.IsWhole) (arg5 : Memref sig .tc .vmem S1x128x2048 .f32) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S16x128x128 .f32) (harg8 : arg8.IsWhole) (arg9 : Memref sig .tc .vmem S16x128x1 .f32) (harg9 : arg9.IsWhole)
  (x0 : Vec Ideal S1x128x2048 .f32) (x1 : Vec Ideal S1x128x2048 .bf16) (x2 : Vec Ideal S16x128x128 .bf16)
  (x3 : Vec Ideal S16x128x1 .f32) (x4 : Vec Ideal S1x128x2048 .f32) (xo7 : Vec Ideal S16x128x128 .f32)
  (xo8 : Vec Ideal S16x128x1 .f32)

/-- At the first chunk `u`'s gradient is stored group by group. -/
theorem du_pieces_A (hc0 : cond0_0 i) :
    (kernelRun0_A (F := Ideal) c i arg1 harg1 arg2 harg2 arg3 harg3 arg4 harg4 arg5 harg5 arg6 harg6 arg7 harg7 arg8 harg8 arg9 harg9 hc0 x0 x1 x2 x3 x4).1
      = View.tilePieces (s := S1x128x2048) S1x128x128.size colOff col_inb (fun g => duTile (View.readAt (Elt Ideal) arg2.view (colRect g).toLoadRect (harg2.unread x1))
          (View.readAt (Elt Ideal) arg3.view (matRect g).toLoadRect (harg3.unread x2))
          (View.readAt (Elt Ideal) arg4.view (biasRect g).toLoadRect (harg4.unread x3))
          (View.readAt (Elt Ideal) arg5.view (colRect g).toLoadRect (harg5.unread x4))) 16 le_rfl := rfl

/-- At the first chunk `v`'s gradient is stored group by group. -/
theorem dv_pieces_A (hc0 : cond0_0 i) :
    (kernelRun0_A (F := Ideal) c i arg1 harg1 arg2 harg2 arg3 harg3 arg4 harg4 arg5 harg5 arg6 harg6 arg7 harg7 arg8 harg8 arg9 harg9 hc0 x0 x1 x2 x3 x4).2.1
      = View.tilePieces (s := S1x128x2048) S1x128x128.size colOff col_inb (fun g => dvTile (View.readAt (Elt Ideal) arg5.view (colRect g).toLoadRect (harg5.unread x4))
          (View.readAt (Elt Ideal) arg1.view (colRect g).toLoadRect (harg1.unread x0))
          (View.readAt (Elt Ideal) arg3.view (matRect g).toLoadRect (harg3.unread x2))) 16 le_rfl := rfl

/-- At a later chunk `u`'s gradient is stored group by group. -/
theorem du_pieces_B (hc0 : ¬cond0_0 i) :
    (kernelRun0_B (F := Ideal) c i arg1 harg1 arg2 harg2 arg3 harg3 arg4 harg4 arg5 harg5 arg6 harg6 arg7 harg7 arg8 harg8 arg9 harg9 hc0 x0 x1 x2 x3 x4 xo7 xo8).1
      = View.tilePieces (s := S1x128x2048) S1x128x128.size colOff col_inb (fun g => duTile (View.readAt (Elt Ideal) arg2.view (colRect g).toLoadRect (harg2.unread x1))
          (View.readAt (Elt Ideal) arg3.view (matRect g).toLoadRect (harg3.unread x2))
          (View.readAt (Elt Ideal) arg4.view (biasRect g).toLoadRect (harg4.unread x3))
          (View.readAt (Elt Ideal) arg5.view (colRect g).toLoadRect (harg5.unread x4))) 16 le_rfl := rfl

/-- At a later chunk `v`'s gradient is stored group by group. -/
theorem dv_pieces_B (hc0 : ¬cond0_0 i) :
    (kernelRun0_B (F := Ideal) c i arg1 harg1 arg2 harg2 arg3 harg3 arg4 harg4 arg5 harg5 arg6 harg6 arg7 harg7 arg8 harg8 arg9 harg9 hc0 x0 x1 x2 x3 x4 xo7 xo8).2.1
      = View.tilePieces (s := S1x128x2048) S1x128x128.size colOff col_inb (fun g => dvTile (View.readAt (Elt Ideal) arg5.view (colRect g).toLoadRect (harg5.unread x4))
          (View.readAt (Elt Ideal) arg1.view (colRect g).toLoadRect (harg1.unread x0))
          (View.readAt (Elt Ideal) arg3.view (matRect g).toLoadRect (harg3.unread x2))) 16 le_rfl := rfl

/-- At a later chunk each group's matrix is added to. -/
theorem dw_pieces_B (hc0 : ¬cond0_0 i) :
    (kernelRun0_B (F := Ideal) c i arg1 harg1 arg2 harg2 arg3 harg3 arg4 harg4 arg5 harg5 arg6 harg6 arg7 harg7 arg8 harg8 arg9 harg9 hc0 x0 x1 x2 x3 x4 xo7 xo8).2.2.1
      = View.tilePieces (s := S16x128x128) S1x128x128.size matOff mat_inb (fun g => dwTile (View.readAt (Elt Ideal) arg2.view (colRect g).toLoadRect (harg2.unread x1))
          (View.readAt (Elt Ideal) arg5.view (colRect g).toLoadRect (harg5.unread x4))
          (View.readAt (Elt Ideal) arg1.view (colRect g).toLoadRect (harg1.unread x0))
          (View.readAt (Elt Ideal) arg8.view (matRect g).toLoadRect (harg8.unread xo7))) 16 le_rfl := rfl

/-- At a later chunk each group's biases are added to. -/
theorem db_pieces_B (hc0 : ¬cond0_0 i) :
    (kernelRun0_B (F := Ideal) c i arg1 harg1 arg2 harg2 arg3 harg3 arg4 harg4 arg5 harg5 arg6 harg6 arg7 harg7 arg8 harg8 arg9 harg9 hc0 x0 x1 x2 x3 x4 xo7 xo8).2.2.2.1
      = View.tilePieces (s := S16x128x1) S1x128x1.size biasOff bias_inb (fun g => dbTile (View.readAt (Elt Ideal) arg5.view (colRect g).toLoadRect (harg5.unread x4))
          (View.readAt (Elt Ideal) arg1.view (colRect g).toLoadRect (harg1.unread x0))
          (View.readAt (Elt Ideal) arg9.view (biasRect g).toLoadRect (harg9.unread xo8))) 16 le_rfl := rfl

/-- At the first chunk the matrices' gradients are set to zero and each group's is added to. -/
theorem dw_pieces_A (hc0 : cond0_0 i) :
    (kernelRun0_A (F := Ideal) c i arg1 harg1 arg2 harg2 arg3 harg3 arg4 harg4 arg5 harg5 arg6 harg6 arg7 harg7 arg8 harg8 arg9 harg9 hc0 x0 x1 x2 x3 x4).2.2.1
      = accPieces arg8.view S1x128x128.size matOff mat_inb ⟨Rect.unit ![0, 0, 0] S16x128x128.size (by decide), k0_pay3 (F := Ideal)⟩
          (fun g o => dwTile (View.readAt (Elt Ideal) arg2.view (colRect g).toLoadRect (harg2.unread x1))
          (View.readAt (Elt Ideal) arg5.view (colRect g).toLoadRect (harg5.unread x4))
          (View.readAt (Elt Ideal) arg1.view (colRect g).toLoadRect (harg1.unread x0))
          o) 16 le_rfl := rfl

/-- At the first chunk the biases' gradients are set to zero and each group's is added to. -/
theorem db_pieces_A (hc0 : cond0_0 i) :
    (kernelRun0_A (F := Ideal) c i arg1 harg1 arg2 harg2 arg3 harg3 arg4 harg4 arg5 harg5 arg6 harg6 arg7 harg7 arg8 harg8 arg9 harg9 hc0 x0 x1 x2 x3 x4).2.2.2.1
      = accPieces arg9.view S1x128x1.size biasOff bias_inb ⟨Rect.unit ![0, 0, 0] S16x128x1.size (by decide), k0_pay4 (F := Ideal)⟩
          (fun g o => dbTile (View.readAt (Elt Ideal) arg5.view (colRect g).toLoadRect (harg5.unread x4))
          (View.readAt (Elt Ideal) arg1.view (colRect g).toLoadRect (harg1.unread x0))
          o) 16 le_rfl := rfl

end Lists

end Cert.KernelIdeal.Spatial

end

end
-- ==== Proof.Tiles.lean ====
module

public import proofs.«01_k».proof.Proof.Pieces

/-! # What one group's tile holds

The four values a group stores, read at an index over the extended reals. -/

set_option maxRecDepth 16384

noncomputable section

open Idealize.ShloMosaic

@[expose] public section

namespace Cert.KernelIdeal.Spatial

open Cert.KernelIdeal.Gen

/-- `u`'s gradient at row `p` and lane `c` of a group. -/
theorem duTile_at (v w : Vec Ideal S1x128x128 .bf16) (b : Vec Ideal S1x128x1 .f32) (d : Vec Ideal S1x128x128 .f32)
    (p c : Fin 128) :
    duTile v w b d (ix3 0 p c) = d (ix3 0 p c) * (∑ q : Fin 128, w (ix3 0 p q) * v (ix3 0 q c) + b (ix3 0 p 0)) := by
  pointwise [duTile, k0_pay7, k0_pay6, k0_pay5]

/-- `v`'s gradient at row `q` and lane `c` of a group. -/
theorem dvTile_at (d u : Vec Ideal S1x128x128 .f32) (w : Vec Ideal S1x128x128 .bf16) (q c : Fin 128) :
    dvTile d u w (ix3 0 q c) = ∑ p : Fin 128, w (ix3 0 p q) * (d (ix3 0 p c) * u (ix3 0 p c)) := by
  pointwise [dvTile, k0_pay10, k0_pay9, k0_pay8, k0_pay6]

/-- What a group adds to entry `(p, q)` of its matrix's gradient: the sum over the group's lanes. -/
theorem dwTile_at (v : Vec Ideal S1x128x128 .bf16) (d u o : Vec Ideal S1x128x128 .f32) (p q : Fin 128) :
    dwTile v d u o (ix3 0 p q)
      = o (ix3 0 p q) + ∑ c : Fin 128, d (ix3 0 p c) * u (ix3 0 p c) * v (ix3 0 q c) := by
  pointwise [dwTile, k0_pay11, k0_pay9, k0_pay8, k0_pay6, k0_pay5]

/-- What a group adds to entry `p` of its biases' gradient: the sum over the group's lanes. -/
theorem dbTile_at (d u : Vec Ideal S1x128x128 .f32) (o : Vec Ideal S1x128x1 .f32) (p : Fin 128) :
    dbTile d u o (ix3 0 p 0) = o (ix3 0 p 0) + ∑ c : Fin 128, d (ix3 0 p c) * u (ix3 0 p c) := by
  pointwise [dbTile, k0_pay12, k0_pay8, k0_pay6]

end Cert.KernelIdeal.Spatial

end

end
-- ==== Proof.Blocks.lean ====
module

public import proofs.«01_k».proof.Proof.Tiles

/-! # What one grid point computes

The four output blocks after the body, read at an index: two gradients of a chunk's rows, and the chunk's addition to the
two gradients that are summed over the chunks. -/

set_option maxRecDepth 16384

noncomputable section

open Idealize.ShloMosaic

@[expose] public section

namespace Cert.KernelIdeal.Spatial

open Cert.KernelIdeal.Gen

/-- The group of a channel. -/
abbrev grp (l : Fin 2048) : Fin 16 := ⟨l.val / 128, by omega⟩

/-- The lane of a channel in its group. -/
abbrev lane (l : Fin 2048) : Fin 128 := ⟨l.val % 128, by omega⟩

/-- The channel at a lane of a group. -/
abbrev chan (g : Fin 16) (c : Fin 128) : Fin 2048 := ⟨128 * g.val + c.val, by omega⟩

/-- A channel is the one at its lane of its group. -/
theorem chan_grp (l : Fin 2048) : chan (grp l) (lane l) = l := Fin.ext (by simp only [chan, grp, lane]; omega)

/-- Reading the stores of the sixteen groups' columns at a channel of group `g`: that group's tile. -/
theorem read_cols (v : View sig .tc .vmem S1x128x2048 .f32) (f : v.ty.Contents (Elt Ideal))
    (P : Fin 16 → (⟨S1x128x2048.rank, S1x128x128.size⟩ : Shape).Idx → Elt Ideal .f32) (p : Fin 128) (g : Fin 16) (c : Fin 128) :
    v.read (Elt Ideal) (v.writes (Elt Ideal) f (View.tilePieces S1x128x128.size colOff col_inb P 16 le_rfl)) (ix3 0 p (chan g c))
      = P g (ix3 0 p c : S1x128x128.Idx) :=
  View.read_tilePieces v f _ colOff col_inb P 16 le_rfl _ g g.isLt _
    (by intro a; fin_cases a <;> simp [colOff, ix3, chan])
    2 (by
      intro g' h
      have : g'.val ≠ g.val := fun e => h (Fin.ext e)
      simp only [colOff, ix3, chan, S1x128x128]
      simp
      omega)

/-- Reading the stores of the sixteen groups' matrices at group `g`: that group's tile. -/
theorem read_mats (v : View sig .tc .vmem S16x128x128 .f32) (f : v.ty.Contents (Elt Ideal))
    (P : Fin 16 → (⟨S16x128x128.rank, S1x128x128.size⟩ : Shape).Idx → Elt Ideal .f32) (g : Fin 16) (p q : Fin 128) :
    v.read (Elt Ideal) (v.writes (Elt Ideal) f (View.tilePieces S1x128x128.size matOff mat_inb P 16 le_rfl)) (ix3 g p q)
      = P g (ix3 0 p q : S1x128x128.Idx) :=
  View.read_tilePieces v f _ matOff mat_inb P 16 le_rfl _ g g.isLt _
    (by intro a; fin_cases a <;> simp [matOff, ix3])
    0 (by
      intro g' h
      have : g'.val ≠ g.val := fun e => h (Fin.ext e)
      simp only [matOff, ix3, S1x128x128]
      simp
      omega)

/-- Reading the stores of the sixteen groups' biases at group `g`: that group's tile. -/
theorem read_biases (v : View sig .tc .vmem S16x128x1 .f32) (f : v.ty.Contents (Elt Ideal))
    (P : Fin 16 → (⟨S16x128x1.rank, S1x128x1.size⟩ : Shape).Idx → Elt Ideal .f32) (g : Fin 16) (p : Fin 128) :
    v.read (Elt Ideal) (v.writes (Elt Ideal) f (View.tilePieces S1x128x1.size biasOff bias_inb P 16 le_rfl)) (ix3 g p 0)
      = P g (ix3 0 p 0 : S1x128x1.Idx) :=
  View.read_tilePieces v f _ biasOff bias_inb P 16 le_rfl _ g g.isLt _
    (by intro a; fin_cases a <;> simp [biasOff, ix3])
    0 (by
      intro g' h
      have : g'.val ≠ g.val := fun e => h (Fin.ext e)
      simp only [biasOff, ix3, S1x128x1]
      simp
      omega)

/-- After one store over the whole array, every place reads what was stored. -/
theorem read_fill {s : Shape} (v : View sig .tc .vmem s .f32) (f : v.ty.Contents (Elt Ideal)) {off : Fin s.rank → ℕ}
    (h : off = fun _ => 0) (inb : ∀ a, off a + s.size a ≤ s.size a) (w : s.Idx → Elt Ideal .f32) (y : s.Idx) :
    v.read (Elt Ideal) (v.writes (Elt Ideal) f [⟨Rect.unit off s.size inb, w⟩]) y = w y :=
  View.read_writes_cons_unit_of_mem v f inb w [] y y rfl (by intro a; have := congrFun h a; show (y a).val = off a + (y a).val; omega)

/-- A sum kept in place, read at a place of group `g` (told from the other groups by axis `ax`) once that group has been
added to: the group's tile over what the fill left there. -/
theorem read_acc {s : Shape} (v : View sig .tc .vmem s .f32) (tsz : Fin s.rank → ℕ)
    (off : Fin 16 → Fin s.rank → ℕ) (inb : ∀ i a, off i a + tsz a ≤ s.size a) (fill : View.Piece (Elt Ideal) s .f32) (z : EReal)
    (hfill : ∀ (v' : View sig .tc .vmem s .f32) (f' : v'.ty.Contents (Elt Ideal)) (y : s.Idx),
      v'.read (Elt Ideal) (v'.writes (Elt Ideal) f' [fill]) y = z)
    (P : Fin 16 → ((⟨s.rank, tsz⟩ : Shape).Idx → Elt Ideal .f32) → (⟨s.rank, tsz⟩ : Shape).Idx → Elt Ideal .f32)
    (ax : Fin s.rank) (hdis : ∀ g g' : Fin 16, g' ≠ g → off g' ax + tsz ax ≤ off g ax ∨ off g ax + tsz ax ≤ off g' ax)
    (g : Fin 16) (x : (⟨s.rank, tsz⟩ : Shape).Idx) (v' : View sig .tc .vmem s .f32) (f' : v'.ty.Contents (Elt Ideal)) :
    v'.read (Elt Ideal) (v'.writes (Elt Ideal) f' (accPieces v tsz off inb fill P 16 le_rfl)) ((Rect.unit (off g) tsz (inb g)).emb x)
      = P g (fun _ => z) x := by
  have far : ∀ (g' : Fin 16) (x : (⟨s.rank, tsz⟩ : Shape).Idx), g' ≠ g →
      (((Rect.unit (off g) tsz (inb g)).emb x) ax).val < off g' ax ∨ off g' ax + tsz ax ≤ (((Rect.unit (off g) tsz (inb g)).emb x) ax).val := by
    intro g' x h
    have e : (((Rect.unit (off g) tsz (inb g)).emb x) ax).val = off g ax + 1 * (x ax).val := rfl
    have := (x ax).isLt
    have hx : (x ax).val < tsz ax := this
    rcases hdis g g' h with h | h <;> omega
  -- before its turn the group's place holds the fill
  have before : ∀ (k : ℕ) (hk : k ≤ 16), k ≤ g.val → ∀ (v' : View sig .tc .vmem s .f32) (f' : v'.ty.Contents (Elt Ideal)) (x : (⟨s.rank, tsz⟩ : Shape).Idx),
      v'.read (Elt Ideal) (v'.writes (Elt Ideal) f' (accPieces v tsz off inb fill P k hk)) ((Rect.unit (off g) tsz (inb g)).emb x) = z := by
    intro k
    induction k with
    | zero => intro hk _ v' f' x; exact hfill v' f' _
    | succ k ih =>
      intro hk hg v' f' x
      rw [accPieces, View.read_writes_cons_unit_of_not_mem v' f' (inb ⟨k, hk⟩) _ _ _ rfl ax (far ⟨k, hk⟩ x (fun e => by
        have := congrArg Fin.val e
        simp only at this
        omega))]
      exact ih (Nat.le_of_succ_le hk) (by omega) v' f' x
  have after : ∀ (k : ℕ) (hk : k ≤ 16), g.val < k →
      v'.read (Elt Ideal) (v'.writes (Elt Ideal) f' (accPieces v tsz off inb fill P k hk)) ((Rect.unit (off g) tsz (inb g)).emb x)
        = P g (fun _ => z) x := by
    intro k
    induction k with
    | zero => intro hk h; exact absurd h (Nat.not_lt_zero _)
    | succ k ih =>
      intro hk hg
      by_cases e : (⟨k, hk⟩ : Fin 16) = g
      · subst e
        rw [accPieces, View.read_writes_cons_emb]
        exact congrArg (fun o => P ⟨k, hk⟩ o x) (funext fun x => before k (Nat.le_of_succ_le hk) le_rfl v _ x)
      · rw [accPieces, View.read_writes_cons_unit_of_not_mem v' f' (inb ⟨k, hk⟩) _ _ _ rfl ax (far ⟨k, hk⟩ x e)]
        exact ih (Nat.le_of_succ_le hk) (by
          have : g.val ≠ k := fun h => e (Fin.ext h.symm)
          omega)
  exact after 16 le_rfl g.isLt

section Blocks

variable {c : Dev nD} {i : grid0.Coords} {arg1 : Memref sig .tc .vmem S1x128x2048 .f32} {harg1 : arg1.IsWhole} {arg2 : Memref sig .tc .vmem S1x128x2048 .bf16} {harg2 : arg2.IsWhole} {arg3 : Memref sig .tc .vmem S16x128x128 .bf16} {harg3 : arg3.IsWhole} {arg4 : Memref sig .tc .vmem S16x128x1 .f32} {harg4 : arg4.IsWhole} {arg5 : Memref sig .tc .vmem S1x128x2048 .f32} {harg5 : arg5.IsWhole} {arg6 : Memref sig .tc .vmem S1x128x2048 .f32} {harg6 : arg6.IsWhole} {arg7 : Memref sig .tc .vmem S1x128x2048 .f32} {harg7 : arg7.IsWhole} {arg8 : Memref sig .tc .vmem S16x128x128 .f32} {harg8 : arg8.IsWhole} {arg9 : Memref sig .tc .vmem S16x128x1 .f32} {harg9 : arg9.IsWhole}
  {x0 : Vec Ideal S1x128x2048 .f32} {x1 : Vec Ideal S1x128x2048 .bf16} {x2 : Vec Ideal S16x128x128 .bf16}
  {x3 : Vec Ideal S16x128x1 .f32} {x4 : Vec Ideal S1x128x2048 .f32} {xo7 : Vec Ideal S16x128x128 .f32}
  {xo8 : Vec Ideal S16x128x1 .f32}

/-- Loading a group's columns of a chunk: the chunk at the group's channels. -/
theorem load_cols {e : EltTy} (m : Memref sig .tc .vmem S1x128x2048 e) (h : m.IsWhole) (X : Vec Ideal S1x128x2048 e) (g : Fin 16)
    (p c : Fin 128) :
    View.readAt (Elt Ideal) m.view (colRect g).toLoadRect (h.unread X) (ix3 0 p c : S1x128x128.Idx) = X (ix3 0 p (chan g c)) := by
  rw [h.readAt_unread]
  exact congrArg X (by funext a; fin_cases a <;> apply Fin.ext <;> simp [LoadRect.idx, ix3, chan, colOff])

/-- Loading a group's matrix: the matrices at the group. -/
theorem load_mat {e : EltTy} (m : Memref sig .tc .vmem S16x128x128 e) (h : m.IsWhole) (X : Vec Ideal S16x128x128 e) (g : Fin 16)
    (p q : Fin 128) :
    View.readAt (Elt Ideal) m.view (matRect g).toLoadRect (h.unread X) (ix3 0 p q : S1x128x128.Idx) = X (ix3 g p q) := by
  rw [h.readAt_unread]
  exact congrArg X (by funext a; fin_cases a <;> apply Fin.ext <;> simp [LoadRect.idx, ix3, matOff])

/-- Loading a group's biases: the biases at the group. -/
theorem load_bias {e : EltTy} (m : Memref sig .tc .vmem S16x128x1 e) (h : m.IsWhole) (X : Vec Ideal S16x128x1 e) (g : Fin 16)
    (p : Fin 128) :
    View.readAt (Elt Ideal) m.view (biasRect g).toLoadRect (h.unread X) (ix3 0 p 0 : S1x128x1.Idx) = X (ix3 g p 0) := by
  rw [h.readAt_unread]
  exact congrArg X (by funext a; fin_cases a <;> apply Fin.ext <;> simp [LoadRect.idx, ix3, biasOff])

/-- At the first chunk: `u`'s gradient at row `p` and channel `l`. -/
theorem du_block_A (hc0 : cond0_0 i) (p : Fin 128) (l : Fin 2048) :
    out0_A_5 (F := Ideal) c i arg1 harg1 arg2 harg2 arg3 harg3 arg4 harg4 arg5 harg5 arg6 harg6 arg7 harg7 arg8 harg8 arg9 harg9 hc0 x0 x1 x2 x3 x4 (ix3 0 p l)
      = x4 (ix3 0 p l) * (∑ q : Fin 128, x2 (ix3 (grp l) p q) * x1 (ix3 0 q l) + x3 (ix3 (grp l) p 0)) := by
  obtain ⟨g, k, rfl⟩ : ∃ g k, l = chan g k := ⟨_, _, (chan_grp l).symm⟩
  have hg : grp (chan g k) = g := Fin.ext (by simp only [grp, chan]; omega)
  rw [out0_A_5, du_pieces_A, read_cols, duTile_at]
  simp only [load_cols, load_mat, load_bias, hg]

/-- At the first chunk: `v`'s gradient at row `q` and channel `l`. -/
theorem dv_block_A (hc0 : cond0_0 i) (q : Fin 128) (l : Fin 2048) :
    out0_A_6 (F := Ideal) c i arg1 harg1 arg2 harg2 arg3 harg3 arg4 harg4 arg5 harg5 arg6 harg6 arg7 harg7 arg8 harg8 arg9 harg9 hc0 x0 x1 x2 x3 x4 (ix3 0 q l)
      = ∑ p : Fin 128, x2 (ix3 (grp l) p q) * (x4 (ix3 0 p l) * x0 (ix3 0 p l)) := by
  obtain ⟨g, k, rfl⟩ : ∃ g k, l = chan g k := ⟨_, _, (chan_grp l).symm⟩
  have hg : grp (chan g k) = g := Fin.ext (by simp only [grp, chan]; omega)
  rw [out0_A_6, dv_pieces_A, read_cols, dvTile_at]
  simp only [load_cols, load_mat, hg]

/-- At a later chunk: `u`'s gradient at row `p` and channel `l`. -/
theorem du_block_B (hc0 : ¬cond0_0 i) (p : Fin 128) (l : Fin 2048) :
    out0_B_5 (F := Ideal) c i arg1 harg1 arg2 harg2 arg3 harg3 arg4 harg4 arg5 harg5 arg6 harg6 arg7 harg7 arg8 harg8 arg9 harg9 hc0 x0 x1 x2 x3 x4 xo7 xo8 (ix3 0 p l)
      = x4 (ix3 0 p l) * (∑ q : Fin 128, x2 (ix3 (grp l) p q) * x1 (ix3 0 q l) + x3 (ix3 (grp l) p 0)) := by
  obtain ⟨g, k, rfl⟩ : ∃ g k, l = chan g k := ⟨_, _, (chan_grp l).symm⟩
  have hg : grp (chan g k) = g := Fin.ext (by simp only [grp, chan]; omega)
  rw [out0_B_5, du_pieces_B, read_cols, duTile_at]
  simp only [load_cols, load_mat, load_bias, hg]

/-- At a later chunk: `v`'s gradient at row `q` and channel `l`. -/
theorem dv_block_B (hc0 : ¬cond0_0 i) (q : Fin 128) (l : Fin 2048) :
    out0_B_6 (F := Ideal) c i arg1 harg1 arg2 harg2 arg3 harg3 arg4 harg4 arg5 harg5 arg6 harg6 arg7 harg7 arg8 harg8 arg9 harg9 hc0 x0 x1 x2 x3 x4 xo7 xo8 (ix3 0 q l)
      = ∑ p : Fin 128, x2 (ix3 (grp l) p q) * (x4 (ix3 0 p l) * x0 (ix3 0 p l)) := by
  obtain ⟨g, k, rfl⟩ : ∃ g k, l = chan g k := ⟨_, _, (chan_grp l).symm⟩
  have hg : grp (chan g k) = g := Fin.ext (by simp only [grp, chan]; omega)
  rw [out0_B_6, dv_pieces_B, read_cols, dvTile_at]
  simp only [load_cols, load_mat, hg]

/-- At a later chunk: a matrix's gradient gains the chunk's sum. -/
theorem dw_block_B (hc0 : ¬cond0_0 i) (g : Fin 16) (p q : Fin 128) :
    out0_B_7 (F := Ideal) c i arg1 harg1 arg2 harg2 arg3 harg3 arg4 harg4 arg5 harg5 arg6 harg6 arg7 harg7 arg8 harg8 arg9 harg9 hc0 x0 x1 x2 x3 x4 xo7 xo8 (ix3 g p q)
      = xo7 (ix3 g p q) + ∑ k : Fin 128, x4 (ix3 0 p (chan g k)) * x0 (ix3 0 p (chan g k)) * x1 (ix3 0 q (chan g k)) := by
  rw [out0_B_7, dw_pieces_B, read_mats, dwTile_at]
  simp only [load_cols, load_mat]

/-- At a later chunk: a bias's gradient gains the chunk's sum. -/
theorem db_block_B (hc0 : ¬cond0_0 i) (g : Fin 16) (p : Fin 128) :
    out0_B_8 (F := Ideal) c i arg1 harg1 arg2 harg2 arg3 harg3 arg4 harg4 arg5 harg5 arg6 harg6 arg7 harg7 arg8 harg8 arg9 harg9 hc0 x0 x1 x2 x3 x4 xo7 xo8 (ix3 g p 0)
      = xo8 (ix3 g p 0) + ∑ k : Fin 128, x4 (ix3 0 p (chan g k)) * x0 (ix3 0 p (chan g k)) := by
  rw [out0_B_8, db_pieces_B, read_biases, dbTile_at]
  simp only [load_cols, load_bias]

/-- At the first chunk: a matrix's gradient is the chunk's sum. -/
theorem dw_block_A (hc0 : cond0_0 i) (g : Fin 16) (p q : Fin 128) :
    out0_A_7 (F := Ideal) c i arg1 harg1 arg2 harg2 arg3 harg3 arg4 harg4 arg5 harg5 arg6 harg6 arg7 harg7 arg8 harg8 arg9 harg9 hc0 x0 x1 x2 x3 x4 (ix3 g p q)
      = 0 + ∑ k : Fin 128, x4 (ix3 0 p (chan g k)) * x0 (ix3 0 p (chan g k)) * x1 (ix3 0 q (chan g k)) := by
  have hy : (ix3 g p q : S16x128x128.Idx) = (matRect g).emb (ix3 0 p q : S1x128x128.Idx) := by
    exact (((matRect g).emb_eq_of_coords _ _ (by intro a; fin_cases a <;> simp [matOff, ix3]))).symm
  rw [out0_A_7, dw_pieces_A, hy, read_acc (z := 0) (ax := 0)]
  · rw [dwTile_at]
    simp only [load_cols]
  · intro v f y
    rw [read_fill v f (by funext a; fin_cases a <;> rfl)]
    idx_vars y
    pointwise [k0_pay3]
  · intro g g' h
    have : g'.val ≠ g.val := fun e => h (Fin.ext e)
    simp [matOff, S1x128x128]
    omega

/-- At the first chunk: a bias's gradient is the chunk's sum. -/
theorem db_block_A (hc0 : cond0_0 i) (g : Fin 16) (p : Fin 128) :
    out0_A_8 (F := Ideal) c i arg1 harg1 arg2 harg2 arg3 harg3 arg4 harg4 arg5 harg5 arg6 harg6 arg7 harg7 arg8 harg8 arg9 harg9 hc0 x0 x1 x2 x3 x4 (ix3 g p 0)
      = 0 + ∑ k : Fin 128, x4 (ix3 0 p (chan g k)) * x0 (ix3 0 p (chan g k)) := by
  have hy : (ix3 g p 0 : S16x128x1.Idx) = (biasRect g).emb (ix3 0 p 0 : S1x128x1.Idx) := by
    exact (((biasRect g).emb_eq_of_coords _ _ (by intro a; fin_cases a <;> simp [biasOff, ix3]))).symm
  rw [out0_A_8, db_pieces_A, hy, read_acc (z := 0) (ax := 0)]
  · rw [dbTile_at]
    simp only [load_cols]
  · intro v f y
    rw [read_fill v f (by funext a; fin_cases a <;> rfl)]
    idx_vars y
    pointwise [k0_pay4]
  · intro g g' h
    have : g'.val ≠ g.val := fun e => h (Fin.ext e)
    simp [biasOff, S1x128x1]
    omega

end Blocks

end Cert.KernelIdeal.Spatial

end

end
-- ==== Proof.Arrays.lean ====
module

public import proofs.«01_k».proof.Proof.Blocks
public import proofs.«01_k».proof.Proof.Gen.KernelIdeal.Value
public import Idealize.ShloMosaic.Lib.Pipeline.ValueKit

/-! # What the kernel's result arrays hold

The sixteen grid points put together: each chunk's rows of the first two gradients come from one point, and the other two
are sums over the points, kept in place and written back after the last. -/

set_option maxRecDepth 16384

noncomputable section

open Idealize.ShloMosaic Idealize.ShloMosaic.TcCoe Idealize.SL.Sem
open Idealize.ShloMosaic.Pipeline (Dat)

@[expose] public section

namespace Cert.KernelIdeal.Spatial

open Cert.KernelIdeal Cert.KernelIdeal.Gen Cert.KernelIdeal.Value

/-- The row at a place of a chunk. -/
abbrev row (n : Fin 16) (p : Fin 128) : Fin 2048 := ⟨128 * n.val + p.val, by omega⟩

/-- The chunk of a row. -/
abbrev chunk (r : Fin 2048) : Fin 16 := ⟨r.val / 128, by omega⟩

/-- The place of a row in its chunk. -/
abbrev place (r : Fin 2048) : Fin 128 := ⟨r.val % 128, by omega⟩

/-- `u`'s gradient: the incoming gradient times the gate, the mixed values of the chunk plus the bias. -/
def duOf (v : Vec Ideal S1x2048x2048 .bf16) (w : Vec Ideal S16x128x128 .bf16) (b : Vec Ideal S16x128x1 .f32)
    (d : Vec Ideal S1x2048x2048 .f32) (r l : Fin 2048) : EReal :=
  d (ix3 0 r l) * (∑ q : Fin 128, w (ix3 (grp l) (place r) q) * v (ix3 0 (row (chunk r) q) l) + b (ix3 (grp l) (place r) 0))

/-- `v`'s gradient: the transposed mixing matrix times the gradient that reaches the gate. -/
def dvOf (u d : Vec Ideal S1x2048x2048 .f32) (w : Vec Ideal S16x128x128 .bf16) (r l : Fin 2048) : EReal :=
  ∑ p : Fin 128, w (ix3 (grp l) p (place r)) * (d (ix3 0 (row (chunk r) p) l) * u (ix3 0 (row (chunk r) p) l))

/-- Chunk `n`'s part of a matrix's gradient. -/
def dwPart (u d : Vec Ideal S1x2048x2048 .f32) (v : Vec Ideal S1x2048x2048 .bf16) (n : Fin 16) (g : Fin 16) (p q : Fin 128) : EReal :=
  ∑ k : Fin 128, d (ix3 0 (row n p) (chan g k)) * u (ix3 0 (row n p) (chan g k)) * v (ix3 0 (row n q) (chan g k))

/-- Chunk `n`'s part of a bias's gradient. -/
def dbPart (u d : Vec Ideal S1x2048x2048 .f32) (n : Fin 16) (g : Fin 16) (p : Fin 128) : EReal :=
  ∑ k : Fin 128, d (ix3 0 (row n p) (chan g k)) * u (ix3 0 (row n p) (chan g k))

variable (m : (ℓ : Loc nD τ sig) → Buf (Elt Ideal) ℓ) (c : Dev nD)

/-- `u` as the kernel is given it. -/
abbrev uA : Vec Ideal S1x2048x2048 .f32 := m ((c : Thread nD τ).loc main_arg0)
/-- `v` as the kernel is given it. -/
abbrev vA : Vec Ideal S1x2048x2048 .bf16 := m ((c : Thread nD τ).loc main_arg1)
/-- The mixing matrices as the kernel is given them. -/
abbrev wA : Vec Ideal S16x128x128 .bf16 := m ((c : Thread nD τ).loc main_arg2)
/-- The biases as the kernel is given them. -/
abbrev bA : Vec Ideal S16x128x1 .f32 := m ((c : Thread nD τ).loc main_arg3)
/-- The incoming gradient as the kernel is given it. -/
abbrev dA : Vec Ideal S1x2048x2048 .f32 := m ((c : Thread nD τ).loc main_arg4)

/-- The point's chunk. -/
abbrev pt (t : Fin cfg0.N) : Fin 16 := ⟨t.val, t.isLt⟩

/-- The blocks of `u`, of `v` and of the incoming gradient at a point are its chunk of rows. -/
theorem u_block (t : Fin cfg0.N) (p : Fin 128) (l : Fin 2048) :
    (iblk m c 0 t : Vec Ideal S1x128x2048 .f32) (ix3 0 p l) = uA m c (ix3 0 (row (pt t) p) l) := by
  have e : ∀ t : Fin cfg0.N, win0_0.index t (0 : Fin 3) = 0 ∧ win0_0.index t (1 : Fin 3) = t.val ∧ win0_0.index t (2 : Fin 3) = 0 :=
    (by decide +kernel : ∀ t : Fin grid0.N, _)
  obtain ⟨e0, e1, e2⟩ := e t
  show V m c main_arg0 (((cfg0.win 0).blk t).view.emb (ix3 0 p l)) = _
  rw [V_main_arg0]
  refine congrArg (uA m c) (funext fun a => Fin.ext ?_)
  match a with
  | ⟨0, _⟩ => show win0_0.index t (0 : Fin 3) * 1 + 1 * 0 = 0; omega
  | ⟨1, _⟩ => show win0_0.index t (1 : Fin 3) * 128 + 1 * p.val = 128 * t.val + p.val; omega
  | ⟨2, _⟩ => show win0_0.index t (2 : Fin 3) * 2048 + 1 * l.val = l.val; omega

/-- The block of `v` at a point. -/
theorem v_block (t : Fin cfg0.N) (p : Fin 128) (l : Fin 2048) :
    (iblk m c 1 t : Vec Ideal S1x128x2048 .bf16) (ix3 0 p l) = vA m c (ix3 0 (row (pt t) p) l) := by
  have e : ∀ t : Fin cfg0.N, win0_1.index t (0 : Fin 3) = 0 ∧ win0_1.index t (1 : Fin 3) = t.val ∧ win0_1.index t (2 : Fin 3) = 0 :=
    (by decide +kernel : ∀ t : Fin grid0.N, _)
  obtain ⟨e0, e1, e2⟩ := e t
  show V m c main_arg1 (((cfg0.win 1).blk t).view.emb (ix3 0 p l)) = _
  rw [V_main_arg1]
  refine congrArg (vA m c) (funext fun a => Fin.ext ?_)
  match a with
  | ⟨0, _⟩ => show win0_1.index t (0 : Fin 3) * 1 + 1 * 0 = 0; omega
  | ⟨1, _⟩ => show win0_1.index t (1 : Fin 3) * 128 + 1 * p.val = 128 * t.val + p.val; omega
  | ⟨2, _⟩ => show win0_1.index t (2 : Fin 3) * 2048 + 1 * l.val = l.val; omega

/-- The block of the incoming gradient at a point. -/
theorem d_block (t : Fin cfg0.N) (p : Fin 128) (l : Fin 2048) :
    (iblk m c 4 t : Vec Ideal S1x128x2048 .f32) (ix3 0 p l) = dA m c (ix3 0 (row (pt t) p) l) := by
  have e : ∀ t : Fin cfg0.N, win0_4.index t (0 : Fin 3) = 0 ∧ win0_4.index t (1 : Fin 3) = t.val ∧ win0_4.index t (2 : Fin 3) = 0 :=
    (by decide +kernel : ∀ t : Fin grid0.N, _)
  obtain ⟨e0, e1, e2⟩ := e t
  show V m c main_arg4 (((cfg0.win 4).blk t).view.emb (ix3 0 p l)) = _
  rw [V_main_arg4]
  refine congrArg (dA m c) (funext fun a => Fin.ext ?_)
  match a with
  | ⟨0, _⟩ => show win0_4.index t (0 : Fin 3) * 1 + 1 * 0 = 0; omega
  | ⟨1, _⟩ => show win0_4.index t (1 : Fin 3) * 128 + 1 * p.val = 128 * t.val + p.val; omega
  | ⟨2, _⟩ => show win0_4.index t (2 : Fin 3) * 2048 + 1 * l.val = l.val; omega

/-- The block of the mixing matrices is the whole array at every point. -/
theorem w_block (t : Fin cfg0.N) (g : Fin 16) (p q : Fin 128) :
    (iblk m c 2 t : Vec Ideal S16x128x128 .bf16) (ix3 g p q) = wA m c (ix3 g p q) := by
  have e : ∀ t : Fin cfg0.N, win0_2.index t (0 : Fin 3) = 0 ∧ win0_2.index t (1 : Fin 3) = 0 ∧ win0_2.index t (2 : Fin 3) = 0 :=
    (by decide +kernel : ∀ t : Fin grid0.N, _)
  obtain ⟨e0, e1, e2⟩ := e t
  show V m c main_arg2 (((cfg0.win 2).blk t).view.emb (ix3 g p q)) = _
  rw [V_main_arg2]
  refine congrArg (wA m c) (funext fun a => Fin.ext ?_)
  match a with
  | ⟨0, _⟩ => show win0_2.index t (0 : Fin 3) * 16 + 1 * g.val = g.val; omega
  | ⟨1, _⟩ => show win0_2.index t (1 : Fin 3) * 128 + 1 * p.val = p.val; omega
  | ⟨2, _⟩ => show win0_2.index t (2 : Fin 3) * 128 + 1 * q.val = q.val; omega

/-- The block of the biases is the whole array at every point. -/
theorem b_block (t : Fin cfg0.N) (g : Fin 16) (p : Fin 128) :
    (iblk m c 3 t : Vec Ideal S16x128x1 .f32) (ix3 g p 0) = bA m c (ix3 g p 0) := by
  have e : ∀ t : Fin cfg0.N, win0_3.index t (0 : Fin 3) = 0 ∧ win0_3.index t (1 : Fin 3) = 0 ∧ win0_3.index t (2 : Fin 3) = 0 :=
    (by decide +kernel : ∀ t : Fin grid0.N, _)
  obtain ⟨e0, e1, e2⟩ := e t
  show V m c main_arg3 (((cfg0.win 3).blk t).view.emb (ix3 g p 0)) = _
  rw [V_main_arg3]
  refine congrArg (bA m c) (funext fun a => Fin.ext ?_)
  match a with
  | ⟨0, _⟩ => show win0_3.index t (0 : Fin 3) * 16 + 1 * g.val = g.val; omega
  | ⟨1, _⟩ => show win0_3.index t (1 : Fin 3) * 128 + 1 * p.val = p.val; omega
  | ⟨2, _⟩ => show win0_3.index t (2 : Fin 3) * 1 + 1 * 0 = 0; omega

/-- The row at a place of a chunk lies in that chunk, -/
theorem chunk_row (n : Fin 16) (p : Fin 128) : chunk (row n p) = n := Fin.ext (by simp only [chunk, row]; omega)

/-- and at that place. -/
theorem place_row (n : Fin 16) (p : Fin 128) : place (row n p) = p := Fin.ext (by simp only [place, row]; omega)

/-- After the body at a point the block of `u`'s gradient is the chunk of `duOf`. -/
theorem du_point (t : Fin cfg0.N) (p : Fin 128) (l : Fin 2048) :
    ((outsAt0 m c t.val t.isLt).1 : Vec Ideal S1x128x2048 .f32) (ix3 0 p l)
      = duOf (vA m c) (wA m c) (bA m c) (dA m c) (row (pt t) p) l := by
  unfold duOf
  rw [chunk_row, place_row]
  by_cases h : t.val % 16 = 0
  · rw [outsAt0_A m c t h]
    dsimp only
    rw [du_block_A]
    simp only [v_block, w_block, b_block, d_block]
  · rw [outsAt0_B m c t h]
    dsimp only
    rw [du_block_B]
    simp only [v_block, w_block, b_block, d_block]

/-- After the body at a point the block of `v`'s gradient is the chunk of `dvOf`. -/
theorem dv_point (t : Fin cfg0.N) (q : Fin 128) (l : Fin 2048) :
    ((outsAt0 m c t.val t.isLt).2.1 : Vec Ideal S1x128x2048 .f32) (ix3 0 q l)
      = dvOf (uA m c) (dA m c) (wA m c) (row (pt t) q) l := by
  unfold dvOf
  rw [chunk_row, place_row]
  by_cases h : t.val % 16 = 0
  · rw [outsAt0_A m c t h]
    dsimp only
    rw [dv_block_A]
    simp only [u_block, w_block, d_block]
  · rw [outsAt0_B m c t h]
    dsimp only
    rw [dv_block_B]
    simp only [u_block, w_block, d_block]

/-- At the first point a matrix's gradient is the chunk's part. -/
theorem dw_first (t : Fin cfg0.N) (h : t.val % 16 = 0) (g : Fin 16) (p q : Fin 128) :
    ((outsAt0 m c t.val t.isLt).2.2.1 : Vec Ideal S16x128x128 .f32) (ix3 g p q) = dwPart (uA m c) (dA m c) (vA m c) (pt t) g p q := by
  rw [outsAt0_A m c t h]
  dsimp only
  rw [dw_block_A, zero_add]
  simp only [u_block, v_block, d_block, dwPart]

/-- At a later point a matrix's gradient gains the chunk's part. -/
theorem dw_next (t : Fin cfg0.N) (h : ¬t.val % 16 = 0) (g : Fin 16) (p q : Fin 128) :
    ((outsAt0 m c t.val t.isLt).2.2.1 : Vec Ideal S16x128x128 .f32) (ix3 g p q)
      = ((outsAt0 m c (t.val - 1) (Nat.lt_of_le_of_lt (Nat.sub_le _ _) t.isLt)).2.2.1 : Vec Ideal S16x128x128 .f32) (ix3 g p q)
        + dwPart (uA m c) (dA m c) (vA m c) (pt t) g p q := by
  rw [outsAt0_B m c t h]
  dsimp only
  rw [dw_block_B]
  simp only [u_block, v_block, d_block, dwPart]

/-- After the body at point `n` a matrix's gradient is the sum of the parts of the chunks up to `n`. -/
theorem dw_point (g : Fin 16) (p q : Fin 128) : ∀ (n : ℕ) (hn : n < cfg0.N),
    ((outsAt0 m c n hn).2.2.1 : Vec Ideal S16x128x128 .f32) (ix3 g p q)
      = ∑ s : Fin (n + 1), dwPart (uA m c) (dA m c) (vA m c) ⟨s.val, lt_of_lt_of_le s.isLt hn⟩ g p q
  | 0, hn => by
    rw [Fin.sum_univ_succ, Fin.sum_univ_zero, add_zero]
    exact dw_first m c ⟨0, hn⟩ rfl g p q
  | n + 1, hn => by
    have h : ¬(n + 1) % 16 = 0 := by
      have : n + 1 < 16 := hn
      omega
    rw [Fin.sum_univ_castSucc]
    refine (dw_next m c ⟨n + 1, hn⟩ h g p q).trans ?_
    exact congrArg (· + _) (dw_point g p q n (Nat.lt_of_succ_lt hn))

/-- At the first point a bias's gradient is the chunk's part. -/
theorem db_first (t : Fin cfg0.N) (h : t.val % 16 = 0) (g : Fin 16) (p : Fin 128) :
    ((outsAt0 m c t.val t.isLt).2.2.2 : Vec Ideal S16x128x1 .f32) (ix3 g p 0) = dbPart (uA m c) (dA m c) (pt t) g p := by
  rw [outsAt0_A m c t h]
  dsimp only
  rw [db_block_A, zero_add]
  simp only [u_block, v_block, d_block, dbPart]

/-- At a later point a bias's gradient gains the chunk's part. -/
theorem db_next (t : Fin cfg0.N) (h : ¬t.val % 16 = 0) (g : Fin 16) (p : Fin 128) :
    ((outsAt0 m c t.val t.isLt).2.2.2 : Vec Ideal S16x128x1 .f32) (ix3 g p 0)
      = ((outsAt0 m c (t.val - 1) (Nat.lt_of_le_of_lt (Nat.sub_le _ _) t.isLt)).2.2.2 : Vec Ideal S16x128x1 .f32) (ix3 g p 0)
        + dbPart (uA m c) (dA m c) (pt t) g p := by
  rw [outsAt0_B m c t h]
  dsimp only
  rw [db_block_B]
  simp only [u_block, v_block, d_block, dbPart]

/-- After the body at point `n` a bias's gradient is the sum of the parts of the chunks up to `n`. -/
theorem db_point (g : Fin 16) (p : Fin 128) : ∀ (n : ℕ) (hn : n < cfg0.N),
    ((outsAt0 m c n hn).2.2.2 : Vec Ideal S16x128x1 .f32) (ix3 g p 0)
      = ∑ s : Fin (n + 1), dbPart (uA m c) (dA m c) ⟨s.val, lt_of_lt_of_le s.isLt hn⟩ g p
  | 0, hn => by
    rw [Fin.sum_univ_succ, Fin.sum_univ_zero, add_zero]
    exact db_first m c ⟨0, hn⟩ rfl g p
  | n + 1, hn => by
    have h : ¬(n + 1) % 16 = 0 := by
      have : n + 1 < 16 := hn
      omega
    rw [Fin.sum_univ_castSucc]
    refine (db_next m c ⟨n + 1, hn⟩ h g p).trans ?_
    exact congrArg (· + _) (db_point g p n (Nat.lt_of_succ_lt hn))

/-- The array of `u`'s gradient after the run. -/
theorem du_array : (dats m 0 c).arrAt 5 cfg0.N
    = fun y : S1x2048x2048.Idx => duOf (vA m c) (wA m c) (bA m c) (dA m c) (y 1) (y 2) := by
  have e : ∀ t : Fin cfg0.N, win0_5.index t (0 : Fin 3) = 0 ∧ win0_5.index t (1 : Fin 3) = t.val ∧ win0_5.index t (2 : Fin 3) = 0 :=
    (by decide +kernel : ∀ t : Fin grid0.N, _)
  refine (dats m 0 c).arrAt_eq_of_covers 5 _ (by decide +kernel) fun t _ y => ?_
  obtain ⟨-, e1, e2⟩ := e t
  obtain ⟨a, p, l, rfl⟩ : ∃ (a : Fin 1) (p : Fin 128) (l : Fin 2048), y = ix3 a p l := ⟨y 0, y 1, y 2, eq_ix3 y⟩
  obtain rfl : a = 0 := Subsingleton.elim _ _
  rw [after0_5]
  refine (du_point m c t p l).trans ?_
  refine congrArg₂ (duOf (vA m c) (wA m c) (bA m c) (dA m c)) (Fin.ext ?_) (Fin.ext ?_)
  · show 128 * t.val + p.val = win0_5.index t (1 : Fin 3) * 128 + 1 * p.val
    omega
  · show l.val = win0_5.index t (2 : Fin 3) * 2048 + 1 * l.val
    omega

/-- The array of `v`'s gradient after the run. -/
theorem dv_array : (dats m 0 c).arrAt 6 cfg0.N
    = fun y : S1x2048x2048.Idx => dvOf (uA m c) (dA m c) (wA m c) (y 1) (y 2) := by
  have e : ∀ t : Fin cfg0.N, win0_6.index t (0 : Fin 3) = 0 ∧ win0_6.index t (1 : Fin 3) = t.val ∧ win0_6.index t (2 : Fin 3) = 0 :=
    (by decide +kernel : ∀ t : Fin grid0.N, _)
  refine (dats m 0 c).arrAt_eq_of_covers 6 _ (by decide +kernel) fun t _ y => ?_
  obtain ⟨-, e1, e2⟩ := e t
  obtain ⟨a, p, l, rfl⟩ : ∃ (a : Fin 1) (p : Fin 128) (l : Fin 2048), y = ix3 a p l := ⟨y 0, y 1, y 2, eq_ix3 y⟩
  obtain rfl : a = 0 := Subsingleton.elim _ _
  rw [after0_6]
  refine (dv_point m c t p l).trans ?_
  refine congrArg₂ (dvOf (uA m c) (dA m c) (wA m c)) (Fin.ext ?_) (Fin.ext ?_)
  · show 128 * t.val + p.val = win0_6.index t (1 : Fin 3) * 128 + 1 * p.val
    omega
  · show l.val = win0_6.index t (2 : Fin 3) * 2048 + 1 * l.val
    omega

/-- The last point. -/
abbrev lastPt : Fin cfg0.N := (⟨15, by decide⟩ : Fin grid0.N)

/-- The array of the matrices' gradients after the run. -/
theorem dw_array : (dats m 0 c).arrAt 7 cfg0.N
    = fun y : S16x128x128.Idx => ∑ n : Fin 16, dwPart (uA m c) (dA m c) (vA m c) n (y 0) (y 1) (y 2) := by
  refine (dats m 0 c).arrAt_eq_of_after_last 7 lastPt (by decide +kernel) _ fun j => ?_
  rw [after0_7]
  obtain ⟨g, p, q, rfl⟩ : ∃ (g : Fin 16) (p q : Fin 128), j = ix3 g p q := ⟨j 0, j 1, j 2, eq_ix3 j⟩
  exact dw_point m c g p q 15 (by decide)

/-- The array of the biases' gradients after the run. -/
theorem db_array : (dats m 0 c).arrAt 8 cfg0.N
    = fun y : S16x128x1.Idx => ∑ n : Fin 16, dbPart (uA m c) (dA m c) n (y 0) (y 1) := by
  refine (dats m 0 c).arrAt_eq_of_after_last 8 lastPt (by decide +kernel) _ fun j => ?_
  rw [after0_8]
  obtain ⟨g, p, a, rfl⟩ : ∃ (g : Fin 16) (p : Fin 128) (a : Fin 1), j = ix3 g p a := ⟨j 0, j 1, j 2, eq_ix3 j⟩
  obtain rfl : a = 0 := Subsingleton.elim _ _
  exact db_point m c g p 15 (by decide)

end Cert.KernelIdeal.Spatial

end

end
-- ==== Proof.RefValue.lean ====
module

public import proofs.«01_k».proof.Proof.Arrays
public import proofs.«01_k».proof.Proof.Gen.ReferenceIdeal.Run
public import proofs.«01_k».proof.Proof.Gen.ReferenceIdeal.Read

/-! # What the reference's four results hold

The vector-Jacobian product of the chunked gate on whole arrays, read at an index: the same sums as the kernel's arrays. -/

set_option maxRecDepth 16384

noncomputable section

open Idealize.ShloMosaic Idealize.ShloMosaic.TcCoe Idealize.SL.Sem Idealize.ShloMosaic.StableHlo

@[expose] public section

namespace Cert.ReferenceIdeal.Spatial

open Cert.ReferenceIdeal Cert.ReferenceIdeal.Gen Cert.ReferenceIdeal.Read
open Cert.KernelIdeal.Spatial (grp lane chan row chunk place duOf dvOf dwPart dbPart)

/-- A sum over the first and the last of four axes. -/
theorem reduce_outer_inner {n0 n1 n2 n3 : ℕ} (h : (⟨4, ![n0, n1, n2, n3]⟩ : Shape).ReducesTo [0, 3] ⟨2, ![n1, n2]⟩)
    (x : (⟨4, ![n0, n1, n2, n3]⟩ : Shape).Idx → EReal) (init : EReal) (a : Fin n1) (b : Fin n2) :
    Ideal.hostReduceAdd h x init (ix2 a b) = init + ∑ n : Fin n0, ∑ k : Fin n3, x (ix4 n a b k) := by
  unfold Ideal.hostReduceAdd
  rw [← Fintype.sum_prod_type' (f := fun n k => x (ix4 n a b k))]
  refine congrArg (init + ·) (Finset.sum_nbij' (fun i => (i 0, i 3)) (fun z => ix4 z.1 a b z.2) (fun _ _ => Finset.mem_univ _)
    (fun z _ => ?_) (fun i hi => ?_) (fun z _ => rfl) (fun i hi => ?_))
  · refine Finset.mem_filter.mpr ⟨Finset.mem_univ _, funext fun d => ?_⟩
    match d with
    | ⟨0, _⟩ => rfl
    | ⟨1, _⟩ => rfl
  all_goals
    have e := (Finset.mem_filter.mp hi).2
    have e0 : i 1 = a := congrFun e 0
    have e1 : i 2 = b := congrFun e 1
  · subst e0 e1
    exact (eq_ix4 i).symm
  · subst e0 e1
    exact congrArg x (eq_ix4 i)

/-- The reference's gradient of `u`. -/
theorem du_at (v : FVec Ideal S1x2048x2048 .bf16) (w : FVec Ideal S16x128x128 .bf16) (b : FVec Ideal S16x128x1 .f32)
    (d : FVec Ideal S1x2048x2048 .f32) (r l : Fin 2048) :
    val_main_v13 (F := Ideal) v w b d (ix3 0 r l) = duOf v w b d r l := by
  unfold duOf
  pointwise [val_main_v13, val_main_v10, val_main_v9, val_main_v8, val_main_v7, val_main_v6, val_main_v5, val_main_v4, val_main_v3, val_main_v2, val_main_v1, val_main_v0]
  simp only [row, grp, chunk, place, Nat.mul_comm 128]
  congr 2
  exact Finset.sum_congr rfl fun q _ => mul_comm _ _

/-- The reference's gradient of `v`. -/
theorem dv_at (u d : FVec Ideal S1x2048x2048 .f32) (w : FVec Ideal S16x128x128 .bf16) (r l : Fin 2048) :
    val_main_v24 (F := Ideal) u w d (ix3 0 r l) = dvOf u d w r l := by
  unfold dvOf
  pointwise [val_main_v24, val_main_v23, val_main_v22, val_main_v20, val_main_v14, val_main_v12, val_main_v1]
  simp only [row, grp, chunk, place, Nat.mul_comm 128]
  exact Finset.sum_congr rfl fun p _ => by rw [mul_comm, mul_comm (u _)]

/-- The reference's gradient of the mixing matrices. -/
theorem dw_at (u d : FVec Ideal S1x2048x2048 .f32) (v : FVec Ideal S1x2048x2048 .bf16) (g : Fin 16) (p q : Fin 128) :
    val_main_v21 (F := Ideal) u v d (ix3 g p q) = ∑ n : Fin 16, dwPart u d v n g p q := by
  unfold dwPart
  pointwise [val_main_v21, val_main_v20, val_main_v14, val_main_v12, val_main_v2, val_main_v0]
  simp only [row, chan, Nat.mul_comm 128]
  exact Finset.sum_congr rfl fun n _ => Finset.sum_congr rfl fun k _ => by rw [mul_comm (u _)]

/-- The reference's gradient of the biases. -/
theorem db_at (u d : FVec Ideal S1x2048x2048 .f32) (g : Fin 16) (p : Fin 128) :
    val_main_v19 (F := Ideal) u d (ix3 g p 0) = ∑ n : Fin 16, dbPart u d n g p := by
  unfold dbPart
  pointwise [val_main_v19, val_main_v18, val_main_v17, val_main_v16, val_main_v15, val_main_v14, val_main_v12, val_main_cst, val_main_cst_0]
  rw [reduce_outer_inner]
  pointwise [val_main_v19, val_main_v18, val_main_v17, val_main_v16, val_main_v15, val_main_v14, val_main_v12, val_main_cst, val_main_cst_0]
  rw [Finset.sum_congr rfl fun n _ => Finset.sum_congr rfl fun k _ => reduce_outer_inner _ _ _ _ _]
  pointwise
  simp only [Finset.univ_unique, Finset.sum_singleton, row, chan, Nat.mul_comm 128]
  exact Finset.sum_congr rfl fun n _ => Finset.sum_congr rfl fun k _ => by rw [mul_comm (u _)]

end Cert.ReferenceIdeal.Spatial

end

end
-- ==== Proof.Spatial.lean ====
module

public import proofs.«01_k».proof.Defs
public import proofs.«01_k».proof.Proof.RefValue
public import proofs.«01_k».proof.Proof.Gen.Kernel.Frame
public import proofs.«01_k».proof.Proof.Gen.KernelIdeal.Value
public import Idealize.ShloMosaic.Lib.Claim

/-! # The claims about the gradient of the spatial gate

The kernel's run and the reference's run, each with its four results as the same four functions of the arguments. -/

set_option maxRecDepth 16384

noncomputable section

open Idealize.ShloMosaic Idealize.ShloMosaic.TcCoe Idealize.SL.Sem

@[expose] public section

namespace Cert.Proof.Spatial

open Cert.KernelIdeal.Spatial (duOf dvOf dwPart dbPart)

/-- The reference's gradient of `u`, as an array. -/
theorem ref_du (v : FVec Ideal Cert.ReferenceIdeal.S1x2048x2048 .bf16) (w : FVec Ideal Cert.ReferenceIdeal.S16x128x128 .bf16)
    (b : FVec Ideal Cert.ReferenceIdeal.S16x128x1 .f32) (d : FVec Ideal Cert.ReferenceIdeal.S1x2048x2048 .f32) :
    Cert.ReferenceIdeal.Read.val_main_v13 (F := Ideal) v w b d = fun y => duOf v w b d (y 1) (y 2) :=
  funext fun y => by
    have e : y 0 = (0 : Fin 1) := Fin.ext (Nat.lt_one_iff.mp (y 0).isLt)
    rw [eq_ix3 y, e]
    exact Cert.ReferenceIdeal.Spatial.du_at v w b d (y 1) (y 2)

/-- The reference's gradient of `v`, as an array. -/
theorem ref_dv (u d : FVec Ideal Cert.ReferenceIdeal.S1x2048x2048 .f32) (w : FVec Ideal Cert.ReferenceIdeal.S16x128x128 .bf16) :
    Cert.ReferenceIdeal.Read.val_main_v24 (F := Ideal) u w d = fun y => dvOf u d w (y 1) (y 2) :=
  funext fun y => by
    have e : y 0 = (0 : Fin 1) := Fin.ext (Nat.lt_one_iff.mp (y 0).isLt)
    rw [eq_ix3 y, e]
    exact Cert.ReferenceIdeal.Spatial.dv_at u d w (y 1) (y 2)

/-- The reference's gradient of the mixing matrices, as an array. -/
theorem ref_dw (u d : FVec Ideal Cert.ReferenceIdeal.S1x2048x2048 .f32) (v : FVec Ideal Cert.ReferenceIdeal.S1x2048x2048 .bf16) :
    Cert.ReferenceIdeal.Read.val_main_v21 (F := Ideal) u v d = fun y => ∑ n : Fin 16, dwPart u d v n (y 0) (y 1) (y 2) :=
  funext fun y => by
    rw [eq_ix3 y]
    exact Cert.ReferenceIdeal.Spatial.dw_at u d v (y 0) (y 1) (y 2)

/-- The reference's gradient of the biases, as an array. -/
theorem ref_db (u d : FVec Ideal Cert.ReferenceIdeal.S1x2048x2048 .f32) :
    Cert.ReferenceIdeal.Read.val_main_v19 (F := Ideal) u d = fun y => ∑ n : Fin 16, dbPart u d n (y 0) (y 1) :=
  funext fun y => by
    have e : y 2 = (0 : Fin 1) := Fin.ext (Nat.lt_one_iff.mp (y 2).isLt)
    rw [eq_ix3 y, e]
    exact Cert.ReferenceIdeal.Spatial.db_at u d (y 0) (y 1)

/-- The kernel terminates without fault, with its arguments and every counter as they were. -/
theorem frame_kernel : Cert.quiescent_Kernel := fun m ρ _ => Cert.Kernel.Gen.frame m ρ

/-- So does the kernel read over the extended reals. -/
theorem frame_kernelIdeal : Cert.quiescent_KernelIdeal := fun m ρ _ => Cert.KernelIdeal.Gen.frame m ρ

/-- So does the reference. -/
theorem frame_reference : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

/-- Over the extended reals, kernel and reference end with equal results. -/
theorem algebraic : Cert.algebraic_KernelIdeal_ReferenceIdeal := by
  intro m ρ m' ρ' _ hag
  refine ⟨_, _, _, _, Cert.KernelIdeal.Value.run_blocks m ρ, ?_⟩
  refine (θ_run Cert.ReferenceIdeal.defs _ _).mono (fun r h c => ?_) (Cert.ReferenceIdeal.Value.run (F := Ideal) m' ρ')
  obtain ⟨h0, h1, h2, h3, hargs⟩ := h c
  obtain ⟨a0, a1, a2, a3, a4⟩ := hag c
  refine ⟨h0.trans ?_, h1.trans ?_, h2.trans ?_, h3.trans ?_, hargs⟩
  · rw [a1, a2, a3, a4]
    exact (ref_du _ _ _ _).trans (Cert.KernelIdeal.Spatial.du_array m c).symm
  · rw [a0, a2, a4]
    exact (ref_dv _ _ _).trans (Cert.KernelIdeal.Spatial.dv_array m c).symm
  · rw [a0, a1, a4]
    exact (ref_dw _ _ _).trans (Cert.KernelIdeal.Spatial.dw_array m c).symm
  · rw [a0, a4]
    exact (ref_db _ _).trans (Cert.KernelIdeal.Spatial.db_array m c).symm

end Cert.Proof.Spatial

end

end
-- ==== Proof.Products.lean ====
module

public import Idealize.ShloMosaic.Lib.Pipeline.ValueKit
public import Idealize.ShloMosaic.Lib.Pointwise
public import Idealize.ShloMosaic.Lib.Claim

/-! # The three products of a dense layer

Rows times weights forwards; backwards, the rows' gradient is the incoming gradient times the transposed weights, and the
weights' gradient is the transposed rows times the incoming gradient. Arrays have a leading axis of length one. -/

noncomputable section

open Idealize.ShloMosaic

@[expose] public section

namespace Cert.Products

variable {T K N : ℕ}

/-- Rows `a` times weights `w`. -/
def forward (a : (⟨3, ![1, T, K]⟩ : Shape).Idx → EReal) (w : (⟨3, ![1, K, N]⟩ : Shape).Idx → EReal) :
    (⟨3, ![1, T, N]⟩ : Shape).Idx → EReal :=
  fun y => ∑ k : Fin K, a (ix3 0 (y 1) k) * w (ix3 0 k (y 2))

/-- The incoming gradient `g` times the transposed weights `w`. -/
def rowsGrad (g : (⟨3, ![1, T, N]⟩ : Shape).Idx → EReal) (w : (⟨3, ![1, K, N]⟩ : Shape).Idx → EReal) :
    (⟨3, ![1, T, K]⟩ : Shape).Idx → EReal :=
  fun y => ∑ n : Fin N, g (ix3 0 (y 1) n) * w (ix3 0 (y 2) n)

/-- The transposed rows `a` times the incoming gradient `g`. -/
def weightsGrad (a : (⟨3, ![1, T, K]⟩ : Shape).Idx → EReal) (g : (⟨3, ![1, T, N]⟩ : Shape).Idx → EReal) :
    (⟨3, ![1, K, N]⟩ : Shape).Idx → EReal :=
  fun y => ∑ t : Fin T, a (ix3 0 t (y 1)) * g (ix3 0 t (y 2))

/-- One block's part of the rows' gradient, where the weights' columns come in blocks. -/
def rowsGradBlock {B T K N : ℕ} (g : (⟨3, ![B, T, N]⟩ : Shape).Idx → EReal) (w : (⟨3, ![B, K, N]⟩ : Shape).Idx → EReal)
    (b : Fin B) (t : Fin T) (k : Fin K) : EReal := ∑ n : Fin N, g (ix3 b t n) * w (ix3 b k n)

/-- The rows' gradient over all blocks. -/
def rowsGradBlocks {B T K N : ℕ} (g : (⟨3, ![B, T, N]⟩ : Shape).Idx → EReal) (w : (⟨3, ![B, K, N]⟩ : Shape).Idx → EReal) :
    (⟨3, ![1, T, K]⟩ : Shape).Idx → EReal := fun y => ∑ b : Fin B, rowsGradBlock g w b (y 1) (y 2)

/-- The weights' gradient, block by block, transposed. -/
def weightsGradBlocks {B T K N : ℕ} (g : (⟨3, ![B, T, N]⟩ : Shape).Idx → EReal) (a : (⟨3, ![1, T, K]⟩ : Shape).Idx → EReal) :
    (⟨3, ![B, N, K]⟩ : Shape).Idx → EReal := fun y => ∑ t : Fin T, g (ix3 (y 0) t (y 1)) * a (ix3 0 t (y 2))

/-- An accumulator that is set at the first of each eight points and added to at the others holds, at a place of a run,
the sum of the run's parts up to there. -/
theorem sum_of_run {N : ℕ} (f : (n : ℕ) → n < N → EReal) (g : ℕ → ℕ → EReal) (first : ∀ n h, n % 8 = 0 → f n h = g (n / 8) (n % 8))
    (next : ∀ n h h', ¬n % 8 = 0 → f n h = f (n - 1) h' + g (n / 8) (n % 8)) (b : ℕ) :
    ∀ (r : ℕ) (_ : r < 8) (h : 8 * b + r < N), f (8 * b + r) h = ∑ s : Fin (r + 1), g b s
  | 0, _, h => by
    have hs : ∑ s : Fin (0 + 1), g b s = g b 0 := Fin.sum_univ_one _
    have d : (8 * b + 0) / 8 = b := by omega
    have e : (8 * b + 0) % 8 = 0 := by omega
    rw [first _ h e, hs, d, e]
  | r + 1, hr, h => by
    rw [next _ h (by omega) (by omega), Fin.sum_univ_castSucc, show (8 * b + (r + 1)) / 8 = b by omega,
      show (8 * b + (r + 1)) % 8 = r + 1 by omega]
    exact congrArg (· + _) (sum_of_run f g first next b r (by omega) (by omega))

end Cert.Products

end

end
-- ==== Proof.ConvIn0.lean ====
module

public import proofs.«01_k».proof.Defs
public import proofs.«01_k».proof.Proof.Products
public import proofs.«01_k».proof.Proof.Gen.ConvIn0Ideal.Value
public import proofs.«01_k».proof.Proof.Gen.ConvIn0RefIdeal.Run
public import proofs.«01_k».proof.Proof.Gen.ConvIn0RefIdeal.Read
public import proofs.«01_k».proof.Proof.Gen.ConvIn0BxIdeal.Value
public import proofs.«01_k».proof.Proof.Gen.ConvIn0BxRefIdeal.Run
public import proofs.«01_k».proof.Proof.Gen.ConvIn0BxRefIdeal.Read
public import proofs.«01_k».proof.Proof.Gen.ConvIn0BwIdeal.Value
public import proofs.«01_k».proof.Proof.Gen.ConvIn0BwRefIdeal.Run
public import proofs.«01_k».proof.Proof.Gen.ConvIn0BwRefIdeal.Read

/-! # The first layer's conformer, inner projection

The product, its rows' gradient and its weights' gradient. -/

set_option maxRecDepth 16384

noncomputable section

open Idealize.ShloMosaic Idealize.ShloMosaic.TcCoe Idealize.SL.Sem
open Idealize.ShloMosaic.Pipeline (Dat)
open Cert.Products

@[expose] public section

namespace Cert.ConvIn0Ideal

open Cert.ConvIn0Ideal.Gen

/-- What the kernel's array holds after the run. -/
theorem array (m : (ℓ : Loc nD τ sig) → Buf (Elt Ideal) ℓ) (c : Dev nD) : (dats m 0 c).arrAt 2 cfg0.N
    = forward (T := 2304) (K := 1024) (N := 2048) (m ((c : Thread nD τ).loc main_arg0)) (m ((c : Thread nD τ).loc main_arg1)) := by
  refine (dats m 0 c).arrAt_eq_of_covers 2 _ (by decide +kernel) fun t _ y => ?_
  have e0 : ∀ t : Fin cfg0.N, win0_0.index t = ![0, win0_2.index t 1, 0] := (by decide +kernel : ∀ t : Fin grid0.N, _)
  have e1 : ∀ t : Fin cfg0.N, win0_1.index t = ![0, 0, win0_2.index t 2] := (by decide +kernel : ∀ t : Fin grid0.N, _)
  blk_simp
  rw [after0_2]
  frame_out
  unfold forward
  pointwise [k0_pay1]
  blk_simp [iblk]
  rw [V_main_arg0, V_main_arg1]
  show @Eq EReal _ _
  refine Finset.sum_congr rfl fun k _ => congrArg₂ (· * ·) (congrArg _ ?_) (congrArg _ ?_)
  · blk_ext [e0]
  · blk_ext [e1]

/-- What the reference's array holds. -/
theorem reference (x0 : FVec Ideal ConvIn0RefIdeal.S1x2304x1024 .bf16) (x1 : FVec Ideal ConvIn0RefIdeal.S1x1024x2048 .bf16) :
    ConvIn0RefIdeal.Read.val_main_v3 (F := Ideal) x0 x1 = forward (T := 2304) (K := 1024) (N := 2048) x0 x1 := funext fun y => by
  unfold forward
  pointwise [ConvIn0RefIdeal.Read.val_main_v3, ConvIn0RefIdeal.Read.val_main_v2, ConvIn0RefIdeal.Read.val_main_v1, ConvIn0RefIdeal.Read.val_main_v0]
  refine Finset.sum_congr rfl fun k _ => congrArg₂ (· * ·) (congrArg _ ?_) (congrArg _ ?_) <;> blk_ext []

/-- The reference of the product ends without fault, its arguments unchanged. -/
theorem frame_reference : Cert.quiescent_ConvIn0RefIdeal := fun m ρ _ =>
  (θ_run Cert.ConvIn0RefIdeal.defs _ _).mono
    (fun r h => ⟨fun c => (h c).2, sem_eq_zero_of_no_sems (by decide) r.2⟩) (Cert.ConvIn0RefIdeal.Value.run (F := Ideal) m ρ)

/-- The product: kernel and reference end with equal results over the extended reals. -/
theorem algebraic : Cert.algebraic_ConvIn0Ideal_ConvIn0RefIdeal := by
  intro m ρ m' ρ' _ hag
  refine ⟨_, Value.run_blocks m ρ, ?_⟩
  refine (θ_run Cert.ConvIn0RefIdeal.defs _ _).mono (fun r h c => ⟨(h c).1.trans ?_, (h c).2⟩) (Cert.ConvIn0RefIdeal.Value.run (F := Ideal) m' ρ')
  rw [(hag c).1, (hag c).2]
  exact (reference _ _).trans (array m c).symm

end Cert.ConvIn0Ideal

namespace Cert.ConvIn0BxIdeal

open Cert.ConvIn0BxIdeal.Gen

/-- What the kernel's array holds after the run. -/
theorem array (m : (ℓ : Loc nD τ sig) → Buf (Elt Ideal) ℓ) (c : Dev nD) : (dats m 0 c).arrAt 2 cfg0.N
    = rowsGrad (T := 2304) (K := 1024) (N := 2048) (m ((c : Thread nD τ).loc main_arg0)) (m ((c : Thread nD τ).loc main_arg1)) := by
  refine (dats m 0 c).arrAt_eq_of_covers 2 _ (by decide +kernel) fun t _ y => ?_
  have e0 : ∀ t : Fin cfg0.N, win0_0.index t = ![0, win0_2.index t 1, 0] := (by decide +kernel : ∀ t : Fin grid0.N, _)
  have e1 : ∀ t : Fin cfg0.N, win0_1.index t = ![0, win0_2.index t 2, 0] := (by decide +kernel : ∀ t : Fin grid0.N, _)
  blk_simp
  rw [after0_2]
  frame_out
  unfold rowsGrad
  pointwise [k0_pay1]
  blk_simp [iblk]
  rw [V_main_arg0, V_main_arg1]
  show @Eq EReal _ _
  refine Finset.sum_congr rfl fun k _ => congrArg₂ (· * ·) (congrArg _ ?_) (congrArg _ ?_)
  · blk_ext [e0]
  · blk_ext [e1]

/-- What the reference's array holds. -/
theorem reference (x0 : FVec Ideal ConvIn0BxRefIdeal.S1x2304x2048 .bf16) (x1 : FVec Ideal ConvIn0BxRefIdeal.S1x1024x2048 .bf16) :
    ConvIn0BxRefIdeal.Read.val_main_v5 (F := Ideal) x0 x1 = rowsGrad (T := 2304) (K := 1024) (N := 2048) x0 x1 := funext fun y => by
  unfold rowsGrad
  pointwise [ConvIn0BxRefIdeal.Read.val_main_v5, ConvIn0BxRefIdeal.Read.val_main_v4, ConvIn0BxRefIdeal.Read.val_main_v2, ConvIn0BxRefIdeal.Read.val_main_v1]
  refine Finset.sum_congr rfl fun k _ => congrArg₂ (· * ·) (congrArg _ ?_) (congrArg _ ?_) <;> blk_ext []

/-- The reference of the rows' gradient ends without fault, its arguments unchanged. -/
theorem frame_reference : Cert.quiescent_ConvIn0BxRefIdeal := fun m ρ _ =>
  (θ_run Cert.ConvIn0BxRefIdeal.defs _ _).mono
    (fun r h => ⟨fun c => (h c).2, sem_eq_zero_of_no_sems (by decide) r.2⟩) (Cert.ConvIn0BxRefIdeal.Value.run (F := Ideal) m ρ)

/-- The rows' gradient: kernel and reference end with equal results over the extended reals. -/
theorem algebraic : Cert.algebraic_ConvIn0BxIdeal_ConvIn0BxRefIdeal := by
  intro m ρ m' ρ' _ hag
  refine ⟨_, Value.run_blocks m ρ, ?_⟩
  refine (θ_run Cert.ConvIn0BxRefIdeal.defs _ _).mono (fun r h c => ⟨(h c).1.trans ?_, (h c).2⟩) (Cert.ConvIn0BxRefIdeal.Value.run (F := Ideal) m' ρ')
  rw [(hag c).1, (hag c).2]
  exact (reference _ _).trans (array m c).symm

end Cert.ConvIn0BxIdeal

namespace Cert.ConvIn0BwIdeal

open Cert.ConvIn0BwIdeal.Gen

/-- What the kernel's array holds after the run. -/
theorem array (m : (ℓ : Loc nD τ sig) → Buf (Elt Ideal) ℓ) (c : Dev nD) : (dats m 0 c).arrAt 2 cfg0.N
    = weightsGrad (T := 2304) (K := 1024) (N := 2048) (m ((c : Thread nD τ).loc main_arg0)) (m ((c : Thread nD τ).loc main_arg1)) := by
  refine (dats m 0 c).arrAt_eq_of_covers 2 _ (by decide +kernel) fun t _ y => ?_
  have e0 : ∀ t : Fin cfg0.N, win0_0.index t = ![0, 0, win0_2.index t 1] := (by decide +kernel : ∀ t : Fin grid0.N, _)
  have e1 : ∀ t : Fin cfg0.N, win0_1.index t = ![0, 0, win0_2.index t 2] := (by decide +kernel : ∀ t : Fin grid0.N, _)
  blk_simp
  rw [after0_2]
  frame_out
  unfold weightsGrad
  pointwise [k0_pay1]
  blk_simp [iblk]
  rw [V_main_arg0, V_main_arg1]
  show @Eq EReal _ _
  refine Finset.sum_congr rfl fun k _ => congrArg₂ (· * ·) (congrArg _ ?_) (congrArg _ ?_)
  · blk_ext [e0]
  · blk_ext [e1]

/-- What the reference's array holds. -/
theorem reference (x0 : FVec Ideal ConvIn0BwRefIdeal.S1x2304x1024 .bf16) (x1 : FVec Ideal ConvIn0BwRefIdeal.S1x2304x2048 .bf16) :
    ConvIn0BwRefIdeal.Read.val_main_v8 (F := Ideal) x0 x1 = weightsGrad (T := 2304) (K := 1024) (N := 2048) x0 x1 := funext fun y => by
  unfold weightsGrad
  pointwise [ConvIn0BwRefIdeal.Read.val_main_v8, ConvIn0BwRefIdeal.Read.val_main_v7, ConvIn0BwRefIdeal.Read.val_main_v6, ConvIn0BwRefIdeal.Read.val_main_v5, ConvIn0BwRefIdeal.Read.val_main_v4, ConvIn0BwRefIdeal.Read.val_main_v1]
  simp only [Finset.univ_unique, Finset.sum_singleton]
  refine Finset.sum_congr rfl fun k _ => (mul_comm _ _).trans (congrArg₂ (· * ·) (congrArg _ ?_) (congrArg _ ?_)) <;> blk_ext []

/-- The reference of the weights' gradient ends without fault, its arguments unchanged. -/
theorem frame_reference : Cert.quiescent_ConvIn0BwRefIdeal := fun m ρ _ =>
  (θ_run Cert.ConvIn0BwRefIdeal.defs _ _).mono
    (fun r h => ⟨fun c => (h c).2, sem_eq_zero_of_no_sems (by decide) r.2⟩) (Cert.ConvIn0BwRefIdeal.Value.run (F := Ideal) m ρ)

/-- The weights' gradient: kernel and reference end with equal results over the extended reals. -/
theorem algebraic : Cert.algebraic_ConvIn0BwIdeal_ConvIn0BwRefIdeal := by
  intro m ρ m' ρ' _ hag
  refine ⟨_, Value.run_blocks m ρ, ?_⟩
  refine (θ_run Cert.ConvIn0BwRefIdeal.defs _ _).mono (fun r h c => ⟨(h c).1.trans ?_, (h c).2⟩) (Cert.ConvIn0BwRefIdeal.Value.run (F := Ideal) m' ρ')
  rw [(hag c).1, (hag c).2]
  exact (reference _ _).trans (array m c).symm

end Cert.ConvIn0BwIdeal

end
end
-- ==== Proof.ConvIn3.lean ====
module

public import proofs.«01_k».proof.Defs
public import proofs.«01_k».proof.Proof.Products
public import proofs.«01_k».proof.Proof.Gen.ConvIn3Ideal.Value
public import proofs.«01_k».proof.Proof.Gen.ConvIn3RefIdeal.Run
public import proofs.«01_k».proof.Proof.Gen.ConvIn3RefIdeal.Read
public import proofs.«01_k».proof.Proof.Gen.ConvIn3BxIdeal.Value
public import proofs.«01_k».proof.Proof.Gen.ConvIn3BxRefIdeal.Run
public import proofs.«01_k».proof.Proof.Gen.ConvIn3BxRefIdeal.Read
public import proofs.«01_k».proof.Proof.Gen.ConvIn3BwIdeal.Value
public import proofs.«01_k».proof.Proof.Gen.ConvIn3BwRefIdeal.Run
public import proofs.«01_k».proof.Proof.Gen.ConvIn3BwRefIdeal.Read

/-! # The last layer's conformer, inner projection

The product, its rows' gradient and its weights' gradient. -/

set_option maxRecDepth 16384

noncomputable section

open Idealize.ShloMosaic Idealize.ShloMosaic.TcCoe Idealize.SL.Sem
open Idealize.ShloMosaic.Pipeline (Dat)
open Cert.Products

@[expose] public section

namespace Cert.ConvIn3Ideal

open Cert.ConvIn3Ideal.Gen

/-- What the kernel's array holds after the run. -/
theorem array (m : (ℓ : Loc nD τ sig) → Buf (Elt Ideal) ℓ) (c : Dev nD) : (dats m 0 c).arrAt 2 cfg0.N
    = forward (T := 2048) (K := 1024) (N := 2048) (m ((c : Thread nD τ).loc main_arg0)) (m ((c : Thread nD τ).loc main_arg1)) := by
  refine (dats m 0 c).arrAt_eq_of_covers 2 _ (by decide +kernel) fun t _ y => ?_
  have e0 : ∀ t : Fin cfg0.N, win0_0.index t = ![0, win0_2.index t 1, 0] := (by decide +kernel : ∀ t : Fin grid0.N, _)
  have e1 : ∀ t : Fin cfg0.N, win0_1.index t = ![0, 0, win0_2.index t 2] := (by decide +kernel : ∀ t : Fin grid0.N, _)
  blk_simp
  rw [after0_2]
  frame_out
  unfold forward
  pointwise [k0_pay1]
  blk_simp [iblk]
  rw [V_main_arg0, V_main_arg1]
  show @Eq EReal _ _
  refine Finset.sum_congr rfl fun k _ => congrArg₂ (· * ·) (congrArg _ ?_) (congrArg _ ?_)
  · blk_ext [e0]
  · blk_ext [e1]

/-- What the reference's array holds. -/
theorem reference (x0 : FVec Ideal ConvIn3RefIdeal.S1x2048x1024 .bf16) (x1 : FVec Ideal ConvIn3RefIdeal.S1x1024x2048 .bf16) :
    ConvIn3RefIdeal.Read.val_main_v3 (F := Ideal) x0 x1 = forward (T := 2048) (K := 1024) (N := 2048) x0 x1 := funext fun y => by
  unfold forward
  pointwise [ConvIn3RefIdeal.Read.val_main_v3, ConvIn3RefIdeal.Read.val_main_v2, ConvIn3RefIdeal.Read.val_main_v1, ConvIn3RefIdeal.Read.val_main_v0]
  refine Finset.sum_congr rfl fun k _ => congrArg₂ (· * ·) (congrArg _ ?_) (congrArg _ ?_) <;> blk_ext []

/-- The reference of the product ends without fault, its arguments unchanged. -/
theorem frame_reference : Cert.quiescent_ConvIn3RefIdeal := fun m ρ _ =>
  (θ_run Cert.ConvIn3RefIdeal.defs _ _).mono
    (fun r h => ⟨fun c => (h c).2, sem_eq_zero_of_no_sems (by decide) r.2⟩) (Cert.ConvIn3RefIdeal.Value.run (F := Ideal) m ρ)

/-- The product: kernel and reference end with equal results over the extended reals. -/
theorem algebraic : Cert.algebraic_ConvIn3Ideal_ConvIn3RefIdeal := by
  intro m ρ m' ρ' _ hag
  refine ⟨_, Value.run_blocks m ρ, ?_⟩
  refine (θ_run Cert.ConvIn3RefIdeal.defs _ _).mono (fun r h c => ⟨(h c).1.trans ?_, (h c).2⟩) (Cert.ConvIn3RefIdeal.Value.run (F := Ideal) m' ρ')
  rw [(hag c).1, (hag c).2]
  exact (reference _ _).trans (array m c).symm

end Cert.ConvIn3Ideal

namespace Cert.ConvIn3BxIdeal

open Cert.ConvIn3BxIdeal.Gen

/-- What the kernel's array holds after the run. -/
theorem array (m : (ℓ : Loc nD τ sig) → Buf (Elt Ideal) ℓ) (c : Dev nD) : (dats m 0 c).arrAt 2 cfg0.N
    = rowsGrad (T := 2048) (K := 1024) (N := 2048) (m ((c : Thread nD τ).loc main_arg0)) (m ((c : Thread nD τ).loc main_arg1)) := by
  refine (dats m 0 c).arrAt_eq_of_covers 2 _ (by decide +kernel) fun t _ y => ?_
  have e0 : ∀ t : Fin cfg0.N, win0_0.index t = ![0, win0_2.index t 1, 0] := (by decide +kernel : ∀ t : Fin grid0.N, _)
  have e1 : ∀ t : Fin cfg0.N, win0_1.index t = ![0, win0_2.index t 2, 0] := (by decide +kernel : ∀ t : Fin grid0.N, _)
  blk_simp
  rw [after0_2]
  frame_out
  unfold rowsGrad
  pointwise [k0_pay1]
  blk_simp [iblk]
  rw [V_main_arg0, V_main_arg1]
  show @Eq EReal _ _
  refine Finset.sum_congr rfl fun k _ => congrArg₂ (· * ·) (congrArg _ ?_) (congrArg _ ?_)
  · blk_ext [e0]
  · blk_ext [e1]

/-- What the reference's array holds. -/
theorem reference (x0 : FVec Ideal ConvIn3BxRefIdeal.S1x2048x2048 .bf16) (x1 : FVec Ideal ConvIn3BxRefIdeal.S1x1024x2048 .bf16) :
    ConvIn3BxRefIdeal.Read.val_main_v5 (F := Ideal) x0 x1 = rowsGrad (T := 2048) (K := 1024) (N := 2048) x0 x1 := funext fun y => by
  unfold rowsGrad
  pointwise [ConvIn3BxRefIdeal.Read.val_main_v5, ConvIn3BxRefIdeal.Read.val_main_v4, ConvIn3BxRefIdeal.Read.val_main_v2, ConvIn3BxRefIdeal.Read.val_main_v1]
  refine Finset.sum_congr rfl fun k _ => congrArg₂ (· * ·) (congrArg _ ?_) (congrArg _ ?_) <;> blk_ext []

/-- The reference of the rows' gradient ends without fault, its arguments unchanged. -/
theorem frame_reference : Cert.quiescent_ConvIn3BxRefIdeal := fun m ρ _ =>
  (θ_run Cert.ConvIn3BxRefIdeal.defs _ _).mono
    (fun r h => ⟨fun c => (h c).2, sem_eq_zero_of_no_sems (by decide) r.2⟩) (Cert.ConvIn3BxRefIdeal.Value.run (F := Ideal) m ρ)

/-- The rows' gradient: kernel and reference end with equal results over the extended reals. -/
theorem algebraic : Cert.algebraic_ConvIn3BxIdeal_ConvIn3BxRefIdeal := by
  intro m ρ m' ρ' _ hag
  refine ⟨_, Value.run_blocks m ρ, ?_⟩
  refine (θ_run Cert.ConvIn3BxRefIdeal.defs _ _).mono (fun r h c => ⟨(h c).1.trans ?_, (h c).2⟩) (Cert.ConvIn3BxRefIdeal.Value.run (F := Ideal) m' ρ')
  rw [(hag c).1, (hag c).2]
  exact (reference _ _).trans (array m c).symm

end Cert.ConvIn3BxIdeal

namespace Cert.ConvIn3BwIdeal

open Cert.ConvIn3BwIdeal.Gen

/-- What the kernel's array holds after the run. -/
theorem array (m : (ℓ : Loc nD τ sig) → Buf (Elt Ideal) ℓ) (c : Dev nD) : (dats m 0 c).arrAt 2 cfg0.N
    = weightsGrad (T := 2048) (K := 1024) (N := 2048) (m ((c : Thread nD τ).loc main_arg0)) (m ((c : Thread nD τ).loc main_arg1)) := by
  refine (dats m 0 c).arrAt_eq_of_covers 2 _ (by decide +kernel) fun t _ y => ?_
  have e0 : ∀ t : Fin cfg0.N, win0_0.index t = ![0, 0, win0_2.index t 1] := (by decide +kernel : ∀ t : Fin grid0.N, _)
  have e1 : ∀ t : Fin cfg0.N, win0_1.index t = ![0, 0, win0_2.index t 2] := (by decide +kernel : ∀ t : Fin grid0.N, _)
  blk_simp
  rw [after0_2]
  frame_out
  unfold weightsGrad
  pointwise [k0_pay1]
  blk_simp [iblk]
  rw [V_main_arg0, V_main_arg1]
  show @Eq EReal _ _
  refine Finset.sum_congr rfl fun k _ => congrArg₂ (· * ·) (congrArg _ ?_) (congrArg _ ?_)
  · blk_ext [e0]
  · blk_ext [e1]

/-- What the reference's array holds. -/
theorem reference (x0 : FVec Ideal ConvIn3BwRefIdeal.S1x2048x1024 .bf16) (x1 : FVec Ideal ConvIn3BwRefIdeal.S1x2048x2048 .bf16) :
    ConvIn3BwRefIdeal.Read.val_main_v8 (F := Ideal) x0 x1 = weightsGrad (T := 2048) (K := 1024) (N := 2048) x0 x1 := funext fun y => by
  unfold weightsGrad
  pointwise [ConvIn3BwRefIdeal.Read.val_main_v8, ConvIn3BwRefIdeal.Read.val_main_v7, ConvIn3BwRefIdeal.Read.val_main_v6, ConvIn3BwRefIdeal.Read.val_main_v5, ConvIn3BwRefIdeal.Read.val_main_v4, ConvIn3BwRefIdeal.Read.val_main_v1]
  simp only [Finset.univ_unique, Finset.sum_singleton]
  refine Finset.sum_congr rfl fun k _ => (mul_comm _ _).trans (congrArg₂ (· * ·) (congrArg _ ?_) (congrArg _ ?_)) <;> blk_ext []

/-- The reference of the weights' gradient ends without fault, its arguments unchanged. -/
theorem frame_reference : Cert.quiescent_ConvIn3BwRefIdeal := fun m ρ _ =>
  (θ_run Cert.ConvIn3BwRefIdeal.defs _ _).mono
    (fun r h => ⟨fun c => (h c).2, sem_eq_zero_of_no_sems (by decide) r.2⟩) (Cert.ConvIn3BwRefIdeal.Value.run (F := Ideal) m ρ)

/-- The weights' gradient: kernel and reference end with equal results over the extended reals. -/
theorem algebraic : Cert.algebraic_ConvIn3BwIdeal_ConvIn3BwRefIdeal := by
  intro m ρ m' ρ' _ hag
  refine ⟨_, Value.run_blocks m ρ, ?_⟩
  refine (θ_run Cert.ConvIn3BwRefIdeal.defs _ _).mono (fun r h c => ⟨(h c).1.trans ?_, (h c).2⟩) (Cert.ConvIn3BwRefIdeal.Value.run (F := Ideal) m' ρ')
  rw [(hag c).1, (hag c).2]
  exact (reference _ _).trans (array m c).symm

end Cert.ConvIn3BwIdeal

end
end
-- ==== Proof.ConvOut0.lean ====
module

public import proofs.«01_k».proof.Defs
public import proofs.«01_k».proof.Proof.Products
public import proofs.«01_k».proof.Proof.Gen.ConvOut0Ideal.Value
public import proofs.«01_k».proof.Proof.Gen.ConvOut0RefIdeal.Run
public import proofs.«01_k».proof.Proof.Gen.ConvOut0RefIdeal.Read
public import proofs.«01_k».proof.Proof.Gen.ConvOut0BxIdeal.Value
public import proofs.«01_k».proof.Proof.Gen.ConvOut0BxRefIdeal.Run
public import proofs.«01_k».proof.Proof.Gen.ConvOut0BxRefIdeal.Read
public import proofs.«01_k».proof.Proof.Gen.ConvOut0BwIdeal.Value
public import proofs.«01_k».proof.Proof.Gen.ConvOut0BwRefIdeal.Run
public import proofs.«01_k».proof.Proof.Gen.ConvOut0BwRefIdeal.Read

/-! # The first layer's conformer, outer projection

The product, its rows' gradient and its weights' gradient. -/

set_option maxRecDepth 16384

noncomputable section

open Idealize.ShloMosaic Idealize.ShloMosaic.TcCoe Idealize.SL.Sem
open Idealize.ShloMosaic.Pipeline (Dat)
open Cert.Products

@[expose] public section

namespace Cert.ConvOut0Ideal

open Cert.ConvOut0Ideal.Gen

/-- What the kernel's array holds after the run. -/
theorem array (m : (ℓ : Loc nD τ sig) → Buf (Elt Ideal) ℓ) (c : Dev nD) : (dats m 0 c).arrAt 2 cfg0.N
    = forward (T := 2304) (K := 1024) (N := 1024) (m ((c : Thread nD τ).loc main_arg0)) (m ((c : Thread nD τ).loc main_arg1)) := by
  refine (dats m 0 c).arrAt_eq_of_covers 2 _ (by decide +kernel) fun t _ y => ?_
  have e0 : ∀ t : Fin cfg0.N, win0_0.index t = ![0, win0_2.index t 1, 0] := (by decide +kernel : ∀ t : Fin grid0.N, _)
  have e1 : ∀ t : Fin cfg0.N, win0_1.index t = ![0, 0, win0_2.index t 2] := (by decide +kernel : ∀ t : Fin grid0.N, _)
  blk_simp
  rw [after0_2]
  frame_out
  unfold forward
  pointwise [k0_pay1]
  blk_simp [iblk]
  rw [V_main_arg0, V_main_arg1]
  show @Eq EReal _ _
  refine Finset.sum_congr rfl fun k _ => congrArg₂ (· * ·) (congrArg _ ?_) (congrArg _ ?_)
  · blk_ext [e0]
  · blk_ext [e1]

/-- What the reference's array holds. -/
theorem reference (x0 : FVec Ideal ConvOut0RefIdeal.S1x2304x1024 .bf16) (x1 : FVec Ideal ConvOut0RefIdeal.S1x1024x1024 .bf16) :
    ConvOut0RefIdeal.Read.val_main_v3 (F := Ideal) x0 x1 = forward (T := 2304) (K := 1024) (N := 1024) x0 x1 := funext fun y => by
  unfold forward
  pointwise [ConvOut0RefIdeal.Read.val_main_v3, ConvOut0RefIdeal.Read.val_main_v2, ConvOut0RefIdeal.Read.val_main_v1, ConvOut0RefIdeal.Read.val_main_v0]
  refine Finset.sum_congr rfl fun k _ => congrArg₂ (· * ·) (congrArg _ ?_) (congrArg _ ?_) <;> blk_ext []

/-- The reference of the product ends without fault, its arguments unchanged. -/
theorem frame_reference : Cert.quiescent_ConvOut0RefIdeal := fun m ρ _ =>
  (θ_run Cert.ConvOut0RefIdeal.defs _ _).mono
    (fun r h => ⟨fun c => (h c).2, sem_eq_zero_of_no_sems (by decide) r.2⟩) (Cert.ConvOut0RefIdeal.Value.run (F := Ideal) m ρ)

/-- The product: kernel and reference end with equal results over the extended reals. -/
theorem algebraic : Cert.algebraic_ConvOut0Ideal_ConvOut0RefIdeal := by
  intro m ρ m' ρ' _ hag
  refine ⟨_, Value.run_blocks m ρ, ?_⟩
  refine (θ_run Cert.ConvOut0RefIdeal.defs _ _).mono (fun r h c => ⟨(h c).1.trans ?_, (h c).2⟩) (Cert.ConvOut0RefIdeal.Value.run (F := Ideal) m' ρ')
  rw [(hag c).1, (hag c).2]
  exact (reference _ _).trans (array m c).symm

end Cert.ConvOut0Ideal

namespace Cert.ConvOut0BxIdeal

open Cert.ConvOut0BxIdeal.Gen

/-- What the kernel's array holds after the run. -/
theorem array (m : (ℓ : Loc nD τ sig) → Buf (Elt Ideal) ℓ) (c : Dev nD) : (dats m 0 c).arrAt 2 cfg0.N
    = rowsGrad (T := 2304) (K := 1024) (N := 1024) (m ((c : Thread nD τ).loc main_arg0)) (m ((c : Thread nD τ).loc main_arg1)) := by
  refine (dats m 0 c).arrAt_eq_of_covers 2 _ (by decide +kernel) fun t _ y => ?_
  have e0 : ∀ t : Fin cfg0.N, win0_0.index t = ![0, win0_2.index t 1, 0] := (by decide +kernel : ∀ t : Fin grid0.N, _)
  have e1 : ∀ t : Fin cfg0.N, win0_1.index t = ![0, win0_2.index t 2, 0] := (by decide +kernel : ∀ t : Fin grid0.N, _)
  blk_simp
  rw [after0_2]
  frame_out
  unfold rowsGrad
  pointwise [k0_pay1]
  blk_simp [iblk]
  rw [V_main_arg0, V_main_arg1]
  show @Eq EReal _ _
  refine Finset.sum_congr rfl fun k _ => congrArg₂ (· * ·) (congrArg _ ?_) (congrArg _ ?_)
  · blk_ext [e0]
  · blk_ext [e1]

/-- What the reference's array holds. -/
theorem reference (x0 : FVec Ideal ConvOut0BxRefIdeal.S1x2304x1024 .bf16) (x1 : FVec Ideal ConvOut0BxRefIdeal.S1x1024x1024 .bf16) :
    ConvOut0BxRefIdeal.Read.val_main_v5 (F := Ideal) x0 x1 = rowsGrad (T := 2304) (K := 1024) (N := 1024) x0 x1 := funext fun y => by
  unfold rowsGrad
  pointwise [ConvOut0BxRefIdeal.Read.val_main_v5, ConvOut0BxRefIdeal.Read.val_main_v4, ConvOut0BxRefIdeal.Read.val_main_v2, ConvOut0BxRefIdeal.Read.val_main_v1]
  refine Finset.sum_congr rfl fun k _ => congrArg₂ (· * ·) (congrArg _ ?_) (congrArg _ ?_) <;> blk_ext []

/-- The reference of the rows' gradient ends without fault, its arguments unchanged. -/
theorem frame_reference : Cert.quiescent_ConvOut0BxRefIdeal := fun m ρ _ =>
  (θ_run Cert.ConvOut0BxRefIdeal.defs _ _).mono
    (fun r h => ⟨fun c => (h c).2, sem_eq_zero_of_no_sems (by decide) r.2⟩) (Cert.ConvOut0BxRefIdeal.Value.run (F := Ideal) m ρ)

/-- The rows' gradient: kernel and reference end with equal results over the extended reals. -/
theorem algebraic : Cert.algebraic_ConvOut0BxIdeal_ConvOut0BxRefIdeal := by
  intro m ρ m' ρ' _ hag
  refine ⟨_, Value.run_blocks m ρ, ?_⟩
  refine (θ_run Cert.ConvOut0BxRefIdeal.defs _ _).mono (fun r h c => ⟨(h c).1.trans ?_, (h c).2⟩) (Cert.ConvOut0BxRefIdeal.Value.run (F := Ideal) m' ρ')
  rw [(hag c).1, (hag c).2]
  exact (reference _ _).trans (array m c).symm

end Cert.ConvOut0BxIdeal

namespace Cert.ConvOut0BwIdeal

open Cert.ConvOut0BwIdeal.Gen

/-- What the kernel's array holds after the run. -/
theorem array (m : (ℓ : Loc nD τ sig) → Buf (Elt Ideal) ℓ) (c : Dev nD) : (dats m 0 c).arrAt 2 cfg0.N
    = weightsGrad (T := 2304) (K := 1024) (N := 1024) (m ((c : Thread nD τ).loc main_arg0)) (m ((c : Thread nD τ).loc main_arg1)) := by
  refine (dats m 0 c).arrAt_eq_of_covers 2 _ (by decide +kernel) fun t _ y => ?_
  have e0 : ∀ t : Fin cfg0.N, win0_0.index t = ![0, 0, win0_2.index t 1] := (by decide +kernel : ∀ t : Fin grid0.N, _)
  have e1 : ∀ t : Fin cfg0.N, win0_1.index t = ![0, 0, win0_2.index t 2] := (by decide +kernel : ∀ t : Fin grid0.N, _)
  blk_simp
  rw [after0_2]
  frame_out
  unfold weightsGrad
  pointwise [k0_pay1]
  blk_simp [iblk]
  rw [V_main_arg0, V_main_arg1]
  show @Eq EReal _ _
  refine Finset.sum_congr rfl fun k _ => congrArg₂ (· * ·) (congrArg _ ?_) (congrArg _ ?_)
  · blk_ext [e0]
  · blk_ext [e1]

/-- What the reference's array holds. -/
theorem reference (x0 : FVec Ideal ConvOut0BwRefIdeal.S1x2304x1024 .bf16) (x1 : FVec Ideal ConvOut0BwRefIdeal.S1x2304x1024 .bf16) :
    ConvOut0BwRefIdeal.Read.val_main_v8 (F := Ideal) x0 x1 = weightsGrad (T := 2304) (K := 1024) (N := 1024) x0 x1 := funext fun y => by
  unfold weightsGrad
  pointwise [ConvOut0BwRefIdeal.Read.val_main_v8, ConvOut0BwRefIdeal.Read.val_main_v7, ConvOut0BwRefIdeal.Read.val_main_v6, ConvOut0BwRefIdeal.Read.val_main_v5, ConvOut0BwRefIdeal.Read.val_main_v4, ConvOut0BwRefIdeal.Read.val_main_v1]
  simp only [Finset.univ_unique, Finset.sum_singleton]
  refine Finset.sum_congr rfl fun k _ => (mul_comm _ _).trans (congrArg₂ (· * ·) (congrArg _ ?_) (congrArg _ ?_)) <;> blk_ext []

/-- The reference of the weights' gradient ends without fault, its arguments unchanged. -/
theorem frame_reference : Cert.quiescent_ConvOut0BwRefIdeal := fun m ρ _ =>
  (θ_run Cert.ConvOut0BwRefIdeal.defs _ _).mono
    (fun r h => ⟨fun c => (h c).2, sem_eq_zero_of_no_sems (by decide) r.2⟩) (Cert.ConvOut0BwRefIdeal.Value.run (F := Ideal) m ρ)

/-- The weights' gradient: kernel and reference end with equal results over the extended reals. -/
theorem algebraic : Cert.algebraic_ConvOut0BwIdeal_ConvOut0BwRefIdeal := by
  intro m ρ m' ρ' _ hag
  refine ⟨_, Value.run_blocks m ρ, ?_⟩
  refine (θ_run Cert.ConvOut0BwRefIdeal.defs _ _).mono (fun r h c => ⟨(h c).1.trans ?_, (h c).2⟩) (Cert.ConvOut0BwRefIdeal.Value.run (F := Ideal) m' ρ')
  rw [(hag c).1, (hag c).2]
  exact (reference _ _).trans (array m c).symm

end Cert.ConvOut0BwIdeal

end
end
-- ==== Proof.ConvOut3.lean ====
module

public import proofs.«01_k».proof.Defs
public import proofs.«01_k».proof.Proof.Products
public import proofs.«01_k».proof.Proof.Gen.ConvOut3Ideal.Value
public import proofs.«01_k».proof.Proof.Gen.ConvOut3RefIdeal.Run
public import proofs.«01_k».proof.Proof.Gen.ConvOut3RefIdeal.Read
public import proofs.«01_k».proof.Proof.Gen.ConvOut3BxIdeal.Value
public import proofs.«01_k».proof.Proof.Gen.ConvOut3BxRefIdeal.Run
public import proofs.«01_k».proof.Proof.Gen.ConvOut3BxRefIdeal.Read
public import proofs.«01_k».proof.Proof.Gen.ConvOut3BwIdeal.Value
public import proofs.«01_k».proof.Proof.Gen.ConvOut3BwRefIdeal.Run
public import proofs.«01_k».proof.Proof.Gen.ConvOut3BwRefIdeal.Read

/-! # The last layer's conformer, outer projection (the attention's output projection has the same shapes)

The product, its rows' gradient and its weights' gradient. -/

set_option maxRecDepth 16384

noncomputable section

open Idealize.ShloMosaic Idealize.ShloMosaic.TcCoe Idealize.SL.Sem
open Idealize.ShloMosaic.Pipeline (Dat)
open Cert.Products

@[expose] public section

namespace Cert.ConvOut3Ideal

open Cert.ConvOut3Ideal.Gen

/-- What the kernel's array holds after the run. -/
theorem array (m : (ℓ : Loc nD τ sig) → Buf (Elt Ideal) ℓ) (c : Dev nD) : (dats m 0 c).arrAt 2 cfg0.N
    = forward (T := 2048) (K := 1024) (N := 1024) (m ((c : Thread nD τ).loc main_arg0)) (m ((c : Thread nD τ).loc main_arg1)) := by
  refine (dats m 0 c).arrAt_eq_of_covers 2 _ (by decide +kernel) fun t _ y => ?_
  have e0 : ∀ t : Fin cfg0.N, win0_0.index t = ![0, win0_2.index t 1, 0] := (by decide +kernel : ∀ t : Fin grid0.N, _)
  have e1 : ∀ t : Fin cfg0.N, win0_1.index t = ![0, 0, win0_2.index t 2] := (by decide +kernel : ∀ t : Fin grid0.N, _)
  blk_simp
  rw [after0_2]
  frame_out
  unfold forward
  pointwise [k0_pay1]
  blk_simp [iblk]
  rw [V_main_arg0, V_main_arg1]
  show @Eq EReal _ _
  refine Finset.sum_congr rfl fun k _ => congrArg₂ (· * ·) (congrArg _ ?_) (congrArg _ ?_)
  · blk_ext [e0]
  · blk_ext [e1]

/-- What the reference's array holds. -/
theorem reference (x0 : FVec Ideal ConvOut3RefIdeal.S1x2048x1024 .bf16) (x1 : FVec Ideal ConvOut3RefIdeal.S1x1024x1024 .bf16) :
    ConvOut3RefIdeal.Read.val_main_v3 (F := Ideal) x0 x1 = forward (T := 2048) (K := 1024) (N := 1024) x0 x1 := funext fun y => by
  unfold forward
  pointwise [ConvOut3RefIdeal.Read.val_main_v3, ConvOut3RefIdeal.Read.val_main_v2, ConvOut3RefIdeal.Read.val_main_v1, ConvOut3RefIdeal.Read.val_main_v0]
  refine Finset.sum_congr rfl fun k _ => congrArg₂ (· * ·) (congrArg _ ?_) (congrArg _ ?_) <;> blk_ext []

/-- The reference of the product ends without fault, its arguments unchanged. -/
theorem frame_reference : Cert.quiescent_ConvOut3RefIdeal := fun m ρ _ =>
  (θ_run Cert.ConvOut3RefIdeal.defs _ _).mono
    (fun r h => ⟨fun c => (h c).2, sem_eq_zero_of_no_sems (by decide) r.2⟩) (Cert.ConvOut3RefIdeal.Value.run (F := Ideal) m ρ)

/-- The product: kernel and reference end with equal results over the extended reals. -/
theorem algebraic : Cert.algebraic_ConvOut3Ideal_ConvOut3RefIdeal := by
  intro m ρ m' ρ' _ hag
  refine ⟨_, Value.run_blocks m ρ, ?_⟩
  refine (θ_run Cert.ConvOut3RefIdeal.defs _ _).mono (fun r h c => ⟨(h c).1.trans ?_, (h c).2⟩) (Cert.ConvOut3RefIdeal.Value.run (F := Ideal) m' ρ')
  rw [(hag c).1, (hag c).2]
  exact (reference _ _).trans (array m c).symm

end Cert.ConvOut3Ideal

namespace Cert.ConvOut3BxIdeal

open Cert.ConvOut3BxIdeal.Gen

/-- What the kernel's array holds after the run. -/
theorem array (m : (ℓ : Loc nD τ sig) → Buf (Elt Ideal) ℓ) (c : Dev nD) : (dats m 0 c).arrAt 2 cfg0.N
    = rowsGrad (T := 2048) (K := 1024) (N := 1024) (m ((c : Thread nD τ).loc main_arg0)) (m ((c : Thread nD τ).loc main_arg1)) := by
  refine (dats m 0 c).arrAt_eq_of_covers 2 _ (by decide +kernel) fun t _ y => ?_
  have e0 : ∀ t : Fin cfg0.N, win0_0.index t = ![0, win0_2.index t 1, 0] := (by decide +kernel : ∀ t : Fin grid0.N, _)
  have e1 : ∀ t : Fin cfg0.N, win0_1.index t = ![0, win0_2.index t 2, 0] := (by decide +kernel : ∀ t : Fin grid0.N, _)
  blk_simp
  rw [after0_2]
  frame_out
  unfold rowsGrad
  pointwise [k0_pay1]
  blk_simp [iblk]
  rw [V_main_arg0, V_main_arg1]
  show @Eq EReal _ _
  refine Finset.sum_congr rfl fun k _ => congrArg₂ (· * ·) (congrArg _ ?_) (congrArg _ ?_)
  · blk_ext [e0]
  · blk_ext [e1]

/-- What the reference's array holds. -/
theorem reference (x0 : FVec Ideal ConvOut3BxRefIdeal.S1x2048x1024 .bf16) (x1 : FVec Ideal ConvOut3BxRefIdeal.S1x1024x1024 .bf16) :
    ConvOut3BxRefIdeal.Read.val_main_v5 (F := Ideal) x0 x1 = rowsGrad (T := 2048) (K := 1024) (N := 1024) x0 x1 := funext fun y => by
  unfold rowsGrad
  pointwise [ConvOut3BxRefIdeal.Read.val_main_v5, ConvOut3BxRefIdeal.Read.val_main_v4, ConvOut3BxRefIdeal.Read.val_main_v2, ConvOut3BxRefIdeal.Read.val_main_v1]
  refine Finset.sum_congr rfl fun k _ => congrArg₂ (· * ·) (congrArg _ ?_) (congrArg _ ?_) <;> blk_ext []

/-- The reference of the rows' gradient ends without fault, its arguments unchanged. -/
theorem frame_reference : Cert.quiescent_ConvOut3BxRefIdeal := fun m ρ _ =>
  (θ_run Cert.ConvOut3BxRefIdeal.defs _ _).mono
    (fun r h => ⟨fun c => (h c).2, sem_eq_zero_of_no_sems (by decide) r.2⟩) (Cert.ConvOut3BxRefIdeal.Value.run (F := Ideal) m ρ)

/-- The rows' gradient: kernel and reference end with equal results over the extended reals. -/
theorem algebraic : Cert.algebraic_ConvOut3BxIdeal_ConvOut3BxRefIdeal := by
  intro m ρ m' ρ' _ hag
  refine ⟨_, Value.run_blocks m ρ, ?_⟩
  refine (θ_run Cert.ConvOut3BxRefIdeal.defs _ _).mono (fun r h c => ⟨(h c).1.trans ?_, (h c).2⟩) (Cert.ConvOut3BxRefIdeal.Value.run (F := Ideal) m' ρ')
  rw [(hag c).1, (hag c).2]
  exact (reference _ _).trans (array m c).symm

end Cert.ConvOut3BxIdeal

namespace Cert.ConvOut3BwIdeal

open Cert.ConvOut3BwIdeal.Gen

/-- What the kernel's array holds after the run. -/
theorem array (m : (ℓ : Loc nD τ sig) → Buf (Elt Ideal) ℓ) (c : Dev nD) : (dats m 0 c).arrAt 2 cfg0.N
    = weightsGrad (T := 2048) (K := 1024) (N := 1024) (m ((c : Thread nD τ).loc main_arg0)) (m ((c : Thread nD τ).loc main_arg1)) := by
  refine (dats m 0 c).arrAt_eq_of_covers 2 _ (by decide +kernel) fun t _ y => ?_
  have e0 : ∀ t : Fin cfg0.N, win0_0.index t = ![0, 0, win0_2.index t 1] := (by decide +kernel : ∀ t : Fin grid0.N, _)
  have e1 : ∀ t : Fin cfg0.N, win0_1.index t = ![0, 0, win0_2.index t 2] := (by decide +kernel : ∀ t : Fin grid0.N, _)
  blk_simp
  rw [after0_2]
  frame_out
  unfold weightsGrad
  pointwise [k0_pay1]
  blk_simp [iblk]
  rw [V_main_arg0, V_main_arg1]
  show @Eq EReal _ _
  refine Finset.sum_congr rfl fun k _ => congrArg₂ (· * ·) (congrArg _ ?_) (congrArg _ ?_)
  · blk_ext [e0]
  · blk_ext [e1]

/-- What the reference's array holds. -/
theorem reference (x0 : FVec Ideal ConvOut3BwRefIdeal.S1x2048x1024 .bf16) (x1 : FVec Ideal ConvOut3BwRefIdeal.S1x2048x1024 .bf16) :
    ConvOut3BwRefIdeal.Read.val_main_v8 (F := Ideal) x0 x1 = weightsGrad (T := 2048) (K := 1024) (N := 1024) x0 x1 := funext fun y => by
  unfold weightsGrad
  pointwise [ConvOut3BwRefIdeal.Read.val_main_v8, ConvOut3BwRefIdeal.Read.val_main_v7, ConvOut3BwRefIdeal.Read.val_main_v6, ConvOut3BwRefIdeal.Read.val_main_v5, ConvOut3BwRefIdeal.Read.val_main_v4, ConvOut3BwRefIdeal.Read.val_main_v1]
  simp only [Finset.univ_unique, Finset.sum_singleton]
  refine Finset.sum_congr rfl fun k _ => (mul_comm _ _).trans (congrArg₂ (· * ·) (congrArg _ ?_) (congrArg _ ?_)) <;> blk_ext []

/-- The reference of the weights' gradient ends without fault, its arguments unchanged. -/
theorem frame_reference : Cert.quiescent_ConvOut3BwRefIdeal := fun m ρ _ =>
  (θ_run Cert.ConvOut3BwRefIdeal.defs _ _).mono
    (fun r h => ⟨fun c => (h c).2, sem_eq_zero_of_no_sems (by decide) r.2⟩) (Cert.ConvOut3BwRefIdeal.Value.run (F := Ideal) m ρ)

/-- The weights' gradient: kernel and reference end with equal results over the extended reals. -/
theorem algebraic : Cert.algebraic_ConvOut3BwIdeal_ConvOut3BwRefIdeal := by
  intro m ρ m' ρ' _ hag
  refine ⟨_, Value.run_blocks m ρ, ?_⟩
  refine (θ_run Cert.ConvOut3BwRefIdeal.defs _ _).mono (fun r h c => ⟨(h c).1.trans ?_, (h c).2⟩) (Cert.ConvOut3BwRefIdeal.Value.run (F := Ideal) m' ρ')
  rw [(hag c).1, (hag c).2]
  exact (reference _ _).trans (array m c).symm

end Cert.ConvOut3BwIdeal

end
end
-- ==== Proof.Qkv.lean ====
module

public import proofs.«01_k».proof.Defs
public import proofs.«01_k».proof.Proof.Products
public import proofs.«01_k».proof.Proof.Gen.QkvIdeal.Value
public import proofs.«01_k».proof.Proof.Gen.QkvRefIdeal.Run
public import proofs.«01_k».proof.Proof.Gen.QkvRefIdeal.Read
public import proofs.«01_k».proof.Proof.Gen.QkvBxIdeal.Value
public import proofs.«01_k».proof.Proof.Gen.QkvBxRefIdeal.Run
public import proofs.«01_k».proof.Proof.Gen.QkvBxRefIdeal.Read
public import proofs.«01_k».proof.Proof.Gen.QkvBwIdeal.Value
public import proofs.«01_k».proof.Proof.Gen.QkvBwRefIdeal.Run
public import proofs.«01_k».proof.Proof.Gen.QkvBwRefIdeal.Read

/-! # The attention's projection to queries, keys and values

The product, its rows' gradient and its weights' gradient. -/

set_option maxRecDepth 16384

noncomputable section

open Idealize.ShloMosaic Idealize.ShloMosaic.TcCoe Idealize.SL.Sem
open Idealize.ShloMosaic.Pipeline (Dat)
open Cert.Products

@[expose] public section

namespace Cert.QkvIdeal

open Cert.QkvIdeal.Gen

/-- What the kernel's array holds after the run. -/
theorem array (m : (ℓ : Loc nD τ sig) → Buf (Elt Ideal) ℓ) (c : Dev nD) : (dats m 0 c).arrAt 2 cfg0.N
    = forward (T := 2304) (K := 1024) (N := 1536) (m ((c : Thread nD τ).loc main_arg0)) (m ((c : Thread nD τ).loc main_arg1)) := by
  refine (dats m 0 c).arrAt_eq_of_covers 2 _ (by decide +kernel) fun t _ y => ?_
  have e0 : ∀ t : Fin cfg0.N, win0_0.index t = ![0, win0_2.index t 1, 0] := (by decide +kernel : ∀ t : Fin grid0.N, _)
  have e1 : ∀ t : Fin cfg0.N, win0_1.index t = ![0, 0, win0_2.index t 2] := (by decide +kernel : ∀ t : Fin grid0.N, _)
  blk_simp
  rw [after0_2]
  frame_out
  unfold forward
  pointwise [k0_pay1]
  blk_simp [iblk]
  rw [V_main_arg0, V_main_arg1]
  show @Eq EReal _ _
  refine Finset.sum_congr rfl fun k _ => congrArg₂ (· * ·) (congrArg _ ?_) (congrArg _ ?_)
  · blk_ext [e0]
  · blk_ext [e1]

/-- What the reference's array holds. -/
theorem reference (x0 : FVec Ideal QkvRefIdeal.S1x2304x1024 .bf16) (x1 : FVec Ideal QkvRefIdeal.S1x1024x1536 .bf16) :
    QkvRefIdeal.Read.val_main_v3 (F := Ideal) x0 x1 = forward (T := 2304) (K := 1024) (N := 1536) x0 x1 := funext fun y => by
  unfold forward
  pointwise [QkvRefIdeal.Read.val_main_v3, QkvRefIdeal.Read.val_main_v2, QkvRefIdeal.Read.val_main_v1, QkvRefIdeal.Read.val_main_v0]
  refine Finset.sum_congr rfl fun k _ => congrArg₂ (· * ·) (congrArg _ ?_) (congrArg _ ?_) <;> blk_ext []

/-- The reference of the product ends without fault, its arguments unchanged. -/
theorem frame_reference : Cert.quiescent_QkvRefIdeal := fun m ρ _ =>
  (θ_run Cert.QkvRefIdeal.defs _ _).mono
    (fun r h => ⟨fun c => (h c).2, sem_eq_zero_of_no_sems (by decide) r.2⟩) (Cert.QkvRefIdeal.Value.run (F := Ideal) m ρ)

/-- The product: kernel and reference end with equal results over the extended reals. -/
theorem algebraic : Cert.algebraic_QkvIdeal_QkvRefIdeal := by
  intro m ρ m' ρ' _ hag
  refine ⟨_, Value.run_blocks m ρ, ?_⟩
  refine (θ_run Cert.QkvRefIdeal.defs _ _).mono (fun r h c => ⟨(h c).1.trans ?_, (h c).2⟩) (Cert.QkvRefIdeal.Value.run (F := Ideal) m' ρ')
  rw [(hag c).1, (hag c).2]
  exact (reference _ _).trans (array m c).symm

end Cert.QkvIdeal

namespace Cert.QkvBxIdeal

open Cert.QkvBxIdeal.Gen

/-- What the kernel's array holds after the run. -/
theorem array (m : (ℓ : Loc nD τ sig) → Buf (Elt Ideal) ℓ) (c : Dev nD) : (dats m 0 c).arrAt 2 cfg0.N
    = rowsGrad (T := 2304) (K := 1024) (N := 1536) (m ((c : Thread nD τ).loc main_arg0)) (m ((c : Thread nD τ).loc main_arg1)) := by
  refine (dats m 0 c).arrAt_eq_of_covers 2 _ (by decide +kernel) fun t _ y => ?_
  have e0 : ∀ t : Fin cfg0.N, win0_0.index t = ![0, win0_2.index t 1, 0] := (by decide +kernel : ∀ t : Fin grid0.N, _)
  have e1 : ∀ t : Fin cfg0.N, win0_1.index t = ![0, win0_2.index t 2, 0] := (by decide +kernel : ∀ t : Fin grid0.N, _)
  blk_simp
  rw [after0_2]
  frame_out
  unfold rowsGrad
  pointwise [k0_pay1]
  blk_simp [iblk]
  rw [V_main_arg0, V_main_arg1]
  show @Eq EReal _ _
  refine Finset.sum_congr rfl fun k _ => congrArg₂ (· * ·) (congrArg _ ?_) (congrArg _ ?_)
  · blk_ext [e0]
  · blk_ext [e1]

/-- What the reference's array holds. -/
theorem reference (x0 : FVec Ideal QkvBxRefIdeal.S1x2304x1536 .bf16) (x1 : FVec Ideal QkvBxRefIdeal.S1x1024x1536 .bf16) :
    QkvBxRefIdeal.Read.val_main_v5 (F := Ideal) x0 x1 = rowsGrad (T := 2304) (K := 1024) (N := 1536) x0 x1 := funext fun y => by
  unfold rowsGrad
  pointwise [QkvBxRefIdeal.Read.val_main_v5, QkvBxRefIdeal.Read.val_main_v4, QkvBxRefIdeal.Read.val_main_v2, QkvBxRefIdeal.Read.val_main_v1]
  refine Finset.sum_congr rfl fun k _ => congrArg₂ (· * ·) (congrArg _ ?_) (congrArg _ ?_) <;> blk_ext []

/-- The reference of the rows' gradient ends without fault, its arguments unchanged. -/
theorem frame_reference : Cert.quiescent_QkvBxRefIdeal := fun m ρ _ =>
  (θ_run Cert.QkvBxRefIdeal.defs _ _).mono
    (fun r h => ⟨fun c => (h c).2, sem_eq_zero_of_no_sems (by decide) r.2⟩) (Cert.QkvBxRefIdeal.Value.run (F := Ideal) m ρ)

/-- The rows' gradient: kernel and reference end with equal results over the extended reals. -/
theorem algebraic : Cert.algebraic_QkvBxIdeal_QkvBxRefIdeal := by
  intro m ρ m' ρ' _ hag
  refine ⟨_, Value.run_blocks m ρ, ?_⟩
  refine (θ_run Cert.QkvBxRefIdeal.defs _ _).mono (fun r h c => ⟨(h c).1.trans ?_, (h c).2⟩) (Cert.QkvBxRefIdeal.Value.run (F := Ideal) m' ρ')
  rw [(hag c).1, (hag c).2]
  exact (reference _ _).trans (array m c).symm

end Cert.QkvBxIdeal

namespace Cert.QkvBwIdeal

open Cert.QkvBwIdeal.Gen

/-- What the kernel's array holds after the run. -/
theorem array (m : (ℓ : Loc nD τ sig) → Buf (Elt Ideal) ℓ) (c : Dev nD) : (dats m 0 c).arrAt 2 cfg0.N
    = weightsGrad (T := 2304) (K := 1024) (N := 1536) (m ((c : Thread nD τ).loc main_arg0)) (m ((c : Thread nD τ).loc main_arg1)) := by
  refine (dats m 0 c).arrAt_eq_of_covers 2 _ (by decide +kernel) fun t _ y => ?_
  have e0 : ∀ t : Fin cfg0.N, win0_0.index t = ![0, 0, win0_2.index t 1] := (by decide +kernel : ∀ t : Fin grid0.N, _)
  have e1 : ∀ t : Fin cfg0.N, win0_1.index t = ![0, 0, win0_2.index t 2] := (by decide +kernel : ∀ t : Fin grid0.N, _)
  blk_simp
  rw [after0_2]
  frame_out
  unfold weightsGrad
  pointwise [k0_pay1]
  blk_simp [iblk]
  rw [V_main_arg0, V_main_arg1]
  show @Eq EReal _ _
  refine Finset.sum_congr rfl fun k _ => congrArg₂ (· * ·) (congrArg _ ?_) (congrArg _ ?_)
  · blk_ext [e0]
  · blk_ext [e1]

/-- What the reference's array holds. -/
theorem reference (x0 : FVec Ideal QkvBwRefIdeal.S1x2304x1024 .bf16) (x1 : FVec Ideal QkvBwRefIdeal.S1x2304x1536 .bf16) :
    QkvBwRefIdeal.Read.val_main_v8 (F := Ideal) x0 x1 = weightsGrad (T := 2304) (K := 1024) (N := 1536) x0 x1 := funext fun y => by
  unfold weightsGrad
  pointwise [QkvBwRefIdeal.Read.val_main_v8, QkvBwRefIdeal.Read.val_main_v7, QkvBwRefIdeal.Read.val_main_v6, QkvBwRefIdeal.Read.val_main_v5, QkvBwRefIdeal.Read.val_main_v4, QkvBwRefIdeal.Read.val_main_v1]
  simp only [Finset.univ_unique, Finset.sum_singleton]
  refine Finset.sum_congr rfl fun k _ => (mul_comm _ _).trans (congrArg₂ (· * ·) (congrArg _ ?_) (congrArg _ ?_)) <;> blk_ext []

/-- The reference of the weights' gradient ends without fault, its arguments unchanged. -/
theorem frame_reference : Cert.quiescent_QkvBwRefIdeal := fun m ρ _ =>
  (θ_run Cert.QkvBwRefIdeal.defs _ _).mono
    (fun r h => ⟨fun c => (h c).2, sem_eq_zero_of_no_sems (by decide) r.2⟩) (Cert.QkvBwRefIdeal.Value.run (F := Ideal) m ρ)

/-- The weights' gradient: kernel and reference end with equal results over the extended reals. -/
theorem algebraic : Cert.algebraic_QkvBwIdeal_QkvBwRefIdeal := by
  intro m ρ m' ρ' _ hag
  refine ⟨_, Value.run_blocks m ρ, ?_⟩
  refine (θ_run Cert.QkvBwRefIdeal.defs _ _).mono (fun r h c => ⟨(h c).1.trans ?_, (h c).2⟩) (Cert.QkvBwRefIdeal.Value.run (F := Ideal) m' ρ')
  rw [(hag c).1, (hag c).2]
  exact (reference _ _).trans (array m c).symm

end Cert.QkvBwIdeal

end
end
-- ==== Proof.GateIn.lean ====
module

public import proofs.«01_k».proof.Defs
public import proofs.«01_k».proof.Proof.Products
public import proofs.«01_k».proof.Proof.Gen.GateInIdeal.Value
public import proofs.«01_k».proof.Proof.Gen.GateInRefIdeal.Run
public import proofs.«01_k».proof.Proof.Gen.GateInRefIdeal.Read
public import proofs.«01_k».proof.Proof.Gen.GateInBxIdeal.Value
public import proofs.«01_k».proof.Proof.Gen.GateInBxRefIdeal.Run
public import proofs.«01_k».proof.Proof.Gen.GateInBxRefIdeal.Read
public import proofs.«01_k».proof.Proof.Gen.GateInBwIdeal.Value
public import proofs.«01_k».proof.Proof.Gen.GateInBwRefIdeal.Run
public import proofs.«01_k».proof.Proof.Gen.GateInBwRefIdeal.Read

/-! # The gMLP's inner projection

The product, its rows' gradient and its weights' gradient. -/

set_option maxRecDepth 16384

noncomputable section

open Idealize.ShloMosaic Idealize.ShloMosaic.TcCoe Idealize.SL.Sem
open Idealize.ShloMosaic.Pipeline (Dat)
open Cert.Products

@[expose] public section

namespace Cert.GateInIdeal

open Cert.GateInIdeal.Gen

/-- What the kernel's array holds after the run. -/
theorem array (m : (ℓ : Loc nD τ sig) → Buf (Elt Ideal) ℓ) (c : Dev nD) : (dats m 0 c).arrAt 2 cfg0.N
    = forward (T := 2048) (K := 1024) (N := 4096) (m ((c : Thread nD τ).loc main_arg0)) (m ((c : Thread nD τ).loc main_arg1)) := by
  refine (dats m 0 c).arrAt_eq_of_covers 2 _ (by decide +kernel) fun t _ y => ?_
  have e0 : ∀ t : Fin cfg0.N, win0_0.index t = ![0, win0_2.index t 1, 0] := (by decide +kernel : ∀ t : Fin grid0.N, _)
  have e1 : ∀ t : Fin cfg0.N, win0_1.index t = ![0, 0, win0_2.index t 2] := (by decide +kernel : ∀ t : Fin grid0.N, _)
  blk_simp
  rw [after0_2]
  frame_out
  unfold forward
  pointwise [k0_pay1]
  blk_simp [iblk]
  rw [V_main_arg0, V_main_arg1]
  show @Eq EReal _ _
  refine Finset.sum_congr rfl fun k _ => congrArg₂ (· * ·) (congrArg _ ?_) (congrArg _ ?_)
  · blk_ext [e0]
  · blk_ext [e1]

/-- What the reference's array holds. -/
theorem reference (x0 : FVec Ideal GateInRefIdeal.S1x2048x1024 .bf16) (x1 : FVec Ideal GateInRefIdeal.S1x1024x4096 .bf16) :
    GateInRefIdeal.Read.val_main_v3 (F := Ideal) x0 x1 = forward (T := 2048) (K := 1024) (N := 4096) x0 x1 := funext fun y => by
  unfold forward
  pointwise [GateInRefIdeal.Read.val_main_v3, GateInRefIdeal.Read.val_main_v2, GateInRefIdeal.Read.val_main_v1, GateInRefIdeal.Read.val_main_v0]
  refine Finset.sum_congr rfl fun k _ => congrArg₂ (· * ·) (congrArg _ ?_) (congrArg _ ?_) <;> blk_ext []

/-- The reference of the product ends without fault, its arguments unchanged. -/
theorem frame_reference : Cert.quiescent_GateInRefIdeal := fun m ρ _ =>
  (θ_run Cert.GateInRefIdeal.defs _ _).mono
    (fun r h => ⟨fun c => (h c).2, sem_eq_zero_of_no_sems (by decide) r.2⟩) (Cert.GateInRefIdeal.Value.run (F := Ideal) m ρ)

/-- The product: kernel and reference end with equal results over the extended reals. -/
theorem algebraic : Cert.algebraic_GateInIdeal_GateInRefIdeal := by
  intro m ρ m' ρ' _ hag
  refine ⟨_, Value.run_blocks m ρ, ?_⟩
  refine (θ_run Cert.GateInRefIdeal.defs _ _).mono (fun r h c => ⟨(h c).1.trans ?_, (h c).2⟩) (Cert.GateInRefIdeal.Value.run (F := Ideal) m' ρ')
  rw [(hag c).1, (hag c).2]
  exact (reference _ _).trans (array m c).symm

end Cert.GateInIdeal

namespace Cert.GateInBxIdeal

open Cert.GateInBxIdeal.Gen

/-- What the kernel's array holds after the run. -/
theorem array (m : (ℓ : Loc nD τ sig) → Buf (Elt Ideal) ℓ) (c : Dev nD) : (dats m 0 c).arrAt 2 cfg0.N
    = rowsGrad (T := 2048) (K := 1024) (N := 4096) (m ((c : Thread nD τ).loc main_arg0)) (m ((c : Thread nD τ).loc main_arg1)) := by
  refine (dats m 0 c).arrAt_eq_of_covers 2 _ (by decide +kernel) fun t _ y => ?_
  have e0 : ∀ t : Fin cfg0.N, win0_0.index t = ![0, win0_2.index t 1, 0] := (by decide +kernel : ∀ t : Fin grid0.N, _)
  have e1 : ∀ t : Fin cfg0.N, win0_1.index t = ![0, win0_2.index t 2, 0] := (by decide +kernel : ∀ t : Fin grid0.N, _)
  blk_simp
  rw [after0_2]
  frame_out
  unfold rowsGrad
  pointwise [k0_pay1]
  blk_simp [iblk]
  rw [V_main_arg0, V_main_arg1]
  show @Eq EReal _ _
  refine Finset.sum_congr rfl fun k _ => congrArg₂ (· * ·) (congrArg _ ?_) (congrArg _ ?_)
  · blk_ext [e0]
  · blk_ext [e1]

/-- What the reference's array holds. -/
theorem reference (x0 : FVec Ideal GateInBxRefIdeal.S1x2048x4096 .bf16) (x1 : FVec Ideal GateInBxRefIdeal.S1x1024x4096 .bf16) :
    GateInBxRefIdeal.Read.val_main_v5 (F := Ideal) x0 x1 = rowsGrad (T := 2048) (K := 1024) (N := 4096) x0 x1 := funext fun y => by
  unfold rowsGrad
  pointwise [GateInBxRefIdeal.Read.val_main_v5, GateInBxRefIdeal.Read.val_main_v4, GateInBxRefIdeal.Read.val_main_v2, GateInBxRefIdeal.Read.val_main_v1]
  refine Finset.sum_congr rfl fun k _ => congrArg₂ (· * ·) (congrArg _ ?_) (congrArg _ ?_) <;> blk_ext []

/-- The reference of the rows' gradient ends without fault, its arguments unchanged. -/
theorem frame_reference : Cert.quiescent_GateInBxRefIdeal := fun m ρ _ =>
  (θ_run Cert.GateInBxRefIdeal.defs _ _).mono
    (fun r h => ⟨fun c => (h c).2, sem_eq_zero_of_no_sems (by decide) r.2⟩) (Cert.GateInBxRefIdeal.Value.run (F := Ideal) m ρ)

/-- The rows' gradient: kernel and reference end with equal results over the extended reals. -/
theorem algebraic : Cert.algebraic_GateInBxIdeal_GateInBxRefIdeal := by
  intro m ρ m' ρ' _ hag
  refine ⟨_, Value.run_blocks m ρ, ?_⟩
  refine (θ_run Cert.GateInBxRefIdeal.defs _ _).mono (fun r h c => ⟨(h c).1.trans ?_, (h c).2⟩) (Cert.GateInBxRefIdeal.Value.run (F := Ideal) m' ρ')
  rw [(hag c).1, (hag c).2]
  exact (reference _ _).trans (array m c).symm

end Cert.GateInBxIdeal

namespace Cert.GateInBwIdeal

open Cert.GateInBwIdeal.Gen

/-- What the kernel's array holds after the run. -/
theorem array (m : (ℓ : Loc nD τ sig) → Buf (Elt Ideal) ℓ) (c : Dev nD) : (dats m 0 c).arrAt 2 cfg0.N
    = weightsGrad (T := 2048) (K := 1024) (N := 4096) (m ((c : Thread nD τ).loc main_arg0)) (m ((c : Thread nD τ).loc main_arg1)) := by
  refine (dats m 0 c).arrAt_eq_of_covers 2 _ (by decide +kernel) fun t _ y => ?_
  have e0 : ∀ t : Fin cfg0.N, win0_0.index t = ![0, 0, win0_2.index t 1] := (by decide +kernel : ∀ t : Fin grid0.N, _)
  have e1 : ∀ t : Fin cfg0.N, win0_1.index t = ![0, 0, win0_2.index t 2] := (by decide +kernel : ∀ t : Fin grid0.N, _)
  blk_simp
  rw [after0_2]
  frame_out
  unfold weightsGrad
  pointwise [k0_pay1]
  blk_simp [iblk]
  rw [V_main_arg0, V_main_arg1]
  show @Eq EReal _ _
  refine Finset.sum_congr rfl fun k _ => congrArg₂ (· * ·) (congrArg _ ?_) (congrArg _ ?_)
  · blk_ext [e0]
  · blk_ext [e1]

/-- What the reference's array holds. -/
theorem reference (x0 : FVec Ideal GateInBwRefIdeal.S1x2048x1024 .bf16) (x1 : FVec Ideal GateInBwRefIdeal.S1x2048x4096 .bf16) :
    GateInBwRefIdeal.Read.val_main_v8 (F := Ideal) x0 x1 = weightsGrad (T := 2048) (K := 1024) (N := 4096) x0 x1 := funext fun y => by
  unfold weightsGrad
  pointwise [GateInBwRefIdeal.Read.val_main_v8, GateInBwRefIdeal.Read.val_main_v7, GateInBwRefIdeal.Read.val_main_v6, GateInBwRefIdeal.Read.val_main_v5, GateInBwRefIdeal.Read.val_main_v4, GateInBwRefIdeal.Read.val_main_v1]
  simp only [Finset.univ_unique, Finset.sum_singleton]
  refine Finset.sum_congr rfl fun k _ => (mul_comm _ _).trans (congrArg₂ (· * ·) (congrArg _ ?_) (congrArg _ ?_)) <;> blk_ext []

/-- The reference of the weights' gradient ends without fault, its arguments unchanged. -/
theorem frame_reference : Cert.quiescent_GateInBwRefIdeal := fun m ρ _ =>
  (θ_run Cert.GateInBwRefIdeal.defs _ _).mono
    (fun r h => ⟨fun c => (h c).2, sem_eq_zero_of_no_sems (by decide) r.2⟩) (Cert.GateInBwRefIdeal.Value.run (F := Ideal) m ρ)

/-- The weights' gradient: kernel and reference end with equal results over the extended reals. -/
theorem algebraic : Cert.algebraic_GateInBwIdeal_GateInBwRefIdeal := by
  intro m ρ m' ρ' _ hag
  refine ⟨_, Value.run_blocks m ρ, ?_⟩
  refine (θ_run Cert.GateInBwRefIdeal.defs _ _).mono (fun r h c => ⟨(h c).1.trans ?_, (h c).2⟩) (Cert.GateInBwRefIdeal.Value.run (F := Ideal) m' ρ')
  rw [(hag c).1, (hag c).2]
  exact (reference _ _).trans (array m c).symm

end Cert.GateInBwIdeal

end
end
-- ==== Proof.GateOut.lean ====
module

public import proofs.«01_k».proof.Defs
public import proofs.«01_k».proof.Proof.Products
public import proofs.«01_k».proof.Proof.Gen.GateOutIdeal.Value
public import proofs.«01_k».proof.Proof.Gen.GateOutRefIdeal.Run
public import proofs.«01_k».proof.Proof.Gen.GateOutRefIdeal.Read
public import proofs.«01_k».proof.Proof.Gen.GateOutBxIdeal.Value
public import proofs.«01_k».proof.Proof.Gen.GateOutBxRefIdeal.Run
public import proofs.«01_k».proof.Proof.Gen.GateOutBxRefIdeal.Read
public import proofs.«01_k».proof.Proof.Gen.GateOutBwIdeal.Value
public import proofs.«01_k».proof.Proof.Gen.GateOutBwRefIdeal.Run
public import proofs.«01_k».proof.Proof.Gen.GateOutBwRefIdeal.Read

/-! # The gMLP's outer projection

The product, its rows' gradient and its weights' gradient. -/

set_option maxRecDepth 16384

noncomputable section

open Idealize.ShloMosaic Idealize.ShloMosaic.TcCoe Idealize.SL.Sem
open Idealize.ShloMosaic.Pipeline (Dat)
open Cert.Products

@[expose] public section

namespace Cert.GateOutIdeal

open Cert.GateOutIdeal.Gen

/-- What the kernel's array holds after the run. -/
theorem array (m : (ℓ : Loc nD τ sig) → Buf (Elt Ideal) ℓ) (c : Dev nD) : (dats m 0 c).arrAt 2 cfg0.N
    = forward (T := 2048) (K := 2048) (N := 1024) (m ((c : Thread nD τ).loc main_arg0)) (m ((c : Thread nD τ).loc main_arg1)) := by
  refine (dats m 0 c).arrAt_eq_of_covers 2 _ (by decide +kernel) fun t _ y => ?_
  have e0 : ∀ t : Fin cfg0.N, win0_0.index t = ![0, win0_2.index t 1, 0] := (by decide +kernel : ∀ t : Fin grid0.N, _)
  have e1 : ∀ t : Fin cfg0.N, win0_1.index t = ![0, 0, win0_2.index t 2] := (by decide +kernel : ∀ t : Fin grid0.N, _)
  blk_simp
  rw [after0_2]
  frame_out
  unfold forward
  pointwise [k0_pay1]
  blk_simp [iblk]
  rw [V_main_arg0, V_main_arg1]
  show @Eq EReal _ _
  refine Finset.sum_congr rfl fun k _ => congrArg₂ (· * ·) (congrArg _ ?_) (congrArg _ ?_)
  · blk_ext [e0]
  · blk_ext [e1]

/-- What the reference's array holds. -/
theorem reference (x0 : FVec Ideal GateOutRefIdeal.S1x2048x2048 .bf16) (x1 : FVec Ideal GateOutRefIdeal.S1x2048x1024 .bf16) :
    GateOutRefIdeal.Read.val_main_v3 (F := Ideal) x0 x1 = forward (T := 2048) (K := 2048) (N := 1024) x0 x1 := funext fun y => by
  unfold forward
  pointwise [GateOutRefIdeal.Read.val_main_v3, GateOutRefIdeal.Read.val_main_v2, GateOutRefIdeal.Read.val_main_v1, GateOutRefIdeal.Read.val_main_v0]
  refine Finset.sum_congr rfl fun k _ => congrArg₂ (· * ·) (congrArg _ ?_) (congrArg _ ?_) <;> blk_ext []

/-- The reference of the product ends without fault, its arguments unchanged. -/
theorem frame_reference : Cert.quiescent_GateOutRefIdeal := fun m ρ _ =>
  (θ_run Cert.GateOutRefIdeal.defs _ _).mono
    (fun r h => ⟨fun c => (h c).2, sem_eq_zero_of_no_sems (by decide) r.2⟩) (Cert.GateOutRefIdeal.Value.run (F := Ideal) m ρ)

/-- The product: kernel and reference end with equal results over the extended reals. -/
theorem algebraic : Cert.algebraic_GateOutIdeal_GateOutRefIdeal := by
  intro m ρ m' ρ' _ hag
  refine ⟨_, Value.run_blocks m ρ, ?_⟩
  refine (θ_run Cert.GateOutRefIdeal.defs _ _).mono (fun r h c => ⟨(h c).1.trans ?_, (h c).2⟩) (Cert.GateOutRefIdeal.Value.run (F := Ideal) m' ρ')
  rw [(hag c).1, (hag c).2]
  exact (reference _ _).trans (array m c).symm

end Cert.GateOutIdeal

namespace Cert.GateOutBxIdeal

open Cert.GateOutBxIdeal.Gen

/-- What the kernel's array holds after the run. -/
theorem array (m : (ℓ : Loc nD τ sig) → Buf (Elt Ideal) ℓ) (c : Dev nD) : (dats m 0 c).arrAt 2 cfg0.N
    = rowsGrad (T := 2048) (K := 2048) (N := 1024) (m ((c : Thread nD τ).loc main_arg0)) (m ((c : Thread nD τ).loc main_arg1)) := by
  refine (dats m 0 c).arrAt_eq_of_covers 2 _ (by decide +kernel) fun t _ y => ?_
  have e0 : ∀ t : Fin cfg0.N, win0_0.index t = ![0, win0_2.index t 1, 0] := (by decide +kernel : ∀ t : Fin grid0.N, _)
  have e1 : ∀ t : Fin cfg0.N, win0_1.index t = ![0, win0_2.index t 2, 0] := (by decide +kernel : ∀ t : Fin grid0.N, _)
  blk_simp
  rw [after0_2]
  frame_out
  unfold rowsGrad
  pointwise [k0_pay1]
  blk_simp [iblk]
  rw [V_main_arg0, V_main_arg1]
  show @Eq EReal _ _
  refine Finset.sum_congr rfl fun k _ => congrArg₂ (· * ·) (congrArg _ ?_) (congrArg _ ?_)
  · blk_ext [e0]
  · blk_ext [e1]

/-- What the reference's array holds. -/
theorem reference (x0 : FVec Ideal GateOutBxRefIdeal.S1x2048x1024 .bf16) (x1 : FVec Ideal GateOutBxRefIdeal.S1x2048x1024 .bf16) :
    GateOutBxRefIdeal.Read.val_main_v5 (F := Ideal) x0 x1 = rowsGrad (T := 2048) (K := 2048) (N := 1024) x0 x1 := funext fun y => by
  unfold rowsGrad
  pointwise [GateOutBxRefIdeal.Read.val_main_v5, GateOutBxRefIdeal.Read.val_main_v4, GateOutBxRefIdeal.Read.val_main_v2, GateOutBxRefIdeal.Read.val_main_v1]
  refine Finset.sum_congr rfl fun k _ => congrArg₂ (· * ·) (congrArg _ ?_) (congrArg _ ?_) <;> blk_ext []

/-- The reference of the rows' gradient ends without fault, its arguments unchanged. -/
theorem frame_reference : Cert.quiescent_GateOutBxRefIdeal := fun m ρ _ =>
  (θ_run Cert.GateOutBxRefIdeal.defs _ _).mono
    (fun r h => ⟨fun c => (h c).2, sem_eq_zero_of_no_sems (by decide) r.2⟩) (Cert.GateOutBxRefIdeal.Value.run (F := Ideal) m ρ)

/-- The rows' gradient: kernel and reference end with equal results over the extended reals. -/
theorem algebraic : Cert.algebraic_GateOutBxIdeal_GateOutBxRefIdeal := by
  intro m ρ m' ρ' _ hag
  refine ⟨_, Value.run_blocks m ρ, ?_⟩
  refine (θ_run Cert.GateOutBxRefIdeal.defs _ _).mono (fun r h c => ⟨(h c).1.trans ?_, (h c).2⟩) (Cert.GateOutBxRefIdeal.Value.run (F := Ideal) m' ρ')
  rw [(hag c).1, (hag c).2]
  exact (reference _ _).trans (array m c).symm

end Cert.GateOutBxIdeal

namespace Cert.GateOutBwIdeal

open Cert.GateOutBwIdeal.Gen

/-- What the kernel's array holds after the run. -/
theorem array (m : (ℓ : Loc nD τ sig) → Buf (Elt Ideal) ℓ) (c : Dev nD) : (dats m 0 c).arrAt 2 cfg0.N
    = weightsGrad (T := 2048) (K := 2048) (N := 1024) (m ((c : Thread nD τ).loc main_arg0)) (m ((c : Thread nD τ).loc main_arg1)) := by
  refine (dats m 0 c).arrAt_eq_of_covers 2 _ (by decide +kernel) fun t _ y => ?_
  have e0 : ∀ t : Fin cfg0.N, win0_0.index t = ![0, 0, win0_2.index t 1] := (by decide +kernel : ∀ t : Fin grid0.N, _)
  have e1 : ∀ t : Fin cfg0.N, win0_1.index t = ![0, 0, win0_2.index t 2] := (by decide +kernel : ∀ t : Fin grid0.N, _)
  blk_simp
  rw [after0_2]
  frame_out
  unfold weightsGrad
  pointwise [k0_pay1]
  blk_simp [iblk]
  rw [V_main_arg0, V_main_arg1]
  show @Eq EReal _ _
  refine Finset.sum_congr rfl fun k _ => congrArg₂ (· * ·) (congrArg _ ?_) (congrArg _ ?_)
  · blk_ext [e0]
  · blk_ext [e1]

/-- What the reference's array holds. -/
theorem reference (x0 : FVec Ideal GateOutBwRefIdeal.S1x2048x2048 .bf16) (x1 : FVec Ideal GateOutBwRefIdeal.S1x2048x1024 .bf16) :
    GateOutBwRefIdeal.Read.val_main_v8 (F := Ideal) x0 x1 = weightsGrad (T := 2048) (K := 2048) (N := 1024) x0 x1 := funext fun y => by
  unfold weightsGrad
  pointwise [GateOutBwRefIdeal.Read.val_main_v8, GateOutBwRefIdeal.Read.val_main_v7, GateOutBwRefIdeal.Read.val_main_v6, GateOutBwRefIdeal.Read.val_main_v5, GateOutBwRefIdeal.Read.val_main_v4, GateOutBwRefIdeal.Read.val_main_v1]
  simp only [Finset.univ_unique, Finset.sum_singleton]
  refine Finset.sum_congr rfl fun k _ => (mul_comm _ _).trans (congrArg₂ (· * ·) (congrArg _ ?_) (congrArg _ ?_)) <;> blk_ext []

/-- The reference of the weights' gradient ends without fault, its arguments unchanged. -/
theorem frame_reference : Cert.quiescent_GateOutBwRefIdeal := fun m ρ _ =>
  (θ_run Cert.GateOutBwRefIdeal.defs _ _).mono
    (fun r h => ⟨fun c => (h c).2, sem_eq_zero_of_no_sems (by decide) r.2⟩) (Cert.GateOutBwRefIdeal.Value.run (F := Ideal) m ρ)

/-- The weights' gradient: kernel and reference end with equal results over the extended reals. -/
theorem algebraic : Cert.algebraic_GateOutBwIdeal_GateOutBwRefIdeal := by
  intro m ρ m' ρ' _ hag
  refine ⟨_, Value.run_blocks m ρ, ?_⟩
  refine (θ_run Cert.GateOutBwRefIdeal.defs _ _).mono (fun r h c => ⟨(h c).1.trans ?_, (h c).2⟩) (Cert.GateOutBwRefIdeal.Value.run (F := Ideal) m' ρ')
  rw [(hag c).1, (hag c).2]
  exact (reference _ _).trans (array m c).symm

end Cert.GateOutBwIdeal

end
end
-- ==== Proof.FfnUp0.lean ====
module

public import proofs.«01_k».proof.Defs
public import proofs.«01_k».proof.Proof.Products
public import proofs.«01_k».proof.Proof.Gen.FfnUp0BxIdeal.Value
public import Idealize.ShloMosaic.Lib.Pipeline.ReadBack
public import proofs.«01_k».proof.Proof.Gen.FfnUp0BxRefIdeal.Run
public import proofs.«01_k».proof.Proof.Gen.FfnUp0BxRefIdeal.Read
public import proofs.«01_k».proof.Proof.Gen.FfnUp0BwIdeal.Value
public import proofs.«01_k».proof.Proof.Gen.FfnUp0BwRefIdeal.Run
public import proofs.«01_k».proof.Proof.Gen.FfnUp0BwRefIdeal.Read

set_option maxRecDepth 16384

noncomputable section

open Idealize.ShloMosaic Idealize.ShloMosaic.TcCoe Idealize.SL.Sem
open Idealize.ShloMosaic.Pipeline (Dat)
open Cert.Products

@[expose] public section

namespace Cert.FfnUp0BxIdeal

open Cert.FfnUp0BxIdeal.Gen

variable (m : (ℓ : Loc nD τ sig) → Buf (Elt Ideal) ℓ) (c : Dev nD)

/-- A point's product, entry by entry: one block's part of the rows' gradient. -/
theorem part (t : Fin cfg0.N) (p : Fin 768) (q : Fin 1024) :
    k0_pay1 (F := Ideal) (iblk m c 0 t) (iblk m c 1 t) (ix2 p q)
      = rowsGradBlock (B := 8) (T := 2304) (K := 1024) (N := 704) (m ((c : Thread nD τ).loc main_arg0)) (m ((c : Thread nD τ).loc main_arg1))
        ⟨t.val % 8, by omega⟩ ⟨768 * (t.val / 8) + p.val, by have h : t.val < 24 := t.isLt; omega⟩ q := by
  have e0 : ∀ t : Fin cfg0.N, win0_0.index t = ![t.val % 8, t.val / 8, 0] := (by decide +kernel : ∀ t : Fin grid0.N, _)
  have e1 : ∀ t : Fin cfg0.N, win0_1.index t = ![t.val % 8, 0, 0] := (by decide +kernel : ∀ t : Fin grid0.N, _)
  unfold rowsGradBlock
  pointwise [k0_pay1]
  blk_simp [iblk]
  rw [V_main_arg0, V_main_arg1]
  show @Eq EReal _ _
  refine Finset.sum_congr rfl fun k _ => congrArg₂ (· * ·) (congrArg _ ?_) (congrArg _ ?_)
  · blk_ext [e0]
  · blk_ext [e1]

/-- The accumulator after the first point of a run of eight, -/
theorem first (t : Fin cfg0.N) (h : t.val % 8 = 0) (p : Fin 768) (q : Fin 1024) :
    (outsAt0 m c t.val t.isLt).2 (ix2 p q) = k0_pay1 (F := Ideal) (iblk m c 0 t) (iblk m c 1 t) (ix2 p q) := by
  rw [outsAt0_A m c t h (by omega) (by omega)]
  dsimp only
  unfold sout0_A_0
  frame_out
  pointwise [k0_pay2]

/-- and after a later one. -/
theorem next (t : Fin cfg0.N) (h : ¬t.val % 8 = 0) (p : Fin 768) (q : Fin 1024) :
    (outsAt0 m c t.val t.isLt).2 (ix2 p q)
      = (outsAt0 m c (t.val - 1) (Nat.lt_of_le_of_lt (Nat.sub_le _ _) t.isLt)).2 (ix2 p q)
        + k0_pay1 (F := Ideal) (iblk m c 0 t) (iblk m c 1 t) (ix2 p q) := by
  by_cases h7 : t.val % 8 = 7
  · rw [outsAt0_C m c t h (by omega) h7]
    dsimp only
    unfold sout0_C_0
    frame_out
    pointwise [k0_pay3]
    rw [read_unread_whole]
  · rw [outsAt0_B m c t h (by omega) h7]
    dsimp only
    unfold sout0_B_0
    frame_out
    pointwise [k0_pay3]
    rw [read_unread_whole]

/-- The last point of a run writes the accumulator out. -/
theorem last (t : Fin cfg0.N) (h7 : t.val % 8 = 7) (p : Fin 768) (q : Fin 1024) :
    (outsAt0 m c t.val t.isLt).1 (ix3 0 p q) = (outsAt0 m c t.val t.isLt).2 (ix2 p q) := by
  rw [outsAt0_C m c t (by omega) (by omega) h7]
  dsimp only
  unfold out0_C_2 sout0_C_0
  frame_out
  pointwise [k0_pay4]

/-- Every point's accumulator, from its run's parts. -/
theorem accumulated (b : ℕ) (h : 8 * b + 7 < cfg0.N) (p : Fin 768) (q : Fin 1024) :
    (outsAt0 m c (8 * b + 7) h).2 (ix2 p q)
      = ∑ s : Fin 8, rowsGradBlock (B := 8) (T := 2304) (K := 1024) (N := 704) (m ((c : Thread nD τ).loc main_arg0)) (m ((c : Thread nD τ).loc main_arg1))
        s ⟨768 * b + p.val, by have h : 8 * b + 7 < 24 := h; omega⟩ q := by
  have hb : b < 3 := by have h : 8 * b + 7 < 24 := h; omega
  refine (sum_of_run (fun n hn => (outsAt0 m c n hn).2 (ix2 p q))
    (fun b s => if hb : b < 3 then if hs : s < 8 then rowsGradBlock (B := 8) (T := 2304) (K := 1024) (N := 704) (m ((c : Thread nD τ).loc main_arg0))
      (m ((c : Thread nD τ).loc main_arg1)) ⟨s, hs⟩ ⟨768 * b + p.val, by omega⟩ q else 0 else 0) ?_ ?_ b 7 (by omega) h).trans ?_
  · intro n hn h0
    have hn' : n < 24 := hn
    rw [dif_pos (by omega), dif_pos (by omega)]
    exact (first m c ⟨n, hn⟩ h0 p q).trans (part m c ⟨n, hn⟩ p q)
  · intro n hn _ h0
    have hn' : n < 24 := hn
    rw [dif_pos (by omega), dif_pos (by omega)]
    exact (next m c ⟨n, hn⟩ h0 p q).trans (congrArg _ (part m c ⟨n, hn⟩ p q))
  · refine Finset.sum_congr rfl fun s _ => ?_
    rw [dif_pos hb, dif_pos s.isLt]

/-- The kernel's rows' gradient is the sum over the blocks. -/
theorem array : (dats m 0 c).arrAt 2 cfg0.N
    = rowsGradBlocks (B := 8) (T := 2304) (K := 1024) (N := 704) (m ((c : Thread nD τ).loc main_arg0)) (m ((c : Thread nD τ).loc main_arg1)) := by
  refine (dats m 0 c).arrAt_eq_of_covers 2 _ (by decide +kernel) fun t hf y => ?_
  have h7 : t.val % 8 = 7 := (by decide +kernel : ∀ t : Fin grid0.N, win0_2.flush t = true → t.val % 8 = 7) t hf
  have e2 : ∀ t : Fin cfg0.N, win0_2.index t = ![0, t.val / 8, 0] := (by decide +kernel : ∀ t : Fin grid0.N, _)
  have hb : 8 * (t.val / 8) + 7 = t.val := by omega
  blk_simp
  rw [after0_2]
  unfold rowsGradBlocks
  have hy : y = ix3 (0 : Fin 1) (y 1) (y 2) := funext fun a => match a with
    | ⟨0, _⟩ => Subsingleton.elim (α := Fin 1) _ _
    | ⟨1, _⟩ => rfl
    | ⟨2, _⟩ => rfl
  have ht : ∀ n hn, n = t.val → outsAt0 m c n hn = outsAt0 m c t.val t.isLt := by rintro n hn rfl; rfl
  refine (congrArg _ hy).trans ((last m c t h7 (y 1) (y 2)).trans ?_)
  have hN : 8 * (t.val / 8) + 7 < cfg0.N := by rw [hb]; exact t.isLt
  rw [← ht _ hN hb]
  refine (accumulated m c _ hN (y 1) (y 2)).trans (Finset.sum_congr rfl fun s _ => congrArg₂ (rowsGradBlock _ _ s) (Fin.ext ?_) (Fin.ext ?_))
  · blk_simp [e2]
    show 768 * (t.val / 8) + (y 1).val = _
    omega
  · blk_simp [e2]

/-- The reference's rows' gradient is the same sum. -/
theorem reference (g : FVec Ideal S8x2304x704 .bf16) (w : FVec Ideal S8x1024x704 .bf16) :
    Cert.FfnUp0BxRefIdeal.Read.val_main_v8 (F := Ideal) g w = rowsGradBlocks (B := 8) (T := 2304) (K := 1024) (N := 704) g w := by
  funext y
  unfold rowsGradBlocks rowsGradBlock
  pointwise [Cert.FfnUp0BxRefIdeal.Read.val_main_v8, Cert.FfnUp0BxRefIdeal.Read.val_main_v7, Cert.FfnUp0BxRefIdeal.Read.val_main_v6,
    Cert.FfnUp0BxRefIdeal.Read.val_main_v5, Cert.FfnUp0BxRefIdeal.Read.val_main_v1]

/-- The reference runs. -/
theorem frame_reference : Cert.quiescent_FfnUp0BxRefIdeal := fun m ρ _ =>
  (θ_run Cert.FfnUp0BxRefIdeal.defs _ _).mono (fun r h => ⟨fun c => (h c).2, sem_eq_zero_of_no_sems (by decide) r.2⟩)
    (Cert.FfnUp0BxRefIdeal.Value.run (F := Ideal) m ρ)

/-- The kernel and the reference agree. -/
theorem algebraic : Cert.algebraic_FfnUp0BxIdeal_FfnUp0BxRefIdeal := by
  intro m ρ m' ρ' _ hag
  refine ⟨_, Value.run_blocks m ρ, ?_⟩
  refine (θ_run Cert.FfnUp0BxRefIdeal.defs _ _).mono (fun r h c => ⟨(h c).1.trans ?_, (h c).2⟩)
    (Cert.FfnUp0BxRefIdeal.Value.run (F := Ideal) m' ρ')
  rw [(hag c).1, (hag c).2]
  exact (reference _ _).trans (array m c).symm

end Cert.FfnUp0BxIdeal

namespace Cert.FfnUp0BwIdeal

open Cert.FfnUp0BwIdeal.Gen

/-- What the kernel's array holds after the run. -/
theorem array (m : (ℓ : Loc nD τ sig) → Buf (Elt Ideal) ℓ) (c : Dev nD) : (dats m 0 c).arrAt 2 cfg0.N
    = weightsGradBlocks (B := 8) (T := 2304) (K := 1024) (N := 704) (m ((c : Thread nD τ).loc main_arg0)) (m ((c : Thread nD τ).loc main_arg1)) := by
  refine (dats m 0 c).arrAt_eq_of_covers 2 _ (by decide +kernel) fun t _ y => ?_
  have e0 : ∀ t : Fin cfg0.N, win0_0.index t = ![win0_2.index t 0, 0, win0_2.index t 1] := (by decide +kernel : ∀ t : Fin grid0.N, _)
  have e1 : ∀ t : Fin cfg0.N, win0_1.index t = ![0, 0, win0_2.index t 2] := (by decide +kernel : ∀ t : Fin grid0.N, _)
  blk_simp
  rw [after0_2]
  frame_out
  unfold weightsGradBlocks
  pointwise [k0_pay1]
  blk_simp [iblk]
  rw [V_main_arg0, V_main_arg1]
  show @Eq EReal _ _
  refine Finset.sum_congr rfl fun k _ => congrArg₂ (· * ·) (congrArg _ ?_) (congrArg _ ?_)
  · blk_ext [e0]
  · blk_ext [e1]

/-- What the reference's array holds. -/
theorem reference (x0 : FVec Ideal FfnUp0BwRefIdeal.S8x2304x704 .bf16) (x1 : FVec Ideal FfnUp0BwRefIdeal.S1x2304x1024 .bf16) :
    FfnUp0BwRefIdeal.Read.val_main_v10 (F := Ideal) x0 x1 = weightsGradBlocks (B := 8) (T := 2304) (K := 1024) (N := 704) x0 x1 := funext fun y => by
  unfold weightsGradBlocks
  pointwise [FfnUp0BwRefIdeal.Read.val_main_v10, FfnUp0BwRefIdeal.Read.val_main_v9, FfnUp0BwRefIdeal.Read.val_main_v8, FfnUp0BwRefIdeal.Read.val_main_v7, FfnUp0BwRefIdeal.Read.val_main_v6, FfnUp0BwRefIdeal.Read.val_main_v5, FfnUp0BwRefIdeal.Read.val_main_v2, FfnUp0BwRefIdeal.Read.val_main_v1, FfnUp0BwRefIdeal.Read.val_main_cst_0]
  simp only [Finset.univ_unique, Finset.sum_singleton]
  refine Finset.sum_congr rfl fun k _ => congrArg₂ (· * ·) (congrArg _ ?_) (congrArg _ ?_) <;> blk_ext []

/-- The reference of the weights' gradient ends without fault, its arguments unchanged. -/
theorem frame_reference : Cert.quiescent_FfnUp0BwRefIdeal := fun m ρ _ =>
  (θ_run Cert.FfnUp0BwRefIdeal.defs _ _).mono
    (fun r h => ⟨fun c => (h c).2, sem_eq_zero_of_no_sems (by decide) r.2⟩) (Cert.FfnUp0BwRefIdeal.Value.run (F := Ideal) m ρ)

/-- The weights' gradient: kernel and reference end with equal results over the extended reals. -/
theorem algebraic : Cert.algebraic_FfnUp0BwIdeal_FfnUp0BwRefIdeal := by
  intro m ρ m' ρ' _ hag
  refine ⟨_, Value.run_blocks m ρ, ?_⟩
  refine (θ_run Cert.FfnUp0BwRefIdeal.defs _ _).mono (fun r h c => ⟨(h c).1.trans ?_, (h c).2⟩) (Cert.FfnUp0BwRefIdeal.Value.run (F := Ideal) m' ρ')
  rw [(hag c).1, (hag c).2]
  exact (reference _ _).trans (array m c).symm

end Cert.FfnUp0BwIdeal

end

end
-- ==== Proof.FfnUp.lean ====
module

public import proofs.«01_k».proof.Defs
public import proofs.«01_k».proof.Proof.Products
public import proofs.«01_k».proof.Proof.Gen.FfnUpBxIdeal.Value
public import Idealize.ShloMosaic.Lib.Pipeline.ReadBack
public import proofs.«01_k».proof.Proof.Gen.FfnUpBxRefIdeal.Run
public import proofs.«01_k».proof.Proof.Gen.FfnUpBxRefIdeal.Read
public import proofs.«01_k».proof.Proof.Gen.FfnUpBwIdeal.Value
public import proofs.«01_k».proof.Proof.Gen.FfnUpBwRefIdeal.Run
public import proofs.«01_k».proof.Proof.Gen.FfnUpBwRefIdeal.Read

set_option maxRecDepth 16384

noncomputable section

open Idealize.ShloMosaic Idealize.ShloMosaic.TcCoe Idealize.SL.Sem
open Idealize.ShloMosaic.Pipeline (Dat)
open Cert.Products

@[expose] public section

namespace Cert.FfnUpBxIdeal

open Cert.FfnUpBxIdeal.Gen

variable (m : (ℓ : Loc nD τ sig) → Buf (Elt Ideal) ℓ) (c : Dev nD)

/-- A point's product, entry by entry: one block's part of the rows' gradient. -/
theorem part (t : Fin cfg0.N) (p : Fin 1024) (q : Fin 1024) :
    k0_pay1 (F := Ideal) (iblk m c 0 t) (iblk m c 1 t) (ix2 p q)
      = rowsGradBlock (B := 8) (T := 2048) (K := 1024) (N := 704) (m ((c : Thread nD τ).loc main_arg0)) (m ((c : Thread nD τ).loc main_arg1))
        ⟨t.val % 8, by omega⟩ ⟨1024 * (t.val / 8) + p.val, by have h : t.val < 16 := t.isLt; omega⟩ q := by
  have e0 : ∀ t : Fin cfg0.N, win0_0.index t = ![t.val % 8, t.val / 8, 0] := (by decide +kernel : ∀ t : Fin grid0.N, _)
  have e1 : ∀ t : Fin cfg0.N, win0_1.index t = ![t.val % 8, 0, 0] := (by decide +kernel : ∀ t : Fin grid0.N, _)
  unfold rowsGradBlock
  pointwise [k0_pay1]
  blk_simp [iblk]
  rw [V_main_arg0, V_main_arg1]
  show @Eq EReal _ _
  refine Finset.sum_congr rfl fun k _ => congrArg₂ (· * ·) (congrArg _ ?_) (congrArg _ ?_)
  · blk_ext [e0]
  · blk_ext [e1]

/-- The accumulator after the first point of a run of eight, -/
theorem first (t : Fin cfg0.N) (h : t.val % 8 = 0) (p q : Fin 1024) :
    (outsAt0 m c t.val t.isLt).2 (ix2 p q) = k0_pay1 (F := Ideal) (iblk m c 0 t) (iblk m c 1 t) (ix2 p q) := by
  rw [outsAt0_A m c t h (by omega) (by omega)]
  dsimp only
  unfold sout0_A_0
  frame_out
  pointwise [k0_pay2]

/-- and after a later one. -/
theorem next (t : Fin cfg0.N) (h : ¬t.val % 8 = 0) (p q : Fin 1024) :
    (outsAt0 m c t.val t.isLt).2 (ix2 p q)
      = (outsAt0 m c (t.val - 1) (Nat.lt_of_le_of_lt (Nat.sub_le _ _) t.isLt)).2 (ix2 p q)
        + k0_pay1 (F := Ideal) (iblk m c 0 t) (iblk m c 1 t) (ix2 p q) := by
  by_cases h7 : t.val % 8 = 7
  · rw [outsAt0_C m c t h (by omega) h7]
    dsimp only
    unfold sout0_C_0
    frame_out
    pointwise [k0_pay3]
    rw [read_unread_whole]
  · rw [outsAt0_B m c t h (by omega) h7]
    dsimp only
    unfold sout0_B_0
    frame_out
    pointwise [k0_pay3]
    rw [read_unread_whole]

/-- The last point of a run writes the accumulator out. -/
theorem last (t : Fin cfg0.N) (h7 : t.val % 8 = 7) (p q : Fin 1024) :
    (outsAt0 m c t.val t.isLt).1 (ix3 0 p q) = (outsAt0 m c t.val t.isLt).2 (ix2 p q) := by
  rw [outsAt0_C m c t (by omega) (by omega) h7]
  dsimp only
  unfold out0_C_2 sout0_C_0
  frame_out
  pointwise [k0_pay4]

/-- Every point's accumulator, from its run's parts. -/
theorem accumulated (b : ℕ) (h : 8 * b + 7 < cfg0.N) (p q : Fin 1024) :
    (outsAt0 m c (8 * b + 7) h).2 (ix2 p q)
      = ∑ s : Fin 8, rowsGradBlock (B := 8) (T := 2048) (K := 1024) (N := 704) (m ((c : Thread nD τ).loc main_arg0)) (m ((c : Thread nD τ).loc main_arg1))
        s ⟨1024 * b + p.val, by have h : 8 * b + 7 < 16 := h; omega⟩ q := by
  have hb : b < 2 := by have h : 8 * b + 7 < 16 := h; omega
  refine (sum_of_run (fun n hn => (outsAt0 m c n hn).2 (ix2 p q))
    (fun b s => if hb : b < 2 then if hs : s < 8 then rowsGradBlock (B := 8) (T := 2048) (K := 1024) (N := 704) (m ((c : Thread nD τ).loc main_arg0))
      (m ((c : Thread nD τ).loc main_arg1)) ⟨s, hs⟩ ⟨1024 * b + p.val, by omega⟩ q else 0 else 0) ?_ ?_ b 7 (by omega) h).trans ?_
  · intro n hn h0
    have hn' : n < 16 := hn
    rw [dif_pos (by omega), dif_pos (by omega)]
    exact (first m c ⟨n, hn⟩ h0 p q).trans (part m c ⟨n, hn⟩ p q)
  · intro n hn _ h0
    have hn' : n < 16 := hn
    rw [dif_pos (by omega), dif_pos (by omega)]
    exact (next m c ⟨n, hn⟩ h0 p q).trans (congrArg _ (part m c ⟨n, hn⟩ p q))
  · refine Finset.sum_congr rfl fun s _ => ?_
    rw [dif_pos hb, dif_pos s.isLt]

/-- The kernel's rows' gradient is the sum over the blocks. -/
theorem array : (dats m 0 c).arrAt 2 cfg0.N
    = rowsGradBlocks (B := 8) (T := 2048) (K := 1024) (N := 704) (m ((c : Thread nD τ).loc main_arg0)) (m ((c : Thread nD τ).loc main_arg1)) := by
  refine (dats m 0 c).arrAt_eq_of_covers 2 _ (by decide +kernel) fun t hf y => ?_
  have h7 : t.val % 8 = 7 := (by decide +kernel : ∀ t : Fin grid0.N, win0_2.flush t = true → t.val % 8 = 7) t hf
  have e2 : ∀ t : Fin cfg0.N, win0_2.index t = ![0, t.val / 8, 0] := (by decide +kernel : ∀ t : Fin grid0.N, _)
  have hb : 8 * (t.val / 8) + 7 = t.val := by omega
  blk_simp
  rw [after0_2]
  unfold rowsGradBlocks
  have hy : y = ix3 (0 : Fin 1) (y 1) (y 2) := funext fun a => match a with
    | ⟨0, _⟩ => Subsingleton.elim (α := Fin 1) _ _
    | ⟨1, _⟩ => rfl
    | ⟨2, _⟩ => rfl
  have ht : ∀ n hn, n = t.val → outsAt0 m c n hn = outsAt0 m c t.val t.isLt := by rintro n hn rfl; rfl
  refine (congrArg _ hy).trans ((last m c t h7 (y 1) (y 2)).trans ?_)
  have hN : 8 * (t.val / 8) + 7 < cfg0.N := by rw [hb]; exact t.isLt
  rw [← ht _ hN hb]
  refine (accumulated m c _ hN (y 1) (y 2)).trans (Finset.sum_congr rfl fun s _ => congrArg₂ (rowsGradBlock _ _ s) (Fin.ext ?_) (Fin.ext ?_))
  · blk_simp [e2]
    show 1024 * (t.val / 8) + (y 1).val = _
    omega
  · blk_simp [e2]

/-- The reference's rows' gradient is the same sum. -/
theorem reference (g : FVec Ideal S8x2048x704 .bf16) (w : FVec Ideal S8x1024x704 .bf16) :
    Cert.FfnUpBxRefIdeal.Read.val_main_v8 (F := Ideal) g w = rowsGradBlocks (B := 8) (T := 2048) (K := 1024) (N := 704) g w := by
  funext y
  unfold rowsGradBlocks rowsGradBlock
  pointwise [Cert.FfnUpBxRefIdeal.Read.val_main_v8, Cert.FfnUpBxRefIdeal.Read.val_main_v7, Cert.FfnUpBxRefIdeal.Read.val_main_v6,
    Cert.FfnUpBxRefIdeal.Read.val_main_v5, Cert.FfnUpBxRefIdeal.Read.val_main_v1]

/-- The reference runs. -/
theorem frame_reference : Cert.quiescent_FfnUpBxRefIdeal := fun m ρ _ =>
  (θ_run Cert.FfnUpBxRefIdeal.defs _ _).mono (fun r h => ⟨fun c => (h c).2, sem_eq_zero_of_no_sems (by decide) r.2⟩)
    (Cert.FfnUpBxRefIdeal.Value.run (F := Ideal) m ρ)

/-- The kernel and the reference agree. -/
theorem algebraic : Cert.algebraic_FfnUpBxIdeal_FfnUpBxRefIdeal := by
  intro m ρ m' ρ' _ hag
  refine ⟨_, Value.run_blocks m ρ, ?_⟩
  refine (θ_run Cert.FfnUpBxRefIdeal.defs _ _).mono (fun r h c => ⟨(h c).1.trans ?_, (h c).2⟩)
    (Cert.FfnUpBxRefIdeal.Value.run (F := Ideal) m' ρ')
  rw [(hag c).1, (hag c).2]
  exact (reference _ _).trans (array m c).symm

end Cert.FfnUpBxIdeal

namespace Cert.FfnUpBwIdeal

open Cert.FfnUpBwIdeal.Gen

/-- What the kernel's array holds after the run. -/
theorem array (m : (ℓ : Loc nD τ sig) → Buf (Elt Ideal) ℓ) (c : Dev nD) : (dats m 0 c).arrAt 2 cfg0.N
    = weightsGradBlocks (B := 8) (T := 2048) (K := 1024) (N := 704) (m ((c : Thread nD τ).loc main_arg0)) (m ((c : Thread nD τ).loc main_arg1)) := by
  refine (dats m 0 c).arrAt_eq_of_covers 2 _ (by decide +kernel) fun t _ y => ?_
  have e0 : ∀ t : Fin cfg0.N, win0_0.index t = ![win0_2.index t 0, 0, win0_2.index t 1] := (by decide +kernel : ∀ t : Fin grid0.N, _)
  have e1 : ∀ t : Fin cfg0.N, win0_1.index t = ![0, 0, win0_2.index t 2] := (by decide +kernel : ∀ t : Fin grid0.N, _)
  blk_simp
  rw [after0_2]
  frame_out
  unfold weightsGradBlocks
  pointwise [k0_pay1]
  blk_simp [iblk]
  rw [V_main_arg0, V_main_arg1]
  show @Eq EReal _ _
  refine Finset.sum_congr rfl fun k _ => congrArg₂ (· * ·) (congrArg _ ?_) (congrArg _ ?_)
  · blk_ext [e0]
  · blk_ext [e1]

/-- What the reference's array holds. -/
theorem reference (x0 : FVec Ideal FfnUpBwRefIdeal.S8x2048x704 .bf16) (x1 : FVec Ideal FfnUpBwRefIdeal.S1x2048x1024 .bf16) :
    FfnUpBwRefIdeal.Read.val_main_v10 (F := Ideal) x0 x1 = weightsGradBlocks (B := 8) (T := 2048) (K := 1024) (N := 704) x0 x1 := funext fun y => by
  unfold weightsGradBlocks
  pointwise [FfnUpBwRefIdeal.Read.val_main_v10, FfnUpBwRefIdeal.Read.val_main_v9, FfnUpBwRefIdeal.Read.val_main_v8, FfnUpBwRefIdeal.Read.val_main_v7, FfnUpBwRefIdeal.Read.val_main_v6, FfnUpBwRefIdeal.Read.val_main_v5, FfnUpBwRefIdeal.Read.val_main_v2, FfnUpBwRefIdeal.Read.val_main_v1, FfnUpBwRefIdeal.Read.val_main_cst_0]
  simp only [Finset.univ_unique, Finset.sum_singleton]
  refine Finset.sum_congr rfl fun k _ => congrArg₂ (· * ·) (congrArg _ ?_) (congrArg _ ?_) <;> blk_ext []

/-- The reference of the weights' gradient ends without fault, its arguments unchanged. -/
theorem frame_reference : Cert.quiescent_FfnUpBwRefIdeal := fun m ρ _ =>
  (θ_run Cert.FfnUpBwRefIdeal.defs _ _).mono
    (fun r h => ⟨fun c => (h c).2, sem_eq_zero_of_no_sems (by decide) r.2⟩) (Cert.FfnUpBwRefIdeal.Value.run (F := Ideal) m ρ)

/-- The weights' gradient: kernel and reference end with equal results over the extended reals. -/
theorem algebraic : Cert.algebraic_FfnUpBwIdeal_FfnUpBwRefIdeal := by
  intro m ρ m' ρ' _ hag
  refine ⟨_, Value.run_blocks m ρ, ?_⟩
  refine (θ_run Cert.FfnUpBwRefIdeal.defs _ _).mono (fun r h c => ⟨(h c).1.trans ?_, (h c).2⟩) (Cert.FfnUpBwRefIdeal.Value.run (F := Ideal) m' ρ')
  rw [(hag c).1, (hag c).2]
  exact (reference _ _).trans (array m c).symm

end Cert.FfnUpBwIdeal

end

end
-- ==== Proof.Update.lean ====
module

public import Idealize.ShloMosaic.PureOps.Ideal
public import Idealize.ShloMosaic.PureOps.IdealRules
public import Idealize.ShloMosaic.Lib.Pipeline.ValueKit
public import Idealize.ShloMosaic.Lib.Pointwise
public import Idealize.ShloMosaic.Lib.Claim

/-! # One step of the optimiser, entry by entry

The gradient is the sum of the devices' parts; the two moments and the weight's change follow from it.  The kernel
multiplies by the reciprocals of the bias corrections, the reference divides by the corrections: with the two numbers
named by their exact values these are one function of the extended reals. -/

noncomputable section

open Idealize.ShloMosaic

@[expose] public section

namespace Cert.Update

/-- The new first moment. -/
def first (g m : EReal) : EReal := Ideal.ofBits .f32 0x3F666666#32 * m + Ideal.ofBits .f32 0x3DCCCCCD#32 * g

/-- The new second moment. -/
def second (g v : EReal) : EReal := Ideal.ofBits .f32 0x3F7FBE77#32 * v + Ideal.ofBits .f32 0x3A83126F#32 * (g * g)

/-- The weight's change. -/
def change (g w m v : EReal) : EReal :=
  Ideal.ofBits .f32 0xBA83126F#32
    * (Ideal.div (Ideal.div (first g m) ((6513215599 / 10000000000 : ℝ) : EReal))
        (Ideal.sqrt (Ideal.div (second g v) ((9955119790251790119955009999 / 1000000000000000000000000000000 : ℝ) : EReal))
          + Ideal.ofBits .f32 0x322BCC77#32)
      + Ideal.ofBits .f32 0x3C23D70A#32 * w)

theorem first_of {g g' m m' : EReal} (hg : g = g') (hm : m = m') :
    Ideal.ofBits .f32 0x3F666666#32 * m + Ideal.ofBits .f32 0x3DCCCCCD#32 * g = first g' m' := by rw [hg, hm, first]

theorem second_of {g g' v v' : EReal} (hg : g = g') (hv : v = v') :
    Ideal.ofBits .f32 0x3F7FBE77#32 * v + Ideal.ofBits .f32 0x3A83126F#32 * (g * g) = second g' v' := by rw [hg, hv, second]

/-- The kernel's change of the weight. -/
theorem change_of_products {g g' w w' m m' v v' d e : EReal} (hg : g = g') (hw : w = w') (hm : m = m') (hv : v = v')
    (hd : d = ((10000000000 / 6513215599 : ℝ) : EReal))
    (he : e = ((1000000000000000000000000000000 / 9955119790251790119955009999 : ℝ) : EReal)) :
    Ideal.ofBits .f32 0xBA83126F#32
      * (Ideal.div ((Ideal.ofBits .f32 0x3F666666#32 * m + Ideal.ofBits .f32 0x3DCCCCCD#32 * g) * d)
          (Ideal.sqrt ((Ideal.ofBits .f32 0x3F7FBE77#32 * v + Ideal.ofBits .f32 0x3A83126F#32 * (g * g)) * e)
            + Ideal.ofBits .f32 0x322BCC77#32)
        + Ideal.ofBits .f32 0x3C23D70A#32 * w) = change g' w' m' v' := by
  subst hg hw hm hv hd he
  unfold change first second
  rw [Ideal.div_coe (by norm_num), Ideal.div_coe (by norm_num), one_div_div, one_div_div]

theorem ofBits_9 : Ideal.ofBits .f32 0x41100000#32 = ((9 : ℝ) : EReal) := by
  simp [Ideal.ofBits, Ideal.ieee, -EReal.coe_mul]; norm_num
theorem ofBits_10 : Ideal.ofBits .f32 0x41200000#32 = ((10 : ℝ) : EReal) := by
  simp [Ideal.ofBits, Ideal.ieee, -EReal.coe_mul]; norm_num
theorem ofBits_999 : Ideal.ofBits .f32 0x4479C000#32 = ((999 : ℝ) : EReal) := by
  simp [Ideal.ofBits, Ideal.ieee, -EReal.coe_mul]; norm_num
theorem ofBits_1000 : Ideal.ofBits .f32 0x447A0000#32 = ((1000 : ℝ) : EReal) := by
  simp [Ideal.ofBits, Ideal.ieee, -EReal.coe_mul]; norm_num

/-- The first moment's decay, as the reference divides it out. -/
theorem decay1 : Ideal.div (Ideal.ofBits .f32 0x41100000#32) (Ideal.ofBits .f32 0x41200000#32) = ((9 / 10 : ℝ) : EReal) := by
  rw [ofBits_9, ofBits_10, Ideal.div_coe (by norm_num), ← EReal.coe_mul]
  norm_num

/-- The second moment's decay, as the reference divides it out. -/
theorem decay2 : Ideal.div (Ideal.ofBits .f32 0x4479C000#32) (Ideal.ofBits .f32 0x447A0000#32) = ((999 / 1000 : ℝ) : EReal) := by
  rw [ofBits_999, ofBits_1000, Ideal.div_coe (by norm_num), ← EReal.coe_mul]
  norm_num

/-- One less the tenth power of a number, multiplied out as the reference does. -/
theorem less_tenth_power (b : ℝ) : (1 : EReal) - (b : EReal) * b * ((b : EReal) * b * ((b : EReal) * b) * ((b : EReal) * b * ((b : EReal) * b)))
    = ((1 - b ^ 10 : ℝ) : EReal) := by
  rw [← EReal.coe_one, show b ^ 10 = b * b * (b * b * (b * b) * (b * b * (b * b))) by ring]
  norm_cast

/-- The reference's change of the weight. -/
theorem change_of_quotients {g g' w w' m m' v v' b c : EReal} (hg : g = g') (hw : w = w') (hm : m = m') (hv : v = v')
    (hb : b = ((9 / 10 : ℝ) : EReal)) (hc : c = ((999 / 1000 : ℝ) : EReal)) :
    Ideal.ofBits .f32 0xBA83126F#32
      * (Ideal.div (Ideal.div (Ideal.ofBits .f32 0x3F666666#32 * m + Ideal.ofBits .f32 0x3DCCCCCD#32 * g)
            (1 - b * b * (b * b * (b * b) * (b * b * (b * b)))))
          (Ideal.sqrt (Ideal.div (Ideal.ofBits .f32 0x3F7FBE77#32 * v + Ideal.ofBits .f32 0x3A83126F#32 * (g * g))
              (1 - c * c * (c * c * (c * c) * (c * c * (c * c)))))
            + Ideal.ofBits .f32 0x322BCC77#32)
        + Ideal.ofBits .f32 0x3C23D70A#32 * w) = change g' w' m' v' := by
  subst hg hw hm hv hb hc
  rw [less_tenth_power, less_tenth_power, show (1 - (9 / 10) ^ 10 : ℝ) = 6513215599 / 10000000000 by norm_num,
    show (1 - (999 / 1000) ^ 10 : ℝ) = 9955119790251790119955009999 / 1000000000000000000000000000000 by norm_num]
  rfl

/-- The gradient of stacked layers: at each entry the sum of the parts. -/
def total {n s r c : ℕ} (x : (⟨4, ![n, s, r, c]⟩ : Shape).Idx → EReal) (y : (⟨3, ![n, r, c]⟩ : Shape).Idx) : EReal :=
  ∑ q : Fin s, x (ix4 (y 0) q (y 1) (y 2))

/-- The gradient of layers given one by one: at each entry the sum of that layer's parts. -/
def totals {n s r c : ℕ} (x : Fin n → (⟨3, ![s, r, c]⟩ : Shape).Idx → EReal) (y : (⟨3, ![n, r, c]⟩ : Shape).Idx) : EReal :=
  ∑ q : Fin s, x (y 0) (ix3 q (y 1) (y 2))

/-- The four arrays: the gradient, the weight's change and the two moments. -/
def changes {ι : Type} (g w m v : ι → EReal) (y : ι) : EReal := change (g y) (w y) (m y) (v y)
def firsts {ι : Type} (g m : ι → EReal) (y : ι) : EReal := first (g y) (m y)
def seconds {ι : Type} (g v : ι → EReal) (y : ι) : EReal := second (g y) (v y)

/-- An entry of a block of one layer. -/
theorem row {r c : ℕ} (y : (⟨3, ![1, r, c]⟩ : Shape).Idx) : ix3 (n0 := 1) (n1 := r) (n2 := c) 0 (y 1) (y 2) = y := by
  rw [← Fin.fin_one_eq_zero (y 0)]
  exact ix3_eta y

/-- Eight parts added one by one are their sum. -/
theorem sum8 {a0 a1 a2 a3 a4 a5 a6 a7 : EReal} {p : Fin 8 → EReal} (h0 : a0 = p 0) (h1 : a1 = p 1) (h2 : a2 = p 2) (h3 : a3 = p 3)
    (h4 : a4 = p 4) (h5 : a5 = p 5) (h6 : a6 = p 6) (h7 : a7 = p 7) :
    a0 + a1 + a2 + a3 + a4 + a5 + a6 + a7 = ∑ q, p q := by
  rw [Fin.sum_univ_eight, h0, h1, h2, h3, h4, h5, h6, h7]

/-- Sixteen parts added one by one are their sum. -/
theorem sum16 {a0 a1 a2 a3 a4 a5 a6 a7 a8 a9 a10 a11 a12 a13 a14 a15 : EReal} {p : Fin 16 → EReal}
    (h0 : a0 = p 0) (h1 : a1 = p 1) (h2 : a2 = p 2) (h3 : a3 = p 3) (h4 : a4 = p 4) (h5 : a5 = p 5) (h6 : a6 = p 6) (h7 : a7 = p 7)
    (h8 : a8 = p 8) (h9 : a9 = p 9) (h10 : a10 = p 10) (h11 : a11 = p 11) (h12 : a12 = p 12) (h13 : a13 = p 13) (h14 : a14 = p 14)
    (h15 : a15 = p 15) :
    a0 + a1 + a2 + a3 + a4 + a5 + a6 + a7 + a8 + a9 + a10 + a11 + a12 + a13 + a14 + a15 = ∑ q, p q := by
  subst h0 h1 h2 h3 h4 h5 h6 h7 h8 h9 h10 h11 h12 h13 h14 h15
  simp only [Fin.sum_univ_castSucc, Fin.sum_univ_zero, zero_add]
  rfl

/-- Eight numbers added one by one. -/
def added8 (f : Fin 8 → EReal) : EReal := f 0 + f 1 + f 2 + f 3 + f 4 + f 5 + f 6 + f 7

/-- Eight parts of one layer added one by one are an entry of the gradient. -/
theorem added8_of {n r c : ℕ} {f : Fin 8 → EReal} {x : Fin n → (⟨3, ![8, r, c]⟩ : Shape).Idx → EReal} {i : (⟨3, ![n, r, c]⟩ : Shape).Idx}
    (k : Fin n) (hk : i 0 = k) (h : ∀ q, f q = x k (ix3 q (i 1) (i 2))) : added8 f = totals x i := by
  unfold added8 totals
  rw [Fin.sum_univ_eight, h, h, h, h, h, h, h, h, hk]

end Cert.Update

end
end
-- ==== Proof.AdamwSmall.lean ====
module

public import proofs.«01_k».proof.Defs
public import proofs.«01_k».proof.Proof.Update
public import proofs.«01_k».proof.Proof.Gen.AdamwSmallIdeal.Value
public import proofs.«01_k».proof.Proof.Gen.AdamwSmallRefIdeal.Run
public import proofs.«01_k».proof.Proof.Gen.AdamwSmallRefIdeal.Read

/-! # The optimiser's step of the small sharded parameters -/

set_option maxRecDepth 16384

noncomputable section

open Idealize.ShloMosaic Idealize.ShloMosaic.TcCoe Idealize.SL.Sem
open Idealize.ShloMosaic.Pipeline (Dat)
open Cert.Update

@[expose] public section

namespace Cert.AdamwSmallIdeal

open Cert.AdamwSmallIdeal.Gen

variable (m : (ℓ : Loc nD τ sig) → Buf (Elt Ideal) ℓ) (c : Dev nD)

theorem c1 : Named.named (F := Ideal) κ "c1" (φ := .f32) 0x3FC48605#32 = ((10000000000 / 6513215599 : ℝ) : EReal) :=
  IdealRules.named_const.ideal_named_scalar _ _ _ _ rfl
theorem c2 : Named.named (F := Ideal) κ "c2" (φ := .f32) 0x42C8E6D3#32
    = ((1000000000000000000000000000000 / 9955119790251790119955009999 : ℝ) : EReal) :=
  IdealRules.named_const.ideal_named_scalar _ _ _ _ rfl

/-- A device's part of a block lies where the results' block does. -/
theorem part (t : Fin cfg0.N) (q : Fin 8) (y : S1x168x128.Idx) : (win0_0.blk t).view.emb (ix4 0 q (y 1) (y 2))
    = ix4 ((win0_7.blk t).view.emb y 0) q ((win0_7.blk t).view.emb y 1) ((win0_7.blk t).view.emb y 2) := by
  have e : ∀ t : Fin cfg0.N, win0_0.index t = ![win0_7.index t 0, 0, win0_7.index t 1, win0_7.index t 2] :=
    (by decide +kernel : ∀ t : Fin grid0.N, _)
  blk_ext [e]

/-- The kernel's blocks of weight and moments, read where the results' block lies. -/
theorem block1 (t : Fin cfg0.N) (y : S1x168x128.Idx) : iblk m c 1 t y = m ((c : Thread nD τ).loc main_arg1) ((win0_7.blk t).view.emb y) := by
  have e : ∀ t : Fin cfg0.N, win0_1.index t = win0_7.index t := (by decide +kernel : ∀ t : Fin grid0.N, win0_1.index t = win0_7.index t)
  blk_simp [iblk]
  rw [V_main_arg1]
  refine congrArg _ ?_
  blk_ext [e]
theorem block2 (t : Fin cfg0.N) (y : S1x168x128.Idx) : iblk m c 2 t y = m ((c : Thread nD τ).loc main_arg2) ((win0_7.blk t).view.emb y) := by
  have e : ∀ t : Fin cfg0.N, win0_2.index t = win0_7.index t := (by decide +kernel : ∀ t : Fin grid0.N, win0_2.index t = win0_7.index t)
  blk_simp [iblk]
  rw [V_main_arg2]
  refine congrArg _ ?_
  blk_ext [e]
theorem block3 (t : Fin cfg0.N) (y : S1x168x128.Idx) : iblk m c 3 t y = m ((c : Thread nD τ).loc main_arg3) ((win0_7.blk t).view.emb y) := by
  have e : ∀ t : Fin cfg0.N, win0_3.index t = win0_7.index t := (by decide +kernel : ∀ t : Fin grid0.N, win0_3.index t = win0_7.index t)
  blk_simp [iblk]
  rw [V_main_arg3]
  refine congrArg _ ?_
  blk_ext [e]

/-- The results' blocks lie at one place. -/
theorem place4 (t : Fin cfg0.N) (y : S1x168x128.Idx) : (win0_4.blk t).view.emb y = (win0_7.blk t).view.emb y := by
  have e : ∀ t : Fin cfg0.N, win0_4.index t = win0_7.index t := (by decide +kernel : ∀ t : Fin grid0.N, win0_4.index t = win0_7.index t)
  blk_ext [e]
theorem place5 (t : Fin cfg0.N) (y : S1x168x128.Idx) : (win0_5.blk t).view.emb y = (win0_7.blk t).view.emb y := by
  have e : ∀ t : Fin cfg0.N, win0_5.index t = win0_7.index t := (by decide +kernel : ∀ t : Fin grid0.N, win0_5.index t = win0_7.index t)
  blk_ext [e]
theorem place6 (t : Fin cfg0.N) (y : S1x168x128.Idx) : (win0_6.blk t).view.emb y = (win0_7.blk t).view.emb y := by
  have e : ∀ t : Fin cfg0.N, win0_6.index t = win0_7.index t := (by decide +kernel : ∀ t : Fin grid0.N, win0_6.index t = win0_7.index t)
  blk_ext [e]

/-- The kernel's sum of a block's parts. -/
theorem parts (t : Fin cfg0.N) (y : S1x168x128.Idx) : k0_pay10 (iblk m c 0 t) (iblk m c 1 t) (iblk m c 2 t) (iblk m c 3 t) (ix2 (y 1) (y 2))
    = total (n := 1) (s := 8) (r := 168) (c := 128) (m ((c : Thread nD τ).loc main_arg0)) ((win0_7.blk t).view.emb y) := by
  unfold total
  pointwise [k0_pay10, k0_pay2]
  blk_simp [iblk]
  rw [V_main_arg0]
  exact sum8 (congrArg _ (part t 0 y)) (congrArg _ (part t 1 y)) (congrArg _ (part t 2 y)) (congrArg _ (part t 3 y)) (congrArg _ (part t 4 y)) (congrArg _ (part t 5 y)) (congrArg _ (part t 6 y)) (congrArg _ (part t 7 y))

/-- The results of the run. -/
theorem gradient : (dats m 0 c).arrAt 4 cfg0.N = total (n := 1) (s := 8) (r := 168) (c := 128) (m ((c : Thread nD τ).loc main_arg0)) := by
  refine (dats m 0 c).arrAt_eq_of_covers 4 _ (by decide +kernel) fun t _ y => ?_
  blk_simp
  rw [after0_4]
  frame_out
  pointwise [k0_pay1, k0_pay3, k0_pay4, k0_pay5, k0_pay6, k0_pay7, k0_pay8, k0_pay9]
  exact (parts m c t y).trans (congrArg (total _) (place4 t y).symm)

theorem change_of_weight : (dats m 0 c).arrAt 5 cfg0.N = changes (total (n := 1) (s := 8) (r := 168) (c := 128) (m ((c : Thread nD τ).loc main_arg0)))
    (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  pointwise [k0_pay1, k0_pay3, k0_pay4, k0_pay5, k0_pay6, k0_pay7, k0_pay8, k0_pay9]
  exact (change_of_products (parts m c t y) (block1 m c t y) (block2 m c t y) (block3 m c t y) c1 c2).trans
    (congrArg (changes (total _) _ _ _) (place5 t y).symm)

theorem first_moment : (dats m 0 c).arrAt 6 cfg0.N = firsts (total (n := 1) (s := 8) (r := 168) (c := 128) (m ((c : Thread nD τ).loc main_arg0)))
    (m ((c : Thread nD τ).loc main_arg2)) := by
  refine (dats m 0 c).arrAt_eq_of_covers 6 _ (by decide +kernel) fun t _ y => ?_
  blk_simp
  rw [after0_6]
  frame_out
  pointwise [k0_pay1, k0_pay3, k0_pay4, k0_pay5, k0_pay6, k0_pay7, k0_pay8, k0_pay9]
  exact (first_of (parts m c t y) (block2 m c t y)).trans (congrArg (firsts (total _) _) (place6 t y).symm)

theorem second_moment : (dats m 0 c).arrAt 7 cfg0.N = seconds (total (n := 1) (s := 8) (r := 168) (c := 128) (m ((c : Thread nD τ).loc main_arg0)))
    (m ((c : Thread nD τ).loc main_arg3)) := by
  refine (dats m 0 c).arrAt_eq_of_covers 7 _ (by decide +kernel) fun t _ y => ?_
  blk_simp
  rw [after0_7]
  frame_out
  pointwise [k0_pay1, k0_pay3, k0_pay4, k0_pay5, k0_pay6, k0_pay7, k0_pay8, k0_pay9]
  exact second_of (parts m c t y) (block3 m c t y)

end Cert.AdamwSmallIdeal

namespace Cert.AdamwSmallRefIdeal.Read

variable (x0 : FVec Ideal S1x8x168x128 .f32) (x1 x2 x3 : FVec Ideal S1x168x128 .f32)

theorem gradient : val_main_v0 (F := Ideal) x0 = total (n := 1) (s := 8) (r := 168) (c := 128) x0 := by
  funext y
  unfold total
  pointwise [val_main_v0, val_main_cst]
  refine Finset.sum_congr rfl fun q _ => congrArg _ ?_
  blk_ext []

theorem first_moment : val_main_v5 (F := Ideal) x0 x2 = firsts (total (n := 1) (s := 8) (r := 168) (c := 128) x0) x2 := by
  funext y
  unfold firsts
  rw [← gradient]
  pointwise [val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst, val_main_cst_0, val_main_cst_1, val_main_cst_2, val_main_cst_3, val_main_cst_4, val_main_cst_5, val_main_cst_6, val_main_cst_7, val_main_cst_8, val_main_cst_9, val_main_cst_10, val_main_cst_11, val_main_cst_12]
  exact first_of rfl rfl

theorem second_moment : val_main_v11 (F := Ideal) x0 x3 = seconds (total (n := 1) (s := 8) (r := 168) (c := 128) x0) x3 := by
  funext y
  unfold seconds
  rw [← gradient]
  pointwise [val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst, val_main_cst_0, val_main_cst_1, val_main_cst_2, val_main_cst_3, val_main_cst_4, val_main_cst_5, val_main_cst_6, val_main_cst_7, val_main_cst_8, val_main_cst_9, val_main_cst_10, val_main_cst_11, val_main_cst_12]
  exact second_of rfl rfl

theorem change_of_weight : val_main_v36 (F := Ideal) x0 x1 x2 x3 = changes (total (n := 1) (s := 8) (r := 168) (c := 128) x0) x1 x2 x3 := by
  funext y
  unfold changes
  rw [← gradient]
  pointwise [val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst, val_main_cst_0, val_main_cst_1, val_main_cst_2, val_main_cst_3, val_main_cst_4, val_main_cst_5, val_main_cst_6, val_main_cst_7, val_main_cst_8, val_main_cst_9, val_main_cst_10, val_main_cst_11, val_main_cst_12]
  exact change_of_quotients rfl rfl rfl rfl decay1 decay2

end Cert.AdamwSmallRefIdeal.Read

namespace Cert.AdamwSmallIdeal

open Cert.AdamwSmallIdeal.Gen

/-- The reference ends without fault, its arguments unchanged. -/
theorem frame_reference : Cert.quiescent_AdamwSmallRefIdeal := fun m ρ _ =>
  (θ_run Cert.AdamwSmallRefIdeal.defs _ _).mono (fun r h => ⟨fun c => (h c).2.2.2.2, sem_eq_zero_of_no_sems (by decide) r.2⟩)
    (Cert.AdamwSmallRefIdeal.Value.run (F := Ideal) m ρ)

/-- The two named constants. -/
theorem preserves : Cert.preserves_AdamwSmall_AdamwSmallIdeal :=
  ⟨IdealRules.named_const.statement Cert.AdamwSmallIdeal.κ "c1" .f32 0x3FC48605#32 ((10000000000 / 6513215599 : ℝ) : EReal) rfl,
    IdealRules.named_const.statement Cert.AdamwSmallIdeal.κ "c2" .f32 0x42C8E6D3#32
      ((1000000000000000000000000000000 / 9955119790251790119955009999 : ℝ) : EReal) rfl⟩

/-- Kernel and reference end with equal results over the extended reals. -/
theorem algebraic : Cert.algebraic_AdamwSmallIdeal_AdamwSmallRefIdeal := by
  intro m ρ m' ρ' _ hag
  refine ⟨_, _, _, _, Value.run_blocks m ρ, ?_⟩
  refine (θ_run Cert.AdamwSmallRefIdeal.defs _ _).mono (fun r h c => ⟨(h c).1.trans ?_, (h c).2.1.trans ?_, (h c).2.2.1.trans ?_,
    (h c).2.2.2.1.trans ?_, (h c).2.2.2.2⟩) (Cert.AdamwSmallRefIdeal.Value.run (F := Ideal) m' ρ')
  · rw [(hag c).1]
    exact (Cert.AdamwSmallRefIdeal.Read.gradient _).trans (gradient m c).symm
  · rw [(hag c).1, (hag c).2.1, (hag c).2.2.1, (hag c).2.2.2]
    exact (Cert.AdamwSmallRefIdeal.Read.change_of_weight _ _ _ _).trans (change_of_weight m c).symm
  · rw [(hag c).1, (hag c).2.2.1]
    exact (Cert.AdamwSmallRefIdeal.Read.first_moment _ _).trans (first_moment m c).symm
  · rw [(hag c).1, (hag c).2.2.2]
    exact (Cert.AdamwSmallRefIdeal.Read.second_moment _ _).trans (second_moment m c).symm

end Cert.AdamwSmallIdeal

end
end
-- ==== Proof.AdamwRepl.lean ====
module

public import proofs.«01_k».proof.Defs
public import proofs.«01_k».proof.Proof.Update
public import proofs.«01_k».proof.Proof.Gen.AdamwReplIdeal.Value
public import proofs.«01_k».proof.Proof.Gen.AdamwReplRefIdeal.Run
public import proofs.«01_k».proof.Proof.Gen.AdamwReplRefIdeal.Read

/-! # The optimiser's step of the replicated parameters -/

set_option maxRecDepth 16384

noncomputable section

open Idealize.ShloMosaic Idealize.ShloMosaic.TcCoe Idealize.SL.Sem
open Idealize.ShloMosaic.Pipeline (Dat)
open Cert.Update

@[expose] public section

namespace Cert.AdamwReplIdeal

open Cert.AdamwReplIdeal.Gen

variable (m : (ℓ : Loc nD τ sig) → Buf (Elt Ideal) ℓ) (c : Dev nD)

theorem c1 : Named.named (F := Ideal) κ "c1" (φ := .f32) 0x3FC48605#32 = ((10000000000 / 6513215599 : ℝ) : EReal) :=
  IdealRules.named_const.ideal_named_scalar _ _ _ _ rfl
theorem c2 : Named.named (F := Ideal) κ "c2" (φ := .f32) 0x42C8E6D3#32
    = ((1000000000000000000000000000000 / 9955119790251790119955009999 : ℝ) : EReal) :=
  IdealRules.named_const.ideal_named_scalar _ _ _ _ rfl

/-- A device's part of a block lies where the results' block does. -/
theorem part (t : Fin cfg0.N) (q : Fin 8) (y : S1x256x128.Idx) : (win0_0.blk t).view.emb (ix4 0 q (y 1) (y 2))
    = ix4 ((win0_7.blk t).view.emb y 0) q ((win0_7.blk t).view.emb y 1) ((win0_7.blk t).view.emb y 2) := by
  have e : ∀ t : Fin cfg0.N, win0_0.index t = ![win0_7.index t 0, 0, win0_7.index t 1, win0_7.index t 2] :=
    (by decide +kernel : ∀ t : Fin grid0.N, _)
  blk_ext [e]

/-- The kernel's blocks of weight and moments, read where the results' block lies. -/
theorem block1 (t : Fin cfg0.N) (y : S1x256x128.Idx) : iblk m c 1 t y = m ((c : Thread nD τ).loc main_arg1) ((win0_7.blk t).view.emb y) := by
  have e : ∀ t : Fin cfg0.N, win0_1.index t = win0_7.index t := (by decide +kernel : ∀ t : Fin grid0.N, win0_1.index t = win0_7.index t)
  blk_simp [iblk]
  rw [V_main_arg1]
  refine congrArg _ ?_
  blk_ext [e]
theorem block2 (t : Fin cfg0.N) (y : S1x256x128.Idx) : iblk m c 2 t y = m ((c : Thread nD τ).loc main_arg2) ((win0_7.blk t).view.emb y) := by
  have e : ∀ t : Fin cfg0.N, win0_2.index t = win0_7.index t := (by decide +kernel : ∀ t : Fin grid0.N, win0_2.index t = win0_7.index t)
  blk_simp [iblk]
  rw [V_main_arg2]
  refine congrArg _ ?_
  blk_ext [e]
theorem block3 (t : Fin cfg0.N) (y : S1x256x128.Idx) : iblk m c 3 t y = m ((c : Thread nD τ).loc main_arg3) ((win0_7.blk t).view.emb y) := by
  have e : ∀ t : Fin cfg0.N, win0_3.index t = win0_7.index t := (by decide +kernel : ∀ t : Fin grid0.N, win0_3.index t = win0_7.index t)
  blk_simp [iblk]
  rw [V_main_arg3]
  refine congrArg _ ?_
  blk_ext [e]

/-- The results' blocks lie at one place. -/
theorem place4 (t : Fin cfg0.N) (y : S1x256x128.Idx) : (win0_4.blk t).view.emb y = (win0_7.blk t).view.emb y := by
  have e : ∀ t : Fin cfg0.N, win0_4.index t = win0_7.index t := (by decide +kernel : ∀ t : Fin grid0.N, win0_4.index t = win0_7.index t)
  blk_ext [e]
theorem place5 (t : Fin cfg0.N) (y : S1x256x128.Idx) : (win0_5.blk t).view.emb y = (win0_7.blk t).view.emb y := by
  have e : ∀ t : Fin cfg0.N, win0_5.index t = win0_7.index t := (by decide +kernel : ∀ t : Fin grid0.N, win0_5.index t = win0_7.index t)
  blk_ext [e]
theorem place6 (t : Fin cfg0.N) (y : S1x256x128.Idx) : (win0_6.blk t).view.emb y = (win0_7.blk t).view.emb y := by
  have e : ∀ t : Fin cfg0.N, win0_6.index t = win0_7.index t := (by decide +kernel : ∀ t : Fin grid0.N, win0_6.index t = win0_7.index t)
  blk_ext [e]

/-- The kernel's sum of a block's parts. -/
theorem parts (t : Fin cfg0.N) (y : S1x256x128.Idx) : k0_pay10 (iblk m c 0 t) (iblk m c 1 t) (iblk m c 2 t) (iblk m c 3 t) (ix2 (y 1) (y 2))
    = total (n := 1) (s := 8) (r := 2304) (c := 128) (m ((c : Thread nD τ).loc main_arg0)) ((win0_7.blk t).view.emb y) := by
  unfold total
  pointwise [k0_pay10, k0_pay2]
  blk_simp [iblk]
  rw [V_main_arg0]
  exact sum8 (congrArg _ (part t 0 y)) (congrArg _ (part t 1 y)) (congrArg _ (part t 2 y)) (congrArg _ (part t 3 y)) (congrArg _ (part t 4 y)) (congrArg _ (part t 5 y)) (congrArg _ (part t 6 y)) (congrArg _ (part t 7 y))

/-- The results of the run. -/
theorem gradient : (dats m 0 c).arrAt 4 cfg0.N = total (n := 1) (s := 8) (r := 2304) (c := 128) (m ((c : Thread nD τ).loc main_arg0)) := by
  refine (dats m 0 c).arrAt_eq_of_covers 4 _ (by decide +kernel) fun t _ y => ?_
  blk_simp
  rw [after0_4]
  frame_out
  pointwise [k0_pay1, k0_pay3, k0_pay4, k0_pay5, k0_pay6, k0_pay7, k0_pay8, k0_pay9]
  exact (parts m c t y).trans (congrArg (total _) (place4 t y).symm)

theorem change_of_weight : (dats m 0 c).arrAt 5 cfg0.N = changes (total (n := 1) (s := 8) (r := 2304) (c := 128) (m ((c : Thread nD τ).loc main_arg0)))
    (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  pointwise [k0_pay1, k0_pay3, k0_pay4, k0_pay5, k0_pay6, k0_pay7, k0_pay8, k0_pay9]
  exact (change_of_products (parts m c t y) (block1 m c t y) (block2 m c t y) (block3 m c t y) c1 c2).trans
    (congrArg (changes (total _) _ _ _) (place5 t y).symm)

theorem first_moment : (dats m 0 c).arrAt 6 cfg0.N = firsts (total (n := 1) (s := 8) (r := 2304) (c := 128) (m ((c : Thread nD τ).loc main_arg0)))
    (m ((c : Thread nD τ).loc main_arg2)) := by
  refine (dats m 0 c).arrAt_eq_of_covers 6 _ (by decide +kernel) fun t _ y => ?_
  blk_simp
  rw [after0_6]
  frame_out
  pointwise [k0_pay1, k0_pay3, k0_pay4, k0_pay5, k0_pay6, k0_pay7, k0_pay8, k0_pay9]
  exact (first_of (parts m c t y) (block2 m c t y)).trans (congrArg (firsts (total _) _) (place6 t y).symm)

theorem second_moment : (dats m 0 c).arrAt 7 cfg0.N = seconds (total (n := 1) (s := 8) (r := 2304) (c := 128) (m ((c : Thread nD τ).loc main_arg0)))
    (m ((c : Thread nD τ).loc main_arg3)) := by
  refine (dats m 0 c).arrAt_eq_of_covers 7 _ (by decide +kernel) fun t _ y => ?_
  blk_simp
  rw [after0_7]
  frame_out
  pointwise [k0_pay1, k0_pay3, k0_pay4, k0_pay5, k0_pay6, k0_pay7, k0_pay8, k0_pay9]
  exact second_of (parts m c t y) (block3 m c t y)

end Cert.AdamwReplIdeal

namespace Cert.AdamwReplRefIdeal.Read

variable (x0 : FVec Ideal S1x8x2304x128 .f32) (x1 x2 x3 : FVec Ideal S1x2304x128 .f32)

theorem gradient : val_main_v0 (F := Ideal) x0 = total (n := 1) (s := 8) (r := 2304) (c := 128) x0 := by
  funext y
  unfold total
  pointwise [val_main_v0, val_main_cst]
  refine Finset.sum_congr rfl fun q _ => congrArg _ ?_
  blk_ext []

theorem first_moment : val_main_v5 (F := Ideal) x0 x2 = firsts (total (n := 1) (s := 8) (r := 2304) (c := 128) x0) x2 := by
  funext y
  unfold firsts
  rw [← gradient]
  pointwise [val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst, val_main_cst_0, val_main_cst_1, val_main_cst_2, val_main_cst_3, val_main_cst_4, val_main_cst_5, val_main_cst_6, val_main_cst_7, val_main_cst_8, val_main_cst_9, val_main_cst_10, val_main_cst_11, val_main_cst_12]
  exact first_of rfl rfl

theorem second_moment : val_main_v11 (F := Ideal) x0 x3 = seconds (total (n := 1) (s := 8) (r := 2304) (c := 128) x0) x3 := by
  funext y
  unfold seconds
  rw [← gradient]
  pointwise [val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst, val_main_cst_0, val_main_cst_1, val_main_cst_2, val_main_cst_3, val_main_cst_4, val_main_cst_5, val_main_cst_6, val_main_cst_7, val_main_cst_8, val_main_cst_9, val_main_cst_10, val_main_cst_11, val_main_cst_12]
  exact second_of rfl rfl

theorem change_of_weight : val_main_v36 (F := Ideal) x0 x1 x2 x3 = changes (total (n := 1) (s := 8) (r := 2304) (c := 128) x0) x1 x2 x3 := by
  funext y
  unfold changes
  rw [← gradient]
  pointwise [val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst, val_main_cst_0, val_main_cst_1, val_main_cst_2, val_main_cst_3, val_main_cst_4, val_main_cst_5, val_main_cst_6, val_main_cst_7, val_main_cst_8, val_main_cst_9, val_main_cst_10, val_main_cst_11, val_main_cst_12]
  exact change_of_quotients rfl rfl rfl rfl decay1 decay2

end Cert.AdamwReplRefIdeal.Read

namespace Cert.AdamwReplIdeal

open Cert.AdamwReplIdeal.Gen

/-- The reference ends without fault, its arguments unchanged. -/
theorem frame_reference : Cert.quiescent_AdamwReplRefIdeal := fun m ρ _ =>
  (θ_run Cert.AdamwReplRefIdeal.defs _ _).mono (fun r h => ⟨fun c => (h c).2.2.2.2, sem_eq_zero_of_no_sems (by decide) r.2⟩)
    (Cert.AdamwReplRefIdeal.Value.run (F := Ideal) m ρ)

/-- The two named constants. -/
theorem preserves : Cert.preserves_AdamwRepl_AdamwReplIdeal :=
  ⟨IdealRules.named_const.statement Cert.AdamwReplIdeal.κ "c1" .f32 0x3FC48605#32 ((10000000000 / 6513215599 : ℝ) : EReal) rfl,
    IdealRules.named_const.statement Cert.AdamwReplIdeal.κ "c2" .f32 0x42C8E6D3#32
      ((1000000000000000000000000000000 / 9955119790251790119955009999 : ℝ) : EReal) rfl⟩

/-- Kernel and reference end with equal results over the extended reals. -/
theorem algebraic : Cert.algebraic_AdamwReplIdeal_AdamwReplRefIdeal := by
  intro m ρ m' ρ' _ hag
  refine ⟨_, _, _, _, Value.run_blocks m ρ, ?_⟩
  refine (θ_run Cert.AdamwReplRefIdeal.defs _ _).mono (fun r h c => ⟨(h c).1.trans ?_, (h c).2.1.trans ?_, (h c).2.2.1.trans ?_,
    (h c).2.2.2.1.trans ?_, (h c).2.2.2.2⟩) (Cert.AdamwReplRefIdeal.Value.run (F := Ideal) m' ρ')
  · rw [(hag c).1]
    exact (Cert.AdamwReplRefIdeal.Read.gradient _).trans (gradient m c).symm
  · rw [(hag c).1, (hag c).2.1, (hag c).2.2.1, (hag c).2.2.2]
    exact (Cert.AdamwReplRefIdeal.Read.change_of_weight _ _ _ _).trans (change_of_weight m c).symm
  · rw [(hag c).1, (hag c).2.2.1]
    exact (Cert.AdamwReplRefIdeal.Read.first_moment _ _).trans (first_moment m c).symm
  · rw [(hag c).1, (hag c).2.2.2]
    exact (Cert.AdamwReplRefIdeal.Read.second_moment _ _).trans (second_moment m c).symm

end Cert.AdamwReplIdeal

end
end
-- ==== Proof.AdamwAdaW.lean ====
module

public import proofs.«01_k».proof.Defs
public import proofs.«01_k».proof.Proof.Update
public import proofs.«01_k».proof.Proof.Gen.AdamwAdaWIdeal.Value
public import proofs.«01_k».proof.Proof.Gen.AdamwAdaWRefIdeal.Run
public import proofs.«01_k».proof.Proof.Gen.AdamwAdaWRefIdeal.Read

/-! # The optimiser's step of the modulation's weights -/

set_option maxRecDepth 16384

noncomputable section

open Idealize.ShloMosaic Idealize.ShloMosaic.TcCoe Idealize.SL.Sem
open Idealize.ShloMosaic.Pipeline (Dat)
open Cert.Update

@[expose] public section

namespace Cert.AdamwAdaWIdeal

open Cert.AdamwAdaWIdeal.Gen

variable (m : (ℓ : Loc nD τ sig) → Buf (Elt Ideal) ℓ) (c : Dev nD)

theorem c1 : Named.named (F := Ideal) κ "c1" (φ := .f32) 0x3FC48605#32 = ((10000000000 / 6513215599 : ℝ) : EReal) :=
  IdealRules.named_const.ideal_named_scalar _ _ _ _ rfl
theorem c2 : Named.named (F := Ideal) κ "c2" (φ := .f32) 0x42C8E6D3#32
    = ((1000000000000000000000000000000 / 9955119790251790119955009999 : ℝ) : EReal) :=
  IdealRules.named_const.ideal_named_scalar _ _ _ _ rfl

/-- A device's part of a block lies where the results' block does. -/
theorem part (t : Fin cfg0.N) (q : Fin 1) (y : S1x128x768.Idx) : (win0_0.blk t).view.emb (ix4 0 q (y 1) (y 2))
    = ix4 ((win0_7.blk t).view.emb y 0) q ((win0_7.blk t).view.emb y 1) ((win0_7.blk t).view.emb y 2) := by
  have e : ∀ t : Fin cfg0.N, win0_0.index t = ![win0_7.index t 0, 0, win0_7.index t 1, win0_7.index t 2] :=
    (by decide +kernel : ∀ t : Fin grid0.N, _)
  blk_ext [e]

/-- The kernel's blocks of weight and moments, read where the results' block lies. -/
theorem block1 (t : Fin cfg0.N) (y : S1x128x768.Idx) : iblk m c 1 t y = m ((c : Thread nD τ).loc main_arg1) ((win0_7.blk t).view.emb y) := by
  have e : ∀ t : Fin cfg0.N, win0_1.index t = win0_7.index t := (by decide +kernel : ∀ t : Fin grid0.N, win0_1.index t = win0_7.index t)
  blk_simp [iblk]
  rw [V_main_arg1]
  refine congrArg _ ?_
  blk_ext [e]
theorem block2 (t : Fin cfg0.N) (y : S1x128x768.Idx) : iblk m c 2 t y = m ((c : Thread nD τ).loc main_arg2) ((win0_7.blk t).view.emb y) := by
  have e : ∀ t : Fin cfg0.N, win0_2.index t = win0_7.index t := (by decide +kernel : ∀ t : Fin grid0.N, win0_2.index t = win0_7.index t)
  blk_simp [iblk]
  rw [V_main_arg2]
  refine congrArg _ ?_
  blk_ext [e]
theorem block3 (t : Fin cfg0.N) (y : S1x128x768.Idx) : iblk m c 3 t y = m ((c : Thread nD τ).loc main_arg3) ((win0_7.blk t).view.emb y) := by
  have e : ∀ t : Fin cfg0.N, win0_3.index t = win0_7.index t := (by decide +kernel : ∀ t : Fin grid0.N, win0_3.index t = win0_7.index t)
  blk_simp [iblk]
  rw [V_main_arg3]
  refine congrArg _ ?_
  blk_ext [e]

/-- The results' blocks lie at one place. -/
theorem place4 (t : Fin cfg0.N) (y : S1x128x768.Idx) : (win0_4.blk t).view.emb y = (win0_7.blk t).view.emb y := by
  have e : ∀ t : Fin cfg0.N, win0_4.index t = win0_7.index t := (by decide +kernel : ∀ t : Fin grid0.N, win0_4.index t = win0_7.index t)
  blk_ext [e]
theorem place5 (t : Fin cfg0.N) (y : S1x128x768.Idx) : (win0_5.blk t).view.emb y = (win0_7.blk t).view.emb y := by
  have e : ∀ t : Fin cfg0.N, win0_5.index t = win0_7.index t := (by decide +kernel : ∀ t : Fin grid0.N, win0_5.index t = win0_7.index t)
  blk_ext [e]
theorem place6 (t : Fin cfg0.N) (y : S1x128x768.Idx) : (win0_6.blk t).view.emb y = (win0_7.blk t).view.emb y := by
  have e : ∀ t : Fin cfg0.N, win0_6.index t = win0_7.index t := (by decide +kernel : ∀ t : Fin grid0.N, win0_6.index t = win0_7.index t)
  blk_ext [e]

/-- The kernel's sum of a block's parts. -/
theorem parts (t : Fin cfg0.N) (y : S1x128x768.Idx) : iblk m c 0 t (ix4 0 0 (y 1) (y 2))
    = total (n := 4) (s := 1) (r := 1024) (c := 768) (m ((c : Thread nD τ).loc main_arg0)) ((win0_7.blk t).view.emb y) := by
  unfold total
  rw [Fin.sum_univ_one]
  blk_simp [iblk]
  rw [V_main_arg0]
  exact congrArg _ (part t 0 y)

/-- The results of the run. -/
theorem gradient : (dats m 0 c).arrAt 4 cfg0.N = total (n := 4) (s := 1) (r := 1024) (c := 768) (m ((c : Thread nD τ).loc main_arg0)) := by
  refine (dats m 0 c).arrAt_eq_of_covers 4 _ (by decide +kernel) fun t _ y => ?_
  blk_simp
  rw [after0_4]
  frame_out
  pointwise [k0_pay1, k0_pay2, k0_pay3, k0_pay4, k0_pay5, k0_pay6, k0_pay7, k0_pay8, k0_pay9]
  exact (parts m c t y).trans (congrArg (total _) (place4 t y).symm)

theorem change_of_weight : (dats m 0 c).arrAt 5 cfg0.N = changes (total (n := 4) (s := 1) (r := 1024) (c := 768) (m ((c : Thread nD τ).loc main_arg0)))
    (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  pointwise [k0_pay1, k0_pay2, k0_pay3, k0_pay4, k0_pay5, k0_pay6, k0_pay7, k0_pay8, k0_pay9]
  exact (change_of_products (parts m c t y) (block1 m c t y) (block2 m c t y) (block3 m c t y) c1 c2).trans
    (congrArg (changes (total _) _ _ _) (place5 t y).symm)

theorem first_moment : (dats m 0 c).arrAt 6 cfg0.N = firsts (total (n := 4) (s := 1) (r := 1024) (c := 768) (m ((c : Thread nD τ).loc main_arg0)))
    (m ((c : Thread nD τ).loc main_arg2)) := by
  refine (dats m 0 c).arrAt_eq_of_covers 6 _ (by decide +kernel) fun t _ y => ?_
  blk_simp
  rw [after0_6]
  frame_out
  pointwise [k0_pay1, k0_pay2, k0_pay3, k0_pay4, k0_pay5, k0_pay6, k0_pay7, k0_pay8, k0_pay9]
  exact (first_of (parts m c t y) (block2 m c t y)).trans (congrArg (firsts (total _) _) (place6 t y).symm)

theorem second_moment : (dats m 0 c).arrAt 7 cfg0.N = seconds (total (n := 4) (s := 1) (r := 1024) (c := 768) (m ((c : Thread nD τ).loc main_arg0)))
    (m ((c : Thread nD τ).loc main_arg3)) := by
  refine (dats m 0 c).arrAt_eq_of_covers 7 _ (by decide +kernel) fun t _ y => ?_
  blk_simp
  rw [after0_7]
  frame_out
  pointwise [k0_pay1, k0_pay2, k0_pay3, k0_pay4, k0_pay5, k0_pay6, k0_pay7, k0_pay8, k0_pay9]
  exact second_of (parts m c t y) (block3 m c t y)

end Cert.AdamwAdaWIdeal

namespace Cert.AdamwAdaWRefIdeal.Read

variable (x0 : FVec Ideal S4x1x1024x768 .f32) (x1 x2 x3 : FVec Ideal S4x1024x768 .f32)

theorem gradient : val_main_v0 (F := Ideal) x0 = total (n := 4) (s := 1) (r := 1024) (c := 768) x0 := by
  funext y
  unfold total
  pointwise [val_main_v0, val_main_cst]

theorem first_moment : val_main_v5 (F := Ideal) x0 x2 = firsts (total (n := 4) (s := 1) (r := 1024) (c := 768) x0) x2 := by
  funext y
  unfold firsts
  rw [← gradient]
  pointwise [val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst, val_main_cst_0, val_main_cst_1, val_main_cst_2, val_main_cst_3, val_main_cst_4, val_main_cst_5, val_main_cst_6, val_main_cst_7, val_main_cst_8, val_main_cst_9, val_main_cst_10, val_main_cst_11, val_main_cst_12]
  exact first_of rfl rfl

theorem second_moment : val_main_v11 (F := Ideal) x0 x3 = seconds (total (n := 4) (s := 1) (r := 1024) (c := 768) x0) x3 := by
  funext y
  unfold seconds
  rw [← gradient]
  pointwise [val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst, val_main_cst_0, val_main_cst_1, val_main_cst_2, val_main_cst_3, val_main_cst_4, val_main_cst_5, val_main_cst_6, val_main_cst_7, val_main_cst_8, val_main_cst_9, val_main_cst_10, val_main_cst_11, val_main_cst_12]
  exact second_of rfl rfl

theorem change_of_weight : val_main_v36 (F := Ideal) x0 x1 x2 x3 = changes (total (n := 4) (s := 1) (r := 1024) (c := 768) x0) x1 x2 x3 := by
  funext y
  unfold changes
  rw [← gradient]
  pointwise [val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst, val_main_cst_0, val_main_cst_1, val_main_cst_2, val_main_cst_3, val_main_cst_4, val_main_cst_5, val_main_cst_6, val_main_cst_7, val_main_cst_8, val_main_cst_9, val_main_cst_10, val_main_cst_11, val_main_cst_12]
  exact change_of_quotients rfl rfl rfl rfl decay1 decay2

end Cert.AdamwAdaWRefIdeal.Read

namespace Cert.AdamwAdaWIdeal

open Cert.AdamwAdaWIdeal.Gen

/-- The reference ends without fault, its arguments unchanged. -/
theorem frame_reference : Cert.quiescent_AdamwAdaWRefIdeal := fun m ρ _ =>
  (θ_run Cert.AdamwAdaWRefIdeal.defs _ _).mono (fun r h => ⟨fun c => (h c).2.2.2.2, sem_eq_zero_of_no_sems (by decide) r.2⟩)
    (Cert.AdamwAdaWRefIdeal.Value.run (F := Ideal) m ρ)

/-- The two named constants. -/
theorem preserves : Cert.preserves_AdamwAdaW_AdamwAdaWIdeal :=
  ⟨IdealRules.named_const.statement Cert.AdamwAdaWIdeal.κ "c1" .f32 0x3FC48605#32 ((10000000000 / 6513215599 : ℝ) : EReal) rfl,
    IdealRules.named_const.statement Cert.AdamwAdaWIdeal.κ "c2" .f32 0x42C8E6D3#32
      ((1000000000000000000000000000000 / 9955119790251790119955009999 : ℝ) : EReal) rfl⟩

/-- Kernel and reference end with equal results over the extended reals. -/
theorem algebraic : Cert.algebraic_AdamwAdaWIdeal_AdamwAdaWRefIdeal := by
  intro m ρ m' ρ' _ hag
  refine ⟨_, _, _, _, Value.run_blocks m ρ, ?_⟩
  refine (θ_run Cert.AdamwAdaWRefIdeal.defs _ _).mono (fun r h c => ⟨(h c).1.trans ?_, (h c).2.1.trans ?_, (h c).2.2.1.trans ?_,
    (h c).2.2.2.1.trans ?_, (h c).2.2.2.2⟩) (Cert.AdamwAdaWRefIdeal.Value.run (F := Ideal) m' ρ')
  · rw [(hag c).1]
    exact (Cert.AdamwAdaWRefIdeal.Read.gradient _).trans (gradient m c).symm
  · rw [(hag c).1, (hag c).2.1, (hag c).2.2.1, (hag c).2.2.2]
    exact (Cert.AdamwAdaWRefIdeal.Read.change_of_weight _ _ _ _).trans (change_of_weight m c).symm
  · rw [(hag c).1, (hag c).2.2.1]
    exact (Cert.AdamwAdaWRefIdeal.Read.first_moment _ _).trans (first_moment m c).symm
  · rw [(hag c).1, (hag c).2.2.2]
    exact (Cert.AdamwAdaWRefIdeal.Read.second_moment _ _).trans (second_moment m c).symm

end Cert.AdamwAdaWIdeal

end
end
-- ==== Proof.AdamwAdaB.lean ====
module

public import proofs.«01_k».proof.Defs
public import proofs.«01_k».proof.Proof.Update
public import proofs.«01_k».proof.Proof.Gen.AdamwAdaBIdeal.Value
public import proofs.«01_k».proof.Proof.Gen.AdamwAdaBRefIdeal.Run
public import proofs.«01_k».proof.Proof.Gen.AdamwAdaBRefIdeal.Read

/-! # The optimiser's step of the modulation's bias -/

set_option maxRecDepth 16384

noncomputable section

open Idealize.ShloMosaic Idealize.ShloMosaic.TcCoe Idealize.SL.Sem
open Idealize.ShloMosaic.Pipeline (Dat)
open Cert.Update

@[expose] public section

namespace Cert.AdamwAdaBIdeal

open Cert.AdamwAdaBIdeal.Gen

variable (m : (ℓ : Loc nD τ sig) → Buf (Elt Ideal) ℓ) (c : Dev nD)

theorem c1 : Named.named (F := Ideal) κ "c1" (φ := .f32) 0x3FC48605#32 = ((10000000000 / 6513215599 : ℝ) : EReal) :=
  IdealRules.named_const.ideal_named_scalar _ _ _ _ rfl
theorem c2 : Named.named (F := Ideal) κ "c2" (φ := .f32) 0x42C8E6D3#32
    = ((1000000000000000000000000000000 / 9955119790251790119955009999 : ℝ) : EReal) :=
  IdealRules.named_const.ideal_named_scalar _ _ _ _ rfl

/-- A device's part of a block lies where the results' block does. -/
theorem part (t : Fin cfg0.N) (q : Fin 16) (y : S1x4x6144.Idx) : (win0_0.blk t).view.emb (ix4 0 q (y 1) (y 2))
    = ix4 ((win0_7.blk t).view.emb y 0) q ((win0_7.blk t).view.emb y 1) ((win0_7.blk t).view.emb y 2) := by
  have e : ∀ t : Fin cfg0.N, win0_0.index t = ![win0_7.index t 0, 0, win0_7.index t 1, win0_7.index t 2] :=
    (by decide +kernel : ∀ t : Fin grid0.N, _)
  blk_ext [e]

/-- The kernel's blocks of weight and moments, read where the results' block lies. -/
theorem block1 (t : Fin cfg0.N) (y : S1x4x6144.Idx) : iblk m c 1 t y = m ((c : Thread nD τ).loc main_arg1) ((win0_7.blk t).view.emb y) := by
  have e : ∀ t : Fin cfg0.N, win0_1.index t = win0_7.index t := (by decide +kernel : ∀ t : Fin grid0.N, win0_1.index t = win0_7.index t)
  blk_simp [iblk]
  rw [V_main_arg1]
  refine congrArg _ ?_
  blk_ext [e]
theorem block2 (t : Fin cfg0.N) (y : S1x4x6144.Idx) : iblk m c 2 t y = m ((c : Thread nD τ).loc main_arg2) ((win0_7.blk t).view.emb y) := by
  have e : ∀ t : Fin cfg0.N, win0_2.index t = win0_7.index t := (by decide +kernel : ∀ t : Fin grid0.N, win0_2.index t = win0_7.index t)
  blk_simp [iblk]
  rw [V_main_arg2]
  refine congrArg _ ?_
  blk_ext [e]
theorem block3 (t : Fin cfg0.N) (y : S1x4x6144.Idx) : iblk m c 3 t y = m ((c : Thread nD τ).loc main_arg3) ((win0_7.blk t).view.emb y) := by
  have e : ∀ t : Fin cfg0.N, win0_3.index t = win0_7.index t := (by decide +kernel : ∀ t : Fin grid0.N, win0_3.index t = win0_7.index t)
  blk_simp [iblk]
  rw [V_main_arg3]
  refine congrArg _ ?_
  blk_ext [e]

/-- The results' blocks lie at one place. -/
theorem place4 (t : Fin cfg0.N) (y : S1x4x6144.Idx) : (win0_4.blk t).view.emb y = (win0_7.blk t).view.emb y := by
  have e : ∀ t : Fin cfg0.N, win0_4.index t = win0_7.index t := (by decide +kernel : ∀ t : Fin grid0.N, win0_4.index t = win0_7.index t)
  blk_ext [e]
theorem place5 (t : Fin cfg0.N) (y : S1x4x6144.Idx) : (win0_5.blk t).view.emb y = (win0_7.blk t).view.emb y := by
  have e : ∀ t : Fin cfg0.N, win0_5.index t = win0_7.index t := (by decide +kernel : ∀ t : Fin grid0.N, win0_5.index t = win0_7.index t)
  blk_ext [e]
theorem place6 (t : Fin cfg0.N) (y : S1x4x6144.Idx) : (win0_6.blk t).view.emb y = (win0_7.blk t).view.emb y := by
  have e : ∀ t : Fin cfg0.N, win0_6.index t = win0_7.index t := (by decide +kernel : ∀ t : Fin grid0.N, win0_6.index t = win0_7.index t)
  blk_ext [e]

/-- The kernel's sum of a block's parts. -/
theorem parts (t : Fin cfg0.N) (y : S1x4x6144.Idx) : k0_pay12 (iblk m c 0 t) (iblk m c 1 t) (iblk m c 2 t) (iblk m c 3 t) (ix2 (y 1) (y 2))
    = total (n := 1) (s := 16) (r := 4) (c := 6144) (m ((c : Thread nD τ).loc main_arg0)) ((win0_7.blk t).view.emb y) := by
  unfold total
  pointwise [k0_pay12, k0_pay3, k0_pay2]
  blk_simp [iblk]
  rw [V_main_arg0]
  exact sum16 (congrArg _ (part t 0 y)) (congrArg _ (part t 1 y)) (congrArg _ (part t 2 y)) (congrArg _ (part t 3 y)) (congrArg _ (part t 4 y)) (congrArg _ (part t 5 y)) (congrArg _ (part t 6 y)) (congrArg _ (part t 7 y)) (congrArg _ (part t 8 y)) (congrArg _ (part t 9 y)) (congrArg _ (part t 10 y)) (congrArg _ (part t 11 y)) (congrArg _ (part t 12 y)) (congrArg _ (part t 13 y)) (congrArg _ (part t 14 y)) (congrArg _ (part t 15 y))

/-- The results of the run. -/
theorem gradient : (dats m 0 c).arrAt 4 cfg0.N = total (n := 1) (s := 16) (r := 4) (c := 6144) (m ((c : Thread nD τ).loc main_arg0)) := by
  refine (dats m 0 c).arrAt_eq_of_covers 4 _ (by decide +kernel) fun t _ y => ?_
  blk_simp
  rw [after0_4]
  frame_out
  pointwise [k0_pay1, k0_pay4, k0_pay5, k0_pay6, k0_pay7, k0_pay8, k0_pay9, k0_pay10, k0_pay11, k0_pay13, k0_pay14]
  exact (parts m c t y).trans (congrArg (total _) (place4 t y).symm)

theorem change_of_weight : (dats m 0 c).arrAt 5 cfg0.N = changes (total (n := 1) (s := 16) (r := 4) (c := 6144) (m ((c : Thread nD τ).loc main_arg0)))
    (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  pointwise [k0_pay1, k0_pay4, k0_pay5, k0_pay6, k0_pay7, k0_pay8, k0_pay9, k0_pay10, k0_pay11, k0_pay13, k0_pay14]
  exact (change_of_products (parts m c t y) (block1 m c t y) ((congrArg _ (row y)).trans (block2 m c t y)) (block3 m c t y) c1 c2).trans
    (congrArg (changes (total _) _ _ _) (place5 t y).symm)

theorem first_moment : (dats m 0 c).arrAt 6 cfg0.N = firsts (total (n := 1) (s := 16) (r := 4) (c := 6144) (m ((c : Thread nD τ).loc main_arg0)))
    (m ((c : Thread nD τ).loc main_arg2)) := by
  refine (dats m 0 c).arrAt_eq_of_covers 6 _ (by decide +kernel) fun t _ y => ?_
  blk_simp
  rw [after0_6]
  frame_out
  pointwise [k0_pay1, k0_pay4, k0_pay5, k0_pay6, k0_pay7, k0_pay8, k0_pay9, k0_pay10, k0_pay11, k0_pay13, k0_pay14]
  exact (first_of (parts m c t y) ((congrArg _ (row y)).trans (block2 m c t y))).trans (congrArg (firsts (total _) _) (place6 t y).symm)

theorem second_moment : (dats m 0 c).arrAt 7 cfg0.N = seconds (total (n := 1) (s := 16) (r := 4) (c := 6144) (m ((c : Thread nD τ).loc main_arg0)))
    (m ((c : Thread nD τ).loc main_arg3)) := by
  refine (dats m 0 c).arrAt_eq_of_covers 7 _ (by decide +kernel) fun t _ y => ?_
  blk_simp
  rw [after0_7]
  frame_out
  pointwise [k0_pay1, k0_pay4, k0_pay5, k0_pay6, k0_pay7, k0_pay8, k0_pay9, k0_pay10, k0_pay11, k0_pay13, k0_pay14]
  exact second_of (parts m c t y) (block3 m c t y)

end Cert.AdamwAdaBIdeal

namespace Cert.AdamwAdaBRefIdeal.Read

variable (x0 : FVec Ideal S1x16x4x6144 .f32) (x1 x2 x3 : FVec Ideal S1x4x6144 .f32)

theorem gradient : val_main_v0 (F := Ideal) x0 = total (n := 1) (s := 16) (r := 4) (c := 6144) x0 := by
  funext y
  unfold total
  pointwise [val_main_v0, val_main_cst]
  refine Finset.sum_congr rfl fun q _ => congrArg _ ?_
  blk_ext []

theorem first_moment : val_main_v5 (F := Ideal) x0 x2 = firsts (total (n := 1) (s := 16) (r := 4) (c := 6144) x0) x2 := by
  funext y
  unfold firsts
  rw [← gradient]
  pointwise [val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst, val_main_cst_0, val_main_cst_1, val_main_cst_2, val_main_cst_3, val_main_cst_4, val_main_cst_5, val_main_cst_6, val_main_cst_7, val_main_cst_8, val_main_cst_9, val_main_cst_10, val_main_cst_11, val_main_cst_12]
  exact first_of rfl rfl

theorem second_moment : val_main_v11 (F := Ideal) x0 x3 = seconds (total (n := 1) (s := 16) (r := 4) (c := 6144) x0) x3 := by
  funext y
  unfold seconds
  rw [← gradient]
  pointwise [val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst, val_main_cst_0, val_main_cst_1, val_main_cst_2, val_main_cst_3, val_main_cst_4, val_main_cst_5, val_main_cst_6, val_main_cst_7, val_main_cst_8, val_main_cst_9, val_main_cst_10, val_main_cst_11, val_main_cst_12]
  exact second_of rfl rfl

theorem change_of_weight : val_main_v36 (F := Ideal) x0 x1 x2 x3 = changes (total (n := 1) (s := 16) (r := 4) (c := 6144) x0) x1 x2 x3 := by
  funext y
  unfold changes
  rw [← gradient]
  pointwise [val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst, val_main_cst_0, val_main_cst_1, val_main_cst_2, val_main_cst_3, val_main_cst_4, val_main_cst_5, val_main_cst_6, val_main_cst_7, val_main_cst_8, val_main_cst_9, val_main_cst_10, val_main_cst_11, val_main_cst_12]
  exact change_of_quotients rfl rfl rfl rfl decay1 decay2

end Cert.AdamwAdaBRefIdeal.Read

namespace Cert.AdamwAdaBIdeal

open Cert.AdamwAdaBIdeal.Gen

/-- The reference ends without fault, its arguments unchanged. -/
theorem frame_reference : Cert.quiescent_AdamwAdaBRefIdeal := fun m ρ _ =>
  (θ_run Cert.AdamwAdaBRefIdeal.defs _ _).mono (fun r h => ⟨fun c => (h c).2.2.2.2, sem_eq_zero_of_no_sems (by decide) r.2⟩)
    (Cert.AdamwAdaBRefIdeal.Value.run (F := Ideal) m ρ)

/-- The two named constants. -/
theorem preserves : Cert.preserves_AdamwAdaB_AdamwAdaBIdeal :=
  ⟨IdealRules.named_const.statement Cert.AdamwAdaBIdeal.κ "c1" .f32 0x3FC48605#32 ((10000000000 / 6513215599 : ℝ) : EReal) rfl,
    IdealRules.named_const.statement Cert.AdamwAdaBIdeal.κ "c2" .f32 0x42C8E6D3#32
      ((1000000000000000000000000000000 / 9955119790251790119955009999 : ℝ) : EReal) rfl⟩

/-- Kernel and reference end with equal results over the extended reals. -/
theorem algebraic : Cert.algebraic_AdamwAdaBIdeal_AdamwAdaBRefIdeal := by
  intro m ρ m' ρ' _ hag
  refine ⟨_, _, _, _, Value.run_blocks m ρ, ?_⟩
  refine (θ_run Cert.AdamwAdaBRefIdeal.defs _ _).mono (fun r h c => ⟨(h c).1.trans ?_, (h c).2.1.trans ?_, (h c).2.2.1.trans ?_,
    (h c).2.2.2.1.trans ?_, (h c).2.2.2.2⟩) (Cert.AdamwAdaBRefIdeal.Value.run (F := Ideal) m' ρ')
  · rw [(hag c).1]
    exact (Cert.AdamwAdaBRefIdeal.Read.gradient _).trans (gradient m c).symm
  · rw [(hag c).1, (hag c).2.1, (hag c).2.2.1, (hag c).2.2.2]
    exact (Cert.AdamwAdaBRefIdeal.Read.change_of_weight _ _ _ _).trans (change_of_weight m c).symm
  · rw [(hag c).1, (hag c).2.2.1]
    exact (Cert.AdamwAdaBRefIdeal.Read.first_moment _ _).trans (first_moment m c).symm
  · rw [(hag c).1, (hag c).2.2.2]
    exact (Cert.AdamwAdaBRefIdeal.Read.second_moment _ _).trans (second_moment m c).symm

end Cert.AdamwAdaBIdeal

end
end
-- ==== Proof.AdamwFfnUp.lean ====
module

public import proofs.«01_k».proof.Defs
public import proofs.«01_k».proof.Proof.Update
public import proofs.«01_k».proof.Proof.Gen.AdamwFfnUpIdeal.Value
public import proofs.«01_k».proof.Proof.Gen.AdamwFfnUpRefIdeal.Run
public import proofs.«01_k».proof.Proof.Gen.AdamwFfnUpRefIdeal.Read

/-! # The optimiser's step of the feed-forward's expanding weights -/

set_option maxRecDepth 16384

noncomputable section

open Idealize.ShloMosaic Idealize.ShloMosaic.TcCoe Idealize.SL.Sem
open Idealize.ShloMosaic.Pipeline (Dat)
open Cert.Update

@[expose] public section

namespace Cert.AdamwFfnUpIdeal

open Cert.AdamwFfnUpIdeal.Gen

variable (m : (ℓ : Loc nD τ sig) → Buf (Elt Ideal) ℓ) (c : Dev nD)

theorem c1 : Named.named (F := Ideal) κ "c1" (φ := .f32) 0x3FC48605#32 = ((10000000000 / 6513215599 : ℝ) : EReal) :=
  IdealRules.named_const.ideal_named_scalar _ _ _ _ rfl
theorem c2 : Named.named (F := Ideal) κ "c2" (φ := .f32) 0x42C8E6D3#32
    = ((1000000000000000000000000000000 / 9955119790251790119955009999 : ℝ) : EReal) :=
  IdealRules.named_const.ideal_named_scalar _ _ _ _ rfl

/-- The devices' parts, layer by layer. -/
def devices : Fin 4 → (⟨3, ![8, 704, 1024]⟩ : Shape).Idx → EReal := ![m ((c : Thread nD τ).loc main_arg0), m ((c : Thread nD τ).loc main_arg1), m ((c : Thread nD τ).loc main_arg2), m ((c : Thread nD τ).loc main_arg3)]

/-- A layer's parts, added at its points, are that layer's gradient. -/
theorem layer0 (t : Fin cfg0.N) (h : t.val < 11) (y : S1x64x1024.Idx) :
    added8 (fun q => iblk m c 0 t (ix3 (n0 := 8) (n1 := 64) (n2 := 1024) q (y 1) (y 2))) = totals (n := 4) (s := 8) (r := 704) (c := 1024) (devices m c) ((win0_10.blk t).view.emb y) := by
  have e : ∀ t : Fin cfg0.N, t.val < 11 → win0_0.index t = ![0, win0_10.index t 1, win0_10.index t 2] := (by decide +kernel : ∀ t : Fin grid0.N, _)
  have l : ∀ t : Fin cfg0.N, t.val < 11 → win0_10.index t 0 = 0 := (by decide +kernel : ∀ t : Fin grid0.N, _)
  refine added8_of 0 (Fin.ext ?_) fun q => ?_
  · blk_simp [l t h]
    rfl
  · show _ = m ((c : Thread nD τ).loc main_arg0) _
    blk_simp [iblk]
    rw [V_main_arg0]
    refine congrArg _ ?_
    blk_ext [e t h]
theorem layer1 (t : Fin cfg0.N) (h : t.val / 11 % 4 = 1) (y : S1x64x1024.Idx) :
    added8 (fun q => iblk m c 1 t (ix3 (n0 := 8) (n1 := 64) (n2 := 1024) q (y 1) (y 2))) = totals (n := 4) (s := 8) (r := 704) (c := 1024) (devices m c) ((win0_10.blk t).view.emb y) := by
  have e : ∀ t : Fin cfg0.N, t.val / 11 % 4 = 1 → win0_1.index t = ![0, win0_10.index t 1, win0_10.index t 2] := (by decide +kernel : ∀ t : Fin grid0.N, _)
  have l : ∀ t : Fin cfg0.N, t.val / 11 % 4 = 1 → win0_10.index t 0 = 1 := (by decide +kernel : ∀ t : Fin grid0.N, _)
  refine added8_of 1 (Fin.ext ?_) fun q => ?_
  · blk_simp [l t h]
    rfl
  · show _ = m ((c : Thread nD τ).loc main_arg1) _
    blk_simp [iblk]
    rw [V_main_arg1]
    refine congrArg _ ?_
    blk_ext [e t h]
theorem layer2 (t : Fin cfg0.N) (h : t.val / 11 % 4 = 2) (y : S1x64x1024.Idx) :
    added8 (fun q => iblk m c 2 t (ix3 (n0 := 8) (n1 := 64) (n2 := 1024) q (y 1) (y 2))) = totals (n := 4) (s := 8) (r := 704) (c := 1024) (devices m c) ((win0_10.blk t).view.emb y) := by
  have e : ∀ t : Fin cfg0.N, t.val / 11 % 4 = 2 → win0_2.index t = ![0, win0_10.index t 1, win0_10.index t 2] := (by decide +kernel : ∀ t : Fin grid0.N, _)
  have l : ∀ t : Fin cfg0.N, t.val / 11 % 4 = 2 → win0_10.index t 0 = 2 := (by decide +kernel : ∀ t : Fin grid0.N, _)
  refine added8_of 2 (Fin.ext ?_) fun q => ?_
  · blk_simp [l t h]
    rfl
  · show _ = m ((c : Thread nD τ).loc main_arg2) _
    blk_simp [iblk]
    rw [V_main_arg2]
    refine congrArg _ ?_
    blk_ext [e t h]
theorem layer3 (t : Fin cfg0.N) (h : 33 ≤ t.val) (y : S1x64x1024.Idx) :
    added8 (fun q => iblk m c 3 t (ix3 (n0 := 8) (n1 := 64) (n2 := 1024) q (y 1) (y 2))) = totals (n := 4) (s := 8) (r := 704) (c := 1024) (devices m c) ((win0_10.blk t).view.emb y) := by
  have e : ∀ t : Fin cfg0.N, 33 ≤ t.val → win0_3.index t = ![0, win0_10.index t 1, win0_10.index t 2] := (by decide +kernel : ∀ t : Fin grid0.N, _)
  have l : ∀ t : Fin cfg0.N, 33 ≤ t.val → win0_10.index t 0 = 3 := (by decide +kernel : ∀ t : Fin grid0.N, _)
  refine added8_of 3 (Fin.ext ?_) fun q => ?_
  · blk_simp [l t h]
    rfl
  · show _ = m ((c : Thread nD τ).loc main_arg3) _
    blk_simp [iblk]
    rw [V_main_arg3]
    refine congrArg _ ?_
    blk_ext [e t h]

/-- The kernel's blocks of weight and moments, read where the results' block lies. -/
theorem block4 (t : Fin cfg0.N) (y : S1x64x1024.Idx) : iblk m c 4 t y = m ((c : Thread nD τ).loc main_arg4) ((win0_10.blk t).view.emb y) := by
  have e : ∀ t : Fin cfg0.N, win0_4.index t = win0_10.index t := (by decide +kernel : ∀ t : Fin grid0.N, win0_4.index t = win0_10.index t)
  blk_simp [iblk]
  rw [V_main_arg4]
  refine congrArg _ ?_
  blk_ext [e]
theorem block5 (t : Fin cfg0.N) (y : S1x64x1024.Idx) : iblk m c 5 t y = m ((c : Thread nD τ).loc main_arg5) ((win0_10.blk t).view.emb y) := by
  have e : ∀ t : Fin cfg0.N, win0_5.index t = win0_10.index t := (by decide +kernel : ∀ t : Fin grid0.N, win0_5.index t = win0_10.index t)
  blk_simp [iblk]
  rw [V_main_arg5]
  refine congrArg _ ?_
  blk_ext [e]
theorem block6 (t : Fin cfg0.N) (y : S1x64x1024.Idx) : iblk m c 6 t y = m ((c : Thread nD τ).loc main_arg6) ((win0_10.blk t).view.emb y) := by
  have e : ∀ t : Fin cfg0.N, win0_6.index t = win0_10.index t := (by decide +kernel : ∀ t : Fin grid0.N, win0_6.index t = win0_10.index t)
  blk_simp [iblk]
  rw [V_main_arg6]
  refine congrArg _ ?_
  blk_ext [e]

/-- The results' blocks lie at one place. -/
theorem place7 (t : Fin cfg0.N) (y : S1x64x1024.Idx) : (win0_7.blk t).view.emb y = (win0_10.blk t).view.emb y := by
  have e : ∀ t : Fin cfg0.N, win0_7.index t = win0_10.index t := (by decide +kernel : ∀ t : Fin grid0.N, win0_7.index t = win0_10.index t)
  blk_ext [e]
theorem place8 (t : Fin cfg0.N) (y : S1x64x1024.Idx) : (win0_8.blk t).view.emb y = (win0_10.blk t).view.emb y := by
  have e : ∀ t : Fin cfg0.N, win0_8.index t = win0_10.index t := (by decide +kernel : ∀ t : Fin grid0.N, win0_8.index t = win0_10.index t)
  blk_ext [e]
theorem place9 (t : Fin cfg0.N) (y : S1x64x1024.Idx) : (win0_9.blk t).view.emb y = (win0_10.blk t).view.emb y := by
  have e : ∀ t : Fin cfg0.N, win0_9.index t = win0_10.index t := (by decide +kernel : ∀ t : Fin grid0.N, win0_9.index t = win0_10.index t)
  blk_ext [e]

/-- What a point writes. -/
theorem written (t : Fin cfg0.N) (y : S1x64x1024.Idx) :
    (outsAt0 m c t.val t.isLt).1 y = totals (n := 4) (s := 8) (r := 704) (c := 1024) (devices m c) ((win0_10.blk t).view.emb y)
    ∧ (outsAt0 m c t.val t.isLt).2.1 y = changes (totals (n := 4) (s := 8) (r := 704) (c := 1024) (devices m c)) (m ((c : Thread nD τ).loc main_arg4)) (m ((c : Thread nD τ).loc main_arg5)) (m ((c : Thread nD τ).loc main_arg6)) ((win0_10.blk t).view.emb y)
    ∧ (outsAt0 m c t.val t.isLt).2.2.1 y = firsts (totals (n := 4) (s := 8) (r := 704) (c := 1024) (devices m c)) (m ((c : Thread nD τ).loc main_arg5)) ((win0_10.blk t).view.emb y)
    ∧ (outsAt0 m c t.val t.isLt).2.2.2 y = seconds (totals (n := 4) (s := 8) (r := 704) (c := 1024) (devices m c)) (m ((c : Thread nD τ).loc main_arg6)) ((win0_10.blk t).view.emb y) := by
  have hN : t.val < 44 := lt_of_lt_of_eq t.isLt (show cfg0.N = _ from N_0)
  rcases (by omega : t.val < 11 ∨ t.val / 11 % 4 = 1 ∨ t.val / 11 % 4 = 2 ∨ 33 ≤ t.val) with h | h | h | h
  · rw [outsAt0_A m c t (by omega) (by omega) (by omega) (by omega)]
    dsimp only
    unfold out0_A_7 out0_A_8 out0_A_9 out0_A_10
    refine ⟨?_, ?_, ?_, ?_⟩ <;> frame_out <;> pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
    · exact layer0 m c t h y
    · exact change_of_products (layer0 m c t h y) (block4 m c t y) (block5 m c t y) (block6 m c t y) c1 c2
    · exact first_of (layer0 m c t h y) (block5 m c t y)
    · exact second_of (layer0 m c t h y) (block6 m c t y)
  · rw [outsAt0_B m c t (by omega) (by omega) (by omega) (by omega)]
    dsimp only
    unfold out0_B_7 out0_B_8 out0_B_9 out0_B_10
    refine ⟨?_, ?_, ?_, ?_⟩ <;> frame_out <;> pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
    · exact layer1 m c t h y
    · exact change_of_products (layer1 m c t h y) (block4 m c t y) (block5 m c t y) (block6 m c t y) c1 c2
    · exact first_of (layer1 m c t h y) (block5 m c t y)
    · exact second_of (layer1 m c t h y) (block6 m c t y)
  · rw [outsAt0_C m c t (by omega) (by omega) (by omega) (by omega)]
    dsimp only
    unfold out0_C_7 out0_C_8 out0_C_9 out0_C_10
    refine ⟨?_, ?_, ?_, ?_⟩ <;> frame_out <;> pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
    · exact layer2 m c t h y
    · exact change_of_products (layer2 m c t h y) (block4 m c t y) (block5 m c t y) (block6 m c t y) c1 c2
    · exact first_of (layer2 m c t h y) (block5 m c t y)
    · exact second_of (layer2 m c t h y) (block6 m c t y)
  · rw [outsAt0_D m c t (by omega) (by omega) (by omega) (by omega)]
    dsimp only
    unfold out0_D_7 out0_D_8 out0_D_9 out0_D_10
    refine ⟨?_, ?_, ?_, ?_⟩ <;> frame_out <;> pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
    · exact layer3 m c t h y
    · exact change_of_products (layer3 m c t h y) (block4 m c t y) (block5 m c t y) (block6 m c t y) c1 c2
    · exact first_of (layer3 m c t h y) (block5 m c t y)
    · exact second_of (layer3 m c t h y) (block6 m c t y)

/-- The results of the run. -/
theorem gradient : (dats m 0 c).arrAt 7 cfg0.N = totals (n := 4) (s := 8) (r := 704) (c := 1024) (devices m c) := by
  refine (dats m 0 c).arrAt_eq_of_covers 7 _ (by decide +kernel) fun t _ y => ?_
  blk_simp
  rw [after0_7]
  exact ((written m c t y).1).trans (congrArg (totals _) (place7 t y).symm)
theorem change_of_weight : (dats m 0 c).arrAt 8 cfg0.N = changes (totals (n := 4) (s := 8) (r := 704) (c := 1024) (devices m c)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]
  exact ((written m c t y).2.1).trans (congrArg (changes (totals _) _ _ _) (place8 t y).symm)
theorem first_moment : (dats m 0 c).arrAt 9 cfg0.N = firsts (totals (n := 4) (s := 8) (r := 704) (c := 1024) (devices m c)) (m ((c : Thread nD τ).loc main_arg5)) := by
  refine (dats m 0 c).arrAt_eq_of_covers 9 _ (by decide +kernel) fun t _ y => ?_
  blk_simp
  rw [after0_9]
  exact ((written m c t y).2.2.1).trans (congrArg (firsts (totals _) _) (place9 t y).symm)
theorem second_moment : (dats m 0 c).arrAt 10 cfg0.N = seconds (totals (n := 4) (s := 8) (r := 704) (c := 1024) (devices m c)) (m ((c : Thread nD τ).loc main_arg6)) := by
  refine (dats m 0 c).arrAt_eq_of_covers 10 _ (by decide +kernel) fun t _ y => ?_
  blk_simp
  rw [after0_10]
  exact (written m c t y).2.2.2

end Cert.AdamwFfnUpIdeal

namespace Cert.AdamwFfnUpRefIdeal.Read

variable (x0 x1 x2 x3 : FVec Ideal S8x704x1024 .bf16) (x4 x5 x6 : FVec Ideal S4x704x1024 .f32)

theorem gradient : val_main_v12 (F := Ideal) x0 x1 x2 x3 = totals (n := 4) (s := 8) (r := 704) (c := 1024) ![x0, x1, x2, x3] := by
  funext y
  rw [eq_ix3 y]
  generalize y 0 = l, y 1 = i, y 2 = j
  unfold totals
  fin_cases l <;> pointwise [val_main_v0, val_main_v1, val_main_v2, val_main_v3, val_main_v4, val_main_v5, val_main_v6, val_main_v7, val_main_v8, val_main_v9, val_main_v10, val_main_v11, val_main_v12, val_main_cst, val_main_cst_0, val_main_cst_1, val_main_cst_2] <;> refine Finset.sum_congr rfl fun q _ => congrArg _ ?_ <;> blk_ext []

theorem first_moment : val_main_v17 (F := Ideal) x0 x1 x2 x3 x5 = firsts (totals (n := 4) (s := 8) (r := 704) (c := 1024) ![x0, x1, x2, x3]) x5 := by
  funext y
  unfold firsts
  rw [← gradient]
  pointwise [val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_cst_3, val_main_cst_4, val_main_cst_5, val_main_cst_6, val_main_cst_7, val_main_cst_8, val_main_cst_9, val_main_cst_10, val_main_cst_11, val_main_cst_12, val_main_cst_13, val_main_cst_14, val_main_cst_15]
  exact first_of rfl rfl

theorem second_moment : val_main_v23 (F := Ideal) x0 x1 x2 x3 x6 = seconds (totals (n := 4) (s := 8) (r := 704) (c := 1024) ![x0, x1, x2, x3]) x6 := by
  funext y
  unfold seconds
  rw [← gradient]
  pointwise [val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_cst_3, val_main_cst_4, val_main_cst_5, val_main_cst_6, val_main_cst_7, val_main_cst_8, val_main_cst_9, val_main_cst_10, val_main_cst_11, val_main_cst_12, val_main_cst_13, val_main_cst_14, val_main_cst_15]
  exact second_of rfl rfl

theorem change_of_weight : val_main_v48 (F := Ideal) x0 x1 x2 x3 x4 x5 x6 = changes (totals (n := 4) (s := 8) (r := 704) (c := 1024) ![x0, x1, x2, x3]) x4 x5 x6 := by
  funext y
  unfold changes
  rw [← gradient]
  pointwise [val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_cst_3, val_main_cst_4, val_main_cst_5, val_main_cst_6, val_main_cst_7, val_main_cst_8, val_main_cst_9, val_main_cst_10, val_main_cst_11, val_main_cst_12, val_main_cst_13, val_main_cst_14, val_main_cst_15]
  exact change_of_quotients rfl rfl rfl rfl decay1 decay2

end Cert.AdamwFfnUpRefIdeal.Read

namespace Cert.AdamwFfnUpIdeal

open Cert.AdamwFfnUpIdeal.Gen

/-- The reference ends without fault, its arguments unchanged. -/
theorem frame_reference : Cert.quiescent_AdamwFfnUpRefIdeal := fun m ρ _ =>
  (θ_run Cert.AdamwFfnUpRefIdeal.defs _ _).mono (fun r h => ⟨fun c => (h c).2.2.2.2, sem_eq_zero_of_no_sems (by decide) r.2⟩)
    (Cert.AdamwFfnUpRefIdeal.Value.run (F := Ideal) m ρ)

/-- The two named constants. -/
theorem preserves : Cert.preserves_AdamwFfnUp_AdamwFfnUpIdeal :=
  ⟨IdealRules.named_const.statement Cert.AdamwFfnUpIdeal.κ "c1" .f32 0x3FC48605#32 ((10000000000 / 6513215599 : ℝ) : EReal) rfl,
    IdealRules.named_const.statement Cert.AdamwFfnUpIdeal.κ "c2" .f32 0x42C8E6D3#32
      ((1000000000000000000000000000000 / 9955119790251790119955009999 : ℝ) : EReal) rfl⟩

/-- Kernel and reference end with equal results over the extended reals. -/
theorem algebraic : Cert.algebraic_AdamwFfnUpIdeal_AdamwFfnUpRefIdeal := by
  intro m ρ m' ρ' _ hag
  refine ⟨_, _, _, _, Value.run_blocks m ρ, ?_⟩
  refine (θ_run Cert.AdamwFfnUpRefIdeal.defs _ _).mono (fun r h c => ⟨(h c).1.trans ?_, (h c).2.1.trans ?_, (h c).2.2.1.trans ?_,
    (h c).2.2.2.1.trans ?_, (h c).2.2.2.2⟩) (Cert.AdamwFfnUpRefIdeal.Value.run (F := Ideal) m' ρ')
  · rw [(hag c).1, (hag c).2.1, (hag c).2.2.1, (hag c).2.2.2.1]
    exact (Cert.AdamwFfnUpRefIdeal.Read.gradient _ _ _ _).trans (gradient m c).symm
  · rw [Cert.AdamwFfnUpRefIdeal.Read.val_main_v48_eq, (hag c).1, (hag c).2.1, (hag c).2.2.1, (hag c).2.2.2.1, (hag c).2.2.2.2.1, (hag c).2.2.2.2.2.1, (hag c).2.2.2.2.2.2]
    exact (Cert.AdamwFfnUpRefIdeal.Read.change_of_weight _ _ _ _ _ _ _).trans (change_of_weight m c).symm
  · rw [(hag c).1, (hag c).2.1, (hag c).2.2.1, (hag c).2.2.2.1, (hag c).2.2.2.2.2.1]
    exact (Cert.AdamwFfnUpRefIdeal.Read.first_moment _ _ _ _ _).trans (first_moment m c).symm
  · rw [(hag c).1, (hag c).2.1, (hag c).2.2.1, (hag c).2.2.2.1, (hag c).2.2.2.2.2.2]
    exact (Cert.AdamwFfnUpRefIdeal.Read.second_moment _ _ _ _ _).trans (second_moment m c).symm

end Cert.AdamwFfnUpIdeal

end
end
-- ==== Proof.AdamwFfnDown.lean ====
module

public import proofs.«01_k».proof.Defs
public import proofs.«01_k».proof.Proof.Update
public import proofs.«01_k».proof.Proof.Gen.AdamwFfnDownIdeal.Value
public import proofs.«01_k».proof.Proof.Gen.AdamwFfnDownRefIdeal.Run
public import proofs.«01_k».proof.Proof.Gen.AdamwFfnDownRefIdeal.Read

/-! # The optimiser's step of the feed-forward's contracting weights -/

set_option maxRecDepth 16384

noncomputable section

open Idealize.ShloMosaic Idealize.ShloMosaic.TcCoe Idealize.SL.Sem
open Idealize.ShloMosaic.Pipeline (Dat)
open Cert.Update

@[expose] public section

namespace Cert.AdamwFfnDownIdeal

open Cert.AdamwFfnDownIdeal.Gen

variable (m : (ℓ : Loc nD τ sig) → Buf (Elt Ideal) ℓ) (c : Dev nD)

theorem c1 : Named.named (F := Ideal) κ "c1" (φ := .f32) 0x3FC48605#32 = ((10000000000 / 6513215599 : ℝ) : EReal) :=
  IdealRules.named_const.ideal_named_scalar _ _ _ _ rfl
theorem c2 : Named.named (F := Ideal) κ "c2" (φ := .f32) 0x42C8E6D3#32
    = ((1000000000000000000000000000000 / 9955119790251790119955009999 : ℝ) : EReal) :=
  IdealRules.named_const.ideal_named_scalar _ _ _ _ rfl

/-- The devices' parts, layer by layer. -/
def devices : Fin 4 → (⟨3, ![8, 352, 1024]⟩ : Shape).Idx → EReal := ![m ((c : Thread nD τ).loc main_arg0), m ((c : Thread nD τ).loc main_arg1), m ((c : Thread nD τ).loc main_arg2), m ((c : Thread nD τ).loc main_arg3)]

/-- A layer's parts, added at its points, are that layer's gradient. -/
theorem layer0 (t : Fin cfg0.N) (h : t.val < 11) (y : S1x32x1024.Idx) :
    added8 (fun q => iblk m c 0 t (ix3 (n0 := 8) (n1 := 32) (n2 := 1024) q (y 1) (y 2))) = totals (n := 4) (s := 8) (r := 352) (c := 1024) (devices m c) ((win0_10.blk t).view.emb y) := by
  have e : ∀ t : Fin cfg0.N, t.val < 11 → win0_0.index t = ![0, win0_10.index t 1, win0_10.index t 2] := (by decide +kernel : ∀ t : Fin grid0.N, _)
  have l : ∀ t : Fin cfg0.N, t.val < 11 → win0_10.index t 0 = 0 := (by decide +kernel : ∀ t : Fin grid0.N, _)
  refine added8_of 0 (Fin.ext ?_) fun q => ?_
  · blk_simp [l t h]
    rfl
  · show _ = m ((c : Thread nD τ).loc main_arg0) _
    blk_simp [iblk]
    rw [V_main_arg0]
    refine congrArg _ ?_
    blk_ext [e t h]
theorem layer1 (t : Fin cfg0.N) (h : t.val / 11 % 4 = 1) (y : S1x32x1024.Idx) :
    added8 (fun q => iblk m c 1 t (ix3 (n0 := 8) (n1 := 32) (n2 := 1024) q (y 1) (y 2))) = totals (n := 4) (s := 8) (r := 352) (c := 1024) (devices m c) ((win0_10.blk t).view.emb y) := by
  have e : ∀ t : Fin cfg0.N, t.val / 11 % 4 = 1 → win0_1.index t = ![0, win0_10.index t 1, win0_10.index t 2] := (by decide +kernel : ∀ t : Fin grid0.N, _)
  have l : ∀ t : Fin cfg0.N, t.val / 11 % 4 = 1 → win0_10.index t 0 = 1 := (by decide +kernel : ∀ t : Fin grid0.N, _)
  refine added8_of 1 (Fin.ext ?_) fun q => ?_
  · blk_simp [l t h]
    rfl
  · show _ = m ((c : Thread nD τ).loc main_arg1) _
    blk_simp [iblk]
    rw [V_main_arg1]
    refine congrArg _ ?_
    blk_ext [e t h]
theorem layer2 (t : Fin cfg0.N) (h : t.val / 11 % 4 = 2) (y : S1x32x1024.Idx) :
    added8 (fun q => iblk m c 2 t (ix3 (n0 := 8) (n1 := 32) (n2 := 1024) q (y 1) (y 2))) = totals (n := 4) (s := 8) (r := 352) (c := 1024) (devices m c) ((win0_10.blk t).view.emb y) := by
  have e : ∀ t : Fin cfg0.N, t.val / 11 % 4 = 2 → win0_2.index t = ![0, win0_10.index t 1, win0_10.index t 2] := (by decide +kernel : ∀ t : Fin grid0.N, _)
  have l : ∀ t : Fin cfg0.N, t.val / 11 % 4 = 2 → win0_10.index t 0 = 2 := (by decide +kernel : ∀ t : Fin grid0.N, _)
  refine added8_of 2 (Fin.ext ?_) fun q => ?_
  · blk_simp [l t h]
    rfl
  · show _ = m ((c : Thread nD τ).loc main_arg2) _
    blk_simp [iblk]
    rw [V_main_arg2]
    refine congrArg _ ?_
    blk_ext [e t h]
theorem layer3 (t : Fin cfg0.N) (h : 33 ≤ t.val) (y : S1x32x1024.Idx) :
    added8 (fun q => iblk m c 3 t (ix3 (n0 := 8) (n1 := 32) (n2 := 1024) q (y 1) (y 2))) = totals (n := 4) (s := 8) (r := 352) (c := 1024) (devices m c) ((win0_10.blk t).view.emb y) := by
  have e : ∀ t : Fin cfg0.N, 33 ≤ t.val → win0_3.index t = ![0, win0_10.index t 1, win0_10.index t 2] := (by decide +kernel : ∀ t : Fin grid0.N, _)
  have l : ∀ t : Fin cfg0.N, 33 ≤ t.val → win0_10.index t 0 = 3 := (by decide +kernel : ∀ t : Fin grid0.N, _)
  refine added8_of 3 (Fin.ext ?_) fun q => ?_
  · blk_simp [l t h]
    rfl
  · show _ = m ((c : Thread nD τ).loc main_arg3) _
    blk_simp [iblk]
    rw [V_main_arg3]
    refine congrArg _ ?_
    blk_ext [e t h]

/-- The kernel's blocks of weight and moments, read where the results' block lies. -/
theorem block4 (t : Fin cfg0.N) (y : S1x32x1024.Idx) : iblk m c 4 t y = m ((c : Thread nD τ).loc main_arg4) ((win0_10.blk t).view.emb y) := by
  have e : ∀ t : Fin cfg0.N, win0_4.index t = win0_10.index t := (by decide +kernel : ∀ t : Fin grid0.N, win0_4.index t = win0_10.index t)
  blk_simp [iblk]
  rw [V_main_arg4]
  refine congrArg _ ?_
  blk_ext [e]
theorem block5 (t : Fin cfg0.N) (y : S1x32x1024.Idx) : iblk m c 5 t y = m ((c : Thread nD τ).loc main_arg5) ((win0_10.blk t).view.emb y) := by
  have e : ∀ t : Fin cfg0.N, win0_5.index t = win0_10.index t := (by decide +kernel : ∀ t : Fin grid0.N, win0_5.index t = win0_10.index t)
  blk_simp [iblk]
  rw [V_main_arg5]
  refine congrArg _ ?_
  blk_ext [e]
theorem block6 (t : Fin cfg0.N) (y : S1x32x1024.Idx) : iblk m c 6 t y = m ((c : Thread nD τ).loc main_arg6) ((win0_10.blk t).view.emb y) := by
  have e : ∀ t : Fin cfg0.N, win0_6.index t = win0_10.index t := (by decide +kernel : ∀ t : Fin grid0.N, win0_6.index t = win0_10.index t)
  blk_simp [iblk]
  rw [V_main_arg6]
  refine congrArg _ ?_
  blk_ext [e]

/-- The results' blocks lie at one place. -/
theorem place7 (t : Fin cfg0.N) (y : S1x32x1024.Idx) : (win0_7.blk t).view.emb y = (win0_10.blk t).view.emb y := by
  have e : ∀ t : Fin cfg0.N, win0_7.index t = win0_10.index t := (by decide +kernel : ∀ t : Fin grid0.N, win0_7.index t = win0_10.index t)
  blk_ext [e]
theorem place8 (t : Fin cfg0.N) (y : S1x32x1024.Idx) : (win0_8.blk t).view.emb y = (win0_10.blk t).view.emb y := by
  have e : ∀ t : Fin cfg0.N, win0_8.index t = win0_10.index t := (by decide +kernel : ∀ t : Fin grid0.N, win0_8.index t = win0_10.index t)
  blk_ext [e]
theorem place9 (t : Fin cfg0.N) (y : S1x32x1024.Idx) : (win0_9.blk t).view.emb y = (win0_10.blk t).view.emb y := by
  have e : ∀ t : Fin cfg0.N, win0_9.index t = win0_10.index t := (by decide +kernel : ∀ t : Fin grid0.N, win0_9.index t = win0_10.index t)
  blk_ext [e]

/-- What a point writes. -/
theorem written (t : Fin cfg0.N) (y : S1x32x1024.Idx) :
    (outsAt0 m c t.val t.isLt).1 y = totals (n := 4) (s := 8) (r := 352) (c := 1024) (devices m c) ((win0_10.blk t).view.emb y)
    ∧ (outsAt0 m c t.val t.isLt).2.1 y = changes (totals (n := 4) (s := 8) (r := 352) (c := 1024) (devices m c)) (m ((c : Thread nD τ).loc main_arg4)) (m ((c : Thread nD τ).loc main_arg5)) (m ((c : Thread nD τ).loc main_arg6)) ((win0_10.blk t).view.emb y)
    ∧ (outsAt0 m c t.val t.isLt).2.2.1 y = firsts (totals (n := 4) (s := 8) (r := 352) (c := 1024) (devices m c)) (m ((c : Thread nD τ).loc main_arg5)) ((win0_10.blk t).view.emb y)
    ∧ (outsAt0 m c t.val t.isLt).2.2.2 y = seconds (totals (n := 4) (s := 8) (r := 352) (c := 1024) (devices m c)) (m ((c : Thread nD τ).loc main_arg6)) ((win0_10.blk t).view.emb y) := by
  have hN : t.val < 44 := lt_of_lt_of_eq t.isLt (show cfg0.N = _ from N_0)
  rcases (by omega : t.val < 11 ∨ t.val / 11 % 4 = 1 ∨ t.val / 11 % 4 = 2 ∨ 33 ≤ t.val) with h | h | h | h
  · rw [outsAt0_A m c t (by omega) (by omega) (by omega) (by omega)]
    dsimp only
    unfold out0_A_7 out0_A_8 out0_A_9 out0_A_10
    refine ⟨?_, ?_, ?_, ?_⟩ <;> frame_out <;> pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
    · exact layer0 m c t h y
    · exact change_of_products (layer0 m c t h y) (block4 m c t y) (block5 m c t y) (block6 m c t y) c1 c2
    · exact first_of (layer0 m c t h y) (block5 m c t y)
    · exact second_of (layer0 m c t h y) (block6 m c t y)
  · rw [outsAt0_B m c t (by omega) (by omega) (by omega) (by omega)]
    dsimp only
    unfold out0_B_7 out0_B_8 out0_B_9 out0_B_10
    refine ⟨?_, ?_, ?_, ?_⟩ <;> frame_out <;> pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
    · exact layer1 m c t h y
    · exact change_of_products (layer1 m c t h y) (block4 m c t y) (block5 m c t y) (block6 m c t y) c1 c2
    · exact first_of (layer1 m c t h y) (block5 m c t y)
    · exact second_of (layer1 m c t h y) (block6 m c t y)
  · rw [outsAt0_C m c t (by omega) (by omega) (by omega) (by omega)]
    dsimp only
    unfold out0_C_7 out0_C_8 out0_C_9 out0_C_10
    refine ⟨?_, ?_, ?_, ?_⟩ <;> frame_out <;> pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
    · exact layer2 m c t h y
    · exact change_of_products (layer2 m c t h y) (block4 m c t y) (block5 m c t y) (block6 m c t y) c1 c2
    · exact first_of (layer2 m c t h y) (block5 m c t y)
    · exact second_of (layer2 m c t h y) (block6 m c t y)
  · rw [outsAt0_D m c t (by omega) (by omega) (by omega) (by omega)]
    dsimp only
    unfold out0_D_7 out0_D_8 out0_D_9 out0_D_10
    refine ⟨?_, ?_, ?_, ?_⟩ <;> frame_out <;> pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
    · exact layer3 m c t h y
    · exact change_of_products (layer3 m c t h y) (block4 m c t y) (block5 m c t y) (block6 m c t y) c1 c2
    · exact first_of (layer3 m c t h y) (block5 m c t y)
    · exact second_of (layer3 m c t h y) (block6 m c t y)

/-- The results of the run. -/
theorem gradient : (dats m 0 c).arrAt 7 cfg0.N = totals (n := 4) (s := 8) (r := 352) (c := 1024) (devices m c) := by
  refine (dats m 0 c).arrAt_eq_of_covers 7 _ (by decide +kernel) fun t _ y => ?_
  blk_simp
  rw [after0_7]
  exact ((written m c t y).1).trans (congrArg (totals _) (place7 t y).symm)
theorem change_of_weight : (dats m 0 c).arrAt 8 cfg0.N = changes (totals (n := 4) (s := 8) (r := 352) (c := 1024) (devices m c)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]
  exact ((written m c t y).2.1).trans (congrArg (changes (totals _) _ _ _) (place8 t y).symm)
theorem first_moment : (dats m 0 c).arrAt 9 cfg0.N = firsts (totals (n := 4) (s := 8) (r := 352) (c := 1024) (devices m c)) (m ((c : Thread nD τ).loc main_arg5)) := by
  refine (dats m 0 c).arrAt_eq_of_covers 9 _ (by decide +kernel) fun t _ y => ?_
  blk_simp
  rw [after0_9]
  exact ((written m c t y).2.2.1).trans (congrArg (firsts (totals _) _) (place9 t y).symm)
theorem second_moment : (dats m 0 c).arrAt 10 cfg0.N = seconds (totals (n := 4) (s := 8) (r := 352) (c := 1024) (devices m c)) (m ((c : Thread nD τ).loc main_arg6)) := by
  refine (dats m 0 c).arrAt_eq_of_covers 10 _ (by decide +kernel) fun t _ y => ?_
  blk_simp
  rw [after0_10]
  exact (written m c t y).2.2.2

end Cert.AdamwFfnDownIdeal

namespace Cert.AdamwFfnDownRefIdeal.Read

variable (x0 x1 x2 x3 : FVec Ideal S8x352x1024 .bf16) (x4 x5 x6 : FVec Ideal S4x352x1024 .f32)

theorem gradient : val_main_v12 (F := Ideal) x0 x1 x2 x3 = totals (n := 4) (s := 8) (r := 352) (c := 1024) ![x0, x1, x2, x3] := by
  funext y
  rw [eq_ix3 y]
  generalize y 0 = l, y 1 = i, y 2 = j
  unfold totals
  fin_cases l <;> pointwise [val_main_v0, val_main_v1, val_main_v2, val_main_v3, val_main_v4, val_main_v5, val_main_v6, val_main_v7, val_main_v8, val_main_v9, val_main_v10, val_main_v11, val_main_v12, val_main_cst, val_main_cst_0, val_main_cst_1, val_main_cst_2] <;> refine Finset.sum_congr rfl fun q _ => congrArg _ ?_ <;> blk_ext []

theorem first_moment : val_main_v17 (F := Ideal) x0 x1 x2 x3 x5 = firsts (totals (n := 4) (s := 8) (r := 352) (c := 1024) ![x0, x1, x2, x3]) x5 := by
  funext y
  unfold firsts
  rw [← gradient]
  pointwise [val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_cst_3, val_main_cst_4, val_main_cst_5, val_main_cst_6, val_main_cst_7, val_main_cst_8, val_main_cst_9, val_main_cst_10, val_main_cst_11, val_main_cst_12, val_main_cst_13, val_main_cst_14, val_main_cst_15]
  exact first_of rfl rfl

theorem second_moment : val_main_v23 (F := Ideal) x0 x1 x2 x3 x6 = seconds (totals (n := 4) (s := 8) (r := 352) (c := 1024) ![x0, x1, x2, x3]) x6 := by
  funext y
  unfold seconds
  rw [← gradient]
  pointwise [val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_cst_3, val_main_cst_4, val_main_cst_5, val_main_cst_6, val_main_cst_7, val_main_cst_8, val_main_cst_9, val_main_cst_10, val_main_cst_11, val_main_cst_12, val_main_cst_13, val_main_cst_14, val_main_cst_15]
  exact second_of rfl rfl

theorem change_of_weight : val_main_v48 (F := Ideal) x0 x1 x2 x3 x4 x5 x6 = changes (totals (n := 4) (s := 8) (r := 352) (c := 1024) ![x0, x1, x2, x3]) x4 x5 x6 := by
  funext y
  unfold changes
  rw [← gradient]
  pointwise [val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_cst_3, val_main_cst_4, val_main_cst_5, val_main_cst_6, val_main_cst_7, val_main_cst_8, val_main_cst_9, val_main_cst_10, val_main_cst_11, val_main_cst_12, val_main_cst_13, val_main_cst_14, val_main_cst_15]
  exact change_of_quotients rfl rfl rfl rfl decay1 decay2

end Cert.AdamwFfnDownRefIdeal.Read

namespace Cert.AdamwFfnDownIdeal

open Cert.AdamwFfnDownIdeal.Gen

/-- The reference ends without fault, its arguments unchanged. -/
theorem frame_reference : Cert.quiescent_AdamwFfnDownRefIdeal := fun m ρ _ =>
  (θ_run Cert.AdamwFfnDownRefIdeal.defs _ _).mono (fun r h => ⟨fun c => (h c).2.2.2.2, sem_eq_zero_of_no_sems (by decide) r.2⟩)
    (Cert.AdamwFfnDownRefIdeal.Value.run (F := Ideal) m ρ)

/-- The two named constants. -/
theorem preserves : Cert.preserves_AdamwFfnDown_AdamwFfnDownIdeal :=
  ⟨IdealRules.named_const.statement Cert.AdamwFfnDownIdeal.κ "c1" .f32 0x3FC48605#32 ((10000000000 / 6513215599 : ℝ) : EReal) rfl,
    IdealRules.named_const.statement Cert.AdamwFfnDownIdeal.κ "c2" .f32 0x42C8E6D3#32
      ((1000000000000000000000000000000 / 9955119790251790119955009999 : ℝ) : EReal) rfl⟩

/-- Kernel and reference end with equal results over the extended reals. -/
theorem algebraic : Cert.algebraic_AdamwFfnDownIdeal_AdamwFfnDownRefIdeal := by
  intro m ρ m' ρ' _ hag
  refine ⟨_, _, _, _, Value.run_blocks m ρ, ?_⟩
  refine (θ_run Cert.AdamwFfnDownRefIdeal.defs _ _).mono (fun r h c => ⟨(h c).1.trans ?_, (h c).2.1.trans ?_, (h c).2.2.1.trans ?_,
    (h c).2.2.2.1.trans ?_, (h c).2.2.2.2⟩) (Cert.AdamwFfnDownRefIdeal.Value.run (F := Ideal) m' ρ')
  · rw [(hag c).1, (hag c).2.1, (hag c).2.2.1, (hag c).2.2.2.1]
    exact (Cert.AdamwFfnDownRefIdeal.Read.gradient _ _ _ _).trans (gradient m c).symm
  · rw [Cert.AdamwFfnDownRefIdeal.Read.val_main_v48_eq, (hag c).1, (hag c).2.1, (hag c).2.2.1, (hag c).2.2.2.1, (hag c).2.2.2.2.1, (hag c).2.2.2.2.2.1, (hag c).2.2.2.2.2.2]
    exact (Cert.AdamwFfnDownRefIdeal.Read.change_of_weight _ _ _ _ _ _ _).trans (change_of_weight m c).symm
  · rw [(hag c).1, (hag c).2.1, (hag c).2.2.1, (hag c).2.2.2.1, (hag c).2.2.2.2.2.1]
    exact (Cert.AdamwFfnDownRefIdeal.Read.first_moment _ _ _ _ _).trans (first_moment m c).symm
  · rw [(hag c).1, (hag c).2.1, (hag c).2.2.1, (hag c).2.2.2.1, (hag c).2.2.2.2.2.2]
    exact (Cert.AdamwFfnDownRefIdeal.Read.second_moment _ _ _ _ _).trans (second_moment m c).symm

end Cert.AdamwFfnDownIdeal

end
end
-- ==== Proof.AdamwConvIn.lean ====
module

public import proofs.«01_k».proof.Defs
public import proofs.«01_k».proof.Proof.Update
public import proofs.«01_k».proof.Proof.Gen.AdamwConvInIdeal.Value
public import proofs.«01_k».proof.Proof.Gen.AdamwConvInRefIdeal.Run
public import proofs.«01_k».proof.Proof.Gen.AdamwConvInRefIdeal.Read

/-! # The optimiser's step of the convolution mixer's first projection -/

set_option maxRecDepth 16384

noncomputable section

open Idealize.ShloMosaic Idealize.ShloMosaic.TcCoe Idealize.SL.Sem
open Idealize.ShloMosaic.Pipeline (Dat)
open Cert.Update

@[expose] public section

namespace Cert.AdamwConvInIdeal

open Cert.AdamwConvInIdeal.Gen

variable (m : (ℓ : Loc nD τ sig) → Buf (Elt Ideal) ℓ) (c : Dev nD)

theorem c1 : Named.named (F := Ideal) κ "c1" (φ := .f32) 0x3FC48605#32 = ((10000000000 / 6513215599 : ℝ) : EReal) :=
  IdealRules.named_const.ideal_named_scalar _ _ _ _ rfl
theorem c2 : Named.named (F := Ideal) κ "c2" (φ := .f32) 0x42C8E6D3#32
    = ((1000000000000000000000000000000 / 9955119790251790119955009999 : ℝ) : EReal) :=
  IdealRules.named_const.ideal_named_scalar _ _ _ _ rfl

/-- The devices' parts, layer by layer. -/
def devices : Fin 2 → (⟨3, ![8, 1024, 256]⟩ : Shape).Idx → EReal := ![m ((c : Thread nD τ).loc main_arg0), m ((c : Thread nD τ).loc main_arg1)]

/-- A layer's parts, added at its points, are that layer's gradient. -/
theorem layer0 (t : Fin cfg0.N) (h : t.val < 2) (y : S1x512x256.Idx) :
    added8 (fun q => iblk m c 0 t (ix3 (n0 := 8) (n1 := 512) (n2 := 256) q (y 1) (y 2))) = totals (n := 2) (s := 8) (r := 1024) (c := 256) (devices m c) ((win0_8.blk t).view.emb y) := by
  have e : ∀ t : Fin cfg0.N, t.val < 2 → win0_0.index t = ![0, win0_8.index t 1, win0_8.index t 2] := (by decide +kernel : ∀ t : Fin grid0.N, _)
  have l : ∀ t : Fin cfg0.N, t.val < 2 → win0_8.index t 0 = 0 := (by decide +kernel : ∀ t : Fin grid0.N, _)
  refine added8_of 0 (Fin.ext ?_) fun q => ?_
  · blk_simp [l t h]
    rfl
  · show _ = m ((c : Thread nD τ).loc main_arg0) _
    blk_simp [iblk]
    rw [V_main_arg0]
    refine congrArg _ ?_
    blk_ext [e t h]
theorem layer1 (t : Fin cfg0.N) (h : 2 ≤ t.val) (y : S1x512x256.Idx) :
    added8 (fun q => iblk m c 1 t (ix3 (n0 := 8) (n1 := 512) (n2 := 256) q (y 1) (y 2))) = totals (n := 2) (s := 8) (r := 1024) (c := 256) (devices m c) ((win0_8.blk t).view.emb y) := by
  have e : ∀ t : Fin cfg0.N, 2 ≤ t.val → win0_1.index t = ![0, win0_8.index t 1, win0_8.index t 2] := (by decide +kernel : ∀ t : Fin grid0.N, _)
  have l : ∀ t : Fin cfg0.N, 2 ≤ t.val → win0_8.index t 0 = 1 := (by decide +kernel : ∀ t : Fin grid0.N, _)
  refine added8_of 1 (Fin.ext ?_) fun q => ?_
  · blk_simp [l t h]
    rfl
  · show _ = m ((c : Thread nD τ).loc main_arg1) _
    blk_simp [iblk]
    rw [V_main_arg1]
    refine congrArg _ ?_
    blk_ext [e t h]

/-- The kernel's blocks of weight and moments, read where the results' block lies. -/
theorem block2 (t : Fin cfg0.N) (y : S1x512x256.Idx) : iblk m c 2 t y = m ((c : Thread nD τ).loc main_arg2) ((win0_8.blk t).view.emb y) := by
  have e : ∀ t : Fin cfg0.N, win0_2.index t = win0_8.index t := (by decide +kernel : ∀ t : Fin grid0.N, win0_2.index t = win0_8.index t)
  blk_simp [iblk]
  rw [V_main_arg2]
  refine congrArg _ ?_
  blk_ext [e]
theorem block3 (t : Fin cfg0.N) (y : S1x512x256.Idx) : iblk m c 3 t y = m ((c : Thread nD τ).loc main_arg3) ((win0_8.blk t).view.emb y) := by
  have e : ∀ t : Fin cfg0.N, win0_3.index t = win0_8.index t := (by decide +kernel : ∀ t : Fin grid0.N, win0_3.index t = win0_8.index t)
  blk_simp [iblk]
  rw [V_main_arg3]
  refine congrArg _ ?_
  blk_ext [e]
theorem block4 (t : Fin cfg0.N) (y : S1x512x256.Idx) : iblk m c 4 t y = m ((c : Thread nD τ).loc main_arg4) ((win0_8.blk t).view.emb y) := by
  have e : ∀ t : Fin cfg0.N, win0_4.index t = win0_8.index t := (by decide +kernel : ∀ t : Fin grid0.N, win0_4.index t = win0_8.index t)
  blk_simp [iblk]
  rw [V_main_arg4]
  refine congrArg _ ?_
  blk_ext [e]

/-- The results' blocks lie at one place. -/
theorem place5 (t : Fin cfg0.N) (y : S1x512x256.Idx) : (win0_5.blk t).view.emb y = (win0_8.blk t).view.emb y := by
  have e : ∀ t : Fin cfg0.N, win0_5.index t = win0_8.index t := (by decide +kernel : ∀ t : Fin grid0.N, win0_5.index t = win0_8.index t)
  blk_ext [e]
theorem place6 (t : Fin cfg0.N) (y : S1x512x256.Idx) : (win0_6.blk t).view.emb y = (win0_8.blk t).view.emb y := by
  have e : ∀ t : Fin cfg0.N, win0_6.index t = win0_8.index t := (by decide +kernel : ∀ t : Fin grid0.N, win0_6.index t = win0_8.index t)
  blk_ext [e]
theorem place7 (t : Fin cfg0.N) (y : S1x512x256.Idx) : (win0_7.blk t).view.emb y = (win0_8.blk t).view.emb y := by
  have e : ∀ t : Fin cfg0.N, win0_7.index t = win0_8.index t := (by decide +kernel : ∀ t : Fin grid0.N, win0_7.index t = win0_8.index t)
  blk_ext [e]

/-- What a point writes. -/
theorem written (t : Fin cfg0.N) (y : S1x512x256.Idx) :
    (outsAt0 m c t.val t.isLt).1 y = totals (n := 2) (s := 8) (r := 1024) (c := 256) (devices m c) ((win0_8.blk t).view.emb y)
    ∧ (outsAt0 m c t.val t.isLt).2.1 y = changes (totals (n := 2) (s := 8) (r := 1024) (c := 256) (devices m c)) (m ((c : Thread nD τ).loc main_arg2)) (m ((c : Thread nD τ).loc main_arg3)) (m ((c : Thread nD τ).loc main_arg4)) ((win0_8.blk t).view.emb y)
    ∧ (outsAt0 m c t.val t.isLt).2.2.1 y = firsts (totals (n := 2) (s := 8) (r := 1024) (c := 256) (devices m c)) (m ((c : Thread nD τ).loc main_arg3)) ((win0_8.blk t).view.emb y)
    ∧ (outsAt0 m c t.val t.isLt).2.2.2 y = seconds (totals (n := 2) (s := 8) (r := 1024) (c := 256) (devices m c)) (m ((c : Thread nD τ).loc main_arg4)) ((win0_8.blk t).view.emb y) := by
  have hN : t.val < 4 := lt_of_lt_of_eq t.isLt (show cfg0.N = _ from N_0)
  rcases (by omega : t.val < 2 ∨ 2 ≤ t.val) with h | h
  · rw [outsAt0_A m c t (by omega) (by omega)]
    dsimp only
    unfold out0_A_5 out0_A_6 out0_A_7 out0_A_8
    refine ⟨?_, ?_, ?_, ?_⟩ <;> frame_out <;> pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
    · exact layer0 m c t h y
    · exact change_of_products (layer0 m c t h y) (block2 m c t y) (block3 m c t y) (block4 m c t y) c1 c2
    · exact first_of (layer0 m c t h y) (block3 m c t y)
    · exact second_of (layer0 m c t h y) (block4 m c t y)
  · rw [outsAt0_B m c t (by omega) (by omega)]
    dsimp only
    unfold out0_B_5 out0_B_6 out0_B_7 out0_B_8
    refine ⟨?_, ?_, ?_, ?_⟩ <;> frame_out <;> pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
    · exact layer1 m c t h y
    · exact change_of_products (layer1 m c t h y) (block2 m c t y) (block3 m c t y) (block4 m c t y) c1 c2
    · exact first_of (layer1 m c t h y) (block3 m c t y)
    · exact second_of (layer1 m c t h y) (block4 m c t y)

/-- The results of the run. -/
theorem gradient : (dats m 0 c).arrAt 5 cfg0.N = totals (n := 2) (s := 8) (r := 1024) (c := 256) (devices m c) := by
  refine (dats m 0 c).arrAt_eq_of_covers 5 _ (by decide +kernel) fun t _ y => ?_
  blk_simp
  rw [after0_5]
  exact ((written m c t y).1).trans (congrArg (totals _) (place5 t y).symm)
theorem change_of_weight : (dats m 0 c).arrAt 6 cfg0.N = changes (totals (n := 2) (s := 8) (r := 1024) (c := 256) (devices m c)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  exact ((written m c t y).2.1).trans (congrArg (changes (totals _) _ _ _) (place6 t y).symm)
theorem first_moment : (dats m 0 c).arrAt 7 cfg0.N = firsts (totals (n := 2) (s := 8) (r := 1024) (c := 256) (devices m c)) (m ((c : Thread nD τ).loc main_arg3)) := by
  refine (dats m 0 c).arrAt_eq_of_covers 7 _ (by decide +kernel) fun t _ y => ?_
  blk_simp
  rw [after0_7]
  exact ((written m c t y).2.2.1).trans (congrArg (firsts (totals _) _) (place7 t y).symm)
theorem second_moment : (dats m 0 c).arrAt 8 cfg0.N = seconds (totals (n := 2) (s := 8) (r := 1024) (c := 256) (devices m c)) (m ((c : Thread nD τ).loc main_arg4)) := by
  refine (dats m 0 c).arrAt_eq_of_covers 8 _ (by decide +kernel) fun t _ y => ?_
  blk_simp
  rw [after0_8]
  exact (written m c t y).2.2.2

end Cert.AdamwConvInIdeal

namespace Cert.AdamwConvInRefIdeal.Read

variable (x0 x1 : FVec Ideal S8x1024x256 .bf16) (x2 x3 x4 : FVec Ideal S2x1024x256 .f32)

theorem gradient : val_main_v6 (F := Ideal) x0 x1 = totals (n := 2) (s := 8) (r := 1024) (c := 256) ![x0, x1] := by
  funext y
  rw [eq_ix3 y]
  generalize y 0 = l, y 1 = i, y 2 = j
  unfold totals
  fin_cases l <;> pointwise [val_main_v0, val_main_v1, val_main_v2, val_main_v3, val_main_v4, val_main_v5, val_main_v6, val_main_cst, val_main_cst_0] <;> refine Finset.sum_congr rfl fun q _ => congrArg _ ?_ <;> blk_ext []

theorem first_moment : val_main_v11 (F := Ideal) x0 x1 x3 = firsts (totals (n := 2) (s := 8) (r := 1024) (c := 256) ![x0, x1]) x3 := by
  funext y
  unfold firsts
  rw [← gradient]
  pointwise [val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_cst_1, val_main_cst_2, val_main_cst_3, val_main_cst_4, val_main_cst_5, val_main_cst_6, val_main_cst_7, val_main_cst_8, val_main_cst_9, val_main_cst_10, val_main_cst_11, val_main_cst_12, val_main_cst_13]
  exact first_of rfl rfl

theorem second_moment : val_main_v17 (F := Ideal) x0 x1 x4 = seconds (totals (n := 2) (s := 8) (r := 1024) (c := 256) ![x0, x1]) x4 := by
  funext y
  unfold seconds
  rw [← gradient]
  pointwise [val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_cst_1, val_main_cst_2, val_main_cst_3, val_main_cst_4, val_main_cst_5, val_main_cst_6, val_main_cst_7, val_main_cst_8, val_main_cst_9, val_main_cst_10, val_main_cst_11, val_main_cst_12, val_main_cst_13]
  exact second_of rfl rfl

theorem change_of_weight : val_main_v42 (F := Ideal) x0 x1 x2 x3 x4 = changes (totals (n := 2) (s := 8) (r := 1024) (c := 256) ![x0, x1]) x2 x3 x4 := by
  funext y
  unfold changes
  rw [← gradient]
  pointwise [val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_cst_1, val_main_cst_2, val_main_cst_3, val_main_cst_4, val_main_cst_5, val_main_cst_6, val_main_cst_7, val_main_cst_8, val_main_cst_9, val_main_cst_10, val_main_cst_11, val_main_cst_12, val_main_cst_13]
  exact change_of_quotients rfl rfl rfl rfl decay1 decay2

end Cert.AdamwConvInRefIdeal.Read

namespace Cert.AdamwConvInIdeal

open Cert.AdamwConvInIdeal.Gen

/-- The reference ends without fault, its arguments unchanged. -/
theorem frame_reference : Cert.quiescent_AdamwConvInRefIdeal := fun m ρ _ =>
  (θ_run Cert.AdamwConvInRefIdeal.defs _ _).mono (fun r h => ⟨fun c => (h c).2.2.2.2, sem_eq_zero_of_no_sems (by decide) r.2⟩)
    (Cert.AdamwConvInRefIdeal.Value.run (F := Ideal) m ρ)

/-- The two named constants. -/
theorem preserves : Cert.preserves_AdamwConvIn_AdamwConvInIdeal :=
  ⟨IdealRules.named_const.statement Cert.AdamwConvInIdeal.κ "c1" .f32 0x3FC48605#32 ((10000000000 / 6513215599 : ℝ) : EReal) rfl,
    IdealRules.named_const.statement Cert.AdamwConvInIdeal.κ "c2" .f32 0x42C8E6D3#32
      ((1000000000000000000000000000000 / 9955119790251790119955009999 : ℝ) : EReal) rfl⟩

/-- Kernel and reference end with equal results over the extended reals. -/
theorem algebraic : Cert.algebraic_AdamwConvInIdeal_AdamwConvInRefIdeal := by
  intro m ρ m' ρ' _ hag
  refine ⟨_, _, _, _, Value.run_blocks m ρ, ?_⟩
  refine (θ_run Cert.AdamwConvInRefIdeal.defs _ _).mono (fun r h c => ⟨(h c).1.trans ?_, (h c).2.1.trans ?_, (h c).2.2.1.trans ?_,
    (h c).2.2.2.1.trans ?_, (h c).2.2.2.2⟩) (Cert.AdamwConvInRefIdeal.Value.run (F := Ideal) m' ρ')
  · rw [(hag c).1, (hag c).2.1]
    exact (Cert.AdamwConvInRefIdeal.Read.gradient _ _).trans (gradient m c).symm
  · rw [Cert.AdamwConvInRefIdeal.Read.val_main_v42_eq, (hag c).1, (hag c).2.1, (hag c).2.2.1, (hag c).2.2.2.1, (hag c).2.2.2.2]
    exact (Cert.AdamwConvInRefIdeal.Read.change_of_weight _ _ _ _ _).trans (change_of_weight m c).symm
  · rw [(hag c).1, (hag c).2.1, (hag c).2.2.2.1]
    exact (Cert.AdamwConvInRefIdeal.Read.first_moment _ _ _).trans (first_moment m c).symm
  · rw [(hag c).1, (hag c).2.1, (hag c).2.2.2.2]
    exact (Cert.AdamwConvInRefIdeal.Read.second_moment _ _ _).trans (second_moment m c).symm

end Cert.AdamwConvInIdeal

end
end
-- ==== Proof.AdamwConvOut.lean ====
module

public import proofs.«01_k».proof.Defs
public import proofs.«01_k».proof.Proof.Update
public import proofs.«01_k».proof.Proof.Gen.AdamwConvOutIdeal.Value
public import proofs.«01_k».proof.Proof.Gen.AdamwConvOutRefIdeal.Run
public import proofs.«01_k».proof.Proof.Gen.AdamwConvOutRefIdeal.Read

/-! # The optimiser's step of the convolution mixer's second projection -/

set_option maxRecDepth 16384

noncomputable section

open Idealize.ShloMosaic Idealize.ShloMosaic.TcCoe Idealize.SL.Sem
open Idealize.ShloMosaic.Pipeline (Dat)
open Cert.Update

@[expose] public section

namespace Cert.AdamwConvOutIdeal

open Cert.AdamwConvOutIdeal.Gen

variable (m : (ℓ : Loc nD τ sig) → Buf (Elt Ideal) ℓ) (c : Dev nD)

theorem c1 : Named.named (F := Ideal) κ "c1" (φ := .f32) 0x3FC48605#32 = ((10000000000 / 6513215599 : ℝ) : EReal) :=
  IdealRules.named_const.ideal_named_scalar _ _ _ _ rfl
theorem c2 : Named.named (F := Ideal) κ "c2" (φ := .f32) 0x42C8E6D3#32
    = ((1000000000000000000000000000000 / 9955119790251790119955009999 : ℝ) : EReal) :=
  IdealRules.named_const.ideal_named_scalar _ _ _ _ rfl

/-- The devices' parts, layer by layer. -/
def devices : Fin 2 → (⟨3, ![8, 128, 1024]⟩ : Shape).Idx → EReal := ![m ((c : Thread nD τ).loc main_arg0), m ((c : Thread nD τ).loc main_arg1)]

/-- A layer's parts, added at its points, are that layer's gradient. -/
theorem layer0 (t : Fin cfg0.N) (h : t.val % 2 = 0) (y : S1x128x1024.Idx) :
    added8 (fun q => iblk m c 0 t (ix3 (n0 := 8) (n1 := 128) (n2 := 1024) q (y 1) (y 2))) = totals (n := 2) (s := 8) (r := 128) (c := 1024) (devices m c) ((win0_8.blk t).view.emb y) := by
  have e : ∀ t : Fin cfg0.N, t.val % 2 = 0 → win0_0.index t = ![0, win0_8.index t 1, win0_8.index t 2] := (by decide +kernel : ∀ t : Fin grid0.N, _)
  have l : ∀ t : Fin cfg0.N, t.val % 2 = 0 → win0_8.index t 0 = 0 := (by decide +kernel : ∀ t : Fin grid0.N, _)
  refine added8_of 0 (Fin.ext ?_) fun q => ?_
  · blk_simp [l t h]
    rfl
  · show _ = m ((c : Thread nD τ).loc main_arg0) _
    blk_simp [iblk]
    rw [V_main_arg0]
    refine congrArg _ ?_
    blk_ext [e t h]
theorem layer1 (t : Fin cfg0.N) (h : t.val % 2 = 1) (y : S1x128x1024.Idx) :
    added8 (fun q => iblk m c 1 t (ix3 (n0 := 8) (n1 := 128) (n2 := 1024) q (y 1) (y 2))) = totals (n := 2) (s := 8) (r := 128) (c := 1024) (devices m c) ((win0_8.blk t).view.emb y) := by
  have e : ∀ t : Fin cfg0.N, t.val % 2 = 1 → win0_1.index t = ![0, win0_8.index t 1, win0_8.index t 2] := (by decide +kernel : ∀ t : Fin grid0.N, _)
  have l : ∀ t : Fin cfg0.N, t.val % 2 = 1 → win0_8.index t 0 = 1 := (by decide +kernel : ∀ t : Fin grid0.N, _)
  refine added8_of 1 (Fin.ext ?_) fun q => ?_
  · blk_simp [l t h]
    rfl
  · show _ = m ((c : Thread nD τ).loc main_arg1) _
    blk_simp [iblk]
    rw [V_main_arg1]
    refine congrArg _ ?_
    blk_ext [e t h]

/-- The kernel's blocks of weight and moments, read where the results' block lies. -/
theorem block2 (t : Fin cfg0.N) (y : S1x128x1024.Idx) : iblk m c 2 t y = m ((c : Thread nD τ).loc main_arg2) ((win0_8.blk t).view.emb y) := by
  have e : ∀ t : Fin cfg0.N, win0_2.index t = win0_8.index t := (by decide +kernel : ∀ t : Fin grid0.N, win0_2.index t = win0_8.index t)
  blk_simp [iblk]
  rw [V_main_arg2]
  refine congrArg _ ?_
  blk_ext [e]
theorem block3 (t : Fin cfg0.N) (y : S1x128x1024.Idx) : iblk m c 3 t y = m ((c : Thread nD τ).loc main_arg3) ((win0_8.blk t).view.emb y) := by
  have e : ∀ t : Fin cfg0.N, win0_3.index t = win0_8.index t := (by decide +kernel : ∀ t : Fin grid0.N, win0_3.index t = win0_8.index t)
  blk_simp [iblk]
  rw [V_main_arg3]
  refine congrArg _ ?_
  blk_ext [e]
theorem block4 (t : Fin cfg0.N) (y : S1x128x1024.Idx) : iblk m c 4 t y = m ((c : Thread nD τ).loc main_arg4) ((win0_8.blk t).view.emb y) := by
  have e : ∀ t : Fin cfg0.N, win0_4.index t = win0_8.index t := (by decide +kernel : ∀ t : Fin grid0.N, win0_4.index t = win0_8.index t)
  blk_simp [iblk]
  rw [V_main_arg4]
  refine congrArg _ ?_
  blk_ext [e]

/-- The results' blocks lie at one place. -/
theorem place5 (t : Fin cfg0.N) (y : S1x128x1024.Idx) : (win0_5.blk t).view.emb y = (win0_8.blk t).view.emb y := by
  have e : ∀ t : Fin cfg0.N, win0_5.index t = win0_8.index t := (by decide +kernel : ∀ t : Fin grid0.N, win0_5.index t = win0_8.index t)
  blk_ext [e]
theorem place6 (t : Fin cfg0.N) (y : S1x128x1024.Idx) : (win0_6.blk t).view.emb y = (win0_8.blk t).view.emb y := by
  have e : ∀ t : Fin cfg0.N, win0_6.index t = win0_8.index t := (by decide +kernel : ∀ t : Fin grid0.N, win0_6.index t = win0_8.index t)
  blk_ext [e]
theorem place7 (t : Fin cfg0.N) (y : S1x128x1024.Idx) : (win0_7.blk t).view.emb y = (win0_8.blk t).view.emb y := by
  have e : ∀ t : Fin cfg0.N, win0_7.index t = win0_8.index t := (by decide +kernel : ∀ t : Fin grid0.N, win0_7.index t = win0_8.index t)
  blk_ext [e]

/-- What a point writes. -/
theorem written (t : Fin cfg0.N) (y : S1x128x1024.Idx) :
    (outsAt0 m c t.val t.isLt).1 y = totals (n := 2) (s := 8) (r := 128) (c := 1024) (devices m c) ((win0_8.blk t).view.emb y)
    ∧ (outsAt0 m c t.val t.isLt).2.1 y = changes (totals (n := 2) (s := 8) (r := 128) (c := 1024) (devices m c)) (m ((c : Thread nD τ).loc main_arg2)) (m ((c : Thread nD τ).loc main_arg3)) (m ((c : Thread nD τ).loc main_arg4)) ((win0_8.blk t).view.emb y)
    ∧ (outsAt0 m c t.val t.isLt).2.2.1 y = firsts (totals (n := 2) (s := 8) (r := 128) (c := 1024) (devices m c)) (m ((c : Thread nD τ).loc main_arg3)) ((win0_8.blk t).view.emb y)
    ∧ (outsAt0 m c t.val t.isLt).2.2.2 y = seconds (totals (n := 2) (s := 8) (r := 128) (c := 1024) (devices m c)) (m ((c : Thread nD τ).loc main_arg4)) ((win0_8.blk t).view.emb y) := by
  have hN : t.val < 2 := lt_of_lt_of_eq t.isLt (show cfg0.N = _ from N_0)
  rcases (by omega : t.val % 2 = 0 ∨ t.val % 2 = 1) with h | h
  · rw [outsAt0_A m c t (by omega) (by omega)]
    dsimp only
    unfold out0_A_5 out0_A_6 out0_A_7 out0_A_8
    refine ⟨?_, ?_, ?_, ?_⟩ <;> frame_out <;> pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
    · exact layer0 m c t h y
    · exact change_of_products (layer0 m c t h y) (block2 m c t y) (block3 m c t y) (block4 m c t y) c1 c2
    · exact first_of (layer0 m c t h y) (block3 m c t y)
    · exact second_of (layer0 m c t h y) (block4 m c t y)
  · rw [outsAt0_B m c t (by omega) (by omega)]
    dsimp only
    unfold out0_B_5 out0_B_6 out0_B_7 out0_B_8
    refine ⟨?_, ?_, ?_, ?_⟩ <;> frame_out <;> pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
    · exact layer1 m c t h y
    · exact change_of_products (layer1 m c t h y) (block2 m c t y) (block3 m c t y) (block4 m c t y) c1 c2
    · exact first_of (layer1 m c t h y) (block3 m c t y)
    · exact second_of (layer1 m c t h y) (block4 m c t y)

/-- The results of the run. -/
theorem gradient : (dats m 0 c).arrAt 5 cfg0.N = totals (n := 2) (s := 8) (r := 128) (c := 1024) (devices m c) := by
  refine (dats m 0 c).arrAt_eq_of_covers 5 _ (by decide +kernel) fun t _ y => ?_
  blk_simp
  rw [after0_5]
  exact ((written m c t y).1).trans (congrArg (totals _) (place5 t y).symm)
theorem change_of_weight : (dats m 0 c).arrAt 6 cfg0.N = changes (totals (n := 2) (s := 8) (r := 128) (c := 1024) (devices m c)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  exact ((written m c t y).2.1).trans (congrArg (changes (totals _) _ _ _) (place6 t y).symm)
theorem first_moment : (dats m 0 c).arrAt 7 cfg0.N = firsts (totals (n := 2) (s := 8) (r := 128) (c := 1024) (devices m c)) (m ((c : Thread nD τ).loc main_arg3)) := by
  refine (dats m 0 c).arrAt_eq_of_covers 7 _ (by decide +kernel) fun t _ y => ?_
  blk_simp
  rw [after0_7]
  exact ((written m c t y).2.2.1).trans (congrArg (firsts (totals _) _) (place7 t y).symm)
theorem second_moment : (dats m 0 c).arrAt 8 cfg0.N = seconds (totals (n := 2) (s := 8) (r := 128) (c := 1024) (devices m c)) (m ((c : Thread nD τ).loc main_arg4)) := by
  refine (dats m 0 c).arrAt_eq_of_covers 8 _ (by decide +kernel) fun t _ y => ?_
  blk_simp
  rw [after0_8]
  exact (written m c t y).2.2.2

end Cert.AdamwConvOutIdeal

namespace Cert.AdamwConvOutRefIdeal.Read

variable (x0 x1 : FVec Ideal S8x128x1024 .bf16) (x2 x3 x4 : FVec Ideal S2x128x1024 .f32)

theorem gradient : val_main_v6 (F := Ideal) x0 x1 = totals (n := 2) (s := 8) (r := 128) (c := 1024) ![x0, x1] := by
  funext y
  rw [eq_ix3 y]
  generalize y 0 = l, y 1 = i, y 2 = j
  unfold totals
  fin_cases l <;> pointwise [val_main_v0, val_main_v1, val_main_v2, val_main_v3, val_main_v4, val_main_v5, val_main_v6, val_main_cst, val_main_cst_0] <;> refine Finset.sum_congr rfl fun q _ => congrArg _ ?_ <;> blk_ext []

theorem first_moment : val_main_v11 (F := Ideal) x0 x1 x3 = firsts (totals (n := 2) (s := 8) (r := 128) (c := 1024) ![x0, x1]) x3 := by
  funext y
  unfold firsts
  rw [← gradient]
  pointwise [val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_cst_1, val_main_cst_2, val_main_cst_3, val_main_cst_4, val_main_cst_5, val_main_cst_6, val_main_cst_7, val_main_cst_8, val_main_cst_9, val_main_cst_10, val_main_cst_11, val_main_cst_12, val_main_cst_13]
  exact first_of rfl rfl

theorem second_moment : val_main_v17 (F := Ideal) x0 x1 x4 = seconds (totals (n := 2) (s := 8) (r := 128) (c := 1024) ![x0, x1]) x4 := by
  funext y
  unfold seconds
  rw [← gradient]
  pointwise [val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_cst_1, val_main_cst_2, val_main_cst_3, val_main_cst_4, val_main_cst_5, val_main_cst_6, val_main_cst_7, val_main_cst_8, val_main_cst_9, val_main_cst_10, val_main_cst_11, val_main_cst_12, val_main_cst_13]
  exact second_of rfl rfl

theorem change_of_weight : val_main_v42 (F := Ideal) x0 x1 x2 x3 x4 = changes (totals (n := 2) (s := 8) (r := 128) (c := 1024) ![x0, x1]) x2 x3 x4 := by
  funext y
  unfold changes
  rw [← gradient]
  pointwise [val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_cst_1, val_main_cst_2, val_main_cst_3, val_main_cst_4, val_main_cst_5, val_main_cst_6, val_main_cst_7, val_main_cst_8, val_main_cst_9, val_main_cst_10, val_main_cst_11, val_main_cst_12, val_main_cst_13]
  exact change_of_quotients rfl rfl rfl rfl decay1 decay2

end Cert.AdamwConvOutRefIdeal.Read

namespace Cert.AdamwConvOutIdeal

open Cert.AdamwConvOutIdeal.Gen

/-- The reference ends without fault, its arguments unchanged. -/
theorem frame_reference : Cert.quiescent_AdamwConvOutRefIdeal := fun m ρ _ =>
  (θ_run Cert.AdamwConvOutRefIdeal.defs _ _).mono (fun r h => ⟨fun c => (h c).2.2.2.2, sem_eq_zero_of_no_sems (by decide) r.2⟩)
    (Cert.AdamwConvOutRefIdeal.Value.run (F := Ideal) m ρ)

/-- The two named constants. -/
theorem preserves : Cert.preserves_AdamwConvOut_AdamwConvOutIdeal :=
  ⟨IdealRules.named_const.statement Cert.AdamwConvOutIdeal.κ "c1" .f32 0x3FC48605#32 ((10000000000 / 6513215599 : ℝ) : EReal) rfl,
    IdealRules.named_const.statement Cert.AdamwConvOutIdeal.κ "c2" .f32 0x42C8E6D3#32
      ((1000000000000000000000000000000 / 9955119790251790119955009999 : ℝ) : EReal) rfl⟩

/-- Kernel and reference end with equal results over the extended reals. -/
theorem algebraic : Cert.algebraic_AdamwConvOutIdeal_AdamwConvOutRefIdeal := by
  intro m ρ m' ρ' _ hag
  refine ⟨_, _, _, _, Value.run_blocks m ρ, ?_⟩
  refine (θ_run Cert.AdamwConvOutRefIdeal.defs _ _).mono (fun r h c => ⟨(h c).1.trans ?_, (h c).2.1.trans ?_, (h c).2.2.1.trans ?_,
    (h c).2.2.2.1.trans ?_, (h c).2.2.2.2⟩) (Cert.AdamwConvOutRefIdeal.Value.run (F := Ideal) m' ρ')
  · rw [(hag c).1, (hag c).2.1]
    exact (Cert.AdamwConvOutRefIdeal.Read.gradient _ _).trans (gradient m c).symm
  · rw [Cert.AdamwConvOutRefIdeal.Read.val_main_v42_eq, (hag c).1, (hag c).2.1, (hag c).2.2.1, (hag c).2.2.2.1, (hag c).2.2.2.2]
    exact (Cert.AdamwConvOutRefIdeal.Read.change_of_weight _ _ _ _ _).trans (change_of_weight m c).symm
  · rw [(hag c).1, (hag c).2.1, (hag c).2.2.2.1]
    exact (Cert.AdamwConvOutRefIdeal.Read.first_moment _ _ _).trans (first_moment m c).symm
  · rw [(hag c).1, (hag c).2.1, (hag c).2.2.2.2]
    exact (Cert.AdamwConvOutRefIdeal.Read.second_moment _ _ _).trans (second_moment m c).symm

end Cert.AdamwConvOutIdeal

end
end
-- ==== Proof.AdamwQkv.lean ====
module

public import proofs.«01_k».proof.Defs
public import proofs.«01_k».proof.Proof.Update
public import proofs.«01_k».proof.Proof.Gen.AdamwQkvIdeal.Value
public import proofs.«01_k».proof.Proof.Gen.AdamwQkvRefIdeal.Run
public import proofs.«01_k».proof.Proof.Gen.AdamwQkvRefIdeal.Read

/-! # The optimiser's step of the attention's projection to queries, keys and values -/

set_option maxRecDepth 16384

noncomputable section

open Idealize.ShloMosaic Idealize.ShloMosaic.TcCoe Idealize.SL.Sem
open Idealize.ShloMosaic.Pipeline (Dat)
open Cert.Update

@[expose] public section

namespace Cert.AdamwQkvIdeal

open Cert.AdamwQkvIdeal.Gen

variable (m : (ℓ : Loc nD τ sig) → Buf (Elt Ideal) ℓ) (c : Dev nD)

theorem c1 : Named.named (F := Ideal) κ "c1" (φ := .f32) 0x3FC48605#32 = ((10000000000 / 6513215599 : ℝ) : EReal) :=
  IdealRules.named_const.ideal_named_scalar _ _ _ _ rfl
theorem c2 : Named.named (F := Ideal) κ "c2" (φ := .f32) 0x42C8E6D3#32
    = ((1000000000000000000000000000000 / 9955119790251790119955009999 : ℝ) : EReal) :=
  IdealRules.named_const.ideal_named_scalar _ _ _ _ rfl

/-- The devices' parts, layer by layer. -/
def devices : Fin 1 → (⟨3, ![8, 1024, 192]⟩ : Shape).Idx → EReal := ![m ((c : Thread nD τ).loc main_arg0)]

/-- A layer's parts, added at its points, are that layer's gradient. -/
theorem layer0 (t : Fin cfg0.N) (y : S1x512x192.Idx) :
    added8 (fun q => iblk m c 0 t (ix3 (n0 := 8) (n1 := 512) (n2 := 192) q (y 1) (y 2))) = totals (n := 1) (s := 8) (r := 1024) (c := 192) (devices m c) ((win0_7.blk t).view.emb y) := by
  have e : ∀ t : Fin cfg0.N, win0_0.index t = ![0, win0_7.index t 1, win0_7.index t 2] := (by decide +kernel : ∀ t : Fin grid0.N, _)
  have l : ∀ t : Fin cfg0.N, win0_7.index t 0 = 0 := (by decide +kernel : ∀ t : Fin grid0.N, _)
  refine added8_of 0 (Fin.ext ?_) fun q => ?_
  · blk_simp [l t]
    rfl
  · show _ = m ((c : Thread nD τ).loc main_arg0) _
    blk_simp [iblk]
    rw [V_main_arg0]
    refine congrArg _ ?_
    blk_ext [e t]

/-- The kernel's blocks of weight and moments, read where the results' block lies. -/
theorem block1 (t : Fin cfg0.N) (y : S1x512x192.Idx) : iblk m c 1 t y = m ((c : Thread nD τ).loc main_arg1) ((win0_7.blk t).view.emb y) := by
  have e : ∀ t : Fin cfg0.N, win0_1.index t = win0_7.index t := (by decide +kernel : ∀ t : Fin grid0.N, win0_1.index t = win0_7.index t)
  blk_simp [iblk]
  rw [V_main_arg1]
  refine congrArg _ ?_
  blk_ext [e]
theorem block2 (t : Fin cfg0.N) (y : S1x512x192.Idx) : iblk m c 2 t y = m ((c : Thread nD τ).loc main_arg2) ((win0_7.blk t).view.emb y) := by
  have e : ∀ t : Fin cfg0.N, win0_2.index t = win0_7.index t := (by decide +kernel : ∀ t : Fin grid0.N, win0_2.index t = win0_7.index t)
  blk_simp [iblk]
  rw [V_main_arg2]
  refine congrArg _ ?_
  blk_ext [e]
theorem block3 (t : Fin cfg0.N) (y : S1x512x192.Idx) : iblk m c 3 t y = m ((c : Thread nD τ).loc main_arg3) ((win0_7.blk t).view.emb y) := by
  have e : ∀ t : Fin cfg0.N, win0_3.index t = win0_7.index t := (by decide +kernel : ∀ t : Fin grid0.N, win0_3.index t = win0_7.index t)
  blk_simp [iblk]
  rw [V_main_arg3]
  refine congrArg _ ?_
  blk_ext [e]

/-- The results' blocks lie at one place. -/
theorem place4 (t : Fin cfg0.N) (y : S1x512x192.Idx) : (win0_4.blk t).view.emb y = (win0_7.blk t).view.emb y := by
  have e : ∀ t : Fin cfg0.N, win0_4.index t = win0_7.index t := (by decide +kernel : ∀ t : Fin grid0.N, win0_4.index t = win0_7.index t)
  blk_ext [e]
theorem place5 (t : Fin cfg0.N) (y : S1x512x192.Idx) : (win0_5.blk t).view.emb y = (win0_7.blk t).view.emb y := by
  have e : ∀ t : Fin cfg0.N, win0_5.index t = win0_7.index t := (by decide +kernel : ∀ t : Fin grid0.N, win0_5.index t = win0_7.index t)
  blk_ext [e]
theorem place6 (t : Fin cfg0.N) (y : S1x512x192.Idx) : (win0_6.blk t).view.emb y = (win0_7.blk t).view.emb y := by
  have e : ∀ t : Fin cfg0.N, win0_6.index t = win0_7.index t := (by decide +kernel : ∀ t : Fin grid0.N, win0_6.index t = win0_7.index t)
  blk_ext [e]

/-- What a point writes. -/
theorem written (t : Fin cfg0.N) (y : S1x512x192.Idx) :
    (outsAt0 m c t).1 y = totals (n := 1) (s := 8) (r := 1024) (c := 192) (devices m c) ((win0_7.blk t).view.emb y)
    ∧ (outsAt0 m c t).2.1 y = changes (totals (n := 1) (s := 8) (r := 1024) (c := 192) (devices m c)) (m ((c : Thread nD τ).loc main_arg1)) (m ((c : Thread nD τ).loc main_arg2)) (m ((c : Thread nD τ).loc main_arg3)) ((win0_7.blk t).view.emb y)
    ∧ (outsAt0 m c t).2.2.1 y = firsts (totals (n := 1) (s := 8) (r := 1024) (c := 192) (devices m c)) (m ((c : Thread nD τ).loc main_arg2)) ((win0_7.blk t).view.emb y)
    ∧ (outsAt0 m c t).2.2.2 y = seconds (totals (n := 1) (s := 8) (r := 1024) (c := 192) (devices m c)) (m ((c : Thread nD τ).loc main_arg3)) ((win0_7.blk t).view.emb y) := by
  unfold outsAt0 out0_A_4 out0_A_5 out0_A_6 out0_A_7
  dsimp only
  refine ⟨?_, ?_, ?_, ?_⟩ <;> frame_out <;> pointwise [k0_pay1, k0_pay2, k0_pay3, k0_pay4, k0_pay5, k0_pay6, k0_pay7, k0_pay8, k0_pay9, k0_pay10]
  · exact layer0 m c t y
  · exact change_of_products (layer0 m c t y) (block1 m c t y) (block2 m c t y) (block3 m c t y) c1 c2
  · exact first_of (layer0 m c t y) (block2 m c t y)
  · exact second_of (layer0 m c t y) (block3 m c t y)

/-- The results of the run. -/
theorem gradient : (dats m 0 c).arrAt 4 cfg0.N = totals (n := 1) (s := 8) (r := 1024) (c := 192) (devices m c) := by
  refine (dats m 0 c).arrAt_eq_of_covers 4 _ (by decide +kernel) fun t _ y => ?_
  blk_simp
  rw [after0_4]
  exact ((written m c t y).1).trans (congrArg (totals _) (place4 t y).symm)
theorem change_of_weight : (dats m 0 c).arrAt 5 cfg0.N = changes (totals (n := 1) (s := 8) (r := 1024) (c := 192) (devices m c)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  exact ((written m c t y).2.1).trans (congrArg (changes (totals _) _ _ _) (place5 t y).symm)
theorem first_moment : (dats m 0 c).arrAt 6 cfg0.N = firsts (totals (n := 1) (s := 8) (r := 1024) (c := 192) (devices m c)) (m ((c : Thread nD τ).loc main_arg2)) := by
  refine (dats m 0 c).arrAt_eq_of_covers 6 _ (by decide +kernel) fun t _ y => ?_
  blk_simp
  rw [after0_6]
  exact ((written m c t y).2.2.1).trans (congrArg (firsts (totals _) _) (place6 t y).symm)
theorem second_moment : (dats m 0 c).arrAt 7 cfg0.N = seconds (totals (n := 1) (s := 8) (r := 1024) (c := 192) (devices m c)) (m ((c : Thread nD τ).loc main_arg3)) := by
  refine (dats m 0 c).arrAt_eq_of_covers 7 _ (by decide +kernel) fun t _ y => ?_
  blk_simp
  rw [after0_7]
  exact (written m c t y).2.2.2

end Cert.AdamwQkvIdeal

namespace Cert.AdamwQkvRefIdeal.Read

variable (x0 : FVec Ideal S8x1024x192 .bf16) (x1 x2 x3 : FVec Ideal S1x1024x192 .f32)

theorem gradient : val_main_v2 (F := Ideal) x0 = totals (n := 1) (s := 8) (r := 1024) (c := 192) ![x0] := by
  funext y
  rw [eq_ix3 y]
  generalize y 0 = l, y 1 = i, y 2 = j
  unfold totals
  fin_cases l <;> pointwise [val_main_v0, val_main_v1, val_main_v2, val_main_cst] <;> refine Finset.sum_congr rfl fun q _ => congrArg _ ?_ <;> blk_ext []

theorem first_moment : val_main_v7 (F := Ideal) x0 x2 = firsts (totals (n := 1) (s := 8) (r := 1024) (c := 192) ![x0]) x2 := by
  funext y
  unfold firsts
  rw [← gradient]
  pointwise [val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_cst_0, val_main_cst_1, val_main_cst_2, val_main_cst_3, val_main_cst_4, val_main_cst_5, val_main_cst_6, val_main_cst_7, val_main_cst_8, val_main_cst_9, val_main_cst_10, val_main_cst_11, val_main_cst_12]
  exact first_of rfl rfl

theorem second_moment : val_main_v13 (F := Ideal) x0 x3 = seconds (totals (n := 1) (s := 8) (r := 1024) (c := 192) ![x0]) x3 := by
  funext y
  unfold seconds
  rw [← gradient]
  pointwise [val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_cst_0, val_main_cst_1, val_main_cst_2, val_main_cst_3, val_main_cst_4, val_main_cst_5, val_main_cst_6, val_main_cst_7, val_main_cst_8, val_main_cst_9, val_main_cst_10, val_main_cst_11, val_main_cst_12]
  exact second_of rfl rfl

theorem change_of_weight : val_main_v38 (F := Ideal) x0 x1 x2 x3 = changes (totals (n := 1) (s := 8) (r := 1024) (c := 192) ![x0]) x1 x2 x3 := by
  funext y
  unfold changes
  rw [← gradient]
  pointwise [val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_cst_0, val_main_cst_1, val_main_cst_2, val_main_cst_3, val_main_cst_4, val_main_cst_5, val_main_cst_6, val_main_cst_7, val_main_cst_8, val_main_cst_9, val_main_cst_10, val_main_cst_11, val_main_cst_12]
  exact change_of_quotients rfl rfl rfl rfl decay1 decay2

end Cert.AdamwQkvRefIdeal.Read

namespace Cert.AdamwQkvIdeal

open Cert.AdamwQkvIdeal.Gen

/-- The reference ends without fault, its arguments unchanged. -/
theorem frame_reference : Cert.quiescent_AdamwQkvRefIdeal := fun m ρ _ =>
  (θ_run Cert.AdamwQkvRefIdeal.defs _ _).mono (fun r h => ⟨fun c => (h c).2.2.2.2, sem_eq_zero_of_no_sems (by decide) r.2⟩)
    (Cert.AdamwQkvRefIdeal.Value.run (F := Ideal) m ρ)

/-- The two named constants. -/
theorem preserves : Cert.preserves_AdamwQkv_AdamwQkvIdeal :=
  ⟨IdealRules.named_const.statement Cert.AdamwQkvIdeal.κ "c1" .f32 0x3FC48605#32 ((10000000000 / 6513215599 : ℝ) : EReal) rfl,
    IdealRules.named_const.statement Cert.AdamwQkvIdeal.κ "c2" .f32 0x42C8E6D3#32
      ((1000000000000000000000000000000 / 9955119790251790119955009999 : ℝ) : EReal) rfl⟩

/-- Kernel and reference end with equal results over the extended reals. -/
theorem algebraic : Cert.algebraic_AdamwQkvIdeal_AdamwQkvRefIdeal := by
  intro m ρ m' ρ' _ hag
  refine ⟨_, _, _, _, Value.run_blocks m ρ, ?_⟩
  refine (θ_run Cert.AdamwQkvRefIdeal.defs _ _).mono (fun r h c => ⟨(h c).1.trans ?_, (h c).2.1.trans ?_, (h c).2.2.1.trans ?_,
    (h c).2.2.2.1.trans ?_, (h c).2.2.2.2⟩) (Cert.AdamwQkvRefIdeal.Value.run (F := Ideal) m' ρ')
  · rw [(hag c).1]
    exact (Cert.AdamwQkvRefIdeal.Read.gradient _).trans (gradient m c).symm
  · rw [(hag c).1, (hag c).2.1, (hag c).2.2.1, (hag c).2.2.2]
    exact (Cert.AdamwQkvRefIdeal.Read.change_of_weight _ _ _ _).trans (change_of_weight m c).symm
  · rw [(hag c).1, (hag c).2.2.1]
    exact (Cert.AdamwQkvRefIdeal.Read.first_moment _ _).trans (first_moment m c).symm
  · rw [(hag c).1, (hag c).2.2.2]
    exact (Cert.AdamwQkvRefIdeal.Read.second_moment _ _).trans (second_moment m c).symm

end Cert.AdamwQkvIdeal

end
end
-- ==== Proof.AdamwAttnOut.lean ====
module

public import proofs.«01_k».proof.Defs
public import proofs.«01_k».proof.Proof.Update
public import proofs.«01_k».proof.Proof.Gen.AdamwAttnOutIdeal.Value
public import proofs.«01_k».proof.Proof.Gen.AdamwAttnOutRefIdeal.Run
public import proofs.«01_k».proof.Proof.Gen.AdamwAttnOutRefIdeal.Read

/-! # The optimiser's step of the attention's output projection -/

set_option maxRecDepth 16384

noncomputable section

open Idealize.ShloMosaic Idealize.ShloMosaic.TcCoe Idealize.SL.Sem
open Idealize.ShloMosaic.Pipeline (Dat)
open Cert.Update

@[expose] public section

namespace Cert.AdamwAttnOutIdeal

open Cert.AdamwAttnOutIdeal.Gen

variable (m : (ℓ : Loc nD τ sig) → Buf (Elt Ideal) ℓ) (c : Dev nD)

theorem c1 : Named.named (F := Ideal) κ "c1" (φ := .f32) 0x3FC48605#32 = ((10000000000 / 6513215599 : ℝ) : EReal) :=
  IdealRules.named_const.ideal_named_scalar _ _ _ _ rfl
theorem c2 : Named.named (F := Ideal) κ "c2" (φ := .f32) 0x42C8E6D3#32
    = ((1000000000000000000000000000000 / 9955119790251790119955009999 : ℝ) : EReal) :=
  IdealRules.named_const.ideal_named_scalar _ _ _ _ rfl

/-- The devices' parts, layer by layer. -/
def devices : Fin 1 → (⟨3, ![8, 128, 1024]⟩ : Shape).Idx → EReal := ![m ((c : Thread nD τ).loc main_arg0)]

/-- A layer's parts, added at its points, are that layer's gradient. -/
theorem layer0 (t : Fin cfg0.N) (y : S1x128x1024.Idx) :
    added8 (fun q => iblk m c 0 t (ix3 (n0 := 8) (n1 := 128) (n2 := 1024) q (y 1) (y 2))) = totals (n := 1) (s := 8) (r := 128) (c := 1024) (devices m c) ((win0_7.blk t).view.emb y) := by
  have e : ∀ t : Fin cfg0.N, win0_0.index t = ![0, win0_7.index t 1, win0_7.index t 2] := (by decide +kernel : ∀ t : Fin grid0.N, _)
  have l : ∀ t : Fin cfg0.N, win0_7.index t 0 = 0 := (by decide +kernel : ∀ t : Fin grid0.N, _)
  refine added8_of 0 (Fin.ext ?_) fun q => ?_
  · blk_simp [l t]
    rfl
  · show _ = m ((c : Thread nD τ).loc main_arg0) _
    blk_simp [iblk]
    rw [V_main_arg0]
    refine congrArg _ ?_
    blk_ext [e t]

/-- The kernel's blocks of weight and moments, read where the results' block lies. -/
theorem block1 (t : Fin cfg0.N) (y : S1x128x1024.Idx) : iblk m c 1 t y = m ((c : Thread nD τ).loc main_arg1) ((win0_7.blk t).view.emb y) := by
  have e : ∀ t : Fin cfg0.N, win0_1.index t = win0_7.index t := (by decide +kernel : ∀ t : Fin grid0.N, win0_1.index t = win0_7.index t)
  blk_simp [iblk]
  rw [V_main_arg1]
  refine congrArg _ ?_
  blk_ext [e]
theorem block2 (t : Fin cfg0.N) (y : S1x128x1024.Idx) : iblk m c 2 t y = m ((c : Thread nD τ).loc main_arg2) ((win0_7.blk t).view.emb y) := by
  have e : ∀ t : Fin cfg0.N, win0_2.index t = win0_7.index t := (by decide +kernel : ∀ t : Fin grid0.N, win0_2.index t = win0_7.index t)
  blk_simp [iblk]
  rw [V_main_arg2]
  refine congrArg _ ?_
  blk_ext [e]
theorem block3 (t : Fin cfg0.N) (y : S1x128x1024.Idx) : iblk m c 3 t y = m ((c : Thread nD τ).loc main_arg3) ((win0_7.blk t).view.emb y) := by
  have e : ∀ t : Fin cfg0.N, win0_3.index t = win0_7.index t := (by decide +kernel : ∀ t : Fin grid0.N, win0_3.index t = win0_7.index t)
  blk_simp [iblk]
  rw [V_main_arg3]
  refine congrArg _ ?_
  blk_ext [e]

/-- The results' blocks lie at one place. -/
theorem place4 (t : Fin cfg0.N) (y : S1x128x1024.Idx) : (win0_4.blk t).view.emb y = (win0_7.blk t).view.emb y := by
  have e : ∀ t : Fin cfg0.N, win0_4.index t = win0_7.index t := (by decide +kernel : ∀ t : Fin grid0.N, win0_4.index t = win0_7.index t)
  blk_ext [e]
theorem place5 (t : Fin cfg0.N) (y : S1x128x1024.Idx) : (win0_5.blk t).view.emb y = (win0_7.blk t).view.emb y := by
  have e : ∀ t : Fin cfg0.N, win0_5.index t = win0_7.index t := (by decide +kernel : ∀ t : Fin grid0.N, win0_5.index t = win0_7.index t)
  blk_ext [e]
theorem place6 (t : Fin cfg0.N) (y : S1x128x1024.Idx) : (win0_6.blk t).view.emb y = (win0_7.blk t).view.emb y := by
  have e : ∀ t : Fin cfg0.N, win0_6.index t = win0_7.index t := (by decide +kernel : ∀ t : Fin grid0.N, win0_6.index t = win0_7.index t)
  blk_ext [e]

/-- What a point writes. -/
theorem written (t : Fin cfg0.N) (y : S1x128x1024.Idx) :
    (outsAt0 m c t).1 y = totals (n := 1) (s := 8) (r := 128) (c := 1024) (devices m c) ((win0_7.blk t).view.emb y)
    ∧ (outsAt0 m c t).2.1 y = changes (totals (n := 1) (s := 8) (r := 128) (c := 1024) (devices m c)) (m ((c : Thread nD τ).loc main_arg1)) (m ((c : Thread nD τ).loc main_arg2)) (m ((c : Thread nD τ).loc main_arg3)) ((win0_7.blk t).view.emb y)
    ∧ (outsAt0 m c t).2.2.1 y = firsts (totals (n := 1) (s := 8) (r := 128) (c := 1024) (devices m c)) (m ((c : Thread nD τ).loc main_arg2)) ((win0_7.blk t).view.emb y)
    ∧ (outsAt0 m c t).2.2.2 y = seconds (totals (n := 1) (s := 8) (r := 128) (c := 1024) (devices m c)) (m ((c : Thread nD τ).loc main_arg3)) ((win0_7.blk t).view.emb y) := by
  unfold outsAt0 out0_A_4 out0_A_5 out0_A_6 out0_A_7
  dsimp only
  refine ⟨?_, ?_, ?_, ?_⟩ <;> frame_out <;> pointwise [k0_pay1, k0_pay2, k0_pay3, k0_pay4, k0_pay5, k0_pay6, k0_pay7, k0_pay8, k0_pay9, k0_pay10]
  · exact layer0 m c t y
  · exact change_of_products (layer0 m c t y) (block1 m c t y) (block2 m c t y) (block3 m c t y) c1 c2
  · exact first_of (layer0 m c t y) (block2 m c t y)
  · exact second_of (layer0 m c t y) (block3 m c t y)

/-- The results of the run. -/
theorem gradient : (dats m 0 c).arrAt 4 cfg0.N = totals (n := 1) (s := 8) (r := 128) (c := 1024) (devices m c) := by
  refine (dats m 0 c).arrAt_eq_of_covers 4 _ (by decide +kernel) fun t _ y => ?_
  blk_simp
  rw [after0_4]
  exact ((written m c t y).1).trans (congrArg (totals _) (place4 t y).symm)
theorem change_of_weight : (dats m 0 c).arrAt 5 cfg0.N = changes (totals (n := 1) (s := 8) (r := 128) (c := 1024) (devices m c)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  exact ((written m c t y).2.1).trans (congrArg (changes (totals _) _ _ _) (place5 t y).symm)
theorem first_moment : (dats m 0 c).arrAt 6 cfg0.N = firsts (totals (n := 1) (s := 8) (r := 128) (c := 1024) (devices m c)) (m ((c : Thread nD τ).loc main_arg2)) := by
  refine (dats m 0 c).arrAt_eq_of_covers 6 _ (by decide +kernel) fun t _ y => ?_
  blk_simp
  rw [after0_6]
  exact ((written m c t y).2.2.1).trans (congrArg (firsts (totals _) _) (place6 t y).symm)
theorem second_moment : (dats m 0 c).arrAt 7 cfg0.N = seconds (totals (n := 1) (s := 8) (r := 128) (c := 1024) (devices m c)) (m ((c : Thread nD τ).loc main_arg3)) := by
  refine (dats m 0 c).arrAt_eq_of_covers 7 _ (by decide +kernel) fun t _ y => ?_
  blk_simp
  rw [after0_7]
  exact (written m c t y).2.2.2

end Cert.AdamwAttnOutIdeal

namespace Cert.AdamwAttnOutRefIdeal.Read

variable (x0 : FVec Ideal S8x128x1024 .bf16) (x1 x2 x3 : FVec Ideal S1x128x1024 .f32)

theorem gradient : val_main_v2 (F := Ideal) x0 = totals (n := 1) (s := 8) (r := 128) (c := 1024) ![x0] := by
  funext y
  rw [eq_ix3 y]
  generalize y 0 = l, y 1 = i, y 2 = j
  unfold totals
  fin_cases l <;> pointwise [val_main_v0, val_main_v1, val_main_v2, val_main_cst] <;> refine Finset.sum_congr rfl fun q _ => congrArg _ ?_ <;> blk_ext []

theorem first_moment : val_main_v7 (F := Ideal) x0 x2 = firsts (totals (n := 1) (s := 8) (r := 128) (c := 1024) ![x0]) x2 := by
  funext y
  unfold firsts
  rw [← gradient]
  pointwise [val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_cst_0, val_main_cst_1, val_main_cst_2, val_main_cst_3, val_main_cst_4, val_main_cst_5, val_main_cst_6, val_main_cst_7, val_main_cst_8, val_main_cst_9, val_main_cst_10, val_main_cst_11, val_main_cst_12]
  exact first_of rfl rfl

theorem second_moment : val_main_v13 (F := Ideal) x0 x3 = seconds (totals (n := 1) (s := 8) (r := 128) (c := 1024) ![x0]) x3 := by
  funext y
  unfold seconds
  rw [← gradient]
  pointwise [val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_cst_0, val_main_cst_1, val_main_cst_2, val_main_cst_3, val_main_cst_4, val_main_cst_5, val_main_cst_6, val_main_cst_7, val_main_cst_8, val_main_cst_9, val_main_cst_10, val_main_cst_11, val_main_cst_12]
  exact second_of rfl rfl

theorem change_of_weight : val_main_v38 (F := Ideal) x0 x1 x2 x3 = changes (totals (n := 1) (s := 8) (r := 128) (c := 1024) ![x0]) x1 x2 x3 := by
  funext y
  unfold changes
  rw [← gradient]
  pointwise [val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_cst_0, val_main_cst_1, val_main_cst_2, val_main_cst_3, val_main_cst_4, val_main_cst_5, val_main_cst_6, val_main_cst_7, val_main_cst_8, val_main_cst_9, val_main_cst_10, val_main_cst_11, val_main_cst_12]
  exact change_of_quotients rfl rfl rfl rfl decay1 decay2

end Cert.AdamwAttnOutRefIdeal.Read

namespace Cert.AdamwAttnOutIdeal

open Cert.AdamwAttnOutIdeal.Gen

/-- The reference ends without fault, its arguments unchanged. -/
theorem frame_reference : Cert.quiescent_AdamwAttnOutRefIdeal := fun m ρ _ =>
  (θ_run Cert.AdamwAttnOutRefIdeal.defs _ _).mono (fun r h => ⟨fun c => (h c).2.2.2.2, sem_eq_zero_of_no_sems (by decide) r.2⟩)
    (Cert.AdamwAttnOutRefIdeal.Value.run (F := Ideal) m ρ)

/-- The two named constants. -/
theorem preserves : Cert.preserves_AdamwAttnOut_AdamwAttnOutIdeal :=
  ⟨IdealRules.named_const.statement Cert.AdamwAttnOutIdeal.κ "c1" .f32 0x3FC48605#32 ((10000000000 / 6513215599 : ℝ) : EReal) rfl,
    IdealRules.named_const.statement Cert.AdamwAttnOutIdeal.κ "c2" .f32 0x42C8E6D3#32
      ((1000000000000000000000000000000 / 9955119790251790119955009999 : ℝ) : EReal) rfl⟩

/-- Kernel and reference end with equal results over the extended reals. -/
theorem algebraic : Cert.algebraic_AdamwAttnOutIdeal_AdamwAttnOutRefIdeal := by
  intro m ρ m' ρ' _ hag
  refine ⟨_, _, _, _, Value.run_blocks m ρ, ?_⟩
  refine (θ_run Cert.AdamwAttnOutRefIdeal.defs _ _).mono (fun r h c => ⟨(h c).1.trans ?_, (h c).2.1.trans ?_, (h c).2.2.1.trans ?_,
    (h c).2.2.2.1.trans ?_, (h c).2.2.2.2⟩) (Cert.AdamwAttnOutRefIdeal.Value.run (F := Ideal) m' ρ')
  · rw [(hag c).1]
    exact (Cert.AdamwAttnOutRefIdeal.Read.gradient _).trans (gradient m c).symm
  · rw [(hag c).1, (hag c).2.1, (hag c).2.2.1, (hag c).2.2.2]
    exact (Cert.AdamwAttnOutRefIdeal.Read.change_of_weight _ _ _ _).trans (change_of_weight m c).symm
  · rw [(hag c).1, (hag c).2.2.1]
    exact (Cert.AdamwAttnOutRefIdeal.Read.first_moment _ _).trans (first_moment m c).symm
  · rw [(hag c).1, (hag c).2.2.2]
    exact (Cert.AdamwAttnOutRefIdeal.Read.second_moment _ _).trans (second_moment m c).symm

end Cert.AdamwAttnOutIdeal

end
end
-- ==== Proof.AdamwGateIn.lean ====
module

public import proofs.«01_k».proof.Defs
public import proofs.«01_k».proof.Proof.Update
public import proofs.«01_k».proof.Proof.Gen.AdamwGateInIdeal.Value
public import proofs.«01_k».proof.Proof.Gen.AdamwGateInRefIdeal.Run
public import proofs.«01_k».proof.Proof.Gen.AdamwGateInRefIdeal.Read

/-! # The optimiser's step of the gated mixer's first projection -/

set_option maxRecDepth 16384

noncomputable section

open Idealize.ShloMosaic Idealize.ShloMosaic.TcCoe Idealize.SL.Sem
open Idealize.ShloMosaic.Pipeline (Dat)
open Cert.Update

@[expose] public section

namespace Cert.AdamwGateInIdeal

open Cert.AdamwGateInIdeal.Gen

variable (m : (ℓ : Loc nD τ sig) → Buf (Elt Ideal) ℓ) (c : Dev nD)

theorem c1 : Named.named (F := Ideal) κ "c1" (φ := .f32) 0x3FC48605#32 = ((10000000000 / 6513215599 : ℝ) : EReal) :=
  IdealRules.named_const.ideal_named_scalar _ _ _ _ rfl
theorem c2 : Named.named (F := Ideal) κ "c2" (φ := .f32) 0x42C8E6D3#32
    = ((1000000000000000000000000000000 / 9955119790251790119955009999 : ℝ) : EReal) :=
  IdealRules.named_const.ideal_named_scalar _ _ _ _ rfl

/-- The devices' parts, layer by layer. -/
def devices : Fin 1 → (⟨3, ![8, 1024, 512]⟩ : Shape).Idx → EReal := ![m ((c : Thread nD τ).loc main_arg0)]

/-- A layer's parts, added at its points, are that layer's gradient. -/
theorem layer0 (t : Fin cfg0.N) (y : S1x256x512.Idx) :
    added8 (fun q => iblk m c 0 t (ix3 (n0 := 8) (n1 := 256) (n2 := 512) q (y 1) (y 2))) = totals (n := 1) (s := 8) (r := 1024) (c := 512) (devices m c) ((win0_7.blk t).view.emb y) := by
  have e : ∀ t : Fin cfg0.N, win0_0.index t = ![0, win0_7.index t 1, win0_7.index t 2] := (by decide +kernel : ∀ t : Fin grid0.N, _)
  have l : ∀ t : Fin cfg0.N, win0_7.index t 0 = 0 := (by decide +kernel : ∀ t : Fin grid0.N, _)
  refine added8_of 0 (Fin.ext ?_) fun q => ?_
  · blk_simp [l t]
    rfl
  · show _ = m ((c : Thread nD τ).loc main_arg0) _
    blk_simp [iblk]
    rw [V_main_arg0]
    refine congrArg _ ?_
    blk_ext [e t]

/-- The kernel's blocks of weight and moments, read where the results' block lies. -/
theorem block1 (t : Fin cfg0.N) (y : S1x256x512.Idx) : iblk m c 1 t y = m ((c : Thread nD τ).loc main_arg1) ((win0_7.blk t).view.emb y) := by
  have e : ∀ t : Fin cfg0.N, win0_1.index t = win0_7.index t := (by decide +kernel : ∀ t : Fin grid0.N, win0_1.index t = win0_7.index t)
  blk_simp [iblk]
  rw [V_main_arg1]
  refine congrArg _ ?_
  blk_ext [e]
theorem block2 (t : Fin cfg0.N) (y : S1x256x512.Idx) : iblk m c 2 t y = m ((c : Thread nD τ).loc main_arg2) ((win0_7.blk t).view.emb y) := by
  have e : ∀ t : Fin cfg0.N, win0_2.index t = win0_7.index t := (by decide +kernel : ∀ t : Fin grid0.N, win0_2.index t = win0_7.index t)
  blk_simp [iblk]
  rw [V_main_arg2]
  refine congrArg _ ?_
  blk_ext [e]
theorem block3 (t : Fin cfg0.N) (y : S1x256x512.Idx) : iblk m c 3 t y = m ((c : Thread nD τ).loc main_arg3) ((win0_7.blk t).view.emb y) := by
  have e : ∀ t : Fin cfg0.N, win0_3.index t = win0_7.index t := (by decide +kernel : ∀ t : Fin grid0.N, win0_3.index t = win0_7.index t)
  blk_simp [iblk]
  rw [V_main_arg3]
  refine congrArg _ ?_
  blk_ext [e]

/-- The results' blocks lie at one place. -/
theorem place4 (t : Fin cfg0.N) (y : S1x256x512.Idx) : (win0_4.blk t).view.emb y = (win0_7.blk t).view.emb y := by
  have e : ∀ t : Fin cfg0.N, win0_4.index t = win0_7.index t := (by decide +kernel : ∀ t : Fin grid0.N, win0_4.index t = win0_7.index t)
  blk_ext [e]
theorem place5 (t : Fin cfg0.N) (y : S1x256x512.Idx) : (win0_5.blk t).view.emb y = (win0_7.blk t).view.emb y := by
  have e : ∀ t : Fin cfg0.N, win0_5.index t = win0_7.index t := (by decide +kernel : ∀ t : Fin grid0.N, win0_5.index t = win0_7.index t)
  blk_ext [e]
theorem place6 (t : Fin cfg0.N) (y : S1x256x512.Idx) : (win0_6.blk t).view.emb y = (win0_7.blk t).view.emb y := by
  have e : ∀ t : Fin cfg0.N, win0_6.index t = win0_7.index t := (by decide +kernel : ∀ t : Fin grid0.N, win0_6.index t = win0_7.index t)
  blk_ext [e]

/-- What a point writes. -/
theorem written (t : Fin cfg0.N) (y : S1x256x512.Idx) :
    (outsAt0 m c t).1 y = totals (n := 1) (s := 8) (r := 1024) (c := 512) (devices m c) ((win0_7.blk t).view.emb y)
    ∧ (outsAt0 m c t).2.1 y = changes (totals (n := 1) (s := 8) (r := 1024) (c := 512) (devices m c)) (m ((c : Thread nD τ).loc main_arg1)) (m ((c : Thread nD τ).loc main_arg2)) (m ((c : Thread nD τ).loc main_arg3)) ((win0_7.blk t).view.emb y)
    ∧ (outsAt0 m c t).2.2.1 y = firsts (totals (n := 1) (s := 8) (r := 1024) (c := 512) (devices m c)) (m ((c : Thread nD τ).loc main_arg2)) ((win0_7.blk t).view.emb y)
    ∧ (outsAt0 m c t).2.2.2 y = seconds (totals (n := 1) (s := 8) (r := 1024) (c := 512) (devices m c)) (m ((c : Thread nD τ).loc main_arg3)) ((win0_7.blk t).view.emb y) := by
  unfold outsAt0 out0_A_4 out0_A_5 out0_A_6 out0_A_7
  dsimp only
  refine ⟨?_, ?_, ?_, ?_⟩ <;> frame_out <;> pointwise [k0_pay1, k0_pay2, k0_pay3, k0_pay4, k0_pay5, k0_pay6, k0_pay7, k0_pay8, k0_pay9, k0_pay10]
  · exact layer0 m c t y
  · exact change_of_products (layer0 m c t y) (block1 m c t y) (block2 m c t y) (block3 m c t y) c1 c2
  · exact first_of (layer0 m c t y) (block2 m c t y)
  · exact second_of (layer0 m c t y) (block3 m c t y)

/-- The results of the run. -/
theorem gradient : (dats m 0 c).arrAt 4 cfg0.N = totals (n := 1) (s := 8) (r := 1024) (c := 512) (devices m c) := by
  refine (dats m 0 c).arrAt_eq_of_covers 4 _ (by decide +kernel) fun t _ y => ?_
  blk_simp
  rw [after0_4]
  exact ((written m c t y).1).trans (congrArg (totals _) (place4 t y).symm)
theorem change_of_weight : (dats m 0 c).arrAt 5 cfg0.N = changes (totals (n := 1) (s := 8) (r := 1024) (c := 512) (devices m c)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  exact ((written m c t y).2.1).trans (congrArg (changes (totals _) _ _ _) (place5 t y).symm)
theorem first_moment : (dats m 0 c).arrAt 6 cfg0.N = firsts (totals (n := 1) (s := 8) (r := 1024) (c := 512) (devices m c)) (m ((c : Thread nD τ).loc main_arg2)) := by
  refine (dats m 0 c).arrAt_eq_of_covers 6 _ (by decide +kernel) fun t _ y => ?_
  blk_simp
  rw [after0_6]
  exact ((written m c t y).2.2.1).trans (congrArg (firsts (totals _) _) (place6 t y).symm)
theorem second_moment : (dats m 0 c).arrAt 7 cfg0.N = seconds (totals (n := 1) (s := 8) (r := 1024) (c := 512) (devices m c)) (m ((c : Thread nD τ).loc main_arg3)) := by
  refine (dats m 0 c).arrAt_eq_of_covers 7 _ (by decide +kernel) fun t _ y => ?_
  blk_simp
  rw [after0_7]
  exact (written m c t y).2.2.2

end Cert.AdamwGateInIdeal

namespace Cert.AdamwGateInRefIdeal.Read

variable (x0 : FVec Ideal S8x1024x512 .bf16) (x1 x2 x3 : FVec Ideal S1x1024x512 .f32)

theorem gradient : val_main_v2 (F := Ideal) x0 = totals (n := 1) (s := 8) (r := 1024) (c := 512) ![x0] := by
  funext y
  rw [eq_ix3 y]
  generalize y 0 = l, y 1 = i, y 2 = j
  unfold totals
  fin_cases l <;> pointwise [val_main_v0, val_main_v1, val_main_v2, val_main_cst] <;> refine Finset.sum_congr rfl fun q _ => congrArg _ ?_ <;> blk_ext []

theorem first_moment : val_main_v7 (F := Ideal) x0 x2 = firsts (totals (n := 1) (s := 8) (r := 1024) (c := 512) ![x0]) x2 := by
  funext y
  unfold firsts
  rw [← gradient]
  pointwise [val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_cst_0, val_main_cst_1, val_main_cst_2, val_main_cst_3, val_main_cst_4, val_main_cst_5, val_main_cst_6, val_main_cst_7, val_main_cst_8, val_main_cst_9, val_main_cst_10, val_main_cst_11, val_main_cst_12]
  exact first_of rfl rfl

theorem second_moment : val_main_v13 (F := Ideal) x0 x3 = seconds (totals (n := 1) (s := 8) (r := 1024) (c := 512) ![x0]) x3 := by
  funext y
  unfold seconds
  rw [← gradient]
  pointwise [val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_cst_0, val_main_cst_1, val_main_cst_2, val_main_cst_3, val_main_cst_4, val_main_cst_5, val_main_cst_6, val_main_cst_7, val_main_cst_8, val_main_cst_9, val_main_cst_10, val_main_cst_11, val_main_cst_12]
  exact second_of rfl rfl

theorem change_of_weight : val_main_v38 (F := Ideal) x0 x1 x2 x3 = changes (totals (n := 1) (s := 8) (r := 1024) (c := 512) ![x0]) x1 x2 x3 := by
  funext y
  unfold changes
  rw [← gradient]
  pointwise [val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_cst_0, val_main_cst_1, val_main_cst_2, val_main_cst_3, val_main_cst_4, val_main_cst_5, val_main_cst_6, val_main_cst_7, val_main_cst_8, val_main_cst_9, val_main_cst_10, val_main_cst_11, val_main_cst_12]
  exact change_of_quotients rfl rfl rfl rfl decay1 decay2

end Cert.AdamwGateInRefIdeal.Read

namespace Cert.AdamwGateInIdeal

open Cert.AdamwGateInIdeal.Gen

/-- The reference ends without fault, its arguments unchanged. -/
theorem frame_reference : Cert.quiescent_AdamwGateInRefIdeal := fun m ρ _ =>
  (θ_run Cert.AdamwGateInRefIdeal.defs _ _).mono (fun r h => ⟨fun c => (h c).2.2.2.2, sem_eq_zero_of_no_sems (by decide) r.2⟩)
    (Cert.AdamwGateInRefIdeal.Value.run (F := Ideal) m ρ)

/-- The two named constants. -/
theorem preserves : Cert.preserves_AdamwGateIn_AdamwGateInIdeal :=
  ⟨IdealRules.named_const.statement Cert.AdamwGateInIdeal.κ "c1" .f32 0x3FC48605#32 ((10000000000 / 6513215599 : ℝ) : EReal) rfl,
    IdealRules.named_const.statement Cert.AdamwGateInIdeal.κ "c2" .f32 0x42C8E6D3#32
      ((1000000000000000000000000000000 / 9955119790251790119955009999 : ℝ) : EReal) rfl⟩

/-- Kernel and reference end with equal results over the extended reals. -/
theorem algebraic : Cert.algebraic_AdamwGateInIdeal_AdamwGateInRefIdeal := by
  intro m ρ m' ρ' _ hag
  refine ⟨_, _, _, _, Value.run_blocks m ρ, ?_⟩
  refine (θ_run Cert.AdamwGateInRefIdeal.defs _ _).mono (fun r h c => ⟨(h c).1.trans ?_, (h c).2.1.trans ?_, (h c).2.2.1.trans ?_,
    (h c).2.2.2.1.trans ?_, (h c).2.2.2.2⟩) (Cert.AdamwGateInRefIdeal.Value.run (F := Ideal) m' ρ')
  · rw [(hag c).1]
    exact (Cert.AdamwGateInRefIdeal.Read.gradient _).trans (gradient m c).symm
  · rw [(hag c).1, (hag c).2.1, (hag c).2.2.1, (hag c).2.2.2]
    exact (Cert.AdamwGateInRefIdeal.Read.change_of_weight _ _ _ _).trans (change_of_weight m c).symm
  · rw [(hag c).1, (hag c).2.2.1]
    exact (Cert.AdamwGateInRefIdeal.Read.first_moment _ _).trans (first_moment m c).symm
  · rw [(hag c).1, (hag c).2.2.2]
    exact (Cert.AdamwGateInRefIdeal.Read.second_moment _ _).trans (second_moment m c).symm

end Cert.AdamwGateInIdeal

end
end
-- ==== Proof.AdamwGateOut.lean ====
module

public import proofs.«01_k».proof.Defs
public import proofs.«01_k».proof.Proof.Update
public import proofs.«01_k».proof.Proof.Gen.AdamwGateOutIdeal.Value
public import proofs.«01_k».proof.Proof.Gen.AdamwGateOutRefIdeal.Run
public import proofs.«01_k».proof.Proof.Gen.AdamwGateOutRefIdeal.Read

/-! # The optimiser's step of the gated mixer's second projection -/

set_option maxRecDepth 16384

noncomputable section

open Idealize.ShloMosaic Idealize.ShloMosaic.TcCoe Idealize.SL.Sem
open Idealize.ShloMosaic.Pipeline (Dat)
open Cert.Update

@[expose] public section

namespace Cert.AdamwGateOutIdeal

open Cert.AdamwGateOutIdeal.Gen

variable (m : (ℓ : Loc nD τ sig) → Buf (Elt Ideal) ℓ) (c : Dev nD)

theorem c1 : Named.named (F := Ideal) κ "c1" (φ := .f32) 0x3FC48605#32 = ((10000000000 / 6513215599 : ℝ) : EReal) :=
  IdealRules.named_const.ideal_named_scalar _ _ _ _ rfl
theorem c2 : Named.named (F := Ideal) κ "c2" (φ := .f32) 0x42C8E6D3#32
    = ((1000000000000000000000000000000 / 9955119790251790119955009999 : ℝ) : EReal) :=
  IdealRules.named_const.ideal_named_scalar _ _ _ _ rfl

/-- The devices' parts, layer by layer. -/
def devices : Fin 1 → (⟨3, ![8, 256, 1024]⟩ : Shape).Idx → EReal := ![m ((c : Thread nD τ).loc main_arg0)]

/-- A layer's parts, added at its points, are that layer's gradient. -/
theorem layer0 (t : Fin cfg0.N) (y : S1x128x1024.Idx) :
    added8 (fun q => iblk m c 0 t (ix3 (n0 := 8) (n1 := 128) (n2 := 1024) q (y 1) (y 2))) = totals (n := 1) (s := 8) (r := 256) (c := 1024) (devices m c) ((win0_7.blk t).view.emb y) := by
  have e : ∀ t : Fin cfg0.N, win0_0.index t = ![0, win0_7.index t 1, win0_7.index t 2] := (by decide +kernel : ∀ t : Fin grid0.N, _)
  have l : ∀ t : Fin cfg0.N, win0_7.index t 0 = 0 := (by decide +kernel : ∀ t : Fin grid0.N, _)
  refine added8_of 0 (Fin.ext ?_) fun q => ?_
  · blk_simp [l t]
    rfl
  · show _ = m ((c : Thread nD τ).loc main_arg0) _
    blk_simp [iblk]
    rw [V_main_arg0]
    refine congrArg _ ?_
    blk_ext [e t]

/-- The kernel's blocks of weight and moments, read where the results' block lies. -/
theorem block1 (t : Fin cfg0.N) (y : S1x128x1024.Idx) : iblk m c 1 t y = m ((c : Thread nD τ).loc main_arg1) ((win0_7.blk t).view.emb y) := by
  have e : ∀ t : Fin cfg0.N, win0_1.index t = win0_7.index t := (by decide +kernel : ∀ t : Fin grid0.N, win0_1.index t = win0_7.index t)
  blk_simp [iblk]
  rw [V_main_arg1]
  refine congrArg _ ?_
  blk_ext [e]
theorem block2 (t : Fin cfg0.N) (y : S1x128x1024.Idx) : iblk m c 2 t y = m ((c : Thread nD τ).loc main_arg2) ((win0_7.blk t).view.emb y) := by
  have e : ∀ t : Fin cfg0.N, win0_2.index t = win0_7.index t := (by decide +kernel : ∀ t : Fin grid0.N, win0_2.index t = win0_7.index t)
  blk_simp [iblk]
  rw [V_main_arg2]
  refine congrArg _ ?_
  blk_ext [e]
theorem block3 (t : Fin cfg0.N) (y : S1x128x1024.Idx) : iblk m c 3 t y = m ((c : Thread nD τ).loc main_arg3) ((win0_7.blk t).view.emb y) := by
  have e : ∀ t : Fin cfg0.N, win0_3.index t = win0_7.index t := (by decide +kernel : ∀ t : Fin grid0.N, win0_3.index t = win0_7.index t)
  blk_simp [iblk]
  rw [V_main_arg3]
  refine congrArg _ ?_
  blk_ext [e]

/-- The results' blocks lie at one place. -/
theorem place4 (t : Fin cfg0.N) (y : S1x128x1024.Idx) : (win0_4.blk t).view.emb y = (win0_7.blk t).view.emb y := by
  have e : ∀ t : Fin cfg0.N, win0_4.index t = win0_7.index t := (by decide +kernel : ∀ t : Fin grid0.N, win0_4.index t = win0_7.index t)
  blk_ext [e]
theorem place5 (t : Fin cfg0.N) (y : S1x128x1024.Idx) : (win0_5.blk t).view.emb y = (win0_7.blk t).view.emb y := by
  have e : ∀ t : Fin cfg0.N, win0_5.index t = win0_7.index t := (by decide +kernel : ∀ t : Fin grid0.N, win0_5.index t = win0_7.index t)
  blk_ext [e]
theorem place6 (t : Fin cfg0.N) (y : S1x128x1024.Idx) : (win0_6.blk t).view.emb y = (win0_7.blk t).view.emb y := by
  have e : ∀ t : Fin cfg0.N, win0_6.index t = win0_7.index t := (by decide +kernel : ∀ t : Fin grid0.N, win0_6.index t = win0_7.index t)
  blk_ext [e]

/-- What a point writes. -/
theorem written (t : Fin cfg0.N) (y : S1x128x1024.Idx) :
    (outsAt0 m c t).1 y = totals (n := 1) (s := 8) (r := 256) (c := 1024) (devices m c) ((win0_7.blk t).view.emb y)
    ∧ (outsAt0 m c t).2.1 y = changes (totals (n := 1) (s := 8) (r := 256) (c := 1024) (devices m c)) (m ((c : Thread nD τ).loc main_arg1)) (m ((c : Thread nD τ).loc main_arg2)) (m ((c : Thread nD τ).loc main_arg3)) ((win0_7.blk t).view.emb y)
    ∧ (outsAt0 m c t).2.2.1 y = firsts (totals (n := 1) (s := 8) (r := 256) (c := 1024) (devices m c)) (m ((c : Thread nD τ).loc main_arg2)) ((win0_7.blk t).view.emb y)
    ∧ (outsAt0 m c t).2.2.2 y = seconds (totals (n := 1) (s := 8) (r := 256) (c := 1024) (devices m c)) (m ((c : Thread nD τ).loc main_arg3)) ((win0_7.blk t).view.emb y) := by
  unfold outsAt0 out0_A_4 out0_A_5 out0_A_6 out0_A_7
  dsimp only
  refine ⟨?_, ?_, ?_, ?_⟩ <;> frame_out <;> pointwise [k0_pay1, k0_pay2, k0_pay3, k0_pay4, k0_pay5, k0_pay6, k0_pay7, k0_pay8, k0_pay9, k0_pay10]
  · exact layer0 m c t y
  · exact change_of_products (layer0 m c t y) (block1 m c t y) (block2 m c t y) (block3 m c t y) c1 c2
  · exact first_of (layer0 m c t y) (block2 m c t y)
  · exact second_of (layer0 m c t y) (block3 m c t y)

/-- The results of the run. -/
theorem gradient : (dats m 0 c).arrAt 4 cfg0.N = totals (n := 1) (s := 8) (r := 256) (c := 1024) (devices m c) := by
  refine (dats m 0 c).arrAt_eq_of_covers 4 _ (by decide +kernel) fun t _ y => ?_
  blk_simp
  rw [after0_4]
  exact ((written m c t y).1).trans (congrArg (totals _) (place4 t y).symm)
theorem change_of_weight : (dats m 0 c).arrAt 5 cfg0.N = changes (totals (n := 1) (s := 8) (r := 256) (c := 1024) (devices m c)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  exact ((written m c t y).2.1).trans (congrArg (changes (totals _) _ _ _) (place5 t y).symm)
theorem first_moment : (dats m 0 c).arrAt 6 cfg0.N = firsts (totals (n := 1) (s := 8) (r := 256) (c := 1024) (devices m c)) (m ((c : Thread nD τ).loc main_arg2)) := by
  refine (dats m 0 c).arrAt_eq_of_covers 6 _ (by decide +kernel) fun t _ y => ?_
  blk_simp
  rw [after0_6]
  exact ((written m c t y).2.2.1).trans (congrArg (firsts (totals _) _) (place6 t y).symm)
theorem second_moment : (dats m 0 c).arrAt 7 cfg0.N = seconds (totals (n := 1) (s := 8) (r := 256) (c := 1024) (devices m c)) (m ((c : Thread nD τ).loc main_arg3)) := by
  refine (dats m 0 c).arrAt_eq_of_covers 7 _ (by decide +kernel) fun t _ y => ?_
  blk_simp
  rw [after0_7]
  exact (written m c t y).2.2.2

end Cert.AdamwGateOutIdeal

namespace Cert.AdamwGateOutRefIdeal.Read

variable (x0 : FVec Ideal S8x256x1024 .bf16) (x1 x2 x3 : FVec Ideal S1x256x1024 .f32)

theorem gradient : val_main_v2 (F := Ideal) x0 = totals (n := 1) (s := 8) (r := 256) (c := 1024) ![x0] := by
  funext y
  rw [eq_ix3 y]
  generalize y 0 = l, y 1 = i, y 2 = j
  unfold totals
  fin_cases l <;> pointwise [val_main_v0, val_main_v1, val_main_v2, val_main_cst] <;> refine Finset.sum_congr rfl fun q _ => congrArg _ ?_ <;> blk_ext []

theorem first_moment : val_main_v7 (F := Ideal) x0 x2 = firsts (totals (n := 1) (s := 8) (r := 256) (c := 1024) ![x0]) x2 := by
  funext y
  unfold firsts
  rw [← gradient]
  pointwise [val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_cst_0, val_main_cst_1, val_main_cst_2, val_main_cst_3, val_main_cst_4, val_main_cst_5, val_main_cst_6, val_main_cst_7, val_main_cst_8, val_main_cst_9, val_main_cst_10, val_main_cst_11, val_main_cst_12]
  exact first_of rfl rfl

theorem second_moment : val_main_v13 (F := Ideal) x0 x3 = seconds (totals (n := 1) (s := 8) (r := 256) (c := 1024) ![x0]) x3 := by
  funext y
  unfold seconds
  rw [← gradient]
  pointwise [val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_cst_0, val_main_cst_1, val_main_cst_2, val_main_cst_3, val_main_cst_4, val_main_cst_5, val_main_cst_6, val_main_cst_7, val_main_cst_8, val_main_cst_9, val_main_cst_10, val_main_cst_11, val_main_cst_12]
  exact second_of rfl rfl

theorem change_of_weight : val_main_v38 (F := Ideal) x0 x1 x2 x3 = changes (totals (n := 1) (s := 8) (r := 256) (c := 1024) ![x0]) x1 x2 x3 := by
  funext y
  unfold changes
  rw [← gradient]
  pointwise [val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_cst_0, val_main_cst_1, val_main_cst_2, val_main_cst_3, val_main_cst_4, val_main_cst_5, val_main_cst_6, val_main_cst_7, val_main_cst_8, val_main_cst_9, val_main_cst_10, val_main_cst_11, val_main_cst_12]
  exact change_of_quotients rfl rfl rfl rfl decay1 decay2

end Cert.AdamwGateOutRefIdeal.Read

namespace Cert.AdamwGateOutIdeal

open Cert.AdamwGateOutIdeal.Gen

/-- The reference ends without fault, its arguments unchanged. -/
theorem frame_reference : Cert.quiescent_AdamwGateOutRefIdeal := fun m ρ _ =>
  (θ_run Cert.AdamwGateOutRefIdeal.defs _ _).mono (fun r h => ⟨fun c => (h c).2.2.2.2, sem_eq_zero_of_no_sems (by decide) r.2⟩)
    (Cert.AdamwGateOutRefIdeal.Value.run (F := Ideal) m ρ)

/-- The two named constants. -/
theorem preserves : Cert.preserves_AdamwGateOut_AdamwGateOutIdeal :=
  ⟨IdealRules.named_const.statement Cert.AdamwGateOutIdeal.κ "c1" .f32 0x3FC48605#32 ((10000000000 / 6513215599 : ℝ) : EReal) rfl,
    IdealRules.named_const.statement Cert.AdamwGateOutIdeal.κ "c2" .f32 0x42C8E6D3#32
      ((1000000000000000000000000000000 / 9955119790251790119955009999 : ℝ) : EReal) rfl⟩

/-- Kernel and reference end with equal results over the extended reals. -/
theorem algebraic : Cert.algebraic_AdamwGateOutIdeal_AdamwGateOutRefIdeal := by
  intro m ρ m' ρ' _ hag
  refine ⟨_, _, _, _, Value.run_blocks m ρ, ?_⟩
  refine (θ_run Cert.AdamwGateOutRefIdeal.defs _ _).mono (fun r h c => ⟨(h c).1.trans ?_, (h c).2.1.trans ?_, (h c).2.2.1.trans ?_,
    (h c).2.2.2.1.trans ?_, (h c).2.2.2.2⟩) (Cert.AdamwGateOutRefIdeal.Value.run (F := Ideal) m' ρ')
  · rw [(hag c).1]
    exact (Cert.AdamwGateOutRefIdeal.Read.gradient _).trans (gradient m c).symm
  · rw [(hag c).1, (hag c).2.1, (hag c).2.2.1, (hag c).2.2.2]
    exact (Cert.AdamwGateOutRefIdeal.Read.change_of_weight _ _ _ _).trans (change_of_weight m c).symm
  · rw [(hag c).1, (hag c).2.2.1]
    exact (Cert.AdamwGateOutRefIdeal.Read.first_moment _ _).trans (first_moment m c).symm
  · rw [(hag c).1, (hag c).2.2.2]
    exact (Cert.AdamwGateOutRefIdeal.Read.second_moment _ _).trans (second_moment m c).symm

end Cert.AdamwGateOutIdeal

end
end
-- ==== Proof.RowSums.lean ====
module

public import Idealize.ShloMosaic.PureOps.Ideal
public import Idealize.ShloMosaic.Lib.Pipeline.ValueKit
public import Idealize.ShloMosaic.Lib.Pointwise

/-! # Sums over rows

The kernels walk an array of 2048 rows in tiles, and add the tiles' sums up in a block that stays in place over the whole
grid; the references sum over all rows at once. -/

noncomputable section

open Idealize.ShloMosaic

@[expose] public section

namespace Cert.RowSums

/-- A square is not negative. -/
theorem square_nonneg (x : EReal) : 0 ≤ x * x := by
  rcases le_total 0 x with h | h
  · exact mul_nonneg h h
  · rw [← neg_mul_neg]
    exact mul_nonneg (EReal.neg_nonneg.mpr h) (EReal.neg_nonneg.mpr h)

/-- A factor moves into a sum of terms that are not negative. -/
theorem sum_mul {ι : Type} (s : Finset ι) (f : ι → EReal) (hf : ∀ i, 0 ≤ f i) (c : EReal) :
    (∑ i ∈ s, f i) * c = ∑ i ∈ s, f i * c := by
  classical
  induction s using Finset.induction_on with
  | empty => simp
  | insert a s ha ih =>
    rw [Finset.sum_insert ha, Finset.sum_insert ha, EReal.right_distrib_of_nonneg (hf a) (Finset.sum_nonneg fun i _ => hf i), ih]

/-- A block that is set at the first point of the grid and added to at the others holds, after the last point, the sum over
all rows, where a point's part is the sum over its tile of rows. -/
theorem sum_of_tiles {ι : Type} {N T k L : ℕ} (f : (n : ℕ) → n < N → ι → EReal) (g : Fin L → ι → EReal) (hN : N = T) (hL : L = T * k)
    (first : ∀ t : Fin N, t.val % T = 0 → ∀ i, f t.val t.isLt i
      = ∑ p : Fin k, g ⟨t.val * k + p.val, Fin.mul_add_lt_of_eq_mul hL (t.cast hN) p⟩ i)
    (next : ∀ t : Fin N, ¬t.val % T = 0 → ∀ i, f t.val t.isLt i = f (t.val - 1) (Nat.lt_of_le_of_lt (Nat.sub_le _ _) t.isLt) i
      + ∑ p : Fin k, g ⟨t.val * k + p.val, Fin.mul_add_lt_of_eq_mul hL (t.cast hN) p⟩ i)
    (t : Fin N) (ht : t.val + 1 = N) (i : ι) : f t.val t.isLt i = ∑ l : Fin L, g l i := by
  subst hN
  rw [Pipeline.eq_sum_fin_of_reset_step_apply_last f N (fun _ => 0) _
    (fun t h i => (first t h i).trans (zero_add _).symm) next le_rfl t ht i, zero_add]
  exact Fin.sum_mul_add_fin N k (fun l => g l i) hL

/-- An index of an array with a leading axis of length one. -/
theorem eq_row {n d : ℕ} (y : (⟨3, ![1, n, d]⟩ : Shape).Idx) : y = ix3 (0 : Fin 1) (y 1) (y 2) := funext fun a => match a with
  | ⟨0, _⟩ => Subsingleton.elim (α := Fin 1) _ _
  | ⟨1, _⟩ => rfl
  | ⟨2, _⟩ => rfl

/-- A sum over two axes of length one is the one entry. -/
theorem sum_of_column {n : ℕ} (h : (⟨3, ![1, n, 1]⟩ : Shape).ReducesTo [0, 2] ⟨1, ![n]⟩) (x : (⟨3, ![1, n, 1]⟩ : Shape).Idx → EReal)
    (init : EReal) (r : Fin n) : Ideal.hostReduceAdd h x init (ix1 r) = init + x (ix3 0 r 0) := by
  have drop_val : ∀ (i : (⟨3, ![1, n, 1]⟩ : Shape).Idx) (b : Fin 1), (h.drop i b).val = (i 1).val := fun i b => by
    have hk : Shape.kept (⟨3, ![1, n, 1]⟩ : Shape) [0, 2] = [1] :=
      (by decide : (List.finRange 3).filter (· ∉ [(0 : Fin 3), 2]) = [1])
    have hl : ∀ (l : List (Fin 3)) (_ : l = [1]) (u : ℕ) (hu : u < l.length), (i l[u]).val = (i 1).val := by
      rintro l rfl u hu
      obtain rfl : u = 0 := by simpa using hu
      rfl
    exact hl _ hk _ _
  have hm : h.drop (ix3 (0 : Fin 1) r (0 : Fin 1)) = ix1 r := funext fun b : Fin 1 => by
    obtain rfl : b = 0 := Subsingleton.elim b 0
    exact Fin.ext (drop_val _ 0)
  unfold Ideal.hostReduceAdd
  refine congrArg _ ?_
  refine (Finset.sum_eq_single (ix3 (0 : Fin 1) r (0 : Fin 1)) (fun i hi hne => ?_) (fun hn => ?_))
  · refine absurd (funext fun a => ?_) hne
    have h1 : (i 1).val = r.val := (drop_val i (0 : Fin 1)).symm.trans (by rw [(Finset.mem_filter.mp hi).2]; rfl)
    match a with
    | ⟨0, _⟩ => exact Subsingleton.elim (α := Fin 1) _ _
    | ⟨1, _⟩ => exact Fin.ext h1
    | ⟨2, _⟩ => exact Subsingleton.elim (α := Fin 1) _ _
  · exact (hn (by rw [Finset.mem_filter]; exact ⟨Finset.mem_univ _, hm⟩)).elim

theorem ofBits_two : Ideal.ofBits .f32 0x40000000#32 = ((2 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num
theorem ofBits_1024th : Ideal.ofBits .f32 0x3A800000#32 = ((1 / 1024 : ℝ) : EReal) := by
  simp [Ideal.ofBits, Ideal.ieee, -EReal.coe_mul]; norm_num
theorem ofBits_2048th : Ideal.ofBits .f32 0x3A000000#32 = ((1 / 2048 : ℝ) : EReal) := by
  simp [Ideal.ofBits, Ideal.ieee, -EReal.coe_mul]; norm_num

abbrev of1024 : EReal := Ideal.ofBits .f32 0x44800000#32

variable {n : ℕ} (w : EReal) (x y : Fin n → EReal)

/-- Of a square the one gradient with the factor two, and the two without. -/
theorem add_two_mul (a t x : EReal) : a + t * (Ideal.ofBits .f32 0x40000000#32 * x) = a + x * t + t * x := by
  have twice : ∀ y : EReal, ((2 : ℝ) : EReal) * y = y + y := fun y => by
    induction y with
    | bot => simp [EReal.coe_mul_bot_of_pos]
    | top => simp [EReal.coe_mul_top_of_pos]
    | coe y => rw [← EReal.coe_mul, ← EReal.coe_add, two_mul]
  rw [ofBits_two, mul_left_comm, twice, add_assoc, mul_comm x t]

/-- The mean square of a row of width `w`, and the small number that is added to it. -/
def spread : EReal := Ideal.div (∑ k, x k * x k) w + Ideal.ofBits .f32 0x358637BD#32

/-- The factor that norms a row. -/
def scale : EReal := Ideal.rsqrt (spread w x)

/-- What the row's gradient gets through the factor: each of the two places at which the row enters its square. -/
def slope : EReal :=
  Ideal.div ((∑ k, x k * y k) * (Ideal.ofBits .f32 0xBF000000#32 * Ideal.div (scale w x) (spread w x))) w

/-- The gradient of the row `x` before the norm, from the gradient `y` of the normed row. -/
def normGrad (q : Fin n) : EReal := y q * scale w x + x q * slope w x y + slope w x y * x q

/-- A row less its mean. -/
def centred (q : Fin n) : EReal := x q - Ideal.div (∑ k, x k) w

/-- The gradient of the row `x` before it is centred and normed. -/
def centredGrad (q : Fin n) : EReal :=
  normGrad w (centred w x) y q + Ideal.div (∑ k, -normGrad w (centred w x) y k) w

/-- The logistic function. -/
def logistic (s : EReal) : EReal := Ideal.div 1 (1 + Ideal.exp (-s))

/-- The gradient of `s` from the gradient `d` of `a * logistic s`. -/
def logisticGrad (a s d : EReal) : EReal :=
  -(-(a * d * Ideal.div 1 ((1 + Ideal.exp (-s)) * (1 + Ideal.exp (-s)))) * Ideal.exp (-s))

end Cert.RowSums

end

end
-- ==== Proof.NormB.lean ====
module

public import proofs.«01_k».proof.Defs
public import proofs.«01_k».proof.Proof.RowSums
public import proofs.«01_k».proof.Proof.Gen.NormBIdeal.Value
public import proofs.«01_k».proof.Proof.Gen.NormBRefIdeal.Run
public import proofs.«01_k».proof.Proof.Gen.NormBRefIdeal.Read
public import Idealize.ShloMosaic.Lib.Pipeline.ReadBack
public import Idealize.ShloMosaic.Lib.Pipeline.ValueKit
public import Idealize.ShloMosaic.Lib.Pointwise
public import Idealize.ShloMosaic.Lib.Claim

/-! # The gradients of a modulated norm -/

set_option maxRecDepth 16384

noncomputable section

open Idealize.ShloMosaic Idealize.ShloMosaic.TcCoe Idealize.SL.Sem
open Idealize.ShloMosaic.Pipeline (Dat)
open Cert.RowSums

@[expose] public section

namespace Cert.NormBIdeal

open Cert.NormBIdeal.Gen

/-- The gradient of a normed row. -/
def normed (g sc : FVec Ideal S1x1x1024 .f32) (da : FVec Ideal S1x2048x1024 .f32) (r : Fin 2048) (k : Fin 1024) : EReal :=
  da (ix3 0 r k) * (1 + sc (ix3 0 0 k)) * g (ix3 0 0 k)

/-- The gradient of the rows, with the one that arrives past the norm. -/
def rows (h : FVec Ideal S1x2048x1024 .f32) (g sc : FVec Ideal S1x1x1024 .f32) (da dh : FVec Ideal S1x2048x1024 .f32)
    (r : Fin 2048) (q : Fin 1024) : EReal :=
  normGrad of1024 (fun k => h (ix3 0 r k)) (normed g sc da r) q + dh (ix3 0 r q)

/-- A row's parts of the gradients of the norm's weights, of the modulation's factor and of its summand. -/
def gPart (h : FVec Ideal S1x2048x1024 .f32) (sc : FVec Ideal S1x1x1024 .f32) (da : FVec Ideal S1x2048x1024 .f32)
    (r : Fin 2048) (q : Fin 1024) : EReal :=
  h (ix3 0 r q) * scale of1024 (fun k => h (ix3 0 r k)) * (da (ix3 0 r q) * (1 + sc (ix3 0 0 q)))

def scPart (h : FVec Ideal S1x2048x1024 .f32) (g : FVec Ideal S1x1x1024 .f32) (da : FVec Ideal S1x2048x1024 .f32)
    (r : Fin 2048) (q : Fin 1024) : EReal :=
  h (ix3 0 r q) * scale of1024 (fun k => h (ix3 0 r k)) * g (ix3 0 0 q) * da (ix3 0 r q)

def shPart (da : FVec Ideal S1x2048x1024 .f32) (r : Fin 2048) (q : Fin 1024) : EReal := da (ix3 0 r q)

variable (m : (ℓ : Loc nD τ sig) → Buf (Elt Ideal) ℓ) (c : Dev nD)

abbrev hA : FVec Ideal S1x2048x1024 .f32 := m ((c : Thread nD τ).loc main_arg0)
abbrev gA : FVec Ideal S1x1x1024 .f32 := m ((c : Thread nD τ).loc main_arg1)
abbrev scA : FVec Ideal S1x1x1024 .f32 := m ((c : Thread nD τ).loc main_arg2)
abbrev daA : FVec Ideal S1x2048x1024 .f32 := m ((c : Thread nD τ).loc main_arg4)
abbrev dhA : FVec Ideal S1x2048x1024 .f32 := m ((c : Thread nD τ).loc main_arg5)

/-- The row of a tile's row in the whole array. -/
abbrev row (t : Fin cfg0.N) (p : Fin 256) : Fin 2048 := ⟨t.val * 256 + p.val, by have h : t.val < 8 := t.isLt; omega⟩

/-- The blocks that a point reads. -/
theorem block_h (t : Fin cfg0.N) (p : Fin 256) (q : Fin 1024) : iblk m c 0 t (ix3 0 p q) = hA m c (ix3 0 (row t p) q) := by
  have e : ∀ t : Fin cfg0.N, win0_0.index t = ![0, t.val, 0] := (by decide +kernel : ∀ t : Fin grid0.N, _)
  blk_simp [iblk]
  rw [V_main_arg0]
  refine congrArg _ ?_
  blk_ext [e]

theorem block_g (t : Fin cfg0.N) (q : Fin 1024) : iblk m c 1 t (ix3 0 0 q) = gA m c (ix3 0 0 q) := by
  have e : ∀ t : Fin cfg0.N, win0_1.index t = ![0, 0, 0] := (by decide +kernel : ∀ t : Fin grid0.N, _)
  blk_simp [iblk]
  rw [V_main_arg1]
  refine congrArg _ ?_
  blk_ext [e]

theorem block_sc (t : Fin cfg0.N) (q : Fin 1024) : iblk m c 2 t (ix3 0 0 q) = scA m c (ix3 0 0 q) := by
  have e : ∀ t : Fin cfg0.N, win0_2.index t = ![0, 0, 0] := (by decide +kernel : ∀ t : Fin grid0.N, _)
  blk_simp [iblk]
  rw [V_main_arg2]
  refine congrArg _ ?_
  blk_ext [e]

theorem block_da (t : Fin cfg0.N) (p : Fin 256) (q : Fin 1024) : iblk m c 4 t (ix3 0 p q) = daA m c (ix3 0 (row t p) q) := by
  have e : ∀ t : Fin cfg0.N, win0_4.index t = ![0, t.val, 0] := (by decide +kernel : ∀ t : Fin grid0.N, _)
  blk_simp [iblk]
  rw [V_main_arg4]
  refine congrArg _ ?_
  blk_ext [e]

theorem block_dh (t : Fin cfg0.N) (p : Fin 256) (q : Fin 1024) : iblk m c 5 t (ix3 0 p q) = dhA m c (ix3 0 (row t p) q) := by
  have e : ∀ t : Fin cfg0.N, win0_5.index t = ![0, t.val, 0] := (by decide +kernel : ∀ t : Fin grid0.N, _)
  blk_simp [iblk]
  rw [V_main_arg5]
  refine congrArg _ ?_
  blk_ext [e]

/-- What a point leaves of the rows' gradient. -/
theorem rows_point (t : Fin cfg0.N) (p : Fin 256) (q : Fin 1024) : (outsAt0 m c t.val t.isLt).1 (ix3 0 p q)
    = rows (hA m c) (gA m c) (scA m c) (daA m c) (dhA m c) (row t p) q := by
  have h8 : t.val < 8 := t.isLt
  by_cases h : t.val % 8 = 0
  · rw [outsAt0_A m c t h (by omega) h (by omega) h (by omega)]
    dsimp only
    frame_out
    pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20]
    simp only [block_h, block_g, block_sc, block_da, block_dh, Finset.univ_unique, Finset.sum_singleton]
    rfl
  · rw [outsAt0_B m c t h (by omega) h (by omega) h (by omega)]
    dsimp only
    frame_out
    pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20]
    simp only [block_h, block_g, block_sc, block_da, block_dh, Finset.univ_unique, Finset.sum_singleton]
    rfl

theorem g_first (t : Fin cfg0.N) (h : t.val % 8 = 0) (q : Fin 1024) : (outsAt0 m c t.val t.isLt).2.1 (ix3 0 0 q)
    = ∑ p : Fin 256, gPart (hA m c) (scA m c) (daA m c) (row t p) q := by
  have h8 : t.val < 8 := t.isLt
  rw [outsAt0_A m c t h (by omega) h (by omega) h (by omega)]
  dsimp only
  frame_out
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20]
  simp only [block_h, block_g, block_sc, block_da, block_dh]
  rfl

theorem g_next (t : Fin cfg0.N) (h : ¬t.val % 8 = 0) (q : Fin 1024) : (outsAt0 m c t.val t.isLt).2.1 (ix3 0 0 q)
    = (outsAt0 m c (t.val - 1) (Nat.lt_of_le_of_lt (Nat.sub_le _ _) t.isLt)).2.1 (ix3 0 0 q)
      + ∑ p : Fin 256, gPart (hA m c) (scA m c) (daA m c) (row t p) q := by
  have h8 : t.val < 8 := t.isLt
  rw [outsAt0_B m c t h (by omega) h (by omega) h (by omega)]
  dsimp only
  frame_out
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20]
  simp only [block_h, block_g, block_sc, block_da, block_dh]
  rfl

theorem sc_first (t : Fin cfg0.N) (h : t.val % 8 = 0) (q : Fin 1024) : (outsAt0 m c t.val t.isLt).2.2.1 (ix3 0 0 q)
    = ∑ p : Fin 256, scPart (hA m c) (gA m c) (daA m c) (row t p) q := by
  have h8 : t.val < 8 := t.isLt
  rw [outsAt0_A m c t h (by omega) h (by omega) h (by omega)]
  dsimp only
  frame_out
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20]
  simp only [block_h, block_g, block_sc, block_da, block_dh]
  rfl

theorem sc_next (t : Fin cfg0.N) (h : ¬t.val % 8 = 0) (q : Fin 1024) : (outsAt0 m c t.val t.isLt).2.2.1 (ix3 0 0 q)
    = (outsAt0 m c (t.val - 1) (Nat.lt_of_le_of_lt (Nat.sub_le _ _) t.isLt)).2.2.1 (ix3 0 0 q)
      + ∑ p : Fin 256, scPart (hA m c) (gA m c) (daA m c) (row t p) q := by
  have h8 : t.val < 8 := t.isLt
  rw [outsAt0_B m c t h (by omega) h (by omega) h (by omega)]
  dsimp only
  frame_out
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20]
  simp only [block_h, block_g, block_sc, block_da, block_dh]
  rfl

theorem sh_first (t : Fin cfg0.N) (h : t.val % 8 = 0) (q : Fin 1024) : (outsAt0 m c t.val t.isLt).2.2.2 (ix3 0 0 q)
    = ∑ p : Fin 256, shPart (daA m c) (row t p) q := by
  have h8 : t.val < 8 := t.isLt
  rw [outsAt0_A m c t h (by omega) h (by omega) h (by omega)]
  dsimp only
  frame_out
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20]
  simp only [block_h, block_g, block_sc, block_da, block_dh]
  rfl

theorem sh_next (t : Fin cfg0.N) (h : ¬t.val % 8 = 0) (q : Fin 1024) : (outsAt0 m c t.val t.isLt).2.2.2 (ix3 0 0 q)
    = (outsAt0 m c (t.val - 1) (Nat.lt_of_le_of_lt (Nat.sub_le _ _) t.isLt)).2.2.2 (ix3 0 0 q)
      + ∑ p : Fin 256, shPart (daA m c) (row t p) q := by
  have h8 : t.val < 8 := t.isLt
  rw [outsAt0_B m c t h (by omega) h (by omega) h (by omega)]
  dsimp only
  frame_out
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20]
  simp only [block_h, block_g, block_sc, block_da, block_dh]
  rfl

/-- The last point. -/
abbrev lastPt : Fin cfg0.N := (⟨7, by decide⟩ : Fin grid0.N)

/-- The rows' gradient that the kernel leaves. -/
theorem rows_array : (dats m 0 c).arrAt 6 cfg0.N
    = fun y : S1x2048x1024.Idx => rows (hA m c) (gA m c) (scA m c) (daA m c) (dhA m c) (y 1) (y 2) := by
  refine (dats m 0 c).arrAt_eq_of_covers 6 _ (by decide +kernel) fun t _ y => ?_
  have e6 : ∀ t : Fin cfg0.N, win0_6.index t = ![0, t.val, 0] := (by decide +kernel : ∀ t : Fin grid0.N, _)
  rw [eq_row y]
  blk_simp
  rw [after0_6]
  refine (rows_point m c t (y 1) (y 2)).trans (congrArg₂ _ (Fin.ext ?_) (Fin.ext ?_))
  · blk_simp [e6]
  · blk_simp [e6]

theorem g_array : (dats m 0 c).arrAt 7 cfg0.N
    = fun y : S1x1x1024.Idx => ∑ r : Fin 2048, gPart (hA m c) (scA m c) (daA m c) r (y 2) := by
  refine (dats m 0 c).arrAt_eq_of_after_last 7 lastPt (by decide +kernel) _ fun j => ?_
  rw [after0_7]
  obtain ⟨q, rfl⟩ : ∃ q : Fin 1024, j = ix3 0 0 q := ⟨j 2, (eq_row j).trans (congrArg (ix3 0 · (j 2)) (Subsingleton.elim (α := Fin 1) _ _))⟩
  exact sum_of_tiles (fun n h (q : Fin 1024) => (outsAt0 m c n h).2.1 (ix3 0 0 q)) (gPart (hA m c) (scA m c) (daA m c)) N_0 rfl
    (g_first m c) (g_next m c) lastPt rfl q

theorem sc_array : (dats m 0 c).arrAt 8 cfg0.N
    = fun y : S1x1x1024.Idx => ∑ r : Fin 2048, scPart (hA m c) (gA m c) (daA m c) r (y 2) := by
  refine (dats m 0 c).arrAt_eq_of_after_last 8 lastPt (by decide +kernel) _ fun j => ?_
  rw [after0_8]
  obtain ⟨q, rfl⟩ : ∃ q : Fin 1024, j = ix3 0 0 q := ⟨j 2, (eq_row j).trans (congrArg (ix3 0 · (j 2)) (Subsingleton.elim (α := Fin 1) _ _))⟩
  exact sum_of_tiles (fun n h (q : Fin 1024) => (outsAt0 m c n h).2.2.1 (ix3 0 0 q)) (scPart (hA m c) (gA m c) (daA m c)) N_0 rfl
    (sc_first m c) (sc_next m c) lastPt rfl q

theorem sh_array : (dats m 0 c).arrAt 9 cfg0.N
    = fun y : S1x1x1024.Idx => ∑ r : Fin 2048, shPart (daA m c) r (y 2) := by
  refine (dats m 0 c).arrAt_eq_of_after_last 9 lastPt (by decide +kernel) _ fun j => ?_
  rw [after0_9]
  obtain ⟨q, rfl⟩ : ∃ q : Fin 1024, j = ix3 0 0 q := ⟨j 2, (eq_row j).trans (congrArg (ix3 0 · (j 2)) (Subsingleton.elim (α := Fin 1) _ _))⟩
  exact sum_of_tiles (fun n h (q : Fin 1024) => (outsAt0 m c n h).2.2.2 (ix3 0 0 q)) (shPart (daA m c)) N_0 rfl
    (sh_first m c) (sh_next m c) lastPt rfl q

end Cert.NormBIdeal

namespace Cert.NormBRefIdeal

open Cert.NormBIdeal (rows gPart scPart shPart)

theorem rows (x0 : FVec Ideal S1x2048x1024 .f32) (x1 x2 : FVec Ideal S1x1x1024 .f32) (x4 x5 : FVec Ideal S1x2048x1024 .f32) :
    Read.val_main_v49 (F := Ideal) x0 x1 x2 x4 x5 = fun y => rows x0 x1 x2 x4 x5 (y 1) (y 2) := by
  funext y
  rw [eq_row y]
  pointwise [sum_of_column, Read.val_main_v0, Read.val_main_cst, Read.val_main_v1, Read.val_main_v2, Read.val_main_cst_0,
    Read.val_main_v3, Read.val_main_v4, Read.val_main_cst_1, Read.val_main_v5, Read.val_main_v6, Read.val_main_v7,
    Read.val_main_v8, Read.val_main_cst_2, Read.val_main_v9, Read.val_main_v10, Read.val_main_v11, Read.val_main_v12,
    Read.val_main_v13, Read.val_main_v14, Read.val_main_cst_3, Read.val_main_v15, Read.val_main_v16,
    Read.val_main_v17, Read.val_main_v18, Read.val_main_v19, Read.val_main_v20, Read.val_main_v21,
    Read.val_main_cst_4, Read.val_main_v22, Read.val_main_v23, Read.val_main_v24, Read.val_main_cst_5,
    Read.val_main_v25, Read.val_main_v26, Read.val_main_v27, Read.val_main_v28, Read.val_main_v29,
    Read.val_main_cst_6, Read.val_main_v30, Read.val_main_v31, Read.val_main_v32, Read.val_main_v33,
    Read.val_main_v34, Read.val_main_cst_7, Read.val_main_v35, Read.val_main_v36, Read.val_main_v37,
    Read.val_main_v38, Read.val_main_v39, Read.val_main_cst_8, Read.val_main_v40, Read.val_main_v41,
    Read.val_main_cst_9, Read.val_main_v42, Read.val_main_v43, Read.val_main_v44, Read.val_main_v45,
    Read.val_main_v46, Read.val_main_v47, Read.val_main_v48, Read.val_main_v49]
  rfl

theorem g (x0 : FVec Ideal S1x2048x1024 .f32) (x2 : FVec Ideal S1x1x1024 .f32) (x4 : FVec Ideal S1x2048x1024 .f32) :
    Read.val_main_v31 (F := Ideal) x0 x2 x4 = fun y => ∑ r : Fin 2048, gPart x0 x2 x4 r (y 2) := by
  funext y
  rw [eq_row y]
  pointwise [sum_of_column, Read.val_main_v0, Read.val_main_cst, Read.val_main_v1, Read.val_main_v2, Read.val_main_cst_0,
    Read.val_main_v3, Read.val_main_v4, Read.val_main_cst_1, Read.val_main_v5, Read.val_main_v6, Read.val_main_v7,
    Read.val_main_v8, Read.val_main_cst_2, Read.val_main_v9, Read.val_main_v10, Read.val_main_v11, Read.val_main_v12,
    Read.val_main_v13, Read.val_main_v14, Read.val_main_cst_3, Read.val_main_v15, Read.val_main_v16,
    Read.val_main_v17, Read.val_main_v18, Read.val_main_v19, Read.val_main_v20, Read.val_main_v21,
    Read.val_main_cst_4, Read.val_main_v22, Read.val_main_v23, Read.val_main_v24, Read.val_main_cst_5,
    Read.val_main_v25, Read.val_main_v26, Read.val_main_v27, Read.val_main_v28, Read.val_main_v29,
    Read.val_main_cst_6, Read.val_main_v30, Read.val_main_v31, Read.val_main_v32, Read.val_main_v33,
    Read.val_main_v34, Read.val_main_cst_7, Read.val_main_v35, Read.val_main_v36, Read.val_main_v37,
    Read.val_main_v38, Read.val_main_v39, Read.val_main_cst_8, Read.val_main_v40, Read.val_main_v41,
    Read.val_main_cst_9, Read.val_main_v42, Read.val_main_v43, Read.val_main_v44, Read.val_main_v45,
    Read.val_main_v46, Read.val_main_v47, Read.val_main_v48, Read.val_main_v49]
  rfl

theorem sc (x0 : FVec Ideal S1x2048x1024 .f32) (x1 : FVec Ideal S1x1x1024 .f32) (x4 : FVec Ideal S1x2048x1024 .f32) :
    Read.val_main_v26 (F := Ideal) x0 x1 x4 = fun y => ∑ r : Fin 2048, scPart x0 x1 x4 r (y 2) := by
  funext y
  rw [eq_row y]
  pointwise [sum_of_column, Read.val_main_v0, Read.val_main_cst, Read.val_main_v1, Read.val_main_v2, Read.val_main_cst_0,
    Read.val_main_v3, Read.val_main_v4, Read.val_main_cst_1, Read.val_main_v5, Read.val_main_v6, Read.val_main_v7,
    Read.val_main_v8, Read.val_main_cst_2, Read.val_main_v9, Read.val_main_v10, Read.val_main_v11, Read.val_main_v12,
    Read.val_main_v13, Read.val_main_v14, Read.val_main_cst_3, Read.val_main_v15, Read.val_main_v16,
    Read.val_main_v17, Read.val_main_v18, Read.val_main_v19, Read.val_main_v20, Read.val_main_v21,
    Read.val_main_cst_4, Read.val_main_v22, Read.val_main_v23, Read.val_main_v24, Read.val_main_cst_5,
    Read.val_main_v25, Read.val_main_v26, Read.val_main_v27, Read.val_main_v28, Read.val_main_v29,
    Read.val_main_cst_6, Read.val_main_v30, Read.val_main_v31, Read.val_main_v32, Read.val_main_v33,
    Read.val_main_v34, Read.val_main_cst_7, Read.val_main_v35, Read.val_main_v36, Read.val_main_v37,
    Read.val_main_v38, Read.val_main_v39, Read.val_main_cst_8, Read.val_main_v40, Read.val_main_v41,
    Read.val_main_cst_9, Read.val_main_v42, Read.val_main_v43, Read.val_main_v44, Read.val_main_v45,
    Read.val_main_v46, Read.val_main_v47, Read.val_main_v48, Read.val_main_v49]
  rfl

theorem sh (x4 : FVec Ideal S1x2048x1024 .f32) :
    Read.val_main_v23 (F := Ideal) x4 = fun y => ∑ r : Fin 2048, shPart x4 r (y 2) := by
  funext y
  rw [eq_row y]
  pointwise [sum_of_column, Read.val_main_v0, Read.val_main_cst, Read.val_main_v1, Read.val_main_v2, Read.val_main_cst_0,
    Read.val_main_v3, Read.val_main_v4, Read.val_main_cst_1, Read.val_main_v5, Read.val_main_v6, Read.val_main_v7,
    Read.val_main_v8, Read.val_main_cst_2, Read.val_main_v9, Read.val_main_v10, Read.val_main_v11, Read.val_main_v12,
    Read.val_main_v13, Read.val_main_v14, Read.val_main_cst_3, Read.val_main_v15, Read.val_main_v16,
    Read.val_main_v17, Read.val_main_v18, Read.val_main_v19, Read.val_main_v20, Read.val_main_v21,
    Read.val_main_cst_4, Read.val_main_v22, Read.val_main_v23, Read.val_main_v24, Read.val_main_cst_5,
    Read.val_main_v25, Read.val_main_v26, Read.val_main_v27, Read.val_main_v28, Read.val_main_v29,
    Read.val_main_cst_6, Read.val_main_v30, Read.val_main_v31, Read.val_main_v32, Read.val_main_v33,
    Read.val_main_v34, Read.val_main_cst_7, Read.val_main_v35, Read.val_main_v36, Read.val_main_v37,
    Read.val_main_v38, Read.val_main_v39, Read.val_main_cst_8, Read.val_main_v40, Read.val_main_v41,
    Read.val_main_cst_9, Read.val_main_v42, Read.val_main_v43, Read.val_main_v44, Read.val_main_v45,
    Read.val_main_v46, Read.val_main_v47, Read.val_main_v48, Read.val_main_v49]
  rfl

/-- The reference ends without fault, its arguments unchanged. -/
theorem frame_reference : Cert.quiescent_NormBRefIdeal := fun m ρ _ =>
  (θ_run Cert.NormBRefIdeal.defs _ _).mono
    (fun r h => ⟨fun c => (h c).2.2.2.2, sem_eq_zero_of_no_sems (by decide) r.2⟩) (Cert.NormBRefIdeal.Value.run (F := Ideal) m ρ)

end Cert.NormBRefIdeal

namespace Cert.NormBIdeal

/-- Kernel and reference end with equal results over the extended reals. -/
theorem algebraic : Cert.algebraic_NormBIdeal_NormBRefIdeal := by
  intro m ρ m' ρ' _ hag
  refine ⟨_, _, _, _, Value.run_blocks m ρ, ?_⟩
  refine (θ_run Cert.NormBRefIdeal.defs _ _).mono (fun r h c => ?_) (Cert.NormBRefIdeal.Value.run (F := Ideal) m' ρ')
  obtain ⟨h0, h1, h2, h3, hargs⟩ := h c
  obtain ⟨a0, a1, a2, a3, a4, a5⟩ := hag c
  refine ⟨h0.trans ?_, h1.trans ?_, h2.trans ?_, h3.trans ?_, hargs⟩
  · rw [NormBRefIdeal.Read.val_main_v49_eq, a0, a1, a2, a4, a5]
    exact (NormBRefIdeal.rows _ _ _ _ _).trans (rows_array m c).symm
  · rw [a0, a2, a4]
    exact (NormBRefIdeal.g _ _ _).trans (g_array m c).symm
  · rw [a0, a1, a4]
    exact (NormBRefIdeal.sc _ _ _).trans (sc_array m c).symm
  · rw [a4]
    exact (NormBRefIdeal.sh _).trans (sh_array m c).symm

end Cert.NormBIdeal

end

end
-- ==== Proof.ResB.lean ====
module

public import proofs.«01_k».proof.Defs
public import proofs.«01_k».proof.Proof.RowSums
public import proofs.«01_k».proof.Proof.Gen.ResBIdeal.Value
public import proofs.«01_k».proof.Proof.Gen.ResBRefIdeal.Run
public import proofs.«01_k».proof.Proof.Gen.ResBRefIdeal.Read
public import Idealize.ShloMosaic.Lib.Pipeline.ReadBack
public import Idealize.ShloMosaic.Lib.Pipeline.ValueKit
public import Idealize.ShloMosaic.Lib.Pointwise
public import Idealize.ShloMosaic.Lib.Claim

/-! # The gradients of a gated norm -/

set_option maxRecDepth 16384

noncomputable section

open Idealize.ShloMosaic Idealize.ShloMosaic.TcCoe Idealize.SL.Sem
open Idealize.ShloMosaic.Pipeline (Dat)
open Cert.RowSums

@[expose] public section

namespace Cert.ResBIdeal

open Cert.ResBIdeal.Gen

/-- The gradient of the rows before the norm. -/
def rows (y : FVec Ideal S1x2048x1024 .f32) (gate g : FVec Ideal S1x1x1024 .f32) (dh : FVec Ideal S1x2048x1024 .f32) (r : Fin 2048) (q : Fin 1024) : EReal :=
  normGrad of1024 (fun k => y (ix3 0 r k)) (fun k => gate (ix3 0 0 k) * dh (ix3 0 r k) * g (ix3 0 0 k)) q

/-- A row's parts of the gradients of the gate and of the norm's weights. -/
def gatePart (y : FVec Ideal S1x2048x1024 .f32) (g : FVec Ideal S1x1x1024 .f32) (dh : FVec Ideal S1x2048x1024 .f32) (r : Fin 2048) (q : Fin 1024) : EReal :=
  dh (ix3 0 r q) * (y (ix3 0 r q) * scale of1024 (fun k => y (ix3 0 r k)) * g (ix3 0 0 q))

def gPart (y : FVec Ideal S1x2048x1024 .f32) (gate : FVec Ideal S1x1x1024 .f32) (dh : FVec Ideal S1x2048x1024 .f32) (r : Fin 2048) (q : Fin 1024) : EReal :=
  y (ix3 0 r q) * scale of1024 (fun k => y (ix3 0 r k)) * (gate (ix3 0 0 q) * dh (ix3 0 r q))

variable (m : (ℓ : Loc nD τ sig) → Buf (Elt Ideal) ℓ) (c : Dev nD)

abbrev yA : FVec Ideal S1x2048x1024 .f32 := m ((c : Thread nD τ).loc main_arg0)
abbrev gateA : FVec Ideal S1x1x1024 .f32 := m ((c : Thread nD τ).loc main_arg1)
abbrev gA : FVec Ideal S1x1x1024 .f32 := m ((c : Thread nD τ).loc main_arg2)
abbrev dhA : FVec Ideal S1x2048x1024 .f32 := m ((c : Thread nD τ).loc main_arg3)

/-- The row of a tile's row in the whole array. -/
abbrev row (t : Fin cfg0.N) (p : Fin 256) : Fin 2048 := ⟨t.val * 256 + p.val, by have h : t.val < 8 := t.isLt; omega⟩

/-! The blocks that a point reads. -/

theorem block_y (t : Fin cfg0.N) (p : Fin 256) (q : Fin 1024) :
    iblk m c 0 t (ix3 0 p q) = yA m c (ix3 0 (row t p) q) := by
  have e : ∀ t : Fin cfg0.N, win0_0.index t = ![0, t.val, 0] := (by decide +kernel : ∀ t : Fin grid0.N, _)
  blk_simp [iblk]
  rw [V_main_arg0]
  refine congrArg _ ?_
  blk_ext [e]

theorem block_gate (t : Fin cfg0.N) (q : Fin 1024) : iblk m c 1 t (ix3 0 0 q) = gateA m c (ix3 0 0 q) := by
  have e : ∀ t : Fin cfg0.N, win0_1.index t = ![0, 0, 0] := (by decide +kernel : ∀ t : Fin grid0.N, _)
  blk_simp [iblk]
  rw [V_main_arg1]
  refine congrArg _ ?_
  blk_ext [e]

theorem block_g (t : Fin cfg0.N) (q : Fin 1024) : iblk m c 2 t (ix3 0 0 q) = gA m c (ix3 0 0 q) := by
  have e : ∀ t : Fin cfg0.N, win0_2.index t = ![0, 0, 0] := (by decide +kernel : ∀ t : Fin grid0.N, _)
  blk_simp [iblk]
  rw [V_main_arg2]
  refine congrArg _ ?_
  blk_ext [e]

theorem block_dh (t : Fin cfg0.N) (p : Fin 256) (q : Fin 1024) :
    iblk m c 3 t (ix3 0 p q) = dhA m c (ix3 0 (row t p) q) := by
  have e : ∀ t : Fin cfg0.N, win0_3.index t = ![0, t.val, 0] := (by decide +kernel : ∀ t : Fin grid0.N, _)
  blk_simp [iblk]
  rw [V_main_arg3]
  refine congrArg _ ?_
  blk_ext [e]

/-- What the first point leaves in the blocks. -/
theorem first (t : Fin cfg0.N) (h : t.val % 8 = 0) :
    (∀ (p : Fin 256) (q : Fin 1024), (outsAt0 m c t.val t.isLt).1 (ix3 0 p q) = rows (yA m c) (gateA m c) (gA m c) (dhA m c) (row t p) q)
    ∧ (∀ q : Fin 1024, (outsAt0 m c t.val t.isLt).2.1 (ix3 0 0 q)
      = ∑ p : Fin 256, gatePart (yA m c) (gA m c) (dhA m c) (row t p) q)
    ∧ (∀ q : Fin 1024, (outsAt0 m c t.val t.isLt).2.2 (ix3 0 0 q)
      = ∑ p : Fin 256, gPart (yA m c) (gateA m c) (dhA m c) (row t p) q) := by
  have h8 : t.val < 8 := t.isLt
  rw [outsAt0_A m c t h (by omega) h (by omega)]
  dsimp only
  refine ⟨fun p q => ?_, fun q => ?_, fun q => ?_⟩
  all_goals
    frame_out
    pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17]
    simp only [block_y, block_gate, block_g, block_dh, Finset.univ_unique, Finset.sum_singleton]
    rfl

/-- What a later point leaves. -/
theorem next (t : Fin cfg0.N) (h : ¬t.val % 8 = 0) :
    (∀ (p : Fin 256) (q : Fin 1024), (outsAt0 m c t.val t.isLt).1 (ix3 0 p q) = rows (yA m c) (gateA m c) (gA m c) (dhA m c) (row t p) q)
    ∧ (∀ q : Fin 1024, (outsAt0 m c t.val t.isLt).2.1 (ix3 0 0 q)
      = (outsAt0 m c (t.val - 1) (Nat.lt_of_le_of_lt (Nat.sub_le _ _) t.isLt)).2.1 (ix3 0 0 q)
        + ∑ p : Fin 256, gatePart (yA m c) (gA m c) (dhA m c) (row t p) q)
    ∧ (∀ q : Fin 1024, (outsAt0 m c t.val t.isLt).2.2 (ix3 0 0 q)
      = (outsAt0 m c (t.val - 1) (Nat.lt_of_le_of_lt (Nat.sub_le _ _) t.isLt)).2.2 (ix3 0 0 q)
        + ∑ p : Fin 256, gPart (yA m c) (gateA m c) (dhA m c) (row t p) q) := by
  have h8 : t.val < 8 := t.isLt
  rw [outsAt0_B m c t h (by omega) h (by omega)]
  dsimp only
  refine ⟨fun p q => ?_, fun q => ?_, fun q => ?_⟩
  all_goals
    frame_out
    pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17]
    simp only [block_y, block_gate, block_g, block_dh, Finset.univ_unique, Finset.sum_singleton]
    rfl

/-- The last point. -/
abbrev lastPt : Fin cfg0.N := (⟨7, by decide⟩ : Fin grid0.N)

/-! What the kernel leaves in its results. -/

theorem rows_array : (dats m 0 c).arrAt 4 cfg0.N
    = fun y : S1x2048x1024.Idx => rows (yA m c) (gateA m c) (gA m c) (dhA m c) (y 1) (y 2) := by
  refine (dats m 0 c).arrAt_eq_of_covers 4 _ (by decide +kernel) fun t _ y => ?_
  have e : ∀ t : Fin cfg0.N, win0_4.index t = ![0, t.val, 0] := (by decide +kernel : ∀ t : Fin grid0.N, _)
  rw [eq_row y]
  blk_simp
  rw [after0_4]
  have point : (outsAt0 m c t.val t.isLt).1 (ix3 0 (y 1) (y 2)) = rows (yA m c) (gateA m c) (gA m c) (dhA m c) (row t (y 1)) (y 2) := by
    by_cases h : t.val % 8 = 0
    · exact (first m c t h).1 (y 1) (y 2)
    · exact (next m c t h).1 (y 1) (y 2)
  refine point.trans (congrArg₂ _ (Fin.ext ?_) (Fin.ext ?_))
  · blk_simp [e]
  · blk_simp [e]

theorem gatePart_array : (dats m 0 c).arrAt 5 cfg0.N
    = fun y : S1x1x1024.Idx => ∑ r : Fin 2048, gatePart (yA m c) (gA m c) (dhA m c) r (y 2) := by
  refine (dats m 0 c).arrAt_eq_of_after_last 5 lastPt (by decide +kernel) _ fun j => ?_
  rw [after0_5]
  obtain ⟨q, rfl⟩ : ∃ q : Fin 1024, j = ix3 0 0 q := ⟨j 2, (eq_row j).trans (congrArg (ix3 0 · (j 2)) (Subsingleton.elim (α := Fin 1) _ _))⟩
  exact sum_of_tiles (fun n h (q : Fin 1024) => (outsAt0 m c n h).2.1 (ix3 0 0 q)) (gatePart (yA m c) (gA m c) (dhA m c)) N_0 rfl
    (fun t h => (first m c t h).2.1) (fun t h => (next m c t h).2.1) lastPt rfl q

theorem gPart_array : (dats m 0 c).arrAt 6 cfg0.N
    = fun y : S1x1x1024.Idx => ∑ r : Fin 2048, gPart (yA m c) (gateA m c) (dhA m c) r (y 2) := by
  refine (dats m 0 c).arrAt_eq_of_after_last 6 lastPt (by decide +kernel) _ fun j => ?_
  rw [after0_6]
  obtain ⟨q, rfl⟩ : ∃ q : Fin 1024, j = ix3 0 0 q := ⟨j 2, (eq_row j).trans (congrArg (ix3 0 · (j 2)) (Subsingleton.elim (α := Fin 1) _ _))⟩
  exact sum_of_tiles (fun n h (q : Fin 1024) => (outsAt0 m c n h).2.2 (ix3 0 0 q)) (gPart (yA m c) (gateA m c) (dhA m c)) N_0 rfl
    (fun t h => (first m c t h).2.2) (fun t h => (next m c t h).2.2) lastPt rfl q

end Cert.ResBIdeal

namespace Cert.ResBRefIdeal

/-- What the reference leaves. -/
theorem values (x0 : FVec Ideal S1x2048x1024 .f32) (x1 : FVec Ideal S1x1x1024 .f32) (x2 : FVec Ideal S1x1x1024 .f32) (x3 :
    FVec Ideal S1x2048x1024 .f32) :
    Read.val_main_v42 (F := Ideal) x0 x1 x2 x3 = (fun y => ResBIdeal.rows x0 x1 x2 x3 (y 1) (y 2))
    ∧ Read.val_main_v21 (F := Ideal) x0 x2 x3 = (fun y => ∑ r : Fin 2048, ResBIdeal.gatePart x0 x2 x3 r (y 2))
    ∧ Read.val_main_v24 (F := Ideal) x0 x1 x3 = (fun y => ∑ r : Fin 2048, ResBIdeal.gPart x0 x1 x3 r (y 2)) := by
  refine ⟨?_, ?_, ?_⟩
  all_goals
    funext y
    rw [eq_row y]
    pointwise [sum_of_column, Read.val_main_v0, Read.val_main_cst, Read.val_main_v1, Read.val_main_v2, Read.val_main_cst_0,
    Read.val_main_v3, Read.val_main_v4, Read.val_main_cst_1, Read.val_main_v5, Read.val_main_v6, Read.val_main_v7,
    Read.val_main_v8, Read.val_main_cst_2, Read.val_main_v9, Read.val_main_v10, Read.val_main_v11, Read.val_main_v12,
    Read.val_main_v13, Read.val_main_v14, Read.val_main_v15, Read.val_main_v16, Read.val_main_v17, Read.val_main_v18,
    Read.val_main_v19, Read.val_main_cst_3, Read.val_main_v20, Read.val_main_v21, Read.val_main_v22,
    Read.val_main_cst_4, Read.val_main_v23, Read.val_main_v24, Read.val_main_v25, Read.val_main_v26,
    Read.val_main_v27, Read.val_main_cst_5, Read.val_main_v28, Read.val_main_v29, Read.val_main_v30,
    Read.val_main_v31, Read.val_main_v32, Read.val_main_cst_6, Read.val_main_v33, Read.val_main_v34,
    Read.val_main_cst_7, Read.val_main_v35, Read.val_main_v36, Read.val_main_v37, Read.val_main_v38,
    Read.val_main_v39, Read.val_main_v40, Read.val_main_v41, Read.val_main_v42]
    rfl

/-- The reference ends without fault, its arguments unchanged. -/
theorem frame_reference : Cert.quiescent_ResBRefIdeal := fun m ρ _ =>
  (θ_run Cert.ResBRefIdeal.defs _ _).mono
    (fun r h => ⟨fun c => (h c).2.2.2, sem_eq_zero_of_no_sems (by decide) r.2⟩) (Cert.ResBRefIdeal.Value.run (F := Ideal) m ρ)

end Cert.ResBRefIdeal

namespace Cert.ResBIdeal

/-- Kernel and reference end with equal results over the extended reals. -/
theorem algebraic : Cert.algebraic_ResBIdeal_ResBRefIdeal := by
  intro m ρ m' ρ' _ hag
  refine ⟨_, _, _, Value.run_blocks m ρ, ?_⟩
  refine (θ_run Cert.ResBRefIdeal.defs _ _).mono (fun r h c => ?_) (Cert.ResBRefIdeal.Value.run (F := Ideal) m' ρ')
  obtain ⟨h0, h1, h2, hargs⟩ := h c
  obtain ⟨a0, a1, a2, a3⟩ := hag c
  obtain ⟨v0, v1, v2⟩ := ResBRefIdeal.values (yA m c) (gateA m c) (gA m c) (dhA m c)
  refine ⟨h0.trans ?_, h1.trans ?_, h2.trans ?_, hargs⟩
  · rw [ResBRefIdeal.Read.val_main_v42_eq, a0, a1, a2, a3]
    exact v0.trans (rows_array m c).symm
  · rw [a0, a2, a3]
    exact v1.trans (gatePart_array m c).symm
  · rw [a0, a1, a3]
    exact v2.trans (gPart_array m c).symm

end Cert.ResBIdeal

end

end
-- ==== Proof.ResBiasB.lean ====
module

public import proofs.«01_k».proof.Defs
public import proofs.«01_k».proof.Proof.RowSums
public import proofs.«01_k».proof.Proof.Gen.ResBiasBIdeal.Value
public import proofs.«01_k».proof.Proof.Gen.ResBiasBRefIdeal.Run
public import proofs.«01_k».proof.Proof.Gen.ResBiasBRefIdeal.Read
public import Idealize.ShloMosaic.Lib.Pipeline.ReadBack
public import Idealize.ShloMosaic.Lib.Pipeline.ValueKit
public import Idealize.ShloMosaic.Lib.Pointwise
public import Idealize.ShloMosaic.Lib.Claim

/-! # The gradients of a gated norm with a bias -/

set_option maxRecDepth 16384

noncomputable section

open Idealize.ShloMosaic Idealize.ShloMosaic.TcCoe Idealize.SL.Sem
open Idealize.ShloMosaic.Pipeline (Dat)
open Cert.RowSums

@[expose] public section

namespace Cert.ResBiasBIdeal

open Cert.ResBiasBIdeal.Gen

/-- A row with the bias. -/
def biased (y : FVec Ideal S1x2048x1024 .f32) (b : FVec Ideal S1x1x1024 .f32) (r : Fin 2048) (k : Fin 1024) : EReal := y (ix3 0 r k) + b (ix3 0 0 k)

/-- The gradient of the rows before the norm. -/
def rows (y : FVec Ideal S1x2048x1024 .f32) (gate g b : FVec Ideal S1x1x1024 .f32) (dh : FVec Ideal S1x2048x1024 .f32) (r : Fin 2048) (q : Fin 1024) : EReal :=
  normGrad of1024 (biased y b r) (fun k => gate (ix3 0 0 k) * dh (ix3 0 r k) * g (ix3 0 0 k)) q

/-- A row's parts of the gradients of the gate, of the norm's weights and of the bias. -/
def gatePart (y : FVec Ideal S1x2048x1024 .f32) (g b : FVec Ideal S1x1x1024 .f32) (dh : FVec Ideal S1x2048x1024 .f32) (r : Fin 2048) (q : Fin 1024) : EReal :=
  dh (ix3 0 r q) * (biased y b r q * scale of1024 (biased y b r) * g (ix3 0 0 q))

def gPart (y : FVec Ideal S1x2048x1024 .f32) (gate b : FVec Ideal S1x1x1024 .f32) (dh : FVec Ideal S1x2048x1024 .f32) (r : Fin 2048) (q : Fin 1024) : EReal :=
  biased y b r q * scale of1024 (biased y b r) * (gate (ix3 0 0 q) * dh (ix3 0 r q))

def biasPart (y : FVec Ideal S1x2048x1024 .f32) (gate g b : FVec Ideal S1x1x1024 .f32) (dh : FVec Ideal S1x2048x1024 .f32) (r : Fin 2048) (q : Fin 1024) : EReal := rows y gate g b dh r q

variable (m : (ℓ : Loc nD τ sig) → Buf (Elt Ideal) ℓ) (c : Dev nD)

abbrev yA : FVec Ideal S1x2048x1024 .f32 := m ((c : Thread nD τ).loc main_arg0)
abbrev gateA : FVec Ideal S1x1x1024 .f32 := m ((c : Thread nD τ).loc main_arg1)
abbrev gA : FVec Ideal S1x1x1024 .f32 := m ((c : Thread nD τ).loc main_arg2)
abbrev bA : FVec Ideal S1x1x1024 .f32 := m ((c : Thread nD τ).loc main_arg3)
abbrev dhA : FVec Ideal S1x2048x1024 .f32 := m ((c : Thread nD τ).loc main_arg4)

/-- The row of a tile's row in the whole array. -/
abbrev row (t : Fin cfg0.N) (p : Fin 256) : Fin 2048 := ⟨t.val * 256 + p.val, by have h : t.val < 8 := t.isLt; omega⟩

/-! The blocks that a point reads. -/

theorem block_y (t : Fin cfg0.N) (p : Fin 256) (q : Fin 1024) :
    iblk m c 0 t (ix3 0 p q) = yA m c (ix3 0 (row t p) q) := by
  have e : ∀ t : Fin cfg0.N, win0_0.index t = ![0, t.val, 0] := (by decide +kernel : ∀ t : Fin grid0.N, _)
  blk_simp [iblk]
  rw [V_main_arg0]
  refine congrArg _ ?_
  blk_ext [e]

theorem block_gate (t : Fin cfg0.N) (q : Fin 1024) : iblk m c 1 t (ix3 0 0 q) = gateA m c (ix3 0 0 q) := by
  have e : ∀ t : Fin cfg0.N, win0_1.index t = ![0, 0, 0] := (by decide +kernel : ∀ t : Fin grid0.N, _)
  blk_simp [iblk]
  rw [V_main_arg1]
  refine congrArg _ ?_
  blk_ext [e]

theorem block_g (t : Fin cfg0.N) (q : Fin 1024) : iblk m c 2 t (ix3 0 0 q) = gA m c (ix3 0 0 q) := by
  have e : ∀ t : Fin cfg0.N, win0_2.index t = ![0, 0, 0] := (by decide +kernel : ∀ t : Fin grid0.N, _)
  blk_simp [iblk]
  rw [V_main_arg2]
  refine congrArg _ ?_
  blk_ext [e]

theorem block_b (t : Fin cfg0.N) (q : Fin 1024) : iblk m c 3 t (ix3 0 0 q) = bA m c (ix3 0 0 q) := by
  have e : ∀ t : Fin cfg0.N, win0_3.index t = ![0, 0, 0] := (by decide +kernel : ∀ t : Fin grid0.N, _)
  blk_simp [iblk]
  rw [V_main_arg3]
  refine congrArg _ ?_
  blk_ext [e]

theorem block_dh (t : Fin cfg0.N) (p : Fin 256) (q : Fin 1024) :
    iblk m c 4 t (ix3 0 p q) = dhA m c (ix3 0 (row t p) q) := by
  have e : ∀ t : Fin cfg0.N, win0_4.index t = ![0, t.val, 0] := (by decide +kernel : ∀ t : Fin grid0.N, _)
  blk_simp [iblk]
  rw [V_main_arg4]
  refine congrArg _ ?_
  blk_ext [e]

/-- What the first point leaves in the blocks. -/
theorem first (t : Fin cfg0.N) (h : t.val % 8 = 0) :
    (∀ (p : Fin 256) (q : Fin 1024), (outsAt0 m c t.val t.isLt).1 (ix3 0 p q) = rows (yA m c) (gateA m c) (gA m c) (bA m c) (dhA m c) (row t p) q)
    ∧ (∀ q : Fin 1024, (outsAt0 m c t.val t.isLt).2.1 (ix3 0 0 q)
      = ∑ p : Fin 256, gatePart (yA m c) (gA m c) (bA m c) (dhA m c) (row t p) q)
    ∧ (∀ q : Fin 1024, (outsAt0 m c t.val t.isLt).2.2.1 (ix3 0 0 q)
      = ∑ p : Fin 256, gPart (yA m c) (gateA m c) (bA m c) (dhA m c) (row t p) q)
    ∧ (∀ q : Fin 1024, (outsAt0 m c t.val t.isLt).2.2.2 (ix3 0 0 q)
      = ∑ p : Fin 256, biasPart (yA m c) (gateA m c) (gA m c) (bA m c) (dhA m c) (row t p) q) := by
  have h8 : t.val < 8 := t.isLt
  rw [outsAt0_A m c t h (by omega) h (by omega) h (by omega)]
  dsimp only
  refine ⟨fun p q => ?_, fun q => ?_, fun q => ?_, fun q => ?_⟩
  all_goals
    frame_out
    pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20]
    simp only [block_y, block_gate, block_g, block_b, block_dh, Finset.univ_unique, Finset.sum_singleton]
    rfl

/-- What a later point leaves. -/
theorem next (t : Fin cfg0.N) (h : ¬t.val % 8 = 0) :
    (∀ (p : Fin 256) (q : Fin 1024), (outsAt0 m c t.val t.isLt).1 (ix3 0 p q) = rows (yA m c) (gateA m c) (gA m c) (bA m c) (dhA m c) (row t p) q)
    ∧ (∀ q : Fin 1024, (outsAt0 m c t.val t.isLt).2.1 (ix3 0 0 q)
      = (outsAt0 m c (t.val - 1) (Nat.lt_of_le_of_lt (Nat.sub_le _ _) t.isLt)).2.1 (ix3 0 0 q)
        + ∑ p : Fin 256, gatePart (yA m c) (gA m c) (bA m c) (dhA m c) (row t p) q)
    ∧ (∀ q : Fin 1024, (outsAt0 m c t.val t.isLt).2.2.1 (ix3 0 0 q)
      = (outsAt0 m c (t.val - 1) (Nat.lt_of_le_of_lt (Nat.sub_le _ _) t.isLt)).2.2.1 (ix3 0 0 q)
        + ∑ p : Fin 256, gPart (yA m c) (gateA m c) (bA m c) (dhA m c) (row t p) q)
    ∧ (∀ q : Fin 1024, (outsAt0 m c t.val t.isLt).2.2.2 (ix3 0 0 q)
      = (outsAt0 m c (t.val - 1) (Nat.lt_of_le_of_lt (Nat.sub_le _ _) t.isLt)).2.2.2 (ix3 0 0 q)
        + ∑ p : Fin 256, biasPart (yA m c) (gateA m c) (gA m c) (bA m c) (dhA m c) (row t p) q) := by
  have h8 : t.val < 8 := t.isLt
  rw [outsAt0_B m c t h (by omega) h (by omega) h (by omega)]
  dsimp only
  refine ⟨fun p q => ?_, fun q => ?_, fun q => ?_, fun q => ?_⟩
  all_goals
    frame_out
    pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20]
    simp only [block_y, block_gate, block_g, block_b, block_dh, Finset.univ_unique, Finset.sum_singleton]
    rfl

/-- The last point. -/
abbrev lastPt : Fin cfg0.N := (⟨7, by decide⟩ : Fin grid0.N)

/-! What the kernel leaves in its results. -/

theorem rows_array : (dats m 0 c).arrAt 5 cfg0.N
    = fun y : S1x2048x1024.Idx => rows (yA m c) (gateA m c) (gA m c) (bA m c) (dhA m c) (y 1) (y 2) := by
  refine (dats m 0 c).arrAt_eq_of_covers 5 _ (by decide +kernel) fun t _ y => ?_
  have e : ∀ t : Fin cfg0.N, win0_5.index t = ![0, t.val, 0] := (by decide +kernel : ∀ t : Fin grid0.N, _)
  rw [eq_row y]
  blk_simp
  rw [after0_5]
  have point : (outsAt0 m c t.val t.isLt).1 (ix3 0 (y 1) (y 2)) = rows (yA m c) (gateA m c) (gA m c) (bA m c) (dhA m c) (row t (y 1)) (y 2) := by
    by_cases h : t.val % 8 = 0
    · exact (first m c t h).1 (y 1) (y 2)
    · exact (next m c t h).1 (y 1) (y 2)
  refine point.trans (congrArg₂ _ (Fin.ext ?_) (Fin.ext ?_))
  · blk_simp [e]
  · blk_simp [e]

theorem gatePart_array : (dats m 0 c).arrAt 6 cfg0.N
    = fun y : S1x1x1024.Idx => ∑ r : Fin 2048, gatePart (yA m c) (gA m c) (bA m c) (dhA m c) r (y 2) := by
  refine (dats m 0 c).arrAt_eq_of_after_last 6 lastPt (by decide +kernel) _ fun j => ?_
  rw [after0_6]
  obtain ⟨q, rfl⟩ : ∃ q : Fin 1024, j = ix3 0 0 q := ⟨j 2, (eq_row j).trans (congrArg (ix3 0 · (j 2)) (Subsingleton.elim (α := Fin 1) _ _))⟩
  exact sum_of_tiles (fun n h (q : Fin 1024) => (outsAt0 m c n h).2.1 (ix3 0 0 q)) (gatePart (yA m c) (gA m c) (bA m c) (dhA m c)) N_0 rfl
    (fun t h => (first m c t h).2.1) (fun t h => (next m c t h).2.1) lastPt rfl q

theorem gPart_array : (dats m 0 c).arrAt 7 cfg0.N
    = fun y : S1x1x1024.Idx => ∑ r : Fin 2048, gPart (yA m c) (gateA m c) (bA m c) (dhA m c) r (y 2) := by
  refine (dats m 0 c).arrAt_eq_of_after_last 7 lastPt (by decide +kernel) _ fun j => ?_
  rw [after0_7]
  obtain ⟨q, rfl⟩ : ∃ q : Fin 1024, j = ix3 0 0 q := ⟨j 2, (eq_row j).trans (congrArg (ix3 0 · (j 2)) (Subsingleton.elim (α := Fin 1) _ _))⟩
  exact sum_of_tiles (fun n h (q : Fin 1024) => (outsAt0 m c n h).2.2.1 (ix3 0 0 q)) (gPart (yA m c) (gateA m c) (bA m c) (dhA m c)) N_0 rfl
    (fun t h => (first m c t h).2.2.1) (fun t h => (next m c t h).2.2.1) lastPt rfl q

theorem biasPart_array : (dats m 0 c).arrAt 8 cfg0.N
    = fun y : S1x1x1024.Idx => ∑ r : Fin 2048, biasPart (yA m c) (gateA m c) (gA m c) (bA m c) (dhA m c) r (y 2) := by
  refine (dats m 0 c).arrAt_eq_of_after_last 8 lastPt (by decide +kernel) _ fun j => ?_
  rw [after0_8]
  obtain ⟨q, rfl⟩ : ∃ q : Fin 1024, j = ix3 0 0 q := ⟨j 2, (eq_row j).trans (congrArg (ix3 0 · (j 2)) (Subsingleton.elim (α := Fin 1) _ _))⟩
  exact sum_of_tiles (fun n h (q : Fin 1024) => (outsAt0 m c n h).2.2.2 (ix3 0 0 q)) (biasPart (yA m c) (gateA m c) (gA m c) (bA m c) (dhA m c)) N_0 rfl
    (fun t h => (first m c t h).2.2.2) (fun t h => (next m c t h).2.2.2) lastPt rfl q

end Cert.ResBiasBIdeal

namespace Cert.ResBiasBRefIdeal

/-- What the reference leaves. -/
theorem values (x0 : FVec Ideal S1x2048x1024 .f32) (x1 : FVec Ideal S1x1x1024 .f32) (x2 : FVec Ideal S1x1x1024 .f32) (x3 :
    FVec Ideal S1x1x1024 .f32) (x4 : FVec Ideal S1x2048x1024 .f32) :
    Read.val_main_v46 (F := Ideal) x0 x1 x2 x3 x4 = (fun y => ResBiasBIdeal.rows x0 x1 x2 x3 x4 (y 1) (y 2))
    ∧ Read.val_main_v23 (F := Ideal) x0 x2 x3 x4 = (fun y => ∑ r : Fin 2048, ResBiasBIdeal.gatePart x0 x2 x3 x4 r (y 2))
    ∧ Read.val_main_v26 (F := Ideal) x0 x1 x3 x4 = (fun y => ∑ r : Fin 2048, ResBiasBIdeal.gPart x0 x1 x3 x4 r (y 2))
    ∧ Read.val_main_v45 (F := Ideal) x0 x1 x2 x3 x4 = (fun y => ∑ r : Fin 2048, ResBiasBIdeal.biasPart x0 x1 x2 x3 x4 r (y 2)) := by
  refine ⟨?_, ?_, ?_, ?_⟩
  all_goals
    funext y
    rw [eq_row y]
    pointwise [sum_of_column, Read.val_main_v0, Read.val_main_v1, Read.val_main_v2, Read.val_main_cst, Read.val_main_v3,
    Read.val_main_v4, Read.val_main_cst_0, Read.val_main_v5, Read.val_main_v6, Read.val_main_cst_1, Read.val_main_v7,
    Read.val_main_v8, Read.val_main_v9, Read.val_main_v10, Read.val_main_cst_2, Read.val_main_v11, Read.val_main_v12,
    Read.val_main_v13, Read.val_main_v14, Read.val_main_v15, Read.val_main_v16, Read.val_main_v17, Read.val_main_v18,
    Read.val_main_v19, Read.val_main_v20, Read.val_main_v21, Read.val_main_cst_3, Read.val_main_v22,
    Read.val_main_v23, Read.val_main_v24, Read.val_main_cst_4, Read.val_main_v25, Read.val_main_v26,
    Read.val_main_v27, Read.val_main_v28, Read.val_main_v29, Read.val_main_cst_5, Read.val_main_v30,
    Read.val_main_v31, Read.val_main_v32, Read.val_main_v33, Read.val_main_v34, Read.val_main_cst_6,
    Read.val_main_v35, Read.val_main_v36, Read.val_main_cst_7, Read.val_main_v37, Read.val_main_v38,
    Read.val_main_v39, Read.val_main_v40, Read.val_main_v41, Read.val_main_v42, Read.val_main_v43,
    Read.val_main_cst_8, Read.val_main_v44, Read.val_main_v45, Read.val_main_v46]
    rfl

/-- The reference ends without fault, its arguments unchanged. -/
theorem frame_reference : Cert.quiescent_ResBiasBRefIdeal := fun m ρ _ =>
  (θ_run Cert.ResBiasBRefIdeal.defs _ _).mono
    (fun r h => ⟨fun c => (h c).2.2.2.2, sem_eq_zero_of_no_sems (by decide) r.2⟩) (Cert.ResBiasBRefIdeal.Value.run (F := Ideal) m ρ)

end Cert.ResBiasBRefIdeal

namespace Cert.ResBiasBIdeal

/-- Kernel and reference end with equal results over the extended reals. -/
theorem algebraic : Cert.algebraic_ResBiasBIdeal_ResBiasBRefIdeal := by
  intro m ρ m' ρ' _ hag
  refine ⟨_, _, _, _, Value.run_blocks m ρ, ?_⟩
  refine (θ_run Cert.ResBiasBRefIdeal.defs _ _).mono (fun r h c => ?_) (Cert.ResBiasBRefIdeal.Value.run (F := Ideal) m' ρ')
  obtain ⟨h0, h1, h2, h3, hargs⟩ := h c
  obtain ⟨a0, a1, a2, a3, a4⟩ := hag c
  obtain ⟨v0, v1, v2, v3⟩ := ResBiasBRefIdeal.values (yA m c) (gateA m c) (gA m c) (bA m c) (dhA m c)
  refine ⟨h0.trans ?_, h1.trans ?_, h2.trans ?_, h3.trans ?_, hargs⟩
  · rw [ResBiasBRefIdeal.Read.val_main_v46_eq, a0, a1, a2, a3, a4]
    exact v0.trans (rows_array m c).symm
  · rw [a0, a2, a3, a4]
    exact v1.trans (gatePart_array m c).symm
  · rw [a0, a1, a3, a4]
    exact v2.trans (gPart_array m c).symm
  · rw [ResBiasBRefIdeal.Read.val_main_v45_eq, a0, a1, a2, a3, a4]
    exact v3.trans (biasPart_array m c).symm

end Cert.ResBiasBIdeal

end

end
-- ==== Proof.GluB.lean ====
module

public import proofs.«01_k».proof.Defs
public import proofs.«01_k».proof.Proof.RowSums
public import proofs.«01_k».proof.Proof.Gen.GluBIdeal.Value
public import proofs.«01_k».proof.Proof.Gen.GluBRefIdeal.Run
public import proofs.«01_k».proof.Proof.Gen.GluBRefIdeal.Read
public import Idealize.ShloMosaic.Lib.Pipeline.ReadBack
public import Idealize.ShloMosaic.Lib.Pipeline.ValueKit
public import Idealize.ShloMosaic.Lib.Pointwise
public import Idealize.ShloMosaic.Lib.Claim

/-! # The gradients of a gated linear unit -/

set_option maxRecDepth 16384

noncomputable section

open Idealize.ShloMosaic Idealize.ShloMosaic.TcCoe Idealize.SL.Sem
open Idealize.ShloMosaic.Pipeline (Dat)
open Cert.RowSums

@[expose] public section

namespace Cert.GluBIdeal

open Cert.GluBIdeal.Gen

/-- An entry with the bias. -/
def biased (p : FVec Ideal S1x2048x2048 .f32) (b : FVec Ideal S1x1x2048 .f32) (r : Fin 2048) (q : ℕ) (h : q < 2048) : EReal := p (ix3 0 r ⟨q, h⟩) + b (ix3 0 0 ⟨q, h⟩)

/-- The gradient of the rows: of the unit's values in the first half, of its gates in the second. -/
def rows (p : FVec Ideal S1x2048x2048 .f32) (b : FVec Ideal S1x1x2048 .f32) (dz : FVec Ideal S1x2048x1024 .f32) (r q : Fin 2048) : EReal :=
  if h : q.val < 1024 then dz (ix3 0 r ⟨q.val, h⟩) * logistic (biased p b r (1024 + q.val) (by omega))
  else logisticGrad (biased p b r (q.val - 1024) (by omega)) (biased p b r (1024 + (q.val - 1024)) (by omega)) (dz (ix3 0 r ⟨q.val - 1024, by omega⟩))

/-- A row's part of the gradient of the bias. -/
def biasPart (p : FVec Ideal S1x2048x2048 .f32) (b : FVec Ideal S1x1x2048 .f32) (dz : FVec Ideal S1x2048x1024 .f32) (r q : Fin 2048) : EReal := rows p b dz r q

variable (m : (ℓ : Loc nD τ sig) → Buf (Elt Ideal) ℓ) (c : Dev nD)

abbrev pA : FVec Ideal S1x2048x2048 .f32 := m ((c : Thread nD τ).loc main_arg0)
abbrev bA : FVec Ideal S1x1x2048 .f32 := m ((c : Thread nD τ).loc main_arg1)
abbrev dzA : FVec Ideal S1x2048x1024 .f32 := m ((c : Thread nD τ).loc main_arg2)

/-- The row of a tile's row in the whole array. -/
abbrev row (t : Fin cfg0.N) (p : Fin 128) : Fin 2048 := ⟨t.val * 128 + p.val, by have h : t.val < 16 := t.isLt; omega⟩

/-! The blocks that a point reads. -/

theorem block_p (t : Fin cfg0.N) (p : Fin 128) (q : Fin 2048) :
    iblk m c 0 t (ix3 0 p q) = pA m c (ix3 0 (row t p) q) := by
  have e : ∀ t : Fin cfg0.N, win0_0.index t = ![0, t.val, 0] := (by decide +kernel : ∀ t : Fin grid0.N, _)
  blk_simp [iblk]
  rw [V_main_arg0]
  refine congrArg _ ?_
  blk_ext [e]

theorem block_b (t : Fin cfg0.N) (q : Fin 2048) : iblk m c 1 t (ix3 0 0 q) = bA m c (ix3 0 0 q) := by
  have e : ∀ t : Fin cfg0.N, win0_1.index t = ![0, 0, 0] := (by decide +kernel : ∀ t : Fin grid0.N, _)
  blk_simp [iblk]
  rw [V_main_arg1]
  refine congrArg _ ?_
  blk_ext [e]

theorem block_dz (t : Fin cfg0.N) (p : Fin 128) (q : Fin 1024) :
    iblk m c 2 t (ix3 0 p q) = dzA m c (ix3 0 (row t p) q) := by
  have e : ∀ t : Fin cfg0.N, win0_2.index t = ![0, t.val, 0] := (by decide +kernel : ∀ t : Fin grid0.N, _)
  blk_simp [iblk]
  rw [V_main_arg2]
  refine congrArg _ ?_
  blk_ext [e]

/-- What the first point leaves in the blocks. -/
theorem first (t : Fin cfg0.N) (h : t.val % 16 = 0) :
    (∀ (p : Fin 128) (q : Fin 2048), (outsAt0 m c t.val t.isLt).1 (ix3 0 p q) = rows (pA m c) (bA m c) (dzA m c) (row t p) q)
    ∧ (∀ q : Fin 2048, (outsAt0 m c t.val t.isLt).2 (ix3 0 0 q)
      = ∑ p : Fin 128, biasPart (pA m c) (bA m c) (dzA m c) (row t p) q) := by
  have h8 : t.val < 16 := t.isLt
  rw [outsAt0_A m c t h (by omega)]
  dsimp only
  refine ⟨fun p q => ?_, fun q => ?_⟩
  all_goals
    frame_out
    pointwise [k0_pay1, k0_pay2, k0_pay3, k0_pay4, k0_pay5, k0_pay6, k0_pay7, k0_pay8, k0_pay9, k0_pay10, k0_pay11, k0_pay12]
    simp only [block_p, block_b, block_dz, Finset.univ_unique, Finset.sum_singleton]
    by_cases hq : q.val < 1024 <;> simp only [zero_sub, biasPart, rows, hq, ↓reduceDIte] <;> rfl

/-- What a later point leaves. -/
theorem next (t : Fin cfg0.N) (h : ¬t.val % 16 = 0) :
    (∀ (p : Fin 128) (q : Fin 2048), (outsAt0 m c t.val t.isLt).1 (ix3 0 p q) = rows (pA m c) (bA m c) (dzA m c) (row t p) q)
    ∧ (∀ q : Fin 2048, (outsAt0 m c t.val t.isLt).2 (ix3 0 0 q)
      = (outsAt0 m c (t.val - 1) (Nat.lt_of_le_of_lt (Nat.sub_le _ _) t.isLt)).2 (ix3 0 0 q)
        + ∑ p : Fin 128, biasPart (pA m c) (bA m c) (dzA m c) (row t p) q) := by
  have h8 : t.val < 16 := t.isLt
  rw [outsAt0_B m c t h (by omega)]
  dsimp only
  refine ⟨fun p q => ?_, fun q => ?_⟩
  all_goals
    frame_out
    pointwise [k0_pay1, k0_pay2, k0_pay3, k0_pay4, k0_pay5, k0_pay6, k0_pay7, k0_pay8, k0_pay9, k0_pay10, k0_pay11, k0_pay12]
    simp only [block_p, block_b, block_dz, Finset.univ_unique, Finset.sum_singleton]
    by_cases hq : q.val < 1024 <;> simp only [zero_sub, biasPart, rows, hq, ↓reduceDIte] <;> rfl

/-- The last point. -/
abbrev lastPt : Fin cfg0.N := (⟨15, by decide⟩ : Fin grid0.N)

/-! What the kernel leaves in its results. -/

theorem rows_array : (dats m 0 c).arrAt 3 cfg0.N
    = fun y : S1x2048x2048.Idx => rows (pA m c) (bA m c) (dzA m c) (y 1) (y 2) := by
  refine (dats m 0 c).arrAt_eq_of_covers 3 _ (by decide +kernel) fun t _ y => ?_
  have e : ∀ t : Fin cfg0.N, win0_3.index t = ![0, t.val, 0] := (by decide +kernel : ∀ t : Fin grid0.N, _)
  rw [eq_row y]
  blk_simp
  rw [after0_3]
  have point : (outsAt0 m c t.val t.isLt).1 (ix3 0 (y 1) (y 2)) = rows (pA m c) (bA m c) (dzA m c) (row t (y 1)) (y 2) := by
    by_cases h : t.val % 16 = 0
    · exact (first m c t h).1 (y 1) (y 2)
    · exact (next m c t h).1 (y 1) (y 2)
  refine point.trans (congrArg₂ _ (Fin.ext ?_) (Fin.ext ?_))
  · blk_simp [e]
  · blk_simp [e]

theorem biasPart_array : (dats m 0 c).arrAt 4 cfg0.N
    = fun y : S1x1x2048.Idx => ∑ r : Fin 2048, biasPart (pA m c) (bA m c) (dzA m c) r (y 2) := by
  refine (dats m 0 c).arrAt_eq_of_after_last 4 lastPt (by decide +kernel) _ fun j => ?_
  rw [after0_4]
  obtain ⟨q, rfl⟩ : ∃ q : Fin 2048, j = ix3 0 0 q := ⟨j 2, (eq_row j).trans (congrArg (ix3 0 · (j 2)) (Subsingleton.elim (α := Fin 1) _ _))⟩
  exact sum_of_tiles (fun n h (q : Fin 2048) => (outsAt0 m c n h).2 (ix3 0 0 q)) (biasPart (pA m c) (bA m c) (dzA m c)) N_0 rfl
    (fun t h => (first m c t h).2) (fun t h => (next m c t h).2) lastPt rfl q

end Cert.GluBIdeal

namespace Cert.GluBRefIdeal

/-- What the reference leaves. -/
theorem values (x0 : FVec Ideal S1x2048x2048 .f32) (x1 : FVec Ideal S1x1x2048 .f32) (x2 : FVec Ideal S1x2048x1024 .f32) :
    Read.val_main_v25 (F := Ideal) x0 x1 x2 = (fun y => GluBIdeal.rows x0 x1 x2 (y 1) (y 2))
    ∧ Read.val_main_v24 (F := Ideal) x0 x1 x2 = (fun y => ∑ r : Fin 2048, GluBIdeal.biasPart x0 x1 x2 r (y 2)) := by
  refine ⟨?_, ?_⟩
  all_goals
    funext y
    rw [eq_row y]
    pointwise [sum_of_column, Read.val_main_v0, Read.val_main_v1, Read.val_main_v2, Read.val_main_v3, Read.val_main_v4,
    Read.val_main_v5, Read.val_main_cst, Read.val_main_v6, Read.val_main_v7, Read.val_main_cst_0, Read.val_main_v8,
    Read.val_main_v9, Read.val_main_v10, Read.val_main_cst_1, Read.val_main_v11, Read.val_main_v12, Read.val_main_v13,
    Read.val_main_v14, Read.val_main_v15, Read.val_main_v16, Read.val_main_cst_2, Read.val_main_v17,
    Read.val_main_v18, Read.val_main_v19, Read.val_main_v20, Read.val_main_v21, Read.val_main_v22,
    Read.val_main_cst_3, Read.val_main_v23, Read.val_main_v24, Read.val_main_v25]
    rfl

/-- The reference ends without fault, its arguments unchanged. -/
theorem frame_reference : Cert.quiescent_GluBRefIdeal := fun m ρ _ =>
  (θ_run Cert.GluBRefIdeal.defs _ _).mono
    (fun r h => ⟨fun c => (h c).2.2, sem_eq_zero_of_no_sems (by decide) r.2⟩) (Cert.GluBRefIdeal.Value.run (F := Ideal) m ρ)

end Cert.GluBRefIdeal

namespace Cert.GluBIdeal

/-- Kernel and reference end with equal results over the extended reals. -/
theorem algebraic : Cert.algebraic_GluBIdeal_GluBRefIdeal := by
  intro m ρ m' ρ' _ hag
  refine ⟨_, _, Value.run_blocks m ρ, ?_⟩
  refine (θ_run Cert.GluBRefIdeal.defs _ _).mono (fun r h c => ?_) (Cert.GluBRefIdeal.Value.run (F := Ideal) m' ρ')
  obtain ⟨h0, h1, hargs⟩ := h c
  obtain ⟨a0, a1, a2⟩ := hag c
  obtain ⟨v0, v1⟩ := GluBRefIdeal.values (pA m c) (bA m c) (dzA m c)
  refine ⟨h0.trans ?_, h1.trans ?_, hargs⟩
  · rw [a0, a1, a2]
    exact v0.trans (rows_array m c).symm
  · rw [a0, a1, a2]
    exact v1.trans (biasPart_array m c).symm

end Cert.GluBIdeal

end

end
-- ==== Proof.LnB.lean ====
module

public import proofs.«01_k».proof.Defs
public import proofs.«01_k».proof.Proof.RowSums
public import proofs.«01_k».proof.Proof.Gen.LnBIdeal.Value
public import proofs.«01_k».proof.Proof.Gen.LnBRefIdeal.Run
public import proofs.«01_k».proof.Proof.Gen.LnBRefIdeal.Read
public import Idealize.ShloMosaic.Lib.Pipeline.ReadBack
public import Idealize.ShloMosaic.Lib.Pipeline.ValueKit
public import Idealize.ShloMosaic.Lib.Pointwise
public import Idealize.ShloMosaic.Lib.Claim

/-! # The gradients of a layer norm followed by a swish -/

set_option maxRecDepth 16384

noncomputable section

open Idealize.ShloMosaic Idealize.ShloMosaic.TcCoe Idealize.SL.Sem
open Idealize.ShloMosaic.Pipeline (Dat)
open Cert.RowSums

@[expose] public section

namespace Cert.LnBIdeal

open Cert.LnBIdeal.Gen

/-- A normed row, without weights. -/
def normed (z : FVec Ideal S1x2048x1024 .f32) (r : Fin 2048) (k : Fin 1024) : EReal :=
  centred of1024 (fun k => z (ix3 0 r k)) k * scale of1024 (centred of1024 fun k => z (ix3 0 r k))

/-- The swish's argument. -/
def arg (z : FVec Ideal S1x2048x1024 .f32) (g b : FVec Ideal S1x1x1024 .f32) (r : Fin 2048) (k : Fin 1024) : EReal := normed z r k * g (ix3 0 0 k) + b (ix3 0 0 k)

/-- A row's part of the gradient of the bias: the gradient of the swish's argument. -/
def biasPart (z : FVec Ideal S1x2048x1024 .f32) (g b : FVec Ideal S1x1x1024 .f32) (dr : FVec Ideal S1x2048x1024 .f32) (r : Fin 2048) (k : Fin 1024) : EReal :=
  dr (ix3 0 r k) * logistic (arg z g b r k) + logisticGrad (arg z g b r k) (arg z g b r k) (dr (ix3 0 r k))

/-- A row's part of the gradient of the weights. -/
def gPart (z : FVec Ideal S1x2048x1024 .f32) (g b : FVec Ideal S1x1x1024 .f32) (dr : FVec Ideal S1x2048x1024 .f32) (r : Fin 2048) (k : Fin 1024) : EReal := normed z r k * biasPart z g b dr r k

/-- The gradient of the rows. -/
def rows (z : FVec Ideal S1x2048x1024 .f32) (g b : FVec Ideal S1x1x1024 .f32) (dr : FVec Ideal S1x2048x1024 .f32) (r : Fin 2048) (q : Fin 1024) : EReal :=
  centredGrad of1024 (fun k => z (ix3 0 r k)) (fun k => biasPart z g b dr r k * g (ix3 0 0 k)) q

variable (m : (ℓ : Loc nD τ sig) → Buf (Elt Ideal) ℓ) (c : Dev nD)

abbrev zA : FVec Ideal S1x2048x1024 .f32 := m ((c : Thread nD τ).loc main_arg0)
abbrev gA : FVec Ideal S1x1x1024 .f32 := m ((c : Thread nD τ).loc main_arg1)
abbrev bA : FVec Ideal S1x1x1024 .f32 := m ((c : Thread nD τ).loc main_arg2)
abbrev drA : FVec Ideal S1x2048x1024 .f32 := m ((c : Thread nD τ).loc main_arg3)

/-- The row of a tile's row in the whole array. -/
abbrev row (t : Fin cfg0.N) (p : Fin 256) : Fin 2048 := ⟨t.val * 256 + p.val, by have h : t.val < 8 := t.isLt; omega⟩

/-! The blocks that a point reads. -/

theorem block_z (t : Fin cfg0.N) (p : Fin 256) (q : Fin 1024) :
    iblk m c 0 t (ix3 0 p q) = zA m c (ix3 0 (row t p) q) := by
  have e : ∀ t : Fin cfg0.N, win0_0.index t = ![0, t.val, 0] := (by decide +kernel : ∀ t : Fin grid0.N, _)
  blk_simp [iblk]
  rw [V_main_arg0]
  refine congrArg _ ?_
  blk_ext [e]

theorem block_g (t : Fin cfg0.N) (q : Fin 1024) : iblk m c 1 t (ix3 0 0 q) = gA m c (ix3 0 0 q) := by
  have e : ∀ t : Fin cfg0.N, win0_1.index t = ![0, 0, 0] := (by decide +kernel : ∀ t : Fin grid0.N, _)
  blk_simp [iblk]
  rw [V_main_arg1]
  refine congrArg _ ?_
  blk_ext [e]

theorem block_b (t : Fin cfg0.N) (q : Fin 1024) : iblk m c 2 t (ix3 0 0 q) = bA m c (ix3 0 0 q) := by
  have e : ∀ t : Fin cfg0.N, win0_2.index t = ![0, 0, 0] := (by decide +kernel : ∀ t : Fin grid0.N, _)
  blk_simp [iblk]
  rw [V_main_arg2]
  refine congrArg _ ?_
  blk_ext [e]

theorem block_dr (t : Fin cfg0.N) (p : Fin 256) (q : Fin 1024) :
    iblk m c 3 t (ix3 0 p q) = drA m c (ix3 0 (row t p) q) := by
  have e : ∀ t : Fin cfg0.N, win0_3.index t = ![0, t.val, 0] := (by decide +kernel : ∀ t : Fin grid0.N, _)
  blk_simp [iblk]
  rw [V_main_arg3]
  refine congrArg _ ?_
  blk_ext [e]

/-- What the first point leaves in the blocks. -/
theorem first (t : Fin cfg0.N) (h : t.val % 8 = 0) :
    (∀ (p : Fin 256) (q : Fin 1024), (outsAt0 m c t.val t.isLt).1 (ix3 0 p q) = rows (zA m c) (gA m c) (bA m c) (drA m c) (row t p) q)
    ∧ (∀ q : Fin 1024, (outsAt0 m c t.val t.isLt).2.1 (ix3 0 0 q)
      = ∑ p : Fin 256, gPart (zA m c) (gA m c) (bA m c) (drA m c) (row t p) q)
    ∧ (∀ q : Fin 1024, (outsAt0 m c t.val t.isLt).2.2 (ix3 0 0 q)
      = ∑ p : Fin 256, biasPart (zA m c) (gA m c) (bA m c) (drA m c) (row t p) q) := by
  have h8 : t.val < 8 := t.isLt
  rw [outsAt0_A m c t h (by omega) h (by omega)]
  dsimp only
  refine ⟨fun p q => ?_, fun q => ?_, fun q => ?_⟩
  all_goals
    frame_out
    pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20]
    simp only [block_z, block_g, block_b, block_dr, Finset.univ_unique, Finset.sum_singleton]
    simp only [zero_sub]
    rfl

/-- What a later point leaves. -/
theorem next (t : Fin cfg0.N) (h : ¬t.val % 8 = 0) :
    (∀ (p : Fin 256) (q : Fin 1024), (outsAt0 m c t.val t.isLt).1 (ix3 0 p q) = rows (zA m c) (gA m c) (bA m c) (drA m c) (row t p) q)
    ∧ (∀ q : Fin 1024, (outsAt0 m c t.val t.isLt).2.1 (ix3 0 0 q)
      = (outsAt0 m c (t.val - 1) (Nat.lt_of_le_of_lt (Nat.sub_le _ _) t.isLt)).2.1 (ix3 0 0 q)
        + ∑ p : Fin 256, gPart (zA m c) (gA m c) (bA m c) (drA m c) (row t p) q)
    ∧ (∀ q : Fin 1024, (outsAt0 m c t.val t.isLt).2.2 (ix3 0 0 q)
      = (outsAt0 m c (t.val - 1) (Nat.lt_of_le_of_lt (Nat.sub_le _ _) t.isLt)).2.2 (ix3 0 0 q)
        + ∑ p : Fin 256, biasPart (zA m c) (gA m c) (bA m c) (drA m c) (row t p) q) := by
  have h8 : t.val < 8 := t.isLt
  rw [outsAt0_B m c t h (by omega) h (by omega)]
  dsimp only
  refine ⟨fun p q => ?_, fun q => ?_, fun q => ?_⟩
  all_goals
    frame_out
    pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20]
    simp only [block_z, block_g, block_b, block_dr, Finset.univ_unique, Finset.sum_singleton]
    simp only [zero_sub]
    rfl

/-- The last point. -/
abbrev lastPt : Fin cfg0.N := (⟨7, by decide⟩ : Fin grid0.N)

/-! What the kernel leaves in its results. -/

theorem rows_array : (dats m 0 c).arrAt 4 cfg0.N
    = fun y : S1x2048x1024.Idx => rows (zA m c) (gA m c) (bA m c) (drA m c) (y 1) (y 2) := by
  refine (dats m 0 c).arrAt_eq_of_covers 4 _ (by decide +kernel) fun t _ y => ?_
  have e : ∀ t : Fin cfg0.N, win0_4.index t = ![0, t.val, 0] := (by decide +kernel : ∀ t : Fin grid0.N, _)
  rw [eq_row y]
  blk_simp
  rw [after0_4]
  have point : (outsAt0 m c t.val t.isLt).1 (ix3 0 (y 1) (y 2)) = rows (zA m c) (gA m c) (bA m c) (drA m c) (row t (y 1)) (y 2) := by
    by_cases h : t.val % 8 = 0
    · exact (first m c t h).1 (y 1) (y 2)
    · exact (next m c t h).1 (y 1) (y 2)
  refine point.trans (congrArg₂ _ (Fin.ext ?_) (Fin.ext ?_))
  · blk_simp [e]
  · blk_simp [e]

theorem gPart_array : (dats m 0 c).arrAt 5 cfg0.N
    = fun y : S1x1x1024.Idx => ∑ r : Fin 2048, gPart (zA m c) (gA m c) (bA m c) (drA m c) r (y 2) := by
  refine (dats m 0 c).arrAt_eq_of_after_last 5 lastPt (by decide +kernel) _ fun j => ?_
  rw [after0_5]
  obtain ⟨q, rfl⟩ : ∃ q : Fin 1024, j = ix3 0 0 q := ⟨j 2, (eq_row j).trans (congrArg (ix3 0 · (j 2)) (Subsingleton.elim (α := Fin 1) _ _))⟩
  exact sum_of_tiles (fun n h (q : Fin 1024) => (outsAt0 m c n h).2.1 (ix3 0 0 q)) (gPart (zA m c) (gA m c) (bA m c) (drA m c)) N_0 rfl
    (fun t h => (first m c t h).2.1) (fun t h => (next m c t h).2.1) lastPt rfl q

theorem biasPart_array : (dats m 0 c).arrAt 6 cfg0.N
    = fun y : S1x1x1024.Idx => ∑ r : Fin 2048, biasPart (zA m c) (gA m c) (bA m c) (drA m c) r (y 2) := by
  refine (dats m 0 c).arrAt_eq_of_after_last 6 lastPt (by decide +kernel) _ fun j => ?_
  rw [after0_6]
  obtain ⟨q, rfl⟩ : ∃ q : Fin 1024, j = ix3 0 0 q := ⟨j 2, (eq_row j).trans (congrArg (ix3 0 · (j 2)) (Subsingleton.elim (α := Fin 1) _ _))⟩
  exact sum_of_tiles (fun n h (q : Fin 1024) => (outsAt0 m c n h).2.2 (ix3 0 0 q)) (biasPart (zA m c) (gA m c) (bA m c) (drA m c)) N_0 rfl
    (fun t h => (first m c t h).2.2) (fun t h => (next m c t h).2.2) lastPt rfl q

end Cert.LnBIdeal

namespace Cert.LnBRefIdeal

/-- What the reference leaves. -/
theorem values (x0 : FVec Ideal S1x2048x1024 .f32) (x1 : FVec Ideal S1x1x1024 .f32) (x2 : FVec Ideal S1x1x1024 .f32) (x3 :
    FVec Ideal S1x2048x1024 .f32) :
    Read.val_main_v72 (F := Ideal) x0 x1 x2 x3 = (fun y => LnBIdeal.rows x0 x1 x2 x3 (y 1) (y 2))
    ∧ Read.val_main_v48 (F := Ideal) x0 x1 x2 x3 = (fun y => ∑ r : Fin 2048, LnBIdeal.gPart x0 x1 x2 x3 r (y 2))
    ∧ Read.val_main_v45 (F := Ideal) x0 x1 x2 x3 = (fun y => ∑ r : Fin 2048, LnBIdeal.biasPart x0 x1 x2 x3 r (y 2)) := by
  refine ⟨?_, ?_, ?_⟩
  all_goals
    funext y
    rw [eq_row y]
    pointwise [sum_of_column, Read.val_main_cst, Read.val_main_v0, Read.val_main_v1, Read.val_main_cst_0, Read.val_main_v2,
    Read.val_main_v3, Read.val_main_v4, Read.val_main_v5, Read.val_main_v6, Read.val_main_cst_1, Read.val_main_v7,
    Read.val_main_v8, Read.val_main_cst_2, Read.val_main_v9, Read.val_main_v10, Read.val_main_cst_3,
    Read.val_main_v11, Read.val_main_v12, Read.val_main_cst_4, Read.val_main_v13, Read.val_main_v14,
    Read.val_main_v15, Read.val_main_v16, Read.val_main_cst_5, Read.val_main_v17, Read.val_main_v18,
    Read.val_main_v19, Read.val_main_v20, Read.val_main_v21, Read.val_main_v22, Read.val_main_v23, Read.val_main_v24,
    Read.val_main_v25, Read.val_main_v26, Read.val_main_cst_6, Read.val_main_v27, Read.val_main_v28,
    Read.val_main_cst_7, Read.val_main_v29, Read.val_main_v30, Read.val_main_v31, Read.val_main_cst_8,
    Read.val_main_v32, Read.val_main_v33, Read.val_main_v34, Read.val_main_v35, Read.val_main_v36, Read.val_main_v37,
    Read.val_main_cst_9, Read.val_main_v38, Read.val_main_v39, Read.val_main_v40, Read.val_main_v41,
    Read.val_main_v42, Read.val_main_v43, Read.val_main_cst_10, Read.val_main_v44, Read.val_main_v45,
    Read.val_main_v46, Read.val_main_cst_11, Read.val_main_v47, Read.val_main_v48, Read.val_main_v49,
    Read.val_main_v50, Read.val_main_v51, Read.val_main_cst_12, Read.val_main_v52, Read.val_main_v53,
    Read.val_main_v54, Read.val_main_v55, Read.val_main_v56, Read.val_main_cst_13, Read.val_main_v57,
    Read.val_main_v58, Read.val_main_cst_14, Read.val_main_v59, Read.val_main_v60, Read.val_main_v61,
    Read.val_main_v62, Read.val_main_v63, Read.val_main_v64, Read.val_main_cst_15, Read.val_main_v65,
    Read.val_main_v66, Read.val_main_cst_16, Read.val_main_v67, Read.val_main_v68, Read.val_main_cst_17,
    Read.val_main_v69, Read.val_main_v70, Read.val_main_v71, Read.val_main_v72]
    try simp only [add_two_mul]
    rfl

/-- The reference ends without fault, its arguments unchanged. -/
theorem frame_reference : Cert.quiescent_LnBRefIdeal := fun m ρ _ =>
  (θ_run Cert.LnBRefIdeal.defs _ _).mono
    (fun r h => ⟨fun c => (h c).2.2.2, sem_eq_zero_of_no_sems (by decide) r.2⟩) (Cert.LnBRefIdeal.Value.run (F := Ideal) m ρ)

end Cert.LnBRefIdeal

namespace Cert.LnBIdeal

/-- Kernel and reference end with equal results over the extended reals. -/
theorem algebraic : Cert.algebraic_LnBIdeal_LnBRefIdeal := by
  intro m ρ m' ρ' _ hag
  refine ⟨_, _, _, Value.run_blocks m ρ, ?_⟩
  refine (θ_run Cert.LnBRefIdeal.defs _ _).mono (fun r h c => ?_) (Cert.LnBRefIdeal.Value.run (F := Ideal) m' ρ')
  obtain ⟨h0, h1, h2, hargs⟩ := h c
  obtain ⟨a0, a1, a2, a3⟩ := hag c
  obtain ⟨v0, v1, v2⟩ := LnBRefIdeal.values (zA m c) (gA m c) (bA m c) (drA m c)
  refine ⟨h0.trans ?_, h1.trans ?_, h2.trans ?_, hargs⟩
  · rw [LnBRefIdeal.Read.val_main_v72_eq, a0, a1, a2, a3]
    exact v0.trans (rows_array m c).symm
  · rw [LnBRefIdeal.Read.val_main_v48_eq, a0, a1, a2, a3]
    exact v1.trans (gPart_array m c).symm
  · rw [LnBRefIdeal.Read.val_main_v45_eq, a0, a1, a2, a3]
    exact v2.trans (biasPart_array m c).symm

end Cert.LnBIdeal

end

end
-- ==== Proof.SpatialFwd.lean ====
module

public import proofs.«01_k».proof.Defs
public import proofs.«01_k».proof.Proof.RefValue
public import proofs.«01_k».proof.Proof.RowSums
public import proofs.«01_k».proof.Proof.Gen.SpatialFwdIdeal.Value
public import proofs.«01_k».proof.Proof.Gen.SpatialFwdRefIdeal.Run
public import proofs.«01_k».proof.Proof.Gen.SpatialFwdRefIdeal.Read
public import Idealize.ShloMosaic.Lib.Pipeline.ReadBack
public import Idealize.ShloMosaic.Lib.Pipeline.ValueKit
public import Idealize.ShloMosaic.Lib.Pointwise
public import Idealize.ShloMosaic.Lib.Claim

/-! # The spatial gate

The gated rows are `u` times the mixed values plus the bias: the function that carries the incoming gradient to `u` in the
gate's gradient, here of `u` itself. -/

set_option maxRecDepth 16384

noncomputable section

open Idealize.ShloMosaic Idealize.ShloMosaic.TcCoe Idealize.SL.Sem
open Idealize.ShloMosaic.Pipeline (Dat)
open Cert.RowSums
open Cert.KernelIdeal.Spatial (grp lane chan chan_grp row chunk place chunk_row place_row colOff col_inb colRect matRect biasRect duOf)

@[expose] public section

namespace Cert.SpatialFwdIdeal

open Cert.SpatialFwdIdeal.Gen

/-- A group's gated columns: the group's part of `u` times its mixed values plus bias. -/
def tile (w v : Vec Ideal S1x128x128 .bf16) (b : Vec Ideal S1x128x1 .f32) (u : Vec Ideal S1x128x128 .f32) : Vec Ideal S1x128x128 .bf16 :=
  k0_pay3 (F := Ideal) w v b u

/-- The tile at a place. -/
theorem tile_at (w v : Vec Ideal S1x128x128 .bf16) (b : Vec Ideal S1x128x1 .f32) (u : Vec Ideal S1x128x128 .f32) (p k : Fin 128) :
    tile w v b u (ix3 0 p k) = u (ix3 0 p k) * (∑ q : Fin 128, w (ix3 0 p q) * v (ix3 0 q k) + b (ix3 0 p 0)) := by
  pointwise [tile, k0_pay3]

/-- The columns of the sixteen groups are stored one after the other, each its tile. -/
theorem stores (x0 : Vec Ideal S1x128x2048 .f32) (x1 : Vec Ideal S1x128x2048 .bf16) (x2 : Vec Ideal S16x128x128 .bf16) (x3 : Vec Ideal S16x128x1 .f32) :
    out0_4 (F := Ideal) x0 x1 x2 x3 = View.canon (List.ofFn fun k : Fin 16 => ⟨colRect k.rev,
      tile (View.ld x2 (matRect k.rev)) (View.ld x1 (colRect k.rev)) (View.ld x3 (biasRect k.rev)) (View.ld x0 (colRect k.rev))⟩) := by
  simp only [List.ofFn_succ, List.ofFn_zero]
  rfl

/-- What the stores leave at a channel. -/
theorem stored (x0 : Vec Ideal S1x128x2048 .f32) (x1 : Vec Ideal S1x128x2048 .bf16) (x2 : Vec Ideal S16x128x128 .bf16) (x3 : Vec Ideal S16x128x1 .f32)
    (p : Fin 128) (l : Fin 2048) :
    out0_4 (F := Ideal) x0 x1 x2 x3 (ix3 0 p l)
      = x0 (ix3 0 p l) * (∑ q : Fin 128, x2 (ix3 (grp l) p q) * x1 (ix3 0 q l) + x3 (ix3 (grp l) p 0)) := by
  rw [stores]
  refine View.canon_ofFn_unit_eq_of_forall (S := S1x128x2048) (fun k : Fin 16 => colOff k.rev) S1x128x128.size (fun k => col_inb k.rev) _ _ _
    ⟨(grp l).rev, fun a => ?_⟩ fun k x hx => ?_
  · have := l.isLt
    have := p.isLt
    fin_cases a <;> simp [colOff, ix3, S1x128x128] <;> omega
  · have h1 : p.val = (x 1).val := by simpa [colOff, ix3] using hx 1
    have h2 : l.val = 128 * k.rev.val + (x 2).val := by simpa [colOff, ix3] using hx 2
    obtain ⟨a, p', c, rfl⟩ : ∃ (a : Fin 1) (p' c : Fin 128), x = ix3 a p' c := ⟨x 0, x 1, x 2, eq_ix3 x⟩
    obtain rfl : a = 0 := Subsingleton.elim _ _
    obtain rfl : p = p' := Fin.ext h1
    obtain rfl : l = chan k.rev c := Fin.ext h2
    have hg : grp (chan k.rev c) = k.rev := Fin.ext (by simp only [grp, chan]; omega)
    have cols : ∀ {e : EltTy} (X : Vec Ideal S1x128x2048 e) (p c : Fin 128),
        View.ld X (colRect k.rev) (ix3 0 p c : S1x128x128.Idx) = X (ix3 0 p (chan k.rev c)) := fun X p c =>
      congrArg X (by funext a; fin_cases a <;> apply Fin.ext <;> simp [LoadRect.idx, ix3, chan, colOff])
    have mats : ∀ (X : Vec Ideal S16x128x128 .bf16) (p c : Fin 128),
        View.ld X (matRect k.rev) (ix3 0 p c : S1x128x128.Idx) = X (ix3 k.rev p c) := fun X p c =>
      congrArg X (by funext a; fin_cases a <;> apply Fin.ext <;> simp [LoadRect.idx, ix3, Cert.KernelIdeal.Spatial.matOff])
    have biases : ∀ (X : Vec Ideal S16x128x1 .f32) (p : Fin 128),
        View.ld X (biasRect k.rev) (ix3 0 p 0 : S1x128x1.Idx) = X (ix3 k.rev p 0) := fun X p =>
      congrArg X (by funext a; fin_cases a <;> apply Fin.ext <;> simp [LoadRect.idx, ix3, Cert.KernelIdeal.Spatial.biasOff])
    rw [hg]
    exact (tile_at _ _ _ _ p c).trans (congrArg₂ (· * ·) (cols x0 p c) (congrArg₂ (· + ·)
      (Finset.sum_congr rfl fun q _ => congrArg₂ (· * ·) (mats x2 p q) (cols x1 q c)) (biases x3 p)))

variable (m : (ℓ : Loc nD τ sig) → Buf (Elt Ideal) ℓ) (c : Dev nD)

abbrev uA : FVec Ideal S1x2048x2048 .f32 := m ((c : Thread nD τ).loc main_arg0)
abbrev vA : FVec Ideal S1x2048x2048 .bf16 := m ((c : Thread nD τ).loc main_arg1)
abbrev wA : FVec Ideal S16x128x128 .bf16 := m ((c : Thread nD τ).loc main_arg2)
abbrev bA : FVec Ideal S16x128x1 .f32 := m ((c : Thread nD τ).loc main_arg3)

/-- The point's chunk. -/
abbrev pt (t : Fin cfg0.N) : Fin 16 := ⟨t.val, t.isLt⟩

/-! The blocks that a point reads. -/

theorem block_u (t : Fin cfg0.N) (p : Fin 128) (l : Fin 2048) :
    iblk m c 0 t (ix3 0 p l) = uA m c (ix3 0 (row (pt t) p) l) := by
  have e : ∀ t : Fin cfg0.N, win0_0.index t = ![0, t.val, 0] := (by decide +kernel : ∀ t : Fin grid0.N, _)
  blk_simp [iblk]
  rw [V_main_arg0]
  refine congrArg _ ?_
  blk_ext [e]

theorem block_v (t : Fin cfg0.N) (p : Fin 128) (l : Fin 2048) :
    iblk m c 1 t (ix3 0 p l) = vA m c (ix3 0 (row (pt t) p) l) := by
  have e : ∀ t : Fin cfg0.N, win0_1.index t = ![0, t.val, 0] := (by decide +kernel : ∀ t : Fin grid0.N, _)
  blk_simp [iblk]
  rw [V_main_arg1]
  refine congrArg _ ?_
  blk_ext [e]

theorem block_w (t : Fin cfg0.N) (g : Fin 16) (p q : Fin 128) : iblk m c 2 t (ix3 g p q) = wA m c (ix3 g p q) := by
  have e : ∀ t : Fin cfg0.N, win0_2.index t = ![0, 0, 0] := (by decide +kernel : ∀ t : Fin grid0.N, _)
  blk_simp [iblk]
  rw [V_main_arg2]
  refine congrArg _ ?_
  blk_ext [e]

theorem block_b (t : Fin cfg0.N) (g : Fin 16) (p : Fin 128) : iblk m c 3 t (ix3 g p 0) = bA m c (ix3 g p 0) := by
  have e : ∀ t : Fin cfg0.N, win0_3.index t = ![0, 0, 0] := (by decide +kernel : ∀ t : Fin grid0.N, _)
  blk_simp [iblk]
  rw [V_main_arg3]
  refine congrArg _ ?_
  blk_ext [e]

/-- What a point leaves at a place of its chunk. -/
theorem point (t : Fin cfg0.N) (p : Fin 128) (l : Fin 2048) :
    out0_4 (F := Ideal) (iblk m c 0 t) (iblk m c 1 t) (iblk m c 2 t) (iblk m c 3 t) (ix3 0 p l)
      = duOf (vA m c) (wA m c) (bA m c) (uA m c) (row (pt t) p) l := by
  unfold duOf
  rw [chunk_row, place_row, stored]
  simp only [block_u, block_v, block_w, block_b]

/-- What the kernel leaves in its result. -/
theorem gated_array : (dats m 0 c).arrAt 4 cfg0.N
    = fun y : S1x2048x2048.Idx => duOf (vA m c) (wA m c) (bA m c) (uA m c) (y 1) (y 2) := by
  refine (dats m 0 c).arrAt_eq_of_covers 4 _ (by decide +kernel) fun t _ y => ?_
  have e : ∀ t : Fin cfg0.N, win0_4.index t = ![0, t.val, 0] := (by decide +kernel : ∀ t : Fin grid0.N, _)
  rw [eq_row y]
  blk_simp
  rw [after0_4]
  refine (point m c t (y 1) (y 2)).trans (congrArg₂ _ (Fin.ext ?_) (Fin.ext ?_))
  · blk_simp [e]
    show 128 * t.val + (y 1).val = t.val * 128 + (y 1).val
    omega
  · blk_simp [e]

end Cert.SpatialFwdIdeal

namespace Cert.SpatialFwdRefIdeal

/-- What the reference leaves. -/
theorem gated (u : FVec Ideal S1x2048x2048 .f32) (v : FVec Ideal S1x2048x2048 .bf16) (w : FVec Ideal S16x128x128 .bf16) (b : FVec Ideal S16x128x1 .f32) :
    Read.val_main_v12 (F := Ideal) u v w b = fun y => duOf v w b u (y 1) (y 2) := by
  funext y
  obtain ⟨a, r, l, rfl⟩ : ∃ (a : Fin 1) (r l : Fin 2048), y = ix3 a r l := ⟨y 0, y 1, y 2, eq_ix3 y⟩
  obtain rfl : a = 0 := Subsingleton.elim _ _
  show _ = duOf v w b u r l
  unfold duOf
  pointwise [Read.val_main_v12, Read.val_main_v11, Read.val_main_v10, Read.val_main_v9, Read.val_main_v8, Read.val_main_v7,
    Read.val_main_v6, Read.val_main_v5, Read.val_main_v4, Read.val_main_v3, Read.val_main_v2, Read.val_main_v1, Read.val_main_v0]
  simp only [row, grp, chunk, place, Nat.mul_comm 128]
  congr 2
  exact Finset.sum_congr rfl fun q _ => mul_comm _ _

/-- The reference ends without fault, its arguments unchanged. -/
theorem frame_reference : Cert.quiescent_SpatialFwdRefIdeal := fun m ρ _ =>
  (θ_run Cert.SpatialFwdRefIdeal.defs _ _).mono
    (fun r h => ⟨fun c => (h c).2, sem_eq_zero_of_no_sems (by decide) r.2⟩) (Cert.SpatialFwdRefIdeal.Value.run (F := Ideal) m ρ)

end Cert.SpatialFwdRefIdeal

namespace Cert.SpatialFwdIdeal

/-- Kernel and reference end with equal results over the extended reals. -/
theorem algebraic : Cert.algebraic_SpatialFwdIdeal_SpatialFwdRefIdeal := by
  intro m ρ m' ρ' _ hag
  refine ⟨_, Value.run_blocks m ρ, ?_⟩
  refine (θ_run Cert.SpatialFwdRefIdeal.defs _ _).mono (fun r h c => ?_) (Cert.SpatialFwdRefIdeal.Value.run (F := Ideal) m' ρ')
  obtain ⟨h0, hargs⟩ := h c
  obtain ⟨a0, a1, a2, a3⟩ := hag c
  refine ⟨(h0.trans (SpatialFwdRefIdeal.Read.val_main_v12_eq _ _ _ _)).trans ?_, hargs⟩
  rw [a0, a1, a2, a3]
  exact (SpatialFwdRefIdeal.gated (uA m c) (vA m c) (wA m c) (bA m c)).trans (gated_array m c).symm

end Cert.SpatialFwdIdeal

end

end
-- ==== Proof.Loss.lean ====
module

public import proofs.«01_k».proof.Defs
public import proofs.«01_k».proof.Proof.RowSums
public import proofs.«01_k».proof.Proof.Gen.LossIdeal.Value
public import proofs.«01_k».proof.Proof.Gen.LossRefIdeal.Run
public import proofs.«01_k».proof.Proof.Gen.LossRefIdeal.Read
public import Idealize.ShloMosaic.Lib.Pipeline.ReadBack
public import Idealize.ShloMosaic.Lib.Pipeline.ValueKit
public import Idealize.ShloMosaic.Lib.Pointwise
public import Idealize.ShloMosaic.Lib.Claim

/-! # The loss and its gradient -/

set_option maxRecDepth 16384

noncomputable section

open Idealize.ShloMosaic Idealize.ShloMosaic.TcCoe Idealize.SL.Sem
open Idealize.ShloMosaic.Pipeline (Dat)
open Cert.RowSums

@[expose] public section

namespace Cert.LossIdeal

open Cert.LossIdeal.Gen

/-- The squared error of an entry. -/
def err (h t : FVec Ideal S1x2048x1024 .f32) (r : Fin 2048) (q : Fin 1024) : EReal :=
  (h (ix3 0 r q) - t (ix3 0 r q)) * (h (ix3 0 r q) - t (ix3 0 r q))

/-- Half the sum over the rows of the mean squared error of a row. -/
def loss (h t : FVec Ideal S1x2048x1024 .f32) : EReal := (∑ r : Fin 2048, ∑ q : Fin 1024, err h t r q) * ((1 / 2048 : ℝ) : EReal)

/-- The gradient of the rows. -/
def rows (h t : FVec Ideal S1x2048x1024 .f32) (y : S1x2048x1024.Idx) : EReal := (h y - t y) * ((1 / 1024 : ℝ) : EReal)

theorem err_nonneg (h t : FVec Ideal S1x2048x1024 .f32) (r : Fin 2048) : 0 ≤ ∑ q : Fin 1024, err h t r q :=
  Finset.sum_nonneg fun _ _ => square_nonneg _

variable (m : (ℓ : Loc nD τ sig) → Buf (Elt Ideal) ℓ) (c : Dev nD)

abbrev hA : FVec Ideal S1x2048x1024 .f32 := m ((c : Thread nD τ).loc main_arg0)
abbrev tA : FVec Ideal S1x2048x1024 .f32 := m ((c : Thread nD τ).loc main_arg1)

/-- A point's tile of rows. -/
theorem block_h (t : Fin cfg0.N) (p : Fin 256) (q : Fin 1024) :
    iblk m c 0 t (ix3 0 p q) = hA m c (ix3 0 ⟨t.val * 256 + p.val, by have h : t.val < 8 := t.isLt; omega⟩ q) := by
  have e : ∀ t : Fin cfg0.N, win0_0.index t = ![0, t.val, 0] := (by decide +kernel : ∀ t : Fin grid0.N, _)
  blk_simp [iblk]
  rw [V_main_arg0]
  refine congrArg _ ?_
  blk_ext [e]

theorem block_t (t : Fin cfg0.N) (p : Fin 256) (q : Fin 1024) :
    iblk m c 1 t (ix3 0 p q) = tA m c (ix3 0 ⟨t.val * 256 + p.val, by have h : t.val < 8 := t.isLt; omega⟩ q) := by
  have e : ∀ t : Fin cfg0.N, win0_1.index t = ![0, t.val, 0] := (by decide +kernel : ∀ t : Fin grid0.N, _)
  blk_simp [iblk]
  rw [V_main_arg1]
  refine congrArg _ ?_
  blk_ext [e]

/-- What a point adds to the loss. -/
def part (t : Fin cfg0.N) (_ : S8x128.Idx) : EReal :=
  (∑ p : Fin 256, ∑ q : Fin 1024, err (hA m c) (tA m c) ⟨t.val * 256 + p.val, by have h : t.val < 8 := t.isLt; omega⟩ q)
    * ((1 / 2048 : ℝ) : EReal)

theorem first (t : Fin cfg0.N) (h : t.val % 8 = 0) (i : S8x128.Idx) : (outsAt0 m c t.val t.isLt).2 i = 0 + part m c t i := by
  rw [outsAt0_A m c t h]
  dsimp only
  frame_out
  pointwise [k0_pay4, k0_pay3, k0_pay1]
  simp only [block_h, block_t, ofBits_2048th, zero_add]
  rfl

theorem next (t : Fin cfg0.N) (h : ¬t.val % 8 = 0) (i : S8x128.Idx) :
    (outsAt0 m c t.val t.isLt).2 i = (outsAt0 m c (t.val - 1) (Nat.lt_of_le_of_lt (Nat.sub_le _ _) t.isLt)).2 i + part m c t i := by
  rw [outsAt0_B m c t h]
  dsimp only
  frame_out
  pointwise [k0_pay4, k0_pay1]
  simp only [block_h, block_t, ofBits_2048th]
  rfl

/-- The last point. -/
abbrev lastPt : Fin cfg0.N := (⟨7, by decide⟩ : Fin grid0.N)

/-- The loss that the kernel leaves, at every place of its array. -/
theorem loss_array : (dats m 0 c).arrAt 3 cfg0.N = fun _ : S8x128.Idx => loss (hA m c) (tA m c) := by
  refine (dats m 0 c).arrAt_eq_of_after_last 3 lastPt (by decide +kernel) _ fun j => ?_
  rw [after0_3]
  refine (Pipeline.eq_sum_fin_of_reset_step_apply_last (fun n h => (outsAt0 m c n h).2) 8 (fun _ => 0) (part m c)
    (first m c) (next m c) (le_of_eq N_0) lastPt rfl j).trans ?_
  unfold part loss
  rw [zero_add, ← Fin.sum_mul_add_fin 8 256 (fun r => ∑ q : Fin 1024, err (hA m c) (tA m c) r q) rfl, sum_mul]
  · rfl
  · exact fun t => Finset.sum_nonneg fun p _ => err_nonneg _ _ _

/-- The rows' gradient that the kernel leaves. -/
theorem rows_array : (dats m 0 c).arrAt 2 cfg0.N = rows (hA m c) (tA m c) := by
  refine (dats m 0 c).arrAt_eq_of_covers 2 _ (by decide +kernel) fun t _ y => ?_
  have e2 : ∀ t : Fin cfg0.N, win0_2.index t = ![0, t.val, 0] := (by decide +kernel : ∀ t : Fin grid0.N, _)
  have hy : y = ix3 (0 : Fin 1) (y 1) (y 2) := funext fun a => match a with
    | ⟨0, _⟩ => Subsingleton.elim (α := Fin 1) _ _
    | ⟨1, _⟩ => rfl
    | ⟨2, _⟩ => rfl
  have h8 : t.val < 8 := t.isLt
  rw [hy]
  blk_simp
  rw [after0_2]
  have key : ∀ (p : Fin 256) (q : Fin 1024), (outsAt0 m c t.val t.isLt).1 (ix3 0 p q)
      = rows (hA m c) (tA m c) (ix3 0 ⟨t.val * 256 + p.val, by omega⟩ q) := fun p q => by
    by_cases h : t.val % 8 = 0
    · rw [outsAt0_A m c t h]
      dsimp only
      frame_out
      pointwise [k0_pay2, k0_pay1]
      rw [block_h, block_t, ofBits_1024th]
      rfl
    · rw [outsAt0_B m c t h]
      dsimp only
      frame_out
      pointwise [k0_pay2, k0_pay1]
      rw [block_h, block_t, ofBits_1024th]
      rfl
  refine (key (y 1) (y 2)).trans (congrArg _ ?_)
  blk_ext [e2]

/-- The reference's loss. -/
theorem ref_loss (x0 x1 : FVec Ideal S1x2048x1024 .f32) :
    Cert.LossRefIdeal.Read.val_main_v15 (F := Ideal) x0 x1 = fun _ => loss x0 x1 := by
  funext i
  pointwise [LossRefIdeal.Read.val_main_v15, LossRefIdeal.Read.val_main_v8, LossRefIdeal.Read.val_main_v7, LossRefIdeal.Read.val_main_v6,
    LossRefIdeal.Read.val_main_v5, LossRefIdeal.Read.val_main_v4, LossRefIdeal.Read.val_main_v1, LossRefIdeal.Read.val_main_v0,
    LossRefIdeal.Read.val_main_cst_0, LossRefIdeal.Read.val_main_cst_1, LossRefIdeal.Read.val_main_cst_2, LossRefIdeal.Read.val_main_cst_3]
  simp only [Finset.univ_unique, Finset.sum_singleton, ofBits_1024, Ideal.div_coe (show (1024 : ℝ) ≠ 0 by norm_num), ofBits_half, zero_add]
  unfold loss
  refine (congrArg (((1 / 2 : ℝ) : EReal) * ·) (sum_mul Finset.univ _ (fun r => err_nonneg x0 x1 r) _).symm).trans ?_
  rw [mul_comm, mul_assoc, ← EReal.coe_mul]
  norm_num

/-- The reference's gradient. -/
theorem ref_rows (x0 x1 : FVec Ideal S1x2048x1024 .f32) :
    Cert.LossRefIdeal.Read.val_main_v14 (F := Ideal) x0 x1 = rows x0 x1 := by
  funext i
  pointwise [LossRefIdeal.Read.val_main_v14, LossRefIdeal.Read.val_main_v13, LossRefIdeal.Read.val_main_v12, LossRefIdeal.Read.val_main_v11,
    LossRefIdeal.Read.val_main_v10, LossRefIdeal.Read.val_main_v9, LossRefIdeal.Read.val_main_v3, LossRefIdeal.Read.val_main_v2,
    LossRefIdeal.Read.val_main_v0, LossRefIdeal.Read.val_main_cst, LossRefIdeal.Read.val_main_cst_4, LossRefIdeal.Read.val_main_cst_5,
    LossRefIdeal.Read.val_main_cst_6]
  unfold rows
  rw [ofBits_half, ofBits_1024, ofBits_two, Ideal.div_coe (by norm_num), ← mul_assoc, ← EReal.coe_mul, ← EReal.coe_mul, mul_comm]
  norm_num

/-- The reference ends without fault, its arguments unchanged. -/
theorem frame_reference : Cert.quiescent_LossRefIdeal := fun m ρ _ =>
  (θ_run Cert.LossRefIdeal.defs _ _).mono
    (fun r h => ⟨fun c => (h c).2.2, sem_eq_zero_of_no_sems (by decide) r.2⟩) (Cert.LossRefIdeal.Value.run (F := Ideal) m ρ)

/-- Kernel and reference end with equal results over the extended reals. -/
theorem algebraic : Cert.algebraic_LossIdeal_LossRefIdeal := by
  intro m ρ m' ρ' _ hag
  refine ⟨_, _, Value.run_blocks m ρ, ?_⟩
  refine (θ_run Cert.LossRefIdeal.defs _ _).mono (fun r h c => ?_) (Cert.LossRefIdeal.Value.run (F := Ideal) m' ρ')
  obtain ⟨h0, h1, hargs⟩ := h c
  obtain ⟨a0, a1⟩ := hag c
  refine ⟨h0.trans ?_, h1.trans ?_, hargs⟩
  · rw [a0, a1]
    exact (ref_rows _ _).trans (rows_array m c).symm
  · rw [a0, a1]
    exact (ref_loss _ _).trans (loss_array m c).symm

end Cert.LossIdeal

end

end
-- ==== Proof.lean ====
/- The certificate's claims about calls of the training step (NOTES.md says which), put together. -/
module

public import proofs.«01_k».proof.Defs
public import proofs.«01_k».proof.Proof.Spatial
public import proofs.«01_k».proof.Proof.ConvIn0
public import proofs.«01_k».proof.Proof.ConvIn3
public import proofs.«01_k».proof.Proof.ConvOut0
public import proofs.«01_k».proof.Proof.ConvOut3
public import proofs.«01_k».proof.Proof.Qkv
public import proofs.«01_k».proof.Proof.GateIn
public import proofs.«01_k».proof.Proof.GateOut
public import proofs.«01_k».proof.Proof.FfnUp0
public import proofs.«01_k».proof.Proof.FfnUp
public import proofs.«01_k».proof.Proof.AdamwSmall
public import proofs.«01_k».proof.Proof.AdamwRepl
public import proofs.«01_k».proof.Proof.AdamwAdaW
public import proofs.«01_k».proof.Proof.AdamwAdaB
public import proofs.«01_k».proof.Proof.AdamwFfnUp
public import proofs.«01_k».proof.Proof.AdamwFfnDown
public import proofs.«01_k».proof.Proof.AdamwConvIn
public import proofs.«01_k».proof.Proof.AdamwConvOut
public import proofs.«01_k».proof.Proof.AdamwQkv
public import proofs.«01_k».proof.Proof.AdamwAttnOut
public import proofs.«01_k».proof.Proof.AdamwGateIn
public import proofs.«01_k».proof.Proof.AdamwGateOut
public import proofs.«01_k».proof.Proof.NormB
public import proofs.«01_k».proof.Proof.ResB
public import proofs.«01_k».proof.Proof.ResBiasB
public import proofs.«01_k».proof.Proof.GluB
public import proofs.«01_k».proof.Proof.LnB
public import proofs.«01_k».proof.Proof.SpatialFwd
public import proofs.«01_k».proof.Proof.Loss
public import proofs.«01_k».proof.Proof.Gen.Kernel
public import proofs.«01_k».proof.Proof.Gen.KernelIdeal
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.ConvIn0
public import proofs.«01_k».proof.Proof.Gen.ConvIn0.Frame
public import proofs.«01_k».proof.Proof.Gen.ConvIn0Ideal
public import proofs.«01_k».proof.Proof.Gen.ConvIn0Ideal.Value
public import proofs.«01_k».proof.Proof.Gen.ConvIn0RefIdeal
public import proofs.«01_k».proof.Proof.Gen.ConvIn0RefIdeal.Run
public import proofs.«01_k».proof.Proof.Gen.ConvIn0RefIdeal.Read
public import proofs.«01_k».proof.Proof.Gen.ConvIn0Bx
public import proofs.«01_k».proof.Proof.Gen.ConvIn0Bx.Frame
public import proofs.«01_k».proof.Proof.Gen.ConvIn0BxIdeal
public import proofs.«01_k».proof.Proof.Gen.ConvIn0BxIdeal.Value
public import proofs.«01_k».proof.Proof.Gen.ConvIn0BxRefIdeal
public import proofs.«01_k».proof.Proof.Gen.ConvIn0BxRefIdeal.Run
public import proofs.«01_k».proof.Proof.Gen.ConvIn0BxRefIdeal.Read
public import proofs.«01_k».proof.Proof.Gen.ConvIn0Bw
public import proofs.«01_k».proof.Proof.Gen.ConvIn0Bw.Frame
public import proofs.«01_k».proof.Proof.Gen.ConvIn0BwIdeal
public import proofs.«01_k».proof.Proof.Gen.ConvIn0BwIdeal.Value
public import proofs.«01_k».proof.Proof.Gen.ConvIn0BwRefIdeal
public import proofs.«01_k».proof.Proof.Gen.ConvIn0BwRefIdeal.Run
public import proofs.«01_k».proof.Proof.Gen.ConvIn0BwRefIdeal.Read
public import proofs.«01_k».proof.Proof.Gen.ConvIn3
public import proofs.«01_k».proof.Proof.Gen.ConvIn3.Frame
public import proofs.«01_k».proof.Proof.Gen.ConvIn3Ideal
public import proofs.«01_k».proof.Proof.Gen.ConvIn3Ideal.Value
public import proofs.«01_k».proof.Proof.Gen.ConvIn3RefIdeal
public import proofs.«01_k».proof.Proof.Gen.ConvIn3RefIdeal.Run
public import proofs.«01_k».proof.Proof.Gen.ConvIn3RefIdeal.Read
public import proofs.«01_k».proof.Proof.Gen.ConvIn3Bx
public import proofs.«01_k».proof.Proof.Gen.ConvIn3Bx.Frame
public import proofs.«01_k».proof.Proof.Gen.ConvIn3BxIdeal
public import proofs.«01_k».proof.Proof.Gen.ConvIn3BxIdeal.Value
public import proofs.«01_k».proof.Proof.Gen.ConvIn3BxRefIdeal
public import proofs.«01_k».proof.Proof.Gen.ConvIn3BxRefIdeal.Run
public import proofs.«01_k».proof.Proof.Gen.ConvIn3BxRefIdeal.Read
public import proofs.«01_k».proof.Proof.Gen.ConvIn3Bw
public import proofs.«01_k».proof.Proof.Gen.ConvIn3Bw.Frame
public import proofs.«01_k».proof.Proof.Gen.ConvIn3BwIdeal
public import proofs.«01_k».proof.Proof.Gen.ConvIn3BwIdeal.Value
public import proofs.«01_k».proof.Proof.Gen.ConvIn3BwRefIdeal
public import proofs.«01_k».proof.Proof.Gen.ConvIn3BwRefIdeal.Run
public import proofs.«01_k».proof.Proof.Gen.ConvIn3BwRefIdeal.Read
public import proofs.«01_k».proof.Proof.Gen.ConvOut0
public import proofs.«01_k».proof.Proof.Gen.ConvOut0.Frame
public import proofs.«01_k».proof.Proof.Gen.ConvOut0Ideal
public import proofs.«01_k».proof.Proof.Gen.ConvOut0Ideal.Value
public import proofs.«01_k».proof.Proof.Gen.ConvOut0RefIdeal
public import proofs.«01_k».proof.Proof.Gen.ConvOut0RefIdeal.Run
public import proofs.«01_k».proof.Proof.Gen.ConvOut0RefIdeal.Read
public import proofs.«01_k».proof.Proof.Gen.ConvOut0Bx
public import proofs.«01_k».proof.Proof.Gen.ConvOut0Bx.Frame
public import proofs.«01_k».proof.Proof.Gen.ConvOut0BxIdeal
public import proofs.«01_k».proof.Proof.Gen.ConvOut0BxIdeal.Value
public import proofs.«01_k».proof.Proof.Gen.ConvOut0BxRefIdeal
public import proofs.«01_k».proof.Proof.Gen.ConvOut0BxRefIdeal.Run
public import proofs.«01_k».proof.Proof.Gen.ConvOut0BxRefIdeal.Read
public import proofs.«01_k».proof.Proof.Gen.ConvOut0Bw
public import proofs.«01_k».proof.Proof.Gen.ConvOut0Bw.Frame
public import proofs.«01_k».proof.Proof.Gen.ConvOut0BwIdeal
public import proofs.«01_k».proof.Proof.Gen.ConvOut0BwIdeal.Value
public import proofs.«01_k».proof.Proof.Gen.ConvOut0BwRefIdeal
public import proofs.«01_k».proof.Proof.Gen.ConvOut0BwRefIdeal.Run
public import proofs.«01_k».proof.Proof.Gen.ConvOut0BwRefIdeal.Read
public import proofs.«01_k».proof.Proof.Gen.ConvOut3
public import proofs.«01_k».proof.Proof.Gen.ConvOut3.Frame
public import proofs.«01_k».proof.Proof.Gen.ConvOut3Ideal
public import proofs.«01_k».proof.Proof.Gen.ConvOut3Ideal.Value
public import proofs.«01_k».proof.Proof.Gen.ConvOut3RefIdeal
public import proofs.«01_k».proof.Proof.Gen.ConvOut3RefIdeal.Run
public import proofs.«01_k».proof.Proof.Gen.ConvOut3RefIdeal.Read
public import proofs.«01_k».proof.Proof.Gen.ConvOut3Bx
public import proofs.«01_k».proof.Proof.Gen.ConvOut3Bx.Frame
public import proofs.«01_k».proof.Proof.Gen.ConvOut3BxIdeal
public import proofs.«01_k».proof.Proof.Gen.ConvOut3BxIdeal.Value
public import proofs.«01_k».proof.Proof.Gen.ConvOut3BxRefIdeal
public import proofs.«01_k».proof.Proof.Gen.ConvOut3BxRefIdeal.Run
public import proofs.«01_k».proof.Proof.Gen.ConvOut3BxRefIdeal.Read
public import proofs.«01_k».proof.Proof.Gen.ConvOut3Bw
public import proofs.«01_k».proof.Proof.Gen.ConvOut3Bw.Frame
public import proofs.«01_k».proof.Proof.Gen.ConvOut3BwIdeal
public import proofs.«01_k».proof.Proof.Gen.ConvOut3BwIdeal.Value
public import proofs.«01_k».proof.Proof.Gen.ConvOut3BwRefIdeal
public import proofs.«01_k».proof.Proof.Gen.ConvOut3BwRefIdeal.Run
public import proofs.«01_k».proof.Proof.Gen.ConvOut3BwRefIdeal.Read
public import proofs.«01_k».proof.Proof.Gen.Qkv
public import proofs.«01_k».proof.Proof.Gen.Qkv.Frame
public import proofs.«01_k».proof.Proof.Gen.QkvIdeal
public import proofs.«01_k».proof.Proof.Gen.QkvIdeal.Value
public import proofs.«01_k».proof.Proof.Gen.QkvRefIdeal
public import proofs.«01_k».proof.Proof.Gen.QkvRefIdeal.Run
public import proofs.«01_k».proof.Proof.Gen.QkvRefIdeal.Read
public import proofs.«01_k».proof.Proof.Gen.QkvBx
public import proofs.«01_k».proof.Proof.Gen.QkvBx.Frame
public import proofs.«01_k».proof.Proof.Gen.QkvBxIdeal
public import proofs.«01_k».proof.Proof.Gen.QkvBxIdeal.Value
public import proofs.«01_k».proof.Proof.Gen.QkvBxRefIdeal
public import proofs.«01_k».proof.Proof.Gen.QkvBxRefIdeal.Run
public import proofs.«01_k».proof.Proof.Gen.QkvBxRefIdeal.Read
public import proofs.«01_k».proof.Proof.Gen.QkvBw
public import proofs.«01_k».proof.Proof.Gen.QkvBw.Frame
public import proofs.«01_k».proof.Proof.Gen.QkvBwIdeal
public import proofs.«01_k».proof.Proof.Gen.QkvBwIdeal.Value
public import proofs.«01_k».proof.Proof.Gen.QkvBwRefIdeal
public import proofs.«01_k».proof.Proof.Gen.QkvBwRefIdeal.Run
public import proofs.«01_k».proof.Proof.Gen.QkvBwRefIdeal.Read
public import proofs.«01_k».proof.Proof.Gen.GateIn
public import proofs.«01_k».proof.Proof.Gen.GateIn.Frame
public import proofs.«01_k».proof.Proof.Gen.GateInIdeal
public import proofs.«01_k».proof.Proof.Gen.GateInIdeal.Value
public import proofs.«01_k».proof.Proof.Gen.GateInRefIdeal
public import proofs.«01_k».proof.Proof.Gen.GateInRefIdeal.Run
public import proofs.«01_k».proof.Proof.Gen.GateInRefIdeal.Read
public import proofs.«01_k».proof.Proof.Gen.GateInBx
public import proofs.«01_k».proof.Proof.Gen.GateInBx.Frame
public import proofs.«01_k».proof.Proof.Gen.GateInBxIdeal
public import proofs.«01_k».proof.Proof.Gen.GateInBxIdeal.Value
public import proofs.«01_k».proof.Proof.Gen.GateInBxRefIdeal
public import proofs.«01_k».proof.Proof.Gen.GateInBxRefIdeal.Run
public import proofs.«01_k».proof.Proof.Gen.GateInBxRefIdeal.Read
public import proofs.«01_k».proof.Proof.Gen.GateInBw
public import proofs.«01_k».proof.Proof.Gen.GateInBw.Frame
public import proofs.«01_k».proof.Proof.Gen.GateInBwIdeal
public import proofs.«01_k».proof.Proof.Gen.GateInBwIdeal.Value
public import proofs.«01_k».proof.Proof.Gen.GateInBwRefIdeal
public import proofs.«01_k».proof.Proof.Gen.GateInBwRefIdeal.Run
public import proofs.«01_k».proof.Proof.Gen.GateInBwRefIdeal.Read
public import proofs.«01_k».proof.Proof.Gen.GateOut
public import proofs.«01_k».proof.Proof.Gen.GateOut.Frame
public import proofs.«01_k».proof.Proof.Gen.GateOutIdeal
public import proofs.«01_k».proof.Proof.Gen.GateOutIdeal.Value
public import proofs.«01_k».proof.Proof.Gen.GateOutRefIdeal
public import proofs.«01_k».proof.Proof.Gen.GateOutRefIdeal.Run
public import proofs.«01_k».proof.Proof.Gen.GateOutRefIdeal.Read
public import proofs.«01_k».proof.Proof.Gen.GateOutBx
public import proofs.«01_k».proof.Proof.Gen.GateOutBx.Frame
public import proofs.«01_k».proof.Proof.Gen.GateOutBxIdeal
public import proofs.«01_k».proof.Proof.Gen.GateOutBxIdeal.Value
public import proofs.«01_k».proof.Proof.Gen.GateOutBxRefIdeal
public import proofs.«01_k».proof.Proof.Gen.GateOutBxRefIdeal.Run
public import proofs.«01_k».proof.Proof.Gen.GateOutBxRefIdeal.Read
public import proofs.«01_k».proof.Proof.Gen.GateOutBw
public import proofs.«01_k».proof.Proof.Gen.GateOutBw.Frame
public import proofs.«01_k».proof.Proof.Gen.GateOutBwIdeal
public import proofs.«01_k».proof.Proof.Gen.GateOutBwIdeal.Value
public import proofs.«01_k».proof.Proof.Gen.GateOutBwRefIdeal
public import proofs.«01_k».proof.Proof.Gen.GateOutBwRefIdeal.Run
public import proofs.«01_k».proof.Proof.Gen.GateOutBwRefIdeal.Read
public import proofs.«01_k».proof.Proof.Gen.FfnUp0Bx
public import proofs.«01_k».proof.Proof.Gen.FfnUp0Bx.Frame
public import proofs.«01_k».proof.Proof.Gen.FfnUp0BxIdeal
public import proofs.«01_k».proof.Proof.Gen.FfnUp0BxIdeal.Value
public import proofs.«01_k».proof.Proof.Gen.FfnUp0BxRefIdeal
public import proofs.«01_k».proof.Proof.Gen.FfnUp0BxRefIdeal.Run
public import proofs.«01_k».proof.Proof.Gen.FfnUp0BxRefIdeal.Read
public import proofs.«01_k».proof.Proof.Gen.FfnUp0Bw
public import proofs.«01_k».proof.Proof.Gen.FfnUp0Bw.Frame
public import proofs.«01_k».proof.Proof.Gen.FfnUp0BwIdeal
public import proofs.«01_k».proof.Proof.Gen.FfnUp0BwIdeal.Value
public import proofs.«01_k».proof.Proof.Gen.FfnUp0BwRefIdeal
public import proofs.«01_k».proof.Proof.Gen.FfnUp0BwRefIdeal.Run
public import proofs.«01_k».proof.Proof.Gen.FfnUp0BwRefIdeal.Read
public import proofs.«01_k».proof.Proof.Gen.FfnUpBx
public import proofs.«01_k».proof.Proof.Gen.FfnUpBx.Frame
public import proofs.«01_k».proof.Proof.Gen.FfnUpBxIdeal
public import proofs.«01_k».proof.Proof.Gen.FfnUpBxIdeal.Value
public import proofs.«01_k».proof.Proof.Gen.FfnUpBxRefIdeal
public import proofs.«01_k».proof.Proof.Gen.FfnUpBxRefIdeal.Run
public import proofs.«01_k».proof.Proof.Gen.FfnUpBxRefIdeal.Read
public import proofs.«01_k».proof.Proof.Gen.FfnUpBw
public import proofs.«01_k».proof.Proof.Gen.FfnUpBw.Frame
public import proofs.«01_k».proof.Proof.Gen.FfnUpBwIdeal
public import proofs.«01_k».proof.Proof.Gen.FfnUpBwIdeal.Value
public import proofs.«01_k».proof.Proof.Gen.FfnUpBwRefIdeal
public import proofs.«01_k».proof.Proof.Gen.FfnUpBwRefIdeal.Run
public import proofs.«01_k».proof.Proof.Gen.FfnUpBwRefIdeal.Read
public import proofs.«01_k».proof.Proof.Gen.AdamwSmall
public import proofs.«01_k».proof.Proof.Gen.AdamwSmall.Frame
public import proofs.«01_k».proof.Proof.Gen.AdamwSmallIdeal
public import proofs.«01_k».proof.Proof.Gen.AdamwSmallIdeal.Value
public import proofs.«01_k».proof.Proof.Gen.AdamwSmallRefIdeal
public import proofs.«01_k».proof.Proof.Gen.AdamwSmallRefIdeal.Run
public import proofs.«01_k».proof.Proof.Gen.AdamwSmallRefIdeal.Read
public import proofs.«01_k».proof.Proof.Gen.AdamwRepl
public import proofs.«01_k».proof.Proof.Gen.AdamwRepl.Frame
public import proofs.«01_k».proof.Proof.Gen.AdamwReplIdeal
public import proofs.«01_k».proof.Proof.Gen.AdamwReplIdeal.Value
public import proofs.«01_k».proof.Proof.Gen.AdamwReplRefIdeal
public import proofs.«01_k».proof.Proof.Gen.AdamwReplRefIdeal.Run
public import proofs.«01_k».proof.Proof.Gen.AdamwReplRefIdeal.Read
public import proofs.«01_k».proof.Proof.Gen.AdamwAdaW
public import proofs.«01_k».proof.Proof.Gen.AdamwAdaW.Frame
public import proofs.«01_k».proof.Proof.Gen.AdamwAdaWIdeal
public import proofs.«01_k».proof.Proof.Gen.AdamwAdaWIdeal.Value
public import proofs.«01_k».proof.Proof.Gen.AdamwAdaWRefIdeal
public import proofs.«01_k».proof.Proof.Gen.AdamwAdaWRefIdeal.Run
public import proofs.«01_k».proof.Proof.Gen.AdamwAdaWRefIdeal.Read
public import proofs.«01_k».proof.Proof.Gen.AdamwAdaB
public import proofs.«01_k».proof.Proof.Gen.AdamwAdaB.Frame
public import proofs.«01_k».proof.Proof.Gen.AdamwAdaBIdeal
public import proofs.«01_k».proof.Proof.Gen.AdamwAdaBIdeal.Value
public import proofs.«01_k».proof.Proof.Gen.AdamwAdaBRefIdeal
public import proofs.«01_k».proof.Proof.Gen.AdamwAdaBRefIdeal.Run
public import proofs.«01_k».proof.Proof.Gen.AdamwAdaBRefIdeal.Read
public import proofs.«01_k».proof.Proof.Gen.AdamwFfnUp
public import proofs.«01_k».proof.Proof.Gen.AdamwFfnUp.Frame
public import proofs.«01_k».proof.Proof.Gen.AdamwFfnUpIdeal
public import proofs.«01_k».proof.Proof.Gen.AdamwFfnUpIdeal.Value
public import proofs.«01_k».proof.Proof.Gen.AdamwFfnUpRefIdeal
public import proofs.«01_k».proof.Proof.Gen.AdamwFfnUpRefIdeal.Run
public import proofs.«01_k».proof.Proof.Gen.AdamwFfnUpRefIdeal.Read
public import proofs.«01_k».proof.Proof.Gen.AdamwFfnDown
public import proofs.«01_k».proof.Proof.Gen.AdamwFfnDown.Frame
public import proofs.«01_k».proof.Proof.Gen.AdamwFfnDownIdeal
public import proofs.«01_k».proof.Proof.Gen.AdamwFfnDownIdeal.Value
public import proofs.«01_k».proof.Proof.Gen.AdamwFfnDownRefIdeal
public import proofs.«01_k».proof.Proof.Gen.AdamwFfnDownRefIdeal.Run
public import proofs.«01_k».proof.Proof.Gen.AdamwFfnDownRefIdeal.Read
public import proofs.«01_k».proof.Proof.Gen.AdamwConvIn
public import proofs.«01_k».proof.Proof.Gen.AdamwConvIn.Frame
public import proofs.«01_k».proof.Proof.Gen.AdamwConvInIdeal
public import proofs.«01_k».proof.Proof.Gen.AdamwConvInIdeal.Value
public import proofs.«01_k».proof.Proof.Gen.AdamwConvInRefIdeal
public import proofs.«01_k».proof.Proof.Gen.AdamwConvInRefIdeal.Run
public import proofs.«01_k».proof.Proof.Gen.AdamwConvInRefIdeal.Read
public import proofs.«01_k».proof.Proof.Gen.AdamwConvOut
public import proofs.«01_k».proof.Proof.Gen.AdamwConvOut.Frame
public import proofs.«01_k».proof.Proof.Gen.AdamwConvOutIdeal
public import proofs.«01_k».proof.Proof.Gen.AdamwConvOutIdeal.Value
public import proofs.«01_k».proof.Proof.Gen.AdamwConvOutRefIdeal
public import proofs.«01_k».proof.Proof.Gen.AdamwConvOutRefIdeal.Run
public import proofs.«01_k».proof.Proof.Gen.AdamwConvOutRefIdeal.Read
public import proofs.«01_k».proof.Proof.Gen.AdamwQkv
public import proofs.«01_k».proof.Proof.Gen.AdamwQkv.Frame
public import proofs.«01_k».proof.Proof.Gen.AdamwQkvIdeal
public import proofs.«01_k».proof.Proof.Gen.AdamwQkvIdeal.Value
public import proofs.«01_k».proof.Proof.Gen.AdamwQkvRefIdeal
public import proofs.«01_k».proof.Proof.Gen.AdamwQkvRefIdeal.Run
public import proofs.«01_k».proof.Proof.Gen.AdamwQkvRefIdeal.Read
public import proofs.«01_k».proof.Proof.Gen.AdamwAttnOut
public import proofs.«01_k».proof.Proof.Gen.AdamwAttnOut.Frame
public import proofs.«01_k».proof.Proof.Gen.AdamwAttnOutIdeal
public import proofs.«01_k».proof.Proof.Gen.AdamwAttnOutIdeal.Value
public import proofs.«01_k».proof.Proof.Gen.AdamwAttnOutRefIdeal
public import proofs.«01_k».proof.Proof.Gen.AdamwAttnOutRefIdeal.Run
public import proofs.«01_k».proof.Proof.Gen.AdamwAttnOutRefIdeal.Read
public import proofs.«01_k».proof.Proof.Gen.AdamwGateIn
public import proofs.«01_k».proof.Proof.Gen.AdamwGateIn.Frame
public import proofs.«01_k».proof.Proof.Gen.AdamwGateInIdeal
public import proofs.«01_k».proof.Proof.Gen.AdamwGateInIdeal.Value
public import proofs.«01_k».proof.Proof.Gen.AdamwGateInRefIdeal
public import proofs.«01_k».proof.Proof.Gen.AdamwGateInRefIdeal.Run
public import proofs.«01_k».proof.Proof.Gen.AdamwGateInRefIdeal.Read
public import proofs.«01_k».proof.Proof.Gen.AdamwGateOut
public import proofs.«01_k».proof.Proof.Gen.AdamwGateOut.Frame
public import proofs.«01_k».proof.Proof.Gen.AdamwGateOutIdeal
public import proofs.«01_k».proof.Proof.Gen.AdamwGateOutIdeal.Value
public import proofs.«01_k».proof.Proof.Gen.AdamwGateOutRefIdeal
public import proofs.«01_k».proof.Proof.Gen.AdamwGateOutRefIdeal.Run
public import proofs.«01_k».proof.Proof.Gen.AdamwGateOutRefIdeal.Read
public import proofs.«01_k».proof.Proof.Gen.NormB
public import proofs.«01_k».proof.Proof.Gen.NormB.Frame
public import proofs.«01_k».proof.Proof.Gen.NormBIdeal
public import proofs.«01_k».proof.Proof.Gen.NormBIdeal.Value
public import proofs.«01_k».proof.Proof.Gen.NormBRefIdeal
public import proofs.«01_k».proof.Proof.Gen.NormBRefIdeal.Run
public import proofs.«01_k».proof.Proof.Gen.NormBRefIdeal.Read
public import proofs.«01_k».proof.Proof.Gen.ResB
public import proofs.«01_k».proof.Proof.Gen.ResB.Frame
public import proofs.«01_k».proof.Proof.Gen.ResBIdeal
public import proofs.«01_k».proof.Proof.Gen.ResBIdeal.Value
public import proofs.«01_k».proof.Proof.Gen.ResBRefIdeal
public import proofs.«01_k».proof.Proof.Gen.ResBRefIdeal.Run
public import proofs.«01_k».proof.Proof.Gen.ResBRefIdeal.Read
public import proofs.«01_k».proof.Proof.Gen.ResBiasB
public import proofs.«01_k».proof.Proof.Gen.ResBiasB.Frame
public import proofs.«01_k».proof.Proof.Gen.ResBiasBIdeal
public import proofs.«01_k».proof.Proof.Gen.ResBiasBIdeal.Value
public import proofs.«01_k».proof.Proof.Gen.ResBiasBRefIdeal
public import proofs.«01_k».proof.Proof.Gen.ResBiasBRefIdeal.Run
public import proofs.«01_k».proof.Proof.Gen.ResBiasBRefIdeal.Read
public import proofs.«01_k».proof.Proof.Gen.GluB
public import proofs.«01_k».proof.Proof.Gen.GluB.Frame
public import proofs.«01_k».proof.Proof.Gen.GluBIdeal
public import proofs.«01_k».proof.Proof.Gen.GluBIdeal.Value
public import proofs.«01_k».proof.Proof.Gen.GluBRefIdeal
public import proofs.«01_k».proof.Proof.Gen.GluBRefIdeal.Run
public import proofs.«01_k».proof.Proof.Gen.GluBRefIdeal.Read
public import proofs.«01_k».proof.Proof.Gen.LnB
public import proofs.«01_k».proof.Proof.Gen.LnB.Frame
public import proofs.«01_k».proof.Proof.Gen.LnBIdeal
public import proofs.«01_k».proof.Proof.Gen.LnBIdeal.Value
public import proofs.«01_k».proof.Proof.Gen.LnBRefIdeal
public import proofs.«01_k».proof.Proof.Gen.LnBRefIdeal.Run
public import proofs.«01_k».proof.Proof.Gen.LnBRefIdeal.Read
public import proofs.«01_k».proof.Proof.Gen.SpatialFwd
public import proofs.«01_k».proof.Proof.Gen.SpatialFwd.Frame
public import proofs.«01_k».proof.Proof.Gen.SpatialFwdIdeal
public import proofs.«01_k».proof.Proof.Gen.SpatialFwdIdeal.Value
public import proofs.«01_k».proof.Proof.Gen.SpatialFwdRefIdeal
public import proofs.«01_k».proof.Proof.Gen.SpatialFwdRefIdeal.Run
public import proofs.«01_k».proof.Proof.Gen.SpatialFwdRefIdeal.Read
public import proofs.«01_k».proof.Proof.Gen.Loss
public import proofs.«01_k».proof.Proof.Gen.Loss.Frame
public import proofs.«01_k».proof.Proof.Gen.LossIdeal
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read

@[expose] public section

noncomputable section

namespace Cert.Proof

/-- All the claims. -/
theorem claim : Cert.Claim :=
  ⟨Cert.Kernel.Gen.facts, Cert.KernelIdeal.Gen.facts, Cert.ReferenceIdeal.Gen.facts,
    Cert.ConvIn0.Gen.facts, Cert.ConvIn0Ideal.Gen.facts, Cert.ConvIn0RefIdeal.Gen.facts,
    Cert.ConvIn0Bx.Gen.facts, Cert.ConvIn0BxIdeal.Gen.facts, Cert.ConvIn0BxRefIdeal.Gen.facts,
    Cert.ConvIn0Bw.Gen.facts, Cert.ConvIn0BwIdeal.Gen.facts, Cert.ConvIn0BwRefIdeal.Gen.facts,
    Cert.ConvIn3.Gen.facts, Cert.ConvIn3Ideal.Gen.facts, Cert.ConvIn3RefIdeal.Gen.facts,
    Cert.ConvIn3Bx.Gen.facts, Cert.ConvIn3BxIdeal.Gen.facts, Cert.ConvIn3BxRefIdeal.Gen.facts,
    Cert.ConvIn3Bw.Gen.facts, Cert.ConvIn3BwIdeal.Gen.facts, Cert.ConvIn3BwRefIdeal.Gen.facts,
    Cert.ConvOut0.Gen.facts, Cert.ConvOut0Ideal.Gen.facts, Cert.ConvOut0RefIdeal.Gen.facts,
    Cert.ConvOut0Bx.Gen.facts, Cert.ConvOut0BxIdeal.Gen.facts, Cert.ConvOut0BxRefIdeal.Gen.facts,
    Cert.ConvOut0Bw.Gen.facts, Cert.ConvOut0BwIdeal.Gen.facts, Cert.ConvOut0BwRefIdeal.Gen.facts,
    Cert.ConvOut3.Gen.facts, Cert.ConvOut3Ideal.Gen.facts, Cert.ConvOut3RefIdeal.Gen.facts,
    Cert.ConvOut3Bx.Gen.facts, Cert.ConvOut3BxIdeal.Gen.facts, Cert.ConvOut3BxRefIdeal.Gen.facts,
    Cert.ConvOut3Bw.Gen.facts, Cert.ConvOut3BwIdeal.Gen.facts, Cert.ConvOut3BwRefIdeal.Gen.facts,
    Cert.Qkv.Gen.facts, Cert.QkvIdeal.Gen.facts, Cert.QkvRefIdeal.Gen.facts,
    Cert.QkvBx.Gen.facts, Cert.QkvBxIdeal.Gen.facts, Cert.QkvBxRefIdeal.Gen.facts,
    Cert.QkvBw.Gen.facts, Cert.QkvBwIdeal.Gen.facts, Cert.QkvBwRefIdeal.Gen.facts,
    Cert.GateIn.Gen.facts, Cert.GateInIdeal.Gen.facts, Cert.GateInRefIdeal.Gen.facts,
    Cert.GateInBx.Gen.facts, Cert.GateInBxIdeal.Gen.facts, Cert.GateInBxRefIdeal.Gen.facts,
    Cert.GateInBw.Gen.facts, Cert.GateInBwIdeal.Gen.facts, Cert.GateInBwRefIdeal.Gen.facts,
    Cert.GateOut.Gen.facts, Cert.GateOutIdeal.Gen.facts, Cert.GateOutRefIdeal.Gen.facts,
    Cert.GateOutBx.Gen.facts, Cert.GateOutBxIdeal.Gen.facts, Cert.GateOutBxRefIdeal.Gen.facts,
    Cert.GateOutBw.Gen.facts, Cert.GateOutBwIdeal.Gen.facts, Cert.GateOutBwRefIdeal.Gen.facts,
    Cert.FfnUp0Bx.Gen.facts, Cert.FfnUp0BxIdeal.Gen.facts, Cert.FfnUp0BxRefIdeal.Gen.facts,
    Cert.FfnUp0Bw.Gen.facts, Cert.FfnUp0BwIdeal.Gen.facts, Cert.FfnUp0BwRefIdeal.Gen.facts,
    Cert.FfnUpBx.Gen.facts, Cert.FfnUpBxIdeal.Gen.facts, Cert.FfnUpBxRefIdeal.Gen.facts,
    Cert.FfnUpBw.Gen.facts, Cert.FfnUpBwIdeal.Gen.facts, Cert.FfnUpBwRefIdeal.Gen.facts,
    Cert.AdamwSmall.Gen.facts, Cert.AdamwSmallIdeal.Gen.facts, Cert.AdamwSmallRefIdeal.Gen.facts,
    Cert.AdamwRepl.Gen.facts, Cert.AdamwReplIdeal.Gen.facts, Cert.AdamwReplRefIdeal.Gen.facts,
    Cert.AdamwAdaW.Gen.facts, Cert.AdamwAdaWIdeal.Gen.facts, Cert.AdamwAdaWRefIdeal.Gen.facts,
    Cert.AdamwAdaB.Gen.facts, Cert.AdamwAdaBIdeal.Gen.facts, Cert.AdamwAdaBRefIdeal.Gen.facts,
    Cert.AdamwFfnUp.Gen.facts, Cert.AdamwFfnUpIdeal.Gen.facts, Cert.AdamwFfnUpRefIdeal.Gen.facts,
    Cert.AdamwFfnDown.Gen.facts, Cert.AdamwFfnDownIdeal.Gen.facts, Cert.AdamwFfnDownRefIdeal.Gen.facts,
    Cert.AdamwConvIn.Gen.facts, Cert.AdamwConvInIdeal.Gen.facts, Cert.AdamwConvInRefIdeal.Gen.facts,
    Cert.AdamwConvOut.Gen.facts, Cert.AdamwConvOutIdeal.Gen.facts, Cert.AdamwConvOutRefIdeal.Gen.facts,
    Cert.AdamwQkv.Gen.facts, Cert.AdamwQkvIdeal.Gen.facts, Cert.AdamwQkvRefIdeal.Gen.facts,
    Cert.AdamwAttnOut.Gen.facts, Cert.AdamwAttnOutIdeal.Gen.facts, Cert.AdamwAttnOutRefIdeal.Gen.facts,
    Cert.AdamwGateIn.Gen.facts, Cert.AdamwGateInIdeal.Gen.facts, Cert.AdamwGateInRefIdeal.Gen.facts,
    Cert.AdamwGateOut.Gen.facts, Cert.AdamwGateOutIdeal.Gen.facts, Cert.AdamwGateOutRefIdeal.Gen.facts,
    Cert.NormB.Gen.facts, Cert.NormBIdeal.Gen.facts, Cert.NormBRefIdeal.Gen.facts,
    Cert.ResB.Gen.facts, Cert.ResBIdeal.Gen.facts, Cert.ResBRefIdeal.Gen.facts,
    Cert.ResBiasB.Gen.facts, Cert.ResBiasBIdeal.Gen.facts, Cert.ResBiasBRefIdeal.Gen.facts,
    Cert.GluB.Gen.facts, Cert.GluBIdeal.Gen.facts, Cert.GluBRefIdeal.Gen.facts,
    Cert.LnB.Gen.facts, Cert.LnBIdeal.Gen.facts, Cert.LnBRefIdeal.Gen.facts,
    Cert.SpatialFwd.Gen.facts, Cert.SpatialFwdIdeal.Gen.facts, Cert.SpatialFwdRefIdeal.Gen.facts,
    Cert.Loss.Gen.facts, Cert.LossIdeal.Gen.facts, Cert.LossRefIdeal.Gen.facts,
    Spatial.frame_kernel, Spatial.frame_kernelIdeal, Spatial.frame_reference,
    fun m ρ _ => Cert.ConvIn0.Gen.frame m ρ, fun m ρ _ => Cert.ConvIn0Ideal.Gen.frame m ρ, ConvIn0Ideal.frame_reference,
    fun m ρ _ => Cert.ConvIn0Bx.Gen.frame m ρ, fun m ρ _ => Cert.ConvIn0BxIdeal.Gen.frame m ρ, ConvIn0BxIdeal.frame_reference,
    fun m ρ _ => Cert.ConvIn0Bw.Gen.frame m ρ, fun m ρ _ => Cert.ConvIn0BwIdeal.Gen.frame m ρ, ConvIn0BwIdeal.frame_reference,
    fun m ρ _ => Cert.ConvIn3.Gen.frame m ρ, fun m ρ _ => Cert.ConvIn3Ideal.Gen.frame m ρ, ConvIn3Ideal.frame_reference,
    fun m ρ _ => Cert.ConvIn3Bx.Gen.frame m ρ, fun m ρ _ => Cert.ConvIn3BxIdeal.Gen.frame m ρ, ConvIn3BxIdeal.frame_reference,
    fun m ρ _ => Cert.ConvIn3Bw.Gen.frame m ρ, fun m ρ _ => Cert.ConvIn3BwIdeal.Gen.frame m ρ, ConvIn3BwIdeal.frame_reference,
    fun m ρ _ => Cert.ConvOut0.Gen.frame m ρ, fun m ρ _ => Cert.ConvOut0Ideal.Gen.frame m ρ, ConvOut0Ideal.frame_reference,
    fun m ρ _ => Cert.ConvOut0Bx.Gen.frame m ρ, fun m ρ _ => Cert.ConvOut0BxIdeal.Gen.frame m ρ, ConvOut0BxIdeal.frame_reference,
    fun m ρ _ => Cert.ConvOut0Bw.Gen.frame m ρ, fun m ρ _ => Cert.ConvOut0BwIdeal.Gen.frame m ρ, ConvOut0BwIdeal.frame_reference,
    fun m ρ _ => Cert.ConvOut3.Gen.frame m ρ, fun m ρ _ => Cert.ConvOut3Ideal.Gen.frame m ρ, ConvOut3Ideal.frame_reference,
    fun m ρ _ => Cert.ConvOut3Bx.Gen.frame m ρ, fun m ρ _ => Cert.ConvOut3BxIdeal.Gen.frame m ρ, ConvOut3BxIdeal.frame_reference,
    fun m ρ _ => Cert.ConvOut3Bw.Gen.frame m ρ, fun m ρ _ => Cert.ConvOut3BwIdeal.Gen.frame m ρ, ConvOut3BwIdeal.frame_reference,
    fun m ρ _ => Cert.Qkv.Gen.frame m ρ, fun m ρ _ => Cert.QkvIdeal.Gen.frame m ρ, QkvIdeal.frame_reference,
    fun m ρ _ => Cert.QkvBx.Gen.frame m ρ, fun m ρ _ => Cert.QkvBxIdeal.Gen.frame m ρ, QkvBxIdeal.frame_reference,
    fun m ρ _ => Cert.QkvBw.Gen.frame m ρ, fun m ρ _ => Cert.QkvBwIdeal.Gen.frame m ρ, QkvBwIdeal.frame_reference,
    fun m ρ _ => Cert.GateIn.Gen.frame m ρ, fun m ρ _ => Cert.GateInIdeal.Gen.frame m ρ, GateInIdeal.frame_reference,
    fun m ρ _ => Cert.GateInBx.Gen.frame m ρ, fun m ρ _ => Cert.GateInBxIdeal.Gen.frame m ρ, GateInBxIdeal.frame_reference,
    fun m ρ _ => Cert.GateInBw.Gen.frame m ρ, fun m ρ _ => Cert.GateInBwIdeal.Gen.frame m ρ, GateInBwIdeal.frame_reference,
    fun m ρ _ => Cert.GateOut.Gen.frame m ρ, fun m ρ _ => Cert.GateOutIdeal.Gen.frame m ρ, GateOutIdeal.frame_reference,
    fun m ρ _ => Cert.GateOutBx.Gen.frame m ρ, fun m ρ _ => Cert.GateOutBxIdeal.Gen.frame m ρ, GateOutBxIdeal.frame_reference,
    fun m ρ _ => Cert.GateOutBw.Gen.frame m ρ, fun m ρ _ => Cert.GateOutBwIdeal.Gen.frame m ρ, GateOutBwIdeal.frame_reference,
    fun m ρ _ => Cert.FfnUp0Bx.Gen.frame m ρ, fun m ρ _ => Cert.FfnUp0BxIdeal.Gen.frame m ρ, FfnUp0BxIdeal.frame_reference,
    fun m ρ _ => Cert.FfnUp0Bw.Gen.frame m ρ, fun m ρ _ => Cert.FfnUp0BwIdeal.Gen.frame m ρ, FfnUp0BwIdeal.frame_reference,
    fun m ρ _ => Cert.FfnUpBx.Gen.frame m ρ, fun m ρ _ => Cert.FfnUpBxIdeal.Gen.frame m ρ, FfnUpBxIdeal.frame_reference,
    fun m ρ _ => Cert.FfnUpBw.Gen.frame m ρ, fun m ρ _ => Cert.FfnUpBwIdeal.Gen.frame m ρ, FfnUpBwIdeal.frame_reference,
    fun m ρ _ => Cert.AdamwSmall.Gen.frame m ρ, fun m ρ _ => Cert.AdamwSmallIdeal.Gen.frame m ρ, AdamwSmallIdeal.frame_reference,
    fun m ρ _ => Cert.AdamwRepl.Gen.frame m ρ, fun m ρ _ => Cert.AdamwReplIdeal.Gen.frame m ρ, AdamwReplIdeal.frame_reference,
    fun m ρ _ => Cert.AdamwAdaW.Gen.frame m ρ, fun m ρ _ => Cert.AdamwAdaWIdeal.Gen.frame m ρ, AdamwAdaWIdeal.frame_reference,
    fun m ρ _ => Cert.AdamwAdaB.Gen.frame m ρ, fun m ρ _ => Cert.AdamwAdaBIdeal.Gen.frame m ρ, AdamwAdaBIdeal.frame_reference,
    fun m ρ _ => Cert.AdamwFfnUp.Gen.frame m ρ, fun m ρ _ => Cert.AdamwFfnUpIdeal.Gen.frame m ρ, AdamwFfnUpIdeal.frame_reference,
    fun m ρ _ => Cert.AdamwFfnDown.Gen.frame m ρ, fun m ρ _ => Cert.AdamwFfnDownIdeal.Gen.frame m ρ, AdamwFfnDownIdeal.frame_reference,
    fun m ρ _ => Cert.AdamwConvIn.Gen.frame m ρ, fun m ρ _ => Cert.AdamwConvInIdeal.Gen.frame m ρ, AdamwConvInIdeal.frame_reference,
    fun m ρ _ => Cert.AdamwConvOut.Gen.frame m ρ, fun m ρ _ => Cert.AdamwConvOutIdeal.Gen.frame m ρ, AdamwConvOutIdeal.frame_reference,
    fun m ρ _ => Cert.AdamwQkv.Gen.frame m ρ, fun m ρ _ => Cert.AdamwQkvIdeal.Gen.frame m ρ, AdamwQkvIdeal.frame_reference,
    fun m ρ _ => Cert.AdamwAttnOut.Gen.frame m ρ, fun m ρ _ => Cert.AdamwAttnOutIdeal.Gen.frame m ρ, AdamwAttnOutIdeal.frame_reference,
    fun m ρ _ => Cert.AdamwGateIn.Gen.frame m ρ, fun m ρ _ => Cert.AdamwGateInIdeal.Gen.frame m ρ, AdamwGateInIdeal.frame_reference,
    fun m ρ _ => Cert.AdamwGateOut.Gen.frame m ρ, fun m ρ _ => Cert.AdamwGateOutIdeal.Gen.frame m ρ, AdamwGateOutIdeal.frame_reference,
    fun m ρ _ => Cert.NormB.Gen.frame m ρ, fun m ρ _ => Cert.NormBIdeal.Gen.frame m ρ, NormBRefIdeal.frame_reference,
    fun m ρ _ => Cert.ResB.Gen.frame m ρ, fun m ρ _ => Cert.ResBIdeal.Gen.frame m ρ, ResBRefIdeal.frame_reference,
    fun m ρ _ => Cert.ResBiasB.Gen.frame m ρ, fun m ρ _ => Cert.ResBiasBIdeal.Gen.frame m ρ, ResBiasBRefIdeal.frame_reference,
    fun m ρ _ => Cert.GluB.Gen.frame m ρ, fun m ρ _ => Cert.GluBIdeal.Gen.frame m ρ, GluBRefIdeal.frame_reference,
    fun m ρ _ => Cert.LnB.Gen.frame m ρ, fun m ρ _ => Cert.LnBIdeal.Gen.frame m ρ, LnBRefIdeal.frame_reference,
    fun m ρ _ => Cert.SpatialFwd.Gen.frame m ρ, fun m ρ _ => Cert.SpatialFwdIdeal.Gen.frame m ρ, SpatialFwdRefIdeal.frame_reference,
    fun m ρ _ => Cert.Loss.Gen.frame m ρ, fun m ρ _ => Cert.LossIdeal.Gen.frame m ρ, LossIdeal.frame_reference,
    trivial, Spatial.algebraic,
    trivial, ConvIn0Ideal.algebraic,
    trivial, ConvIn0BxIdeal.algebraic,
    trivial, ConvIn0BwIdeal.algebraic,
    trivial, ConvIn3Ideal.algebraic,
    trivial, ConvIn3BxIdeal.algebraic,
    trivial, ConvIn3BwIdeal.algebraic,
    trivial, ConvOut0Ideal.algebraic,
    trivial, ConvOut0BxIdeal.algebraic,
    trivial, ConvOut0BwIdeal.algebraic,
    trivial, ConvOut3Ideal.algebraic,
    trivial, ConvOut3BxIdeal.algebraic,
    trivial, ConvOut3BwIdeal.algebraic,
    trivial, QkvIdeal.algebraic,
    trivial, QkvBxIdeal.algebraic,
    trivial, QkvBwIdeal.algebraic,
    trivial, GateInIdeal.algebraic,
    trivial, GateInBxIdeal.algebraic,
    trivial, GateInBwIdeal.algebraic,
    trivial, GateOutIdeal.algebraic,
    trivial, GateOutBxIdeal.algebraic,
    trivial, GateOutBwIdeal.algebraic,
    trivial, FfnUp0BxIdeal.algebraic,
    trivial, FfnUp0BwIdeal.algebraic,
    trivial, FfnUpBxIdeal.algebraic,
    trivial, FfnUpBwIdeal.algebraic,
    AdamwSmallIdeal.preserves, AdamwSmallIdeal.algebraic,
    AdamwReplIdeal.preserves, AdamwReplIdeal.algebraic,
    AdamwAdaWIdeal.preserves, AdamwAdaWIdeal.algebraic,
    AdamwAdaBIdeal.preserves, AdamwAdaBIdeal.algebraic,
    AdamwFfnUpIdeal.preserves, AdamwFfnUpIdeal.algebraic,
    AdamwFfnDownIdeal.preserves, AdamwFfnDownIdeal.algebraic,
    AdamwConvInIdeal.preserves, AdamwConvInIdeal.algebraic,
    AdamwConvOutIdeal.preserves, AdamwConvOutIdeal.algebraic,
    AdamwQkvIdeal.preserves, AdamwQkvIdeal.algebraic,
    AdamwAttnOutIdeal.preserves, AdamwAttnOutIdeal.algebraic,
    AdamwGateInIdeal.preserves, AdamwGateInIdeal.algebraic,
    AdamwGateOutIdeal.preserves, AdamwGateOutIdeal.algebraic,
    trivial, NormBIdeal.algebraic,
    trivial, ResBIdeal.algebraic,
    trivial, ResBiasBIdeal.algebraic,
    trivial, GluBIdeal.algebraic,
    trivial, LnBIdeal.algebraic,
    trivial, SpatialFwdIdeal.algebraic,
    trivial, LossIdeal.algebraic⟩

end Cert.Proof

end
